-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_KernelWOut (m : (ℓ : Loc Cert.KernelWOut.nD Cert.KernelWOut.τ Cert.KernelWOut.sig) → Buf (Elt Bits) ℓ) : Prop :=
  True

def Pre_KernelWOutIdeal (m : (ℓ : Loc Cert.KernelWOutIdeal.nD Cert.KernelWOutIdeal.τ Cert.KernelWOutIdeal.sig) → Buf (Elt Ideal) ℓ) : Prop :=
  True

def Pre_ReferenceWOutIdeal (m : (ℓ : Loc Cert.ReferenceWOutIdeal.nD Cert.ReferenceWOutIdeal.τ Cert.ReferenceWOutIdeal.sig) → Buf (Elt Ideal) ℓ) : Prop :=
  True

def Pre_KernelWIn (m : (ℓ : Loc Cert.KernelWIn.nD Cert.KernelWIn.τ Cert.KernelWIn.sig) → Buf (Elt Bits) ℓ) : Prop :=
  True

def Pre_KernelWInIdeal (m : (ℓ : Loc Cert.KernelWInIdeal.nD Cert.KernelWInIdeal.τ Cert.KernelWInIdeal.sig) → Buf (Elt Ideal) ℓ) : Prop :=
  True

def Pre_ReferenceWInIdeal (m : (ℓ : Loc Cert.ReferenceWInIdeal.nD Cert.ReferenceWInIdeal.τ Cert.ReferenceWInIdeal.sig) → Buf (Elt Ideal) ℓ) : Prop :=
  True

def Pre_KernelProj (m : (ℓ : Loc Cert.KernelProj.nD Cert.KernelProj.τ Cert.KernelProj.sig) → Buf (Elt Bits) ℓ) : Prop :=
  True

def Pre_KernelProjIdeal (m : (ℓ : Loc Cert.KernelProjIdeal.nD Cert.KernelProjIdeal.τ Cert.KernelProjIdeal.sig) → Buf (Elt Ideal) ℓ) : Prop :=
  True

def Pre_KernelProjIdeal_finite_proj [hPre_finite_proj : Cert.Pre_finite_proj.Facts] (m : (ℓ : Loc Cert.KernelProjIdeal.nD Cert.KernelProjIdeal.τ Cert.KernelProjIdeal.sig) → Buf (Elt Ideal) ℓ) : Prop :=
  ∀ c : Dev Cert.KernelProjIdeal.nD,
    (Cert.Pre_finite_proj.fn (F := Ideal) (m ((c.tc : Thread Cert.KernelProjIdeal.nD Cert.KernelProjIdeal.τ).loc Cert.KernelProjIdeal.main_arg0)) (m ((c.tc : Thread Cert.KernelProjIdeal.nD Cert.KernelProjIdeal.τ).loc Cert.KernelProjIdeal.main_arg1)) (m ((c.tc : Thread Cert.KernelProjIdeal.nD Cert.KernelProjIdeal.τ).loc Cert.KernelProjIdeal.main_arg2)) (m ((c.tc : Thread Cert.KernelProjIdeal.nD Cert.KernelProjIdeal.τ).loc Cert.KernelProjIdeal.main_arg3)) (m ((c.tc : Thread Cert.KernelProjIdeal.nD Cert.KernelProjIdeal.τ).loc Cert.KernelProjIdeal.main_arg4)) (m ((c.tc : Thread Cert.KernelProjIdeal.nD Cert.KernelProjIdeal.τ).loc Cert.KernelProjIdeal.main_arg5)) (m ((c.tc : Thread Cert.KernelProjIdeal.nD Cert.KernelProjIdeal.τ).loc Cert.KernelProjIdeal.main_arg6)) (m ((c.tc : Thread Cert.KernelProjIdeal.nD Cert.KernelProjIdeal.τ).loc Cert.KernelProjIdeal.main_arg7)) (m ((c.tc : Thread Cert.KernelProjIdeal.nD Cert.KernelProjIdeal.τ).loc Cert.KernelProjIdeal.main_arg8))) = (fun _ => 1#1)

def Pre_ReferenceProjIdeal (m : (ℓ : Loc Cert.ReferenceProjIdeal.nD Cert.ReferenceProjIdeal.τ Cert.ReferenceProjIdeal.sig) → Buf (Elt Ideal) ℓ) : Prop :=
  True

def Pre_ReferenceProjIdeal_finite_proj [hPre_finite_proj : Cert.Pre_finite_proj.Facts] (m : (ℓ : Loc Cert.ReferenceProjIdeal.nD Cert.ReferenceProjIdeal.τ Cert.ReferenceProjIdeal.sig) → Buf (Elt Ideal) ℓ) : Prop :=
  ∀ c : Dev Cert.ReferenceProjIdeal.nD,
    (Cert.Pre_finite_proj.fn (F := Ideal) (m ((c.tc : Thread Cert.ReferenceProjIdeal.nD Cert.ReferenceProjIdeal.τ).loc Cert.ReferenceProjIdeal.main_arg0)) (m ((c.tc : Thread Cert.ReferenceProjIdeal.nD Cert.ReferenceProjIdeal.τ).loc Cert.ReferenceProjIdeal.main_arg1)) (m ((c.tc : Thread Cert.ReferenceProjIdeal.nD Cert.ReferenceProjIdeal.τ).loc Cert.ReferenceProjIdeal.main_arg2)) (m ((c.tc : Thread Cert.ReferenceProjIdeal.nD Cert.ReferenceProjIdeal.τ).loc Cert.ReferenceProjIdeal.main_arg3)) (m ((c.tc : Thread Cert.ReferenceProjIdeal.nD Cert.ReferenceProjIdeal.τ).loc Cert.ReferenceProjIdeal.main_arg4)) (m ((c.tc : Thread Cert.ReferenceProjIdeal.nD Cert.ReferenceProjIdeal.τ).loc Cert.ReferenceProjIdeal.main_arg5)) (m ((c.tc : Thread Cert.ReferenceProjIdeal.nD Cert.ReferenceProjIdeal.τ).loc Cert.ReferenceProjIdeal.main_arg6)) (m ((c.tc : Thread Cert.ReferenceProjIdeal.nD Cert.ReferenceProjIdeal.τ).loc Cert.ReferenceProjIdeal.main_arg7)) (m ((c.tc : Thread Cert.ReferenceProjIdeal.nD Cert.ReferenceProjIdeal.τ).loc Cert.ReferenceProjIdeal.main_arg8))) = (fun _ => 1#1)

def Pre_KernelFwd (m : (ℓ : Loc Cert.KernelFwd.nD Cert.KernelFwd.τ Cert.KernelFwd.sig) → Buf (Elt Bits) ℓ) : Prop :=
  True

def Pre_KernelFwdIdeal (m : (ℓ : Loc Cert.KernelFwdIdeal.nD Cert.KernelFwdIdeal.τ Cert.KernelFwdIdeal.sig) → Buf (Elt Ideal) ℓ) : Prop :=
  True

def Pre_ReferenceFwdIdeal (m : (ℓ : Loc Cert.ReferenceFwdIdeal.nD Cert.ReferenceFwdIdeal.τ Cert.ReferenceFwdIdeal.sig) → Buf (Elt Ideal) ℓ) : Prop :=
  True

def Pre_KernelAda (m : (ℓ : Loc Cert.KernelAda.nD Cert.KernelAda.τ Cert.KernelAda.sig) → Buf (Elt Bits) ℓ) : Prop :=
  True

def Pre_KernelAdaIdeal (m : (ℓ : Loc Cert.KernelAdaIdeal.nD Cert.KernelAdaIdeal.τ Cert.KernelAdaIdeal.sig) → Buf (Elt Ideal) ℓ) : Prop :=
  True

def Pre_ReferenceAdaIdeal (m : (ℓ : Loc Cert.ReferenceAdaIdeal.nD Cert.ReferenceAdaIdeal.τ Cert.ReferenceAdaIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_KernelWOut [hKernelWOut : Cert.KernelWOut.Facts] : Prop :=
  ∀ (m : (ℓ : Loc Cert.KernelWOut.nD Cert.KernelWOut.τ Cert.KernelWOut.sig) → Buf (Elt Bits) ℓ) (g : Dev Cert.KernelWOut.nD → PrngReg), Pre_KernelWOut m →
    θ_run (Cert.KernelWOut.defs (F := Bits)) (onTc (τ := Cert.KernelWOut.τ) (Cert.KernelWOut.main (F := Bits))) ⟨m, fun _ => 0, g⟩ (fun r => (∀ c : Dev Cert.KernelWOut.nD,
      r.2.mem ((c.tc : Thread Cert.KernelWOut.nD Cert.KernelWOut.τ).loc Cert.KernelWOut.main_arg0) = m ((c.tc : Thread Cert.KernelWOut.nD Cert.KernelWOut.τ).loc Cert.KernelWOut.main_arg0)
      ∧ r.2.mem ((c.tc : Thread Cert.KernelWOut.nD Cert.KernelWOut.τ).loc Cert.KernelWOut.main_arg1) = m ((c.tc : Thread Cert.KernelWOut.nD Cert.KernelWOut.τ).loc Cert.KernelWOut.main_arg1))
      ∧ r.2.sem = fun _ => 0)

def quiescent_KernelWOutIdeal [hKernelWOutIdeal : Cert.KernelWOutIdeal.Facts] : Prop :=
  ∀ (m : (ℓ : Loc Cert.KernelWOutIdeal.nD Cert.KernelWOutIdeal.τ Cert.KernelWOutIdeal.sig) → Buf (Elt Ideal) ℓ) (g : Dev Cert.KernelWOutIdeal.nD → PrngReg), Pre_KernelWOutIdeal m →
    θ_run (Cert.KernelWOutIdeal.defs (F := Ideal)) (onTc (τ := Cert.KernelWOutIdeal.τ) (Cert.KernelWOutIdeal.main (F := Ideal))) ⟨m, fun _ => 0, g⟩ (fun r => (∀ c : Dev Cert.KernelWOutIdeal.nD,
      r.2.mem ((c.tc : Thread Cert.KernelWOutIdeal.nD Cert.KernelWOutIdeal.τ).loc Cert.KernelWOutIdeal.main_arg0) = m ((c.tc : Thread Cert.KernelWOutIdeal.nD Cert.KernelWOutIdeal.τ).loc Cert.KernelWOutIdeal.main_arg0)
      ∧ r.2.mem ((c.tc : Thread Cert.KernelWOutIdeal.nD Cert.KernelWOutIdeal.τ).loc Cert.KernelWOutIdeal.main_arg1) = m ((c.tc : Thread Cert.KernelWOutIdeal.nD Cert.KernelWOutIdeal.τ).loc Cert.KernelWOutIdeal.main_arg1))
      ∧ r.2.sem = fun _ => 0)

def quiescent_ReferenceWOutIdeal [hReferenceWOutIdeal : Cert.ReferenceWOutIdeal.Facts] : Prop :=
  ∀ (m : (ℓ : Loc Cert.ReferenceWOutIdeal.nD Cert.ReferenceWOutIdeal.τ Cert.ReferenceWOutIdeal.sig) → Buf (Elt Ideal) ℓ) (g : Dev Cert.ReferenceWOutIdeal.nD → PrngReg), Pre_ReferenceWOutIdeal m →
    θ_run (Cert.ReferenceWOutIdeal.defs (F := Ideal)) (onTc (τ := Cert.ReferenceWOutIdeal.τ) (Cert.ReferenceWOutIdeal.main (F := Ideal))) ⟨m, fun _ => 0, g⟩ (fun r => (∀ c : Dev Cert.ReferenceWOutIdeal.nD,
      r.2.mem ((c.tc : Thread Cert.ReferenceWOutIdeal.nD Cert.ReferenceWOutIdeal.τ).loc Cert.ReferenceWOutIdeal.main_arg0) = m ((c.tc : Thread Cert.ReferenceWOutIdeal.nD Cert.ReferenceWOutIdeal.τ).loc Cert.ReferenceWOutIdeal.main_arg0)
      ∧ r.2.mem ((c.tc : Thread Cert.ReferenceWOutIdeal.nD Cert.ReferenceWOutIdeal.τ).loc Cert.ReferenceWOutIdeal.main_arg1) = m ((c.tc : Thread Cert.ReferenceWOutIdeal.nD Cert.ReferenceWOutIdeal.τ).loc Cert.ReferenceWOutIdeal.main_arg1))
      ∧ r.2.sem = fun _ => 0)

def quiescent_KernelWIn [hKernelWIn : Cert.KernelWIn.Facts] : Prop :=
  ∀ (m : (ℓ : Loc Cert.KernelWIn.nD Cert.KernelWIn.τ Cert.KernelWIn.sig) → Buf (Elt Bits) ℓ) (g : Dev Cert.KernelWIn.nD → PrngReg), Pre_KernelWIn m →
    θ_run (Cert.KernelWIn.defs (F := Bits)) (onTc (τ := Cert.KernelWIn.τ) (Cert.KernelWIn.main (F := Bits))) ⟨m, fun _ => 0, g⟩ (fun r => (∀ c : Dev Cert.KernelWIn.nD,
      r.2.mem ((c.tc : Thread Cert.KernelWIn.nD Cert.KernelWIn.τ).loc Cert.KernelWIn.main_arg0) = m ((c.tc : Thread Cert.KernelWIn.nD Cert.KernelWIn.τ).loc Cert.KernelWIn.main_arg0)
      ∧ r.2.mem ((c.tc : Thread Cert.KernelWIn.nD Cert.KernelWIn.τ).loc Cert.KernelWIn.main_arg1) = m ((c.tc : Thread Cert.KernelWIn.nD Cert.KernelWIn.τ).loc Cert.KernelWIn.main_arg1))
      ∧ r.2.sem = fun _ => 0)

def quiescent_KernelWInIdeal [hKernelWInIdeal : Cert.KernelWInIdeal.Facts] : Prop :=
  ∀ (m : (ℓ : Loc Cert.KernelWInIdeal.nD Cert.KernelWInIdeal.τ Cert.KernelWInIdeal.sig) → Buf (Elt Ideal) ℓ) (g : Dev Cert.KernelWInIdeal.nD → PrngReg), Pre_KernelWInIdeal m →
    θ_run (Cert.KernelWInIdeal.defs (F := Ideal)) (onTc (τ := Cert.KernelWInIdeal.τ) (Cert.KernelWInIdeal.main (F := Ideal))) ⟨m, fun _ => 0, g⟩ (fun r => (∀ c : Dev Cert.KernelWInIdeal.nD,
      r.2.mem ((c.tc : Thread Cert.KernelWInIdeal.nD Cert.KernelWInIdeal.τ).loc Cert.KernelWInIdeal.main_arg0) = m ((c.tc : Thread Cert.KernelWInIdeal.nD Cert.KernelWInIdeal.τ).loc Cert.KernelWInIdeal.main_arg0)
      ∧ r.2.mem ((c.tc : Thread Cert.KernelWInIdeal.nD Cert.KernelWInIdeal.τ).loc Cert.KernelWInIdeal.main_arg1) = m ((c.tc : Thread Cert.KernelWInIdeal.nD Cert.KernelWInIdeal.τ).loc Cert.KernelWInIdeal.main_arg1))
      ∧ r.2.sem = fun _ => 0)

def quiescent_ReferenceWInIdeal [hReferenceWInIdeal : Cert.ReferenceWInIdeal.Facts] : Prop :=
  ∀ (m : (ℓ : Loc Cert.ReferenceWInIdeal.nD Cert.ReferenceWInIdeal.τ Cert.ReferenceWInIdeal.sig) → Buf (Elt Ideal) ℓ) (g : Dev Cert.ReferenceWInIdeal.nD → PrngReg), Pre_ReferenceWInIdeal m →
    θ_run (Cert.ReferenceWInIdeal.defs (F := Ideal)) (onTc (τ := Cert.ReferenceWInIdeal.τ) (Cert.ReferenceWInIdeal.main (F := Ideal))) ⟨m, fun _ => 0, g⟩ (fun r => (∀ c : Dev Cert.ReferenceWInIdeal.nD,
      r.2.mem ((c.tc : Thread Cert.ReferenceWInIdeal.nD Cert.ReferenceWInIdeal.τ).loc Cert.ReferenceWInIdeal.main_arg0) = m ((c.tc : Thread Cert.ReferenceWInIdeal.nD Cert.ReferenceWInIdeal.τ).loc Cert.ReferenceWInIdeal.main_arg0)
      ∧ r.2.mem ((c.tc : Thread Cert.ReferenceWInIdeal.nD Cert.ReferenceWInIdeal.τ).loc Cert.ReferenceWInIdeal.main_arg1) = m ((c.tc : Thread Cert.ReferenceWInIdeal.nD Cert.ReferenceWInIdeal.τ).loc Cert.ReferenceWInIdeal.main_arg1))
      ∧ r.2.sem = fun _ => 0)

def quiescent_KernelProj [hKernelProj : Cert.KernelProj.Facts] : Prop :=
  ∀ (m : (ℓ : Loc Cert.KernelProj.nD Cert.KernelProj.τ Cert.KernelProj.sig) → Buf (Elt Bits) ℓ) (g : Dev Cert.KernelProj.nD → PrngReg), Pre_KernelProj m →
    θ_run (Cert.KernelProj.defs (F := Bits)) (onTc (τ := Cert.KernelProj.τ) (Cert.KernelProj.main (F := Bits))) ⟨m, fun _ => 0, g⟩ (fun r => (∀ c : Dev Cert.KernelProj.nD,
      r.2.mem ((c.tc : Thread Cert.KernelProj.nD Cert.KernelProj.τ).loc Cert.KernelProj.main_arg0) = m ((c.tc : Thread Cert.KernelProj.nD Cert.KernelProj.τ).loc Cert.KernelProj.main_arg0)
      ∧ r.2.mem ((c.tc : Thread Cert.KernelProj.nD Cert.KernelProj.τ).loc Cert.KernelProj.main_arg1) = m ((c.tc : Thread Cert.KernelProj.nD Cert.KernelProj.τ).loc Cert.KernelProj.main_arg1)
      ∧ r.2.mem ((c.tc : Thread Cert.KernelProj.nD Cert.KernelProj.τ).loc Cert.KernelProj.main_arg2) = m ((c.tc : Thread Cert.KernelProj.nD Cert.KernelProj.τ).loc Cert.KernelProj.main_arg2)
      ∧ r.2.mem ((c.tc : Thread Cert.KernelProj.nD Cert.KernelProj.τ).loc Cert.KernelProj.main_arg3) = m ((c.tc : Thread Cert.KernelProj.nD Cert.KernelProj.τ).loc Cert.KernelProj.main_arg3)
      ∧ r.2.mem ((c.tc : Thread Cert.KernelProj.nD Cert.KernelProj.τ).loc Cert.KernelProj.main_arg4) = m ((c.tc : Thread Cert.KernelProj.nD Cert.KernelProj.τ).loc Cert.KernelProj.main_arg4)
      ∧ r.2.mem ((c.tc : Thread Cert.KernelProj.nD Cert.KernelProj.τ).loc Cert.KernelProj.main_arg5) = m ((c.tc : Thread Cert.KernelProj.nD Cert.KernelProj.τ).loc Cert.KernelProj.main_arg5)
      ∧ r.2.mem ((c.tc : Thread Cert.KernelProj.nD Cert.KernelProj.τ).loc Cert.KernelProj.main_arg6) = m ((c.tc : Thread Cert.KernelProj.nD Cert.KernelProj.τ).loc Cert.KernelProj.main_arg6)
      ∧ r.2.mem ((c.tc : Thread Cert.KernelProj.nD Cert.KernelProj.τ).loc Cert.KernelProj.main_arg7) = m ((c.tc : Thread Cert.KernelProj.nD Cert.KernelProj.τ).loc Cert.KernelProj.main_arg7)
      ∧ r.2.mem ((c.tc : Thread Cert.KernelProj.nD Cert.KernelProj.τ).loc Cert.KernelProj.main_arg8) = m ((c.tc : Thread Cert.KernelProj.nD Cert.KernelProj.τ).loc Cert.KernelProj.main_arg8))
      ∧ r.2.sem = fun _ => 0)

def quiescent_KernelProjIdeal [hKernelProjIdeal : Cert.KernelProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg), Pre_KernelProjIdeal m →
    θ_run (Cert.KernelProjIdeal.defs (F := Ideal)) (onTc (τ := Cert.KernelProjIdeal.τ) (Cert.KernelProjIdeal.main (F := Ideal))) ⟨m, fun _ => 0, g⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
      ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
      ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3)
      ∧ r.2.mem ((c.tc : Thread Cert.KernelProjIdeal.nD Cert.KernelProjIdeal.τ).loc Cert.KernelProjIdeal.main_arg4) = m ((c.tc : Thread Cert.KernelProjIdeal.nD Cert.KernelProjIdeal.τ).loc Cert.KernelProjIdeal.main_arg4)
      ∧ r.2.mem ((c.tc : Thread Cert.KernelProjIdeal.nD Cert.KernelProjIdeal.τ).loc Cert.KernelProjIdeal.main_arg5) = m ((c.tc : Thread Cert.KernelProjIdeal.nD Cert.KernelProjIdeal.τ).loc Cert.KernelProjIdeal.main_arg5)
      ∧ r.2.mem ((c.tc : Thread Cert.KernelProjIdeal.nD Cert.KernelProjIdeal.τ).loc Cert.KernelProjIdeal.main_arg6) = m ((c.tc : Thread Cert.KernelProjIdeal.nD Cert.KernelProjIdeal.τ).loc Cert.KernelProjIdeal.main_arg6)
      ∧ r.2.mem ((c.tc : Thread Cert.KernelProjIdeal.nD Cert.KernelProjIdeal.τ).loc Cert.KernelProjIdeal.main_arg7) = m ((c.tc : Thread Cert.KernelProjIdeal.nD Cert.KernelProjIdeal.τ).loc Cert.KernelProjIdeal.main_arg7)
      ∧ r.2.mem ((c.tc : Thread Cert.KernelProjIdeal.nD Cert.KernelProjIdeal.τ).loc Cert.KernelProjIdeal.main_arg8) = m ((c.tc : Thread Cert.KernelProjIdeal.nD Cert.KernelProjIdeal.τ).loc Cert.KernelProjIdeal.main_arg8))
      ∧ r.2.sem = fun _ => 0)

def quiescent_KernelProjIdeal_pre_finite_proj [hKernelProjIdeal : Cert.KernelProjIdeal.Facts] [hPre_finite_proj : Cert.Pre_finite_proj.Facts] : Prop :=
  ∀ (m : (ℓ : Loc Cert.KernelProjIdeal.nD Cert.KernelProjIdeal.τ Cert.KernelProjIdeal.sig) → Buf (Elt Ideal) ℓ) (g : Dev Cert.KernelProjIdeal.nD → PrngReg), Pre_KernelProjIdeal_finite_proj m →
    θ_run (Cert.KernelProjIdeal.defs (F := Ideal)) (onTc (τ := Cert.KernelProjIdeal.τ) (Cert.KernelProjIdeal.main (F := Ideal))) ⟨m, fun _ => 0, g⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
      ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
      ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3)
      ∧ r.2.mem ((c.tc : Thread Cert.KernelProjIdeal.nD Cert.KernelProjIdeal.τ).loc Cert.KernelProjIdeal.main_arg4) = m ((c.tc : Thread Cert.KernelProjIdeal.nD Cert.KernelProjIdeal.τ).loc Cert.KernelProjIdeal.main_arg4)
      ∧ r.2.mem ((c.tc : Thread Cert.KernelProjIdeal.nD Cert.KernelProjIdeal.τ).loc Cert.KernelProjIdeal.main_arg5) = m ((c.tc : Thread Cert.KernelProjIdeal.nD Cert.KernelProjIdeal.τ).loc Cert.KernelProjIdeal.main_arg5)
      ∧ r.2.mem ((c.tc : Thread Cert.KernelProjIdeal.nD Cert.KernelProjIdeal.τ).loc Cert.KernelProjIdeal.main_arg6) = m ((c.tc : Thread Cert.KernelProjIdeal.nD Cert.KernelProjIdeal.τ).loc Cert.KernelProjIdeal.main_arg6)
      ∧ r.2.mem ((c.tc : Thread Cert.KernelProjIdeal.nD Cert.KernelProjIdeal.τ).loc Cert.KernelProjIdeal.main_arg7) = m ((c.tc : Thread Cert.KernelProjIdeal.nD Cert.KernelProjIdeal.τ).loc Cert.KernelProjIdeal.main_arg7)
      ∧ r.2.mem ((c.tc : Thread Cert.KernelProjIdeal.nD Cert.KernelProjIdeal.τ).loc Cert.KernelProjIdeal.main_arg8) = m ((c.tc : Thread Cert.KernelProjIdeal.nD Cert.KernelProjIdeal.τ).loc Cert.KernelProjIdeal.main_arg8))
      ∧ r.2.sem = fun _ => 0)

def quiescent_ReferenceProjIdeal [hReferenceProjIdeal : Cert.ReferenceProjIdeal.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1)
      ∧ r.2.mem ((c.tc : Thread Cert.ReferenceProjIdeal.nD Cert.ReferenceProjIdeal.τ).loc Cert.ReferenceProjIdeal.main_arg2) = m ((c.tc : Thread Cert.ReferenceProjIdeal.nD Cert.ReferenceProjIdeal.τ).loc Cert.ReferenceProjIdeal.main_arg2)
      ∧ r.2.mem ((c.tc : Thread Cert.ReferenceProjIdeal.nD Cert.ReferenceProjIdeal.τ).loc Cert.ReferenceProjIdeal.main_arg3) = m ((c.tc : Thread Cert.ReferenceProjIdeal.nD Cert.ReferenceProjIdeal.τ).loc Cert.ReferenceProjIdeal.main_arg3)
      ∧ r.2.mem ((c.tc : Thread Cert.ReferenceProjIdeal.nD Cert.ReferenceProjIdeal.τ).loc Cert.ReferenceProjIdeal.main_arg4) = m ((c.tc : Thread Cert.ReferenceProjIdeal.nD Cert.ReferenceProjIdeal.τ).loc Cert.ReferenceProjIdeal.main_arg4)
      ∧ r.2.mem ((c.tc : Thread Cert.ReferenceProjIdeal.nD Cert.ReferenceProjIdeal.τ).loc Cert.ReferenceProjIdeal.main_arg5) = m ((c.tc : Thread Cert.ReferenceProjIdeal.nD Cert.ReferenceProjIdeal.τ).loc Cert.ReferenceProjIdeal.main_arg5)
      ∧ r.2.mem ((c.tc : Thread Cert.ReferenceProjIdeal.nD Cert.ReferenceProjIdeal.τ).loc Cert.ReferenceProjIdeal.main_arg6) = m ((c.tc : Thread Cert.ReferenceProjIdeal.nD Cert.ReferenceProjIdeal.τ).loc Cert.ReferenceProjIdeal.main_arg6)
      ∧ r.2.mem ((c.tc : Thread Cert.ReferenceProjIdeal.nD Cert.ReferenceProjIdeal.τ).loc Cert.ReferenceProjIdeal.main_arg7) = m ((c.tc : Thread Cert.ReferenceProjIdeal.nD Cert.ReferenceProjIdeal.τ).loc Cert.ReferenceProjIdeal.main_arg7)
      ∧ r.2.mem ((c.tc : Thread Cert.ReferenceProjIdeal.nD Cert.ReferenceProjIdeal.τ).loc Cert.ReferenceProjIdeal.main_arg8) = m ((c.tc : Thread Cert.ReferenceProjIdeal.nD Cert.ReferenceProjIdeal.τ).loc Cert.ReferenceProjIdeal.main_arg8))
      ∧ r.2.sem = fun _ => 0)

def quiescent_ReferenceProjIdeal_pre_finite_proj [hReferenceProjIdeal : Cert.ReferenceProjIdeal.Facts] [hPre_finite_proj : Cert.Pre_finite_proj.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal_finite_proj m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1)
      ∧ r.2.mem ((c.tc : Thread Cert.ReferenceProjIdeal.nD Cert.ReferenceProjIdeal.τ).loc Cert.ReferenceProjIdeal.main_arg2) = m ((c.tc : Thread Cert.ReferenceProjIdeal.nD Cert.ReferenceProjIdeal.τ).loc Cert.ReferenceProjIdeal.main_arg2)
      ∧ r.2.mem ((c.tc : Thread Cert.ReferenceProjIdeal.nD Cert.ReferenceProjIdeal.τ).loc Cert.ReferenceProjIdeal.main_arg3) = m ((c.tc : Thread Cert.ReferenceProjIdeal.nD Cert.ReferenceProjIdeal.τ).loc Cert.ReferenceProjIdeal.main_arg3)
      ∧ r.2.mem ((c.tc : Thread Cert.ReferenceProjIdeal.nD Cert.ReferenceProjIdeal.τ).loc Cert.ReferenceProjIdeal.main_arg4) = m ((c.tc : Thread Cert.ReferenceProjIdeal.nD Cert.ReferenceProjIdeal.τ).loc Cert.ReferenceProjIdeal.main_arg4)
      ∧ r.2.mem ((c.tc : Thread Cert.ReferenceProjIdeal.nD Cert.ReferenceProjIdeal.τ).loc Cert.ReferenceProjIdeal.main_arg5) = m ((c.tc : Thread Cert.ReferenceProjIdeal.nD Cert.ReferenceProjIdeal.τ).loc Cert.ReferenceProjIdeal.main_arg5)
      ∧ r.2.mem ((c.tc : Thread Cert.ReferenceProjIdeal.nD Cert.ReferenceProjIdeal.τ).loc Cert.ReferenceProjIdeal.main_arg6) = m ((c.tc : Thread Cert.ReferenceProjIdeal.nD Cert.ReferenceProjIdeal.τ).loc Cert.ReferenceProjIdeal.main_arg6)
      ∧ r.2.mem ((c.tc : Thread Cert.ReferenceProjIdeal.nD Cert.ReferenceProjIdeal.τ).loc Cert.ReferenceProjIdeal.main_arg7) = m ((c.tc : Thread Cert.ReferenceProjIdeal.nD Cert.ReferenceProjIdeal.τ).loc Cert.ReferenceProjIdeal.main_arg7)
      ∧ r.2.mem ((c.tc : Thread Cert.ReferenceProjIdeal.nD Cert.ReferenceProjIdeal.τ).loc Cert.ReferenceProjIdeal.main_arg8) = m ((c.tc : Thread Cert.ReferenceProjIdeal.nD Cert.ReferenceProjIdeal.τ).loc Cert.ReferenceProjIdeal.main_arg8))
      ∧ r.2.sem = fun _ => 0)

def quiescent_KernelFwd [hKernelFwd : Cert.KernelFwd.Facts] : Prop :=
  ∀ (m : (ℓ : Loc Cert.KernelFwd.nD Cert.KernelFwd.τ Cert.KernelFwd.sig) → Buf (Elt Bits) ℓ) (g : Dev Cert.KernelFwd.nD → PrngReg), Pre_KernelFwd m →
    θ_run (Cert.KernelFwd.defs (F := Bits)) (onTc (τ := Cert.KernelFwd.τ) (Cert.KernelFwd.main (F := Bits))) ⟨m, fun _ => 0, g⟩ (fun r => (∀ c : Dev Cert.KernelFwd.nD,
      r.2.mem ((c.tc : Thread Cert.KernelFwd.nD Cert.KernelFwd.τ).loc Cert.KernelFwd.main_arg0) = m ((c.tc : Thread Cert.KernelFwd.nD Cert.KernelFwd.τ).loc Cert.KernelFwd.main_arg0)
      ∧ r.2.mem ((c.tc : Thread Cert.KernelFwd.nD Cert.KernelFwd.τ).loc Cert.KernelFwd.main_arg1) = m ((c.tc : Thread Cert.KernelFwd.nD Cert.KernelFwd.τ).loc Cert.KernelFwd.main_arg1)
      ∧ r.2.mem ((c.tc : Thread Cert.KernelFwd.nD Cert.KernelFwd.τ).loc Cert.KernelFwd.main_arg2) = m ((c.tc : Thread Cert.KernelFwd.nD Cert.KernelFwd.τ).loc Cert.KernelFwd.main_arg2)
      ∧ r.2.mem ((c.tc : Thread Cert.KernelFwd.nD Cert.KernelFwd.τ).loc Cert.KernelFwd.main_arg3) = m ((c.tc : Thread Cert.KernelFwd.nD Cert.KernelFwd.τ).loc Cert.KernelFwd.main_arg3)
      ∧ r.2.mem ((c.tc : Thread Cert.KernelFwd.nD Cert.KernelFwd.τ).loc Cert.KernelFwd.main_arg4) = m ((c.tc : Thread Cert.KernelFwd.nD Cert.KernelFwd.τ).loc Cert.KernelFwd.main_arg4))
      ∧ r.2.sem = fun _ => 0)

def quiescent_KernelFwdIdeal [hKernelFwdIdeal : Cert.KernelFwdIdeal.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg), Pre_KernelFwdIdeal m →
    θ_run (Cert.KernelFwdIdeal.defs (F := Ideal)) (onTc (τ := Cert.KernelFwdIdeal.τ) (Cert.KernelFwdIdeal.main (F := Ideal))) ⟨m, fun _ => 0, g⟩ (fun r => (∀ c : Dev Cert.KernelFwdIdeal.nD,
      r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
      ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
      ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2)
      ∧ r.2.mem ((c.tc : Thread Cert.KernelFwdIdeal.nD Cert.KernelFwdIdeal.τ).loc Cert.KernelFwdIdeal.main_arg3) = m ((c.tc : Thread Cert.KernelFwdIdeal.nD Cert.KernelFwdIdeal.τ).loc Cert.KernelFwdIdeal.main_arg3)
      ∧ r.2.mem ((c.tc : Thread Cert.KernelFwdIdeal.nD Cert.KernelFwdIdeal.τ).loc Cert.KernelFwdIdeal.main_arg4) = m ((c.tc : Thread Cert.KernelFwdIdeal.nD Cert.KernelFwdIdeal.τ).loc Cert.KernelFwdIdeal.main_arg4))
      ∧ r.2.sem = fun _ => 0)

def quiescent_ReferenceFwdIdeal [hReferenceFwdIdeal : Cert.ReferenceFwdIdeal.Facts] : Prop :=
  ∀ (m : (ℓ : Loc Cert.ReferenceFwdIdeal.nD Cert.ReferenceFwdIdeal.τ Cert.ReferenceFwdIdeal.sig) → Buf (Elt Ideal) ℓ) (g : Dev Cert.ReferenceFwdIdeal.nD → PrngReg), Pre_ReferenceFwdIdeal m →
    θ_run (Cert.ReferenceFwdIdeal.defs (F := Ideal)) (onTc (τ := Cert.ReferenceFwdIdeal.τ) (Cert.ReferenceFwdIdeal.main (F := Ideal))) ⟨m, fun _ => 0, g⟩ (fun r => (∀ c : Dev Cert.ReferenceFwdIdeal.nD,
      r.2.mem ((c.tc : Thread Cert.ReferenceFwdIdeal.nD Cert.ReferenceFwdIdeal.τ).loc Cert.ReferenceFwdIdeal.main_arg0) = m ((c.tc : Thread Cert.ReferenceFwdIdeal.nD Cert.ReferenceFwdIdeal.τ).loc Cert.ReferenceFwdIdeal.main_arg0)
      ∧ r.2.mem ((c.tc : Thread Cert.ReferenceFwdIdeal.nD Cert.ReferenceFwdIdeal.τ).loc Cert.ReferenceFwdIdeal.main_arg1) = m ((c.tc : Thread Cert.ReferenceFwdIdeal.nD Cert.ReferenceFwdIdeal.τ).loc Cert.ReferenceFwdIdeal.main_arg1)
      ∧ r.2.mem ((c.tc : Thread Cert.ReferenceFwdIdeal.nD Cert.ReferenceFwdIdeal.τ).loc Cert.ReferenceFwdIdeal.main_arg2) = m ((c.tc : Thread Cert.ReferenceFwdIdeal.nD Cert.ReferenceFwdIdeal.τ).loc Cert.ReferenceFwdIdeal.main_arg2)
      ∧ r.2.mem ((c.tc : Thread Cert.ReferenceFwdIdeal.nD Cert.ReferenceFwdIdeal.τ).loc Cert.ReferenceFwdIdeal.main_arg3) = m ((c.tc : Thread Cert.ReferenceFwdIdeal.nD Cert.ReferenceFwdIdeal.τ).loc Cert.ReferenceFwdIdeal.main_arg3)
      ∧ r.2.mem ((c.tc : Thread Cert.ReferenceFwdIdeal.nD Cert.ReferenceFwdIdeal.τ).loc Cert.ReferenceFwdIdeal.main_arg4) = m ((c.tc : Thread Cert.ReferenceFwdIdeal.nD Cert.ReferenceFwdIdeal.τ).loc Cert.ReferenceFwdIdeal.main_arg4))
      ∧ r.2.sem = fun _ => 0)

def quiescent_KernelAda [hKernelAda : Cert.KernelAda.Facts] : Prop :=
  ∀ (m : (ℓ : Loc Cert.KernelAda.nD Cert.KernelAda.τ Cert.KernelAda.sig) → Buf (Elt Bits) ℓ) (g : Dev Cert.KernelAda.nD → PrngReg), Pre_KernelAda m →
    θ_run (Cert.KernelAda.defs (F := Bits)) (onTc (τ := Cert.KernelAda.τ) (Cert.KernelAda.main (F := Bits))) ⟨m, fun _ => 0, g⟩ (fun r => (∀ c : Dev Cert.KernelAda.nD,
      r.2.mem ((c.tc : Thread Cert.KernelAda.nD Cert.KernelAda.τ).loc Cert.KernelAda.main_arg0) = m ((c.tc : Thread Cert.KernelAda.nD Cert.KernelAda.τ).loc Cert.KernelAda.main_arg0)
      ∧ r.2.mem ((c.tc : Thread Cert.KernelAda.nD Cert.KernelAda.τ).loc Cert.KernelAda.main_arg1) = m ((c.tc : Thread Cert.KernelAda.nD Cert.KernelAda.τ).loc Cert.KernelAda.main_arg1)
      ∧ r.2.mem ((c.tc : Thread Cert.KernelAda.nD Cert.KernelAda.τ).loc Cert.KernelAda.main_arg2) = m ((c.tc : Thread Cert.KernelAda.nD Cert.KernelAda.τ).loc Cert.KernelAda.main_arg2)
      ∧ r.2.mem ((c.tc : Thread Cert.KernelAda.nD Cert.KernelAda.τ).loc Cert.KernelAda.main_arg3) = m ((c.tc : Thread Cert.KernelAda.nD Cert.KernelAda.τ).loc Cert.KernelAda.main_arg3)
      ∧ r.2.mem ((c.tc : Thread Cert.KernelAda.nD Cert.KernelAda.τ).loc Cert.KernelAda.main_arg4) = m ((c.tc : Thread Cert.KernelAda.nD Cert.KernelAda.τ).loc Cert.KernelAda.main_arg4)
      ∧ r.2.mem ((c.tc : Thread Cert.KernelAda.nD Cert.KernelAda.τ).loc Cert.KernelAda.main_arg5) = m ((c.tc : Thread Cert.KernelAda.nD Cert.KernelAda.τ).loc Cert.KernelAda.main_arg5))
      ∧ r.2.sem = fun _ => 0)

def quiescent_KernelAdaIdeal [hKernelAdaIdeal : Cert.KernelAdaIdeal.Facts] : Prop :=
  ∀ (m : (ℓ : Loc Cert.KernelAdaIdeal.nD Cert.KernelAdaIdeal.τ Cert.KernelAdaIdeal.sig) → Buf (Elt Ideal) ℓ) (g : Dev Cert.KernelAdaIdeal.nD → PrngReg), Pre_KernelAdaIdeal m →
    θ_run (Cert.KernelAdaIdeal.defs (F := Ideal)) (onTc (τ := Cert.KernelAdaIdeal.τ) (Cert.KernelAdaIdeal.main (F := Ideal))) ⟨m, fun _ => 0, g⟩ (fun r => (∀ c : Dev Cert.KernelAdaIdeal.nD,
      r.2.mem ((c.tc : Thread Cert.KernelAdaIdeal.nD Cert.KernelAdaIdeal.τ).loc Cert.KernelAdaIdeal.main_arg0) = m ((c.tc : Thread Cert.KernelAdaIdeal.nD Cert.KernelAdaIdeal.τ).loc Cert.KernelAdaIdeal.main_arg0)
      ∧ r.2.mem ((c.tc : Thread Cert.KernelAdaIdeal.nD Cert.KernelAdaIdeal.τ).loc Cert.KernelAdaIdeal.main_arg1) = m ((c.tc : Thread Cert.KernelAdaIdeal.nD Cert.KernelAdaIdeal.τ).loc Cert.KernelAdaIdeal.main_arg1)
      ∧ r.2.mem ((c.tc : Thread Cert.KernelAdaIdeal.nD Cert.KernelAdaIdeal.τ).loc Cert.KernelAdaIdeal.main_arg2) = m ((c.tc : Thread Cert.KernelAdaIdeal.nD Cert.KernelAdaIdeal.τ).loc Cert.KernelAdaIdeal.main_arg2)
      ∧ r.2.mem ((c.tc : Thread Cert.KernelAdaIdeal.nD Cert.KernelAdaIdeal.τ).loc Cert.KernelAdaIdeal.main_arg3) = m ((c.tc : Thread Cert.KernelAdaIdeal.nD Cert.KernelAdaIdeal.τ).loc Cert.KernelAdaIdeal.main_arg3)
      ∧ r.2.mem ((c.tc : Thread Cert.KernelAdaIdeal.nD Cert.KernelAdaIdeal.τ).loc Cert.KernelAdaIdeal.main_arg4) = m ((c.tc : Thread Cert.KernelAdaIdeal.nD Cert.KernelAdaIdeal.τ).loc Cert.KernelAdaIdeal.main_arg4)
      ∧ r.2.mem ((c.tc : Thread Cert.KernelAdaIdeal.nD Cert.KernelAdaIdeal.τ).loc Cert.KernelAdaIdeal.main_arg5) = m ((c.tc : Thread Cert.KernelAdaIdeal.nD Cert.KernelAdaIdeal.τ).loc Cert.KernelAdaIdeal.main_arg5))
      ∧ r.2.sem = fun _ => 0)

def quiescent_ReferenceAdaIdeal [hReferenceAdaIdeal : Cert.ReferenceAdaIdeal.Facts] : Prop :=
  ∀ (m : (ℓ : Loc Cert.ReferenceAdaIdeal.nD Cert.ReferenceAdaIdeal.τ Cert.ReferenceAdaIdeal.sig) → Buf (Elt Ideal) ℓ) (g : Dev Cert.ReferenceAdaIdeal.nD → PrngReg), Pre_ReferenceAdaIdeal m →
    θ_run (Cert.ReferenceAdaIdeal.defs (F := Ideal)) (onTc (τ := Cert.ReferenceAdaIdeal.τ) (Cert.ReferenceAdaIdeal.main (F := Ideal))) ⟨m, fun _ => 0, g⟩ (fun r => (∀ c : Dev Cert.ReferenceAdaIdeal.nD,
      r.2.mem ((c.tc : Thread Cert.ReferenceAdaIdeal.nD Cert.ReferenceAdaIdeal.τ).loc Cert.ReferenceAdaIdeal.main_arg0) = m ((c.tc : Thread Cert.ReferenceAdaIdeal.nD Cert.ReferenceAdaIdeal.τ).loc Cert.ReferenceAdaIdeal.main_arg0)
      ∧ r.2.mem ((c.tc : Thread Cert.ReferenceAdaIdeal.nD Cert.ReferenceAdaIdeal.τ).loc Cert.ReferenceAdaIdeal.main_arg1) = m ((c.tc : Thread Cert.ReferenceAdaIdeal.nD Cert.ReferenceAdaIdeal.τ).loc Cert.ReferenceAdaIdeal.main_arg1)
      ∧ r.2.mem ((c.tc : Thread Cert.ReferenceAdaIdeal.nD Cert.ReferenceAdaIdeal.τ).loc Cert.ReferenceAdaIdeal.main_arg2) = m ((c.tc : Thread Cert.ReferenceAdaIdeal.nD Cert.ReferenceAdaIdeal.τ).loc Cert.ReferenceAdaIdeal.main_arg2)
      ∧ r.2.mem ((c.tc : Thread Cert.ReferenceAdaIdeal.nD Cert.ReferenceAdaIdeal.τ).loc Cert.ReferenceAdaIdeal.main_arg3) = m ((c.tc : Thread Cert.ReferenceAdaIdeal.nD Cert.ReferenceAdaIdeal.τ).loc Cert.ReferenceAdaIdeal.main_arg3)
      ∧ r.2.mem ((c.tc : Thread Cert.ReferenceAdaIdeal.nD Cert.ReferenceAdaIdeal.τ).loc Cert.ReferenceAdaIdeal.main_arg4) = m ((c.tc : Thread Cert.ReferenceAdaIdeal.nD Cert.ReferenceAdaIdeal.τ).loc Cert.ReferenceAdaIdeal.main_arg4)
      ∧ r.2.mem ((c.tc : Thread Cert.ReferenceAdaIdeal.nD Cert.ReferenceAdaIdeal.τ).loc Cert.ReferenceAdaIdeal.main_arg5) = m ((c.tc : Thread Cert.ReferenceAdaIdeal.nD Cert.ReferenceAdaIdeal.τ).loc Cert.ReferenceAdaIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v7_3)) (v4 : (c : Dev Cert.KernelIdeal.nD) → Buf (Elt Ideal) ((c.tc : Thread Cert.KernelIdeal.nD Cert.KernelIdeal.τ).loc Cert.KernelIdeal.main_v7_4)) (v5 : (c : Dev Cert.KernelIdeal.nD) → Buf (Elt Ideal) ((c.tc : Thread Cert.KernelIdeal.nD Cert.KernelIdeal.τ).loc Cert.KernelIdeal.main_v7_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_v7_3) = v3 c
          ∧ r.2.mem ((c.tc : Thread Cert.KernelIdeal.nD Cert.KernelIdeal.τ).loc Cert.KernelIdeal.main_v7_4) = v4 c
          ∧ r.2.mem ((c.tc : Thread Cert.KernelIdeal.nD Cert.KernelIdeal.τ).loc Cert.KernelIdeal.main_v7_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v256) = v0 c
          ∧ r.2.mem ((c.tc : Thread Cert.ReferenceIdeal.nD Cert.ReferenceIdeal.τ).loc Cert.ReferenceIdeal.main_v257) = v1 c
          ∧ r.2.mem ((c.tc : Thread Cert.ReferenceIdeal.nD Cert.ReferenceIdeal.τ).loc Cert.ReferenceIdeal.main_v258) = v2 c
          ∧ r.2.mem ((c.tc : Thread Cert.ReferenceIdeal.nD Cert.ReferenceIdeal.τ).loc Cert.ReferenceIdeal.main_v259) = v3 c
          ∧ r.2.mem ((c.tc : Thread Cert.ReferenceIdeal.nD Cert.ReferenceIdeal.τ).loc Cert.ReferenceIdeal.main_v248) = v4 c
          ∧ r.2.mem ((c.tc : Thread Cert.ReferenceIdeal.nD Cert.ReferenceIdeal.τ).loc Cert.ReferenceIdeal.main_v276) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_KernelWOut_KernelWOutIdeal : Prop :=
  True

def algebraic_KernelWOutIdeal_ReferenceWOutIdeal [hKernelWOutIdeal : Cert.KernelWOutIdeal.Facts] [hReferenceWOutIdeal : Cert.ReferenceWOutIdeal.Facts] : Prop :=
  ∀ (m : (ℓ : Loc Cert.KernelWOutIdeal.nD Cert.KernelWOutIdeal.τ Cert.KernelWOutIdeal.sig) → Buf (Elt Ideal) ℓ) (g : Dev Cert.KernelWOutIdeal.nD → PrngReg)
    (m' : (ℓ : Loc Cert.ReferenceWOutIdeal.nD Cert.ReferenceWOutIdeal.τ Cert.ReferenceWOutIdeal.sig) → Buf (Elt Ideal) ℓ) (g' : Dev Cert.ReferenceWOutIdeal.nD → PrngReg), Pre_KernelWOutIdeal m →
    (∀ c : Dev Cert.KernelWOutIdeal.nD,
      m' ((c.tc : Thread Cert.ReferenceWOutIdeal.nD Cert.ReferenceWOutIdeal.τ).loc Cert.ReferenceWOutIdeal.main_arg0) = m ((c.tc : Thread Cert.KernelWOutIdeal.nD Cert.KernelWOutIdeal.τ).loc Cert.KernelWOutIdeal.main_arg0)
      ∧ m' ((c.tc : Thread Cert.ReferenceWOutIdeal.nD Cert.ReferenceWOutIdeal.τ).loc Cert.ReferenceWOutIdeal.main_arg1) = m ((c.tc : Thread Cert.KernelWOutIdeal.nD Cert.KernelWOutIdeal.τ).loc Cert.KernelWOutIdeal.main_arg1)) →
    ∃ (v0 : (c : Dev Cert.KernelWOutIdeal.nD) → Buf (Elt Ideal) ((c.tc : Thread Cert.KernelWOutIdeal.nD Cert.KernelWOutIdeal.τ).loc Cert.KernelWOutIdeal.main_v0)),
      θ_run (Cert.KernelWOutIdeal.defs (F := Ideal)) (onTc (τ := Cert.KernelWOutIdeal.τ) (Cert.KernelWOutIdeal.main (F := Ideal))) ⟨m, fun _ => 0, g⟩ (fun r => ∀ c : Dev Cert.KernelWOutIdeal.nD,
          r.2.mem ((c.tc : Thread Cert.KernelWOutIdeal.nD Cert.KernelWOutIdeal.τ).loc Cert.KernelWOutIdeal.main_v0) = v0 c
          ∧ r.2.mem ((c.tc : Thread Cert.KernelWOutIdeal.nD Cert.KernelWOutIdeal.τ).loc Cert.KernelWOutIdeal.main_arg0) = m ((c.tc : Thread Cert.KernelWOutIdeal.nD Cert.KernelWOutIdeal.τ).loc Cert.KernelWOutIdeal.main_arg0)
          ∧ r.2.mem ((c.tc : Thread Cert.KernelWOutIdeal.nD Cert.KernelWOutIdeal.τ).loc Cert.KernelWOutIdeal.main_arg1) = m ((c.tc : Thread Cert.KernelWOutIdeal.nD Cert.KernelWOutIdeal.τ).loc Cert.KernelWOutIdeal.main_arg1))
      ∧ θ_run (Cert.ReferenceWOutIdeal.defs (F := Ideal)) (onTc (τ := Cert.ReferenceWOutIdeal.τ) (Cert.ReferenceWOutIdeal.main (F := Ideal))) ⟨m', fun _ => 0, g'⟩ (fun r => ∀ c : Dev Cert.ReferenceWOutIdeal.nD,
          r.2.mem ((c.tc : Thread Cert.ReferenceWOutIdeal.nD Cert.ReferenceWOutIdeal.τ).loc Cert.ReferenceWOutIdeal.main_v6) = v0 c
          ∧ r.2.mem ((c.tc : Thread Cert.ReferenceWOutIdeal.nD Cert.ReferenceWOutIdeal.τ).loc Cert.ReferenceWOutIdeal.main_arg0) = m' ((c.tc : Thread Cert.ReferenceWOutIdeal.nD Cert.ReferenceWOutIdeal.τ).loc Cert.ReferenceWOutIdeal.main_arg0)
          ∧ r.2.mem ((c.tc : Thread Cert.ReferenceWOutIdeal.nD Cert.ReferenceWOutIdeal.τ).loc Cert.ReferenceWOutIdeal.main_arg1) = m' ((c.tc : Thread Cert.ReferenceWOutIdeal.nD Cert.ReferenceWOutIdeal.τ).loc Cert.ReferenceWOutIdeal.main_arg1))

def preserves_KernelWIn_KernelWInIdeal : Prop :=
  True

def algebraic_KernelWInIdeal_ReferenceWInIdeal [hKernelWInIdeal : Cert.KernelWInIdeal.Facts] [hReferenceWInIdeal : Cert.ReferenceWInIdeal.Facts] : Prop :=
  ∀ (m : (ℓ : Loc Cert.KernelWInIdeal.nD Cert.KernelWInIdeal.τ Cert.KernelWInIdeal.sig) → Buf (Elt Ideal) ℓ) (g : Dev Cert.KernelWInIdeal.nD → PrngReg)
    (m' : (ℓ : Loc Cert.ReferenceWInIdeal.nD Cert.ReferenceWInIdeal.τ Cert.ReferenceWInIdeal.sig) → Buf (Elt Ideal) ℓ) (g' : Dev Cert.ReferenceWInIdeal.nD → PrngReg), Pre_KernelWInIdeal m →
    (∀ c : Dev Cert.KernelWInIdeal.nD,
      m' ((c.tc : Thread Cert.ReferenceWInIdeal.nD Cert.ReferenceWInIdeal.τ).loc Cert.ReferenceWInIdeal.main_arg0) = m ((c.tc : Thread Cert.KernelWInIdeal.nD Cert.KernelWInIdeal.τ).loc Cert.KernelWInIdeal.main_arg0)
      ∧ m' ((c.tc : Thread Cert.ReferenceWInIdeal.nD Cert.ReferenceWInIdeal.τ).loc Cert.ReferenceWInIdeal.main_arg1) = m ((c.tc : Thread Cert.KernelWInIdeal.nD Cert.KernelWInIdeal.τ).loc Cert.KernelWInIdeal.main_arg1)) →
    ∃ (v0 : (c : Dev Cert.KernelWInIdeal.nD) → Buf (Elt Ideal) ((c.tc : Thread Cert.KernelWInIdeal.nD Cert.KernelWInIdeal.τ).loc Cert.KernelWInIdeal.main_v0)),
      θ_run (Cert.KernelWInIdeal.defs (F := Ideal)) (onTc (τ := Cert.KernelWInIdeal.τ) (Cert.KernelWInIdeal.main (F := Ideal))) ⟨m, fun _ => 0, g⟩ (fun r => ∀ c : Dev Cert.KernelWInIdeal.nD,
          r.2.mem ((c.tc : Thread Cert.KernelWInIdeal.nD Cert.KernelWInIdeal.τ).loc Cert.KernelWInIdeal.main_v0) = v0 c
          ∧ r.2.mem ((c.tc : Thread Cert.KernelWInIdeal.nD Cert.KernelWInIdeal.τ).loc Cert.KernelWInIdeal.main_arg0) = m ((c.tc : Thread Cert.KernelWInIdeal.nD Cert.KernelWInIdeal.τ).loc Cert.KernelWInIdeal.main_arg0)
          ∧ r.2.mem ((c.tc : Thread Cert.KernelWInIdeal.nD Cert.KernelWInIdeal.τ).loc Cert.KernelWInIdeal.main_arg1) = m ((c.tc : Thread Cert.KernelWInIdeal.nD Cert.KernelWInIdeal.τ).loc Cert.KernelWInIdeal.main_arg1))
      ∧ θ_run (Cert.ReferenceWInIdeal.defs (F := Ideal)) (onTc (τ := Cert.ReferenceWInIdeal.τ) (Cert.ReferenceWInIdeal.main (F := Ideal))) ⟨m', fun _ => 0, g'⟩ (fun r => ∀ c : Dev Cert.ReferenceWInIdeal.nD,
          r.2.mem ((c.tc : Thread Cert.ReferenceWInIdeal.nD Cert.ReferenceWInIdeal.τ).loc Cert.ReferenceWInIdeal.main_v8) = v0 c
          ∧ r.2.mem ((c.tc : Thread Cert.ReferenceWInIdeal.nD Cert.ReferenceWInIdeal.τ).loc Cert.ReferenceWInIdeal.main_arg0) = m' ((c.tc : Thread Cert.ReferenceWInIdeal.nD Cert.ReferenceWInIdeal.τ).loc Cert.ReferenceWInIdeal.main_arg0)
          ∧ r.2.mem ((c.tc : Thread Cert.ReferenceWInIdeal.nD Cert.ReferenceWInIdeal.τ).loc Cert.ReferenceWInIdeal.main_arg1) = m' ((c.tc : Thread Cert.ReferenceWInIdeal.nD Cert.ReferenceWInIdeal.τ).loc Cert.ReferenceWInIdeal.main_arg1))

def preserves_KernelProj_KernelProjIdeal : Prop :=
  True

def algebraic_KernelProjIdeal_ReferenceProjIdeal_pre_finite_proj [hKernelProjIdeal : Cert.KernelProjIdeal.Facts] [hReferenceProjIdeal : Cert.ReferenceProjIdeal.Facts] [hPre_finite_proj : Cert.Pre_finite_proj.Facts] : Prop :=
  ∀ (m : (ℓ : Loc Cert.KernelProjIdeal.nD Cert.KernelProjIdeal.τ Cert.KernelProjIdeal.sig) → Buf (Elt Ideal) ℓ) (g : Dev Cert.KernelProjIdeal.nD → PrngReg)
    (m' : (ℓ : Loc Cert.ReferenceProjIdeal.nD Cert.ReferenceProjIdeal.τ Cert.ReferenceProjIdeal.sig) → Buf (Elt Ideal) ℓ) (g' : Dev Cert.ReferenceProjIdeal.nD → PrngReg), Pre_KernelProjIdeal_finite_proj m →
    (∀ c : Dev Cert.KernelProjIdeal.nD,
      m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0)
      ∧ m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1)
      ∧ m' ((c.tc : Thread Cert.ReferenceProjIdeal.nD Cert.ReferenceProjIdeal.τ).loc Cert.ReferenceProjIdeal.main_arg2) = m ((c.tc : Thread Cert.KernelProjIdeal.nD Cert.KernelProjIdeal.τ).loc Cert.KernelProjIdeal.main_arg2)
      ∧ m' ((c.tc : Thread Cert.ReferenceProjIdeal.nD Cert.ReferenceProjIdeal.τ).loc Cert.ReferenceProjIdeal.main_arg3) = m ((c.tc : Thread Cert.KernelProjIdeal.nD Cert.KernelProjIdeal.τ).loc Cert.KernelProjIdeal.main_arg3)
      ∧ m' ((c.tc : Thread Cert.ReferenceProjIdeal.nD Cert.ReferenceProjIdeal.τ).loc Cert.ReferenceProjIdeal.main_arg4) = m ((c.tc : Thread Cert.KernelProjIdeal.nD Cert.KernelProjIdeal.τ).loc Cert.KernelProjIdeal.main_arg4)
      ∧ m' ((c.tc : Thread Cert.ReferenceProjIdeal.nD Cert.ReferenceProjIdeal.τ).loc Cert.ReferenceProjIdeal.main_arg5) = m ((c.tc : Thread Cert.KernelProjIdeal.nD Cert.KernelProjIdeal.τ).loc Cert.KernelProjIdeal.main_arg5)
      ∧ m' ((c.tc : Thread Cert.ReferenceProjIdeal.nD Cert.ReferenceProjIdeal.τ).loc Cert.ReferenceProjIdeal.main_arg6) = m ((c.tc : Thread Cert.KernelProjIdeal.nD Cert.KernelProjIdeal.τ).loc Cert.KernelProjIdeal.main_arg6)
      ∧ m' ((c.tc : Thread Cert.ReferenceProjIdeal.nD Cert.ReferenceProjIdeal.τ).loc Cert.ReferenceProjIdeal.main_arg7) = m ((c.tc : Thread Cert.KernelProjIdeal.nD Cert.KernelProjIdeal.τ).loc Cert.KernelProjIdeal.main_arg7)
      ∧ m' ((c.tc : Thread Cert.ReferenceProjIdeal.nD Cert.ReferenceProjIdeal.τ).loc Cert.ReferenceProjIdeal.main_arg8) = m ((c.tc : Thread Cert.KernelProjIdeal.nD Cert.KernelProjIdeal.τ).loc Cert.KernelProjIdeal.main_arg8)) →
    ∃ (v0 : (c : Dev Cert.KernelProjIdeal.nD) → Buf (Elt Ideal) ((c.tc : Thread Cert.KernelProjIdeal.nD Cert.KernelProjIdeal.τ).loc Cert.KernelProjIdeal.main_v41_0)) (v1 : (c : Dev Cert.KernelProjIdeal.nD) → Buf (Elt Ideal) ((c.tc : Thread Cert.KernelProjIdeal.nD Cert.KernelProjIdeal.τ).loc Cert.KernelProjIdeal.main_v41_1)) (v2 : (c : Dev Cert.KernelProjIdeal.nD) → Buf (Elt Ideal) ((c.tc : Thread Cert.KernelProjIdeal.nD Cert.KernelProjIdeal.τ).loc Cert.KernelProjIdeal.main_v41_2)),
      θ_run (Cert.KernelProjIdeal.defs (F := Ideal)) (onTc (τ := Cert.KernelProjIdeal.τ) (Cert.KernelProjIdeal.main (F := Ideal))) ⟨m, fun _ => 0, g⟩ (fun r => ∀ c : Dev Cert.KernelProjIdeal.nD,
          r.2.mem ((c.tc : Thread Cert.KernelProjIdeal.nD Cert.KernelProjIdeal.τ).loc Cert.KernelProjIdeal.main_v41_0) = v0 c
          ∧ r.2.mem ((c.tc : Thread Cert.KernelProjIdeal.nD Cert.KernelProjIdeal.τ).loc Cert.KernelProjIdeal.main_v41_1) = v1 c
          ∧ r.2.mem ((c.tc : Thread Cert.KernelProjIdeal.nD Cert.KernelProjIdeal.τ).loc Cert.KernelProjIdeal.main_v41_2) = v2 c
          ∧ r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
          ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
          ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
          ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3)
          ∧ r.2.mem ((c.tc : Thread Cert.KernelProjIdeal.nD Cert.KernelProjIdeal.τ).loc Cert.KernelProjIdeal.main_arg4) = m ((c.tc : Thread Cert.KernelProjIdeal.nD Cert.KernelProjIdeal.τ).loc Cert.KernelProjIdeal.main_arg4)
          ∧ r.2.mem ((c.tc : Thread Cert.KernelProjIdeal.nD Cert.KernelProjIdeal.τ).loc Cert.KernelProjIdeal.main_arg5) = m ((c.tc : Thread Cert.KernelProjIdeal.nD Cert.KernelProjIdeal.τ).loc Cert.KernelProjIdeal.main_arg5)
          ∧ r.2.mem ((c.tc : Thread Cert.KernelProjIdeal.nD Cert.KernelProjIdeal.τ).loc Cert.KernelProjIdeal.main_arg6) = m ((c.tc : Thread Cert.KernelProjIdeal.nD Cert.KernelProjIdeal.τ).loc Cert.KernelProjIdeal.main_arg6)
          ∧ r.2.mem ((c.tc : Thread Cert.KernelProjIdeal.nD Cert.KernelProjIdeal.τ).loc Cert.KernelProjIdeal.main_arg7) = m ((c.tc : Thread Cert.KernelProjIdeal.nD Cert.KernelProjIdeal.τ).loc Cert.KernelProjIdeal.main_arg7)
          ∧ r.2.mem ((c.tc : Thread Cert.KernelProjIdeal.nD Cert.KernelProjIdeal.τ).loc Cert.KernelProjIdeal.main_arg8) = m ((c.tc : Thread Cert.KernelProjIdeal.nD Cert.KernelProjIdeal.τ).loc Cert.KernelProjIdeal.main_arg8))
      ∧ θ_run (Cert.ReferenceProjIdeal.defs (F := Ideal)) (onTc (τ := Cert.ReferenceProjIdeal.τ) (Cert.ReferenceProjIdeal.main (F := Ideal))) ⟨m', fun _ => 0, g'⟩ (fun r => ∀ c : Dev Cert.ReferenceProjIdeal.nD,
          r.2.mem ((c.tc : Thread Cert.ReferenceProjIdeal.nD Cert.ReferenceProjIdeal.τ).loc Cert.ReferenceProjIdeal.main_v274) = v0 c
          ∧ r.2.mem ((c.tc : Thread Cert.ReferenceProjIdeal.nD Cert.ReferenceProjIdeal.τ).loc Cert.ReferenceProjIdeal.main_v275) = v1 c
          ∧ r.2.mem ((c.tc : Thread Cert.ReferenceProjIdeal.nD Cert.ReferenceProjIdeal.τ).loc Cert.ReferenceProjIdeal.main_v284) = v2 c
          ∧ r.2.mem ((c.tc : Thread Cert.ReferenceProjIdeal.nD Cert.ReferenceProjIdeal.τ).loc Cert.ReferenceProjIdeal.main_arg0) = m' ((c.tc : Thread Cert.ReferenceProjIdeal.nD Cert.ReferenceProjIdeal.τ).loc Cert.ReferenceProjIdeal.main_arg0)
          ∧ r.2.mem ((c.tc : Thread Cert.ReferenceProjIdeal.nD Cert.ReferenceProjIdeal.τ).loc Cert.ReferenceProjIdeal.main_arg1) = m' ((c.tc : Thread Cert.ReferenceProjIdeal.nD Cert.ReferenceProjIdeal.τ).loc Cert.ReferenceProjIdeal.main_arg1)
          ∧ r.2.mem ((c.tc : Thread Cert.ReferenceProjIdeal.nD Cert.ReferenceProjIdeal.τ).loc Cert.ReferenceProjIdeal.main_arg2) = m' ((c.tc : Thread Cert.ReferenceProjIdeal.nD Cert.ReferenceProjIdeal.τ).loc Cert.ReferenceProjIdeal.main_arg2)
          ∧ r.2.mem ((c.tc : Thread Cert.ReferenceProjIdeal.nD Cert.ReferenceProjIdeal.τ).loc Cert.ReferenceProjIdeal.main_arg3) = m' ((c.tc : Thread Cert.ReferenceProjIdeal.nD Cert.ReferenceProjIdeal.τ).loc Cert.ReferenceProjIdeal.main_arg3)
          ∧ r.2.mem ((c.tc : Thread Cert.ReferenceProjIdeal.nD Cert.ReferenceProjIdeal.τ).loc Cert.ReferenceProjIdeal.main_arg4) = m' ((c.tc : Thread Cert.ReferenceProjIdeal.nD Cert.ReferenceProjIdeal.τ).loc Cert.ReferenceProjIdeal.main_arg4)
          ∧ r.2.mem ((c.tc : Thread Cert.ReferenceProjIdeal.nD Cert.ReferenceProjIdeal.τ).loc Cert.ReferenceProjIdeal.main_arg5) = m' ((c.tc : Thread Cert.ReferenceProjIdeal.nD Cert.ReferenceProjIdeal.τ).loc Cert.ReferenceProjIdeal.main_arg5)
          ∧ r.2.mem ((c.tc : Thread Cert.ReferenceProjIdeal.nD Cert.ReferenceProjIdeal.τ).loc Cert.ReferenceProjIdeal.main_arg6) = m' ((c.tc : Thread Cert.ReferenceProjIdeal.nD Cert.ReferenceProjIdeal.τ).loc Cert.ReferenceProjIdeal.main_arg6)
          ∧ r.2.mem ((c.tc : Thread Cert.ReferenceProjIdeal.nD Cert.ReferenceProjIdeal.τ).loc Cert.ReferenceProjIdeal.main_arg7) = m' ((c.tc : Thread Cert.ReferenceProjIdeal.nD Cert.ReferenceProjIdeal.τ).loc Cert.ReferenceProjIdeal.main_arg7)
          ∧ r.2.mem ((c.tc : Thread Cert.ReferenceProjIdeal.nD Cert.ReferenceProjIdeal.τ).loc Cert.ReferenceProjIdeal.main_arg8) = m' ((c.tc : Thread Cert.ReferenceProjIdeal.nD Cert.ReferenceProjIdeal.τ).loc Cert.ReferenceProjIdeal.main_arg8))

def preserves_KernelFwd_KernelFwdIdeal : Prop :=
  True

def algebraic_KernelFwdIdeal_ReferenceFwdIdeal [hKernelFwdIdeal : Cert.KernelFwdIdeal.Facts] [hReferenceFwdIdeal : Cert.ReferenceFwdIdeal.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg)
    (m' : (ℓ : Loc Cert.ReferenceFwdIdeal.nD Cert.ReferenceFwdIdeal.τ Cert.ReferenceFwdIdeal.sig) → Buf (Elt Ideal) ℓ) (g' : Dev Cert.ReferenceFwdIdeal.nD → PrngReg), Pre_KernelFwdIdeal m →
    (∀ c : Dev Cert.KernelFwdIdeal.nD,
      m' ((c.tc : Thread Cert.ReferenceFwdIdeal.nD Cert.ReferenceFwdIdeal.τ).loc Cert.ReferenceFwdIdeal.main_arg0) = m ((c.tc : Thread Cert.KernelFwdIdeal.nD Cert.KernelFwdIdeal.τ).loc Cert.KernelFwdIdeal.main_arg0)
      ∧ m' ((c.tc : Thread Cert.ReferenceFwdIdeal.nD Cert.ReferenceFwdIdeal.τ).loc Cert.ReferenceFwdIdeal.main_arg1) = m ((c.tc : Thread Cert.KernelFwdIdeal.nD Cert.KernelFwdIdeal.τ).loc Cert.KernelFwdIdeal.main_arg1)
      ∧ m' ((c.tc : Thread Cert.ReferenceFwdIdeal.nD Cert.ReferenceFwdIdeal.τ).loc Cert.ReferenceFwdIdeal.main_arg2) = m ((c.tc : Thread Cert.KernelFwdIdeal.nD Cert.KernelFwdIdeal.τ).loc Cert.KernelFwdIdeal.main_arg2)
      ∧ m' ((c.tc : Thread Cert.ReferenceFwdIdeal.nD Cert.ReferenceFwdIdeal.τ).loc Cert.ReferenceFwdIdeal.main_arg3) = m ((c.tc : Thread Cert.KernelFwdIdeal.nD Cert.KernelFwdIdeal.τ).loc Cert.KernelFwdIdeal.main_arg3)
      ∧ m' ((c.tc : Thread Cert.ReferenceFwdIdeal.nD Cert.ReferenceFwdIdeal.τ).loc Cert.ReferenceFwdIdeal.main_arg4) = m ((c.tc : Thread Cert.KernelFwdIdeal.nD Cert.KernelFwdIdeal.τ).loc Cert.KernelFwdIdeal.main_arg4)) →
    ∃ (v0 : (c : Dev Cert.KernelFwdIdeal.nD) → Buf (Elt Ideal) ((c.tc : Thread Cert.KernelFwdIdeal.nD Cert.KernelFwdIdeal.τ).loc Cert.KernelFwdIdeal.main_v41_0)) (v1 : (c : Dev Cert.KernelFwdIdeal.nD) → Buf (Elt Ideal) ((c.tc : Thread Cert.KernelFwdIdeal.nD Cert.KernelFwdIdeal.τ).loc Cert.KernelFwdIdeal.main_v41_1)) (v2 : (c : Dev Cert.KernelFwdIdeal.nD) → Buf (Elt Ideal) ((c.tc : Thread Cert.KernelFwdIdeal.nD Cert.KernelFwdIdeal.τ).loc Cert.KernelFwdIdeal.main_v41_2)) (v3 : (c : Dev Cert.KernelFwdIdeal.nD) → Buf (Elt Ideal) ((c.tc : Thread Cert.KernelFwdIdeal.nD Cert.KernelFwdIdeal.τ).loc Cert.KernelFwdIdeal.main_v41_3)) (v4 : (c : Dev Cert.KernelFwdIdeal.nD) → Buf (Elt Ideal) ((c.tc : Thread Cert.KernelFwdIdeal.nD Cert.KernelFwdIdeal.τ).loc Cert.KernelFwdIdeal.main_v41_4)) (v5 : (c : Dev Cert.KernelFwdIdeal.nD) → Buf (Elt Ideal) ((c.tc : Thread Cert.KernelFwdIdeal.nD Cert.KernelFwdIdeal.τ).loc Cert.KernelFwdIdeal.main_v41_5)),
      θ_run (Cert.KernelFwdIdeal.defs (F := Ideal)) (onTc (τ := Cert.KernelFwdIdeal.τ) (Cert.KernelFwdIdeal.main (F := Ideal))) ⟨m, fun _ => 0, g⟩ (fun r => ∀ c : Dev Cert.KernelFwdIdeal.nD,
          r.2.mem ((c.tc : Thread Cert.KernelFwdIdeal.nD Cert.KernelFwdIdeal.τ).loc Cert.KernelFwdIdeal.main_v41_0) = v0 c
          ∧ r.2.mem ((c.tc : Thread Cert.KernelFwdIdeal.nD Cert.KernelFwdIdeal.τ).loc Cert.KernelFwdIdeal.main_v41_1) = v1 c
          ∧ r.2.mem ((c.tc : Thread Cert.KernelFwdIdeal.nD Cert.KernelFwdIdeal.τ).loc Cert.KernelFwdIdeal.main_v41_2) = v2 c
          ∧ r.2.mem ((c.tc : Thread Cert.KernelFwdIdeal.nD Cert.KernelFwdIdeal.τ).loc Cert.KernelFwdIdeal.main_v41_3) = v3 c
          ∧ r.2.mem ((c.tc : Thread Cert.KernelFwdIdeal.nD Cert.KernelFwdIdeal.τ).loc Cert.KernelFwdIdeal.main_v41_4) = v4 c
          ∧ r.2.mem ((c.tc : Thread Cert.KernelFwdIdeal.nD Cert.KernelFwdIdeal.τ).loc Cert.KernelFwdIdeal.main_v41_5) = v5 c
          ∧ r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
          ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
          ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2)
          ∧ r.2.mem ((c.tc : Thread Cert.KernelFwdIdeal.nD Cert.KernelFwdIdeal.τ).loc Cert.KernelFwdIdeal.main_arg3) = m ((c.tc : Thread Cert.KernelFwdIdeal.nD Cert.KernelFwdIdeal.τ).loc Cert.KernelFwdIdeal.main_arg3)
          ∧ r.2.mem ((c.tc : Thread Cert.KernelFwdIdeal.nD Cert.KernelFwdIdeal.τ).loc Cert.KernelFwdIdeal.main_arg4) = m ((c.tc : Thread Cert.KernelFwdIdeal.nD Cert.KernelFwdIdeal.τ).loc Cert.KernelFwdIdeal.main_arg4))
      ∧ θ_run (Cert.ReferenceFwdIdeal.defs (F := Ideal)) (onTc (τ := Cert.ReferenceFwdIdeal.τ) (Cert.ReferenceFwdIdeal.main (F := Ideal))) ⟨m', fun _ => 0, g'⟩ (fun r => ∀ c : Dev Cert.ReferenceFwdIdeal.nD,
          r.2.mem ((c.tc : Thread Cert.ReferenceFwdIdeal.nD Cert.ReferenceFwdIdeal.τ).loc Cert.ReferenceFwdIdeal.main_v156) = v0 c
          ∧ r.2.mem ((c.tc : Thread Cert.ReferenceFwdIdeal.nD Cert.ReferenceFwdIdeal.τ).loc Cert.ReferenceFwdIdeal.main_v157) = v1 c
          ∧ r.2.mem ((c.tc : Thread Cert.ReferenceFwdIdeal.nD Cert.ReferenceFwdIdeal.τ).loc Cert.ReferenceFwdIdeal.main_v159) = v2 c
          ∧ r.2.mem ((c.tc : Thread Cert.ReferenceFwdIdeal.nD Cert.ReferenceFwdIdeal.τ).loc Cert.ReferenceFwdIdeal.main_v160) = v3 c
          ∧ r.2.mem ((c.tc : Thread Cert.ReferenceFwdIdeal.nD Cert.ReferenceFwdIdeal.τ).loc Cert.ReferenceFwdIdeal.main_v161) = v4 c
          ∧ r.2.mem ((c.tc : Thread Cert.ReferenceFwdIdeal.nD Cert.ReferenceFwdIdeal.τ).loc Cert.ReferenceFwdIdeal.main_v162) = v5 c
          ∧ r.2.mem ((c.tc : Thread Cert.ReferenceFwdIdeal.nD Cert.ReferenceFwdIdeal.τ).loc Cert.ReferenceFwdIdeal.main_arg0) = m' ((c.tc : Thread Cert.ReferenceFwdIdeal.nD Cert.ReferenceFwdIdeal.τ).loc Cert.ReferenceFwdIdeal.main_arg0)
          ∧ r.2.mem ((c.tc : Thread Cert.ReferenceFwdIdeal.nD Cert.ReferenceFwdIdeal.τ).loc Cert.ReferenceFwdIdeal.main_arg1) = m' ((c.tc : Thread Cert.ReferenceFwdIdeal.nD Cert.ReferenceFwdIdeal.τ).loc Cert.ReferenceFwdIdeal.main_arg1)
          ∧ r.2.mem ((c.tc : Thread Cert.ReferenceFwdIdeal.nD Cert.ReferenceFwdIdeal.τ).loc Cert.ReferenceFwdIdeal.main_arg2) = m' ((c.tc : Thread Cert.ReferenceFwdIdeal.nD Cert.ReferenceFwdIdeal.τ).loc Cert.ReferenceFwdIdeal.main_arg2)
          ∧ r.2.mem ((c.tc : Thread Cert.ReferenceFwdIdeal.nD Cert.ReferenceFwdIdeal.τ).loc Cert.ReferenceFwdIdeal.main_arg3) = m' ((c.tc : Thread Cert.ReferenceFwdIdeal.nD Cert.ReferenceFwdIdeal.τ).loc Cert.ReferenceFwdIdeal.main_arg3)
          ∧ r.2.mem ((c.tc : Thread Cert.ReferenceFwdIdeal.nD Cert.ReferenceFwdIdeal.τ).loc Cert.ReferenceFwdIdeal.main_arg4) = m' ((c.tc : Thread Cert.ReferenceFwdIdeal.nD Cert.ReferenceFwdIdeal.τ).loc Cert.ReferenceFwdIdeal.main_arg4))

def preserves_KernelAda_KernelAdaIdeal : Prop :=
  True

def algebraic_KernelAdaIdeal_ReferenceAdaIdeal [hKernelAdaIdeal : Cert.KernelAdaIdeal.Facts] [hReferenceAdaIdeal : Cert.ReferenceAdaIdeal.Facts] : Prop :=
  ∀ (m : (ℓ : Loc Cert.KernelAdaIdeal.nD Cert.KernelAdaIdeal.τ Cert.KernelAdaIdeal.sig) → Buf (Elt Ideal) ℓ) (g : Dev Cert.KernelAdaIdeal.nD → PrngReg)
    (m' : (ℓ : Loc Cert.ReferenceAdaIdeal.nD Cert.ReferenceAdaIdeal.τ Cert.ReferenceAdaIdeal.sig) → Buf (Elt Ideal) ℓ) (g' : Dev Cert.ReferenceAdaIdeal.nD → PrngReg), Pre_KernelAdaIdeal m →
    (∀ c : Dev Cert.KernelAdaIdeal.nD,
      m' ((c.tc : Thread Cert.ReferenceAdaIdeal.nD Cert.ReferenceAdaIdeal.τ).loc Cert.ReferenceAdaIdeal.main_arg0) = m ((c.tc : Thread Cert.KernelAdaIdeal.nD Cert.KernelAdaIdeal.τ).loc Cert.KernelAdaIdeal.main_arg0)
      ∧ m' ((c.tc : Thread Cert.ReferenceAdaIdeal.nD Cert.ReferenceAdaIdeal.τ).loc Cert.ReferenceAdaIdeal.main_arg1) = m ((c.tc : Thread Cert.KernelAdaIdeal.nD Cert.KernelAdaIdeal.τ).loc Cert.KernelAdaIdeal.main_arg1)
      ∧ m' ((c.tc : Thread Cert.ReferenceAdaIdeal.nD Cert.ReferenceAdaIdeal.τ).loc Cert.ReferenceAdaIdeal.main_arg2) = m ((c.tc : Thread Cert.KernelAdaIdeal.nD Cert.KernelAdaIdeal.τ).loc Cert.KernelAdaIdeal.main_arg2)
      ∧ m' ((c.tc : Thread Cert.ReferenceAdaIdeal.nD Cert.ReferenceAdaIdeal.τ).loc Cert.ReferenceAdaIdeal.main_arg3) = m ((c.tc : Thread Cert.KernelAdaIdeal.nD Cert.KernelAdaIdeal.τ).loc Cert.KernelAdaIdeal.main_arg3)
      ∧ m' ((c.tc : Thread Cert.ReferenceAdaIdeal.nD Cert.ReferenceAdaIdeal.τ).loc Cert.ReferenceAdaIdeal.main_arg4) = m ((c.tc : Thread Cert.KernelAdaIdeal.nD Cert.KernelAdaIdeal.τ).loc Cert.KernelAdaIdeal.main_arg4)
      ∧ m' ((c.tc : Thread Cert.ReferenceAdaIdeal.nD Cert.ReferenceAdaIdeal.τ).loc Cert.ReferenceAdaIdeal.main_arg5) = m ((c.tc : Thread Cert.KernelAdaIdeal.nD Cert.KernelAdaIdeal.τ).loc Cert.KernelAdaIdeal.main_arg5)) →
    ∃ (v0 : (c : Dev Cert.KernelAdaIdeal.nD) → Buf (Elt Ideal) ((c.tc : Thread Cert.KernelAdaIdeal.nD Cert.KernelAdaIdeal.τ).loc Cert.KernelAdaIdeal.main_v7_0)) (v1 : (c : Dev Cert.KernelAdaIdeal.nD) → Buf (Elt Ideal) ((c.tc : Thread Cert.KernelAdaIdeal.nD Cert.KernelAdaIdeal.τ).loc Cert.KernelAdaIdeal.main_v7_1)) (v2 : (c : Dev Cert.KernelAdaIdeal.nD) → Buf (Elt Ideal) ((c.tc : Thread Cert.KernelAdaIdeal.nD Cert.KernelAdaIdeal.τ).loc Cert.KernelAdaIdeal.main_v7_2)) (v3 : (c : Dev Cert.KernelAdaIdeal.nD) → Buf (Elt Ideal) ((c.tc : Thread Cert.KernelAdaIdeal.nD Cert.KernelAdaIdeal.τ).loc Cert.KernelAdaIdeal.main_v7_3)) (v4 : (c : Dev Cert.KernelAdaIdeal.nD) → Buf (Elt Ideal) ((c.tc : Thread Cert.KernelAdaIdeal.nD Cert.KernelAdaIdeal.τ).loc Cert.KernelAdaIdeal.main_v7_4)),
      θ_run (Cert.KernelAdaIdeal.defs (F := Ideal)) (onTc (τ := Cert.KernelAdaIdeal.τ) (Cert.KernelAdaIdeal.main (F := Ideal))) ⟨m, fun _ => 0, g⟩ (fun r => ∀ c : Dev Cert.KernelAdaIdeal.nD,
          r.2.mem ((c.tc : Thread Cert.KernelAdaIdeal.nD Cert.KernelAdaIdeal.τ).loc Cert.KernelAdaIdeal.main_v7_0) = v0 c
          ∧ r.2.mem ((c.tc : Thread Cert.KernelAdaIdeal.nD Cert.KernelAdaIdeal.τ).loc Cert.KernelAdaIdeal.main_v7_1) = v1 c
          ∧ r.2.mem ((c.tc : Thread Cert.KernelAdaIdeal.nD Cert.KernelAdaIdeal.τ).loc Cert.KernelAdaIdeal.main_v7_2) = v2 c
          ∧ r.2.mem ((c.tc : Thread Cert.KernelAdaIdeal.nD Cert.KernelAdaIdeal.τ).loc Cert.KernelAdaIdeal.main_v7_3) = v3 c
          ∧ r.2.mem ((c.tc : Thread Cert.KernelAdaIdeal.nD Cert.KernelAdaIdeal.τ).loc Cert.KernelAdaIdeal.main_v7_4) = v4 c
          ∧ r.2.mem ((c.tc : Thread Cert.KernelAdaIdeal.nD Cert.KernelAdaIdeal.τ).loc Cert.KernelAdaIdeal.main_arg0) = m ((c.tc : Thread Cert.KernelAdaIdeal.nD Cert.KernelAdaIdeal.τ).loc Cert.KernelAdaIdeal.main_arg0)
          ∧ r.2.mem ((c.tc : Thread Cert.KernelAdaIdeal.nD Cert.KernelAdaIdeal.τ).loc Cert.KernelAdaIdeal.main_arg1) = m ((c.tc : Thread Cert.KernelAdaIdeal.nD Cert.KernelAdaIdeal.τ).loc Cert.KernelAdaIdeal.main_arg1)
          ∧ r.2.mem ((c.tc : Thread Cert.KernelAdaIdeal.nD Cert.KernelAdaIdeal.τ).loc Cert.KernelAdaIdeal.main_arg2) = m ((c.tc : Thread Cert.KernelAdaIdeal.nD Cert.KernelAdaIdeal.τ).loc Cert.KernelAdaIdeal.main_arg2)
          ∧ r.2.mem ((c.tc : Thread Cert.KernelAdaIdeal.nD Cert.KernelAdaIdeal.τ).loc Cert.KernelAdaIdeal.main_arg3) = m ((c.tc : Thread Cert.KernelAdaIdeal.nD Cert.KernelAdaIdeal.τ).loc Cert.KernelAdaIdeal.main_arg3)
          ∧ r.2.mem ((c.tc : Thread Cert.KernelAdaIdeal.nD Cert.KernelAdaIdeal.τ).loc Cert.KernelAdaIdeal.main_arg4) = m ((c.tc : Thread Cert.KernelAdaIdeal.nD Cert.KernelAdaIdeal.τ).loc Cert.KernelAdaIdeal.main_arg4)
          ∧ r.2.mem ((c.tc : Thread Cert.KernelAdaIdeal.nD Cert.KernelAdaIdeal.τ).loc Cert.KernelAdaIdeal.main_arg5) = m ((c.tc : Thread Cert.KernelAdaIdeal.nD Cert.KernelAdaIdeal.τ).loc Cert.KernelAdaIdeal.main_arg5))
      ∧ θ_run (Cert.ReferenceAdaIdeal.defs (F := Ideal)) (onTc (τ := Cert.ReferenceAdaIdeal.τ) (Cert.ReferenceAdaIdeal.main (F := Ideal))) ⟨m', fun _ => 0, g'⟩ (fun r => ∀ c : Dev Cert.ReferenceAdaIdeal.nD,
          r.2.mem ((c.tc : Thread Cert.ReferenceAdaIdeal.nD Cert.ReferenceAdaIdeal.τ).loc Cert.ReferenceAdaIdeal.main_v10) = v0 c
          ∧ r.2.mem ((c.tc : Thread Cert.ReferenceAdaIdeal.nD Cert.ReferenceAdaIdeal.τ).loc Cert.ReferenceAdaIdeal.main_v34) = v1 c
          ∧ r.2.mem ((c.tc : Thread Cert.ReferenceAdaIdeal.nD Cert.ReferenceAdaIdeal.τ).loc Cert.ReferenceAdaIdeal.main_v15) = v2 c
          ∧ r.2.mem ((c.tc : Thread Cert.ReferenceAdaIdeal.nD Cert.ReferenceAdaIdeal.τ).loc Cert.ReferenceAdaIdeal.main_v21) = v3 c
          ∧ r.2.mem ((c.tc : Thread Cert.ReferenceAdaIdeal.nD Cert.ReferenceAdaIdeal.τ).loc Cert.ReferenceAdaIdeal.main_v36) = v4 c
          ∧ r.2.mem ((c.tc : Thread Cert.ReferenceAdaIdeal.nD Cert.ReferenceAdaIdeal.τ).loc Cert.ReferenceAdaIdeal.main_arg0) = m' ((c.tc : Thread Cert.ReferenceAdaIdeal.nD Cert.ReferenceAdaIdeal.τ).loc Cert.ReferenceAdaIdeal.main_arg0)
          ∧ r.2.mem ((c.tc : Thread Cert.ReferenceAdaIdeal.nD Cert.ReferenceAdaIdeal.τ).loc Cert.ReferenceAdaIdeal.main_arg1) = m' ((c.tc : Thread Cert.ReferenceAdaIdeal.nD Cert.ReferenceAdaIdeal.τ).loc Cert.ReferenceAdaIdeal.main_arg1)
          ∧ r.2.mem ((c.tc : Thread Cert.ReferenceAdaIdeal.nD Cert.ReferenceAdaIdeal.τ).loc Cert.ReferenceAdaIdeal.main_arg2) = m' ((c.tc : Thread Cert.ReferenceAdaIdeal.nD Cert.ReferenceAdaIdeal.τ).loc Cert.ReferenceAdaIdeal.main_arg2)
          ∧ r.2.mem ((c.tc : Thread Cert.ReferenceAdaIdeal.nD Cert.ReferenceAdaIdeal.τ).loc Cert.ReferenceAdaIdeal.main_arg3) = m' ((c.tc : Thread Cert.ReferenceAdaIdeal.nD Cert.ReferenceAdaIdeal.τ).loc Cert.ReferenceAdaIdeal.main_arg3)
          ∧ r.2.mem ((c.tc : Thread Cert.ReferenceAdaIdeal.nD Cert.ReferenceAdaIdeal.τ).loc Cert.ReferenceAdaIdeal.main_arg4) = m' ((c.tc : Thread Cert.ReferenceAdaIdeal.nD Cert.ReferenceAdaIdeal.τ).loc Cert.ReferenceAdaIdeal.main_arg4)
          ∧ r.2.mem ((c.tc : Thread Cert.ReferenceAdaIdeal.nD Cert.ReferenceAdaIdeal.τ).loc Cert.ReferenceAdaIdeal.main_arg5) = m' ((c.tc : Thread Cert.ReferenceAdaIdeal.nD Cert.ReferenceAdaIdeal.τ).loc Cert.ReferenceAdaIdeal.main_arg5))

def Claim : Prop :=
  ∃ (hKernel : Cert.Kernel.Facts) (hKernelIdeal : Cert.KernelIdeal.Facts) (hReferenceIdeal : Cert.ReferenceIdeal.Facts) (hKernelWOut : Cert.KernelWOut.Facts) (hKernelWOutIdeal : Cert.KernelWOutIdeal.Facts) (hReferenceWOutIdeal : Cert.ReferenceWOutIdeal.Facts) (hKernelWIn : Cert.KernelWIn.Facts) (hKernelWInIdeal : Cert.KernelWInIdeal.Facts) (hReferenceWInIdeal : Cert.ReferenceWInIdeal.Facts) (hKernelProj : Cert.KernelProj.Facts) (hKernelProjIdeal : Cert.KernelProjIdeal.Facts) (hReferenceProjIdeal : Cert.ReferenceProjIdeal.Facts) (hKernelFwd : Cert.KernelFwd.Facts) (hKernelFwdIdeal : Cert.KernelFwdIdeal.Facts) (hReferenceFwdIdeal : Cert.ReferenceFwdIdeal.Facts) (hKernelAda : Cert.KernelAda.Facts) (hKernelAdaIdeal : Cert.KernelAdaIdeal.Facts) (hReferenceAdaIdeal : Cert.ReferenceAdaIdeal.Facts) (hPre_finite : Cert.Pre_finite.Facts) (hPre_finite_proj : Cert.Pre_finite_proj.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelWOut (hKernelWOut := hKernelWOut)
    ∧ quiescent_KernelWOutIdeal (hKernelWOutIdeal := hKernelWOutIdeal)
    ∧ quiescent_ReferenceWOutIdeal (hReferenceWOutIdeal := hReferenceWOutIdeal)
    ∧ quiescent_KernelWIn (hKernelWIn := hKernelWIn)
    ∧ quiescent_KernelWInIdeal (hKernelWInIdeal := hKernelWInIdeal)
    ∧ quiescent_ReferenceWInIdeal (hReferenceWInIdeal := hReferenceWInIdeal)
    ∧ quiescent_KernelProj (hKernelProj := hKernelProj)
    ∧ quiescent_KernelProjIdeal (hKernelProjIdeal := hKernelProjIdeal)
    ∧ quiescent_KernelProjIdeal_pre_finite_proj (hKernelProjIdeal := hKernelProjIdeal) (hPre_finite_proj := hPre_finite_proj)
    ∧ quiescent_ReferenceProjIdeal (hReferenceProjIdeal := hReferenceProjIdeal)
    ∧ quiescent_ReferenceProjIdeal_pre_finite_proj (hReferenceProjIdeal := hReferenceProjIdeal) (hPre_finite_proj := hPre_finite_proj)
    ∧ quiescent_KernelFwd (hKernelFwd := hKernelFwd)
    ∧ quiescent_KernelFwdIdeal (hKernelFwdIdeal := hKernelFwdIdeal)
    ∧ quiescent_ReferenceFwdIdeal (hReferenceFwdIdeal := hReferenceFwdIdeal)
    ∧ quiescent_KernelAda (hKernelAda := hKernelAda)
    ∧ quiescent_KernelAdaIdeal (hKernelAdaIdeal := hKernelAdaIdeal)
    ∧ quiescent_ReferenceAdaIdeal (hReferenceAdaIdeal := hReferenceAdaIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelWOut_KernelWOutIdeal
    ∧ algebraic_KernelWOutIdeal_ReferenceWOutIdeal (hKernelWOutIdeal := hKernelWOutIdeal) (hReferenceWOutIdeal := hReferenceWOutIdeal)
    ∧ preserves_KernelWIn_KernelWInIdeal
    ∧ algebraic_KernelWInIdeal_ReferenceWInIdeal (hKernelWInIdeal := hKernelWInIdeal) (hReferenceWInIdeal := hReferenceWInIdeal)
    ∧ preserves_KernelProj_KernelProjIdeal
    ∧ algebraic_KernelProjIdeal_ReferenceProjIdeal_pre_finite_proj (hKernelProjIdeal := hKernelProjIdeal) (hReferenceProjIdeal := hReferenceProjIdeal) (hPre_finite_proj := hPre_finite_proj)
    ∧ preserves_KernelFwd_KernelFwdIdeal
    ∧ algebraic_KernelFwdIdeal_ReferenceFwdIdeal (hKernelFwdIdeal := hKernelFwdIdeal) (hReferenceFwdIdeal := hReferenceFwdIdeal)
    ∧ preserves_KernelAda_KernelAdaIdeal
    ∧ algebraic_KernelAdaIdeal_ReferenceAdaIdeal (hKernelAdaIdeal := hKernelAdaIdeal) (hReferenceAdaIdeal := hReferenceAdaIdeal)
-- ==== Pre_finite.lean ====
abbrev S8192x1024 : Shape := ⟨2, ![8192, 1024]⟩
abbrev S6x1024 : Shape := ⟨2, ![6, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S6x1024 : S_.BroadcastsInDim S6x1024 (![] : Fin 0 → Fin S6x1024.rank)
  reducesTo_S6x1024_S_d0_1 : S6x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part2 {F : FTy → Type} [FloatOps F] (main_arg7 : FVec F S1x1024 .f32) (main_arg8 : FVec F S1024x5632 .f32) (main_arg9 : FVec F S2816x1024 .f32) (main_v33 : IVec S_ 1) : IVec S_ 1 :=
  let main_v34 : FVec F S1x1024 .f32 := Host.absf main_arg7
  let main_cst_12 : FVec F S_ .f32 := constant S_ .f32 0x7F800000#32
  let main_v35 : FVec F S1x1024 .f32 := broadcastInDim S1x1024 ![] bcast_S_S1x1024 main_cst_12
  let main_v36 : IVec S1x1024 1 := cmpf .olt main_v34 main_v35
  let main_c_13 : IVec S_ 1 := constantI S_ 1 1#1
  let main_v37 : IVec S_ 1 := (fun x v => Host.reduce IntOp.andi x v reducesTo_S1x1024_S_d0_1 h_S_) main_v36 main_c_13
  let main_v38 : IVec S_ 1 := andi main_v33 main_v37
  let main_v39 : FVec F S1024x5632 .f32 := Host.absf main_arg8
  let main_cst_14 : FVec F S_ .f32 := constant S_ .f32 0x7F800000#32
  let main_v40 : FVec F S1024x5632 .f32 := broadcastInDim S1024x5632 ![] bcast_S_S1024x5632 main_cst_14
  let main_v41 : IVec S1024x5632 1 := cmpf .olt main_v39 main_v40
  let main_c_15 : IVec S_ 1 := constantI S_ 1 1#1
  let main_v42 : IVec S_ 1 := (fun x v => Host.reduce IntOp.andi x v reducesTo_S1024x5632_S_d0_1 h_S_) main_v41 main_c_15
  let main_v43 : IVec S_ 1 := andi main_v38 main_v42
  let main_v44 : FVec F S2816x1024 .f32 := Host.absf main_arg9
  let main_cst_16 : FVec F S_ .f32 := constant S_ .f32 0x7F800000#32
  let main_v45 : FVec F S2816x1024 .f32 := broadcastInDim S2816x1024 ![] bcast_S_S2816x1024 main_cst_16
  let main_v46 : IVec S2816x1024 1 := cmpf .olt main_v44 main_v45
  let main_c_17 : IVec S_ 1 := constantI S_ 1 1#1
  let main_v47 : IVec S_ 1 := (fun x v => Host.reduce IntOp.andi x v reducesTo_S2816x1024_S_d0_1 h_S_) main_v46 main_c_17
  let main_v48 : IVec S_ 1 := andi main_v43 main_v47
  main_v48

def fn_part1 {F : FTy → Type} [FloatOps F] (main_arg4 : FVec F S1x1024 .f32) (main_arg5 : FVec F S1x1024 .f32) (main_arg6 : FVec F S1x1024 .f32) (main_arg7 : FVec F S1x1024 .f32) (main_arg8 : FVec F S1024x5632 .f32) (main_arg9 : FVec F S2816x1024 .f32) (main_v13 : IVec S_ 1) (main_v16 : IVec S6x1024 1) : IVec S_ 1 :=
  let main_c_5 : IVec S_ 1 := constantI S_ 1 1#1
  let main_v17 : IVec S_ 1 := (fun x v => Host.reduce IntOp.andi x v reducesTo_S6x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1x1024 .f32 := Host.absf main_arg5
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  let main_v29 : FVec F S1x1024 .f32 := Host.absf main_arg6
  let main_cst_10 : FVec F S_ .f32 := constant S_ .f32 0x7F800000#32
  let main_v30 : FVec F S1x1024 .f32 := broadcastInDim S1x1024 ![] bcast_S_S1x1024 main_cst_10
  let main_v31 : IVec S1x1024 1 := cmpf .olt main_v29 main_v30
  let main_c_11 : IVec S_ 1 := constantI S_ 1 1#1
  let main_v32 : IVec S_ 1 := (fun x v => Host.reduce IntOp.andi x v reducesTo_S1x1024_S_d0_1 h_S_) main_v31 main_c_11
  let main_v33 : IVec S_ 1 := andi main_v28 main_v32
  fn_part2 (F := F) main_arg7 main_arg8 main_arg9 main_v33

def fn {F : FTy → Type} [FloatOps F] (main_arg0 : FVec F S8192x1024 .f32) (main_arg1 : FVec F S8192x1024 .f32) (main_arg2 : FVec F S8192x1024 .f32) (main_arg3 : FVec F S6x1024 .f32) (main_arg4 : FVec F S1x1024 .f32) (main_arg5 : FVec F S1x1024 .f32) (main_arg6 : FVec F S1x1024 .f32) (main_arg7 : FVec F S1x1024 .f32) (main_arg8 : FVec F S1024x5632 .f32) (main_arg9 : FVec F S2816x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S6x1024 .f32 := Host.absf main_arg3
  let main_cst_4 : FVec F S_ .f32 := constant S_ .f32 0x7F800000#32
  let main_v15 : FVec F S6x1024 .f32 := broadcastInDim S6x1024 ![] bcast_S_S6x1024 main_cst_4
  let main_v16 : IVec S6x1024 1 := cmpf .olt main_v14 main_v15
  fn_part1 (F := F) main_arg4 main_arg5 main_arg6 main_arg7 main_arg8 main_arg9 main_v13 main_v16
-- ==== Pre_finite_proj.lean ====
abbrev S8192x1024 : Shape := ⟨2, ![8192, 1024]⟩
abbrev S6x1024 : Shape := ⟨2, ![6, 1024]⟩
abbrev S1024x3840 : Shape := ⟨2, ![1024, 3840]⟩
abbrev S8192 : Shape := ⟨1, ![8192]⟩
abbrev S8192x512 : Shape := ⟨2, ![8192, 512]⟩
abbrev S8192x256 : Shape := ⟨2, ![8192, 256]⟩
abbrev S8192x3072 : Shape := ⟨2, ![8192, 3072]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bitsLt_bf16_f32 : FTy.bits .bf16 < FTy.bits .f32
  bcast_S_S6x1024 : S_.BroadcastsInDim S6x1024 (![] : Fin 0 → Fin S6x1024.rank)
  reducesTo_S6x1024_S_d0_1 : S6x1024.ReducesTo [0, 1] S_
  bcast_S_S1024x3840 : S_.BroadcastsInDim S1024x3840 (![] : Fin 0 → Fin S1024x3840.rank)
  reducesTo_S1024x3840_S_d0_1 : S1024x3840.ReducesTo [0, 1] S_
  bcast_S_S8192x512 : S_.BroadcastsInDim S8192x512 (![] : Fin 0 → Fin S8192x512.rank)
  reducesTo_S8192x512_S_d0_1 : S8192x512.ReducesTo [0, 1] S_
  bcast_S_S8192x256 : S_.BroadcastsInDim S8192x256 (![] : Fin 0 → Fin S8192x256.rank)
  reducesTo_S8192x256_S_d0_1 : S8192x256.ReducesTo [0, 1] S_
  bcast_S_S8192x3072 : S_.BroadcastsInDim S8192x3072 (![] : Fin 0 → Fin S8192x3072.rank)
  reducesTo_S8192x3072_S_d0_1 : S8192x3072.ReducesTo [0, 1] S_

variable [Facts]

def fn_part2 {F : FTy → Type} [FloatOps F] (main_v29 : IVec S_ 1) (main_v33 : IVec S_ 1) : IVec S_ 1 :=
  let main_v34 : IVec S_ 1 := andi main_v29 main_v33
  main_v34

def fn_part1 {F : FTy → Type} [FloatOps F] (main_arg6 : FVec F S8192x256 .f32) (main_arg8 : FVec F S8192x1024 .f32) (main_v4 : FVec F S8192x3072 .f32) (main_v14 : IVec S_ 1) (main_v15 : FVec F S8192x512 .f32) (main_v16 : FVec F S8192x512 .f32) : IVec S_ 1 :=
  let main_v17 : IVec S8192x512 1 := cmpf .olt main_v15 main_v16
  let main_c_5 : IVec S_ 1 := constantI S_ 1 1#1
  let main_v18 : IVec S_ 1 := (fun x v => Host.reduce IntOp.andi x v reducesTo_S8192x512_S_d0_1 h_S_) main_v17 main_c_5
  let main_v19 : IVec S_ 1 := andi main_v14 main_v18
  let main_v20 : FVec F S8192x256 .f32 := Host.absf main_arg6
  let main_cst_6 : FVec F S_ .f32 := constant S_ .f32 0x7F800000#32
  let main_v21 : FVec F S8192x256 .f32 := broadcastInDim S8192x256 ![] bcast_S_S8192x256 main_cst_6
  let main_v22 : IVec S8192x256 1 := cmpf .olt main_v20 main_v21
  let main_c_7 : IVec S_ 1 := constantI S_ 1 1#1
  let main_v23 : IVec S_ 1 := (fun x v => Host.reduce IntOp.andi x v reducesTo_S8192x256_S_d0_1 h_S_) main_v22 main_c_7
  let main_v24 : IVec S_ 1 := andi main_v19 main_v23
  let main_v25 : FVec F S8192x3072 .f32 := Host.absf main_v4
  let main_cst_8 : FVec F S_ .f32 := constant S_ .f32 0x7F800000#32
  let main_v26 : FVec F S8192x3072 .f32 := broadcastInDim S8192x3072 ![] bcast_S_S8192x3072 main_cst_8
  let main_v27 : IVec S8192x3072 1 := cmpf .olt main_v25 main_v26
  let main_c_9 : IVec S_ 1 := constantI S_ 1 1#1
  let main_v28 : IVec S_ 1 := (fun x v => Host.reduce IntOp.andi x v reducesTo_S8192x3072_S_d0_1 h_S_) main_v27 main_c_9
  let main_v29 : IVec S_ 1 := andi main_v24 main_v28
  let main_v30 : FVec F S8192x1024 .f32 := Host.absf main_arg8
  let main_cst_10 : FVec F S_ .f32 := constant S_ .f32 0x7F800000#32
  let main_v31 : FVec F S8192x1024 .f32 := broadcastInDim S8192x1024 ![] bcast_S_S8192x1024 main_cst_10
  let main_v32 : IVec S8192x1024 1 := cmpf .olt main_v30 main_v31
  let main_c_11 : IVec S_ 1 := constantI S_ 1 1#1
  let main_v33 : IVec S_ 1 := (fun x v => Host.reduce IntOp.andi x v reducesTo_S8192x1024_S_d0_1 h_S_) main_v32 main_c_11
  fn_part2 (F := F) main_v29 main_v33

def fn {F : FTy → Type} [FloatOps F] (main_arg0 : FVec F S8192x1024 .f32) (main_arg1 : FVec F S6x1024 .f32) (main_arg2 : FVec F S1024x3840 .f32) (main_arg3 : IVec S8192 32) (main_arg4 : IVec S8192 32) (main_arg5 : FVec F S8192x512 .f32) (main_arg6 : FVec F S8192x256 .f32) (main_arg7 : FVec F S8192x3072 .bf16) (main_arg8 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x3072 .f32 := (extf .f32 · bitsLt_bf16_f32) main_arg7
  let main_v5 : FVec F S6x1024 .f32 := Host.absf main_arg1
  let main_cst_0 : FVec F S_ .f32 := constant S_ .f32 0x7F800000#32
  let main_v6 : FVec F S6x1024 .f32 := broadcastInDim S6x1024 ![] bcast_S_S6x1024 main_cst_0
  let main_v7 : IVec S6x1024 1 := cmpf .olt main_v5 main_v6
  let main_c_1 : IVec S_ 1 := constantI S_ 1 1#1
  let main_v8 : IVec S_ 1 := (fun x v => Host.reduce IntOp.andi x v reducesTo_S6x1024_S_d0_1 h_S_) main_v7 main_c_1
  let main_v9 : IVec S_ 1 := andi main_v3 main_v8
  let main_v10 : FVec F S1024x3840 .f32 := Host.absf main_arg2
  let main_cst_2 : FVec F S_ .f32 := constant S_ .f32 0x7F800000#32
  let main_v11 : FVec F S1024x3840 .f32 := broadcastInDim S1024x3840 ![] bcast_S_S1024x3840 main_cst_2
  let main_v12 : IVec S1024x3840 1 := cmpf .olt main_v10 main_v11
  let main_c_3 : IVec S_ 1 := constantI S_ 1 1#1
  let main_v13 : IVec S_ 1 := (fun x v => Host.reduce IntOp.andi x v reducesTo_S1024x3840_S_d0_1 h_S_) main_v12 main_c_3
  let main_v14 : IVec S_ 1 := andi main_v9 main_v13
  let main_v15 : FVec F S8192x512 .f32 := Host.absf main_arg5
  let main_cst_4 : FVec F S_ .f32 := constant S_ .f32 0x7F800000#32
  let main_v16 : FVec F S8192x512 .f32 := broadcastInDim S8192x512 ![] bcast_S_S8192x512 main_cst_4
  fn_part1 (F := F) main_arg6 main_arg8 main_v4 main_v14 main_v15 main_v16
-- ==== Kernel.lean ====
abbrev S8192x1024 : Shape := ⟨2, ![8192, 1024]⟩
abbrev S6x1024 : Shape := ⟨2, ![6, 1024]⟩
abbrev S1x1024 : Shape := ⟨2, ![1, 1024]⟩
abbrev S1024x5632 : Shape := ⟨2, ![1024, 5632]⟩
abbrev S2816x1024 : Shape := ⟨2, ![2816, 1024]⟩
abbrev S3x1024 : Shape := ⟨2, ![3, 1024]⟩
abbrev S8x1024 : Shape := ⟨2, ![8, 1024]⟩
abbrev S1024x4x1408 : Shape := ⟨3, ![1024, 4, 1408]⟩
abbrev S4x1024x1408 : Shape := ⟨3, ![4, 1024, 1408]⟩
abbrev S8192x2816 : Shape := ⟨2, ![8192, 2816]⟩
abbrev S8192x5632 : Shape := ⟨2, ![8192, 5632]⟩
abbrev S16x1024 : Shape := ⟨2, ![16, 1024]⟩
abbrev S256x1024 : Shape := ⟨2, ![256, 1024]⟩
abbrev S256x2816 : Shape := ⟨2, ![256, 2816]⟩
abbrev S256x5632 : Shape := ⟨2, ![256, 5632]⟩
abbrev S256 : Shape := ⟨1, ![256]⟩
abbrev S256x1 : Shape := ⟨2, ![256, 1]⟩
abbrev S1x1024x1408 : Shape := ⟨3, ![1, 1024, 1408]⟩
abbrev S1024x1408 : Shape := ⟨2, ![1024, 1408]⟩
abbrev S256x1408 : Shape := ⟨2, ![256, 1408]⟩
abbrev S1024 : Shape := ⟨1, ![1024]⟩

abbrev nBuf : Space → Nat
  | .hbm => 23
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S6x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1024x5632, .f32⟩
  | .hbm, ⟨9, _⟩ => ⟨S2816x1024, .f32⟩
  | .hbm, ⟨10, _⟩ => ⟨S1x1024, .f32⟩
  | .hbm, ⟨11, _⟩ => ⟨S3x1024, .f32⟩
  | .hbm, ⟨12, _⟩ => ⟨S8x1024, .f32⟩
  | .hbm, ⟨13, _⟩ => ⟨S1024x5632, .bf16⟩
  | .hbm, ⟨14, _⟩ => ⟨S1024x4x1408, .bf16⟩
  | .hbm, ⟨15, _⟩ => ⟨S4x1024x1408, .bf16⟩
  | .hbm, ⟨16, _⟩ => ⟨S2816x1024, .bf16⟩
  | .hbm, ⟨17, _⟩ => ⟨S8192x2816, .bf16⟩
  | .hbm, ⟨18, _⟩ => ⟨S8192x1024, .bf16⟩
  | .hbm, ⟨19, _⟩ => ⟨S8192x5632, .bf16⟩
  | .hbm, ⟨20, _⟩ => ⟨S8192x1024, .bf16⟩
  | .hbm, ⟨21, _⟩ => ⟨S8192x1024, .f32⟩
  | .hbm, ⟨22, _⟩ => ⟨S16x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S8x1024, .f32⟩
  | .local _ .vmem, ⟨7, _⟩ => ⟨S4x1024x1408, .bf16⟩
  | .local _ .vmem, ⟨8, _⟩ => ⟨S2816x1024, .bf16⟩
  | .local _ .vmem, ⟨9, _⟩ => ⟨S256x2816, .bf16⟩
  | .local _ .vmem, ⟨10, _⟩ => ⟨S256x2816, .bf16⟩
  | .local _ .vmem, ⟨11, _⟩ => ⟨S256x1024, .bf16⟩
  | .local _ .vmem, ⟨12, _⟩ => ⟨S256x1024, .bf16⟩
  | .local _ .vmem, ⟨13, _⟩ => ⟨S256x5632, .bf16⟩
  | .local _ .vmem, ⟨14, _⟩ => ⟨S256x5632, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .f32⟩
  | .local _ .vmem, ⟨18, _⟩ => ⟨S256x1024, .f32⟩
  | .local _ .vmem, ⟨19, _⟩ => ⟨S16x1024, .f32⟩
  | .local _ .vmem, ⟨20, _⟩ => ⟨S256x5632, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev main_v7_3 : Ref sig .tc := ⟨.hbm, 20, rfl⟩
abbrev main_v7_4 : Ref sig .tc := ⟨.hbm, 21, rfl⟩
abbrev main_v7_5 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1408 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x5632 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S16x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S8192x1024 : Shape := ⟨2, ![8192, 1024]⟩
abbrev S6x1024 : Shape := ⟨2, ![6, 1024]⟩
abbrev S1x1024 : Shape := ⟨2, ![1, 1024]⟩
abbrev S1024x5632 : Shape := ⟨2, ![1024, 5632]⟩
abbrev S2816x1024 : Shape := ⟨2, ![2816, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩
abbrev S16x1024 : Shape := ⟨2, ![16, 1024]⟩

abbrev nBuf : Space → Nat
  | .hbm => 374
  | .vmem => 0
  | .smem => 0
  | _ => 0

abbrev hbmTy0_0 (i : Nat) : BufTy := match i % 128 with
  | 0 => ⟨S8192x1024, .f32⟩
  | 1 => ⟨S8192x1024, .f32⟩
  | 2 => ⟨S8192x1024, .f32⟩
  | 3 => ⟨S6x1024, .f32⟩
  | 4 => ⟨S1x1024, .f32⟩
  | 5 => ⟨S1x1024, .f32⟩
  | 6 => ⟨S1x1024, .f32⟩
  | 7 => ⟨S1x1024, .f32⟩
  | 8 => ⟨S1024x5632, .f32⟩
  | 9 => ⟨S2816x1024, .f32⟩
  | 10 => ⟨S1x1024, .f32⟩
  | 11 => ⟨S1024, .f32⟩
  | 12 => ⟨S_, .f32⟩
  | 13 => ⟨S8192x1024, .f32⟩
  | 14 => ⟨S8192x1024, .f32⟩
  | 15 => ⟨S1x1024, .f32⟩
  | 16 => ⟨S8192x1024, .f32⟩
  | 17 => ⟨S8192x1024, .f32⟩
  | 18 => ⟨S8192x1024, .f32⟩
  | 19 => ⟨S1024, .f32⟩
  | 20 => ⟨S1024, .f32⟩
  | 21 => ⟨S1x1024, .f32⟩
  | 22 => ⟨S1024, .f32⟩
  | 23 => ⟨S1x1024, .f32⟩
  | 24 => ⟨S1024, .f32⟩
  | 25 => ⟨S_, .f32⟩
  | 26 => ⟨S8192, .f32⟩
  | 27 => ⟨S8192x1, .f32⟩
  | 28 => ⟨S_, .f32⟩
  | 29 => ⟨S8192x1, .f32⟩
  | 30 => ⟨S8192x1, .f32⟩
  | 31 => ⟨S8192x1024, .f32⟩
  | 32 => ⟨S8192x1024, .f32⟩
  | 33 => ⟨S8192x1024, .f32⟩
  | 34 => ⟨S_, .f32⟩
  | 35 => ⟨S8192x1024, .f32⟩
  | 36 => ⟨S8192x1024, .f32⟩
  | 37 => ⟨S_, .f32⟩
  | 38 => ⟨S8192, .f32⟩
  | 39 => ⟨S8192x1, .f32⟩
  | 40 => ⟨S_, .f32⟩
  | 41 => ⟨S8192x1, .f32⟩
  | 42 => ⟨S8192x1, .f32⟩
  | 43 => ⟨S8192x1024, .f32⟩
  | 44 => ⟨S8192x1024, .f32⟩
  | 45 => ⟨S_, .f32⟩
  | 46 => ⟨S8192x1, .f32⟩
  | 47 => ⟨S8192x1, .f32⟩
  | 48 => ⟨S8192x1, .f32⟩
  | 49 => ⟨S8192x1, .f32⟩
  | 50 => ⟨S_, .f32⟩
  | 51 => ⟨S8192x1, .f32⟩
  | 52 => ⟨S8192x1, .f32⟩
  | 53 => ⟨S8192x1024, .f32⟩
  | 54 => ⟨S8192x1024, .f32⟩
  | 55 => ⟨S1x1024, .f32⟩
  | 56 => ⟨S8192x1024, .f32⟩
  | 57 => ⟨S8192x1024, .f32⟩
  | 58 => ⟨S1x1024, .f32⟩
  | 59 => ⟨S8192x1024, .f32⟩
  | 60 => ⟨S8192x1024, .f32⟩
  | 61 => ⟨S_, .f32⟩
  | 62 => ⟨S8192, .f32⟩
  | 63 => ⟨S8192x1, .f32⟩
  | 64 => ⟨S_, .f32⟩
  | 65 => ⟨S8192x1, .f32⟩
  | 66 => ⟨S8192x1, .f32⟩
  | 67 => ⟨S8192x1024, .f32⟩
  | 68 => ⟨S8192x1024, .f32⟩
  | 69 => ⟨S8192x1024, .f32⟩
  | 70 => ⟨S_, .f32⟩
  | 71 => ⟨S8192x1024, .f32⟩
  | 72 => ⟨S8192x1024, .f32⟩
  | 73 => ⟨S_, .f32⟩
  | 74 => ⟨S8192, .f32⟩
  | 75 => ⟨S8192x1, .f32⟩
  | 76 => ⟨S_, .f32⟩
  | 77 => ⟨S8192x1, .f32⟩
  | 78 => ⟨S8192x1, .f32⟩
  | 79 => ⟨S8192x1024, .f32⟩
  | 80 => ⟨S8192x1024, .f32⟩
  | 81 => ⟨S_, .f32⟩
  | 82 => ⟨S8192x1, .f32⟩
  | 83 => ⟨S8192x1, .f32⟩
  | 84 => ⟨S8192x1, .f32⟩
  | 85 => ⟨S8192x1, .f32⟩
  | 86 => ⟨S_, .f32⟩
  | 87 => ⟨S8192x1, .f32⟩
  | 88 => ⟨S8192x1, .f32⟩
  | 89 => ⟨S8192x1024, .f32⟩
  | 90 => ⟨S8192x1024, .f32⟩
  | 91 => ⟨S1x1024, .f32⟩
  | 92 => ⟨S_, .f32⟩
  | 93 => ⟨S1x1024, .f32⟩
  | 94 => ⟨S1x1024, .f32⟩
  | 95 => ⟨S8192x1024, .f32⟩
  | 96 => ⟨S8192x1024, .f32⟩
  | 97 => ⟨S1x1024, .f32⟩
  | 98 => ⟨S8192x1024, .f32⟩
  | 99 => ⟨S8192x1024, .f32⟩
  | 100 => ⟨S8192x5632, .f32⟩
  | 101 => ⟨S8192x2816, .f32⟩
  | 102 => ⟨S8192x2816, .f32⟩
  | 103 => ⟨S8192x2816, .f32⟩
  | 104 => ⟨S8192x2816, .f32⟩
  | 105 => ⟨S_, .f32⟩
  | 106 => ⟨S8192x2816, .f32⟩
  | 107 => ⟨S8192x2816, .f32⟩
  | 108 => ⟨S_, .f32⟩
  | 109 => ⟨S8192x2816, .f32⟩
  | 110 => ⟨S8192x2816, .f32⟩
  | 111 => ⟨S_, .f32⟩
  | 112 => ⟨S8192x2816, .f32⟩
  | 113 => ⟨S8192x2816, .f32⟩
  | 114 => ⟨S8192x2816, .f32⟩
  | 115 => ⟨S8192x2816, .f32⟩
  | 116 => ⟨S8192x2816, .f32⟩
  | 117 => ⟨S8192x1024, .f32⟩
  | 118 => ⟨S1x1024, .f32⟩
  | 119 => ⟨S1024, .f32⟩
  | 120 => ⟨S1024, .f32⟩
  | 121 => ⟨S1024, .f32⟩
  | 122 => ⟨S_, .f32⟩
  | 123 => ⟨S8192x1024, .f32⟩
  | 124 => ⟨S8192x1024, .f32⟩
  | 125 => ⟨S1x1024, .f32⟩
  | 126 => ⟨S8192x1024, .f32⟩
  | 127 => ⟨S8192x1024, .f32⟩
  | _ => ⟨S8192x1024, .f32⟩

abbrev hbmTy0_1 (i : Nat) : BufTy := match i % 128 with
  | 0 => ⟨S8192x1024, .f32⟩
  | 1 => ⟨S_, .f32⟩
  | 2 => ⟨S8192, .f32⟩
  | 3 => ⟨S8192x1, .f32⟩
  | 4 => ⟨S_, .f32⟩
  | 5 => ⟨S8192x1, .f32⟩
  | 6 => ⟨S8192x1, .f32⟩
  | 7 => ⟨S8192x1024, .f32⟩
  | 8 => ⟨S8192x1024, .f32⟩
  | 9 => ⟨S8192x1024, .f32⟩
  | 10 => ⟨S_, .f32⟩
  | 11 => ⟨S8192x1024, .f32⟩
  | 12 => ⟨S8192x1024, .f32⟩
  | 13 => ⟨S_, .f32⟩
  | 14 => ⟨S8192, .f32⟩
  | 15 => ⟨S8192x1, .f32⟩
  | 16 => ⟨S_, .f32⟩
  | 17 => ⟨S8192x1, .f32⟩
  | 18 => ⟨S8192x1, .f32⟩
  | 19 => ⟨S8192x1024, .f32⟩
  | 20 => ⟨S8192x1024, .f32⟩
  | 21 => ⟨S_, .f32⟩
  | 22 => ⟨S8192x1, .f32⟩
  | 23 => ⟨S8192x1, .f32⟩
  | 24 => ⟨S8192x1, .f32⟩
  | 25 => ⟨S8192x1, .f32⟩
  | 26 => ⟨S_, .f32⟩
  | 27 => ⟨S8192x1, .f32⟩
  | 28 => ⟨S8192x1, .f32⟩
  | 29 => ⟨S8192x1024, .f32⟩
  | 30 => ⟨S8192x1024, .f32⟩
  | 31 => ⟨S1x1024, .f32⟩
  | 32 => ⟨S8192x1024, .f32⟩
  | 33 => ⟨S8192x1024, .f32⟩
  | 34 => ⟨S1x1024, .f32⟩
  | 35 => ⟨S8192x1024, .f32⟩
  | 36 => ⟨S8192x1024, .f32⟩
  | 37 => ⟨S8192x1024, .f32⟩
  | 38 => ⟨S8192x1024, .f32⟩
  | 39 => ⟨S_, .f32⟩
  | 40 => ⟨S8192x1024, .f32⟩
  | 41 => ⟨S8192x1024, .f32⟩
  | 42 => ⟨S_, .f32⟩
  | 43 => ⟨S8192, .f32⟩
  | 44 => ⟨S_, .f32⟩
  | 45 => ⟨S8192, .f32⟩
  | 46 => ⟨S8192, .f32⟩
  | 47 => ⟨S_, .f32⟩
  | 48 => ⟨S_, .f32⟩
  | 49 => ⟨S_, .f32⟩
  | 50 => ⟨S_, .f32⟩
  | 51 => ⟨S8192x1024, .f32⟩
  | 52 => ⟨S_, .f32⟩
  | 53 => ⟨S_, .f32⟩
  | 54 => ⟨S_, .f32⟩
  | 55 => ⟨S8192, .f32⟩
  | 56 => ⟨S_, .f32⟩
  | 57 => ⟨S8192, .f32⟩
  | 58 => ⟨S8192, .f32⟩
  | 59 => ⟨S8192x1024, .f32⟩
  | 60 => ⟨S8192x1024, .f32⟩
  | 61 => ⟨S_, .f32⟩
  | 62 => ⟨S1024, .f32⟩
  | 63 => ⟨S1x1024, .f32⟩
  | 64 => ⟨S_, .f32⟩
  | 65 => ⟨S1024, .f32⟩
  | 66 => ⟨S8192x1024, .f32⟩
  | 67 => ⟨S_, .f32⟩
  | 68 => ⟨S1024, .f32⟩
  | 69 => ⟨S1x1024, .f32⟩
  | 70 => ⟨S8192x1024, .f32⟩
  | 71 => ⟨S8192x1024, .f32⟩
  | 72 => ⟨S_, .f32⟩
  | 73 => ⟨S1024, .f32⟩
  | 74 => ⟨S8192x1024, .f32⟩
  | 75 => ⟨S_, .f32⟩
  | 76 => ⟨S8192, .f32⟩
  | 77 => ⟨S8192x1, .f32⟩
  | 78 => ⟨S8192x1024, .f32⟩
  | 79 => ⟨S8192x1024, .f32⟩
  | 80 => ⟨S8192x1, .f32⟩
  | 81 => ⟨S8192x1024, .f32⟩
  | 82 => ⟨S_, .f32⟩
  | 83 => ⟨S8192, .f32⟩
  | 84 => ⟨S8192x1, .f32⟩
  | 85 => ⟨S_, .f32⟩
  | 86 => ⟨S8192x1, .f32⟩
  | 87 => ⟨S8192x1, .f32⟩
  | 88 => ⟨S_, .f32⟩
  | 89 => ⟨S8192, .f32⟩
  | 90 => ⟨S8192x1024, .f32⟩
  | 91 => ⟨S8192x1024, .f32⟩
  | 92 => ⟨S8192x1024, .f32⟩
  | 93 => ⟨S_, .f32⟩
  | 94 => ⟨S8192, .f32⟩
  | 95 => ⟨S8192x1, .f32⟩
  | 96 => ⟨S8192x1024, .f32⟩
  | 97 => ⟨S8192x1, .f32⟩
  | 98 => ⟨S_, .f32⟩
  | 99 => ⟨S8192x1, .f32⟩
  | 100 => ⟨S8192x1, .f32⟩
  | 101 => ⟨S_, .f32⟩
  | 102 => ⟨S8192, .f32⟩
  | 103 => ⟨S8192x1024, .f32⟩
  | 104 => ⟨S8192x1024, .f32⟩
  | 105 => ⟨S8192x1024, .f32⟩
  | 106 => ⟨S8192x1024, .f32⟩
  | 107 => ⟨S8192x1024, .f32⟩
  | 108 => ⟨S_, .f32⟩
  | 109 => ⟨S1024, .f32⟩
  | 110 => ⟨S1x1024, .f32⟩
  | 111 => ⟨S_, .f32⟩
  | 112 => ⟨S1024, .f32⟩
  | 113 => ⟨S_, .f32⟩
  | 114 => ⟨S8192x1024, .f32⟩
  | 115 => ⟨S8192x1024, .f32⟩
  | 116 => ⟨S8192x2816, .f32⟩
  | 117 => ⟨S8192x2816, .f32⟩
  | 118 => ⟨S8192x2816, .f32⟩
  | 119 => ⟨S8192x2816, .f32⟩
  | 120 => ⟨S8192x2816, .f32⟩
  | 121 => ⟨S8192x2816, .f32⟩
  | 122 => ⟨S8192x2816, .f32⟩
  | 123 => ⟨S8192x5632, .f32⟩
  | 124 => ⟨S8192x1024, .f32⟩
  | 125 => ⟨S_, .f32⟩
  | 126 => ⟨S1024, .f32⟩
  | 127 => ⟨S1x1024, .f32⟩
  | _ => ⟨S8192x1024, .f32⟩

abbrev hbmTy0_2 (i : Nat) : BufTy := match i % 128 with
  | 0 => ⟨S_, .f32⟩
  | 1 => ⟨S1024, .f32⟩
  | 2 => ⟨S8192x1024, .f32⟩
  | 3 => ⟨S_, .f32⟩
  | 4 => ⟨S1024, .f32⟩
  | 5 => ⟨S1x1024, .f32⟩
  | 6 => ⟨S8192x1024, .f32⟩
  | 7 => ⟨S8192x1024, .f32⟩
  | 8 => ⟨S_, .f32⟩
  | 9 => ⟨S1024, .f32⟩
  | 10 => ⟨S8192x1024, .f32⟩
  | 11 => ⟨S_, .f32⟩
  | 12 => ⟨S8192, .f32⟩
  | 13 => ⟨S8192x1, .f32⟩
  | 14 => ⟨S8192x1024, .f32⟩
  | 15 => ⟨S8192x1024, .f32⟩
  | 16 => ⟨S8192x1, .f32⟩
  | 17 => ⟨S8192x1024, .f32⟩
  | 18 => ⟨S_, .f32⟩
  | 19 => ⟨S8192, .f32⟩
  | 20 => ⟨S8192x1, .f32⟩
  | 21 => ⟨S8192x1024, .f32⟩
  | 22 => ⟨S_, .f32⟩
  | 23 => ⟨S8192x1, .f32⟩
  | 24 => ⟨S8192x1, .f32⟩
  | 25 => ⟨S_, .f32⟩
  | 26 => ⟨S8192, .f32⟩
  | 27 => ⟨S8192x1024, .f32⟩
  | 28 => ⟨S8192x1024, .f32⟩
  | 29 => ⟨S8192x1024, .f32⟩
  | 30 => ⟨S_, .f32⟩
  | 31 => ⟨S8192, .f32⟩
  | 32 => ⟨S8192x1, .f32⟩
  | 33 => ⟨S8192x1024, .f32⟩
  | 34 => ⟨S8192x1, .f32⟩
  | 35 => ⟨S_, .f32⟩
  | 36 => ⟨S8192x1, .f32⟩
  | 37 => ⟨S8192x1, .f32⟩
  | 38 => ⟨S_, .f32⟩
  | 39 => ⟨S8192, .f32⟩
  | 40 => ⟨S8192x1024, .f32⟩
  | 41 => ⟨S8192x1024, .f32⟩
  | 42 => ⟨S_, .f32⟩
  | 43 => ⟨S1024, .f32⟩
  | 44 => ⟨S1x1024, .f32⟩
  | 45 => ⟨S_, .f32⟩
  | 46 => ⟨S1024, .f32⟩
  | 47 => ⟨S8192x1024, .f32⟩
  | 48 => ⟨S_, .f32⟩
  | 49 => ⟨S1024, .f32⟩
  | 50 => ⟨S1x1024, .f32⟩
  | 51 => ⟨S8192x1024, .f32⟩
  | 52 => ⟨S8192x1024, .f32⟩
  | 53 => ⟨S_, .f32⟩
  | 54 => ⟨S1024, .f32⟩
  | 55 => ⟨S8192x1024, .f32⟩
  | 56 => ⟨S_, .f32⟩
  | 57 => ⟨S8192, .f32⟩
  | 58 => ⟨S8192x1, .f32⟩
  | 59 => ⟨S8192x1024, .f32⟩
  | 60 => ⟨S8192x1024, .f32⟩
  | 61 => ⟨S8192x1, .f32⟩
  | 62 => ⟨S8192x1024, .f32⟩
  | 63 => ⟨S_, .f32⟩
  | 64 => ⟨S8192, .f32⟩
  | 65 => ⟨S8192x1, .f32⟩
  | 66 => ⟨S_, .f32⟩
  | 67 => ⟨S8192x1, .f32⟩
  | 68 => ⟨S8192x1, .f32⟩
  | 69 => ⟨S_, .f32⟩
  | 70 => ⟨S8192, .f32⟩
  | 71 => ⟨S8192x1024, .f32⟩
  | 72 => ⟨S8192x1024, .f32⟩
  | 73 => ⟨S8192x1024, .f32⟩
  | 74 => ⟨S_, .f32⟩
  | 75 => ⟨S8192, .f32⟩
  | 76 => ⟨S8192x1, .f32⟩
  | 77 => ⟨S8192x1024, .f32⟩
  | 78 => ⟨S8192x1, .f32⟩
  | 79 => ⟨S_, .f32⟩
  | 80 => ⟨S8192x1, .f32⟩
  | 81 => ⟨S8192x1, .f32⟩
  | 82 => ⟨S_, .f32⟩
  | 83 => ⟨S8192, .f32⟩
  | 84 => ⟨S8192x1024, .f32⟩
  | 85 => ⟨S8192x1024, .f32⟩
  | 86 => ⟨S8192x1024, .f32⟩
  | 87 => ⟨S_, .f32⟩
  | 88 => ⟨S1024, .f32⟩
  | 89 => ⟨S1x1024, .f32⟩
  | 90 => ⟨S_, .f32⟩
  | 91 => ⟨S1024, .f32⟩
  | 92 => ⟨S_, .f32⟩
  | 93 => ⟨S1024, .f32⟩
  | 94 => ⟨S8192x1024, .f32⟩
  | 95 => ⟨S_, .f32⟩
  | 96 => ⟨S1024, .f32⟩
  | 97 => ⟨S8192x2816, .bf16⟩
  | 98 => ⟨S8192x1024, .bf16⟩
  | 99 => ⟨S8192x5632, .bf16⟩
  | 100 => ⟨S8192x1024, .bf16⟩
  | 101 => ⟨S1x1024, .f32⟩
  | 102 => ⟨S1x1024, .f32⟩
  | 103 => ⟨S1x1024, .f32⟩
  | 104 => ⟨S1x1024, .f32⟩
  | 105 => ⟨S1x1024, .f32⟩
  | 106 => ⟨S1x1024, .f32⟩
  | 107 => ⟨S1x1024, .f32⟩
  | 108 => ⟨S1x1024, .f32⟩
  | 109 => ⟨S1x1024, .f32⟩
  | 110 => ⟨S1x1024, .f32⟩
  | 111 => ⟨S1x1024, .f32⟩
  | 112 => ⟨S1x1024, .f32⟩
  | 113 => ⟨S1x1024, .f32⟩
  | 114 => ⟨S1x1024, .f32⟩
  | 115 => ⟨S1x1024, .f32⟩
  | 116 => ⟨S1x1024, .f32⟩
  | 117 => ⟨S16x1024, .f32⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_7 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_9 : Ref sig .tc := ⟨.hbm, 70, rfl⟩
abbrev main_v50 : Ref sig .tc := ⟨.hbm, 71, rfl⟩
abbrev main_v51 : Ref sig .tc := ⟨.hbm, 72, rfl⟩
abbrev main_cst_10 : Ref sig .tc := ⟨.hbm, 73, rfl⟩
abbrev main_v52 : Ref sig .tc := ⟨.hbm, 74, rfl⟩
abbrev main_v53 : Ref sig .tc := ⟨.hbm, 75, rfl⟩
abbrev main_cst_11 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_12 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_13 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_14 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_call0_v0 : Ref sig .tc := ⟨.hbm, 103, rfl⟩
abbrev main_call0_v1 : Ref sig .tc := ⟨.hbm, 104, rfl⟩
abbrev main_call0_cst : Ref sig .tc := ⟨.hbm, 105, rfl⟩
abbrev main_call0_v2 : Ref sig .tc := ⟨.hbm, 106, rfl⟩
abbrev main_call0_v3 : Ref sig .tc := ⟨.hbm, 107, rfl⟩
abbrev main_call0_cst_0 : Ref sig .tc := ⟨.hbm, 108, rfl⟩
abbrev main_call0_v4 : Ref sig .tc := ⟨.hbm, 109, rfl⟩
abbrev main_v77_2 : Ref sig .tc := ⟨.hbm, 110, rfl⟩
abbrev main_call0_cst_1 : Ref sig .tc := ⟨.hbm, 111, rfl⟩
abbrev main_call0_v6 : Ref sig .tc := ⟨.hbm, 112, rfl⟩
abbrev main_call0_v7 : Ref sig .tc := ⟨.hbm, 113, rfl⟩
abbrev main_v77_1 : Ref sig .tc := ⟨.hbm, 114, rfl⟩
abbrev main_v77_0 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_cst_15 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_cst_16 : Ref sig .tc := ⟨.hbm, 129, rfl⟩
abbrev main_v90 : Ref sig .tc := ⟨.hbm, 130, rfl⟩
abbrev main_v91 : Ref sig .tc := ⟨.hbm, 131, rfl⟩
abbrev main_cst_17 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_cst_18 : Ref sig .tc := ⟨.hbm, 138, rfl⟩
abbrev main_v97 : Ref sig .tc := ⟨.hbm, 139, rfl⟩
abbrev main_v98 : Ref sig .tc := ⟨.hbm, 140, rfl⟩
abbrev main_cst_19 : Ref sig .tc := ⟨.hbm, 141, rfl⟩
abbrev main_v99 : Ref sig .tc := ⟨.hbm, 142, rfl⟩
abbrev main_v100 : Ref sig .tc := ⟨.hbm, 143, rfl⟩
abbrev main_cst_20 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_cst_21 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_cst_22 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_cst_23 : Ref sig .tc := ⟨.hbm, 167, rfl⟩
abbrev main_v121 : Ref sig .tc := ⟨.hbm, 168, rfl⟩
abbrev main_v122 : Ref sig .tc := ⟨.hbm, 169, rfl⟩
abbrev main_cst_24 : Ref sig .tc := ⟨.hbm, 170, rfl⟩
abbrev main_v123 : Ref sig .tc := ⟨.hbm, 171, rfl⟩
abbrev main_cst_25 : Ref sig .tc := ⟨.hbm, 172, rfl⟩
abbrev main_v124 : Ref sig .tc := ⟨.hbm, 173, rfl⟩
abbrev main_v125 : Ref sig .tc := ⟨.hbm, 174, rfl⟩
abbrev main_cst_26 : Ref sig .tc := ⟨.hbm, 175, rfl⟩
abbrev main_v126 : Ref sig .tc := ⟨.hbm, 176, rfl⟩
abbrev main_cst_27 : Ref sig .tc := ⟨.hbm, 177, rfl⟩
abbrev main_v127 : Ref sig .tc := ⟨.hbm, 178, rfl⟩
abbrev main_v128 : Ref sig .tc := ⟨.hbm, 179, rfl⟩
abbrev main_cst_28 : Ref sig .tc := ⟨.hbm, 180, rfl⟩
abbrev main_cst_29 : Ref sig .tc := ⟨.hbm, 181, rfl⟩
abbrev main_v129 : Ref sig .tc := ⟨.hbm, 182, rfl⟩
abbrev main_v130 : Ref sig .tc := ⟨.hbm, 183, rfl⟩
abbrev main_cst_30 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_cst_31 : Ref sig .tc := ⟨.hbm, 189, rfl⟩
abbrev main_v135 : Ref sig .tc := ⟨.hbm, 190, rfl⟩
abbrev main_v136 : Ref sig .tc := ⟨.hbm, 191, rfl⟩
abbrev main_cst_32 : Ref sig .tc := ⟨.hbm, 192, rfl⟩
abbrev main_v137 : Ref sig .tc := ⟨.hbm, 193, rfl⟩
abbrev main_v138 : Ref sig .tc := ⟨.hbm, 194, rfl⟩
abbrev main_cst_33 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_cst_34 : Ref sig .tc := ⟨.hbm, 200, rfl⟩
abbrev main_v143 : Ref sig .tc := ⟨.hbm, 201, rfl⟩
abbrev main_v144 : Ref sig .tc := ⟨.hbm, 202, rfl⟩
abbrev main_cst_35 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_cst_36 : Ref sig .tc := ⟨.hbm, 210, rfl⟩
abbrev main_v151 : Ref sig .tc := ⟨.hbm, 211, rfl⟩
abbrev main_v152 : Ref sig .tc := ⟨.hbm, 212, rfl⟩
abbrev main_cst_37 : Ref sig .tc := ⟨.hbm, 213, rfl⟩
abbrev main_v153 : Ref sig .tc := ⟨.hbm, 214, rfl⟩
abbrev main_v154 : Ref sig .tc := ⟨.hbm, 215, rfl⟩
abbrev main_cst_38 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_cst_39 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_cst_40 : Ref sig .tc := ⟨.hbm, 226, rfl⟩
abbrev main_v163 : Ref sig .tc := ⟨.hbm, 227, rfl⟩
abbrev main_v164 : Ref sig .tc := ⟨.hbm, 228, rfl⟩
abbrev main_cst_41 : Ref sig .tc := ⟨.hbm, 229, rfl⟩
abbrev main_v165 : Ref sig .tc := ⟨.hbm, 230, rfl⟩
abbrev main_v166 : Ref sig .tc := ⟨.hbm, 231, rfl⟩
abbrev main_v167 : Ref sig .tc := ⟨.hbm, 232, rfl⟩
abbrev main_v168 : Ref sig .tc := ⟨.hbm, 233, rfl⟩
abbrev main_v169 : Ref sig .tc := ⟨.hbm, 234, rfl⟩
abbrev main_v170 : Ref sig .tc := ⟨.hbm, 235, rfl⟩
abbrev main_cst_42 : Ref sig .tc := ⟨.hbm, 236, rfl⟩
abbrev main_v171 : Ref sig .tc := ⟨.hbm, 237, rfl⟩
abbrev main_v172 : Ref sig .tc := ⟨.hbm, 238, rfl⟩
abbrev main_cst_43 : Ref sig .tc := ⟨.hbm, 239, rfl⟩
abbrev main_v173 : Ref sig .tc := ⟨.hbm, 240, rfl⟩
abbrev main_cst_44 : Ref sig .tc := ⟨.hbm, 241, rfl⟩
abbrev main_v174 : Ref sig .tc := ⟨.hbm, 242, rfl⟩
abbrev main_v175 : Ref sig .tc := ⟨.hbm, 243, rfl⟩
abbrev main_v176 : Ref sig .tc := ⟨.hbm, 244, rfl⟩
abbrev main_v177 : Ref sig .tc := ⟨.hbm, 245, rfl⟩
abbrev main_v178 : Ref sig .tc := ⟨.hbm, 246, rfl⟩
abbrev main_call1_v0 : Ref sig .tc := ⟨.hbm, 247, rfl⟩
abbrev main_call1_v1 : Ref sig .tc := ⟨.hbm, 248, rfl⟩
abbrev main_call1_v2 : Ref sig .tc := ⟨.hbm, 249, rfl⟩
abbrev main_v179 : Ref sig .tc := ⟨.hbm, 250, rfl⟩
abbrev main_v180 : Ref sig .tc := ⟨.hbm, 251, rfl⟩
abbrev main_v181 : Ref sig .tc := ⟨.hbm, 252, rfl⟩
abbrev main_cst_45 : Ref sig .tc := ⟨.hbm, 253, rfl⟩
abbrev main_v182 : Ref sig .tc := ⟨.hbm, 254, rfl⟩
abbrev main_v183 : Ref sig .tc := ⟨.hbm, 255, rfl⟩
abbrev main_cst_46 : Ref sig .tc := ⟨.hbm, 256, rfl⟩
abbrev main_v184 : Ref sig .tc := ⟨.hbm, 257, rfl⟩
abbrev main_v185 : Ref sig .tc := ⟨.hbm, 258, rfl⟩
abbrev main_cst_47 : Ref sig .tc := ⟨.hbm, 259, rfl⟩
abbrev main_v186 : Ref sig .tc := ⟨.hbm, 260, rfl⟩
abbrev main_v187 : Ref sig .tc := ⟨.hbm, 261, rfl⟩
abbrev main_v188 : Ref sig .tc := ⟨.hbm, 262, rfl⟩
abbrev main_v189 : Ref sig .tc := ⟨.hbm, 263, rfl⟩
abbrev main_cst_48 : Ref sig .tc := ⟨.hbm, 264, rfl⟩
abbrev main_v190 : Ref sig .tc := ⟨.hbm, 265, rfl⟩
abbrev main_v191 : Ref sig .tc := ⟨.hbm, 266, rfl⟩
abbrev main_cst_49 : Ref sig .tc := ⟨.hbm, 267, rfl⟩
abbrev main_v192 : Ref sig .tc := ⟨.hbm, 268, rfl⟩
abbrev main_v193 : Ref sig .tc := ⟨.hbm, 269, rfl⟩
abbrev main_v194 : Ref sig .tc := ⟨.hbm, 270, rfl⟩
abbrev main_v195 : Ref sig .tc := ⟨.hbm, 271, rfl⟩
abbrev main_v196 : Ref sig .tc := ⟨.hbm, 272, rfl⟩
abbrev main_v197 : Ref sig .tc := ⟨.hbm, 273, rfl⟩
abbrev main_cst_50 : Ref sig .tc := ⟨.hbm, 274, rfl⟩
abbrev main_v198 : Ref sig .tc := ⟨.hbm, 275, rfl⟩
abbrev main_v199 : Ref sig .tc := ⟨.hbm, 276, rfl⟩
abbrev main_v200 : Ref sig .tc := ⟨.hbm, 277, rfl⟩
abbrev main_cst_51 : Ref sig .tc := ⟨.hbm, 278, rfl⟩
abbrev main_v201 : Ref sig .tc := ⟨.hbm, 279, rfl⟩
abbrev main_v202 : Ref sig .tc := ⟨.hbm, 280, rfl⟩
abbrev main_cst_52 : Ref sig .tc := ⟨.hbm, 281, rfl⟩
abbrev main_v203 : Ref sig .tc := ⟨.hbm, 282, rfl⟩
abbrev main_v204 : Ref sig .tc := ⟨.hbm, 283, rfl⟩
abbrev main_v205 : Ref sig .tc := ⟨.hbm, 284, rfl⟩
abbrev main_v206 : Ref sig .tc := ⟨.hbm, 285, rfl⟩
abbrev main_cst_53 : Ref sig .tc := ⟨.hbm, 286, rfl⟩
abbrev main_v207 : Ref sig .tc := ⟨.hbm, 287, rfl⟩
abbrev main_v208 : Ref sig .tc := ⟨.hbm, 288, rfl⟩
abbrev main_v209 : Ref sig .tc := ⟨.hbm, 289, rfl⟩
abbrev main_v210 : Ref sig .tc := ⟨.hbm, 290, rfl⟩
abbrev main_cst_54 : Ref sig .tc := ⟨.hbm, 291, rfl⟩
abbrev main_v211 : Ref sig .tc := ⟨.hbm, 292, rfl⟩
abbrev main_v212 : Ref sig .tc := ⟨.hbm, 293, rfl⟩
abbrev main_cst_55 : Ref sig .tc := ⟨.hbm, 294, rfl⟩
abbrev main_v213 : Ref sig .tc := ⟨.hbm, 295, rfl⟩
abbrev main_v214 : Ref sig .tc := ⟨.hbm, 296, rfl⟩
abbrev main_v215 : Ref sig .tc := ⟨.hbm, 297, rfl⟩
abbrev main_cst_56 : Ref sig .tc := ⟨.hbm, 298, rfl⟩
abbrev main_v216 : Ref sig .tc := ⟨.hbm, 299, rfl⟩
abbrev main_v217 : Ref sig .tc := ⟨.hbm, 300, rfl⟩
abbrev main_cst_57 : Ref sig .tc := ⟨.hbm, 301, rfl⟩
abbrev main_v218 : Ref sig .tc := ⟨.hbm, 302, rfl⟩
abbrev main_v219 : Ref sig .tc := ⟨.hbm, 303, rfl⟩
abbrev main_cst_58 : Ref sig .tc := ⟨.hbm, 304, rfl⟩
abbrev main_v220 : Ref sig .tc := ⟨.hbm, 305, rfl⟩
abbrev main_v221 : Ref sig .tc := ⟨.hbm, 306, rfl⟩
abbrev main_v222 : Ref sig .tc := ⟨.hbm, 307, rfl⟩
abbrev main_v223 : Ref sig .tc := ⟨.hbm, 308, rfl⟩
abbrev main_cst_59 : Ref sig .tc := ⟨.hbm, 309, rfl⟩
abbrev main_v224 : Ref sig .tc := ⟨.hbm, 310, rfl⟩
abbrev main_v225 : Ref sig .tc := ⟨.hbm, 311, rfl⟩
abbrev main_cst_60 : Ref sig .tc := ⟨.hbm, 312, rfl⟩
abbrev main_v226 : Ref sig .tc := ⟨.hbm, 313, rfl⟩
abbrev main_v227 : Ref sig .tc := ⟨.hbm, 314, rfl⟩
abbrev main_v228 : Ref sig .tc := ⟨.hbm, 315, rfl⟩
abbrev main_v229 : Ref sig .tc := ⟨.hbm, 316, rfl⟩
abbrev main_v230 : Ref sig .tc := ⟨.hbm, 317, rfl⟩
abbrev main_v231 : Ref sig .tc := ⟨.hbm, 318, rfl⟩
abbrev main_cst_61 : Ref sig .tc := ⟨.hbm, 319, rfl⟩
abbrev main_v232 : Ref sig .tc := ⟨.hbm, 320, rfl⟩
abbrev main_v233 : Ref sig .tc := ⟨.hbm, 321, rfl⟩
abbrev main_cst_62 : Ref sig .tc := ⟨.hbm, 322, rfl⟩
abbrev main_v234 : Ref sig .tc := ⟨.hbm, 323, rfl⟩
abbrev main_v235 : Ref sig .tc := ⟨.hbm, 324, rfl⟩
abbrev main_cst_63 : Ref sig .tc := ⟨.hbm, 325, rfl⟩
abbrev main_v236 : Ref sig .tc := ⟨.hbm, 326, rfl⟩
abbrev main_v237 : Ref sig .tc := ⟨.hbm, 327, rfl⟩
abbrev main_v238 : Ref sig .tc := ⟨.hbm, 328, rfl⟩
abbrev main_v239 : Ref sig .tc := ⟨.hbm, 329, rfl⟩
abbrev main_cst_64 : Ref sig .tc := ⟨.hbm, 330, rfl⟩
abbrev main_v240 : Ref sig .tc := ⟨.hbm, 331, rfl⟩
abbrev main_v241 : Ref sig .tc := ⟨.hbm, 332, rfl⟩
abbrev main_v242 : Ref sig .tc := ⟨.hbm, 333, rfl⟩
abbrev main_v243 : Ref sig .tc := ⟨.hbm, 334, rfl⟩
abbrev main_cst_65 : Ref sig .tc := ⟨.hbm, 335, rfl⟩
abbrev main_v244 : Ref sig .tc := ⟨.hbm, 336, rfl⟩
abbrev main_v245 : Ref sig .tc := ⟨.hbm, 337, rfl⟩
abbrev main_cst_66 : Ref sig .tc := ⟨.hbm, 338, rfl⟩
abbrev main_v246 : Ref sig .tc := ⟨.hbm, 339, rfl⟩
abbrev main_v247 : Ref sig .tc := ⟨.hbm, 340, rfl⟩
abbrev main_v248 : Ref sig .tc := ⟨.hbm, 341, rfl⟩
abbrev main_v249 : Ref sig .tc := ⟨.hbm, 342, rfl⟩
abbrev main_cst_67 : Ref sig .tc := ⟨.hbm, 343, rfl⟩
abbrev main_v250 : Ref sig .tc := ⟨.hbm, 344, rfl⟩
abbrev main_v251 : Ref sig .tc := ⟨.hbm, 345, rfl⟩
abbrev main_cst_68 : Ref sig .tc := ⟨.hbm, 346, rfl⟩
abbrev main_v252 : Ref sig .tc := ⟨.hbm, 347, rfl⟩
abbrev main_cst_69 : Ref sig .tc := ⟨.hbm, 348, rfl⟩
abbrev main_v253 : Ref sig .tc := ⟨.hbm, 349, rfl⟩
abbrev main_v254 : Ref sig .tc := ⟨.hbm, 350, rfl⟩
abbrev main_cst_70 : Ref sig .tc := ⟨.hbm, 351, rfl⟩
abbrev main_v255 : Ref sig .tc := ⟨.hbm, 352, rfl⟩
abbrev main_v256 : Ref sig .tc := ⟨.hbm, 353, rfl⟩
abbrev main_v257 : Ref sig .tc := ⟨.hbm, 354, rfl⟩
abbrev main_v258 : Ref sig .tc := ⟨.hbm, 355, rfl⟩
abbrev main_v259 : Ref sig .tc := ⟨.hbm, 356, rfl⟩
abbrev main_v260 : Ref sig .tc := ⟨.hbm, 357, rfl⟩
abbrev main_v261 : Ref sig .tc := ⟨.hbm, 358, rfl⟩
abbrev main_v262 : Ref sig .tc := ⟨.hbm, 359, rfl⟩
abbrev main_v263 : Ref sig .tc := ⟨.hbm, 360, rfl⟩
abbrev main_v264 : Ref sig .tc := ⟨.hbm, 361, rfl⟩
abbrev main_v265 : Ref sig .tc := ⟨.hbm, 362, rfl⟩
abbrev main_v266 : Ref sig .tc := ⟨.hbm, 363, rfl⟩
abbrev main_v267 : Ref sig .tc := ⟨.hbm, 364, rfl⟩
abbrev main_v268 : Ref sig .tc := ⟨.hbm, 365, rfl⟩
abbrev main_v269 : Ref sig .tc := ⟨.hbm, 366, rfl⟩
abbrev main_v270 : Ref sig .tc := ⟨.hbm, 367, rfl⟩
abbrev main_v271 : Ref sig .tc := ⟨.hbm, 368, rfl⟩
abbrev main_v272 : Ref sig .tc := ⟨.hbm, 369, rfl⟩
abbrev main_v273 : Ref sig .tc := ⟨.hbm, 370, rfl⟩
abbrev main_v274 : Ref sig .tc := ⟨.hbm, 371, rfl⟩
abbrev main_v275 : Ref sig .tc := ⟨.hbm, 372, rfl⟩
abbrev main_v276 : Ref sig .tc := ⟨.hbm, 373, rfl⟩

abbrev nD : Nat := 1
abbrev τ : Topo := Topo.v7x

variable {F : FTy → Type} [FloatOps F]
-- ==== KernelWOut.lean ====
abbrev S8192x2816 : Shape := ⟨2, ![8192, 2816]⟩
abbrev S8192x1024 : Shape := ⟨2, ![8192, 1024]⟩
abbrev S2816x1024 : Shape := ⟨2, ![2816, 1024]⟩
abbrev S2048x2816 : Shape := ⟨2, ![2048, 2816]⟩
abbrev S2048x512 : Shape := ⟨2, ![2048, 512]⟩
abbrev S2816x512 : Shape := ⟨2, ![2816, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S2048x2816, .bf16⟩
  | .local _ .vmem, ⟨1, _⟩ => ⟨S2048x2816, .bf16⟩
  | .local _ .vmem, ⟨2, _⟩ => ⟨S2048x512, .bf16⟩
  | .local _ .vmem, ⟨3, _⟩ => ⟨S2048x512, .bf16⟩
  | .local _ .vmem, ⟨4, _⟩ => ⟨S2816x512, .bf16⟩
  | .local _ .vmem, ⟨5, _⟩ => ⟨S2816x512, .bf16⟩
  | .local _ .vmem, ⟨6, _⟩ => ⟨S2816x512, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2816x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceWOutIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelWIn.lean ====
abbrev S8192x1024 : Shape := ⟨2, ![8192, 1024]⟩
abbrev S8192x5632 : Shape := ⟨2, ![8192, 5632]⟩
abbrev S4x1024x1408 : Shape := ⟨3, ![4, 1024, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S4x1024x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceWInIdeal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S_, .f32⟩
  | .hbm, ⟨3, _⟩ => ⟨S1024x5632, .f32⟩
  | .hbm, ⟨4, _⟩ => ⟨S8192x1024, .f32⟩
  | .hbm, ⟨5, _⟩ => ⟨S8192x5632, .f32⟩
  | .hbm, ⟨6, _⟩ => ⟨S8192x5632, .f32⟩
  | .hbm, ⟨7, _⟩ => ⟨S5632x1024, .f32⟩
  | .hbm, ⟨8, _⟩ => ⟨S1024x5632, .f32⟩
  | .hbm, ⟨9, _⟩ => ⟨S1024x4x1408, .f32⟩
  | .hbm, ⟨10, _⟩ => ⟨S4x1024x1408, .f32⟩
  | .hbm, ⟨11, _⟩ => ⟨S4x1024x1408, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelProj.lean ====
abbrev S8192x1024 : Shape := ⟨2, ![8192, 1024]⟩
abbrev S6x1024 : Shape := ⟨2, ![6, 1024]⟩
abbrev S1024x3840 : Shape := ⟨2, ![1024, 3840]⟩
abbrev S8192 : Shape := ⟨1, ![8192]⟩
abbrev S8192x512 : Shape := ⟨2, ![8192, 512]⟩
abbrev S8192x256 : Shape := ⟨2, ![8192, 256]⟩
abbrev S8192x3072 : Shape := ⟨2, ![8192, 3072]⟩
abbrev S2x1024 : Shape := ⟨2, ![2, 1024]⟩
abbrev S_ : Shape := ⟨0, ![]⟩
abbrev S8x1024 : Shape := ⟨2, ![8, 1024]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S3840x1024 : Shape := ⟨2, ![3840, 1024]⟩
abbrev S8192x768 : Shape := ⟨2, ![8192, 768]⟩
abbrev S512x512 : Shape := ⟨2, ![512, 512]⟩
abbrev S512x256 : Shape := ⟨2, ![512, 256]⟩
abbrev S512x3072 : Shape := ⟨2, ![512, 3072]⟩
abbrev S512x1024 : Shape := ⟨2, ![512, 1024]⟩
abbrev S512x128 : Shape := ⟨2, ![512, 128]⟩
abbrev S512x768 : Shape := ⟨2, ![512, 768]⟩
abbrev S768x1024 : Shape := ⟨2, ![768, 1024]⟩
abbrev S3072x1024 : Shape := ⟨2, ![3072, 1024]⟩
abbrev S512 : Shape := ⟨1, ![512]⟩
abbrev S512x1 : Shape := ⟨2, ![512, 1]⟩
abbrev S1x1024 : Shape := ⟨2, ![1, 1024]⟩
abbrev S1024 : Shape := ⟨1, ![1024]⟩

abbrev nBuf : Space → Nat
  | .hbm => 56
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S6x1024, .f32⟩
  | .hbm, ⟨2, _⟩ => ⟨S1024x3840, .f32⟩
  | .hbm, ⟨3, _⟩ => ⟨S8192, .i32⟩
  | .hbm, ⟨4, _⟩ => ⟨S8192, .i32⟩
  | .hbm, ⟨5, _⟩ => ⟨S8192x512, .f32⟩
  | .hbm, ⟨6, _⟩ => ⟨S8192x256, .f32⟩
  | .hbm, ⟨7, _⟩ => ⟨S8192x3072, .bf16⟩
  | .hbm, ⟨8, _⟩ => ⟨S8192x1024, .f32⟩
  | .hbm, ⟨9, _⟩ => ⟨S2x1024, .f32⟩
  | .hbm, ⟨10, _⟩ => ⟨S_, .f32⟩
  | .hbm, ⟨11, _⟩ => ⟨S6x1024, .f32⟩
  | .hbm, ⟨12, _⟩ => ⟨S8x1024, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S8192, .f32⟩
  | .hbm, ⟨22, _⟩ => ⟨S8192x1, .f32⟩
  | .hbm, ⟨23, _⟩ => ⟨S1x16, .f32⟩
  | .hbm, ⟨24, _⟩ => ⟨S8192x16, .f32⟩
  | .hbm, ⟨25, _⟩ => ⟨S8192x16, .f32⟩
  | .hbm, ⟨26, _⟩ => ⟨S8192x16, .f32⟩
  | .hbm, ⟨27, _⟩ => ⟨S8192, .f32⟩
  | .hbm, ⟨28, _⟩ => ⟨S8192x1, .f32⟩
  | .hbm, ⟨29, _⟩ => ⟨S1x16, .f32⟩
  | .hbm, ⟨30, _⟩ => ⟨S8192x16, .f32⟩
  | .hbm, ⟨31, _⟩ => ⟨S8192x16, .f32⟩
  | .hbm, ⟨32, _⟩ => ⟨S8192x16, .f32⟩
  | .hbm, ⟨33, _⟩ => ⟨S8192x16, .f32⟩
  | .hbm, ⟨34, _⟩ => ⟨S8192x16, .f32⟩
  | .hbm, ⟨35, _⟩ => ⟨S8192x16, .f32⟩
  | .hbm, ⟨36, _⟩ => ⟨S8192x16, .f32⟩
  | .hbm, ⟨37, _⟩ => ⟨S8192x64, .f32⟩
  | .hbm, ⟨38, _⟩ => ⟨S8192x16, .f32⟩
  | .hbm, ⟨39, _⟩ => ⟨S8192x16, .f32⟩
  | .hbm, ⟨40, _⟩ => ⟨S8192x16, .f32⟩
  | .hbm, ⟨41, _⟩ => ⟨S8192x16, .f32⟩
  | .hbm, ⟨42, _⟩ => ⟨S8192x16, .f32⟩
  | .hbm, ⟨43, _⟩ => ⟨S8192x16, .f32⟩
  | .hbm, ⟨44, _⟩ => ⟨S8192x64, .f32⟩
  | .hbm, ⟨45, _⟩ => ⟨S1x8192x1x64, .f32⟩
  | .hbm, ⟨46, _⟩ => ⟨S1x8192x2x64, .f32⟩
  | .hbm, ⟨47, _⟩ => ⟨S8192x128, .f32⟩
  | .hbm, ⟨48, _⟩ => ⟨S1x8192x1x64, .f32⟩
  | .hbm, ⟨49, _⟩ => ⟨S1x8192x2x64, .f32⟩
  | .hbm, ⟨50, _⟩ => ⟨S8192x128, .f32⟩
  | .hbm, ⟨51, _⟩ => ⟨S3840x1024, .f32⟩
  | .hbm, ⟨52, _⟩ => ⟨S3840x1024, .bf16⟩
  | .hbm, ⟨53, _⟩ => ⟨S8192x768, .bf16⟩
  | .hbm, ⟨54, _⟩ => ⟨S8192x1024, .f32⟩
  | .hbm, ⟨55, _⟩ => ⟨S8x1024, .f32⟩
  | .local _ .vmem, ⟨0, _⟩ => ⟨S512x512, .f32⟩
  | .local _ .vmem, ⟨1, _⟩ => ⟨S512x512, .f32⟩
  | .local _ .vmem, ⟨2, _⟩ => ⟨S512x256, .f32⟩
  | .local _ .vmem, ⟨3, _⟩ => ⟨S512x256, .f32⟩
  | .local _ .vmem, ⟨4, _⟩ => ⟨S512x3072, .bf16⟩
  | .local _ .vmem, ⟨5, _⟩ => ⟨S512x3072, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | .local _ .vmem, ⟨11, _⟩ => ⟨S3840x1024, .bf16⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x768, .bf16⟩
  | .local _ .vmem, ⟨17, _⟩ => ⟨S512x768, .bf16⟩
  | .local _ .vmem, ⟨18, _⟩ => ⟨S512x1024, .f32⟩
  | .local _ .vmem, ⟨19, _⟩ => ⟨S512x1024, .f32⟩
  | .local _ .vmem, ⟨20, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41_0 : Ref sig .tc := ⟨.hbm, 53, rfl⟩
abbrev main_v41_1 : Ref sig .tc := ⟨.hbm, 54, rfl⟩
abbrev main_v41_2 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3840x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceProjIdeal.lean ====
abbrev S8192x1024 : Shape := ⟨2, ![8192, 1024]⟩
abbrev S6x1024 : Shape := ⟨2, ![6, 1024]⟩
abbrev S1024x3840 : Shape := ⟨2, ![1024, 3840]⟩
abbrev S8192 : Shape := ⟨1, ![8192]⟩
abbrev S8192x512 : Shape := ⟨2, ![8192, 512]⟩
abbrev S8192x256 : Shape := ⟨2, ![8192, 256]⟩
abbrev S8192x3072 : Shape := ⟨2, ![8192, 3072]⟩
abbrev S1x1024 : Shape := ⟨2, ![1, 1024]⟩
abbrev S1024 : Shape := ⟨1, ![1024]⟩
abbrev S_ : Shape := ⟨0, ![]⟩
abbrev S8192x1 : Shape := ⟨2, ![8192, 1]⟩
abbrev S8192x3840 : Shape := ⟨2, ![8192, 3840]⟩
abbrev S8192x128 : Shape := ⟨2, ![8192, 128]⟩
abbrev S8192x8x64 : Shape := ⟨3, ![8192, 8, 64]⟩
abbrev S16 : Shape := ⟨1, ![16]⟩
abbrev S8192x8x32 : Shape := ⟨3, ![8192, 8, 32]⟩
abbrev S1x16 : Shape := ⟨2, ![1, 16]⟩
abbrev S8192x16 : Shape := ⟨2, ![8192, 16]⟩
abbrev S8192x1x16 : Shape := ⟨3, ![8192, 1, 16]⟩
abbrev S8192x8x16 : Shape := ⟨3, ![8192, 8, 16]⟩
abbrev S8192x2x64 : Shape := ⟨3, ![8192, 2, 64]⟩
abbrev S8192x2x32 : Shape := ⟨3, ![8192, 2, 32]⟩
abbrev S8192x2x16 : Shape := ⟨3, ![8192, 2, 16]⟩
abbrev S8192x768 : Shape := ⟨2, ![8192, 768]⟩
abbrev S8x1024 : Shape := ⟨2, ![8, 1024]⟩

abbrev nBuf : Space → Nat
  | .hbm => 332
  | .vmem => 0
  | .smem => 0
  | _ => 0

abbrev hbmTy0_0 (i : Nat) : BufTy := match i % 128 with
  | 0 => ⟨S8192x1024, .f32⟩
  | 1 => ⟨S6x1024, .f32⟩
  | 2 => ⟨S1024x3840, .f32⟩
  | 3 => ⟨S8192, .i32⟩
  | 4 => ⟨S8192, .i32⟩
  | 5 => ⟨S8192x512, .f32⟩
  | 6 => ⟨S8192x256, .f32⟩
  | 7 => ⟨S8192x3072, .bf16⟩
  | 8 => ⟨S8192x1024, .f32⟩
  | 9 => ⟨S1x1024, .f32⟩
  | 10 => ⟨S1024, .f32⟩
  | 11 => ⟨S1x1024, .f32⟩
  | 12 => ⟨S1024, .f32⟩
  | 13 => ⟨S_, .f32⟩
  | 14 => ⟨S8192, .f32⟩
  | 15 => ⟨S8192x1, .f32⟩
  | 16 => ⟨S_, .f32⟩
  | 17 => ⟨S8192x1, .f32⟩
  | 18 => ⟨S8192x1, .f32⟩
  | 19 => ⟨S8192x1024, .f32⟩
  | 20 => ⟨S8192x1024, .f32⟩
  | 21 => ⟨S8192x1024, .f32⟩
  | 22 => ⟨S_, .f32⟩
  | 23 => ⟨S8192x1024, .f32⟩
  | 24 => ⟨S8192x1024, .f32⟩
  | 25 => ⟨S_, .f32⟩
  | 26 => ⟨S8192, .f32⟩
  | 27 => ⟨S8192x1, .f32⟩
  | 28 => ⟨S_, .f32⟩
  | 29 => ⟨S8192x1, .f32⟩
  | 30 => ⟨S8192x1, .f32⟩
  | 31 => ⟨S8192x1024, .f32⟩
  | 32 => ⟨S8192x1024, .f32⟩
  | 33 => ⟨S_, .f32⟩
  | 34 => ⟨S8192x1, .f32⟩
  | 35 => ⟨S8192x1, .f32⟩
  | 36 => ⟨S8192x1, .f32⟩
  | 37 => ⟨S8192x1, .f32⟩
  | 38 => ⟨S_, .f32⟩
  | 39 => ⟨S8192x1, .f32⟩
  | 40 => ⟨S8192x1, .f32⟩
  | 41 => ⟨S8192x1024, .f32⟩
  | 42 => ⟨S8192x1024, .f32⟩
  | 43 => ⟨S1x1024, .f32⟩
  | 44 => ⟨S_, .f32⟩
  | 45 => ⟨S1x1024, .f32⟩
  | 46 => ⟨S1x1024, .f32⟩
  | 47 => ⟨S8192x1024, .f32⟩
  | 48 => ⟨S8192x1024, .f32⟩
  | 49 => ⟨S1x1024, .f32⟩
  | 50 => ⟨S8192x1024, .f32⟩
  | 51 => ⟨S8192x1024, .f32⟩
  | 52 => ⟨S8192x3840, .f32⟩
  | 53 => ⟨S8192x512, .f32⟩
  | 54 => ⟨S8192x128, .f32⟩
  | 55 => ⟨S8192x128, .f32⟩
  | 56 => ⟨S8192x3072, .f32⟩
  | 57 => ⟨S8192x8x64, .f32⟩
  | 58 => ⟨S16, .f32⟩
  | 59 => ⟨S16, .f32⟩
  | 60 => ⟨S_, .f32⟩
  | 61 => ⟨S16, .f32⟩
  | 62 => ⟨S16, .f32⟩
  | 63 => ⟨S_, .f32⟩
  | 64 => ⟨S16, .f32⟩
  | 65 => ⟨S16, .f32⟩
  | 66 => ⟨S8192x8x32, .f32⟩
  | 67 => ⟨S8192, .f32⟩
  | 68 => ⟨S8192x1, .f32⟩
  | 69 => ⟨S1x16, .f32⟩
  | 70 => ⟨S8192x16, .f32⟩
  | 71 => ⟨S8192x16, .f32⟩
  | 72 => ⟨S8192x16, .f32⟩
  | 73 => ⟨S8192x16, .f32⟩
  | 74 => ⟨S8192x1x16, .f32⟩
  | 75 => ⟨S8192x16, .f32⟩
  | 76 => ⟨S8192x1x16, .f32⟩
  | 77 => ⟨S8192x8x16, .f32⟩
  | 78 => ⟨S8192x8x16, .f32⟩
  | 79 => ⟨S8192x8x16, .f32⟩
  | 80 => ⟨S8192x8x16, .f32⟩
  | 81 => ⟨S8192x8x16, .f32⟩
  | 82 => ⟨S8192x8x16, .f32⟩
  | 83 => ⟨S8192x8x16, .f32⟩
  | 84 => ⟨S8192x8x16, .f32⟩
  | 85 => ⟨S8192x8x16, .f32⟩
  | 86 => ⟨S8192x8x16, .f32⟩
  | 87 => ⟨S8192x8x16, .f32⟩
  | 88 => ⟨S8192x8x16, .f32⟩
  | 89 => ⟨S8192x8x32, .f32⟩
  | 90 => ⟨S8192x8x32, .f32⟩
  | 91 => ⟨S8192, .f32⟩
  | 92 => ⟨S8192x1, .f32⟩
  | 93 => ⟨S1x16, .f32⟩
  | 94 => ⟨S8192x16, .f32⟩
  | 95 => ⟨S8192x16, .f32⟩
  | 96 => ⟨S8192x16, .f32⟩
  | 97 => ⟨S8192x16, .f32⟩
  | 98 => ⟨S8192x1x16, .f32⟩
  | 99 => ⟨S8192x16, .f32⟩
  | 100 => ⟨S8192x1x16, .f32⟩
  | 101 => ⟨S8192x8x16, .f32⟩
  | 102 => ⟨S8192x8x16, .f32⟩
  | 103 => ⟨S8192x8x16, .f32⟩
  | 104 => ⟨S8192x8x16, .f32⟩
  | 105 => ⟨S8192x8x16, .f32⟩
  | 106 => ⟨S8192x8x16, .f32⟩
  | 107 => ⟨S8192x8x16, .f32⟩
  | 108 => ⟨S8192x8x16, .f32⟩
  | 109 => ⟨S8192x8x16, .f32⟩
  | 110 => ⟨S8192x8x16, .f32⟩
  | 111 => ⟨S8192x8x16, .f32⟩
  | 112 => ⟨S8192x8x16, .f32⟩
  | 113 => ⟨S8192x8x32, .f32⟩
  | 114 => ⟨S8192x8x64, .f32⟩
  | 115 => ⟨S8192x2x64, .f32⟩
  | 116 => ⟨S16, .f32⟩
  | 117 => ⟨S16, .f32⟩
  | 118 => ⟨S_, .f32⟩
  | 119 => ⟨S16, .f32⟩
  | 120 => ⟨S16, .f32⟩
  | 121 => ⟨S_, .f32⟩
  | 122 => ⟨S16, .f32⟩
  | 123 => ⟨S16, .f32⟩
  | 124 => ⟨S8192x2x32, .f32⟩
  | 125 => ⟨S8192, .f32⟩
  | 126 => ⟨S8192x1, .f32⟩
  | 127 => ⟨S1x16, .f32⟩
  | _ => ⟨S8192x1024, .f32⟩

abbrev hbmTy0_1 (i : Nat) : BufTy := match i % 128 with
  | 0 => ⟨S8192x16, .f32⟩
  | 1 => ⟨S8192x16, .f32⟩
  | 2 => ⟨S8192x16, .f32⟩
  | 3 => ⟨S8192x16, .f32⟩
  | 4 => ⟨S8192x1x16, .f32⟩
  | 5 => ⟨S8192x16, .f32⟩
  | 6 => ⟨S8192x1x16, .f32⟩
  | 7 => ⟨S8192x2x16, .f32⟩
  | 8 => ⟨S8192x2x16, .f32⟩
  | 9 => ⟨S8192x2x16, .f32⟩
  | 10 => ⟨S8192x2x16, .f32⟩
  | 11 => ⟨S8192x2x16, .f32⟩
  | 12 => ⟨S8192x2x16, .f32⟩
  | 13 => ⟨S8192x2x16, .f32⟩
  | 14 => ⟨S8192x2x16, .f32⟩
  | 15 => ⟨S8192x2x16, .f32⟩
  | 16 => ⟨S8192x2x16, .f32⟩
  | 17 => ⟨S8192x2x16, .f32⟩
  | 18 => ⟨S8192x2x16, .f32⟩
  | 19 => ⟨S8192x2x32, .f32⟩
  | 20 => ⟨S8192x2x32, .f32⟩
  | 21 => ⟨S8192, .f32⟩
  | 22 => ⟨S8192x1, .f32⟩
  | 23 => ⟨S1x16, .f32⟩
  | 24 => ⟨S8192x16, .f32⟩
  | 25 => ⟨S8192x16, .f32⟩
  | 26 => ⟨S8192x16, .f32⟩
  | 27 => ⟨S8192x16, .f32⟩
  | 28 => ⟨S8192x1x16, .f32⟩
  | 29 => ⟨S8192x16, .f32⟩
  | 30 => ⟨S8192x1x16, .f32⟩
  | 31 => ⟨S8192x2x16, .f32⟩
  | 32 => ⟨S8192x2x16, .f32⟩
  | 33 => ⟨S8192x2x16, .f32⟩
  | 34 => ⟨S8192x2x16, .f32⟩
  | 35 => ⟨S8192x2x16, .f32⟩
  | 36 => ⟨S8192x2x16, .f32⟩
  | 37 => ⟨S8192x2x16, .f32⟩
  | 38 => ⟨S8192x2x16, .f32⟩
  | 39 => ⟨S8192x2x16, .f32⟩
  | 40 => ⟨S8192x2x16, .f32⟩
  | 41 => ⟨S8192x2x16, .f32⟩
  | 42 => ⟨S8192x2x16, .f32⟩
  | 43 => ⟨S8192x2x32, .f32⟩
  | 44 => ⟨S8192x2x64, .f32⟩
  | 45 => ⟨S_, .f32⟩
  | 46 => ⟨S8192x1024, .f32⟩
  | 47 => ⟨S8192x1024, .f32⟩
  | 48 => ⟨S8192x8x64, .f32⟩
  | 49 => ⟨S8192x128, .f32⟩
  | 50 => ⟨S8192x2x64, .f32⟩
  | 51 => ⟨S8192x128, .f32⟩
  | 52 => ⟨S8192x3072, .f32⟩
  | 53 => ⟨S8192x2x32, .f32⟩
  | 54 => ⟨S8192x2x32, .f32⟩
  | 55 => ⟨S8192x2x16, .f32⟩
  | 56 => ⟨S8192x2x16, .f32⟩
  | 57 => ⟨S8192x2x16, .f32⟩
  | 58 => ⟨S8192x2x16, .f32⟩
  | 59 => ⟨S8192x2x16, .f32⟩
  | 60 => ⟨S8192x2x16, .f32⟩
  | 61 => ⟨S8192x2x16, .f32⟩
  | 62 => ⟨S8192x2x16, .f32⟩
  | 63 => ⟨S8192x2x16, .f32⟩
  | 64 => ⟨S8192x2x16, .f32⟩
  | 65 => ⟨S8192x2x16, .f32⟩
  | 66 => ⟨S8192x2x16, .f32⟩
  | 67 => ⟨S8192x2x16, .f32⟩
  | 68 => ⟨S_, .f32⟩
  | 69 => ⟨S8192x2x32, .f32⟩
  | 70 => ⟨S_, .f32⟩
  | 71 => ⟨S8192x2x32, .f32⟩
  | 72 => ⟨S8192x2x32, .f32⟩
  | 73 => ⟨S_, .f32⟩
  | 74 => ⟨S8192x2x64, .f32⟩
  | 75 => ⟨S8192x2x16, .f32⟩
  | 76 => ⟨S8192x2x16, .f32⟩
  | 77 => ⟨S8192x2x16, .f32⟩
  | 78 => ⟨S8192x2x16, .f32⟩
  | 79 => ⟨S8192x2x16, .f32⟩
  | 80 => ⟨S8192x2x16, .f32⟩
  | 81 => ⟨S8192x2x16, .f32⟩
  | 82 => ⟨S8192x2x16, .f32⟩
  | 83 => ⟨S8192x2x16, .f32⟩
  | 84 => ⟨S8192x2x16, .f32⟩
  | 85 => ⟨S8192x2x16, .f32⟩
  | 86 => ⟨S8192x2x16, .f32⟩
  | 87 => ⟨S8192x2x16, .f32⟩
  | 88 => ⟨S_, .f32⟩
  | 89 => ⟨S8192x2x32, .f32⟩
  | 90 => ⟨S_, .f32⟩
  | 91 => ⟨S8192x2x32, .f32⟩
  | 92 => ⟨S8192x2x32, .f32⟩
  | 93 => ⟨S_, .f32⟩
  | 94 => ⟨S8192x2x64, .f32⟩
  | 95 => ⟨S8192x2x64, .f32⟩
  | 96 => ⟨S8192x128, .f32⟩
  | 97 => ⟨S8192x8x32, .f32⟩
  | 98 => ⟨S8192x8x32, .f32⟩
  | 99 => ⟨S8192x8x16, .f32⟩
  | 100 => ⟨S8192x8x16, .f32⟩
  | 101 => ⟨S8192x8x16, .f32⟩
  | 102 => ⟨S8192x8x16, .f32⟩
  | 103 => ⟨S8192x8x16, .f32⟩
  | 104 => ⟨S8192x8x16, .f32⟩
  | 105 => ⟨S8192x8x16, .f32⟩
  | 106 => ⟨S8192x8x16, .f32⟩
  | 107 => ⟨S8192x8x16, .f32⟩
  | 108 => ⟨S8192x8x16, .f32⟩
  | 109 => ⟨S8192x8x16, .f32⟩
  | 110 => ⟨S8192x8x16, .f32⟩
  | 111 => ⟨S8192x8x16, .f32⟩
  | 112 => ⟨S_, .f32⟩
  | 113 => ⟨S8192x8x32, .f32⟩
  | 114 => ⟨S_, .f32⟩
  | 115 => ⟨S8192x8x32, .f32⟩
  | 116 => ⟨S8192x8x32, .f32⟩
  | 117 => ⟨S_, .f32⟩
  | 118 => ⟨S8192x8x64, .f32⟩
  | 119 => ⟨S8192x8x16, .f32⟩
  | 120 => ⟨S8192x8x16, .f32⟩
  | 121 => ⟨S8192x8x16, .f32⟩
  | 122 => ⟨S8192x8x16, .f32⟩
  | 123 => ⟨S8192x8x16, .f32⟩
  | 124 => ⟨S8192x8x16, .f32⟩
  | 125 => ⟨S8192x8x16, .f32⟩
  | 126 => ⟨S8192x8x16, .f32⟩
  | 127 => ⟨S8192x8x16, .f32⟩
  | _ => ⟨S8192x1024, .f32⟩

abbrev hbmTy0_2 (i : Nat) : BufTy := match i % 128 with
  | 0 => ⟨S8192x8x16, .f32⟩
  | 1 => ⟨S8192x8x16, .f32⟩
  | 2 => ⟨S8192x8x16, .f32⟩
  | 3 => ⟨S8192x8x16, .f32⟩
  | 4 => ⟨S_, .f32⟩
  | 5 => ⟨S8192x8x32, .f32⟩
  | 6 => ⟨S_, .f32⟩
  | 7 => ⟨S8192x8x32, .f32⟩
  | 8 => ⟨S8192x8x32, .f32⟩
  | 9 => ⟨S_, .f32⟩
  | 10 => ⟨S8192x8x64, .f32⟩
  | 11 => ⟨S8192x8x64, .f32⟩
  | 12 => ⟨S8192x512, .f32⟩
  | 13 => ⟨S8192x3840, .f32⟩
  | 14 => ⟨S8192x1024, .f32⟩
  | 15 => ⟨S_, .f32⟩
  | 16 => ⟨S1024, .f32⟩
  | 17 => ⟨S1x1024, .f32⟩
  | 18 => ⟨S_, .f32⟩
  | 19 => ⟨S1024, .f32⟩
  | 20 => ⟨S8192x1024, .f32⟩
  | 21 => ⟨S_, .f32⟩
  | 22 => ⟨S1024, .f32⟩
  | 23 => ⟨S1x1024, .f32⟩
  | 24 => ⟨S8192x1024, .f32⟩
  | 25 => ⟨S8192x1024, .f32⟩
  | 26 => ⟨S_, .f32⟩
  | 27 => ⟨S1024, .f32⟩
  | 28 => ⟨S8192x1024, .f32⟩
  | 29 => ⟨S_, .f32⟩
  | 30 => ⟨S8192, .f32⟩
  | 31 => ⟨S8192x1, .f32⟩
  | 32 => ⟨S8192x1024, .f32⟩
  | 33 => ⟨S8192x1024, .f32⟩
  | 34 => ⟨S8192x1, .f32⟩
  | 35 => ⟨S8192x1024, .f32⟩
  | 36 => ⟨S_, .f32⟩
  | 37 => ⟨S8192, .f32⟩
  | 38 => ⟨S8192x1, .f32⟩
  | 39 => ⟨S_, .f32⟩
  | 40 => ⟨S8192x1, .f32⟩
  | 41 => ⟨S8192x1, .f32⟩
  | 42 => ⟨S_, .f32⟩
  | 43 => ⟨S8192, .f32⟩
  | 44 => ⟨S8192x1024, .f32⟩
  | 45 => ⟨S8192x1024, .f32⟩
  | 46 => ⟨S8192x1024, .f32⟩
  | 47 => ⟨S_, .f32⟩
  | 48 => ⟨S8192, .f32⟩
  | 49 => ⟨S8192x1, .f32⟩
  | 50 => ⟨S8192x1024, .f32⟩
  | 51 => ⟨S8192x1, .f32⟩
  | 52 => ⟨S_, .f32⟩
  | 53 => ⟨S8192x1, .f32⟩
  | 54 => ⟨S8192x1, .f32⟩
  | 55 => ⟨S_, .f32⟩
  | 56 => ⟨S8192, .f32⟩
  | 57 => ⟨S8192x1024, .f32⟩
  | 58 => ⟨S8192x1024, .f32⟩
  | 59 => ⟨S_, .f32⟩
  | 60 => ⟨S8192x1024, .f32⟩
  | 61 => ⟨S8192x1024, .f32⟩
  | 62 => ⟨S_, .f32⟩
  | 63 => ⟨S1024, .f32⟩
  | 64 => ⟨S8192x768, .f32⟩
  | 65 => ⟨S8192x768, .bf16⟩
  | 66 => ⟨S8192x1024, .f32⟩
  | 67 => ⟨S1x1024, .f32⟩
  | 68 => ⟨S1x1024, .f32⟩
  | 69 => ⟨S1x1024, .f32⟩
  | 70 => ⟨S1x1024, .f32⟩
  | 71 => ⟨S1x1024, .f32⟩
  | 72 => ⟨S1x1024, .f32⟩
  | 73 => ⟨S1x1024, .f32⟩
  | 74 => ⟨S1x1024, .f32⟩
  | 75 => ⟨S8x1024, .f32⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_cst_9 : Ref sig .tc := ⟨.hbm, 118, rfl⟩
abbrev main_v99 : Ref sig .tc := ⟨.hbm, 119, rfl⟩
abbrev main_v100 : Ref sig .tc := ⟨.hbm, 120, rfl⟩
abbrev main_cst_10 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_cst_11 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_v173 : Ref sig .tc := ⟨.hbm, 195, rfl⟩
abbrev main_cst_12 : Ref sig .tc := ⟨.hbm, 196, rfl⟩
abbrev main_v174 : Ref sig .tc := ⟨.hbm, 197, rfl⟩
abbrev main_cst_13 : Ref sig .tc := ⟨.hbm, 198, rfl⟩
abbrev main_v175 : Ref sig .tc := ⟨.hbm, 199, rfl⟩
abbrev main_v176 : Ref sig .tc := ⟨.hbm, 200, rfl⟩
abbrev main_cst_14 : Ref sig .tc := ⟨.hbm, 201, rfl⟩
abbrev main_v177 : Ref sig .tc := ⟨.hbm, 202, rfl⟩
abbrev main_v178 : Ref sig .tc := ⟨.hbm, 203, rfl⟩
abbrev main_v179 : Ref sig .tc := ⟨.hbm, 204, rfl⟩
abbrev main_v180 : Ref sig .tc := ⟨.hbm, 205, rfl⟩
abbrev main_v181 : Ref sig .tc := ⟨.hbm, 206, rfl⟩
abbrev main_v182 : Ref sig .tc := ⟨.hbm, 207, rfl⟩
abbrev main_v183 : Ref sig .tc := ⟨.hbm, 208, rfl⟩
abbrev main_v184 : Ref sig .tc := ⟨.hbm, 209, rfl⟩
abbrev main_v185 : Ref sig .tc := ⟨.hbm, 210, rfl⟩
abbrev main_v186 : Ref sig .tc := ⟨.hbm, 211, rfl⟩
abbrev main_v187 : Ref sig .tc := ⟨.hbm, 212, rfl⟩
abbrev main_v188 : Ref sig .tc := ⟨.hbm, 213, rfl⟩
abbrev main_v189 : Ref sig .tc := ⟨.hbm, 214, rfl⟩
abbrev main_v190 : Ref sig .tc := ⟨.hbm, 215, rfl⟩
abbrev main_cst_15 : Ref sig .tc := ⟨.hbm, 216, rfl⟩
abbrev main_v191 : Ref sig .tc := ⟨.hbm, 217, rfl⟩
abbrev main_cst_16 : Ref sig .tc := ⟨.hbm, 218, rfl⟩
abbrev main_v192 : Ref sig .tc := ⟨.hbm, 219, rfl⟩
abbrev main_v193 : Ref sig .tc := ⟨.hbm, 220, rfl⟩
abbrev main_cst_17 : Ref sig .tc := ⟨.hbm, 221, rfl⟩
abbrev main_v194 : Ref sig .tc := ⟨.hbm, 222, rfl⟩
abbrev main_v195 : Ref sig .tc := ⟨.hbm, 223, rfl⟩
abbrev main_v196 : Ref sig .tc := ⟨.hbm, 224, rfl⟩
abbrev main_v197 : Ref sig .tc := ⟨.hbm, 225, rfl⟩
abbrev main_v198 : Ref sig .tc := ⟨.hbm, 226, rfl⟩
abbrev main_v199 : Ref sig .tc := ⟨.hbm, 227, rfl⟩
abbrev main_v200 : Ref sig .tc := ⟨.hbm, 228, rfl⟩
abbrev main_v201 : Ref sig .tc := ⟨.hbm, 229, rfl⟩
abbrev main_v202 : Ref sig .tc := ⟨.hbm, 230, rfl⟩
abbrev main_v203 : Ref sig .tc := ⟨.hbm, 231, rfl⟩
abbrev main_v204 : Ref sig .tc := ⟨.hbm, 232, rfl⟩
abbrev main_v205 : Ref sig .tc := ⟨.hbm, 233, rfl⟩
abbrev main_v206 : Ref sig .tc := ⟨.hbm, 234, rfl⟩
abbrev main_v207 : Ref sig .tc := ⟨.hbm, 235, rfl⟩
abbrev main_v208 : Ref sig .tc := ⟨.hbm, 236, rfl⟩
abbrev main_v209 : Ref sig .tc := ⟨.hbm, 237, rfl⟩
abbrev main_v210 : Ref sig .tc := ⟨.hbm, 238, rfl⟩
abbrev main_v211 : Ref sig .tc := ⟨.hbm, 239, rfl⟩
abbrev main_cst_18 : Ref sig .tc := ⟨.hbm, 240, rfl⟩
abbrev main_v212 : Ref sig .tc := ⟨.hbm, 241, rfl⟩
abbrev main_cst_19 : Ref sig .tc := ⟨.hbm, 242, rfl⟩
abbrev main_v213 : Ref sig .tc := ⟨.hbm, 243, rfl⟩
abbrev main_v214 : Ref sig .tc := ⟨.hbm, 244, rfl⟩
abbrev main_cst_20 : Ref sig .tc := ⟨.hbm, 245, rfl⟩
abbrev main_v215 : Ref sig .tc := ⟨.hbm, 246, rfl⟩
abbrev main_v216 : Ref sig .tc := ⟨.hbm, 247, rfl⟩
abbrev main_v217 : Ref sig .tc := ⟨.hbm, 248, rfl⟩
abbrev main_v218 : Ref sig .tc := ⟨.hbm, 249, rfl⟩
abbrev main_v219 : Ref sig .tc := ⟨.hbm, 250, rfl⟩
abbrev main_v220 : Ref sig .tc := ⟨.hbm, 251, rfl⟩
abbrev main_v221 : Ref sig .tc := ⟨.hbm, 252, rfl⟩
abbrev main_v222 : Ref sig .tc := ⟨.hbm, 253, rfl⟩
abbrev main_v223 : Ref sig .tc := ⟨.hbm, 254, rfl⟩
abbrev main_v224 : Ref sig .tc := ⟨.hbm, 255, rfl⟩
abbrev main_v225 : Ref sig .tc := ⟨.hbm, 256, rfl⟩
abbrev main_v226 : Ref sig .tc := ⟨.hbm, 257, rfl⟩
abbrev main_v227 : Ref sig .tc := ⟨.hbm, 258, rfl⟩
abbrev main_v228 : Ref sig .tc := ⟨.hbm, 259, rfl⟩
abbrev main_cst_21 : Ref sig .tc := ⟨.hbm, 260, rfl⟩
abbrev main_v229 : Ref sig .tc := ⟨.hbm, 261, rfl⟩
abbrev main_cst_22 : Ref sig .tc := ⟨.hbm, 262, rfl⟩
abbrev main_v230 : Ref sig .tc := ⟨.hbm, 263, rfl⟩
abbrev main_v231 : Ref sig .tc := ⟨.hbm, 264, rfl⟩
abbrev main_cst_23 : Ref sig .tc := ⟨.hbm, 265, rfl⟩
abbrev main_v232 : Ref sig .tc := ⟨.hbm, 266, rfl⟩
abbrev main_v233 : Ref sig .tc := ⟨.hbm, 267, rfl⟩
abbrev main_v234 : Ref sig .tc := ⟨.hbm, 268, rfl⟩
abbrev main_v235 : Ref sig .tc := ⟨.hbm, 269, rfl⟩
abbrev main_v236 : Ref sig .tc := ⟨.hbm, 270, rfl⟩
abbrev main_cst_24 : Ref sig .tc := ⟨.hbm, 271, rfl⟩
abbrev main_v237 : Ref sig .tc := ⟨.hbm, 272, rfl⟩
abbrev main_v238 : Ref sig .tc := ⟨.hbm, 273, rfl⟩
abbrev main_cst_25 : Ref sig .tc := ⟨.hbm, 274, rfl⟩
abbrev main_v239 : Ref sig .tc := ⟨.hbm, 275, rfl⟩
abbrev main_v240 : Ref sig .tc := ⟨.hbm, 276, rfl⟩
abbrev main_cst_26 : Ref sig .tc := ⟨.hbm, 277, rfl⟩
abbrev main_v241 : Ref sig .tc := ⟨.hbm, 278, rfl⟩
abbrev main_v242 : Ref sig .tc := ⟨.hbm, 279, rfl⟩
abbrev main_v243 : Ref sig .tc := ⟨.hbm, 280, rfl⟩
abbrev main_v244 : Ref sig .tc := ⟨.hbm, 281, rfl⟩
abbrev main_cst_27 : Ref sig .tc := ⟨.hbm, 282, rfl⟩
abbrev main_v245 : Ref sig .tc := ⟨.hbm, 283, rfl⟩
abbrev main_v246 : Ref sig .tc := ⟨.hbm, 284, rfl⟩
abbrev main_cst_28 : Ref sig .tc := ⟨.hbm, 285, rfl⟩
abbrev main_v247 : Ref sig .tc := ⟨.hbm, 286, rfl⟩
abbrev main_v248 : Ref sig .tc := ⟨.hbm, 287, rfl⟩
abbrev main_v249 : Ref sig .tc := ⟨.hbm, 288, rfl⟩
abbrev main_v250 : Ref sig .tc := ⟨.hbm, 289, rfl⟩
abbrev main_v251 : Ref sig .tc := ⟨.hbm, 290, rfl⟩
abbrev main_v252 : Ref sig .tc := ⟨.hbm, 291, rfl⟩
abbrev main_cst_29 : Ref sig .tc := ⟨.hbm, 292, rfl⟩
abbrev main_v253 : Ref sig .tc := ⟨.hbm, 293, rfl⟩
abbrev main_v254 : Ref sig .tc := ⟨.hbm, 294, rfl⟩
abbrev main_cst_30 : Ref sig .tc := ⟨.hbm, 295, rfl⟩
abbrev main_v255 : Ref sig .tc := ⟨.hbm, 296, rfl⟩
abbrev main_v256 : Ref sig .tc := ⟨.hbm, 297, rfl⟩
abbrev main_cst_31 : Ref sig .tc := ⟨.hbm, 298, rfl⟩
abbrev main_v257 : Ref sig .tc := ⟨.hbm, 299, rfl⟩
abbrev main_v258 : Ref sig .tc := ⟨.hbm, 300, rfl⟩
abbrev main_v259 : Ref sig .tc := ⟨.hbm, 301, rfl⟩
abbrev main_v260 : Ref sig .tc := ⟨.hbm, 302, rfl⟩
abbrev main_cst_32 : Ref sig .tc := ⟨.hbm, 303, rfl⟩
abbrev main_v261 : Ref sig .tc := ⟨.hbm, 304, rfl⟩
abbrev main_v262 : Ref sig .tc := ⟨.hbm, 305, rfl⟩
abbrev main_v263 : Ref sig .tc := ⟨.hbm, 306, rfl⟩
abbrev main_v264 : Ref sig .tc := ⟨.hbm, 307, rfl⟩
abbrev main_cst_33 : Ref sig .tc := ⟨.hbm, 308, rfl⟩
abbrev main_v265 : Ref sig .tc := ⟨.hbm, 309, rfl⟩
abbrev main_v266 : Ref sig .tc := ⟨.hbm, 310, rfl⟩
abbrev main_cst_34 : Ref sig .tc := ⟨.hbm, 311, rfl⟩
abbrev main_v267 : Ref sig .tc := ⟨.hbm, 312, rfl⟩
abbrev main_v268 : Ref sig .tc := ⟨.hbm, 313, rfl⟩
abbrev main_v269 : Ref sig .tc := ⟨.hbm, 314, rfl⟩
abbrev main_cst_35 : Ref sig .tc := ⟨.hbm, 315, rfl⟩
abbrev main_v270 : Ref sig .tc := ⟨.hbm, 316, rfl⟩
abbrev main_v271 : Ref sig .tc := ⟨.hbm, 317, rfl⟩
abbrev main_cst_36 : Ref sig .tc := ⟨.hbm, 318, rfl⟩
abbrev main_v272 : Ref sig .tc := ⟨.hbm, 319, rfl⟩
abbrev main_v273 : Ref sig .tc := ⟨.hbm, 320, rfl⟩
abbrev main_v274 : Ref sig .tc := ⟨.hbm, 321, rfl⟩
abbrev main_v275 : Ref sig .tc := ⟨.hbm, 322, rfl⟩
abbrev main_v276 : Ref sig .tc := ⟨.hbm, 323, rfl⟩
abbrev main_v277 : Ref sig .tc := ⟨.hbm, 324, rfl⟩
abbrev main_v278 : Ref sig .tc := ⟨.hbm, 325, rfl⟩
abbrev main_v279 : Ref sig .tc := ⟨.hbm, 326, rfl⟩
abbrev main_v280 : Ref sig .tc := ⟨.hbm, 327, rfl⟩
abbrev main_v281 : Ref sig .tc := ⟨.hbm, 328, rfl⟩
abbrev main_v282 : Ref sig .tc := ⟨.hbm, 329, rfl⟩
abbrev main_v283 : Ref sig .tc := ⟨.hbm, 330, rfl⟩
abbrev main_v284 : Ref sig .tc := ⟨.hbm, 331, rfl⟩

abbrev nD : Nat := 1
abbrev τ : Topo := Topo.v7x

variable {F : FTy → Type} [FloatOps F]
-- ==== KernelFwd.lean ====
abbrev S8192x1024 : Shape := ⟨2, ![8192, 1024]⟩
abbrev S6x1024 : Shape := ⟨2, ![6, 1024]⟩
abbrev S1024x3840 : Shape := ⟨2, ![1024, 3840]⟩
abbrev S8192 : Shape := ⟨1, ![8192]⟩
abbrev S2x1024 : Shape := ⟨2, ![2, 1024]⟩
abbrev S_ : Shape := ⟨0, ![]⟩
abbrev S8x1024 : Shape := ⟨2, ![8, 1024]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S3840x1024 : Shape := ⟨2, ![3840, 1024]⟩
abbrev S8192x512 : Shape := ⟨2, ![8192, 512]⟩
abbrev S8192x256 : Shape := ⟨2, ![8192, 256]⟩
abbrev S8192x2048 : Shape := ⟨2, ![8192, 2048]⟩
abbrev S1024x1024 : Shape := ⟨2, ![1024, 1024]⟩
abbrev S1024x128 : Shape := ⟨2, ![1024, 128]⟩
abbrev S1024x512 : Shape := ⟨2, ![1024, 512]⟩
abbrev S1024x256 : Shape := ⟨2, ![1024, 256]⟩
abbrev S1024x2048 : Shape := ⟨2, ![1024, 2048]⟩
abbrev S1024 : Shape := ⟨1, ![1024]⟩
abbrev S1024x1 : Shape := ⟨2, ![1024, 1]⟩
abbrev S1x1024 : Shape := ⟨2, ![1, 1024]⟩
abbrev S256x1024 : Shape := ⟨2, ![256, 1024]⟩
abbrev S1024x64 : Shape := ⟨2, ![1024, 64]⟩
abbrev S512x1024 : Shape := ⟨2, ![512, 1024]⟩

abbrev nBuf : Space → Nat
  | .hbm => 55
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S6x1024, .f32⟩
  | .hbm, ⟨2, _⟩ => ⟨S1024x3840, .f32⟩
  | .hbm, ⟨3, _⟩ => ⟨S8192, .i32⟩
  | .hbm, ⟨4, _⟩ => ⟨S8192, .i32⟩
  | .hbm, ⟨5, _⟩ => ⟨S2x1024, .f32⟩
  | .hbm, ⟨6, _⟩ => ⟨S_, .f32⟩
  | .hbm, ⟨7, _⟩ => ⟨S6x1024, .f32⟩
  | .hbm, ⟨8, _⟩ => ⟨S8x1024, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S8192, .f32⟩
  | .hbm, ⟨18, _⟩ => ⟨S8192x1, .f32⟩
  | .hbm, ⟨19, _⟩ => ⟨S1x16, .f32⟩
  | .hbm, ⟨20, _⟩ => ⟨S8192x16, .f32⟩
  | .hbm, ⟨21, _⟩ => ⟨S8192x16, .f32⟩
  | .hbm, ⟨22, _⟩ => ⟨S8192x16, .f32⟩
  | .hbm, ⟨23, _⟩ => ⟨S8192, .f32⟩
  | .hbm, ⟨24, _⟩ => ⟨S8192x1, .f32⟩
  | .hbm, ⟨25, _⟩ => ⟨S1x16, .f32⟩
  | .hbm, ⟨26, _⟩ => ⟨S8192x16, .f32⟩
  | .hbm, ⟨27, _⟩ => ⟨S8192x16, .f32⟩
  | .hbm, ⟨28, _⟩ => ⟨S8192x16, .f32⟩
  | .hbm, ⟨29, _⟩ => ⟨S8192x16, .f32⟩
  | .hbm, ⟨30, _⟩ => ⟨S8192x16, .f32⟩
  | .hbm, ⟨31, _⟩ => ⟨S8192x16, .f32⟩
  | .hbm, ⟨32, _⟩ => ⟨S8192x16, .f32⟩
  | .hbm, ⟨33, _⟩ => ⟨S8192x64, .f32⟩
  | .hbm, ⟨34, _⟩ => ⟨S8192x16, .f32⟩
  | .hbm, ⟨35, _⟩ => ⟨S8192x16, .f32⟩
  | .hbm, ⟨36, _⟩ => ⟨S8192x16, .f32⟩
  | .hbm, ⟨37, _⟩ => ⟨S8192x16, .f32⟩
  | .hbm, ⟨38, _⟩ => ⟨S8192x16, .f32⟩
  | .hbm, ⟨39, _⟩ => ⟨S8192x16, .f32⟩
  | .hbm, ⟨40, _⟩ => ⟨S8192x64, .f32⟩
  | .hbm, ⟨41, _⟩ => ⟨S1x8192x1x64, .f32⟩
  | .hbm, ⟨42, _⟩ => ⟨S1x8192x2x64, .f32⟩
  | .hbm, ⟨43, _⟩ => ⟨S8192x128, .f32⟩
  | .hbm, ⟨44, _⟩ => ⟨S1x8192x1x64, .f32⟩
  | .hbm, ⟨45, _⟩ => ⟨S1x8192x2x64, .f32⟩
  | .hbm, ⟨46, _⟩ => ⟨S8192x128, .f32⟩
  | .hbm, ⟨47, _⟩ => ⟨S3840x1024, .f32⟩
  | .hbm, ⟨48, _⟩ => ⟨S3840x1024, .bf16⟩
  | .hbm, ⟨49, _⟩ => ⟨S8192x1024, .bf16⟩
  | .hbm, ⟨50, _⟩ => ⟨S8192x512, .bf16⟩
  | .hbm, ⟨51, _⟩ => ⟨S8192x256, .bf16⟩
  | .hbm, ⟨52, _⟩ => ⟨S8192x256, .bf16⟩
  | .hbm, ⟨53, _⟩ => ⟨S8192x1024, .bf16⟩
  | .hbm, ⟨54, _⟩ => ⟨S8192x2048, .bf16⟩
  | .local _ .vmem, ⟨0, _⟩ => ⟨S1024x1024, .f32⟩
  | .local _ .vmem, ⟨1, _⟩ => ⟨S1024x1024, .f32⟩
  | .local _ .vmem, ⟨2, _⟩ => ⟨S8x1024, .f32⟩
  | .local _ .vmem, ⟨3, _⟩ => ⟨S3840x1024, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x1024, .bf16⟩
  | .local _ .vmem, ⟨9, _⟩ => ⟨S1024x1024, .bf16⟩
  | .local _ .vmem, ⟨10, _⟩ => ⟨S1024x512, .bf16⟩
  | .local _ .vmem, ⟨11, _⟩ => ⟨S1024x512, .bf16⟩
  | .local _ .vmem, ⟨12, _⟩ => ⟨S1024x256, .bf16⟩
  | .local _ .vmem, ⟨13, _⟩ => ⟨S1024x256, .bf16⟩
  | .local _ .vmem, ⟨14, _⟩ => ⟨S1024x256, .bf16⟩
  | .local _ .vmem, ⟨15, _⟩ => ⟨S1024x256, .bf16⟩
  | .local _ .vmem, ⟨16, _⟩ => ⟨S1024x1024, .bf16⟩
  | .local _ .vmem, ⟨17, _⟩ => ⟨S1024x1024, .bf16⟩
  | .local _ .vmem, ⟨18, _⟩ => ⟨S1024x2048, .bf16⟩
  | .local _ .vmem, ⟨19, _⟩ => ⟨S1024x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41_0 : Ref sig .tc := ⟨.hbm, 49, rfl⟩
abbrev main_v41_1 : Ref sig .tc := ⟨.hbm, 50, rfl⟩
abbrev main_v41_2 : Ref sig .tc := ⟨.hbm, 51, rfl⟩
abbrev main_v41_3 : Ref sig .tc := ⟨.hbm, 52, rfl⟩
abbrev main_v41_4 : Ref sig .tc := ⟨.hbm, 53, rfl⟩
abbrev main_v41_5 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3840x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceFwdIdeal.lean ====
abbrev S8192x1024 : Shape := ⟨2, ![8192, 1024]⟩
abbrev S6x1024 : Shape := ⟨2, ![6, 1024]⟩
abbrev S1024x3840 : Shape := ⟨2, ![1024, 3840]⟩
abbrev S8192 : Shape := ⟨1, ![8192]⟩
abbrev S_ : Shape := ⟨0, ![]⟩
abbrev S8192x1 : Shape := ⟨2, ![8192, 1]⟩
abbrev S1x1024 : Shape := ⟨2, ![1, 1024]⟩
abbrev S1024 : Shape := ⟨1, ![1024]⟩
abbrev S8192x3840 : Shape := ⟨2, ![8192, 3840]⟩
abbrev S8192x512 : Shape := ⟨2, ![8192, 512]⟩
abbrev S8192x128 : Shape := ⟨2, ![8192, 128]⟩
abbrev S8192x2048 : Shape := ⟨2, ![8192, 2048]⟩
abbrev S8192x8x64 : Shape := ⟨3, ![8192, 8, 64]⟩
abbrev S16 : Shape := ⟨1, ![16]⟩
abbrev S8192x8x32 : Shape := ⟨3, ![8192, 8, 32]⟩
abbrev S1x16 : Shape := ⟨2, ![1, 16]⟩
abbrev S8192x16 : Shape := ⟨2, ![8192, 16]⟩
abbrev S8192x1x16 : Shape := ⟨3, ![8192, 1, 16]⟩
abbrev S8192x8x16 : Shape := ⟨3, ![8192, 8, 16]⟩
abbrev S8192x2x64 : Shape := ⟨3, ![8192, 2, 64]⟩
abbrev S8192x2x32 : Shape := ⟨3, ![8192, 2, 32]⟩
abbrev S8192x2x16 : Shape := ⟨3, ![8192, 2, 16]⟩
abbrev S8192x64 : Shape := ⟨2, ![8192, 64]⟩
abbrev S8192x256 : Shape := ⟨2, ![8192, 256]⟩

abbrev nBuf : Space → Nat
  | .hbm => 180
  | .vmem => 0
  | .smem => 0
  | _ => 0

abbrev hbmTy0_0 (i : Nat) : BufTy := match i % 128 with
  | 0 => ⟨S8192x1024, .f32⟩
  | 1 => ⟨S6x1024, .f32⟩
  | 2 => ⟨S1024x3840, .f32⟩
  | 3 => ⟨S8192, .i32⟩
  | 4 => ⟨S8192, .i32⟩
  | 5 => ⟨S_, .f32⟩
  | 6 => ⟨S8192, .f32⟩
  | 7 => ⟨S8192x1, .f32⟩
  | 8 => ⟨S_, .f32⟩
  | 9 => ⟨S8192x1, .f32⟩
  | 10 => ⟨S8192x1, .f32⟩
  | 11 => ⟨S8192x1024, .f32⟩
  | 12 => ⟨S8192x1024, .f32⟩
  | 13 => ⟨S8192x1024, .f32⟩
  | 14 => ⟨S_, .f32⟩
  | 15 => ⟨S8192, .f32⟩
  | 16 => ⟨S8192x1, .f32⟩
  | 17 => ⟨S_, .f32⟩
  | 18 => ⟨S8192x1, .f32⟩
  | 19 => ⟨S8192x1, .f32⟩
  | 20 => ⟨S8192x1024, .f32⟩
  | 21 => ⟨S8192x1024, .f32⟩
  | 22 => ⟨S_, .f32⟩
  | 23 => ⟨S8192x1, .f32⟩
  | 24 => ⟨S8192x1, .f32⟩
  | 25 => ⟨S8192x1, .f32⟩
  | 26 => ⟨S8192x1024, .f32⟩
  | 27 => ⟨S8192x1024, .f32⟩
  | 28 => ⟨S1x1024, .f32⟩
  | 29 => ⟨S1024, .f32⟩
  | 30 => ⟨S1x1024, .f32⟩
  | 31 => ⟨S1024, .f32⟩
  | 32 => ⟨S1x1024, .f32⟩
  | 33 => ⟨S_, .f32⟩
  | 34 => ⟨S1x1024, .f32⟩
  | 35 => ⟨S1x1024, .f32⟩
  | 36 => ⟨S8192x1024, .f32⟩
  | 37 => ⟨S8192x1024, .f32⟩
  | 38 => ⟨S1x1024, .f32⟩
  | 39 => ⟨S8192x1024, .f32⟩
  | 40 => ⟨S8192x1024, .f32⟩
  | 41 => ⟨S8192x3840, .f32⟩
  | 42 => ⟨S8192x512, .f32⟩
  | 43 => ⟨S8192x128, .f32⟩
  | 44 => ⟨S8192x128, .f32⟩
  | 45 => ⟨S8192x1024, .f32⟩
  | 46 => ⟨S8192x2048, .f32⟩
  | 47 => ⟨S8192x8x64, .f32⟩
  | 48 => ⟨S16, .f32⟩
  | 49 => ⟨S16, .f32⟩
  | 50 => ⟨S_, .f32⟩
  | 51 => ⟨S16, .f32⟩
  | 52 => ⟨S16, .f32⟩
  | 53 => ⟨S_, .f32⟩
  | 54 => ⟨S16, .f32⟩
  | 55 => ⟨S16, .f32⟩
  | 56 => ⟨S8192x8x32, .f32⟩
  | 57 => ⟨S8192, .f32⟩
  | 58 => ⟨S8192x1, .f32⟩
  | 59 => ⟨S1x16, .f32⟩
  | 60 => ⟨S8192x16, .f32⟩
  | 61 => ⟨S8192x16, .f32⟩
  | 62 => ⟨S8192x16, .f32⟩
  | 63 => ⟨S8192x16, .f32⟩
  | 64 => ⟨S8192x1x16, .f32⟩
  | 65 => ⟨S8192x16, .f32⟩
  | 66 => ⟨S8192x1x16, .f32⟩
  | 67 => ⟨S8192x8x16, .f32⟩
  | 68 => ⟨S8192x8x16, .f32⟩
  | 69 => ⟨S8192x8x16, .f32⟩
  | 70 => ⟨S8192x8x16, .f32⟩
  | 71 => ⟨S8192x8x16, .f32⟩
  | 72 => ⟨S8192x8x16, .f32⟩
  | 73 => ⟨S8192x8x16, .f32⟩
  | 74 => ⟨S8192x8x16, .f32⟩
  | 75 => ⟨S8192x8x16, .f32⟩
  | 76 => ⟨S8192x8x16, .f32⟩
  | 77 => ⟨S8192x8x16, .f32⟩
  | 78 => ⟨S8192x8x16, .f32⟩
  | 79 => ⟨S8192x8x32, .f32⟩
  | 80 => ⟨S8192x8x32, .f32⟩
  | 81 => ⟨S8192, .f32⟩
  | 82 => ⟨S8192x1, .f32⟩
  | 83 => ⟨S1x16, .f32⟩
  | 84 => ⟨S8192x16, .f32⟩
  | 85 => ⟨S8192x16, .f32⟩
  | 86 => ⟨S8192x16, .f32⟩
  | 87 => ⟨S8192x16, .f32⟩
  | 88 => ⟨S8192x1x16, .f32⟩
  | 89 => ⟨S8192x16, .f32⟩
  | 90 => ⟨S8192x1x16, .f32⟩
  | 91 => ⟨S8192x8x16, .f32⟩
  | 92 => ⟨S8192x8x16, .f32⟩
  | 93 => ⟨S8192x8x16, .f32⟩
  | 94 => ⟨S8192x8x16, .f32⟩
  | 95 => ⟨S8192x8x16, .f32⟩
  | 96 => ⟨S8192x8x16, .f32⟩
  | 97 => ⟨S8192x8x16, .f32⟩
  | 98 => ⟨S8192x8x16, .f32⟩
  | 99 => ⟨S8192x8x16, .f32⟩
  | 100 => ⟨S8192x8x16, .f32⟩
  | 101 => ⟨S8192x8x16, .f32⟩
  | 102 => ⟨S8192x8x16, .f32⟩
  | 103 => ⟨S8192x8x32, .f32⟩
  | 104 => ⟨S8192x8x64, .f32⟩
  | 105 => ⟨S8192x512, .f32⟩
  | 106 => ⟨S_, .f32⟩
  | 107 => ⟨S8192x512, .f32⟩
  | 108 => ⟨S8192x512, .f32⟩
  | 109 => ⟨S8192x2x64, .f32⟩
  | 110 => ⟨S16, .f32⟩
  | 111 => ⟨S16, .f32⟩
  | 112 => ⟨S_, .f32⟩
  | 113 => ⟨S16, .f32⟩
  | 114 => ⟨S16, .f32⟩
  | 115 => ⟨S_, .f32⟩
  | 116 => ⟨S16, .f32⟩
  | 117 => ⟨S16, .f32⟩
  | 118 => ⟨S8192x2x32, .f32⟩
  | 119 => ⟨S8192, .f32⟩
  | 120 => ⟨S8192x1, .f32⟩
  | 121 => ⟨S1x16, .f32⟩
  | 122 => ⟨S8192x16, .f32⟩
  | 123 => ⟨S8192x16, .f32⟩
  | 124 => ⟨S8192x16, .f32⟩
  | 125 => ⟨S8192x16, .f32⟩
  | 126 => ⟨S8192x1x16, .f32⟩
  | 127 => ⟨S8192x16, .f32⟩
  | _ => ⟨S8192x1024, .f32⟩

abbrev hbmTy0_1 (i : Nat) : BufTy := match i % 128 with
  | 0 => ⟨S8192x1x16, .f32⟩
  | 1 => ⟨S8192x2x16, .f32⟩
  | 2 => ⟨S8192x2x16, .f32⟩
  | 3 => ⟨S8192x2x16, .f32⟩
  | 4 => ⟨S8192x2x16, .f32⟩
  | 5 => ⟨S8192x2x16, .f32⟩
  | 6 => ⟨S8192x2x16, .f32⟩
  | 7 => ⟨S8192x2x16, .f32⟩
  | 8 => ⟨S8192x2x16, .f32⟩
  | 9 => ⟨S8192x2x16, .f32⟩
  | 10 => ⟨S8192x2x16, .f32⟩
  | 11 => ⟨S8192x2x16, .f32⟩
  | 12 => ⟨S8192x2x16, .f32⟩
  | 13 => ⟨S8192x2x32, .f32⟩
  | 14 => ⟨S8192x2x32, .f32⟩
  | 15 => ⟨S8192, .f32⟩
  | 16 => ⟨S8192x1, .f32⟩
  | 17 => ⟨S1x16, .f32⟩
  | 18 => ⟨S8192x16, .f32⟩
  | 19 => ⟨S8192x16, .f32⟩
  | 20 => ⟨S8192x16, .f32⟩
  | 21 => ⟨S8192x16, .f32⟩
  | 22 => ⟨S8192x1x16, .f32⟩
  | 23 => ⟨S8192x16, .f32⟩
  | 24 => ⟨S8192x1x16, .f32⟩
  | 25 => ⟨S8192x2x16, .f32⟩
  | 26 => ⟨S8192x2x16, .f32⟩
  | 27 => ⟨S8192x2x16, .f32⟩
  | 28 => ⟨S8192x2x16, .f32⟩
  | 29 => ⟨S8192x2x16, .f32⟩
  | 30 => ⟨S8192x2x16, .f32⟩
  | 31 => ⟨S8192x2x16, .f32⟩
  | 32 => ⟨S8192x2x16, .f32⟩
  | 33 => ⟨S8192x2x16, .f32⟩
  | 34 => ⟨S8192x2x16, .f32⟩
  | 35 => ⟨S8192x2x16, .f32⟩
  | 36 => ⟨S8192x2x16, .f32⟩
  | 37 => ⟨S8192x2x32, .f32⟩
  | 38 => ⟨S8192x2x64, .f32⟩
  | 39 => ⟨S8192x128, .f32⟩
  | 40 => ⟨S_, .f32⟩
  | 41 => ⟨S8192x64, .f32⟩
  | 42 => ⟨S8192x64, .f32⟩
  | 43 => ⟨S8192x64, .f32⟩
  | 44 => ⟨S8192x256, .f32⟩
  | 45 => ⟨S8192x1024, .bf16⟩
  | 46 => ⟨S8192x512, .bf16⟩
  | 47 => ⟨S8192x256, .f32⟩
  | 48 => ⟨S8192x256, .bf16⟩
  | 49 => ⟨S8192x256, .bf16⟩
  | 50 => ⟨S8192x1024, .bf16⟩
  | 51 => ⟨S8192x2048, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_5 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_cst_7 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_cst_8 : Ref sig .tc := ⟨.hbm, 112, rfl⟩
abbrev main_v98 : Ref sig .tc := ⟨.hbm, 113, rfl⟩
abbrev main_v99 : Ref sig .tc := ⟨.hbm, 114, rfl⟩
abbrev main_cst_9 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_cst_10 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩

abbrev nD : Nat := 1
abbrev τ : Topo := Topo.v7x

variable {F : FTy → Type} [FloatOps F]
-- ==== KernelAda.lean ====
abbrev S16x1024 : Shape := ⟨2, ![16, 1024]⟩
abbrev S8x1536 : Shape := ⟨2, ![8, 1536]⟩
abbrev S1536 : Shape := ⟨1, ![1536]⟩
abbrev S1024x1536 : Shape := ⟨2, ![1024, 1536]⟩
abbrev S1x1536 : Shape := ⟨2, ![1, 1536]⟩
abbrev S_ : Shape := ⟨0, ![]⟩
abbrev S7x1536 : Shape := ⟨2, ![7, 1536]⟩
abbrev S16x1536 : Shape := ⟨2, ![16, 1536]⟩
abbrev S1024x16 : Shape := ⟨2, ![1024, 16]⟩
abbrev S8x1024 : Shape := ⟨2, ![8, 1024]⟩
abbrev S16x512 : Shape := ⟨2, ![16, 512]⟩
abbrev S8x512 : Shape := ⟨2, ![8, 512]⟩
abbrev S1024x512 : Shape := ⟨2, ![1024, 512]⟩

abbrev nBuf : Space → Nat
  | .hbm => 20
  | .vmem => 20
  | .smem => 0
  | _ => 0

abbrev bufTy : (tb : Table) → Fin (tcTables nBuf tb) → BufTy
  | .hbm, ⟨0, _⟩ => ⟨S16x1024, .f32⟩
  | .hbm, ⟨1, _⟩ => ⟨S8x1536, .f32⟩
  | .hbm, ⟨2, _⟩ => ⟨S1536, .f32⟩
  | .hbm, ⟨3, _⟩ => ⟨S1024x1536, .f32⟩
  | .hbm, ⟨4, _⟩ => ⟨S1024x1536, .f32⟩
  | .hbm, ⟨5, _⟩ => ⟨S1024x1536, .f32⟩
  | .hbm, ⟨6, _⟩ => ⟨S1x1536, .f32⟩
  | .hbm, ⟨7, _⟩ => ⟨S_, .f32⟩
  | .hbm, ⟨8, _⟩ => ⟨S7x1536, .f32⟩
  | .hbm, ⟨9, _⟩ => ⟨S16x1536, .f32⟩
  | .hbm, ⟨10, _⟩ => ⟨S1x1536, .f32⟩
  | .hbm, ⟨11, _⟩ => ⟨S_, .f32⟩
  | .hbm, ⟨12, _⟩ => ⟨S7x1536, .f32⟩
  | .hbm, ⟨13, _⟩ => ⟨S8x1536, .f32⟩
  | .hbm, ⟨14, _⟩ => ⟨S1024x16, .f32⟩
  | .hbm, ⟨15, _⟩ => ⟨S1024x1536, .f32⟩
  | .hbm, ⟨16, _⟩ => ⟨S1024x1536, .f32⟩
  | .hbm, ⟨17, _⟩ => ⟨S1024x1536, .f32⟩
  | .hbm, ⟨18, _⟩ => ⟨S1024x1536, .f32⟩
  | .hbm, ⟨19, _⟩ => ⟨S8x1024, .f32⟩
  | .local _ .vmem, ⟨0, _⟩ => ⟨S1024x16, .f32⟩
  | .local _ .vmem, ⟨1, _⟩ => ⟨S16x512, .f32⟩
  | .local _ .vmem, ⟨2, _⟩ => ⟨S16x512, .f32⟩
  | .local _ .vmem, ⟨3, _⟩ => ⟨S8x512, .f32⟩
  | .local _ .vmem, ⟨4, _⟩ => ⟨S8x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | .local _ .vmem, ⟨17, _⟩ => ⟨S1024x512, .f32⟩
  | .local _ .vmem, ⟨18, _⟩ => ⟨S1024x512, .f32⟩
  | .local _ .vmem, ⟨19, _⟩ => ⟨S8x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceAdaIdeal.lean ====
abbrev S16x1024 : Shape := ⟨2, ![16, 1024]⟩
abbrev S8x1536 : Shape := ⟨2, ![8, 1536]⟩
abbrev S1536 : Shape := ⟨1, ![1536]⟩
abbrev S1024x1536 : Shape := ⟨2, ![1024, 1536]⟩
abbrev S1x1024 : Shape := ⟨2, ![1, 1024]⟩
abbrev S8x1024 : Shape := ⟨2, ![8, 1024]⟩
abbrev S1x1536 : Shape := ⟨2, ![1, 1536]⟩
abbrev S1536x1024 : Shape := ⟨2, ![1536, 1024]⟩
abbrev S_ : Shape := ⟨0, ![]⟩
abbrev S7x1024 : Shape := ⟨2, ![7, 1024]⟩

abbrev nBuf : Space → Nat
  | .hbm => 53
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S8x1536, .f32⟩
  | .hbm, ⟨2, _⟩ => ⟨S1536, .f32⟩
  | .hbm, ⟨3, _⟩ => ⟨S1024x1536, .f32⟩
  | .hbm, ⟨4, _⟩ => ⟨S1024x1536, .f32⟩
  | .hbm, ⟨5, _⟩ => ⟨S1024x1536, .f32⟩
  | .hbm, ⟨6, _⟩ => ⟨S1x1024, .f32⟩
  | .hbm, ⟨7, _⟩ => ⟨S8x1024, .f32⟩
  | .hbm, ⟨8, _⟩ => ⟨S8x1536, .f32⟩
  | .hbm, ⟨9, _⟩ => ⟨S1x1536, .f32⟩
  | .hbm, ⟨10, _⟩ => ⟨S1x1536, .f32⟩
  | .hbm, ⟨11, _⟩ => ⟨S1536x1024, .f32⟩
  | .hbm, ⟨12, _⟩ => ⟨S1024x1536, .f32⟩
  | .hbm, ⟨13, _⟩ => ⟨S1x1024, .f32⟩
  | .hbm, ⟨14, _⟩ => ⟨S1536x1024, .f32⟩
  | .hbm, ⟨15, _⟩ => ⟨S1024x1536, .f32⟩
  | .hbm, ⟨16, _⟩ => ⟨S1024x1536, .f32⟩
  | .hbm, ⟨17, _⟩ => ⟨S_, .f32⟩
  | .hbm, ⟨18, _⟩ => ⟨S1024x1536, .f32⟩
  | .hbm, ⟨19, _⟩ => ⟨S1024x1536, .f32⟩
  | .hbm, ⟨20, _⟩ => ⟨S_, .f32⟩
  | .hbm, ⟨21, _⟩ => ⟨S1024x1536, .f32⟩
  | .hbm, ⟨22, _⟩ => ⟨S1024x1536, .f32⟩
  | .hbm, ⟨23, _⟩ => ⟨S1024x1536, .f32⟩
  | .hbm, ⟨24, _⟩ => ⟨S_, .f32⟩
  | .hbm, ⟨25, _⟩ => ⟨S1024x1536, .f32⟩
  | .hbm, ⟨26, _⟩ => ⟨S1024x1536, .f32⟩
  | .hbm, ⟨27, _⟩ => ⟨S1024x1536, .f32⟩
  | .hbm, ⟨28, _⟩ => ⟨S_, .f32⟩
  | .hbm, ⟨29, _⟩ => ⟨S1024x1536, .f32⟩
  | .hbm, ⟨30, _⟩ => ⟨S1024x1536, .f32⟩
  | .hbm, ⟨31, _⟩ => ⟨S1024x1536, .f32⟩
  | .hbm, ⟨32, _⟩ => ⟨S_, .f32⟩
  | .hbm, ⟨33, _⟩ => ⟨S1024x1536, .f32⟩
  | .hbm, ⟨34, _⟩ => ⟨S1024x1536, .f32⟩
  | .hbm, ⟨35, _⟩ => ⟨S_, .f32⟩
  | .hbm, ⟨36, _⟩ => ⟨S1024x1536, .f32⟩
  | .hbm, ⟨37, _⟩ => ⟨S1024x1536, .f32⟩
  | .hbm, ⟨38, _⟩ => ⟨S1024x1536, .f32⟩
  | .hbm, ⟨39, _⟩ => ⟨S_, .f32⟩
  | .hbm, ⟨40, _⟩ => ⟨S1024x1536, .f32⟩
  | .hbm, ⟨41, _⟩ => ⟨S1024x1536, .f32⟩
  | .hbm, ⟨42, _⟩ => ⟨S1024x1536, .f32⟩
  | .hbm, ⟨43, _⟩ => ⟨S_, .f32⟩
  | .hbm, ⟨44, _⟩ => ⟨S1024x1536, .f32⟩
  | .hbm, ⟨45, _⟩ => ⟨S1024x1536, .f32⟩
  | .hbm, ⟨46, _⟩ => ⟨S1024x1536, .f32⟩
  | .hbm, ⟨47, _⟩ => ⟨S_, .f32⟩
  | .hbm, ⟨48, _⟩ => ⟨S1024x1536, .f32⟩
  | .hbm, ⟨49, _⟩ => ⟨S1024x1536, .f32⟩
  | .hbm, ⟨50, _⟩ => ⟨S_, .f32⟩
  | .hbm, ⟨51, _⟩ => ⟨S7x1024, .f32⟩
  | .hbm, ⟨52, _⟩ => ⟨S8x1024, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩

abbrev nD : Nat := 1
abbrev τ : Topo := Topo.v7x

variable {F : FTy → Type} [FloatOps F]
-- ==== Proof.Lift.lean ====
/-
  Arrays of finite values, and the operations on them.

  Every value the two programs compute from finite arguments is finite. This module names the array of extended reals
  whose element at coordinates (i, j) is a REAL number `f i j` (`up2`; `up1`, `up3` at ranks one and three), and states
  each array operation the programs use as an operation on those real functions: the pointwise ones, the layout ones,
  the sums over an axis and the products. A program's value on finite arguments is then read by rewriting with these
  equations, and what is left is an equation between real numbers. The functions take natural numbers, so a slice or a
  row block is a shift of the argument and a sum over an axis is a sum over `Finset.range`.
-/
module

public import Idealize.ShloMosaic.PureOps.Ideal.Laws
public import Idealize.ShloMosaic.Lib.ValueIdx
public import Idealize.ShloMosaic.Lib.MatmulPlain
public import Idealize.ShloMosaic.Lib.Pipeline.Value

@[expose] public section

noncomputable section

namespace Cert.Lift

open Idealize.ShloMosaic Idealize.ShloMosaic.ValueIdx
open scoped BigOperators

/-- The vector of extended reals with the real `f i` at `i`. -/
def up1 (n : ℕ) (f : ℕ → ℝ) : (⟨1, ![n]⟩ : Shape).Idx → EReal := fun i => ((f (i 0).val : ℝ) : EReal)
/-- The matrix of extended reals with the real `f i j` at `(i, j)`. -/
def up2 (n m : ℕ) (f : ℕ → ℕ → ℝ) : (⟨2, ![n, m]⟩ : Shape).Idx → EReal := fun i => ((f (i 0).val (i 1).val : ℝ) : EReal)
/-- The rank-three array of extended reals with the real `f i j k` at `(i, j, k)`. -/
def up3 (n m l : ℕ) (f : ℕ → ℕ → ℕ → ℝ) : (⟨3, ![n, m, l]⟩ : Shape).Idx → EReal :=
  fun i => ((f (i 0).val (i 1).val (i 2).val : ℝ) : EReal)

/-- Two matrices agree when their functions agree inside the extents. -/
theorem up2_congr {n m : ℕ} {f g : ℕ → ℕ → ℝ} (h : ∀ i < n, ∀ j < m, f i j = g i j) : up2 n m f = up2 n m g :=
  funext fun i => congrArg _ (h _ (i 0).isLt _ (i 1).isLt)
theorem up1_congr {n : ℕ} {f g : ℕ → ℝ} (h : ∀ i < n, f i = g i) : up1 n f = up1 n g :=
  funext fun i => congrArg _ (h _ (i 0).isLt)

/-- A finite sum of reals, as a sum of extended reals. -/
theorem coe_sum_fin {n : ℕ} (f : ℕ → ℝ) : ∑ k : Fin n, ((f k.val : ℝ) : EReal) = ((∑ k ∈ Finset.range n, f k : ℝ) : EReal) := by
  rw [Finset.sum_range]
  induction (Finset.univ : Finset (Fin n)) using Finset.induction_on with
  | empty => simp
  | insert a s ha ih => rw [Finset.sum_insert ha, Finset.sum_insert ha, ih, EReal.coe_add]

section Pointwise

variable {φ : FTy} {n m : ℕ} (f g : ℕ → ℕ → ℝ)

theorem mulf_up : mulf (F := Ideal) (s := ⟨2, ![n, m]⟩) (φ := φ) (up2 n m f) (up2 n m g) = up2 n m fun i j => f i j * g i j :=
  funext fun _ => (EReal.coe_mul _ _).symm
theorem addf_up : addf (F := Ideal) (s := ⟨2, ![n, m]⟩) (φ := φ) (up2 n m f) (up2 n m g) = up2 n m fun i j => f i j + g i j :=
  funext fun _ => (EReal.coe_add _ _).symm
theorem subf_up : subf (F := Ideal) (s := ⟨2, ![n, m]⟩) (φ := φ) (up2 n m f) (up2 n m g) = up2 n m fun i j => f i j - g i j :=
  funext fun _ => (EReal.coe_sub _ _).symm
theorem negf_up : Host.negf (F := Ideal) (s := ⟨2, ![n, m]⟩) (φ := φ) (up2 n m f) = up2 n m fun i j => -f i j :=
  funext fun _ => (EReal.coe_neg _).symm
theorem exp_up : Host.exp (F := Ideal) (s := ⟨2, ![n, m]⟩) (φ := φ) (up2 n m f) = up2 n m fun i j => Real.exp (f i j) := rfl
theorem tanh_up : tanh (F := Ideal) (s := ⟨2, ![n, m]⟩) (φ := φ) (up2 n m f) = up2 n m fun i j => Real.tanh (f i j) := rfl
theorem truncf_up {ψ : FTy} (h : ψ.bits < φ.bits) :
    truncf (F := Ideal) (s := ⟨2, ![n, m]⟩) (φ := φ) ψ (up2 n m f) h = up2 n m f := rfl

/-- The quotient of reals, where the divisor is not zero. -/
theorem div_coe' (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

theorem divf_up (h : ∀ i < n, ∀ j < m, g i j ≠ 0) :
    divf (F := Ideal) (s := ⟨2, ![n, m]⟩) (φ := φ) (up2 n m f) (up2 n m g) = up2 n m fun i j => f i j / g i j :=
  funext fun i => div_coe' _ _ (h _ (i 0).isLt _ (i 1).isLt)
theorem hostDivf_up (h : ∀ i < n, ∀ j < m, g i j ≠ 0) :
    Host.divf (F := Ideal) (s := ⟨2, ![n, m]⟩) (φ := φ) (up2 n m f) (up2 n m g) = up2 n m fun i j => f i j / g i j :=
  funext fun i => div_coe' _ _ (h _ (i 0).isLt _ (i 1).isLt)

/-- The reciprocal square root of a positive real. -/
theorem rsqrt_coe (a : ℝ) (h : 0 < a) : Ideal.rsqrt (a : EReal) = (((Real.sqrt a)⁻¹ : ℝ) : EReal) := by
  show (if a < 0 then ⊥ else if a = 0 then ⊤ else (((Real.sqrt a)⁻¹ : ℝ) : EReal)) = _
  rw [if_neg (not_lt.mpr h.le), if_neg h.ne']

theorem rsqrt_up (h : ∀ i < n, ∀ j < m, 0 < f i j) :
    rsqrt (F := Ideal) (s := ⟨2, ![n, m]⟩) (φ := φ) (up2 n m f) = up2 n m fun i j => (Real.sqrt (f i j))⁻¹ :=
  funext fun i => rsqrt_coe _ (h _ (i 0).isLt _ (i 1).isLt)
theorem hostRsqrt_up (h : ∀ i < n, ∀ j < m, 0 < f i j) :
    Host.rsqrt (F := Ideal) (s := ⟨2, ![n, m]⟩) (φ := φ) (up2 n m f) = up2 n m fun i j => (Real.sqrt (f i j))⁻¹ :=
  funext fun i => rsqrt_coe _ (h _ (i 0).isLt _ (i 1).isLt)

end Pointwise

/-! ## Sums over an axis -/

section Sums

variable {φ : FTy} {n m : ℕ} (f : ℕ → ℕ → ℝ)

theorem sum_rows_up (h : (⟨2, ![n, m]⟩ : Shape).Reduces [1] ⟨1, ![n]⟩) (hφ : FKind.Formats .f32)
    (hacc : 0x00000000#32 = FKind.add.neutral .f32 hφ) :
    multiReduction (F := Ideal) (s := ⟨2, ![n, m]⟩) (φ := .f32) .add [1] ⟨1, ![n]⟩ (up2 n m f) 0x00000000#32 h hφ hacc
      = up1 n fun i => ∑ k ∈ Finset.range m, f i k :=
  funext fun j => (Ideal.multiReduction_add_single _ _ h hφ hacc j).trans (coe_sum_fin fun k => f (j 0).val k)

theorem sum_cols_up (h : (⟨2, ![n, m]⟩ : Shape).Reduces [0] ⟨1, ![m]⟩) (hφ : FKind.Formats .f32)
    (hacc : 0x00000000#32 = FKind.add.neutral .f32 hφ) :
    multiReduction (F := Ideal) (s := ⟨2, ![n, m]⟩) (φ := .f32) .add [0] ⟨1, ![m]⟩ (up2 n m f) 0x00000000#32 h hφ hacc
      = up1 m fun j => ∑ k ∈ Finset.range n, f k j :=
  funext fun j => (Ideal.multiReduction_add_single _ _ h hφ hacc j).trans (coe_sum_fin fun k => f k (j 0).val)

/-- The scalar zero a host sum starts from. -/
theorem zero_word : Ideal.ofBits .f32 0x00000000#32 = ((0 : ℝ) : EReal) := by
  rw [Ideal.ofBits_zero_f32]; rfl

theorem host_sum_rows_up {u : Shape} (hu : 0 < u.numel) (h : (⟨2, ![n, m]⟩ : Shape).ReducesTo [1] ⟨1, ![n]⟩)
    (h' : (⟨2, ![n, m]⟩ : Shape).Reduces [1] ⟨1, ![n]⟩) :
    Host.reduceAdd (F := Ideal) (s := ⟨2, ![n, m]⟩) (φ := .f32) (u := u) (up2 n m f) (constant u .f32 0x00000000#32) h hu
      = up1 n fun i => ∑ k ∈ Finset.range m, f i k := by
  funext j
  refine (Ideal.hostReduceAdd_single h h' _ _ j).trans ?_
  show Ideal.ofBits .f32 0x00000000#32 + _ = _
  rw [Ideal.ofBits_zero_f32, zero_add]
  exact coe_sum_fin fun k => f (j 0).val k

theorem host_sum_cols_up {u : Shape} (hu : 0 < u.numel) (h : (⟨2, ![n, m]⟩ : Shape).ReducesTo [0] ⟨1, ![m]⟩)
    (h' : (⟨2, ![n, m]⟩ : Shape).Reduces [0] ⟨1, ![m]⟩) :
    Host.reduceAdd (F := Ideal) (s := ⟨2, ![n, m]⟩) (φ := .f32) (u := u) (up2 n m f) (constant u .f32 0x00000000#32) h hu
      = up1 m fun j => ∑ k ∈ Finset.range n, f k j := by
  funext j
  refine (Ideal.hostReduceAdd_single h h' _ _ j).trans ?_
  show Ideal.ofBits .f32 0x00000000#32 + _ = _
  rw [Ideal.ofBits_zero_f32, zero_add]
  exact coe_sum_fin fun k => f k (j 0).val

end Sums

/-! ## Products -/

section Products

variable {φ₁ φ₂ : FTy} {M K N : ℕ} (f g : ℕ → ℕ → ℝ)

theorem coe_sum_mul {n : ℕ} (a b : ℕ → ℝ) :
    ∑ k : Fin n, ((a k.val : ℝ) : EReal) * ((b k.val : ℝ) : EReal) = ((∑ k ∈ Finset.range n, a k * b k : ℝ) : EReal) :=
  (Finset.sum_congr rfl fun k _ => (EReal.coe_mul _ _).symm).trans (coe_sum_fin fun k => a k * b k)

theorem matmul_up (prec : Option ContractPrecision) :
    FloatOps.matmul (F := Ideal) (φ₁ := φ₁) (φ₂ := φ₂) (DotDims.plain M K N) prec (up2 M K f) (up2 K N g)
        (constant ⟨2, ![M, N]⟩ .f32 0x00000000#32)
      = up2 M N fun i j => ∑ k ∈ Finset.range K, f i k * g k j := by
  funext j
  refine (congrArg _ (eq_ix2 j)).trans ((Ideal.matmul_plain_apply prec _ _ _ (j 0) (j 1)).trans ?_)
  show Ideal.ofBits .f32 0x00000000#32 + _ = _
  rw [Ideal.ofBits_zero_f32, zero_add]
  exact coe_sum_mul (fun k => f (j 0).val k) fun k => g k (j 1).val

theorem matmul_nt_up (prec : Option ContractPrecision) :
    FloatOps.matmul (F := Ideal) (φ₁ := φ₁) (φ₂ := φ₂) (DotDims.transposedRhs M K N) prec (up2 M K f) (up2 N K g)
        (constant ⟨2, ![M, N]⟩ .f32 0x00000000#32)
      = up2 M N fun i j => ∑ k ∈ Finset.range K, f i k * g j k := by
  funext j
  refine (congrArg _ (eq_ix2 j)).trans ((Ideal.matmul_transposedRhs_apply prec _ _ _ (j 0) (j 1)).trans ?_)
  show Ideal.ofBits .f32 0x00000000#32 + _ = _
  rw [Ideal.ofBits_zero_f32, zero_add]
  exact coe_sum_mul (fun k => f (j 0).val k) fun k => g (j 1).val k

/-- The host's product is the kernel's onto zero. -/
theorem dotGeneral_up (prec : Option ContractPrecision) (sched : HostSchedule) :
    FloatOps.dotGeneral (F := Ideal) (φ₁ := φ₁) (φ₂ := φ₂) (DotDims.plain M K N) prec sched (up2 M K f) (up2 K N g)
      = up2 M N fun i j => ∑ k ∈ Finset.range K, f i k * g k j := by
  rw [← matmul_up (φ₁ := φ₁) (φ₂ := φ₂) f g prec]
  show Ideal.matmul _ _ _ _ = Ideal.matmul _ _ _ _
  refine congrArg _ (funext fun j => ?_)
  exact Ideal.ofBits_zero_f32.symm

theorem dotGeneral_nt_up (prec : Option ContractPrecision) (sched : HostSchedule) :
    FloatOps.dotGeneral (F := Ideal) (φ₁ := φ₁) (φ₂ := φ₂) (DotDims.transposedRhs M K N) prec sched (up2 M K f) (up2 N K g)
      = up2 M N fun i j => ∑ k ∈ Finset.range K, f i k * g j k := by
  rw [← matmul_nt_up (φ₁ := φ₁) (φ₂ := φ₂) f g prec]
  show Ideal.matmul _ _ _ _ = Ideal.matmul _ _ _ _
  refine congrArg _ (funext fun j => ?_)
  exact Ideal.ofBits_zero_f32.symm

end Products

/-! ## Layout -/

section Layout

variable {n m : ℕ} (f : ℕ → ℕ → ℝ) (v : ℕ → ℝ)

/-- Casting a matrix to its own shape. -/
theorem cast_self_up (h) : shapeCast ⟨2, ![n, m]⟩ (up2 n m f) h = up2 n m f := shapeCast_self _ h

/-- A vector as a column. -/
theorem cast_col_up (h) : shapeCast (s := ⟨1, ![n]⟩) ⟨2, ![n, 1]⟩ (up1 n v) h = up2 n 1 fun i _ => v i := by
  funext j
  refine (shapeCast_apply _ h j (ix1 (j 0)) ?_).trans rfl
  rw [Shape.rowMajor_val_two, Shape.rowMajor_val_one]
  have h1 : (j 1).val < 1 := (j 1).isLt
  show (j 0).val = (j 0).val * 1 + (j 1).val
  omega

/-- A vector as a row. -/
theorem cast_row_up (h) : shapeCast (s := ⟨1, ![m]⟩) ⟨2, ![1, m]⟩ (up1 m v) h = up2 1 m fun _ j => v j := by
  funext j
  refine (shapeCast_apply _ h j (ix1 (j 1)) ?_).trans rfl
  rw [Shape.rowMajor_val_two, Shape.rowMajor_val_one]
  have h1 : (j 0).val < 1 := (j 0).isLt
  have h0 : (j 0).val = 0 := by omega
  show (j 1).val = (j 0).val * m + (j 1).val
  rw [h0]; omega

/-- A row as a vector. -/
theorem cast_unrow_up (h) : shapeCast (s := ⟨2, ![1, m]⟩) ⟨1, ![m]⟩ (up2 1 m f) h = up1 m (f 0) := by
  funext j
  refine (shapeCast_apply _ h j (ix2 ⟨0, Nat.one_pos⟩ (j 0)) ?_).trans rfl
  rw [Shape.rowMajor_val_two, Shape.rowMajor_val_one]
  show 0 * m + (j 0).val = (j 0).val
  omega

/-- One member of a stack of matrices. -/
theorem cast_drop_up (w : ℕ → ℕ → ℕ → ℝ) (h) :
    shapeCast (s := ⟨3, ![1, n, m]⟩) ⟨2, ![n, m]⟩ (up3 1 n m w) h = up2 n m (w 0) := by
  funext j
  refine (shapeCast_apply _ h j (ix3 ⟨0, Nat.one_pos⟩ (j 0) (j 1)) ?_).trans rfl
  rw [Shape.rowMajor_val_two, Shape.rowMajor_val_three]
  show (0 * n + (j 0).val) * m + (j 1).val = (j 0).val * m + (j 1).val
  rw [Nat.zero_mul, Nat.zero_add]

/-- A row repeated down the rows. -/
theorem rows_up (h) : broadcastTo (s := ⟨2, ![1, m]⟩) ⟨2, ![n, m]⟩ (up2 1 m f) h = up2 n m fun _ j => f 0 j := by
  funext j
  refine (broadcastTo_apply _ h j (ix2 ⟨0, Nat.one_pos⟩ (j 1)) fun a => ?_).trans rfl
  match a with
  | ⟨0, _⟩ => rfl
  | ⟨1, _⟩ =>
    show (j 1).val = if m = 1 then 0 else (j 1).val
    have h1 : (j 1).val < m := (j 1).isLt
    split <;> omega

/-- A column repeated along the columns. -/
theorem cols_up (h) : broadcastTo (s := ⟨2, ![n, 1]⟩) ⟨2, ![n, m]⟩ (up2 n 1 f) h = up2 n m fun i _ => f i 0 := by
  funext j
  refine (broadcastTo_apply _ h j (ix2 (j 0) ⟨0, Nat.one_pos⟩) fun a => ?_).trans rfl
  match a with
  | ⟨0, _⟩ =>
    show (j 0).val = if n = 1 then 0 else (j 0).val
    have h1 : (j 0).val < n := (j 0).isLt
    split <;> omega
  | ⟨1, _⟩ => rfl

/-- A rectangle of a matrix. -/
theorem slice_up {p q : ℕ} (a b : ℕ) (h) :
    extractStridedSlice (s := ⟨2, ![n, m]⟩) ⟨2, ![p, q]⟩ ![a, b] (up2 n m f) h = up2 p q fun i j => f (a + i) (b + j) := rfl

/-- The host's broadcasts: a vector as a row, a row or a column repeated, a vector repeated along the columns. -/
theorem host_row_up (h) : broadcastInDim (s := ⟨1, ![m]⟩) ⟨2, ![1, m]⟩ ![1] h (up1 m v) = up2 1 m fun _ j => v j := by
  funext j
  refine (broadcastInDim_apply _ h _ j (ix1 (j 1)) fun a => ?_).trans rfl
  match a with
  | ⟨0, _⟩ =>
    show (j 1).val = if m = 1 then 0 else (j 1).val
    have h1 : (j 1).val < m := (j 1).isLt
    split <;> omega

theorem host_col_up (h) : broadcastInDim (s := ⟨1, ![n]⟩) ⟨2, ![n, m]⟩ ![0] h (up1 n v) = up2 n m fun i _ => v i := by
  funext j
  refine (broadcastInDim_apply _ h _ j (ix1 (j 0)) fun a => ?_).trans rfl
  match a with
  | ⟨0, _⟩ =>
    show (j 0).val = if n = 1 then 0 else (j 0).val
    have h1 : (j 0).val < n := (j 0).isLt
    split <;> omega

theorem host_rows_up (h) :
    broadcastInDim (s := ⟨2, ![1, m]⟩) ⟨2, ![n, m]⟩ ![0, 1] h (up2 1 m f) = up2 n m fun _ j => f 0 j := by
  funext j
  refine (broadcastInDim_apply _ h _ j (ix2 ⟨0, Nat.one_pos⟩ (j 1)) fun a => ?_).trans rfl
  match a with
  | ⟨0, _⟩ => rfl
  | ⟨1, _⟩ =>
    show (j 1).val = if m = 1 then 0 else (j 1).val
    have h1 : (j 1).val < m := (j 1).isLt
    split <;> omega

theorem host_cols_up (h) :
    broadcastInDim (s := ⟨2, ![n, 1]⟩) ⟨2, ![n, m]⟩ ![0, 1] h (up2 n 1 f) = up2 n m fun i _ => f i 0 := by
  funext j
  refine (broadcastInDim_apply _ h _ j (ix2 (j 0) ⟨0, Nat.one_pos⟩) fun a => ?_).trans rfl
  match a with
  | ⟨0, _⟩ =>
    show (j 0).val = if n = 1 then 0 else (j 0).val
    have h1 : (j 0).val < n := (j 0).isLt
    split <;> omega
  | ⟨1, _⟩ => rfl

/-- Two matrices side by side. -/
theorem beside_up {p q r : ℕ} (g : ℕ → ℕ → ℝ) (hr : r = p + q)
    (h : Shape.Concatenates [(⟨2, ![n, p]⟩ : Shape), ⟨2, ![n, q]⟩] ⟨2, ![n, r]⟩ 1) :
    concatenate ⟨2, ![n, r]⟩ 1 [⟨⟨2, ![n, p]⟩, up2 n p f⟩, ⟨⟨2, ![n, q]⟩, up2 n q g⟩] h
      = up2 n r fun i j => if j < p then f i j else g i (j - p) := by
  funext j
  have h1 : (j 1).val < r := (j 1).isLt
  by_cases hj : (j 1).val < p
  · refine (concatenate_pair_apply_left _ _ _ h j rfl (ix2 (j 0) ⟨(j 1).val, hj⟩) fun a => ?_).trans ?_
    · match a with
      | ⟨0, _⟩ => rfl
      | ⟨1, _⟩ => rfl
    · show ((f _ _ : ℝ) : EReal) = ((if (j 1).val < p then _ else _ : ℝ) : EReal)
      rw [if_pos hj]
      rfl
  · refine (concatenate_pair_apply_right _ _ _ h j rfl rfl (ix2 (j 0) ⟨(j 1).val - p, by omega⟩) (fun a ha => ?_) ?_).trans ?_
    · match a with
      | ⟨0, _⟩ => rfl
      | ⟨1, _⟩ => exact absurd rfl ha
    · show (j 1).val - p + p = (j 1).val
      omega
    · show ((g _ _ : ℝ) : EReal) = ((if (j 1).val < p then _ else _ : ℝ) : EReal)
      rw [if_neg hj]
      rfl

end Layout

/-! ## The literals -/

/-- The slope of the DeepNorm residual, as the rational its float word denotes. -/
def alpha : ℝ := 9975792 / 8388608
/-- The layer norm's `1e-5`, as the rational its float word denotes. -/
def eps : ℝ := 10995116 / 1099511627776

theorem word_alpha : Ideal.ofBits .f32 0x3F9837F0#32 = ((alpha : ℝ) : EReal) := by
  unfold alpha; simp [Ideal.ofBits, Ideal.ieee, -EReal.coe_mul]; norm_num
theorem word_eps : Ideal.ofBits .f32 0x3727C5AC#32 = ((eps : ℝ) : EReal) := by
  unfold eps; simp [Ideal.ofBits, Ideal.ieee, -EReal.coe_mul]; norm_num
theorem word_1024 : Ideal.ofBits .f32 0x44800000#32 = ((1024 : ℝ) : EReal) := by
  simp [Ideal.ofBits, Ideal.ieee, -EReal.coe_mul]; norm_num
theorem word_half : Ideal.ofBits .f32 0x3F000000#32 = ((1 / 2 : ℝ) : EReal) := by
  simp [Ideal.ofBits, Ideal.ieee, -EReal.coe_mul]; norm_num
theorem word_neg_half : Ideal.ofBits .f32 0xBF000000#32 = ((-(1 / 2) : ℝ) : EReal) := by
  simp [Ideal.ofBits, Ideal.ieee, -EReal.coe_mul]; norm_num
theorem word_one : Ideal.ofBits .f32 0x3F800000#32 = ((1 : ℝ) : EReal) := by
  simp [Ideal.ofBits, Ideal.ieee, -EReal.coe_mul]; norm_num
theorem word_two : Ideal.ofBits .f32 0x40000000#32 = ((2 : ℝ) : EReal) := by
  simp [Ideal.ofBits, Ideal.ieee, -EReal.coe_mul]; norm_num

/-- A literal of the kernel spread over a matrix. -/
theorem splat_up {n m : ℕ} {w : BitVec 32} {r : ℝ} (hw : Ideal.ofBits .f32 w = ((r : ℝ) : EReal)) :
    broadcast (⟨2, ![n, m]⟩ : Shape) (Scalar.ofBits (F := Ideal) .f32 w) = up2 n m fun _ _ => r := funext fun _ => hw

/-- A literal of the host spread over a matrix, or over a vector. -/
theorem host_splat_up {n m : ℕ} {w : BitVec 32} {r : ℝ} (dims) (h) (hw : Ideal.ofBits .f32 w = ((r : ℝ) : EReal)) :
    broadcastInDim (s := ⟨0, ![]⟩) ⟨2, ![n, m]⟩ dims h (constant (F := Ideal) ⟨0, ![]⟩ .f32 w) = up2 n m fun _ _ => r := funext fun _ => hw
theorem host_splat1_up {n : ℕ} {w : BitVec 32} {r : ℝ} (dims) (h) (hw : Ideal.ofBits .f32 w = ((r : ℝ) : EReal)) :
    broadcastInDim (s := ⟨0, ![]⟩) ⟨1, ![n]⟩ dims h (constant (F := Ideal) ⟨0, ![]⟩ .f32 w) = up1 n fun _ => r := funext fun _ => hw

end Cert.Lift

end
-- ==== Proof.Spec.lean ====
/-
  The mathematics of the feed-forward half of the step, on one token, in real numbers.

  A token is its row `x` of the block's input, its row `m` of the mixer's output and its row `t` of the target. The eight
  rows of `v` are, in this order: the first residual's gate, the first layer norm's scale and shift, the modulation's
  shift, scale and gate, the second layer norm's scale and shift. `wi` and `wo` are the two weight matrices. The
  definitions name the forward values and then the gradients, in the order of the chain rule. The two facts at the end
  are the real identities the equation of the two programs rests on.
-/
module

public import proofs.«01_k».proof.Proof.Lift

@[expose] public section

noncomputable section

namespace Cert.Spec

open Cert.Lift Finset
open scoped BigOperators

/-- The mean of a row of 1024. -/
def mean (f : ℕ → ℝ) : ℝ := (∑ k ∈ range 1024, f k) / 1024
/-- A row minus its mean. -/
def dev (f : ℕ → ℝ) (j : ℕ) : ℝ := f j - mean f
/-- The variance of a row, with the layer norm's epsilon. -/
def var (f : ℕ → ℝ) : ℝ := mean (fun k => dev f k * dev f k) + eps
/-- The reciprocal standard deviation of a row. -/
def rstd (f : ℕ → ℝ) : ℝ := (Real.sqrt (var f))⁻¹
/-- The normalised row. -/
def nrm (f : ℕ → ℝ) (j : ℕ) : ℝ := dev f j * rstd f
/-- The gradient of the normalised row, for the cotangent `d`. -/
def nrmBwd (d f : ℕ → ℝ) (j : ℕ) : ℝ := (d j - mean d - nrm f j * mean (fun k => d k * nrm f k)) * rstd f
/-- The logistic function, by the hyperbolic tangent. -/
def sig (y : ℝ) : ℝ := 1 / 2 + 1 / 2 * Real.tanh (1 / 2 * y)

variable (v wi wo : ℕ → ℕ → ℝ) (x m t : ℕ → ℝ)

/-- The first residual sum. -/
def r1 (j : ℕ) : ℝ := alpha * x j + v 0 j * m j
/-- The row between the two halves of the block. -/
def xmid (j : ℕ) : ℝ := nrm (r1 v x m) j * v 1 j + v 2 j
/-- The modulated layer norm the feed-forward network reads. -/
def h2 (j : ℕ) : ℝ := nrm (xmid v x m) j * (1 + v 4 j) + v 3 j
/-- Gate (the first 2816) and up projection. -/
def gu (c : ℕ) : ℝ := ∑ k ∈ range 1024, h2 v x m k * wi k c
/-- The gated activation. -/
def act (c : ℕ) : ℝ := gu v wi x m c * sig (gu v wi x m c) * gu v wi x m (2816 + c)
/-- The network's output. -/
def ff (j : ℕ) : ℝ := ∑ c ∈ range 2816, act v wi x m c * wo c j
/-- The second residual sum. -/
def r2 (j : ℕ) : ℝ := alpha * xmid v x m j + v 5 j * ff v wi wo x m j
/-- The block's output minus the target. -/
def err (j : ℕ) : ℝ := nrm (r2 v wi wo x m) j * v 6 j + v 7 j - t j
/-- The loss's cotangent. -/
def dy (j : ℕ) : ℝ := err v wi wo x m t j / 1024
/-- The gradient at the second residual sum. -/
def dr2 (j : ℕ) : ℝ := nrmBwd (fun k => dy v wi wo x m t k * v 6 k) (r2 v wi wo x m) j
/-- The gradient at the network's output. -/
def df (j : ℕ) : ℝ := dr2 v wi wo x m t j * v 5 j
/-- The gradient at the activation. -/
def da (c : ℕ) : ℝ := ∑ j ∈ range 1024, df v wi wo x m t j * wo c j
/-- The gradient at the gate projection. -/
def dg (c : ℕ) : ℝ :=
  da v wi wo x m t c * gu v wi x m (2816 + c) * sig (gu v wi x m c) * (1 + gu v wi x m c * (1 - sig (gu v wi x m c)))
/-- The gradient at the up projection. -/
def du (c : ℕ) : ℝ := da v wi wo x m t c * gu v wi x m c * sig (gu v wi x m c)
/-- The gradient at both projections. -/
def dff (c : ℕ) : ℝ := if c < 2816 then dg v wi wo x m t c else du v wi wo x m t (c - 2816)
/-- The gradient at the modulated layer norm. -/
def dh2 (k : ℕ) : ℝ := ∑ c ∈ range 5632, dff v wi wo x m t c * wi k c
/-- The gradient at the row between the halves. -/
def dxmid (j : ℕ) : ℝ :=
  nrmBwd (fun k => dh2 v wi wo x m t k * (1 + v 4 k)) (xmid v x m) j + alpha * dr2 v wi wo x m t j
/-- The gradient at the first residual sum. -/
def dr1 (j : ℕ) : ℝ := nrmBwd (fun k => dxmid v wi wo x m t k * v 1 k) (r1 v x m) j

/-- What one token adds to row `s` of the sums over the tokens: the squared error, and the gradients of the vectors. -/
def stat (s j : ℕ) : ℝ :=
  match s with
  | 0 => err v wi wo x m t j * err v wi wo x m t j
  | 1 => dy v wi wo x m t j * nrm (r2 v wi wo x m) j
  | 2 => dy v wi wo x m t j
  | 3 => dr2 v wi wo x m t j * ff v wi wo x m j
  | 8 => dh2 v wi wo x m t j * nrm (xmid v x m) j
  | 9 => dh2 v wi wo x m t j
  | 10 => dxmid v wi wo x m t j * nrm (r1 v x m) j
  | 11 => dxmid v wi wo x m t j
  | 12 => dr1 v wi wo x m t j * m j
  | _ => 0

/-! ## The identities -/

theorem var_pos (f : ℕ → ℝ) : 0 < var f := by
  unfold var mean eps
  have h : 0 ≤ ∑ k ∈ range 1024, dev f k * dev f k := sum_nonneg fun k _ => mul_self_nonneg _
  positivity

/-- The deviations of a row sum to zero. -/
theorem sum_dev (f : ℕ → ℝ) : ∑ k ∈ range 1024, dev f k = 0 := by
  unfold dev
  rw [sum_sub_distrib, sum_const, card_range]
  unfold mean
  simp only [nsmul_eq_mul]
  push_cast
  ring

/-- The logistic function in its usual form. -/
theorem sig_eq (y : ℝ) : 1 / (1 + Real.exp (-y)) = sig y := by
  unfold sig
  rw [Real.tanh_eq_sinh_div_cosh, Real.sinh_eq, Real.cosh_eq]
  have e : Real.exp (-y) = Real.exp (-(1 / 2 * y)) * Real.exp (-(1 / 2 * y)) := by rw [← Real.exp_add]; congr 1; ring
  have i : Real.exp (1 / 2 * y) * Real.exp (-(1 / 2 * y)) = 1 := by rw [← Real.exp_add]; simp
  have p : 0 < Real.exp (1 / 2 * y) := Real.exp_pos _
  have q : 0 < Real.exp (-(1 / 2 * y)) := Real.exp_pos _
  rw [e]
  set a := Real.exp (1 / 2 * y)
  set b := Real.exp (-(1 / 2 * y))
  have h1 : 1 + b * b ≠ 0 := by positivity
  have h2 : a + b ≠ 0 := by positivity
  field_simp
  linear_combination (-(2 * b)) * i

/-- The layer norm's gradient the way the chain rule gives it: the cotangent through the quotient and through the
    variance, each with the mean it reaches the row by. -/
theorem nrmBwd_eq (d f : ℕ → ℝ) (j : ℕ) :
    d j * rstd f + (∑ k ∈ range 1024, dev f k * d k) * (-(1 / 2) * (rstd f / var f)) / 1024 * (2 * dev f j)
      + (∑ k ∈ range 1024, -(d k * rstd f)
          + ∑ k ∈ range 1024, -((∑ l ∈ range 1024, dev f l * d l) * (-(1 / 2) * (rstd f / var f)) / 1024 * (2 * dev f k))) / 1024
      = nrmBwd d f j := by
  have hr : rstd f / var f = rstd f * rstd f * rstd f := by
    have h := Real.mul_self_sqrt (var_pos f).le
    have h0 : Real.sqrt (var f) ≠ 0 := (Real.sqrt_pos.mpr (var_pos f)).ne'
    unfold rstd
    rw [div_eq_mul_inv, ← mul_inv, mul_assoc, ← mul_inv, ← mul_inv]
    congr 1
    rw [h]
  rw [hr]
  set S := ∑ k ∈ range 1024, dev f k * d k with hS
  have h2 : ∑ k ∈ range 1024, -(S * (-(1 / 2) * (rstd f * rstd f * rstd f)) / 1024 * (2 * dev f k)) = 0 := by
    have : ∀ k, -(S * (-(1 / 2) * (rstd f * rstd f * rstd f)) / 1024 * (2 * dev f k))
        = S * (rstd f * rstd f * rstd f) / 1024 * dev f k := fun k => by ring
    simp only [this]
    rw [← mul_sum, sum_dev, mul_zero]
  have h3 : ∑ k ∈ range 1024, -(d k * rstd f) = -((∑ k ∈ range 1024, d k) * rstd f) := by
    rw [sum_neg_distrib, sum_mul]
  have h4 : ∑ k ∈ range 1024, d k * nrm f k = S * rstd f := by
    rw [hS, sum_mul]
    exact sum_congr rfl fun k _ => by unfold nrm; ring
  rw [h2, h3]
  unfold nrmBwd nrm
  unfold nrm at h4
  unfold mean
  rw [h4]
  ring

/-- A sum over 5632 columns in four chunks. -/
theorem sum_chunks (f : ℕ → ℝ) :
    ∑ c ∈ range 1408, f c + ∑ c ∈ range 1408, f (1408 + c) + ∑ c ∈ range 1408, f (2816 + c) + ∑ c ∈ range 1408, f (4224 + c)
      = ∑ c ∈ range 5632, f c := by
  rw [show (5632 : ℕ) = 1408 + 1408 + 1408 + 1408 from rfl, sum_range_add, sum_range_add, sum_range_add]

/-- The gradient at the modulated layer norm, from the gate's and the up projection's halves. -/
theorem sum_dff (k : ℕ) :
    ∑ c ∈ range 1408, dg v wi wo x m t c * wi k c + ∑ c ∈ range 1408, dg v wi wo x m t (1408 + c) * wi k (1408 + c)
        + ∑ c ∈ range 1408, du v wi wo x m t c * wi k (2816 + c)
        + ∑ c ∈ range 1408, du v wi wo x m t (1408 + c) * wi k (2816 + (1408 + c))
      = dh2 v wi wo x m t k := by
  unfold dh2
  rw [← sum_chunks]
  unfold dff
  refine congrArg₂ _ (congrArg₂ _ (congrArg₂ _ (sum_congr rfl fun c hc => ?_) (sum_congr rfl fun c hc => ?_))
    (sum_congr rfl fun c hc => ?_)) (sum_congr rfl fun c hc => ?_)
  · have := mem_range.1 hc
    rw [if_pos (by omega)]
  · have := mem_range.1 hc
    rw [if_pos (by omega)]
  · rw [if_neg (by omega), Nat.add_sub_cancel_left]
  · rw [if_neg (by omega), show 4224 + c - 2816 = 1408 + c by omega, show 2816 + (1408 + c) = 4224 + c by omega]

end Cert.Spec

end
-- ==== Proof.Pay.lean ====
/-
  What each value of the kernel's body is, on a block of 256 tokens.

  The body's arithmetic is printed as one function per value (`k0_pay…`) of the values it is made of. Each is read here on
  blocks of real numbers: token `i` of the block has the rows `X i`, `M i`, `T i`, and the value's element at `(i, j)` is
  the real number the token's mathematics names (`Spec`). A value on half the network's columns is read for any choice
  `g` of the columns, since the body treats the two halves alike.
-/
module

public import proofs.«01_k».proof.Proof.Gen.KernelIdeal.Skeleton
public import proofs.«01_k».proof.Proof.Spec

@[expose] public section

noncomputable section

namespace Cert.Pay

open Idealize.ShloMosaic Cert.KernelIdeal Cert.KernelIdeal.Gen Cert.Lift Cert.Spec Finset
open scoped BigOperators

/-- A row as a block of one row. -/
abbrev row (a : ℕ → ℝ) : FVec Ideal S1x1024 .f32 := up2 1 1024 fun _ j => a j

/-! ## The operations at this kernel's shapes -/

theorem div_1024 {n m : ℕ} (f : ℕ → ℕ → ℝ) :
    divf (F := Ideal) (s := ⟨2, ![n, m]⟩) (φ := .f32) (up2 n m f) (broadcast _ (Scalar.ofBits (F := Ideal) .f32 0x44800000#32))
      = up2 n m fun i j => f i j / 1024 := by
  rw [splat_up word_1024]
  exact divf_up _ _ fun _ _ _ _ => by norm_num

theorem rstd_up {n m : ℕ} (f : ℕ → ℕ → ℝ) :
    rsqrt (F := Ideal) (s := ⟨2, ![n, m]⟩) (φ := .f32)
      (up2 n m fun i _ => (∑ k ∈ range 1024, dev (f i) k * dev (f i) k) / 1024 + eps) = up2 n m fun i _ => rstd (f i) :=
  rsqrt_up _ fun i _ _ _ => var_pos (f i)

theorem sum_r (f : ℕ → ℕ → ℝ) (hφ : FTy.f32 = FTy.f32 ∨ FTy.f32 = FTy.bf16)
    (hacc : (0x00000000#32 : BitVec FTy.f32.bits) = 0x00000000#32) :
    multiReduction (F := Ideal) (φ := .f32) (s := S256x1024) .add [1] S256 (up2 256 1024 f) 0x00000000#32
      reduces_S256x1024_S256 hφ hacc = up1 256 fun i => ∑ k ∈ range 1024, f i k := sum_rows_up f _ _ _

theorem sum_c (f : ℕ → ℕ → ℝ) (hφ : FTy.f32 = FTy.f32 ∨ FTy.f32 = FTy.bf16)
    (hacc : (0x00000000#32 : BitVec FTy.f32.bits) = 0x00000000#32) :
    multiReduction (F := Ideal) (φ := .f32) (s := S256x1024) .add [0] S1024 (up2 256 1024 f) 0x00000000#32
      reduces_S256x1024_S1024 hφ hacc = up1 1024 fun j => ∑ i ∈ range 256, f i j := sum_cols_up f _ _ _

theorem mm_in (f g : ℕ → ℕ → ℝ) :
    FloatOps.matmul (F := Ideal) (φ₁ := .bf16) (φ₂ := .bf16) dot_S256x1024_S1024x1408_S256x1408_1_0_0_1_n_n none (up2 256 1024 f) (up2 1024 1408 g)
      (constant S256x1408 .f32 0x00000000#32) = up2 256 1408 fun i j => ∑ k ∈ range 1024, f i k * g k j := matmul_up f g none
theorem mm_out (f g : ℕ → ℕ → ℝ) :
    FloatOps.matmul (F := Ideal) (φ₁ := .bf16) (φ₂ := .bf16) dot_S256x2816_S2816x1024_S256x1024_1_0_0_1_n_n none (up2 256 2816 f) (up2 2816 1024 g)
      (constant S256x1024 .f32 0x00000000#32) = up2 256 1024 fun i j => ∑ k ∈ range 2816, f i k * g k j := matmul_up f g none
theorem mm_da (f g : ℕ → ℕ → ℝ) :
    FloatOps.matmul (F := Ideal) (φ₁ := .bf16) (φ₂ := .bf16) dot_S256x1024_S2816x1024_S256x2816_1_1_0_0_n_n none (up2 256 1024 f) (up2 2816 1024 g)
      (constant S256x2816 .f32 0x00000000#32) = up2 256 2816 fun i j => ∑ k ∈ range 1024, f i k * g j k := matmul_nt_up f g none
theorem mm_dh (f g : ℕ → ℕ → ℝ) :
    FloatOps.matmul (F := Ideal) (φ₁ := .bf16) (φ₂ := .bf16) dot_S256x1408_S1024x1408_S256x1024_1_1_0_0_n_n none (up2 256 1408 f) (up2 1024 1408 g)
      (constant S256x1024 .f32 0x00000000#32) = up2 256 1024 fun i j => ∑ k ∈ range 1408, f i k * g j k := matmul_nt_up f g none

variable (v wi wo : ℕ → ℕ → ℝ) (X M T : ℕ → ℕ → ℝ)

/-! ## The blocks -/

abbrev bR1 : FVec Ideal S256x1 .f32 := up2 256 1 fun i _ => rstd (r1 v (X i) (M i))
abbrev bH1 : FVec Ideal S256x1024 .f32 := up2 256 1024 fun i => nrm (r1 v (X i) (M i))
abbrev bXm : FVec Ideal S256x1024 .f32 := up2 256 1024 fun i => xmid v (X i) (M i)
abbrev bXs : FVec Ideal S256x1 .f32 := up2 256 1 fun i _ => ∑ k ∈ range 1024, xmid v (X i) (M i) k
abbrev bR2 : FVec Ideal S256x1 .f32 := up2 256 1 fun i _ => rstd (xmid v (X i) (M i))
abbrev bN2 : FVec Ideal S256x1024 .f32 := up2 256 1024 fun i => nrm (xmid v (X i) (M i))
abbrev bH2 : FVec Ideal S256x1024 .bf16 := up2 256 1024 fun i => h2 v (X i) (M i)
/-- The columns `g` of the first weight matrix, as the stack of one it is read as. -/
abbrev bW (g : ℕ → ℕ) : FVec Ideal S1x1024x1408 .bf16 := up3 1 1024 1408 fun _ k c => wi k (g c)
abbrev bG (g : ℕ → ℕ) : FVec Ideal S256x1408 .f32 := up2 256 1408 fun i c => gu v wi (X i) (M i) (g c)
abbrev bA (g : ℕ → ℕ) : FVec Ideal S256x1408 .bf16 := up2 256 1408 fun i c => act v wi (X i) (M i) (g c)
abbrev bAct : FVec Ideal S256x2816 .bf16 := up2 256 2816 fun i => act v wi (X i) (M i)
abbrev bWo : FVec Ideal S2816x1024 .bf16 := up2 2816 1024 wo
abbrev bF : FVec Ideal S256x1024 .f32 := up2 256 1024 fun i => ff v wi wo (X i) (M i)
abbrev bR3 : FVec Ideal S256x1 .f32 := up2 256 1 fun i _ => rstd (r2 v wi wo (X i) (M i))
abbrev bY : FVec Ideal S256x1024 .f32 := up2 256 1024 fun i => nrm (r2 v wi wo (X i) (M i))
abbrev bE : FVec Ideal S256x1024 .f32 := up2 256 1024 fun i => err v wi wo (X i) (M i) (T i)
abbrev bDy : FVec Ideal S256x1024 .f32 := up2 256 1024 fun i => dy v wi wo (X i) (M i) (T i)
abbrev bDr2 : FVec Ideal S256x1024 .f32 := up2 256 1024 fun i => dr2 v wi wo (X i) (M i) (T i)
abbrev bDf : FVec Ideal S256x1024 .bf16 := up2 256 1024 fun i => df v wi wo (X i) (M i) (T i)
abbrev bDa : FVec Ideal S256x2816 .f32 := up2 256 2816 fun i => da v wi wo (X i) (M i) (T i)
abbrev bDaH (g : ℕ → ℕ) : FVec Ideal S256x1408 .f32 := up2 256 1408 fun i c => da v wi wo (X i) (M i) (T i) (g c)
abbrev bSg (g : ℕ → ℕ) : FVec Ideal S256x1408 .f32 := up2 256 1408 fun i c => sig (gu v wi (X i) (M i) (g c))
abbrev bDg (g : ℕ → ℕ) : FVec Ideal S256x1408 .bf16 := up2 256 1408 fun i c => dg v wi wo (X i) (M i) (T i) (g c)
abbrev bDu (g : ℕ → ℕ) : FVec Ideal S256x1408 .bf16 := up2 256 1408 fun i c => du v wi wo (X i) (M i) (T i) (g c)
abbrev bDff (g : ℕ → ℕ) : FVec Ideal S256x1408 .bf16 := up2 256 1408 fun i c => dff v wi wo (X i) (M i) (T i) (g c)
abbrev bDh2 : FVec Ideal S256x1024 .f32 := up2 256 1024 fun i => dh2 v wi wo (X i) (M i) (T i)
abbrev bDn2 : FVec Ideal S256x1024 .f32 := up2 256 1024 fun i k => dh2 v wi wo (X i) (M i) (T i) k * (1 + v 4 k)
abbrev bDxm : FVec Ideal S256x1024 .f32 := up2 256 1024 fun i => dxmid v wi wo (X i) (M i) (T i)
abbrev bDr1 : FVec Ideal S256x1024 .f32 := up2 256 1024 fun i => dr1 v wi wo (X i) (M i) (T i)
/-- The literal 1024 of the body's text. -/
abbrev c1024 : Ideal .f32 := Scalar.ofBits (F := Ideal) .f32 0x44800000#32
/-- A row of the running sums with the block's column sums of `f` added. -/
abbrev acc (s : ℕ → ℝ) (f : ℕ → ℕ → ℝ) : FVec Ideal S1x1024 .f32 := row fun j => s j + ∑ i ∈ range 256, f i j

/-! ## Their values -/
theorem pay2_up : k0_pay2 (F := Ideal) (up2 256 1024 X) (row (v 0)) (up2 256 1024 M) = up2 256 1024 fun i => dev (r1 v (X i) (M i)) := by
  unfold k0_pay2
  simp only [cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]
  rw [sum_r]
  simp only [cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]
  rfl

theorem pay3_up : k0_pay3 (F := Ideal) (up2 256 1024 X) (row (v 0)) (up2 256 1024 M) = bR1 v X M := by
  unfold k0_pay3
  simp only [pay2_up, cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]
  rw [sum_r]
  simp only [cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]

theorem pay4_up : k0_pay4 (F := Ideal) (up2 256 1024 X) (row (v 0)) (up2 256 1024 M) = bH1 v X M := by
  unfold k0_pay4
  simp only [pay2_up, pay3_up, cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]
  rfl

theorem pay5_up : k0_pay5 (F := Ideal) (up2 256 1024 X) (row (v 0)) (up2 256 1024 M) (row (v 1)) (row (v 2)) = bXm v X M := by
  unfold k0_pay5
  simp only [pay4_up, cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]
  rfl

theorem pay6_up : k0_pay6 (F := Ideal) (up2 256 1024 X) (row (v 0)) (up2 256 1024 M) (row (v 1)) (row (v 2)) = bXs v X M := by
  unfold k0_pay6
  simp only [pay5_up, cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]
  rw [sum_r]
  simp only [cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]

theorem pay7_up : k0_pay7 (F := Ideal) (bXm v X M) (bXs v X M) c1024 = up2 256 1024 fun i => dev (xmid v (X i) (M i)) := by
  unfold k0_pay7
  simp only [cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]
  rfl

theorem pay8_up : k0_pay8 (F := Ideal) (bXm v X M) (bXs v X M) c1024 = bR2 v X M := by
  unfold k0_pay8
  simp only [pay7_up, cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]
  rw [sum_r]
  simp only [cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]

theorem pay9_up : k0_pay9 (F := Ideal) (bXm v X M) (bXs v X M) c1024 = bN2 v X M := by
  unfold k0_pay9
  simp only [pay7_up, pay8_up, cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]
  rfl

theorem pay10_up : k0_pay10 (F := Ideal) (bXm v X M) (bXs v X M) c1024 (row (v 4)) (row (v 3)) = bH2 v X M := by
  unfold k0_pay10
  simp only [pay9_up, cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]
  rfl

theorem pay11_up (g : ℕ → ℕ) : k0_pay11 (F := Ideal) (bXm v X M) (bXs v X M) c1024 (row (v 4)) (row (v 3)) (bW wi g) = bG v wi X M g := by
  unfold k0_pay11
  simp only [pay10_up, cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]
  rfl

theorem pay12_up (g : ℕ → ℕ) : k0_pay12 (F := Ideal) (bXm v X M) (bXs v X M) c1024 (row (v 4)) (row (v 3)) (bW wi g) = bG v wi X M g := by
  unfold k0_pay12
  simp only [pay10_up, cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]
  rfl

theorem pay13_up (g : ℕ → ℕ) : k0_pay13 (F := Ideal) (bXm v X M) (bXs v X M) c1024 (row (v 4)) (row (v 3)) (bW wi g) = bG v wi X M g := by
  unfold k0_pay13
  simp only [pay11_up, cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]

theorem pay14_up (g : ℕ → ℕ) : k0_pay14 (F := Ideal) (bG v wi X M g) = bG v wi X M g := by
  unfold k0_pay14
  simp only [cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]

theorem pay15_up (g : ℕ → ℕ) : k0_pay15 (F := Ideal) (bG v wi X M g) (bG v wi X M fun c => 2816 + g c) = bA v wi X M g := by
  unfold k0_pay15
  simp only [cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]
  rfl

theorem pay16_up (g : ℕ → ℕ) : k0_pay16 (F := Ideal) (bH2 v X M) (bW wi g) = bG v wi X M g := by
  unfold k0_pay16
  simp only [cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]
  rfl

theorem pay17_up (g : ℕ → ℕ) : k0_pay17 (F := Ideal) (bH2 v X M) (bW wi g) = bG v wi X M g := by
  unfold k0_pay17
  simp only [cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]
  rfl

theorem pay18_up (g : ℕ → ℕ) : k0_pay18 (F := Ideal) (bH2 v X M) (bW wi g) = bG v wi X M g := by
  unfold k0_pay18
  simp only [pay16_up, cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]

theorem pay19_up (g : ℕ → ℕ) : k0_pay19 (F := Ideal) (bH2 v X M) (bW wi g) = bG v wi X M g := by
  unfold k0_pay19
  simp only [pay17_up, cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]

theorem pay20_up (g : ℕ → ℕ) : k0_pay20 (F := Ideal) (bH2 v X M) (bW wi g) (bW wi fun c => 2816 + g c) = bA v wi X M g := by
  unfold k0_pay20
  simp only [pay16_up, pay17_up, cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]
  rfl

theorem pay21_up : k0_pay21 (F := Ideal) (bAct v wi X M) (bWo wo) = bF v wi wo X M := by
  unfold k0_pay21
  simp only [cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]
  rfl

theorem pay22_up : k0_pay22 (F := Ideal) (bXm v X M) (bAct v wi X M) (bWo wo) (row (v 5)) = up2 256 1024 fun i => dev (r2 v wi wo (X i) (M i)) := by
  unfold k0_pay22
  simp only [pay21_up, cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]
  rw [sum_r]
  simp only [cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]
  rfl

theorem pay23_up : k0_pay23 (F := Ideal) (bXm v X M) (bAct v wi X M) (bWo wo) (row (v 5)) = bR3 v wi wo X M := by
  unfold k0_pay23
  simp only [pay22_up, cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]
  rw [sum_r]
  simp only [cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]

theorem pay24_up : k0_pay24 (F := Ideal) (bXm v X M) (bAct v wi X M) (bWo wo) (row (v 5)) = bY v wi wo X M := by
  unfold k0_pay24
  simp only [pay22_up, pay23_up, cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]
  rfl

theorem pay25_up : k0_pay25 (F := Ideal) (bXm v X M) (bAct v wi X M) (bWo wo) (row (v 5)) (row (v 6)) (row (v 7)) (up2 256 1024 T) = bE v wi wo X M T := by
  unfold k0_pay25
  simp only [pay24_up, cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]
  rfl

theorem pay26_up : k0_pay26 (F := Ideal) (bE v wi wo X M T) = bDy v wi wo X M T := by
  unfold k0_pay26
  simp only [cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]
  rfl

theorem pay27_up : k0_pay27 (F := Ideal) (bR3 v wi wo X M) (bY v wi wo X M) (bE v wi wo X M T) (row (v 6)) = bDr2 v wi wo X M T := by
  unfold k0_pay27
  simp only [pay26_up, cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]
  rw [sum_r]
  simp only [cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]
  rw [sum_r]
  simp only [cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]
  rfl

theorem pay28_up (s : ℕ → ℝ) : k0_pay28 (F := Ideal) (bE v wi wo X M T) (row s) = acc s fun i => stat v wi wo (X i) (M i) (T i) 0 := by
  unfold k0_pay28
  simp only [cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]
  rw [sum_c]
  simp only [cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]
  rfl

theorem pay29_up (s : ℕ → ℝ) : k0_pay29 (F := Ideal) (bY v wi wo X M) (bE v wi wo X M T) (row s) = acc s fun i => stat v wi wo (X i) (M i) (T i) 1 := by
  unfold k0_pay29
  simp only [pay26_up, cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]
  rw [sum_c]
  simp only [cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]
  rfl

theorem pay30_up (s : ℕ → ℝ) : k0_pay30 (F := Ideal) (row s) = row s := by
  unfold k0_pay30
  simp only [cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]

theorem pay31_up (s : ℕ → ℝ) : k0_pay31 (F := Ideal) (bDy v wi wo X M T) (row s) = acc s fun i => stat v wi wo (X i) (M i) (T i) 2 := by
  unfold k0_pay31
  simp only [cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]
  rw [sum_c]
  simp only [cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]
  rfl

theorem pay32_up (s : ℕ → ℝ) : k0_pay32 (F := Ideal) (bF v wi wo X M) (bDr2 v wi wo X M T) (row s) = acc s fun i => stat v wi wo (X i) (M i) (T i) 3 := by
  unfold k0_pay32
  simp only [cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]
  rw [sum_c]
  simp only [cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]
  rfl

theorem pay33_up : k0_pay33 (F := Ideal) (bDr2 v wi wo X M T) (row (v 5)) = bDf v wi wo X M T := by
  unfold k0_pay33
  simp only [cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]
  rfl

theorem pay34_up : k0_pay34 (F := Ideal) (bDr2 v wi wo X M T) (row (v 5)) (bWo wo) = bDa v wi wo X M T := by
  unfold k0_pay34
  simp only [pay33_up, cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]
  rfl

theorem pay35_up : k0_pay35 (F := Ideal) (bDr2 v wi wo X M T) (row (v 5)) (bWo wo) = bDaH v wi wo X M T fun c => c := by
  unfold k0_pay35
  simp only [pay34_up, slice_up, Nat.zero_add, cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]

theorem pay36_up (g : ℕ → ℕ) : k0_pay36 (F := Ideal) (bG v wi X M g) = bSg v wi X M g := by
  unfold k0_pay36
  simp only [cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]
  rfl

theorem pay37_up : k0_pay37 (F := Ideal) (bDr2 v wi wo X M T) (row (v 5)) (bWo wo) (bG v wi X M fun c => c) (bG v wi X M fun c => 2816 + c) = up2 256 1408 fun i c => da v wi wo (X i) (M i) (T i) c * gu v wi (X i) (M i) (2816 + c) * sig (gu v wi (X i) (M i) c) := by
  unfold k0_pay37
  simp only [pay35_up, pay36_up, cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]

theorem pay38_up (g : ℕ → ℕ) : k0_pay38 (F := Ideal) (bG v wi X M g) = up2 256 1408 fun i c => gu v wi (X i) (M i) (g c) * (1 - sig (gu v wi (X i) (M i) (g c))) := by
  unfold k0_pay38
  simp only [pay36_up, cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]

theorem pay39_up : k0_pay39 (F := Ideal) (up2 256 1408 fun i c => da v wi wo (X i) (M i) (T i) c * gu v wi (X i) (M i) (2816 + c) * sig (gu v wi (X i) (M i) c)) (up2 256 1408 fun i c => gu v wi (X i) (M i) c * (1 - sig (gu v wi (X i) (M i) c))) = bDg v wi wo X M T fun c => c := by
  unfold k0_pay39
  simp only [cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]
  rfl

theorem pay40_up (g : ℕ → ℕ) : k0_pay40 (F := Ideal) (bDaH v wi wo X M T g) (bG v wi X M g) (bSg v wi X M g) = bDu v wi wo X M T g := by
  unfold k0_pay40
  simp only [cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]
  rfl

theorem pay41_up : k0_pay41 (F := Ideal) (bDa v wi wo X M T) = bDaH v wi wo X M T fun c => 1408 + c := by
  unfold k0_pay41
  simp only [slice_up, Nat.zero_add, cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]

theorem pay42_up (g : ℕ → ℕ) : k0_pay42 (F := Ideal) (bG v wi X M g) = bSg v wi X M g := by
  unfold k0_pay42
  simp only [cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]
  rfl

theorem pay43_up : k0_pay43 (F := Ideal) (bDa v wi wo X M T) (bG v wi X M fun c => 1408 + c) (bG v wi X M fun c => 2816 + (1408 + c)) = bDg v wi wo X M T fun c => 1408 + c := by
  unfold k0_pay43
  simp only [pay41_up, pay42_up, cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]
  rfl

theorem pay44_up : k0_pay44 (F := Ideal) (bDa v wi wo X M T) (bG v wi X M fun c => 1408 + c) = bDu v wi wo X M T fun c => 1408 + c := by
  unfold k0_pay44
  simp only [pay41_up, pay42_up, cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]
  rfl

theorem pay45_up (g : ℕ → ℕ) : k0_pay45 (F := Ideal) (bDg v wi wo X M T g) = bDg v wi wo X M T g := by
  unfold k0_pay45
  simp only [cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]

theorem pay46_up : k0_pay46 (F := Ideal) (bDg v wi wo X M T fun c => c) (bW wi fun c => c) (bDg v wi wo X M T fun c => 1408 + c) (bW wi fun c => 1408 + c) (bDu v wi wo X M T fun c => c) (bW wi fun c => 2816 + c) (bDu v wi wo X M T fun c => 1408 + c) (bW wi fun c => 2816 + (1408 + c)) = bDh2 v wi wo X M T := by
  unfold k0_pay46
  simp only [cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]
  exact up2_congr fun i _ j _ => sum_dff v wi wo (X i) (M i) (T i) j

theorem pay47_up : k0_pay47 (F := Ideal) (bDg v wi wo X M T fun c => c) (bW wi fun c => c) (bDg v wi wo X M T fun c => 1408 + c) (bW wi fun c => 1408 + c) (bDu v wi wo X M T fun c => c) (bW wi fun c => 2816 + c) (bDu v wi wo X M T fun c => 1408 + c) (bW wi fun c => 2816 + (1408 + c)) (row (v 4)) = bDn2 v wi wo X M T := by
  unfold k0_pay47
  simp only [pay46_up, cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]

theorem pay48_up : k0_pay48 (F := Ideal) (bDg v wi wo X M T fun c => c) (bW wi fun c => c) (bDg v wi wo X M T fun c => 1408 + c) (bW wi fun c => 1408 + c) (bDu v wi wo X M T fun c => c) (bW wi fun c => 2816 + c) (bDu v wi wo X M T fun c => 1408 + c) (bW wi fun c => 2816 + (1408 + c)) (row (v 4)) = up2 256 1024 fun i => dev fun k => dh2 v wi wo (X i) (M i) (T i) k * (1 + v 4 k) := by
  unfold k0_pay48
  simp only [pay47_up, cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]
  rw [sum_r]
  simp only [cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]
  rfl

theorem pay49_up : k0_pay49 (F := Ideal) (bN2 v X M) (bDg v wi wo X M T fun c => c) (bW wi fun c => c) (bDg v wi wo X M T fun c => 1408 + c) (bW wi fun c => 1408 + c) (bDu v wi wo X M T fun c => c) (bW wi fun c => 2816 + c) (bDu v wi wo X M T fun c => 1408 + c) (bW wi fun c => 2816 + (1408 + c)) (row (v 4)) = up2 256 1024 fun i k => dh2 v wi wo (X i) (M i) (T i) k * (1 + v 4 k) * nrm (xmid v (X i) (M i)) k := by
  unfold k0_pay49
  simp only [pay47_up, cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]

theorem pay50_up : k0_pay50 (F := Ideal) (bR2 v X M) (bN2 v X M) (bDr2 v wi wo X M T) (up2 256 1024 fun i => dev fun k => dh2 v wi wo (X i) (M i) (T i) k * (1 + v 4 k)) (up2 256 1024 fun i k => dh2 v wi wo (X i) (M i) (T i) k * (1 + v 4 k) * nrm (xmid v (X i) (M i)) k) = bDxm v wi wo X M T := by
  unfold k0_pay50
  simp only [cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]
  rw [sum_r]
  simp only [cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]
  rfl

theorem pay51_up : k0_pay51 (F := Ideal) (bR1 v X M) (bH1 v X M) (bR2 v X M) (bN2 v X M) (bDr2 v wi wo X M T) (up2 256 1024 fun i => dev fun k => dh2 v wi wo (X i) (M i) (T i) k * (1 + v 4 k)) (up2 256 1024 fun i k => dh2 v wi wo (X i) (M i) (T i) k * (1 + v 4 k) * nrm (xmid v (X i) (M i)) k) (row (v 1)) = bDr1 v wi wo X M T := by
  unfold k0_pay51
  simp only [pay50_up, cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]
  rw [sum_r]
  simp only [cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]
  rw [sum_r]
  simp only [cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]
  rfl

theorem pay52_up (s : ℕ → ℝ) : k0_pay52 (F := Ideal) (bN2 v X M) (bDh2 v wi wo X M T) (row s) = acc s fun i => stat v wi wo (X i) (M i) (T i) 8 := by
  unfold k0_pay52
  simp only [cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]
  rw [sum_c]
  simp only [cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]
  rfl

theorem pay53_up (s : ℕ → ℝ) : k0_pay53 (F := Ideal) (bDh2 v wi wo X M T) (row s) = acc s fun i => stat v wi wo (X i) (M i) (T i) 9 := by
  unfold k0_pay53
  simp only [cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]
  rw [sum_c]
  simp only [cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]
  rfl

theorem pay54_up (s : ℕ → ℝ) : k0_pay54 (F := Ideal) (bH1 v X M) (bDxm v wi wo X M T) (row s) = acc s fun i => stat v wi wo (X i) (M i) (T i) 10 := by
  unfold k0_pay54
  simp only [cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]
  rw [sum_c]
  simp only [cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]
  rfl

theorem pay55_up (s : ℕ → ℝ) : k0_pay55 (F := Ideal) (bDxm v wi wo X M T) (row s) = acc s fun i => stat v wi wo (X i) (M i) (T i) 11 := by
  unfold k0_pay55
  simp only [cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]
  rw [sum_c]
  simp only [cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]
  rfl

theorem pay56_up (s : ℕ → ℝ) : k0_pay56 (F := Ideal) (bDr1 v wi wo X M T) (row s) (up2 256 1024 M) = acc s fun i => stat v wi wo (X i) (M i) (T i) 12 := by
  unfold k0_pay56
  simp only [cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]
  rw [sum_c]
  simp only [cast_self_up, cast_drop_up, splat_up word_alpha, splat_up word_half, splat_up word_one, splat_up word_eps, mulf_up, rows_up, addf_up, cast_col_up, cast_row_up, div_1024, cols_up, subf_up, tanh_up, truncf_up, rstd_up, mm_in, mm_out, mm_da, mm_dh]
  rfl

end Cert.Pay

end
-- ==== Proof.Loads.lean ====
/-
  The kernel's loads and stores, on arrays of real numbers.

  The body reads one row of the vectors, one of the four column blocks of the first weight matrix, or a whole block; it
  stores whole blocks, column halves and quarters, and single rows of the running sums. Each of these is an equation
  between arrays of reals here, so that what a grid point leaves in its outputs is read by rewriting.
-/
module

public import proofs.«01_k».proof.Proof.Gen.KernelIdeal.Frame
public import proofs.«01_k».proof.Proof.Pay
public import Idealize.ShloMosaic.Lib.Pipeline.ReadBack
public import Idealize.ShloMosaic.Lib.Pipeline.ValueKit.Tiles
public import Idealize.ShloMosaic.Lib.WritesUnit

@[expose] public section

noncomputable section

namespace Cert.Loads

open Idealize.ShloMosaic Cert.KernelIdeal Cert.KernelIdeal.Gen Cert.Lift Cert.Spec Cert.Pay Finset
open scoped BigOperators

/-- A row of the vectors. -/
theorem ld_row (v : ℕ → ℕ → ℝ) (r : ℕ) (inb : ∀ a, (![r, 0] : Fin 2 → ℕ) a + (![1, 1024] : Fin 2 → ℕ) a ≤ S8x1024.size a) :
    View.ld (Val := Elt Ideal) (S := S8x1024) (e' := .f32) (up2 8 1024 v) (Rect.unit ![r, 0] (no_index ![1, 1024]) inb) = row (v r) :=
  funext fun x => congrArg (fun z : ℝ => (z : EReal)) (congrArg₂ v
    (by show r + 1 * (x 0).val = r; have : (x 0).val < 1 := (x 0).isLt; omega)
    (by show 0 + 1 * (x 1).val = (x 1).val; omega))

/-- A row of the running sums. -/
theorem ld_sum (v : ℕ → ℕ → ℝ) (r : ℕ) (inb : ∀ a, (![r, 0] : Fin 2 → ℕ) a + (![1, 1024] : Fin 2 → ℕ) a ≤ S16x1024.size a) :
    View.ld (Val := Elt Ideal) (S := S16x1024) (e' := .f32) (up2 16 1024 v) (Rect.unit ![r, 0] (no_index ![1, 1024]) inb) = row (v r) :=
  funext fun x => congrArg (fun z : ℝ => (z : EReal)) (congrArg₂ v
    (by show r + 1 * (x 0).val = r; have : (x 0).val < 1 := (x 0).isLt; omega)
    (by show 0 + 1 * (x 1).val = (x 1).val; omega))

/-- The first weight matrix as the stack of its four blocks of 1408 columns. -/
abbrev stack (wi : ℕ → ℕ → ℝ) : FVec Ideal S4x1024x1408 .bf16 := up3 4 1024 1408 fun s k c => wi k (1408 * s + c)

theorem ld_stack (wi : ℕ → ℕ → ℝ) (s : ℕ) (g : ℕ → ℕ) (hg : ∀ c, 1408 * s + c = g c)
    (inb : ∀ a, (![s, 0, 0] : Fin 3 → ℕ) a + (![1, 1024, 1408] : Fin 3 → ℕ) a ≤ S4x1024x1408.size a) :
    View.ld (Val := Elt Ideal) (S := S4x1024x1408) (e' := .bf16) (stack wi) (Rect.unit ![s, 0, 0] (no_index ![1, 1024, 1408]) inb) = bW wi g :=
  funext fun x => congrArg (fun z : ℝ => (z : EReal)) (congrArg₂ wi
    (by show 0 + 1 * (x 1).val = (x 1).val; omega)
    (by show 1408 * (s + 1 * (x 0).val) + (0 + 1 * (x 2).val) = g (x 2).val
        have : (x 0).val < 1 := (x 0).isLt
        rw [← hg]; omega))

theorem ld_w0 (wi : ℕ → ℕ → ℝ) (inb : ∀ a, (![0, 0, 0] : Fin 3 → ℕ) a + (![1, 1024, 1408] : Fin 3 → ℕ) a ≤ S4x1024x1408.size a) :
    View.ld (Val := Elt Ideal) (S := S4x1024x1408) (e' := .bf16) (stack wi) (Rect.unit ![0, 0, 0] (no_index ![1, 1024, 1408]) inb)
      = bW wi fun c => c := ld_stack wi 0 _ (fun c => by omega) inb
theorem ld_w1 (wi : ℕ → ℕ → ℝ) (inb : ∀ a, (![1, 0, 0] : Fin 3 → ℕ) a + (![1, 1024, 1408] : Fin 3 → ℕ) a ≤ S4x1024x1408.size a) :
    View.ld (Val := Elt Ideal) (S := S4x1024x1408) (e' := .bf16) (stack wi) (Rect.unit ![1, 0, 0] (no_index ![1, 1024, 1408]) inb)
      = bW wi fun c => 1408 + c := ld_stack wi 1 _ (fun c => by omega) inb
theorem ld_w2 (wi : ℕ → ℕ → ℝ) (inb : ∀ a, (![2, 0, 0] : Fin 3 → ℕ) a + (![1, 1024, 1408] : Fin 3 → ℕ) a ≤ S4x1024x1408.size a) :
    View.ld (Val := Elt Ideal) (S := S4x1024x1408) (e' := .bf16) (stack wi) (Rect.unit ![2, 0, 0] (no_index ![1, 1024, 1408]) inb)
      = bW wi fun c => 2816 + c := ld_stack wi 2 _ (fun c => by omega) inb
theorem ld_w3 (wi : ℕ → ℕ → ℝ) (inb : ∀ a, (![3, 0, 0] : Fin 3 → ℕ) a + (![1, 1024, 1408] : Fin 3 → ℕ) a ≤ S4x1024x1408.size a) :
    View.ld (Val := Elt Ideal) (S := S4x1024x1408) (e' := .bf16) (stack wi) (Rect.unit ![3, 0, 0] (no_index ![1, 1024, 1408]) inb)
      = bW wi fun c => 2816 + (1408 + c) := ld_stack wi 3 _ (fun c => by omega) inb

/-- The block of zeros the running sums begin with. -/
theorem zero_up : k0_pay1 (F := Ideal) = up2 16 1024 fun _ _ => 0 := by
  unfold k0_pay1
  exact splat_up zero_word

/-! ## Stores of columns -/

/-- A column block of a matrix is a piece of it. -/
theorem col_piece {n m w : ℕ} {e : EltTy} (hv : Elt Ideal e = EReal) (o : ℕ) (f G : ℕ → ℕ → ℝ)
    (h : ∀ i c, c < w → f i c = G i (o + c)) (inb : ∀ a, (![0, o] : Fin 2 → ℕ) a + (![n, w] : Fin 2 → ℕ) a ≤ (![n, m] : Fin 2 → ℕ) a)
    (x : (Rect.unit (s := ⟨2, ![n, m]⟩) ![0, o] ![n, w] inb).shape.Idx) :
    up2 n w f x = up2 n m G ((Rect.unit (s := ⟨2, ![n, m]⟩) ![0, o] ![n, w] inb).emb x) :=
  congrArg (fun z : ℝ => (z : EReal)) ((h _ _ (x 1).isLt).trans (congrArg₂ G
    (by show (x 0).val = 0 + 1 * (x 0).val; omega) (by show o + (x 1).val = o + 1 * (x 1).val; omega)))

/-- Two column halves. -/
theorem canon_halves (f0 f1 G : ℕ → ℕ → ℝ) (h0 : ∀ i c, c < 1408 → f0 i c = G i (0 + c)) (h1 : ∀ i c, c < 1408 → f1 i c = G i (1408 + c))
    (i0 : ∀ a, (![0, 0] : Fin 2 → ℕ) a + (![256, 1408] : Fin 2 → ℕ) a ≤ S256x2816.size a)
    (i1 : ∀ a, (![0, 1408] : Fin 2 → ℕ) a + (![256, 1408] : Fin 2 → ℕ) a ≤ S256x2816.size a) :
    View.canon (Val := Elt Ideal) (s := S256x2816) (e := .bf16)
      [⟨Rect.unit ![0, 1408] (no_index ![256, 1408]) i1, (up2 256 1408 f1 : FVec Ideal S256x1408 .bf16)⟩,
       ⟨Rect.unit ![0, 0] (no_index ![256, 1408]) i0, (up2 256 1408 f0 : FVec Ideal S256x1408 .bf16)⟩] = up2 256 2816 G := by
  funext y
  refine View.canon_apply_of_pieces (Val := Elt Ideal) (e := .bf16) (up2 256 2816 G) _ ?_ y ?_
  · intro p hp
    simp only [List.mem_cons, List.not_mem_nil, or_false] at hp
    rcases hp with rfl | rfl
    · exact col_piece (e := .bf16) rfl 1408 f1 G h1 i1
    · exact col_piece (e := .bf16) rfl 0 f0 G h0 i0
  · have y0 : (y 0).val < 256 := (y 0).isLt
    have y1 : (y 1).val < 2816 := (y 1).isLt
    by_cases hc : (y 1).val < 1408
    · refine ⟨_, List.mem_cons_of_mem _ List.mem_cons_self, (Rect.mem_set_unit (inb := i0)).2 fun a => ?_⟩
      fin_cases a
      · exact ⟨Nat.zero_le _, by show (y 0).val < 0 + 256; omega⟩
      · exact ⟨Nat.zero_le _, by show (y 1).val < 0 + 1408; omega⟩
    · refine ⟨_, List.mem_cons_self, (Rect.mem_set_unit (inb := i1)).2 fun a => ?_⟩
      fin_cases a
      · exact ⟨Nat.zero_le _, by show (y 0).val < 0 + 256; omega⟩
      · exact ⟨by show 1408 ≤ (y 1).val; omega, by show (y 1).val < 1408 + 1408; omega⟩

/-- Four column quarters, in the order the body stores them. -/
theorem canon_quarters (f0 f1 f2 f3 G : ℕ → ℕ → ℝ) (h0 : ∀ i c, c < 1408 → f0 i c = G i (0 + c))
    (h1 : ∀ i c, c < 1408 → f1 i c = G i (1408 + c)) (h2 : ∀ i c, c < 1408 → f2 i c = G i (2816 + c))
    (h3 : ∀ i c, c < 1408 → f3 i c = G i (4224 + c))
    (i0 : ∀ a, (![0, 0] : Fin 2 → ℕ) a + (![256, 1408] : Fin 2 → ℕ) a ≤ S256x5632.size a)
    (i1 : ∀ a, (![0, 1408] : Fin 2 → ℕ) a + (![256, 1408] : Fin 2 → ℕ) a ≤ S256x5632.size a)
    (i2 : ∀ a, (![0, 2816] : Fin 2 → ℕ) a + (![256, 1408] : Fin 2 → ℕ) a ≤ S256x5632.size a)
    (i3 : ∀ a, (![0, 4224] : Fin 2 → ℕ) a + (![256, 1408] : Fin 2 → ℕ) a ≤ S256x5632.size a) :
    View.canon (Val := Elt Ideal) (s := S256x5632) (e := .bf16)
      [⟨Rect.unit ![0, 4224] (no_index ![256, 1408]) i3, (up2 256 1408 f3 : FVec Ideal S256x1408 .bf16)⟩,
       ⟨Rect.unit ![0, 1408] (no_index ![256, 1408]) i1, (up2 256 1408 f1 : FVec Ideal S256x1408 .bf16)⟩,
       ⟨Rect.unit ![0, 2816] (no_index ![256, 1408]) i2, (up2 256 1408 f2 : FVec Ideal S256x1408 .bf16)⟩,
       ⟨Rect.unit ![0, 0] (no_index ![256, 1408]) i0, (up2 256 1408 f0 : FVec Ideal S256x1408 .bf16)⟩] = up2 256 5632 G := by
  funext y
  refine View.canon_apply_of_pieces (Val := Elt Ideal) (e := .bf16) (up2 256 5632 G) _ ?_ y ?_
  · intro p hp
    simp only [List.mem_cons, List.not_mem_nil, or_false] at hp
    rcases hp with rfl | rfl | rfl | rfl
    · exact col_piece (e := .bf16) rfl 4224 f3 G h3 i3
    · exact col_piece (e := .bf16) rfl 1408 f1 G h1 i1
    · exact col_piece (e := .bf16) rfl 2816 f2 G h2 i2
    · exact col_piece (e := .bf16) rfl 0 f0 G h0 i0
  · have y0 : (y 0).val < 256 := (y 0).isLt
    have y1 : (y 1).val < 5632 := (y 1).isLt
    by_cases c0 : (y 1).val < 1408
    · refine ⟨_, List.mem_cons_of_mem _ (List.mem_cons_of_mem _ (List.mem_cons_of_mem _ List.mem_cons_self)), (Rect.mem_set_unit (inb := i0)).2 fun a => ?_⟩
      fin_cases a
      · exact ⟨Nat.zero_le _, by show (y 0).val < 0 + 256; omega⟩
      · exact ⟨Nat.zero_le _, by show (y 1).val < 0 + 1408; omega⟩
    by_cases c1 : (y 1).val < 2816
    · refine ⟨_, List.mem_cons_of_mem _ List.mem_cons_self, (Rect.mem_set_unit (inb := i1)).2 fun a => ?_⟩
      fin_cases a
      · exact ⟨Nat.zero_le _, by show (y 0).val < 0 + 256; omega⟩
      · exact ⟨by show 1408 ≤ (y 1).val; omega, by show (y 1).val < 1408 + 1408; omega⟩
    by_cases c2 : (y 1).val < 4224
    · refine ⟨_, List.mem_cons_of_mem _ (List.mem_cons_of_mem _ List.mem_cons_self), (Rect.mem_set_unit (inb := i2)).2 fun a => ?_⟩
      fin_cases a
      · exact ⟨Nat.zero_le _, by show (y 0).val < 0 + 256; omega⟩
      · exact ⟨by show 2816 ≤ (y 1).val; omega, by show (y 1).val < 2816 + 1408; omega⟩
    · refine ⟨_, List.mem_cons_self, (Rect.mem_set_unit (inb := i3)).2 fun a => ?_⟩
      fin_cases a
      · exact ⟨Nat.zero_le _, by show (y 0).val < 0 + 256; omega⟩
      · exact ⟨by show 4224 ≤ (y 1).val; omega, by show (y 1).val < 4224 + 1408; omega⟩

/-- The activation's two halves, loaded whole. -/
theorem load_act {sig : RefSig} {κ : Kind} {sp : Space} (w : View sig κ sp S256x2816 .bf16) (v wi X M : ℕ → ℕ → ℝ)
    (i0 : ∀ a, (![0, 0] : Fin 2 → ℕ) a + (![256, 1408] : Fin 2 → ℕ) a ≤ S256x2816.size a)
    (i1 : ∀ a, (![0, 1408] : Fin 2 → ℕ) a + (![256, 1408] : Fin 2 → ℕ) a ≤ S256x2816.size a)
    (i2 : ∀ a, (![0, 0] : Fin 2 → ℕ) a + (![256, 2816] : Fin 2 → ℕ) a ≤ S256x2816.size a) :
    w.readCov (Val := Elt Ideal)
      [⟨Rect.unit ![0, 1408] (no_index ![256, 1408]) i1, (bA v wi X M fun c => 1408 + c)⟩,
       ⟨Rect.unit ![0, 0] (no_index ![256, 1408]) i0, (bA v wi X M fun c => c)⟩] (Rect.unit ![0, 0] (no_index ![256, 2816]) i2).toLoadRect
      = bAct v wi X M := by
  rw [View.readCov_eq_canon', canon_halves _ _ (fun i c => act v wi (X i) (M i) c) (fun i c _ => by rw [Nat.zero_add]) (fun _ _ _ => rfl) i0 i1]
  exact View.ld_unit_lit (S := S256x2816) (Val := Elt Ideal) (e := .bf16) i2 _ (by decide)

/-! ## Stores of rows -/

section Rows

variable {n : ℕ}

/-- An index of the running sums lies in the row stored at `r` exactly when it is in row `r`. -/
theorem mem_row (r : ℕ) (inb : ∀ a, (![r, 0] : Fin 2 → ℕ) a + S1x1024.size a ≤ (⟨2, ![n, 1024]⟩ : Shape).size a) (y : (⟨2, ![n, 1024]⟩ : Shape).Idx) :
    y ∈ (Rect.unit (s := ⟨2, ![n, 1024]⟩) ![r, 0] S1x1024.size inb).set ↔ (y 0).val = r := by
  rw [Rect.mem_set_unit]
  have y1 : (y 1).val < 1024 := (y 1).isLt
  constructor
  · intro h
    have h0 : r ≤ (y 0).val ∧ (y 0).val < r + 1 := h 0
    omega
  · intro h a
    fin_cases a
    · exact ⟨by show r ≤ (y 0).val; omega, by show (y 0).val < r + 1; omega⟩
    · exact ⟨Nat.zero_le _, by show (y 1).val < 0 + 1024; omega⟩

/-- The index of row `r` under an index of the running sums. -/
theorem row_emb (r : ℕ) (inb : ∀ a, (![r, 0] : Fin 2 → ℕ) a + S1x1024.size a ≤ (⟨2, ![n, 1024]⟩ : Shape).size a) (y : (⟨2, ![n, 1024]⟩ : Shape).Idx) (h : (y 0).val = r) :
    ∃ x : (Rect.unit (s := ⟨2, ![n, 1024]⟩) ![r, 0] S1x1024.size inb).shape.Idx,
      (Rect.unit (s := ⟨2, ![n, 1024]⟩) ![r, 0] S1x1024.size inb).emb x = y ∧ (x 1).val = (y 1).val := by
  refine ⟨ValueIdx.ix2 (n0 := 1) (n1 := 1024) ⟨0, by decide⟩ (y 1), ?_, rfl⟩
  funext a
  fin_cases a
  · exact Fin.ext (by show r + 1 * 0 = (y 0).val; omega)
  · exact Fin.ext (by show 0 + 1 * (y 1).val = (y 1).val; omega)

/-- A row stored over a matrix. -/
theorem canon_row {L : List (View.Piece (Elt Ideal) ⟨2, ![n, 1024]⟩ .f32)} {g : ℕ → ℕ → ℝ} (h : View.canon L = up2 n 1024 g) (r : ℕ)
    (a : ℕ → ℝ) (inb : ∀ a, (![r, 0] : Fin 2 → ℕ) a + (![1, 1024] : Fin 2 → ℕ) a ≤ (⟨2, ![n, 1024]⟩ : Shape).size a) :
    View.canon ((⟨Rect.unit ![r, 0] ![1, 1024] inb, row a⟩ : View.Piece (Elt Ideal) ⟨2, ![n, 1024]⟩ .f32) :: L)
      = up2 n 1024 fun s j => if s = r then a j else g s j := by
  funext y
  by_cases hy : (y 0).val = r
  · obtain ⟨x, hx, h1⟩ := row_emb r inb y hy
    rw [← hx, View.canon_cons_emb]
    show ((a (x 1).val : ℝ) : EReal) = _
    rw [hx, h1]
    show _ = (((if (y 0).val = r then a (y 1).val else g (y 0).val (y 1).val) : ℝ) : EReal)
    rw [if_pos hy]
  · have hm : y ∉ (Rect.unit (s := ⟨2, ![n, 1024]⟩) ![r, 0] ![1, 1024] inb).set := fun hm => hy ((mem_row r inb y).1 hm)
    refine (View.canon_cons_of_not_mem (⟨Rect.unit ![r, 0] ![1, 1024] inb, row a⟩ : View.Piece (Elt Ideal) ⟨2, ![n, 1024]⟩ .f32) L hm).trans ?_
    rw [h]
    show _ = (((if (y 0).val = r then a (y 1).val else g (y 0).val (y 1).val) : ℝ) : EReal)
    rw [if_neg hy]
    rfl

/-- A row stored over a matrix that a buffer held before the point. -/
theorem read_row {sig : RefSig} {κ : Kind} {sp : Space} (w : View sig κ sp ⟨2, ![n, 1024]⟩ .f32) (f : w.ty.Contents (Elt Ideal))
    {L : List (View.Piece (Elt Ideal) ⟨2, ![n, 1024]⟩ .f32)} {g : ℕ → ℕ → ℝ}
    (h : w.read (Elt Ideal) (w.writes (Elt Ideal) f L) = up2 n 1024 g) (r : ℕ)
    (a : ℕ → ℝ) (inb : ∀ a, (![r, 0] : Fin 2 → ℕ) a + (![1, 1024] : Fin 2 → ℕ) a ≤ (⟨2, ![n, 1024]⟩ : Shape).size a) :
    w.read (Elt Ideal) (w.writes (Elt Ideal) f
        ((⟨Rect.unit ![r, 0] ![1, 1024] inb, row a⟩ : View.Piece (Elt Ideal) ⟨2, ![n, 1024]⟩ .f32) :: L))
      = up2 n 1024 fun s j => if s = r then a j else g s j := by
  funext y
  by_cases hy : (y 0).val = r
  · obtain ⟨x, hx, h1⟩ := row_emb r inb y hy
    rw [View.read_writes_cons_unit_of_mem w f inb (row a) L y x rfl fun b => by
      rw [← hx]
      show (![r, 0] : Fin 2 → ℕ) b + 1 * (x b).val = _
      rw [Nat.one_mul]]
    show ((a (x 1).val : ℝ) : EReal) = _
    rw [h1]
    show _ = (((if (y 0).val = r then a (y 1).val else g (y 0).val (y 1).val) : ℝ) : EReal)
    rw [if_pos hy]
  · rw [View.read_writes_cons_unit_of_not_mem w f inb (row a) L y rfl 0 (by
      show (y 0).val < r ∨ r + 1 ≤ (y 0).val; omega), h]
    show _ = (((if (y 0).val = r then a (y 1).val else g (y 0).val (y 1).val) : ℝ) : EReal)
    rw [if_neg hy]
    rfl

end Rows

/-- The sums' rows after one block: each row the body stores has the block's column sum added, the others stay. -/
theorem rows_stat (v wi wo X M T S : ℕ → ℕ → ℝ) :
    (up2 16 1024 fun s j =>
      if s = 12 then S 12 j + ∑ i ∈ range 256, stat v wi wo (X i) (M i) (T i) 12 j
      else if s = 11 then S 11 j + ∑ i ∈ range 256, stat v wi wo (X i) (M i) (T i) 11 j
      else if s = 10 then S 10 j + ∑ i ∈ range 256, stat v wi wo (X i) (M i) (T i) 10 j
      else if s = 9 then S 9 j + ∑ i ∈ range 256, stat v wi wo (X i) (M i) (T i) 9 j
      else if s = 8 then S 8 j + ∑ i ∈ range 256, stat v wi wo (X i) (M i) (T i) 8 j
      else if s = 3 then S 3 j + ∑ i ∈ range 256, stat v wi wo (X i) (M i) (T i) 3 j
      else if s = 2 then S 2 j + ∑ i ∈ range 256, stat v wi wo (X i) (M i) (T i) 2 j
      else if s = 1 then S 1 j + ∑ i ∈ range 256, stat v wi wo (X i) (M i) (T i) 1 j
      else if s = 0 then S 0 j + ∑ i ∈ range 256, stat v wi wo (X i) (M i) (T i) 0 j
      else S s j)
      = up2 16 1024 fun s j => S s j + ∑ i ∈ range 256, stat v wi wo (X i) (M i) (T i) s j :=
  up2_congr fun s hs j _ => by
    interval_cases s <;> simp [stat]

end Cert.Loads

end
-- ==== Proof.Block.lean ====
/-
  What one grid point leaves in the kernel's six outputs.

  A point holds 256 tokens. From blocks of real numbers it leaves, in each output, the block of the spec's values; in the
  running sums it leaves what they held before with the block's column sums added (from zeros at a device's first point).
-/
module

public import proofs.«01_k».proof.Proof.Loads

@[expose] public section

set_option maxRecDepth 16384

noncomputable section

namespace Cert.Block

open Idealize.ShloMosaic Idealize.ShloMosaic.Tactic Idealize.ShloMosaic.TcCoe Cert.KernelIdeal Cert.KernelIdeal.Gen Cert.Lift Cert.Spec Cert.Pay
  Cert.Loads Finset
open scoped BigOperators

variable (v wi wo : ℕ → ℕ → ℝ) (X M T : ℕ → ℕ → ℝ)

theorem c_1024 : (FloatOps.ofBits FTy.f32 1149239296#32 : Ideal .f32) = c1024 := rfl

theorem hz : (![0, 0] : Fin 2 → ℕ) = fun _ => 0 := by decide

theorem out_A_6 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S8x1024 .f32) (harg4 : arg4.IsWhole) (arg5 : Memref sig .tc .vmem S4x1024x1408 .bf16) (harg5 : arg5.IsWhole) (arg6 : Memref sig .tc .vmem S2816x1024 .bf16) (harg6 : arg6.IsWhole) (arg7 : Memref sig .tc .vmem S256x2816 .bf16) (harg7 : arg7.IsWhole) (arg8 : Memref sig .tc .vmem S256x1024 .bf16) (harg8 : arg8.IsWhole) (arg9 : Memref sig .tc .vmem S256x5632 .bf16) (harg9 : arg9.IsWhole) (arg10 : Memref sig .tc .vmem S256x1024 .bf16) (harg10 : arg10.IsWhole) (arg11 : Memref sig .tc .vmem S256x1024 .f32) (harg11 : arg11.IsWhole) (arg12 : Memref sig .tc .vmem S16x1024 .f32) (harg12 : arg12.IsWhole) (arg13 : Memref sig .tc .vmem S256x5632 .f32) (harg13 : arg13.IsWhole) (hc0 : cond0_0 i) :
    out0_A_6 (F := Ideal) c i arg1 harg1 arg2 harg2 arg3 harg3 arg4 harg4 arg5 harg5 arg6 harg6 arg7 harg7 arg8 harg8 arg9 harg9 arg10 harg10 arg11 harg11 arg12 harg12 arg13 harg13 hc0 (up2 256 1024 X) (up2 256 1024 M) (up2 256 1024 T) (up2 8 1024 v) (stack wi) (up2 2816 1024 wo) = bAct v wi X M := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 arg11 harg11 arg12 harg12 arg13 harg13 hc0 _ _ _ _ _ _)]
  unfold kernelRun0_A
  dsimp only
  sl_unfold_words
  simp (config := { decide := true }) only [↓View.readCov_skip, View.readAt_eq_ld, Memref.IsWhole.read_unread, View.ld_unit_lit, ld_row, ld_w0, ld_w1, ld_w2, ld_w3, View.readCov_cons_toLoadRect, load_act, c_1024, pay2_up, pay3_up, pay4_up, pay5_up, pay6_up, pay7_up, pay8_up, pay9_up, pay10_up, pay11_up, pay12_up, pay13_up, pay14_up, pay15_up, pay16_up, pay17_up, pay18_up, pay19_up, pay20_up, pay21_up, pay22_up, pay23_up, pay24_up, pay25_up, pay26_up, pay27_up, pay28_up, pay29_up, pay30_up, pay31_up, pay32_up, pay33_up, pay34_up, pay35_up, pay36_up, pay37_up, pay38_up, pay39_up, pay40_up, pay41_up, pay42_up, pay43_up, pay44_up, pay45_up, pay46_up, pay47_up, pay48_up, pay49_up, pay50_up, pay51_up, pay52_up, pay53_up, pay54_up, pay55_up, pay56_up]
  exact canon_halves (fun i c => act v wi (X i) (M i) c) (fun i c => act v wi (X i) (M i) (1408 + c))
    (fun i => act v wi (X i) (M i)) (fun i c _ => by rw [Nat.zero_add]) (fun _ _ _ => rfl) _ _

theorem out_A_7 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S8x1024 .f32) (harg4 : arg4.IsWhole) (arg5 : Memref sig .tc .vmem S4x1024x1408 .bf16) (harg5 : arg5.IsWhole) (arg6 : Memref sig .tc .vmem S2816x1024 .bf16) (harg6 : arg6.IsWhole) (arg7 : Memref sig .tc .vmem S256x2816 .bf16) (harg7 : arg7.IsWhole) (arg8 : Memref sig .tc .vmem S256x1024 .bf16) (harg8 : arg8.IsWhole) (arg9 : Memref sig .tc .vmem S256x5632 .bf16) (harg9 : arg9.IsWhole) (arg10 : Memref sig .tc .vmem S256x1024 .bf16) (harg10 : arg10.IsWhole) (arg11 : Memref sig .tc .vmem S256x1024 .f32) (harg11 : arg11.IsWhole) (arg12 : Memref sig .tc .vmem S16x1024 .f32) (harg12 : arg12.IsWhole) (arg13 : Memref sig .tc .vmem S256x5632 .f32) (harg13 : arg13.IsWhole) (hc0 : cond0_0 i) :
    out0_A_7 (F := Ideal) c i arg1 harg1 arg2 harg2 arg3 harg3 arg4 harg4 arg5 harg5 arg6 harg6 arg7 harg7 arg8 harg8 arg9 harg9 arg10 harg10 arg11 harg11 arg12 harg12 arg13 harg13 hc0 (up2 256 1024 X) (up2 256 1024 M) (up2 256 1024 T) (up2 8 1024 v) (stack wi) (up2 2816 1024 wo) = bH2 v X M := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 arg13 harg13 hc0 _ _ _ _ _ _)]
  unfold kernelRun0_A
  dsimp only
  sl_unfold_words
  simp (config := { decide := true }) only [↓View.readCov_skip, View.readAt_eq_ld, Memref.IsWhole.read_unread, View.ld_unit_lit, ld_row, ld_w0, ld_w1, ld_w2, ld_w3, View.readCov_cons_toLoadRect, load_act, c_1024, pay2_up, pay3_up, pay4_up, pay5_up, pay6_up, pay7_up, pay8_up, pay9_up, pay10_up, pay11_up, pay12_up, pay13_up, pay14_up, pay15_up, pay16_up, pay17_up, pay18_up, pay19_up, pay20_up, pay21_up, pay22_up, pay23_up, pay24_up, pay25_up, pay26_up, pay27_up, pay28_up, pay29_up, pay30_up, pay31_up, pay32_up, pay33_up, pay34_up, pay35_up, pay36_up, pay37_up, pay38_up, pay39_up, pay40_up, pay41_up, pay42_up, pay43_up, pay44_up, pay45_up, pay46_up, pay47_up, pay48_up, pay49_up, pay50_up, pay51_up, pay52_up, pay53_up, pay54_up, pay55_up, pay56_up]
  exact View.canon_unit_zero (S := S256x1024) hz _ _

theorem out_A_8 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S8x1024 .f32) (harg4 : arg4.IsWhole) (arg5 : Memref sig .tc .vmem S4x1024x1408 .bf16) (harg5 : arg5.IsWhole) (arg6 : Memref sig .tc .vmem S2816x1024 .bf16) (harg6 : arg6.IsWhole) (arg7 : Memref sig .tc .vmem S256x2816 .bf16) (harg7 : arg7.IsWhole) (arg8 : Memref sig .tc .vmem S256x1024 .bf16) (harg8 : arg8.IsWhole) (arg9 : Memref sig .tc .vmem S256x5632 .bf16) (harg9 : arg9.IsWhole) (arg10 : Memref sig .tc .vmem S256x1024 .bf16) (harg10 : arg10.IsWhole) (arg11 : Memref sig .tc .vmem S256x1024 .f32) (harg11 : arg11.IsWhole) (arg12 : Memref sig .tc .vmem S16x1024 .f32) (harg12 : arg12.IsWhole) (arg13 : Memref sig .tc .vmem S256x5632 .f32) (harg13 : arg13.IsWhole) (hc0 : cond0_0 i) :
    out0_A_8 (F := Ideal) c i arg1 harg1 arg2 harg2 arg3 harg3 arg4 harg4 arg5 harg5 arg6 harg6 arg7 harg7 arg8 harg8 arg9 harg9 arg10 harg10 arg11 harg11 arg12 harg12 arg13 harg13 hc0 (up2 256 1024 X) (up2 256 1024 M) (up2 256 1024 T) (up2 8 1024 v) (stack wi) (up2 2816 1024 wo) = (up2 256 5632 fun i => dff v wi wo (X i) (M i) (T i)) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 hc0 _ _ _ _ _ _)]
  unfold kernelRun0_A
  dsimp only
  sl_unfold_words
  simp (config := { decide := true }) only [↓View.readCov_skip, View.readAt_eq_ld, Memref.IsWhole.read_unread, View.ld_unit_lit, ld_row, ld_w0, ld_w1, ld_w2, ld_w3, View.readCov_cons_toLoadRect, load_act, c_1024, pay2_up, pay3_up, pay4_up, pay5_up, pay6_up, pay7_up, pay8_up, pay9_up, pay10_up, pay11_up, pay12_up, pay13_up, pay14_up, pay15_up, pay16_up, pay17_up, pay18_up, pay19_up, pay20_up, pay21_up, pay22_up, pay23_up, pay24_up, pay25_up, pay26_up, pay27_up, pay28_up, pay29_up, pay30_up, pay31_up, pay32_up, pay33_up, pay34_up, pay35_up, pay36_up, pay37_up, pay38_up, pay39_up, pay40_up, pay41_up, pay42_up, pay43_up, pay44_up, pay45_up, pay46_up, pay47_up, pay48_up, pay49_up, pay50_up, pay51_up, pay52_up, pay53_up, pay54_up, pay55_up, pay56_up]
  exact canon_quarters (fun i c => dg v wi wo (X i) (M i) (T i) c) (fun i c => dg v wi wo (X i) (M i) (T i) (1408 + c))
    (fun i c => du v wi wo (X i) (M i) (T i) c) (fun i c => du v wi wo (X i) (M i) (T i) (1408 + c)) (fun i => dff v wi wo (X i) (M i) (T i)) (fun i c h => by show _ = dff v wi wo (X i) (M i) (T i) _; unfold dff; rw [if_pos (by omega), Nat.zero_add])
    (fun i c h => by show _ = dff v wi wo (X i) (M i) (T i) _; unfold dff; rw [if_pos (by omega)])
    (fun i c h => by show _ = dff v wi wo (X i) (M i) (T i) _; unfold dff; rw [if_neg (by omega), Nat.add_sub_cancel_left])
    (fun i c h => by
      show _ = dff v wi wo (X i) (M i) (T i) _
      unfold dff
      rw [if_neg (by omega), show 4224 + c - 2816 = 1408 + c by omega]) _ _ _ _

theorem out_A_9 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S8x1024 .f32) (harg4 : arg4.IsWhole) (arg5 : Memref sig .tc .vmem S4x1024x1408 .bf16) (harg5 : arg5.IsWhole) (arg6 : Memref sig .tc .vmem S2816x1024 .bf16) (harg6 : arg6.IsWhole) (arg7 : Memref sig .tc .vmem S256x2816 .bf16) (harg7 : arg7.IsWhole) (arg8 : Memref sig .tc .vmem S256x1024 .bf16) (harg8 : arg8.IsWhole) (arg9 : Memref sig .tc .vmem S256x5632 .bf16) (harg9 : arg9.IsWhole) (arg10 : Memref sig .tc .vmem S256x1024 .bf16) (harg10 : arg10.IsWhole) (arg11 : Memref sig .tc .vmem S256x1024 .f32) (harg11 : arg11.IsWhole) (arg12 : Memref sig .tc .vmem S16x1024 .f32) (harg12 : arg12.IsWhole) (arg13 : Memref sig .tc .vmem S256x5632 .f32) (harg13 : arg13.IsWhole) (hc0 : cond0_0 i) :
    out0_A_9 (F := Ideal) c i arg1 harg1 arg2 harg2 arg3 harg3 arg4 harg4 arg5 harg5 arg6 harg6 arg7 harg7 arg8 harg8 arg9 harg9 arg10 harg10 arg11 harg11 arg12 harg12 arg13 harg13 hc0 (up2 256 1024 X) (up2 256 1024 M) (up2 256 1024 T) (up2 8 1024 v) (stack wi) (up2 2816 1024 wo) = bDf v wi wo X M T := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 hc0 _ _ _ _ _ _)]
  unfold kernelRun0_A
  dsimp only
  sl_unfold_words
  simp (config := { decide := true }) only [↓View.readCov_skip, View.readAt_eq_ld, Memref.IsWhole.read_unread, View.ld_unit_lit, ld_row, ld_w0, ld_w1, ld_w2, ld_w3, View.readCov_cons_toLoadRect, load_act, c_1024, pay2_up, pay3_up, pay4_up, pay5_up, pay6_up, pay7_up, pay8_up, pay9_up, pay10_up, pay11_up, pay12_up, pay13_up, pay14_up, pay15_up, pay16_up, pay17_up, pay18_up, pay19_up, pay20_up, pay21_up, pay22_up, pay23_up, pay24_up, pay25_up, pay26_up, pay27_up, pay28_up, pay29_up, pay30_up, pay31_up, pay32_up, pay33_up, pay34_up, pay35_up, pay36_up, pay37_up, pay38_up, pay39_up, pay40_up, pay41_up, pay42_up, pay43_up, pay44_up, pay45_up, pay46_up, pay47_up, pay48_up, pay49_up, pay50_up, pay51_up, pay52_up, pay53_up, pay54_up, pay55_up, pay56_up]
  exact View.canon_unit_zero (by decide) _ _

theorem out_A_10 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S8x1024 .f32) (harg4 : arg4.IsWhole) (arg5 : Memref sig .tc .vmem S4x1024x1408 .bf16) (harg5 : arg5.IsWhole) (arg6 : Memref sig .tc .vmem S2816x1024 .bf16) (harg6 : arg6.IsWhole) (arg7 : Memref sig .tc .vmem S256x2816 .bf16) (harg7 : arg7.IsWhole) (arg8 : Memref sig .tc .vmem S256x1024 .bf16) (harg8 : arg8.IsWhole) (arg9 : Memref sig .tc .vmem S256x5632 .bf16) (harg9 : arg9.IsWhole) (arg10 : Memref sig .tc .vmem S256x1024 .bf16) (harg10 : arg10.IsWhole) (arg11 : Memref sig .tc .vmem S256x1024 .f32) (harg11 : arg11.IsWhole) (arg12 : Memref sig .tc .vmem S16x1024 .f32) (harg12 : arg12.IsWhole) (arg13 : Memref sig .tc .vmem S256x5632 .f32) (harg13 : arg13.IsWhole) (hc0 : cond0_0 i) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 hc0 (up2 256 1024 X) (up2 256 1024 M) (up2 256 1024 T) (up2 8 1024 v) (stack wi) (up2 2816 1024 wo) = bDr1 v wi wo X M T := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 hc0 _ _ _ _ _ _)]
  unfold kernelRun0_A
  dsimp only
  sl_unfold_words
  simp (config := { decide := true }) only [↓View.readCov_skip, View.readAt_eq_ld, Memref.IsWhole.read_unread, View.ld_unit_lit, ld_row, ld_w0, ld_w1, ld_w2, ld_w3, View.readCov_cons_toLoadRect, load_act, c_1024, pay2_up, pay3_up, pay4_up, pay5_up, pay6_up, pay7_up, pay8_up, pay9_up, pay10_up, pay11_up, pay12_up, pay13_up, pay14_up, pay15_up, pay16_up, pay17_up, pay18_up, pay19_up, pay20_up, pay21_up, pay22_up, pay23_up, pay24_up, pay25_up, pay26_up, pay27_up, pay28_up, pay29_up, pay30_up, pay31_up, pay32_up, pay33_up, pay34_up, pay35_up, pay36_up, pay37_up, pay38_up, pay39_up, pay40_up, pay41_up, pay42_up, pay43_up, pay44_up, pay45_up, pay46_up, pay47_up, pay48_up, pay49_up, pay50_up, pay51_up, pay52_up, pay53_up, pay54_up, pay55_up, pay56_up]
  exact View.canon_unit_zero (by decide) _ _

theorem out_A_11 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S8x1024 .f32) (harg4 : arg4.IsWhole) (arg5 : Memref sig .tc .vmem S4x1024x1408 .bf16) (harg5 : arg5.IsWhole) (arg6 : Memref sig .tc .vmem S2816x1024 .bf16) (harg6 : arg6.IsWhole) (arg7 : Memref sig .tc .vmem S256x2816 .bf16) (harg7 : arg7.IsWhole) (arg8 : Memref sig .tc .vmem S256x1024 .bf16) (harg8 : arg8.IsWhole) (arg9 : Memref sig .tc .vmem S256x5632 .bf16) (harg9 : arg9.IsWhole) (arg10 : Memref sig .tc .vmem S256x1024 .bf16) (harg10 : arg10.IsWhole) (arg11 : Memref sig .tc .vmem S256x1024 .f32) (harg11 : arg11.IsWhole) (arg12 : Memref sig .tc .vmem S16x1024 .f32) (harg12 : arg12.IsWhole) (arg13 : Memref sig .tc .vmem S256x5632 .f32) (harg13 : arg13.IsWhole) (hc0 : cond0_0 i) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 hc0 (up2 256 1024 X) (up2 256 1024 M) (up2 256 1024 T) (up2 8 1024 v) (stack wi) (up2 2816 1024 wo) = up2 16 1024 fun s j => 0 + ∑ i ∈ range 256, stat v wi wo (X i) (M i) (T i) s j := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 hc0 _ _ _ _ _ _)]
  unfold kernelRun0_A
  dsimp only
  sl_unfold_words
  simp (config := { decide := true }) only [↓View.readCov_skip, View.readCov_fill, zero_up, ld_sum, View.readAt_eq_ld, Memref.IsWhole.read_unread, View.ld_unit_lit, ld_row, ld_w0, ld_w1, ld_w2, ld_w3, View.readCov_cons_toLoadRect, load_act, c_1024, pay2_up, pay3_up, pay4_up, pay5_up, pay6_up, pay7_up, pay8_up, pay9_up, pay10_up, pay11_up, pay12_up, pay13_up, pay14_up, pay15_up, pay16_up, pay17_up, pay18_up, pay19_up, pay20_up, pay21_up, pay22_up, pay23_up, pay24_up, pay25_up, pay26_up, pay27_up, pay28_up, pay29_up, pay30_up, pay31_up, pay32_up, pay33_up, pay34_up, pay35_up, pay36_up, pay37_up, pay38_up, pay39_up, pay40_up, pay41_up, pay42_up, pay43_up, pay44_up, pay45_up, pay46_up, pay47_up, pay48_up, pay49_up, pay50_up, pay51_up, pay52_up, pay53_up, pay54_up, pay55_up, pay56_up]
  refine Eq.trans ?_ (rows_stat v wi wo X M T fun _ _ => 0)
  exact canon_row (canon_row (canon_row (canon_row (canon_row (canon_row (canon_row (canon_row (canon_row (View.canon_unit_zero (S := S16x1024) hz _ _) _ _ _) _ _ _) _ _ _) _ _ _) _ _ _) _ _ _) _ _ _) _ _ _) _ _ _

theorem out_B_6 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S8x1024 .f32) (harg4 : arg4.IsWhole) (arg5 : Memref sig .tc .vmem S4x1024x1408 .bf16) (harg5 : arg5.IsWhole) (arg6 : Memref sig .tc .vmem S2816x1024 .bf16) (harg6 : arg6.IsWhole) (arg7 : Memref sig .tc .vmem S256x2816 .bf16) (harg7 : arg7.IsWhole) (arg8 : Memref sig .tc .vmem S256x1024 .bf16) (harg8 : arg8.IsWhole) (arg9 : Memref sig .tc .vmem S256x5632 .bf16) (harg9 : arg9.IsWhole) (arg10 : Memref sig .tc .vmem S256x1024 .bf16) (harg10 : arg10.IsWhole) (arg11 : Memref sig .tc .vmem S256x1024 .f32) (harg11 : arg11.IsWhole) (arg12 : Memref sig .tc .vmem S16x1024 .f32) (harg12 : arg12.IsWhole) (arg13 : Memref sig .tc .vmem S256x5632 .f32) (harg13 : arg13.IsWhole) (hc0 : ¬cond0_0 i) (xo : FVec Ideal S16x1024 .f32) :
    out0_B_6 (F := Ideal) c i arg1 harg1 arg2 harg2 arg3 harg3 arg4 harg4 arg5 harg5 arg6 harg6 arg7 harg7 arg8 harg8 arg9 harg9 arg10 harg10 arg11 harg11 arg12 harg12 arg13 harg13 hc0 (up2 256 1024 X) (up2 256 1024 M) (up2 256 1024 T) (up2 8 1024 v) (stack wi) (up2 2816 1024 wo) xo = bAct v wi X M := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 arg11 harg11 arg12 harg12 arg13 harg13 hc0 _ _ _ _ _ _ _)]
  unfold kernelRun0_B
  dsimp only
  sl_unfold_words
  simp (config := { decide := true }) only [↓View.readCov_skip, View.readAt_eq_ld, Memref.IsWhole.read_unread, View.ld_unit_lit, ld_row, ld_w0, ld_w1, ld_w2, ld_w3, View.readCov_cons_toLoadRect, load_act, c_1024, pay2_up, pay3_up, pay4_up, pay5_up, pay6_up, pay7_up, pay8_up, pay9_up, pay10_up, pay11_up, pay12_up, pay13_up, pay14_up, pay15_up, pay16_up, pay17_up, pay18_up, pay19_up, pay20_up, pay21_up, pay22_up, pay23_up, pay24_up, pay25_up, pay26_up, pay27_up, pay28_up, pay29_up, pay30_up, pay31_up, pay32_up, pay33_up, pay34_up, pay35_up, pay36_up, pay37_up, pay38_up, pay39_up, pay40_up, pay41_up, pay42_up, pay43_up, pay44_up, pay45_up, pay46_up, pay47_up, pay48_up, pay49_up, pay50_up, pay51_up, pay52_up, pay53_up, pay54_up, pay55_up, pay56_up]
  exact canon_halves (fun i c => act v wi (X i) (M i) c) (fun i c => act v wi (X i) (M i) (1408 + c))
    (fun i => act v wi (X i) (M i)) (fun i c _ => by rw [Nat.zero_add]) (fun _ _ _ => rfl) _ _

theorem out_B_7 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S8x1024 .f32) (harg4 : arg4.IsWhole) (arg5 : Memref sig .tc .vmem S4x1024x1408 .bf16) (harg5 : arg5.IsWhole) (arg6 : Memref sig .tc .vmem S2816x1024 .bf16) (harg6 : arg6.IsWhole) (arg7 : Memref sig .tc .vmem S256x2816 .bf16) (harg7 : arg7.IsWhole) (arg8 : Memref sig .tc .vmem S256x1024 .bf16) (harg8 : arg8.IsWhole) (arg9 : Memref sig .tc .vmem S256x5632 .bf16) (harg9 : arg9.IsWhole) (arg10 : Memref sig .tc .vmem S256x1024 .bf16) (harg10 : arg10.IsWhole) (arg11 : Memref sig .tc .vmem S256x1024 .f32) (harg11 : arg11.IsWhole) (arg12 : Memref sig .tc .vmem S16x1024 .f32) (harg12 : arg12.IsWhole) (arg13 : Memref sig .tc .vmem S256x5632 .f32) (harg13 : arg13.IsWhole) (hc0 : ¬cond0_0 i) (xo : FVec Ideal S16x1024 .f32) :
    out0_B_7 (F := Ideal) c i arg1 harg1 arg2 harg2 arg3 harg3 arg4 harg4 arg5 harg5 arg6 harg6 arg7 harg7 arg8 harg8 arg9 harg9 arg10 harg10 arg11 harg11 arg12 harg12 arg13 harg13 hc0 (up2 256 1024 X) (up2 256 1024 M) (up2 256 1024 T) (up2 8 1024 v) (stack wi) (up2 2816 1024 wo) xo = bH2 v X M := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 arg12 harg12 arg13 harg13 hc0 _ _ _ _ _ _ _)]
  unfold kernelRun0_B
  dsimp only
  sl_unfold_words
  simp (config := { decide := true }) only [↓View.readCov_skip, View.readAt_eq_ld, Memref.IsWhole.read_unread, View.ld_unit_lit, ld_row, ld_w0, ld_w1, ld_w2, ld_w3, View.readCov_cons_toLoadRect, load_act, c_1024, pay2_up, pay3_up, pay4_up, pay5_up, pay6_up, pay7_up, pay8_up, pay9_up, pay10_up, pay11_up, pay12_up, pay13_up, pay14_up, pay15_up, pay16_up, pay17_up, pay18_up, pay19_up, pay20_up, pay21_up, pay22_up, pay23_up, pay24_up, pay25_up, pay26_up, pay27_up, pay28_up, pay29_up, pay30_up, pay31_up, pay32_up, pay33_up, pay34_up, pay35_up, pay36_up, pay37_up, pay38_up, pay39_up, pay40_up, pay41_up, pay42_up, pay43_up, pay44_up, pay45_up, pay46_up, pay47_up, pay48_up, pay49_up, pay50_up, pay51_up, pay52_up, pay53_up, pay54_up, pay55_up, pay56_up]
  exact View.canon_unit_zero (S := S256x1024) hz _ _

theorem out_B_8 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S8x1024 .f32) (harg4 : arg4.IsWhole) (arg5 : Memref sig .tc .vmem S4x1024x1408 .bf16) (harg5 : arg5.IsWhole) (arg6 : Memref sig .tc .vmem S2816x1024 .bf16) (harg6 : arg6.IsWhole) (arg7 : Memref sig .tc .vmem S256x2816 .bf16) (harg7 : arg7.IsWhole) (arg8 : Memref sig .tc .vmem S256x1024 .bf16) (harg8 : arg8.IsWhole) (arg9 : Memref sig .tc .vmem S256x5632 .bf16) (harg9 : arg9.IsWhole) (arg10 : Memref sig .tc .vmem S256x1024 .bf16) (harg10 : arg10.IsWhole) (arg11 : Memref sig .tc .vmem S256x1024 .f32) (harg11 : arg11.IsWhole) (arg12 : Memref sig .tc .vmem S16x1024 .f32) (harg12 : arg12.IsWhole) (arg13 : Memref sig .tc .vmem S256x5632 .f32) (harg13 : arg13.IsWhole) (hc0 : ¬cond0_0 i) (xo : FVec Ideal S16x1024 .f32) :
    out0_B_8 (F := Ideal) c i arg1 harg1 arg2 harg2 arg3 harg3 arg4 harg4 arg5 harg5 arg6 harg6 arg7 harg7 arg8 harg8 arg9 harg9 arg10 harg10 arg11 harg11 arg12 harg12 arg13 harg13 hc0 (up2 256 1024 X) (up2 256 1024 M) (up2 256 1024 T) (up2 8 1024 v) (stack wi) (up2 2816 1024 wo) xo = (up2 256 5632 fun i => dff v wi wo (X i) (M i) (T i)) := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 hc0 _ _ _ _ _ _ _)]
  unfold kernelRun0_B
  dsimp only
  sl_unfold_words
  simp (config := { decide := true }) only [↓View.readCov_skip, View.readAt_eq_ld, Memref.IsWhole.read_unread, View.ld_unit_lit, ld_row, ld_w0, ld_w1, ld_w2, ld_w3, View.readCov_cons_toLoadRect, load_act, c_1024, pay2_up, pay3_up, pay4_up, pay5_up, pay6_up, pay7_up, pay8_up, pay9_up, pay10_up, pay11_up, pay12_up, pay13_up, pay14_up, pay15_up, pay16_up, pay17_up, pay18_up, pay19_up, pay20_up, pay21_up, pay22_up, pay23_up, pay24_up, pay25_up, pay26_up, pay27_up, pay28_up, pay29_up, pay30_up, pay31_up, pay32_up, pay33_up, pay34_up, pay35_up, pay36_up, pay37_up, pay38_up, pay39_up, pay40_up, pay41_up, pay42_up, pay43_up, pay44_up, pay45_up, pay46_up, pay47_up, pay48_up, pay49_up, pay50_up, pay51_up, pay52_up, pay53_up, pay54_up, pay55_up, pay56_up]
  exact canon_quarters (fun i c => dg v wi wo (X i) (M i) (T i) c) (fun i c => dg v wi wo (X i) (M i) (T i) (1408 + c))
    (fun i c => du v wi wo (X i) (M i) (T i) c) (fun i c => du v wi wo (X i) (M i) (T i) (1408 + c)) (fun i => dff v wi wo (X i) (M i) (T i)) (fun i c h => by show _ = dff v wi wo (X i) (M i) (T i) _; unfold dff; rw [if_pos (by omega), Nat.zero_add])
    (fun i c h => by show _ = dff v wi wo (X i) (M i) (T i) _; unfold dff; rw [if_pos (by omega)])
    (fun i c h => by show _ = dff v wi wo (X i) (M i) (T i) _; unfold dff; rw [if_neg (by omega), Nat.add_sub_cancel_left])
    (fun i c h => by
      show _ = dff v wi wo (X i) (M i) (T i) _
      unfold dff
      rw [if_neg (by omega), show 4224 + c - 2816 = 1408 + c by omega]) _ _ _ _

theorem out_B_9 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S8x1024 .f32) (harg4 : arg4.IsWhole) (arg5 : Memref sig .tc .vmem S4x1024x1408 .bf16) (harg5 : arg5.IsWhole) (arg6 : Memref sig .tc .vmem S2816x1024 .bf16) (harg6 : arg6.IsWhole) (arg7 : Memref sig .tc .vmem S256x2816 .bf16) (harg7 : arg7.IsWhole) (arg8 : Memref sig .tc .vmem S256x1024 .bf16) (harg8 : arg8.IsWhole) (arg9 : Memref sig .tc .vmem S256x5632 .bf16) (harg9 : arg9.IsWhole) (arg10 : Memref sig .tc .vmem S256x1024 .bf16) (harg10 : arg10.IsWhole) (arg11 : Memref sig .tc .vmem S256x1024 .f32) (harg11 : arg11.IsWhole) (arg12 : Memref sig .tc .vmem S16x1024 .f32) (harg12 : arg12.IsWhole) (arg13 : Memref sig .tc .vmem S256x5632 .f32) (harg13 : arg13.IsWhole) (hc0 : ¬cond0_0 i) (xo : FVec Ideal S16x1024 .f32) :
    out0_B_9 (F := Ideal) c i arg1 harg1 arg2 harg2 arg3 harg3 arg4 harg4 arg5 harg5 arg6 harg6 arg7 harg7 arg8 harg8 arg9 harg9 arg10 harg10 arg11 harg11 arg12 harg12 arg13 harg13 hc0 (up2 256 1024 X) (up2 256 1024 M) (up2 256 1024 T) (up2 8 1024 v) (stack wi) (up2 2816 1024 wo) xo = bDf v wi wo X M T := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 hc0 _ _ _ _ _ _ _)]
  unfold kernelRun0_B
  dsimp only
  sl_unfold_words
  simp (config := { decide := true }) only [↓View.readCov_skip, View.readAt_eq_ld, Memref.IsWhole.read_unread, View.ld_unit_lit, ld_row, ld_w0, ld_w1, ld_w2, ld_w3, View.readCov_cons_toLoadRect, load_act, c_1024, pay2_up, pay3_up, pay4_up, pay5_up, pay6_up, pay7_up, pay8_up, pay9_up, pay10_up, pay11_up, pay12_up, pay13_up, pay14_up, pay15_up, pay16_up, pay17_up, pay18_up, pay19_up, pay20_up, pay21_up, pay22_up, pay23_up, pay24_up, pay25_up, pay26_up, pay27_up, pay28_up, pay29_up, pay30_up, pay31_up, pay32_up, pay33_up, pay34_up, pay35_up, pay36_up, pay37_up, pay38_up, pay39_up, pay40_up, pay41_up, pay42_up, pay43_up, pay44_up, pay45_up, pay46_up, pay47_up, pay48_up, pay49_up, pay50_up, pay51_up, pay52_up, pay53_up, pay54_up, pay55_up, pay56_up]
  exact View.canon_unit_zero (by decide) _ _

theorem out_B_10 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S8x1024 .f32) (harg4 : arg4.IsWhole) (arg5 : Memref sig .tc .vmem S4x1024x1408 .bf16) (harg5 : arg5.IsWhole) (arg6 : Memref sig .tc .vmem S2816x1024 .bf16) (harg6 : arg6.IsWhole) (arg7 : Memref sig .tc .vmem S256x2816 .bf16) (harg7 : arg7.IsWhole) (arg8 : Memref sig .tc .vmem S256x1024 .bf16) (harg8 : arg8.IsWhole) (arg9 : Memref sig .tc .vmem S256x5632 .bf16) (harg9 : arg9.IsWhole) (arg10 : Memref sig .tc .vmem S256x1024 .bf16) (harg10 : arg10.IsWhole) (arg11 : Memref sig .tc .vmem S256x1024 .f32) (harg11 : arg11.IsWhole) (arg12 : Memref sig .tc .vmem S16x1024 .f32) (harg12 : arg12.IsWhole) (arg13 : Memref sig .tc .vmem S256x5632 .f32) (harg13 : arg13.IsWhole) (hc0 : ¬cond0_0 i) (xo : FVec Ideal S16x1024 .f32) :
    out0_B_10 (F := Ideal) c i arg1 harg1 arg2 harg2 arg3 harg3 arg4 harg4 arg5 harg5 arg6 harg6 arg7 harg7 arg8 harg8 arg9 harg9 arg10 harg10 arg11 harg11 arg12 harg12 arg13 harg13 hc0 (up2 256 1024 X) (up2 256 1024 M) (up2 256 1024 T) (up2 8 1024 v) (stack wi) (up2 2816 1024 wo) xo = bDr1 v wi wo X M T := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 hc0 _ _ _ _ _ _ _)]
  unfold kernelRun0_B
  dsimp only
  sl_unfold_words
  simp (config := { decide := true }) only [↓View.readCov_skip, View.readAt_eq_ld, Memref.IsWhole.read_unread, View.ld_unit_lit, ld_row, ld_w0, ld_w1, ld_w2, ld_w3, View.readCov_cons_toLoadRect, load_act, c_1024, pay2_up, pay3_up, pay4_up, pay5_up, pay6_up, pay7_up, pay8_up, pay9_up, pay10_up, pay11_up, pay12_up, pay13_up, pay14_up, pay15_up, pay16_up, pay17_up, pay18_up, pay19_up, pay20_up, pay21_up, pay22_up, pay23_up, pay24_up, pay25_up, pay26_up, pay27_up, pay28_up, pay29_up, pay30_up, pay31_up, pay32_up, pay33_up, pay34_up, pay35_up, pay36_up, pay37_up, pay38_up, pay39_up, pay40_up, pay41_up, pay42_up, pay43_up, pay44_up, pay45_up, pay46_up, pay47_up, pay48_up, pay49_up, pay50_up, pay51_up, pay52_up, pay53_up, pay54_up, pay55_up, pay56_up]
  exact View.canon_unit_zero (by decide) _ _

theorem out_B_11 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S8x1024 .f32) (harg4 : arg4.IsWhole) (arg5 : Memref sig .tc .vmem S4x1024x1408 .bf16) (harg5 : arg5.IsWhole) (arg6 : Memref sig .tc .vmem S2816x1024 .bf16) (harg6 : arg6.IsWhole) (arg7 : Memref sig .tc .vmem S256x2816 .bf16) (harg7 : arg7.IsWhole) (arg8 : Memref sig .tc .vmem S256x1024 .bf16) (harg8 : arg8.IsWhole) (arg9 : Memref sig .tc .vmem S256x5632 .bf16) (harg9 : arg9.IsWhole) (arg10 : Memref sig .tc .vmem S256x1024 .bf16) (harg10 : arg10.IsWhole) (arg11 : Memref sig .tc .vmem S256x1024 .f32) (harg11 : arg11.IsWhole) (arg12 : Memref sig .tc .vmem S16x1024 .f32) (harg12 : arg12.IsWhole) (arg13 : Memref sig .tc .vmem S256x5632 .f32) (harg13 : arg13.IsWhole) (hc0 : ¬cond0_0 i) (S : ℕ → ℕ → ℝ) :
    out0_B_11 (F := Ideal) c i arg1 harg1 arg2 harg2 arg3 harg3 arg4 harg4 arg5 harg5 arg6 harg6 arg7 harg7 arg8 harg8 arg9 harg9 arg10 harg10 arg11 harg11 arg12 harg12 arg13 harg13 hc0 (up2 256 1024 X) (up2 256 1024 M) (up2 256 1024 T) (up2 8 1024 v) (stack wi) (up2 2816 1024 wo) (up2 16 1024 S)
      = up2 16 1024 fun s j => S s j + ∑ i ∈ range 256, stat v wi wo (X i) (M i) (T i) s j := by
  unfold out0_B_11
  unfold kernelRun0_B
  dsimp only
  sl_unfold_words
  simp (config := { decide := true }) only [↓View.readCov_skip, ld_sum, View.readAt_eq_ld, Memref.IsWhole.read_unread, View.ld_unit_lit, ld_row, ld_w0, ld_w1, ld_w2, ld_w3, View.readCov_cons_toLoadRect, load_act, c_1024, pay2_up, pay3_up, pay4_up, pay5_up, pay6_up, pay7_up, pay8_up, pay9_up, pay10_up, pay11_up, pay12_up, pay13_up, pay14_up, pay15_up, pay16_up, pay17_up, pay18_up, pay19_up, pay20_up, pay21_up, pay22_up, pay23_up, pay24_up, pay25_up, pay26_up, pay27_up, pay28_up, pay29_up, pay30_up, pay31_up, pay32_up, pay33_up, pay34_up, pay35_up, pay36_up, pay37_up, pay38_up, pay39_up, pay40_up, pay41_up, pay42_up, pay43_up, pay44_up, pay45_up, pay46_up, pay47_up, pay48_up, pay49_up, pay50_up, pay51_up, pay52_up, pay53_up, pay54_up, pay55_up, pay56_up]
  refine Eq.trans ?_ (rows_stat v wi wo X M T S)
  exact read_row _ _ (read_row _ _ (read_row _ _ (read_row _ _ (read_row _ _ (read_row _ _ (read_row _ _ (read_row _ _ (read_row _ _ (harg12.read_unread _) _ _ _) _ _ _) _ _ _) _ _ _) _ _ _) _ _ _) _ _ _) _ _ _) _ _ _

end Cert.Block

end
-- ==== Proof.Arrays.lean ====
/-
  The arrays the call leaves, in real numbers: the blocks every grid point reads, the six arrays over the whole grid, and
  the sums over the tokens by induction over the points.
-/
module

public import proofs.«01_k».proof.Proof.Gen.KernelIdeal.Value
public import proofs.«01_k».proof.Proof.Block
public import Idealize.ShloMosaic.Lib.Pipeline.ValueKit
public import Idealize.ShloMosaic.Lib.Claim

@[expose] public section

set_option maxRecDepth 16384

noncomputable section

namespace Cert.Arrays

open Idealize.ShloMosaic Idealize.ShloMosaic.Tactic Idealize.ShloMosaic.TcCoe Cert.KernelIdeal Cert.KernelIdeal.Gen Cert.Lift Cert.Spec Cert.Pay
  Cert.Loads Cert.Block Finset
open scoped BigOperators

/-- The eight vectors of `Spec`, from the modulation's rows and the two layer norms' vectors. -/
def vec (md g1 b1 g2 b2 : ℕ → ℕ → ℝ) (r j : ℕ) : ℝ :=
  match r with
  | 0 => md 2 j
  | 1 => g1 0 j
  | 2 => b1 0 j
  | 3 => md 3 j
  | 4 => md 4 j
  | 5 => md 5 j
  | 6 => g2 0 j
  | 7 => b2 0 j
  | _ => 0

/-! ## Two layout facts -/

/-- A row of matrices stacked along the first axis: row `pre + r` of the stack is row `r` of piece `k`. -/
theorem stack_rows {R p n : ℕ} {xs : List ((s : Shape) × (s.Idx → EReal))}
    (h : Shape.Concatenates (xs.map (·.1)) (⟨2, ![R, n]⟩ : Shape) 0) (j : (⟨2, ![R, n]⟩ : Shape).Idx) (k : ℕ) (hk : k < xs.length)
    (f : ℕ → ℕ → ℝ) (hxk : xs[k] = ⟨⟨2, ![p, n]⟩, up2 p n f⟩) (pre r : ℕ)
    (hpre : (((xs.take k).map (·.1)).map fun s => if h : s.rank = 2 then s.size ((0 : Fin 2).cast h.symm) else 0).sum = pre)
    (hj : (j 0).val = pre + r) (hr : r < p) :
    concatenate (⟨2, ![R, n]⟩ : Shape) 0 xs h j = ((f r (j 1).val : ℝ) : EReal) := by
  refine (concatenate_apply_piece (t := ⟨2, ![R, n]⟩) 0 xs h j k hk _ _ hxk rfl pre hpre (ix2 ⟨r, hr⟩ (j 1)) (fun b hb => ?_) ?_).trans rfl
  · match b with
    | ⟨0, _⟩ => exact absurd rfl hb
    | ⟨1, _⟩ => rfl
  · exact hj.symm

/-- The columns of a matrix in four groups, the groups made the leading axis. -/
theorem groups_up (wi : ℕ → ℕ → ℝ) (h1 h2) :
    transpose (⟨3, ![4, 1024, 1408]⟩ : Shape) [1, 0, 2]
      (shapeCast (s := ⟨2, ![1024, 5632]⟩) (⟨3, ![1024, 4, 1408]⟩ : Shape) (up2 1024 5632 wi) h1) h2 = stack wi := by
  funext j
  refine (transpose_apply _ _ h2 j (ix3 (j 1) (j 0) (j 2)) fun a => ?_).trans ?_
  · match a with
    | ⟨0, _⟩ => rfl
    | ⟨1, _⟩ => rfl
    | ⟨2, _⟩ => rfl
  · have b0 : (j 0).val < 4 := (j 0).isLt
    have b1 : (j 1).val < 1024 := (j 1).isLt
    have b2 : (j 2).val < 1408 := (j 2).isLt
    refine (shapeCast_apply _ h1 _ (ix2 ⟨(j 1).val, b1⟩ ⟨1408 * (j 0).val + (j 2).val, by omega⟩) ?_).trans rfl
    rw [Shape.rowMajor_val_two, Shape.rowMajor_val_three]
    show (j 1).val * 5632 + (1408 * (j 0).val + (j 2).val) = ((j 1).val * 4 + (j 0).val) * 1408 + (j 2).val
    ring

/-- The stack of the eight vectors, piece by piece. -/
theorem stack6 {a b d f g a' b' d' f' g' : S1x1024.Idx → EReal} {e e' : S3x1024.Idx → EReal} {h}
    (ha : a = a') (hb : b = b') (hd : d = d') (he : e = e') (hf : f = f') (hg : g = g') :
    concatenate S8x1024 0 [⟨S1x1024, a⟩, ⟨S1x1024, b⟩, ⟨S1x1024, d⟩, ⟨S3x1024, e⟩, ⟨S1x1024, f⟩, ⟨S1x1024, g⟩] h
      = concatenate S8x1024 0 [⟨S1x1024, a'⟩, ⟨S1x1024, b'⟩, ⟨S1x1024, d'⟩, ⟨S3x1024, e'⟩, ⟨S1x1024, f'⟩, ⟨S1x1024, g'⟩] h := by
  subst ha hb hd he hf hg
  rfl

variable (m : (ℓ : Loc nD τ sig) → Buf (Elt Ideal) ℓ) (c : Dev nD)
variable (X M T md g1 b1 g2 b2 wi wo : ℕ → ℕ → ℝ)

/-- The arguments on device `c` are these arrays of real numbers. -/
structure Args : Prop where
  x : m ((c : Thread nD τ).loc main_arg0) = up2 8192 1024 X
  mix : m ((c : Thread nD τ).loc main_arg1) = up2 8192 1024 M
  tgt : m ((c : Thread nD τ).loc main_arg2) = up2 8192 1024 T
  md : m ((c : Thread nD τ).loc main_arg3) = up2 6 1024 md
  g1 : m ((c : Thread nD τ).loc main_arg4) = up2 1 1024 g1
  b1 : m ((c : Thread nD τ).loc main_arg5) = up2 1 1024 b1
  g2 : m ((c : Thread nD τ).loc main_arg6) = up2 1 1024 g2
  b2 : m ((c : Thread nD τ).loc main_arg7) = up2 1 1024 b2
  wi : m ((c : Thread nD τ).loc main_arg8) = up2 1024 5632 wi
  wo : m ((c : Thread nD τ).loc main_arg9) = up2 2816 1024 wo

variable {m c X M T md g1 b1 g2 b2 wi wo}

theorem idx_tok : ∀ t : Fin cfg0.N, win0_0.index t = ![t.val, 0] ∧ win0_1.index t = ![t.val, 0] ∧ win0_2.index t = ![t.val, 0] := by
  decide +kernel

/-- The last point of the grid. -/
def t31 : Fin cfg0.N := ⟨31, by decide⟩

theorem idx_all : ∀ t : Fin cfg0.N, win0_3.index t = ![0, 0] ∧ win0_4.index t = ![0, 0, 0] ∧ win0_5.index t = ![0, 0] := by
  decide +kernel

theorem idx_out_6 : ∀ t : Fin cfg0.N, win0_6.index t = ![t.val, 0] := by decide +kernel

theorem idx_out_7 : ∀ t : Fin cfg0.N, win0_7.index t = ![t.val, 0] := by decide +kernel

theorem idx_out_8 : ∀ t : Fin cfg0.N, win0_8.index t = ![t.val, 0] := by decide +kernel

theorem idx_out_9 : ∀ t : Fin cfg0.N, win0_9.index t = ![t.val, 0] := by decide +kernel

theorem idx_out_10 : ∀ t : Fin cfg0.N, win0_10.index t = ![t.val, 0] := by decide +kernel

variable (h : Args m c X M T md g1 b1 g2 b2 wi wo)
include h

/-! ## What the region finds -/

theorem entry_wo : V m c main_v6 = up2 2816 1024 wo := by
  entry_read
  rw [h.wo]
  rfl

theorem entry_wi : V m c main_v5 = stack wi := by
  entry_read
  rw [h.wi]
  exact groups_up wi _ _

theorem entry_vec : V m c main_v2 = up2 8 1024 (vec md g1 b1 g2 b2) := by
  have e : V m c main_v2 = concatenate S8x1024 0 [⟨S1x1024, up2 1 1024 fun i => md (2 + i)⟩, ⟨S1x1024, up2 1 1024 g1⟩,
      ⟨S1x1024, up2 1 1024 b1⟩, ⟨S3x1024, up2 3 1024 fun i => md (3 + i)⟩, ⟨S1x1024, up2 1 1024 g2⟩, ⟨S1x1024, up2 1 1024 b2⟩]
      concatenates_S1x1024_S1x1024_S1x1024_S3x1024_S1x1024_S1x1024_S8x1024_d0 := by
    unfold_abbrev_sides
    after_results
    refine stack6 ?_ ?_ ?_ ?_ ?_ ?_
    · show StableHlo.after (hostOps0.take 2) (fun b => m (c, b)) (Proc.devRef .tc main_v0) = _
      dsimp only [hostOps0, List.take]
      after_results
      show extractStridedSlice S1x1024 ![2, 0] (m ((c : Thread nD τ).loc main_arg3)) slices_S6x1024_S1x1024_2_0 = _
      rw [h.md]
      exact (slice_up _ 2 0 _).trans (up2_congr fun i _ j _ => by rw [Nat.zero_add])
    · show StableHlo.after (hostOps0.take 2) (fun b => m (c, b)) (Proc.devRef .tc main_arg4) = _
      dsimp only [hostOps0, List.take]
      after_results
      exact h.g1
    · show StableHlo.after (hostOps0.take 2) (fun b => m (c, b)) (Proc.devRef .tc main_arg5) = _
      dsimp only [hostOps0, List.take]
      after_results
      exact h.b1
    · show StableHlo.after (hostOps0.take 2) (fun b => m (c, b)) (Proc.devRef .tc main_v1) = _
      dsimp only [hostOps0, List.take]
      after_results
      show extractStridedSlice S3x1024 ![3, 0] (m ((c : Thread nD τ).loc main_arg3)) slices_S6x1024_S3x1024_3_0 = _
      rw [h.md]
      exact (slice_up _ 3 0 _).trans (up2_congr fun i _ j _ => by rw [Nat.zero_add])
    · show StableHlo.after (hostOps0.take 2) (fun b => m (c, b)) (Proc.devRef .tc main_arg6) = _
      dsimp only [hostOps0, List.take]
      after_results
      exact h.g2
    · show StableHlo.after (hostOps0.take 2) (fun b => m (c, b)) (Proc.devRef .tc main_arg7) = _
      dsimp only [hostOps0, List.take]
      after_results
      exact h.b2
  rw [e]
  funext j
  have b0 : (j 0).val < 8 := (j 0).isLt
  have b : (j 0).val = 0 ∨ (j 0).val = 1 ∨ (j 0).val = 2 ∨ (j 0).val = 3 ∨ (j 0).val = 4 ∨ (j 0).val = 5 ∨ (j 0).val = 6
      ∨ (j 0).val = 7 := by omega
  show _ = ((vec md g1 b1 g2 b2 (j 0).val (j 1).val : ℝ) : EReal)
  rcases b with b | b | b | b | b | b | b | b <;> rw [b]
  · exact (stack_rows (p := 1) _ j 0 (by norm_num) (fun i => md (2 + i)) rfl 0 0 rfl b (by norm_num)).trans rfl
  · exact (stack_rows (p := 1) _ j 1 (by norm_num) g1 rfl 1 0 rfl b (by norm_num)).trans rfl
  · exact (stack_rows (p := 1) _ j 2 (by norm_num) b1 rfl 2 0 rfl b (by norm_num)).trans rfl
  · exact (stack_rows (p := 3) _ j 3 (by norm_num) (fun i => md (3 + i)) rfl 3 0 rfl b (by norm_num)).trans rfl
  · exact (stack_rows (p := 3) _ j 3 (by norm_num) (fun i => md (3 + i)) rfl 3 1 rfl b (by norm_num)).trans rfl
  · exact (stack_rows (p := 3) _ j 3 (by norm_num) (fun i => md (3 + i)) rfl 3 2 rfl b (by norm_num)).trans rfl
  · exact (stack_rows (p := 1) _ j 4 (by norm_num) g2 rfl 6 0 rfl b (by norm_num)).trans rfl
  · exact (stack_rows (p := 1) _ j 5 (by norm_num) b2 rfl 7 0 rfl b (by norm_num)).trans rfl

/-! ## The blocks a point reads -/

theorem blk_x (t : Fin cfg0.N) : iblk m c 0 t = up2 256 1024 fun i => X (256 * t.val + i) := by
  funext y
  have e := (idx_tok t).1
  blk_simp [iblk, e]
  rw [V_main_arg0, h.x]
  blk_simp [up2, e, Nat.mul_comm 256]

theorem blk_mix (t : Fin cfg0.N) : iblk m c 1 t = up2 256 1024 fun i => M (256 * t.val + i) := by
  funext y
  have e := (idx_tok t).2.1
  blk_simp [iblk, e]
  rw [V_main_arg1, h.mix]
  blk_simp [up2, e, Nat.mul_comm 256]

theorem blk_tgt (t : Fin cfg0.N) : iblk m c 2 t = up2 256 1024 fun i => T (256 * t.val + i) := by
  funext y
  have e := (idx_tok t).2.2
  blk_simp [iblk, e]
  rw [V_main_arg2, h.tgt]
  blk_simp [up2, e, Nat.mul_comm 256]

theorem blk_v (t : Fin cfg0.N) : iblk m c 3 t = up2 8 1024 (vec md g1 b1 g2 b2) := by
  funext y
  have e := (idx_all t).1
  blk_simp [iblk, e]
  rw [entry_vec h]
  blk_simp [up2, e]

theorem blk_wi (t : Fin cfg0.N) : iblk m c 4 t = stack wi := by
  funext y
  have e := (idx_all t).2.1
  blk_simp [iblk, e]
  rw [entry_wi h]
  blk_simp [stack, up3, e]

theorem blk_wo (t : Fin cfg0.N) : iblk m c 5 t = up2 2816 1024 wo := by
  funext y
  have e := (idx_all t).2.2
  blk_simp [iblk, e]
  rw [entry_wo h]
  blk_simp [up2, e]

/-! ## The arrays the call leaves -/

/-- What the call leaves in array 6. -/
theorem arr_act : (dats m 0 c).arrAt 6 cfg0.N = up2 8192 2816 fun i => act (vec md g1 b1 g2 b2) wi (X i) (M i) := by
  refine (dats m 0 c).arrAt_eq_of_covers 6 _ (by decide +kernel) fun t hf y => ?_
  have e : ∀ t : Fin cfg0.N, win0_6.index t = ![t.val, 0] := idx_out_6
  blk_simp
  rw [after0_6]
  have o : (outsAt0 m c t.val t.isLt).1 = up2 256 2816 fun i => act (vec md g1 b1 g2 b2) wi (X (256 * t.val + i)) (M (256 * t.val + i)) := by
    by_cases h0 : t.val % 32 = 0
    · rw [outsAt0_A m c t h0]
      dsimp only
      rw [blk_x h, blk_mix h, blk_tgt h, blk_v h, blk_wi h, blk_wo h, out_A_6]
    · rw [outsAt0_B m c t h0]
      dsimp only
      rw [blk_x h, blk_mix h, blk_tgt h, blk_v h, blk_wi h, blk_wo h, out_B_6]
  rw [o]
  blk_simp [up2, e t, Nat.mul_comm 256]

/-- What the call leaves in array 7. -/
theorem arr_h2 : (dats m 0 c).arrAt 7 cfg0.N = up2 8192 1024 fun i => h2 (vec md g1 b1 g2 b2) (X i) (M i) := by
  refine (dats m 0 c).arrAt_eq_of_covers 7 _ (by decide +kernel) fun t hf y => ?_
  have e : ∀ t : Fin cfg0.N, win0_7.index t = ![t.val, 0] := idx_out_7
  blk_simp
  rw [after0_7]
  have o : (outsAt0 m c t.val t.isLt).2.1 = up2 256 1024 fun i => h2 (vec md g1 b1 g2 b2) (X (256 * t.val + i)) (M (256 * t.val + i)) := by
    by_cases h0 : t.val % 32 = 0
    · rw [outsAt0_A m c t h0]
      dsimp only
      rw [blk_x h, blk_mix h, blk_tgt h, blk_v h, blk_wi h, blk_wo h, out_A_7]
    · rw [outsAt0_B m c t h0]
      dsimp only
      rw [blk_x h, blk_mix h, blk_tgt h, blk_v h, blk_wi h, blk_wo h, out_B_7]
  rw [o]
  blk_simp [up2, e t, Nat.mul_comm 256]

/-- What the call leaves in array 8. -/
theorem arr_dff : (dats m 0 c).arrAt 8 cfg0.N = up2 8192 5632 fun i => dff (vec md g1 b1 g2 b2) wi wo (X i) (M i) (T i) := by
  refine (dats m 0 c).arrAt_eq_of_covers 8 _ (by decide +kernel) fun t hf y => ?_
  have e : ∀ t : Fin cfg0.N, win0_8.index t = ![t.val, 0] := idx_out_8
  blk_simp
  rw [after0_8]
  have o : (outsAt0 m c t.val t.isLt).2.2.1 = up2 256 5632 fun i => dff (vec md g1 b1 g2 b2) wi wo (X (256 * t.val + i)) (M (256 * t.val + i)) (T (256 * t.val + i)) := by
    by_cases h0 : t.val % 32 = 0
    · rw [outsAt0_A m c t h0]
      dsimp only
      rw [blk_x h, blk_mix h, blk_tgt h, blk_v h, blk_wi h, blk_wo h, out_A_8]
    · rw [outsAt0_B m c t h0]
      dsimp only
      rw [blk_x h, blk_mix h, blk_tgt h, blk_v h, blk_wi h, blk_wo h, out_B_8]
  rw [o]
  blk_simp [up2, e t, Nat.mul_comm 256]

/-- What the call leaves in array 9. -/
theorem arr_df : (dats m 0 c).arrAt 9 cfg0.N = up2 8192 1024 fun i => df (vec md g1 b1 g2 b2) wi wo (X i) (M i) (T i) := by
  refine (dats m 0 c).arrAt_eq_of_covers 9 _ (by decide +kernel) fun t hf y => ?_
  have e : ∀ t : Fin cfg0.N, win0_9.index t = ![t.val, 0] := idx_out_9
  blk_simp
  rw [after0_9]
  have o : (outsAt0 m c t.val t.isLt).2.2.2.1 = up2 256 1024 fun i => df (vec md g1 b1 g2 b2) wi wo (X (256 * t.val + i)) (M (256 * t.val + i)) (T (256 * t.val + i)) := by
    by_cases h0 : t.val % 32 = 0
    · rw [outsAt0_A m c t h0]
      dsimp only
      rw [blk_x h, blk_mix h, blk_tgt h, blk_v h, blk_wi h, blk_wo h, out_A_9]
    · rw [outsAt0_B m c t h0]
      dsimp only
      rw [blk_x h, blk_mix h, blk_tgt h, blk_v h, blk_wi h, blk_wo h, out_B_9]
  rw [o]
  blk_simp [up2, e t, Nat.mul_comm 256]

/-- What the call leaves in array 10. -/
theorem arr_dr1 : (dats m 0 c).arrAt 10 cfg0.N = up2 8192 1024 fun i => dr1 (vec md g1 b1 g2 b2) wi wo (X i) (M i) (T i) := by
  refine (dats m 0 c).arrAt_eq_of_covers 10 _ (by decide +kernel) fun t hf y => ?_
  have e : ∀ t : Fin cfg0.N, win0_10.index t = ![t.val, 0] := idx_out_10
  blk_simp
  rw [after0_10]
  have o : (outsAt0 m c t.val t.isLt).2.2.2.2.1 = up2 256 1024 fun i => dr1 (vec md g1 b1 g2 b2) wi wo (X (256 * t.val + i)) (M (256 * t.val + i)) (T (256 * t.val + i)) := by
    by_cases h0 : t.val % 32 = 0
    · rw [outsAt0_A m c t h0]
      dsimp only
      rw [blk_x h, blk_mix h, blk_tgt h, blk_v h, blk_wi h, blk_wo h, out_A_10]
    · rw [outsAt0_B m c t h0]
      dsimp only
      rw [blk_x h, blk_mix h, blk_tgt h, blk_v h, blk_wi h, blk_wo h, out_B_10]
  rw [o]
  blk_simp [up2, e t, Nat.mul_comm 256]

/-- After point `n` the sums hold the first `256 * (n + 1)` tokens. -/
theorem stat_after (n : ℕ) (hn : n < cfg0.N) : (outsAt0 m c n hn).2.2.2.2.2
    = up2 16 1024 fun s j => ∑ i ∈ range (256 * (n + 1)), stat (vec md g1 b1 g2 b2) wi wo (X i) (M i) (T i) s j := by
  induction n with
  | zero =>
    rw [outsAt0_A m c ⟨0, hn⟩ rfl]
    dsimp only
    rw [blk_x h, blk_mix h, blk_tgt h, blk_v h, blk_wi h, blk_wo h, out_A_11]
    refine up2_congr fun s _ j _ => ?_
    simp only [Nat.mul_zero, Nat.zero_add, zero_add, Nat.mul_one]
  | succ n ih =>
    have hN : n + 1 < 32 := hn
    rw [outsAt0_B m c ⟨n + 1, hn⟩ (by show ¬(n + 1) % 32 = 0; omega)]
    dsimp only
    have ih' := ih (by omega)
    simp only [Nat.add_sub_cancel]
    rw [ih', blk_x h, blk_mix h, blk_tgt h, blk_v h, blk_wi h, blk_wo h, out_B_11]
    refine up2_congr fun s _ j _ => ?_
    rw [Nat.mul_add 256 (n + 1) 1, sum_range_add]

/-- What the call leaves in the array of sums. -/
theorem arr_stat : (dats m 0 c).arrAt 11 cfg0.N
    = up2 16 1024 fun s j => ∑ i ∈ range 8192, stat (vec md g1 b1 g2 b2) wi wo (X i) (M i) (T i) s j := by
  refine (dats m 0 c).arrAt_eq_of_after_last 11 t31 (by decide +kernel) _ fun j => ?_
  blk_simp
  rw [after0_11]
  exact congrFun (stat_after h 31 t31.isLt) j

end Cert.Arrays

end
-- ==== Proof.Finite.lean ====
/-
  What the precondition says.

  `finite` compares the absolute value of every element of every argument with infinity and takes the conjunction. Where
  it is all ones every element is a real number, so each argument is the array of a real function (`up2`).
-/
module

public import proofs.«01_k».proof.Proof.Arrays
public import proofs.«01_k».proof.Proof.Gen.Pre_finite
public import Idealize.ShloMosaic.Lib.ReduceAll
public import Idealize.ShloMosaic.Lib.Affine

@[expose] public section

noncomputable section

namespace Cert.Finite

open Idealize.ShloMosaic Idealize.ShloMosaic.TcCoe Cert.Lift

/-- The word of infinity. -/
theorem inf_word : Ideal.ofBits .f32 0x7F800000#32 = ⊤ := by simp [Ideal.ofBits, Ideal.ieee]

/-- An extended real whose absolute value is below infinity is a real number. -/
theorem real_of_lt {x : EReal} (h : Ideal.cmp .olt (max x (-x)) (Ideal.ofBits .f32 0x7F800000#32) = 1#1) : ((x.toReal : ℝ) : EReal) = x := by
  rw [inf_word] at h
  refine EReal.coe_toReal ?_ ?_ <;> rintro rfl <;> simp [Ideal.cmp] at h

/-- A matrix of real numbers is the array of a real function. -/
theorem exists_up {n k : ℕ} (x : (⟨2, ![n, k]⟩ : Shape).Idx → EReal) (h : ∀ i, (((x i).toReal : ℝ) : EReal) = x i) : ∃ f, x = up2 n k f := by
  refine ⟨fun i j => if hi : i < n then if hj : j < k then (x (Idealize.ShloMosaic.ValueIdx.ix2 ⟨i, hi⟩ ⟨j, hj⟩)).toReal else 0 else 0, funext fun i => ?_⟩
  have h0 : (i 0).val < n := (i 0).isLt
  have h1 : (i 1).val < k := (i 1).isLt
  have e : Idealize.ShloMosaic.ValueIdx.ix2 (⟨(i 0).val, h0⟩ : Fin n) (⟨(i 1).val, h1⟩ : Fin k) = i := by
    funext d
    fin_cases d <;> rfl
  show x i = ((_ : ℝ) : EReal)
  beta_reduce
  rw [dif_pos h0, dif_pos h1, e, h i]

/-- One conjunct of the precondition. -/
theorem conjunct {n k : ℕ} {S : Shape} [Subsingleton S.Idx] (x : FVec Ideal (⟨2, ![n, k]⟩ : Shape) .f32) {axes : List (Fin 2)} {hb} {hr : (⟨2, ![n, k]⟩ : Shape).ReducesTo axes S} {hu}
    (j : S.Idx)
    (h : Host.reduce IntOp.andi (cmpf (F := Ideal) .olt (Host.absf (F := Ideal) x) (broadcastInDim (⟨2, ![n, k]⟩ : Shape) ![] hb (constant (F := Ideal) ⟨0, ![]⟩ .f32 0x7F800000#32)))
      (constantI S 1 1#1) hr hu j = 1#1) : ∃ f, x = up2 n k f :=
  exists_up x fun i => real_of_lt (Host.reduce_andi_all _ _ _ _ j h i)

open Cert.Pre_finite in
/-- Where the precondition holds the ten arguments are arrays of real functions. -/
theorem args_real (x0 x1 x2 : FVec Ideal S8192x1024 .f32) (x3 : FVec Ideal S6x1024 .f32) (x4 x5 x6 x7 : FVec Ideal S1x1024 .f32)
    (x8 : FVec Ideal S1024x5632 .f32) (x9 : FVec Ideal S2816x1024 .f32)
    (h : Cert.Pre_finite.fn (F := Ideal) x0 x1 x2 x3 x4 x5 x6 x7 x8 x9 = fun _ => 1#1) :
    (∃ f, x0 = up2 8192 1024 f) ∧ (∃ f, x1 = up2 8192 1024 f) ∧ (∃ f, x2 = up2 8192 1024 f) ∧ (∃ f, x3 = up2 6 1024 f) ∧ (∃ f, x4 = up2 1 1024 f)
      ∧ (∃ f, x5 = up2 1 1024 f) ∧ (∃ f, x6 = up2 1 1024 f) ∧ (∃ f, x7 = up2 1 1024 f) ∧ (∃ f, x8 = up2 1024 5632 f) ∧ ∃ f, x9 = up2 2816 1024 f := by
  have hs : Subsingleton S_.Idx := ⟨fun a b => funext fun d => d.elim0⟩
  obtain ⟨j⟩ : Nonempty S_.Idx := ⟨fun d => d.elim0⟩
  have e := congrFun h j
  dsimp only [fn, fn_part1, fn_part2] at e
  have e9 := (IntOp.andi_eq_one.1 e).2
  replace e := (IntOp.andi_eq_one.1 e).1
  replace e9 := conjunct (n := 2816) (k := 1024) (S := S_) x9 j e9
  have e8 := (IntOp.andi_eq_one.1 e).2
  replace e := (IntOp.andi_eq_one.1 e).1
  replace e8 := conjunct (n := 1024) (k := 5632) (S := S_) x8 j e8
  have e7 := (IntOp.andi_eq_one.1 e).2
  replace e := (IntOp.andi_eq_one.1 e).1
  replace e7 := conjunct (n := 1) (k := 1024) (S := S_) x7 j e7
  have e6 := (IntOp.andi_eq_one.1 e).2
  replace e := (IntOp.andi_eq_one.1 e).1
  replace e6 := conjunct (n := 1) (k := 1024) (S := S_) x6 j e6
  have e5 := (IntOp.andi_eq_one.1 e).2
  replace e := (IntOp.andi_eq_one.1 e).1
  replace e5 := conjunct (n := 1) (k := 1024) (S := S_) x5 j e5
  have e4 := (IntOp.andi_eq_one.1 e).2
  replace e := (IntOp.andi_eq_one.1 e).1
  replace e4 := conjunct (n := 1) (k := 1024) (S := S_) x4 j e4
  have e3 := (IntOp.andi_eq_one.1 e).2
  replace e := (IntOp.andi_eq_one.1 e).1
  replace e3 := conjunct (n := 6) (k := 1024) (S := S_) x3 j e3
  have e2 := (IntOp.andi_eq_one.1 e).2
  replace e := (IntOp.andi_eq_one.1 e).1
  replace e2 := conjunct (n := 8192) (k := 1024) (S := S_) x2 j e2
  have e1 := (IntOp.andi_eq_one.1 e).2
  replace e := (IntOp.andi_eq_one.1 e).1
  replace e1 := conjunct (n := 8192) (k := 1024) (S := S_) x1 j e1
  exact ⟨conjunct (n := 8192) (k := 1024) (S := S_) x0 j e, e1, e2, e3, e4, e5, e6, e7, e8, e9⟩

end Cert.Finite

end
-- ==== Proof.Ref1.lean ====
/-
  The reference, one operation at a time, as real numbers: the forward half up to the network's output.
-/
module

public import proofs.«01_k».proof.Proof.Gen.ReferenceIdeal.Read
public import proofs.«01_k».proof.Proof.Arrays

@[expose] public section

set_option maxRecDepth 16384

noncomputable section

namespace Cert.Ref

open Idealize.ShloMosaic Cert.ReferenceIdeal Cert.ReferenceIdeal.Gen Cert.ReferenceIdeal.Read Cert.Lift Cert.Spec Finset
open Cert.Arrays (vec stack_rows)
open scoped BigOperators

variable (X M T md g1 b1 g2 b2 wi wo : ℕ → ℕ → ℝ)

theorem shuffle (p q r s : ℝ) : p + q + r + s = q + r + s + p := by ring

/-- A quotient of vectors. -/
theorem hostDivf1_up {n : ℕ} (f g : ℕ → ℝ) (h : ∀ i < n, g i ≠ 0) :
    Host.divf (F := Ideal) (s := ⟨1, ![n]⟩) (φ := .f32) (up1 n f) (up1 n g) = up1 n fun i => f i / g i :=
  funext fun j => div_coe' _ _ (h _ (j 0).isLt)

/-- The loss's factor over a vector. -/
theorem host_half_up {n : ℕ} (dims) (h) :
    broadcastInDim (s := ⟨0, ![]⟩) ⟨1, ![n]⟩ dims h (mulf (F := Ideal) (constant (F := Ideal) ⟨0, ![]⟩ .f32 0x3F000000#32)
      (constant (F := Ideal) ⟨0, ![]⟩ .f32 0x3F800000#32)) = up1 n fun _ => 1 / 2 * 1 := by
  funext _
  show Ideal.ofBits .f32 0x3F000000#32 * Ideal.ofBits .f32 0x3F800000#32 = _
  rw [word_half, word_one, ← EReal.coe_mul]
  rfl

include X M T md g1 b1 g2 b2 wi wo

theorem r_v0 : val_main_v0 (F := Ideal) (up2 6 1024 md)
    = up2 1 1024 fun i j => md (2 + i) (0 + j) := by
  unfold val_main_v0
  exact slice_up _ 2 0 _

theorem r_v1 : val_main_v1 (F := Ideal) (up2 6 1024 md)
    = up1 1024 fun i => md (2 + 0) (0 + i) := by
  unfold val_main_v1
  rw [r_v0 X M T md g1 b1 g2 b2 wi wo]
  exact cast_unrow_up _ _

theorem r_v2 : val_main_v2 (F := Ideal)
    = up2 8192 1024 fun _ _ => alpha := by
  unfold val_main_v2 val_main_cst
  exact host_splat_up _ _ word_alpha

theorem r_v3 : val_main_v3 (F := Ideal) (up2 8192 1024 X)
    = up2 8192 1024 fun i j => alpha * (X i j) := by
  unfold val_main_v3
  rw [r_v2 X M T md g1 b1 g2 b2 wi wo]
  exact mulf_up _ _

theorem r_v4 : val_main_v4 (F := Ideal) (up2 6 1024 md)
    = up2 1 1024 fun _ j => (vec md g1 b1 g2 b2) 0 j := by
  unfold val_main_v4
  rw [r_v1 X M T md g1 b1 g2 b2 wi wo]
  exact (host_row_up _ _).trans (up2_congr fun i _ j _ => by rw [Nat.zero_add]; rfl)

theorem r_v5 : val_main_v5 (F := Ideal) (up2 6 1024 md)
    = up2 8192 1024 fun _ j => (vec md g1 b1 g2 b2) 0 j := by
  unfold val_main_v5
  rw [r_v4 X M T md g1 b1 g2 b2 wi wo]
  exact host_rows_up _ _

theorem r_v6 : val_main_v6 (F := Ideal) (up2 8192 1024 M) (up2 6 1024 md)
    = up2 8192 1024 fun i j => ((vec md g1 b1 g2 b2) 0 j) * (M i j) := by
  unfold val_main_v6
  rw [r_v5 X M T md g1 b1 g2 b2 wi wo]
  exact mulf_up _ _

theorem r_v7 : val_main_v7 (F := Ideal) (up2 8192 1024 X) (up2 8192 1024 M) (up2 6 1024 md)
    = up2 8192 1024 fun i j => r1 (vec md g1 b1 g2 b2) (X i) (M i) j := by
  unfold val_main_v7
  rw [r_v3 X M T md g1 b1 g2 b2 wi wo, r_v6 X M T md g1 b1 g2 b2 wi wo]
  exact addf_up _ _

theorem r_v8 : val_main_v8 (F := Ideal) (up2 1 1024 g1)
    = up1 1024 fun i => g1 0 i := by
  unfold val_main_v8
  exact cast_unrow_up _ _

theorem r_v9 : val_main_v9 (F := Ideal) (up2 1 1024 b1)
    = up1 1024 fun i => b1 0 i := by
  unfold val_main_v9
  exact cast_unrow_up _ _

theorem r_v10 : val_main_v10 (F := Ideal) (up2 6 1024 md)
    = up2 1 1024 fun i j => md (3 + i) (0 + j) := by
  unfold val_main_v10
  exact slice_up _ 3 0 _

theorem r_v11 : val_main_v11 (F := Ideal) (up2 6 1024 md)
    = up1 1024 fun i => md (3 + 0) (0 + i) := by
  unfold val_main_v11
  rw [r_v10 X M T md g1 b1 g2 b2 wi wo]
  exact cast_unrow_up _ _

theorem r_v12 : val_main_v12 (F := Ideal) (up2 6 1024 md)
    = up2 1 1024 fun i j => md (4 + i) (0 + j) := by
  unfold val_main_v12
  exact slice_up _ 4 0 _

theorem r_v13 : val_main_v13 (F := Ideal) (up2 6 1024 md)
    = up1 1024 fun i => md (4 + 0) (0 + i) := by
  unfold val_main_v13
  rw [r_v12 X M T md g1 b1 g2 b2 wi wo]
  exact cast_unrow_up _ _

theorem r_v14 : val_main_v14 (F := Ideal) (up2 8192 1024 X) (up2 8192 1024 M) (up2 6 1024 md)
    = up1 8192 fun i => ∑ k1 ∈ range 1024, (r1 (vec md g1 b1 g2 b2) (X i) (M i) k1) := by
  unfold val_main_v14 val_main_cst_0
  rw [r_v7 X M T md g1 b1 g2 b2 wi wo]
  exact host_sum_rows_up _ _ _ (by decide)

theorem r_v15 : val_main_v15 (F := Ideal) (up2 8192 1024 X) (up2 8192 1024 M) (up2 6 1024 md)
    = up2 8192 1 fun i _ => ∑ k1 ∈ range 1024, (r1 (vec md g1 b1 g2 b2) (X i) (M i) k1) := by
  unfold val_main_v15
  rw [r_v14 X M T md g1 b1 g2 b2 wi wo]
  exact host_col_up _ _

theorem r_v16 : val_main_v16 (F := Ideal)
    = up2 8192 1 fun _ _ => 1024 := by
  unfold val_main_v16 val_main_cst_1
  exact host_splat_up _ _ word_1024

theorem r_v17 : val_main_v17 (F := Ideal) (up2 8192 1024 X) (up2 8192 1024 M) (up2 6 1024 md)
    = up2 8192 1 fun i _ => mean (r1 (vec md g1 b1 g2 b2) (X i) (M i)) := by
  unfold val_main_v17
  rw [r_v15 X M T md g1 b1 g2 b2 wi wo, r_v16 X M T md g1 b1 g2 b2 wi wo]
  exact hostDivf_up _ _ fun i _ j _ => by norm_num

theorem r_v18 : val_main_v18 (F := Ideal) (up2 8192 1024 X) (up2 8192 1024 M) (up2 6 1024 md)
    = up2 8192 1024 fun i _ => mean (r1 (vec md g1 b1 g2 b2) (X i) (M i)) := by
  unfold val_main_v18
  rw [r_v17 X M T md g1 b1 g2 b2 wi wo]
  exact host_cols_up _ _

theorem r_v19 : val_main_v19 (F := Ideal) (up2 8192 1024 X) (up2 8192 1024 M) (up2 6 1024 md)
    = up2 8192 1024 fun i j => dev (r1 (vec md g1 b1 g2 b2) (X i) (M i)) j := by
  unfold val_main_v19
  rw [r_v7 X M T md g1 b1 g2 b2 wi wo, r_v18 X M T md g1 b1 g2 b2 wi wo]
  exact subf_up _ _

theorem r_v20 : val_main_v20 (F := Ideal) (up2 8192 1024 X) (up2 8192 1024 M) (up2 6 1024 md)
    = up2 8192 1024 fun i j => (dev (r1 (vec md g1 b1 g2 b2) (X i) (M i)) j) * (dev (r1 (vec md g1 b1 g2 b2) (X i) (M i)) j) := by
  unfold val_main_v20
  rw [r_v19 X M T md g1 b1 g2 b2 wi wo]
  exact mulf_up _ _

theorem r_v21 : val_main_v21 (F := Ideal)
    = up2 8192 1024 fun _ _ => 2 := by
  unfold val_main_v21 val_main_cst_2
  exact host_splat_up _ _ word_two

theorem r_v22 : val_main_v22 (F := Ideal) (up2 8192 1024 X) (up2 8192 1024 M) (up2 6 1024 md)
    = up2 8192 1024 fun i j => 2 * (dev (r1 (vec md g1 b1 g2 b2) (X i) (M i)) j) := by
  unfold val_main_v22
  rw [r_v21 X M T md g1 b1 g2 b2 wi wo, r_v19 X M T md g1 b1 g2 b2 wi wo]
  exact mulf_up _ _

theorem r_v23 : val_main_v23 (F := Ideal) (up2 8192 1024 X) (up2 8192 1024 M) (up2 6 1024 md)
    = up1 8192 fun i => ∑ k2 ∈ range 1024, ((dev (r1 (vec md g1 b1 g2 b2) (X i) (M i)) k2) * (dev (r1 (vec md g1 b1 g2 b2) (X i) (M i)) k2)) := by
  unfold val_main_v23 val_main_cst_3
  rw [r_v20 X M T md g1 b1 g2 b2 wi wo]
  exact host_sum_rows_up _ _ _ (by decide)

theorem r_v24 : val_main_v24 (F := Ideal) (up2 8192 1024 X) (up2 8192 1024 M) (up2 6 1024 md)
    = up2 8192 1 fun i _ => ∑ k2 ∈ range 1024, ((dev (r1 (vec md g1 b1 g2 b2) (X i) (M i)) k2) * (dev (r1 (vec md g1 b1 g2 b2) (X i) (M i)) k2)) := by
  unfold val_main_v24
  rw [r_v23 X M T md g1 b1 g2 b2 wi wo]
  exact host_col_up _ _

theorem r_v25 : val_main_v25 (F := Ideal)
    = up2 8192 1 fun _ _ => 1024 := by
  unfold val_main_v25 val_main_cst_4
  exact host_splat_up _ _ word_1024

theorem r_v26 : val_main_v26 (F := Ideal) (up2 8192 1024 X) (up2 8192 1024 M) (up2 6 1024 md)
    = up2 8192 1 fun i _ => (∑ k2 ∈ range 1024, ((dev (r1 (vec md g1 b1 g2 b2) (X i) (M i)) k2) * (dev (r1 (vec md g1 b1 g2 b2) (X i) (M i)) k2))) / 1024 := by
  unfold val_main_v26
  rw [r_v24 X M T md g1 b1 g2 b2 wi wo, r_v25 X M T md g1 b1 g2 b2 wi wo]
  exact hostDivf_up _ _ fun i _ j _ => by norm_num

theorem r_v27 : val_main_v27 (F := Ideal) (up2 8192 1024 X) (up2 8192 1024 M) (up2 6 1024 md)
    = up2 8192 1024 fun i _ => mean (r1 (vec md g1 b1 g2 b2) (X i) (M i)) := by
  unfold val_main_v27
  rw [r_v17 X M T md g1 b1 g2 b2 wi wo]
  exact host_cols_up _ _

theorem r_v28 : val_main_v28 (F := Ideal) (up2 8192 1024 X) (up2 8192 1024 M) (up2 6 1024 md)
    = up2 8192 1024 fun i j => dev (r1 (vec md g1 b1 g2 b2) (X i) (M i)) j := by
  unfold val_main_v28
  rw [r_v7 X M T md g1 b1 g2 b2 wi wo, r_v27 X M T md g1 b1 g2 b2 wi wo]
  exact subf_up _ _

theorem r_v29 : val_main_v29 (F := Ideal)
    = up2 8192 1 fun _ _ => eps := by
  unfold val_main_v29 val_main_cst_5
  exact host_splat_up _ _ word_eps

theorem r_v30 : val_main_v30 (F := Ideal) (up2 8192 1024 X) (up2 8192 1024 M) (up2 6 1024 md)
    = up2 8192 1 fun i _ => var (r1 (vec md g1 b1 g2 b2) (X i) (M i)) := by
  unfold val_main_v30
  rw [r_v26 X M T md g1 b1 g2 b2 wi wo, r_v29 X M T md g1 b1 g2 b2 wi wo]
  exact addf_up _ _

theorem r_v31 : val_main_v31 (F := Ideal) (up2 8192 1024 X) (up2 8192 1024 M) (up2 6 1024 md)
    = up2 8192 1 fun i _ => rstd (r1 (vec md g1 b1 g2 b2) (X i) (M i)) := by
  unfold val_main_v31
  rw [r_v30 X M T md g1 b1 g2 b2 wi wo]
  exact hostRsqrt_up _ fun i _ j _ => var_pos _

theorem r_v32 : val_main_v32 (F := Ideal) (up2 8192 1024 X) (up2 8192 1024 M) (up2 6 1024 md)
    = up2 8192 1 fun i _ => (rstd (r1 (vec md g1 b1 g2 b2) (X i) (M i))) / (var (r1 (vec md g1 b1 g2 b2) (X i) (M i))) := by
  unfold val_main_v32
  rw [r_v31 X M T md g1 b1 g2 b2 wi wo, r_v30 X M T md g1 b1 g2 b2 wi wo]
  exact hostDivf_up _ _ fun i _ j _ => (var_pos _).ne'

theorem r_v33 : val_main_v33 (F := Ideal)
    = up2 8192 1 fun _ _ => -(1 / 2) := by
  unfold val_main_v33 val_main_cst_6
  exact host_splat_up _ _ word_neg_half

theorem r_v34 : val_main_v34 (F := Ideal) (up2 8192 1024 X) (up2 8192 1024 M) (up2 6 1024 md)
    = up2 8192 1 fun i _ => (-(1 / 2)) * ((rstd (r1 (vec md g1 b1 g2 b2) (X i) (M i))) / (var (r1 (vec md g1 b1 g2 b2) (X i) (M i)))) := by
  unfold val_main_v34
  rw [r_v33 X M T md g1 b1 g2 b2 wi wo, r_v32 X M T md g1 b1 g2 b2 wi wo]
  exact mulf_up _ _

theorem r_v35 : val_main_v35 (F := Ideal) (up2 8192 1024 X) (up2 8192 1024 M) (up2 6 1024 md)
    = up2 8192 1024 fun i _ => rstd (r1 (vec md g1 b1 g2 b2) (X i) (M i)) := by
  unfold val_main_v35
  rw [r_v31 X M T md g1 b1 g2 b2 wi wo]
  exact host_cols_up _ _

theorem r_v36 : val_main_v36 (F := Ideal) (up2 8192 1024 X) (up2 8192 1024 M) (up2 6 1024 md)
    = up2 8192 1024 fun i j => nrm (r1 (vec md g1 b1 g2 b2) (X i) (M i)) j := by
  unfold val_main_v36
  rw [r_v28 X M T md g1 b1 g2 b2 wi wo, r_v35 X M T md g1 b1 g2 b2 wi wo]
  exact mulf_up _ _

theorem r_v37 : val_main_v37 (F := Ideal) (up2 1 1024 g1)
    = up2 1 1024 fun _ j => (vec md g1 b1 g2 b2) 1 j := by
  unfold val_main_v37
  rw [r_v8 X M T md g1 b1 g2 b2 wi wo]
  exact host_row_up _ _

theorem r_v38 : val_main_v38 (F := Ideal) (up2 1 1024 g1)
    = up2 8192 1024 fun _ j => (vec md g1 b1 g2 b2) 1 j := by
  unfold val_main_v38
  rw [r_v37 X M T md g1 b1 g2 b2 wi wo]
  exact host_rows_up _ _

theorem r_v39 : val_main_v39 (F := Ideal) (up2 8192 1024 X) (up2 8192 1024 M) (up2 6 1024 md) (up2 1 1024 g1)
    = up2 8192 1024 fun i j => (nrm (r1 (vec md g1 b1 g2 b2) (X i) (M i)) j) * ((vec md g1 b1 g2 b2) 1 j) := by
  unfold val_main_v39
  rw [r_v36 X M T md g1 b1 g2 b2 wi wo, r_v38 X M T md g1 b1 g2 b2 wi wo]
  exact mulf_up _ _

theorem r_v40 : val_main_v40 (F := Ideal) (up2 1 1024 b1)
    = up2 1 1024 fun _ j => (vec md g1 b1 g2 b2) 2 j := by
  unfold val_main_v40
  rw [r_v9 X M T md g1 b1 g2 b2 wi wo]
  exact host_row_up _ _

theorem r_v41 : val_main_v41 (F := Ideal) (up2 1 1024 b1)
    = up2 8192 1024 fun _ j => (vec md g1 b1 g2 b2) 2 j := by
  unfold val_main_v41
  rw [r_v40 X M T md g1 b1 g2 b2 wi wo]
  exact host_rows_up _ _

theorem r_v42 : val_main_v42 (F := Ideal) (up2 8192 1024 X) (up2 8192 1024 M) (up2 6 1024 md) (up2 1 1024 g1) (up2 1 1024 b1)
    = up2 8192 1024 fun i j => xmid (vec md g1 b1 g2 b2) (X i) (M i) j := by
  unfold val_main_v42
  rw [r_v39 X M T md g1 b1 g2 b2 wi wo, r_v41 X M T md g1 b1 g2 b2 wi wo]
  exact addf_up _ _

theorem r_v43 : val_main_v43 (F := Ideal) (up2 8192 1024 X) (up2 8192 1024 M) (up2 6 1024 md) (up2 1 1024 g1) (up2 1 1024 b1)
    = up1 8192 fun i => ∑ k3 ∈ range 1024, (xmid (vec md g1 b1 g2 b2) (X i) (M i) k3) := by
  unfold val_main_v43 val_main_cst_7
  rw [r_v42 X M T md g1 b1 g2 b2 wi wo]
  exact host_sum_rows_up _ _ _ (by decide)

theorem r_v44 : val_main_v44 (F := Ideal) (up2 8192 1024 X) (up2 8192 1024 M) (up2 6 1024 md) (up2 1 1024 g1) (up2 1 1024 b1)
    = up2 8192 1 fun i _ => ∑ k3 ∈ range 1024, (xmid (vec md g1 b1 g2 b2) (X i) (M i) k3) := by
  unfold val_main_v44
  rw [r_v43 X M T md g1 b1 g2 b2 wi wo]
  exact host_col_up _ _

theorem r_v45 : val_main_v45 (F := Ideal)
    = up2 8192 1 fun _ _ => 1024 := by
  unfold val_main_v45 val_main_cst_8
  exact host_splat_up _ _ word_1024

theorem r_v46 : val_main_v46 (F := Ideal) (up2 8192 1024 X) (up2 8192 1024 M) (up2 6 1024 md) (up2 1 1024 g1) (up2 1 1024 b1)
    = up2 8192 1 fun i _ => mean (xmid (vec md g1 b1 g2 b2) (X i) (M i)) := by
  unfold val_main_v46
  rw [r_v44 X M T md g1 b1 g2 b2 wi wo, r_v45 X M T md g1 b1 g2 b2 wi wo]
  exact hostDivf_up _ _ fun i _ j _ => by norm_num

theorem r_v47 : val_main_v47 (F := Ideal) (up2 8192 1024 X) (up2 8192 1024 M) (up2 6 1024 md) (up2 1 1024 g1) (up2 1 1024 b1)
    = up2 8192 1024 fun i _ => mean (xmid (vec md g1 b1 g2 b2) (X i) (M i)) := by
  unfold val_main_v47
  rw [r_v46 X M T md g1 b1 g2 b2 wi wo]
  exact host_cols_up _ _

theorem r_v48 : val_main_v48 (F := Ideal) (up2 8192 1024 X) (up2 8192 1024 M) (up2 6 1024 md) (up2 1 1024 g1) (up2 1 1024 b1)
    = up2 8192 1024 fun i j => dev (xmid (vec md g1 b1 g2 b2) (X i) (M i)) j := by
  unfold val_main_v48
  rw [r_v42 X M T md g1 b1 g2 b2 wi wo, r_v47 X M T md g1 b1 g2 b2 wi wo]
  exact subf_up _ _

theorem r_v49 : val_main_v49 (F := Ideal) (up2 8192 1024 X) (up2 8192 1024 M) (up2 6 1024 md) (up2 1 1024 g1) (up2 1 1024 b1)
    = up2 8192 1024 fun i j => (dev (xmid (vec md g1 b1 g2 b2) (X i) (M i)) j) * (dev (xmid (vec md g1 b1 g2 b2) (X i) (M i)) j) := by
  unfold val_main_v49
  rw [r_v48 X M T md g1 b1 g2 b2 wi wo]
  exact mulf_up _ _

theorem r_v50 : val_main_v50 (F := Ideal)
    = up2 8192 1024 fun _ _ => 2 := by
  unfold val_main_v50 val_main_cst_9
  exact host_splat_up _ _ word_two

theorem r_v51 : val_main_v51 (F := Ideal) (up2 8192 1024 X) (up2 8192 1024 M) (up2 6 1024 md) (up2 1 1024 g1) (up2 1 1024 b1)
    = up2 8192 1024 fun i j => 2 * (dev (xmid (vec md g1 b1 g2 b2) (X i) (M i)) j) := by
  unfold val_main_v51
  rw [r_v50 X M T md g1 b1 g2 b2 wi wo, r_v48 X M T md g1 b1 g2 b2 wi wo]
  exact mulf_up _ _

theorem r_v52 : val_main_v52 (F := Ideal) (up2 8192 1024 X) (up2 8192 1024 M) (up2 6 1024 md) (up2 1 1024 g1) (up2 1 1024 b1)
    = up1 8192 fun i => ∑ k4 ∈ range 1024, ((dev (xmid (vec md g1 b1 g2 b2) (X i) (M i)) k4) * (dev (xmid (vec md g1 b1 g2 b2) (X i) (M i)) k4)) := by
  unfold val_main_v52 val_main_cst_10
  rw [r_v49 X M T md g1 b1 g2 b2 wi wo]
  exact host_sum_rows_up _ _ _ (by decide)

theorem r_v53 : val_main_v53 (F := Ideal) (up2 8192 1024 X) (up2 8192 1024 M) (up2 6 1024 md) (up2 1 1024 g1) (up2 1 1024 b1)
    = up2 8192 1 fun i _ => ∑ k4 ∈ range 1024, ((dev (xmid (vec md g1 b1 g2 b2) (X i) (M i)) k4) * (dev (xmid (vec md g1 b1 g2 b2) (X i) (M i)) k4)) := by
  unfold val_main_v53
  rw [r_v52 X M T md g1 b1 g2 b2 wi wo]
  exact host_col_up _ _

theorem r_v54 : val_main_v54 (F := Ideal)
    = up2 8192 1 fun _ _ => 1024 := by
  unfold val_main_v54 val_main_cst_11
  exact host_splat_up _ _ word_1024

theorem r_v55 : val_main_v55 (F := Ideal) (up2 8192 1024 X) (up2 8192 1024 M) (up2 6 1024 md) (up2 1 1024 g1) (up2 1 1024 b1)
    = up2 8192 1 fun i _ => (∑ k4 ∈ range 1024, ((dev (xmid (vec md g1 b1 g2 b2) (X i) (M i)) k4) * (dev (xmid (vec md g1 b1 g2 b2) (X i) (M i)) k4))) / 1024 := by
  unfold val_main_v55
  rw [r_v53 X M T md g1 b1 g2 b2 wi wo, r_v54 X M T md g1 b1 g2 b2 wi wo]
  exact hostDivf_up _ _ fun i _ j _ => by norm_num

theorem r_v56 : val_main_v56 (F := Ideal) (up2 8192 1024 X) (up2 8192 1024 M) (up2 6 1024 md) (up2 1 1024 g1) (up2 1 1024 b1)
    = up2 8192 1024 fun i _ => mean (xmid (vec md g1 b1 g2 b2) (X i) (M i)) := by
  unfold val_main_v56
  rw [r_v46 X M T md g1 b1 g2 b2 wi wo]
  exact host_cols_up _ _

theorem r_v57 : val_main_v57 (F := Ideal) (up2 8192 1024 X) (up2 8192 1024 M) (up2 6 1024 md) (up2 1 1024 g1) (up2 1 1024 b1)
    = up2 8192 1024 fun i j => dev (xmid (vec md g1 b1 g2 b2) (X i) (M i)) j := by
  unfold val_main_v57
  rw [r_v42 X M T md g1 b1 g2 b2 wi wo, r_v56 X M T md g1 b1 g2 b2 wi wo]
  exact subf_up _ _

theorem r_v58 : val_main_v58 (F := Ideal)
    = up2 8192 1 fun _ _ => eps := by
  unfold val_main_v58 val_main_cst_12
  exact host_splat_up _ _ word_eps

theorem r_v59 : val_main_v59 (F := Ideal) (up2 8192 1024 X) (up2 8192 1024 M) (up2 6 1024 md) (up2 1 1024 g1) (up2 1 1024 b1)
    = up2 8192 1 fun i _ => var (xmid (vec md g1 b1 g2 b2) (X i) (M i)) := by
  unfold val_main_v59
  rw [r_v55 X M T md g1 b1 g2 b2 wi wo, r_v58 X M T md g1 b1 g2 b2 wi wo]
  exact addf_up _ _

theorem r_v60 : val_main_v60 (F := Ideal) (up2 8192 1024 X) (up2 8192 1024 M) (up2 6 1024 md) (up2 1 1024 g1) (up2 1 1024 b1)
    = up2 8192 1 fun i _ => rstd (xmid (vec md g1 b1 g2 b2) (X i) (M i)) := by
  unfold val_main_v60
  rw [r_v59 X M T md g1 b1 g2 b2 wi wo]
  exact hostRsqrt_up _ fun i _ j _ => var_pos _

theorem r_v61 : val_main_v61 (F := Ideal) (up2 8192 1024 X) (up2 8192 1024 M) (up2 6 1024 md) (up2 1 1024 g1) (up2 1 1024 b1)
    = up2 8192 1 fun i _ => (rstd (xmid (vec md g1 b1 g2 b2) (X i) (M i))) / (var (xmid (vec md g1 b1 g2 b2) (X i) (M i))) := by
  unfold val_main_v61
  rw [r_v60 X M T md g1 b1 g2 b2 wi wo, r_v59 X M T md g1 b1 g2 b2 wi wo]
  exact hostDivf_up _ _ fun i _ j _ => (var_pos _).ne'

theorem r_v62 : val_main_v62 (F := Ideal)
    = up2 8192 1 fun _ _ => -(1 / 2) := by
  unfold val_main_v62 val_main_cst_13
  exact host_splat_up _ _ word_neg_half

theorem r_v63 : val_main_v63 (F := Ideal) (up2 8192 1024 X) (up2 8192 1024 M) (up2 6 1024 md) (up2 1 1024 g1) (up2 1 1024 b1)
    = up2 8192 1 fun i _ => (-(1 / 2)) * ((rstd (xmid (vec md g1 b1 g2 b2) (X i) (M i))) / (var (xmid (vec md g1 b1 g2 b2) (X i) (M i)))) := by
  unfold val_main_v63
  rw [r_v62 X M T md g1 b1 g2 b2 wi wo, r_v61 X M T md g1 b1 g2 b2 wi wo]
  exact mulf_up _ _

theorem r_v64 : val_main_v64 (F := Ideal) (up2 8192 1024 X) (up2 8192 1024 M) (up2 6 1024 md) (up2 1 1024 g1) (up2 1 1024 b1)
    = up2 8192 1024 fun i _ => rstd (xmid (vec md g1 b1 g2 b2) (X i) (M i)) := by
  unfold val_main_v64
  rw [r_v60 X M T md g1 b1 g2 b2 wi wo]
  exact host_cols_up _ _

theorem r_v65 : val_main_v65 (F := Ideal) (up2 8192 1024 X) (up2 8192 1024 M) (up2 6 1024 md) (up2 1 1024 g1) (up2 1 1024 b1)
    = up2 8192 1024 fun i j => nrm (xmid (vec md g1 b1 g2 b2) (X i) (M i)) j := by
  unfold val_main_v65
  rw [r_v57 X M T md g1 b1 g2 b2 wi wo, r_v64 X M T md g1 b1 g2 b2 wi wo]
  exact mulf_up _ _

theorem r_v66 : val_main_v66 (F := Ideal) (up2 6 1024 md)
    = up2 1 1024 fun _ j => (vec md g1 b1 g2 b2) 4 j := by
  unfold val_main_v66
  rw [r_v13 X M T md g1 b1 g2 b2 wi wo]
  exact (host_row_up _ _).trans (up2_congr fun i _ j _ => by rw [Nat.zero_add]; rfl)

theorem r_v67 : val_main_v67 (F := Ideal)
    = up2 1 1024 fun _ _ => 1 := by
  unfold val_main_v67 val_main_cst_14
  exact host_splat_up _ _ word_one

theorem r_v68 : val_main_v68 (F := Ideal) (up2 6 1024 md)
    = up2 1 1024 fun _ j => 1 + ((vec md g1 b1 g2 b2) 4 j) := by
  unfold val_main_v68
  rw [r_v67 X M T md g1 b1 g2 b2 wi wo, r_v66 X M T md g1 b1 g2 b2 wi wo]
  exact addf_up _ _

theorem r_v69 : val_main_v69 (F := Ideal) (up2 6 1024 md)
    = up2 8192 1024 fun _ j => 1 + ((vec md g1 b1 g2 b2) 4 j) := by
  unfold val_main_v69
  rw [r_v68 X M T md g1 b1 g2 b2 wi wo]
  exact host_rows_up _ _

theorem r_v70 : val_main_v70 (F := Ideal) (up2 8192 1024 X) (up2 8192 1024 M) (up2 6 1024 md) (up2 1 1024 g1) (up2 1 1024 b1)
    = up2 8192 1024 fun i j => (nrm (xmid (vec md g1 b1 g2 b2) (X i) (M i)) j) * (1 + ((vec md g1 b1 g2 b2) 4 j)) := by
  unfold val_main_v70
  rw [r_v65 X M T md g1 b1 g2 b2 wi wo, r_v69 X M T md g1 b1 g2 b2 wi wo]
  exact mulf_up _ _

theorem r_v71 : val_main_v71 (F := Ideal) (up2 6 1024 md)
    = up2 1 1024 fun _ j => (vec md g1 b1 g2 b2) 3 j := by
  unfold val_main_v71
  rw [r_v11 X M T md g1 b1 g2 b2 wi wo]
  exact (host_row_up _ _).trans (up2_congr fun i _ j _ => by rw [Nat.zero_add]; rfl)

theorem r_v72 : val_main_v72 (F := Ideal) (up2 6 1024 md)
    = up2 8192 1024 fun _ j => (vec md g1 b1 g2 b2) 3 j := by
  unfold val_main_v72
  rw [r_v71 X M T md g1 b1 g2 b2 wi wo]
  exact host_rows_up _ _

theorem r_v73 : val_main_v73 (F := Ideal) (up2 8192 1024 X) (up2 8192 1024 M) (up2 6 1024 md) (up2 1 1024 g1) (up2 1 1024 b1)
    = up2 8192 1024 fun i j => h2 (vec md g1 b1 g2 b2) (X i) (M i) j := by
  unfold val_main_v73
  rw [r_v70 X M T md g1 b1 g2 b2 wi wo, r_v72 X M T md g1 b1 g2 b2 wi wo]
  exact addf_up _ _

theorem r_v74 : val_main_v74 (F := Ideal) (up2 8192 1024 X) (up2 8192 1024 M) (up2 6 1024 md) (up2 1 1024 g1) (up2 1 1024 b1) (up2 1024 5632 wi)
    = up2 8192 5632 fun i j => gu (vec md g1 b1 g2 b2) wi (X i) (M i) j := by
  unfold val_main_v74
  rw [r_v73 X M T md g1 b1 g2 b2 wi wo]
  exact dotGeneral_up _ _ _ _

theorem r_v75 : val_main_v75 (F := Ideal) (up2 8192 1024 X) (up2 8192 1024 M) (up2 6 1024 md) (up2 1 1024 g1) (up2 1 1024 b1) (up2 1024 5632 wi)
    = up2 8192 2816 fun i j => gu (vec md g1 b1 g2 b2) wi (X i) (M i) j := by
  unfold val_main_v75
  rw [r_v74 X M T md g1 b1 g2 b2 wi wo]
  exact (slice_up _ 0 0 _).trans (up2_congr fun i _ j _ => by rw [Nat.zero_add, Nat.zero_add])

theorem r_v76 : val_main_v76 (F := Ideal) (up2 8192 1024 X) (up2 8192 1024 M) (up2 6 1024 md) (up2 1 1024 g1) (up2 1 1024 b1) (up2 1024 5632 wi)
    = up2 8192 2816 fun i j => gu (vec md g1 b1 g2 b2) wi (X i) (M i) (2816 + j) := by
  unfold val_main_v76
  rw [r_v74 X M T md g1 b1 g2 b2 wi wo]
  exact (slice_up _ 0 2816 _).trans (up2_congr fun i _ j _ => by rw [Nat.zero_add])

theorem r_call0_v0 : val_main_call0_v0 (F := Ideal) (up2 8192 1024 X) (up2 8192 1024 M) (up2 6 1024 md) (up2 1 1024 g1) (up2 1 1024 b1) (up2 1024 5632 wi)
    = up2 8192 2816 fun i j => -(gu (vec md g1 b1 g2 b2) wi (X i) (M i) j) := by
  unfold val_main_call0_v0
  rw [r_v75 X M T md g1 b1 g2 b2 wi wo]
  exact negf_up _

theorem r_call0_v1 : val_main_call0_v1 (F := Ideal) (up2 8192 1024 X) (up2 8192 1024 M) (up2 6 1024 md) (up2 1 1024 g1) (up2 1 1024 b1) (up2 1024 5632 wi)
    = up2 8192 2816 fun i j => Real.exp (-(gu (vec md g1 b1 g2 b2) wi (X i) (M i) j)) := by
  unfold val_main_call0_v1
  rw [r_call0_v0 X M T md g1 b1 g2 b2 wi wo]
  exact exp_up _

theorem r_call0_v2 : val_main_call0_v2 (F := Ideal)
    = up2 8192 2816 fun _ _ => 1 := by
  unfold val_main_call0_v2 val_main_call0_cst
  exact host_splat_up _ _ word_one

theorem r_call0_v3 : val_main_call0_v3 (F := Ideal) (up2 8192 1024 X) (up2 8192 1024 M) (up2 6 1024 md) (up2 1 1024 g1) (up2 1 1024 b1) (up2 1024 5632 wi)
    = up2 8192 2816 fun i j => 1 + (Real.exp (-(gu (vec md g1 b1 g2 b2) wi (X i) (M i) j))) := by
  unfold val_main_call0_v3
  rw [r_call0_v2 X M T md g1 b1 g2 b2 wi wo, r_call0_v1 X M T md g1 b1 g2 b2 wi wo]
  exact addf_up _ _

theorem r_call0_v4 : val_main_call0_v4 (F := Ideal)
    = up2 8192 2816 fun _ _ => 1 := by
  unfold val_main_call0_v4 val_main_call0_cst_0
  exact host_splat_up _ _ word_one

theorem r_v77_2 : val_main_v77_2 (F := Ideal) (up2 8192 1024 X) (up2 8192 1024 M) (up2 6 1024 md) (up2 1 1024 g1) (up2 1 1024 b1) (up2 1024 5632 wi)
    = up2 8192 2816 fun i j => sig (gu (vec md g1 b1 g2 b2) wi (X i) (M i) j) := by
  unfold val_main_v77_2
  rw [r_call0_v4 X M T md g1 b1 g2 b2 wi wo, r_call0_v3 X M T md g1 b1 g2 b2 wi wo]
  exact (hostDivf_up _ _ fun i _ j _ => by positivity).trans (up2_congr fun i _ j _ => sig_eq _)

theorem r_call0_v6 : val_main_call0_v6 (F := Ideal)
    = up2 8192 2816 fun _ _ => 1 := by
  unfold val_main_call0_v6 val_main_call0_cst_1
  exact host_splat_up _ _ word_one

theorem r_call0_v7 : val_main_call0_v7 (F := Ideal) (up2 8192 1024 X) (up2 8192 1024 M) (up2 6 1024 md) (up2 1 1024 g1) (up2 1 1024 b1) (up2 1024 5632 wi)
    = up2 8192 2816 fun i j => 1 - (sig (gu (vec md g1 b1 g2 b2) wi (X i) (M i) j)) := by
  unfold val_main_call0_v7
  rw [r_call0_v6 X M T md g1 b1 g2 b2 wi wo, r_v77_2 X M T md g1 b1 g2 b2 wi wo]
  exact subf_up _ _

theorem r_v77_1 : val_main_v77_1 (F := Ideal) (up2 8192 1024 X) (up2 8192 1024 M) (up2 6 1024 md) (up2 1 1024 g1) (up2 1 1024 b1) (up2 1024 5632 wi)
    = up2 8192 2816 fun i j => (sig (gu (vec md g1 b1 g2 b2) wi (X i) (M i) j)) * (1 - (sig (gu (vec md g1 b1 g2 b2) wi (X i) (M i) j))) := by
  unfold val_main_v77_1
  rw [r_v77_2 X M T md g1 b1 g2 b2 wi wo, r_call0_v7 X M T md g1 b1 g2 b2 wi wo]
  exact mulf_up _ _

theorem r_v77_0 : val_main_v77_0 (F := Ideal) (up2 8192 1024 X) (up2 8192 1024 M) (up2 6 1024 md) (up2 1 1024 g1) (up2 1 1024 b1) (up2 1024 5632 wi)
    = up2 8192 2816 fun i j => (gu (vec md g1 b1 g2 b2) wi (X i) (M i) j) * (sig (gu (vec md g1 b1 g2 b2) wi (X i) (M i) j)) := by
  unfold val_main_v77_0
  rw [r_v75 X M T md g1 b1 g2 b2 wi wo, r_v77_2 X M T md g1 b1 g2 b2 wi wo]
  exact mulf_up _ _

theorem r_v78 : val_main_v78 (F := Ideal) (up2 8192 1024 X) (up2 8192 1024 M) (up2 6 1024 md) (up2 1 1024 g1) (up2 1 1024 b1) (up2 1024 5632 wi)
    = up2 8192 2816 fun i j => act (vec md g1 b1 g2 b2) wi (X i) (M i) j := by
  unfold val_main_v78
  rw [r_v77_0 X M T md g1 b1 g2 b2 wi wo, r_v76 X M T md g1 b1 g2 b2 wi wo]
  exact mulf_up _ _

theorem r_v79 : val_main_v79 (F := Ideal) (up2 8192 1024 X) (up2 8192 1024 M) (up2 6 1024 md) (up2 1 1024 g1) (up2 1 1024 b1) (up2 1024 5632 wi) (up2 2816 1024 wo)
    = up2 8192 1024 fun i j => ff (vec md g1 b1 g2 b2) wi wo (X i) (M i) j := by
  unfold val_main_v79
  rw [r_v78 X M T md g1 b1 g2 b2 wi wo]
  exact dotGeneral_up _ _ _ _

end Cert.Ref

end
-- ==== Proof.Ref2.lean ====
/-
  The reference, one operation at a time, as real numbers: the loss and the gradients down to both projections.
-/
module

public import proofs.«01_k».proof.Proof.Gen.ReferenceIdeal.Read
public import proofs.«01_k».proof.Proof.Ref1

@[expose] public section

set_option maxRecDepth 16384

noncomputable section

namespace Cert.Ref

open Idealize.ShloMosaic Cert.ReferenceIdeal Cert.ReferenceIdeal.Gen Cert.ReferenceIdeal.Read Cert.Lift Cert.Spec Finset
open Cert.Arrays (vec stack_rows)
open scoped BigOperators

variable (X M T md g1 b1 g2 b2 wi wo : ℕ → ℕ → ℝ)

include X M T md g1 b1 g2 b2 wi wo

theorem r_v80 : val_main_v80 (F := Ideal) (up2 6 1024 md)
    = up2 1 1024 fun i j => md (5 + i) (0 + j) := by
  unfold val_main_v80
  exact slice_up _ 5 0 _

theorem r_v81 : val_main_v81 (F := Ideal) (up2 6 1024 md)
    = up1 1024 fun i => md (5 + 0) (0 + i) := by
  unfold val_main_v81
  rw [r_v80 X M T md g1 b1 g2 b2 wi wo]
  exact cast_unrow_up _ _

theorem r_v82 : val_main_v82 (F := Ideal) (up2 1 1024 g2)
    = up1 1024 fun i => g2 0 i := by
  unfold val_main_v82
  exact cast_unrow_up _ _

theorem r_v83 : val_main_v83 (F := Ideal) (up2 1 1024 b2)
    = up1 1024 fun i => b2 0 i := by
  unfold val_main_v83
  exact cast_unrow_up _ _

theorem r_v84 : val_main_v84 (F := Ideal)
    = up2 8192 1024 fun _ _ => alpha := by
  unfold val_main_v84 val_main_cst_15
  exact host_splat_up _ _ word_alpha

theorem r_v85 : val_main_v85 (F := Ideal) (up2 8192 1024 X) (up2 8192 1024 M) (up2 6 1024 md) (up2 1 1024 g1) (up2 1 1024 b1)
    = up2 8192 1024 fun i j => alpha * (xmid (vec md g1 b1 g2 b2) (X i) (M i) j) := by
  unfold val_main_v85
  rw [r_v84 X M T md g1 b1 g2 b2 wi wo, r_v42 X M T md g1 b1 g2 b2 wi wo]
  exact mulf_up _ _

theorem r_v86 : val_main_v86 (F := Ideal) (up2 6 1024 md)
    = up2 1 1024 fun _ j => (vec md g1 b1 g2 b2) 5 j := by
  unfold val_main_v86
  rw [r_v81 X M T md g1 b1 g2 b2 wi wo]
  exact (host_row_up _ _).trans (up2_congr fun i _ j _ => by rw [Nat.zero_add]; rfl)

theorem r_v87 : val_main_v87 (F := Ideal) (up2 6 1024 md)
    = up2 8192 1024 fun _ j => (vec md g1 b1 g2 b2) 5 j := by
  unfold val_main_v87
  rw [r_v86 X M T md g1 b1 g2 b2 wi wo]
  exact host_rows_up _ _

theorem r_v88 : val_main_v88 (F := Ideal) (up2 8192 1024 X) (up2 8192 1024 M) (up2 6 1024 md) (up2 1 1024 g1) (up2 1 1024 b1) (up2 1024 5632 wi) (up2 2816 1024 wo)
    = up2 8192 1024 fun i j => ((vec md g1 b1 g2 b2) 5 j) * (ff (vec md g1 b1 g2 b2) wi wo (X i) (M i) j) := by
  unfold val_main_v88
  rw [r_v87 X M T md g1 b1 g2 b2 wi wo, r_v79 X M T md g1 b1 g2 b2 wi wo]
  exact mulf_up _ _

theorem r_v89 : val_main_v89 (F := Ideal) (up2 8192 1024 X) (up2 8192 1024 M) (up2 6 1024 md) (up2 1 1024 g1) (up2 1 1024 b1) (up2 1024 5632 wi) (up2 2816 1024 wo)
    = up2 8192 1024 fun i j => r2 (vec md g1 b1 g2 b2) wi wo (X i) (M i) j := by
  unfold val_main_v89
  rw [r_v85 X M T md g1 b1 g2 b2 wi wo, r_v88 X M T md g1 b1 g2 b2 wi wo]
  exact addf_up _ _

theorem r_v90 : val_main_v90 (F := Ideal) (up2 8192 1024 X) (up2 8192 1024 M) (up2 6 1024 md) (up2 1 1024 g1) (up2 1 1024 b1) (up2 1024 5632 wi) (up2 2816 1024 wo)
    = up1 8192 fun i => ∑ k7 ∈ range 1024, (r2 (vec md g1 b1 g2 b2) wi wo (X i) (M i) k7) := by
  unfold val_main_v90 val_main_cst_16
  rw [r_v89 X M T md g1 b1 g2 b2 wi wo]
  exact host_sum_rows_up _ _ _ (by decide)

theorem r_v91 : val_main_v91 (F := Ideal) (up2 8192 1024 X) (up2 8192 1024 M) (up2 6 1024 md) (up2 1 1024 g1) (up2 1 1024 b1) (up2 1024 5632 wi) (up2 2816 1024 wo)
    = up2 8192 1 fun i _ => ∑ k7 ∈ range 1024, (r2 (vec md g1 b1 g2 b2) wi wo (X i) (M i) k7) := by
  unfold val_main_v91
  rw [r_v90 X M T md g1 b1 g2 b2 wi wo]
  exact host_col_up _ _

theorem r_v92 : val_main_v92 (F := Ideal)
    = up2 8192 1 fun _ _ => 1024 := by
  unfold val_main_v92 val_main_cst_17
  exact host_splat_up _ _ word_1024

theorem r_v93 : val_main_v93 (F := Ideal) (up2 8192 1024 X) (up2 8192 1024 M) (up2 6 1024 md) (up2 1 1024 g1) (up2 1 1024 b1) (up2 1024 5632 wi) (up2 2816 1024 wo)
    = up2 8192 1 fun i _ => mean (r2 (vec md g1 b1 g2 b2) wi wo (X i) (M i)) := by
  unfold val_main_v93
  rw [r_v91 X M T md g1 b1 g2 b2 wi wo, r_v92 X M T md g1 b1 g2 b2 wi wo]
  exact hostDivf_up _ _ fun i _ j _ => by norm_num

theorem r_v94 : val_main_v94 (F := Ideal) (up2 8192 1024 X) (up2 8192 1024 M) (up2 6 1024 md) (up2 1 1024 g1) (up2 1 1024 b1) (up2 1024 5632 wi) (up2 2816 1024 wo)
    = up2 8192 1024 fun i _ => mean (r2 (vec md g1 b1 g2 b2) wi wo (X i) (M i)) := by
  unfold val_main_v94
  rw [r_v93 X M T md g1 b1 g2 b2 wi wo]
  exact host_cols_up _ _

theorem r_v95 : val_main_v95 (F := Ideal) (up2 8192 1024 X) (up2 8192 1024 M) (up2 6 1024 md) (up2 1 1024 g1) (up2 1 1024 b1) (up2 1024 5632 wi) (up2 2816 1024 wo)
    = up2 8192 1024 fun i j => dev (r2 (vec md g1 b1 g2 b2) wi wo (X i) (M i)) j := by
  unfold val_main_v95
  rw [r_v89 X M T md g1 b1 g2 b2 wi wo, r_v94 X M T md g1 b1 g2 b2 wi wo]
  exact subf_up _ _

theorem r_v96 : val_main_v96 (F := Ideal) (up2 8192 1024 X) (up2 8192 1024 M) (up2 6 1024 md) (up2 1 1024 g1) (up2 1 1024 b1) (up2 1024 5632 wi) (up2 2816 1024 wo)
    = up2 8192 1024 fun i j => (dev (r2 (vec md g1 b1 g2 b2) wi wo (X i) (M i)) j) * (dev (r2 (vec md g1 b1 g2 b2) wi wo (X i) (M i)) j) := by
  unfold val_main_v96
  rw [r_v95 X M T md g1 b1 g2 b2 wi wo]
  exact mulf_up _ _

theorem r_v97 : val_main_v97 (F := Ideal)
    = up2 8192 1024 fun _ _ => 2 := by
  unfold val_main_v97 val_main_cst_18
  exact host_splat_up _ _ word_two

theorem r_v98 : val_main_v98 (F := Ideal) (up2 8192 1024 X) (up2 8192 1024 M) (up2 6 1024 md) (up2 1 1024 g1) (up2 1 1024 b1) (up2 1024 5632 wi) (up2 2816 1024 wo)
    = up2 8192 1024 fun i j => 2 * (dev (r2 (vec md g1 b1 g2 b2) wi wo (X i) (M i)) j) := by
  unfold val_main_v98
  rw [r_v97 X M T md g1 b1 g2 b2 wi wo, r_v95 X M T md g1 b1 g2 b2 wi wo]
  exact mulf_up _ _

theorem r_v99 : val_main_v99 (F := Ideal) (up2 8192 1024 X) (up2 8192 1024 M) (up2 6 1024 md) (up2 1 1024 g1) (up2 1 1024 b1) (up2 1024 5632 wi) (up2 2816 1024 wo)
    = up1 8192 fun i => ∑ k8 ∈ range 1024, ((dev (r2 (vec md g1 b1 g2 b2) wi wo (X i) (M i)) k8) * (dev (r2 (vec md g1 b1 g2 b2) wi wo (X i) (M i)) k8)) := by
  unfold val_main_v99 val_main_cst_19
  rw [r_v96 X M T md g1 b1 g2 b2 wi wo]
  exact host_sum_rows_up _ _ _ (by decide)

theorem r_v100 : val_main_v100 (F := Ideal) (up2 8192 1024 X) (up2 8192 1024 M) (up2 6 1024 md) (up2 1 1024 g1) (up2 1 1024 b1) (up2 1024 5632 wi) (up2 2816 1024 wo)
    = up2 8192 1 fun i _ => ∑ k8 ∈ range 1024, ((dev (r2 (vec md g1 b1 g2 b2) wi wo (X i) (M i)) k8) * (dev (r2 (vec md g1 b1 g2 b2) wi wo (X i) (M i)) k8)) := by
  unfold val_main_v100
  rw [r_v99 X M T md g1 b1 g2 b2 wi wo]
  exact host_col_up _ _

theorem r_v101 : val_main_v101 (F := Ideal)
    = up2 8192 1 fun _ _ => 1024 := by
  unfold val_main_v101 val_main_cst_20
  exact host_splat_up _ _ word_1024

theorem r_v102 : val_main_v102 (F := Ideal) (up2 8192 1024 X) (up2 8192 1024 M) (up2 6 1024 md) (up2 1 1024 g1) (up2 1 1024 b1) (up2 1024 5632 wi) (up2 2816 1024 wo)
    = up2 8192 1 fun i _ => (∑ k8 ∈ range 1024, ((dev (r2 (vec md g1 b1 g2 b2) wi wo (X i) (M i)) k8) * (dev (r2 (vec md g1 b1 g2 b2) wi wo (X i) (M i)) k8))) / 1024 := by
  unfold val_main_v102
  rw [r_v100 X M T md g1 b1 g2 b2 wi wo, r_v101 X M T md g1 b1 g2 b2 wi wo]
  exact hostDivf_up _ _ fun i _ j _ => by norm_num

theorem r_v103 : val_main_v103 (F := Ideal) (up2 8192 1024 X) (up2 8192 1024 M) (up2 6 1024 md) (up2 1 1024 g1) (up2 1 1024 b1) (up2 1024 5632 wi) (up2 2816 1024 wo)
    = up2 8192 1024 fun i _ => mean (r2 (vec md g1 b1 g2 b2) wi wo (X i) (M i)) := by
  unfold val_main_v103
  rw [r_v93 X M T md g1 b1 g2 b2 wi wo]
  exact host_cols_up _ _

theorem r_v104 : val_main_v104 (F := Ideal) (up2 8192 1024 X) (up2 8192 1024 M) (up2 6 1024 md) (up2 1 1024 g1) (up2 1 1024 b1) (up2 1024 5632 wi) (up2 2816 1024 wo)
    = up2 8192 1024 fun i j => dev (r2 (vec md g1 b1 g2 b2) wi wo (X i) (M i)) j := by
  unfold val_main_v104
  rw [r_v89 X M T md g1 b1 g2 b2 wi wo, r_v103 X M T md g1 b1 g2 b2 wi wo]
  exact subf_up _ _

theorem r_v105 : val_main_v105 (F := Ideal)
    = up2 8192 1 fun _ _ => eps := by
  unfold val_main_v105 val_main_cst_21
  exact host_splat_up _ _ word_eps

theorem r_v106 : val_main_v106 (F := Ideal) (up2 8192 1024 X) (up2 8192 1024 M) (up2 6 1024 md) (up2 1 1024 g1) (up2 1 1024 b1) (up2 1024 5632 wi) (up2 2816 1024 wo)
    = up2 8192 1 fun i _ => var (r2 (vec md g1 b1 g2 b2) wi wo (X i) (M i)) := by
  unfold val_main_v106
  rw [r_v102 X M T md g1 b1 g2 b2 wi wo, r_v105 X M T md g1 b1 g2 b2 wi wo]
  exact addf_up _ _

theorem r_v107 : val_main_v107 (F := Ideal) (up2 8192 1024 X) (up2 8192 1024 M) (up2 6 1024 md) (up2 1 1024 g1) (up2 1 1024 b1) (up2 1024 5632 wi) (up2 2816 1024 wo)
    = up2 8192 1 fun i _ => rstd (r2 (vec md g1 b1 g2 b2) wi wo (X i) (M i)) := by
  unfold val_main_v107
  rw [r_v106 X M T md g1 b1 g2 b2 wi wo]
  exact hostRsqrt_up _ fun i _ j _ => var_pos _

theorem r_v108 : val_main_v108 (F := Ideal) (up2 8192 1024 X) (up2 8192 1024 M) (up2 6 1024 md) (up2 1 1024 g1) (up2 1 1024 b1) (up2 1024 5632 wi) (up2 2816 1024 wo)
    = up2 8192 1 fun i _ => (rstd (r2 (vec md g1 b1 g2 b2) wi wo (X i) (M i))) / (var (r2 (vec md g1 b1 g2 b2) wi wo (X i) (M i))) := by
  unfold val_main_v108
  rw [r_v107 X M T md g1 b1 g2 b2 wi wo, r_v106 X M T md g1 b1 g2 b2 wi wo]
  exact hostDivf_up _ _ fun i _ j _ => (var_pos _).ne'

theorem r_v109 : val_main_v109 (F := Ideal)
    = up2 8192 1 fun _ _ => -(1 / 2) := by
  unfold val_main_v109 val_main_cst_22
  exact host_splat_up _ _ word_neg_half

theorem r_v110 : val_main_v110 (F := Ideal) (up2 8192 1024 X) (up2 8192 1024 M) (up2 6 1024 md) (up2 1 1024 g1) (up2 1 1024 b1) (up2 1024 5632 wi) (up2 2816 1024 wo)
    = up2 8192 1 fun i _ => (-(1 / 2)) * ((rstd (r2 (vec md g1 b1 g2 b2) wi wo (X i) (M i))) / (var (r2 (vec md g1 b1 g2 b2) wi wo (X i) (M i)))) := by
  unfold val_main_v110
  rw [r_v109 X M T md g1 b1 g2 b2 wi wo, r_v108 X M T md g1 b1 g2 b2 wi wo]
  exact mulf_up _ _

theorem r_v111 : val_main_v111 (F := Ideal) (up2 8192 1024 X) (up2 8192 1024 M) (up2 6 1024 md) (up2 1 1024 g1) (up2 1 1024 b1) (up2 1024 5632 wi) (up2 2816 1024 wo)
    = up2 8192 1024 fun i _ => rstd (r2 (vec md g1 b1 g2 b2) wi wo (X i) (M i)) := by
  unfold val_main_v111
  rw [r_v107 X M T md g1 b1 g2 b2 wi wo]
  exact host_cols_up _ _

theorem r_v112 : val_main_v112 (F := Ideal) (up2 8192 1024 X) (up2 8192 1024 M) (up2 6 1024 md) (up2 1 1024 g1) (up2 1 1024 b1) (up2 1024 5632 wi) (up2 2816 1024 wo)
    = up2 8192 1024 fun i j => nrm (r2 (vec md g1 b1 g2 b2) wi wo (X i) (M i)) j := by
  unfold val_main_v112
  rw [r_v104 X M T md g1 b1 g2 b2 wi wo, r_v111 X M T md g1 b1 g2 b2 wi wo]
  exact mulf_up _ _

theorem r_v113 : val_main_v113 (F := Ideal) (up2 1 1024 g2)
    = up2 1 1024 fun _ j => (vec md g1 b1 g2 b2) 6 j := by
  unfold val_main_v113
  rw [r_v82 X M T md g1 b1 g2 b2 wi wo]
  exact host_row_up _ _

theorem r_v114 : val_main_v114 (F := Ideal) (up2 1 1024 g2)
    = up2 8192 1024 fun _ j => (vec md g1 b1 g2 b2) 6 j := by
  unfold val_main_v114
  rw [r_v113 X M T md g1 b1 g2 b2 wi wo]
  exact host_rows_up _ _

theorem r_v115 : val_main_v115 (F := Ideal) (up2 8192 1024 X) (up2 8192 1024 M) (up2 6 1024 md) (up2 1 1024 g1) (up2 1 1024 b1) (up2 1 1024 g2) (up2 1024 5632 wi) (up2 2816 1024 wo)
    = up2 8192 1024 fun i j => (nrm (r2 (vec md g1 b1 g2 b2) wi wo (X i) (M i)) j) * ((vec md g1 b1 g2 b2) 6 j) := by
  unfold val_main_v115
  rw [r_v112 X M T md g1 b1 g2 b2 wi wo, r_v114 X M T md g1 b1 g2 b2 wi wo]
  exact mulf_up _ _

theorem r_v116 : val_main_v116 (F := Ideal) (up2 1 1024 b2)
    = up2 1 1024 fun _ j => (vec md g1 b1 g2 b2) 7 j := by
  unfold val_main_v116
  rw [r_v83 X M T md g1 b1 g2 b2 wi wo]
  exact host_row_up _ _

theorem r_v117 : val_main_v117 (F := Ideal) (up2 1 1024 b2)
    = up2 8192 1024 fun _ j => (vec md g1 b1 g2 b2) 7 j := by
  unfold val_main_v117
  rw [r_v116 X M T md g1 b1 g2 b2 wi wo]
  exact host_rows_up _ _

theorem r_v118 : val_main_v118 (F := Ideal) (up2 8192 1024 X) (up2 8192 1024 M) (up2 6 1024 md) (up2 1 1024 g1) (up2 1 1024 b1) (up2 1 1024 g2) (up2 1 1024 b2) (up2 1024 5632 wi) (up2 2816 1024 wo)
    = up2 8192 1024 fun i j => ((nrm (r2 (vec md g1 b1 g2 b2) wi wo (X i) (M i)) j) * ((vec md g1 b1 g2 b2) 6 j)) + ((vec md g1 b1 g2 b2) 7 j) := by
  unfold val_main_v118
  rw [r_v115 X M T md g1 b1 g2 b2 wi wo, r_v117 X M T md g1 b1 g2 b2 wi wo]
  exact addf_up _ _

theorem r_v119 : val_main_v119 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 1024 fun i j => err (vec md g1 b1 g2 b2) wi wo (X i) (M i) (T i) j := by
  unfold val_main_v119
  rw [r_v118 X M T md g1 b1 g2 b2 wi wo]
  exact subf_up _ _

theorem r_v121 : val_main_v121 (F := Ideal)
    = up2 8192 1024 fun _ _ => 2 := by
  unfold val_main_v121 val_main_cst_23
  exact host_splat_up _ _ word_two

theorem r_v122 : val_main_v122 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 1024 fun i j => 2 * (err (vec md g1 b1 g2 b2) wi wo (X i) (M i) (T i) j) := by
  unfold val_main_v122
  rw [r_v121 X M T md g1 b1 g2 b2 wi wo, r_v119 X M T md g1 b1 g2 b2 wi wo]
  exact mulf_up _ _

theorem r_v128 : val_main_v128 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 1024 fun i j => err (vec md g1 b1 g2 b2) wi wo (X i) (M i) (T i) j := by
  unfold val_main_v128
  rw [r_v118 X M T md g1 b1 g2 b2 wi wo]
  exact subf_up _ _

theorem r_v130 : val_main_v130 (F := Ideal)
    = up1 8192 fun _ => 1 / 2 * 1 := by
  unfold val_main_v130 val_main_v129 val_main_cst_28 val_main_cst_29
  exact host_half_up _ _

theorem r_v131 : val_main_v131 (F := Ideal)
    = up1 8192 fun _ => 1024 := by
  unfold val_main_v131 val_main_cst_30
  exact host_splat1_up _ _ word_1024

theorem r_v132 : val_main_v132 (F := Ideal)
    = up1 8192 fun _ => (1 / 2 * 1) / 1024 := by
  unfold val_main_v132
  rw [r_v130 X M T md g1 b1 g2 b2 wi wo, r_v131 X M T md g1 b1 g2 b2 wi wo]
  exact hostDivf1_up _ _ fun i _ => by norm_num

theorem r_v133 : val_main_v133 (F := Ideal)
    = up2 8192 1024 fun _ _ => (1 / 2 * 1) / 1024 := by
  unfold val_main_v133
  rw [r_v132 X M T md g1 b1 g2 b2 wi wo]
  exact host_col_up _ _

theorem r_v134 : val_main_v134 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 1024 fun i j => dy (vec md g1 b1 g2 b2) wi wo (X i) (M i) (T i) j := by
  unfold val_main_v134
  rw [r_v133 X M T md g1 b1 g2 b2 wi wo, r_v122 X M T md g1 b1 g2 b2 wi wo]
  exact (mulf_up _ _).trans (up2_congr fun i _ j _ => by unfold dy; ring)

theorem r_v135 : val_main_v135 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up1 1024 fun i => ∑ k9 ∈ range 8192, (dy (vec md g1 b1 g2 b2) wi wo (X k9) (M k9) (T k9) i) := by
  unfold val_main_v135 val_main_cst_31
  rw [r_v134 X M T md g1 b1 g2 b2 wi wo]
  exact host_sum_cols_up _ _ _ (by decide)

theorem r_v136 : val_main_v136 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 1 1024 fun _ j => ∑ k9 ∈ range 8192, (dy (vec md g1 b1 g2 b2) wi wo (X k9) (M k9) (T k9) j) := by
  unfold val_main_v136
  rw [r_v135 X M T md g1 b1 g2 b2 wi wo]
  exact cast_row_up _ _

theorem r_v137 : val_main_v137 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up1 1024 fun i => ∑ k9 ∈ range 8192, (dy (vec md g1 b1 g2 b2) wi wo (X k9) (M k9) (T k9) i) := by
  unfold val_main_v137 val_main_cst_32
  rw [r_v136 X M T md g1 b1 g2 b2 wi wo]
  exact (host_sum_cols_up _ _ _ (by decide)).trans (up1_congr fun i _ => sum_range_one _)

theorem r_v138 : val_main_v138 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 1024 fun i j => dy (vec md g1 b1 g2 b2) wi wo (X i) (M i) (T i) j * nrm (r2 (vec md g1 b1 g2 b2) wi wo (X i) (M i)) j := by
  unfold val_main_v138
  rw [r_v112 X M T md g1 b1 g2 b2 wi wo, r_v134 X M T md g1 b1 g2 b2 wi wo]
  exact (mulf_up _ _).trans (up2_congr fun i _ j _ => mul_comm _ _)

theorem r_v139 : val_main_v139 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up1 1024 fun i => ∑ k11 ∈ range 8192, (dy (vec md g1 b1 g2 b2) wi wo (X k11) (M k11) (T k11) i * nrm (r2 (vec md g1 b1 g2 b2) wi wo (X k11) (M k11)) i) := by
  unfold val_main_v139 val_main_cst_33
  rw [r_v138 X M T md g1 b1 g2 b2 wi wo]
  exact host_sum_cols_up _ _ _ (by decide)

theorem r_v140 : val_main_v140 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 1 1024 fun _ j => ∑ k11 ∈ range 8192, (dy (vec md g1 b1 g2 b2) wi wo (X k11) (M k11) (T k11) j * nrm (r2 (vec md g1 b1 g2 b2) wi wo (X k11) (M k11)) j) := by
  unfold val_main_v140
  rw [r_v139 X M T md g1 b1 g2 b2 wi wo]
  exact cast_row_up _ _

theorem r_v141 : val_main_v141 (F := Ideal) (up2 1 1024 g2)
    = up2 8192 1024 fun _ j => (vec md g1 b1 g2 b2) 6 j := by
  unfold val_main_v141
  rw [r_v113 X M T md g1 b1 g2 b2 wi wo]
  exact host_rows_up _ _

theorem r_v142 : val_main_v142 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 1024 fun i j => (dy (vec md g1 b1 g2 b2) wi wo (X i) (M i) (T i) j) * ((vec md g1 b1 g2 b2) 6 j) := by
  unfold val_main_v142
  rw [r_v134 X M T md g1 b1 g2 b2 wi wo, r_v141 X M T md g1 b1 g2 b2 wi wo]
  exact mulf_up _ _

theorem r_v143 : val_main_v143 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up1 1024 fun i => ∑ k11 ∈ range 8192, (dy (vec md g1 b1 g2 b2) wi wo (X k11) (M k11) (T k11) i * nrm (r2 (vec md g1 b1 g2 b2) wi wo (X k11) (M k11)) i) := by
  unfold val_main_v143 val_main_cst_34
  rw [r_v140 X M T md g1 b1 g2 b2 wi wo]
  exact (host_sum_cols_up _ _ _ (by decide)).trans (up1_congr fun i _ => sum_range_one _)

theorem r_v144 : val_main_v144 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 1024 fun i j => (dev (r2 (vec md g1 b1 g2 b2) wi wo (X i) (M i)) j) * ((dy (vec md g1 b1 g2 b2) wi wo (X i) (M i) (T i) j) * ((vec md g1 b1 g2 b2) 6 j)) := by
  unfold val_main_v144
  rw [r_v104 X M T md g1 b1 g2 b2 wi wo, r_v142 X M T md g1 b1 g2 b2 wi wo]
  exact mulf_up _ _

theorem r_v145 : val_main_v145 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up1 8192 fun i => ∑ k13 ∈ range 1024, ((dev (r2 (vec md g1 b1 g2 b2) wi wo (X i) (M i)) k13) * ((dy (vec md g1 b1 g2 b2) wi wo (X i) (M i) (T i) k13) * ((vec md g1 b1 g2 b2) 6 k13))) := by
  unfold val_main_v145 val_main_cst_35
  rw [r_v144 X M T md g1 b1 g2 b2 wi wo]
  exact host_sum_rows_up _ _ _ (by decide)

theorem r_v146 : val_main_v146 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 1 fun i _ => ∑ k13 ∈ range 1024, ((dev (r2 (vec md g1 b1 g2 b2) wi wo (X i) (M i)) k13) * ((dy (vec md g1 b1 g2 b2) wi wo (X i) (M i) (T i) k13) * ((vec md g1 b1 g2 b2) 6 k13))) := by
  unfold val_main_v146
  rw [r_v145 X M T md g1 b1 g2 b2 wi wo]
  exact cast_col_up _ _

theorem r_v147 : val_main_v147 (F := Ideal) (up2 8192 1024 X) (up2 8192 1024 M) (up2 6 1024 md) (up2 1 1024 g1) (up2 1 1024 b1) (up2 1024 5632 wi) (up2 2816 1024 wo)
    = up2 8192 1024 fun i _ => rstd (r2 (vec md g1 b1 g2 b2) wi wo (X i) (M i)) := by
  unfold val_main_v147
  rw [r_v107 X M T md g1 b1 g2 b2 wi wo]
  exact host_cols_up _ _

theorem r_v148 : val_main_v148 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 1024 fun i j => ((dy (vec md g1 b1 g2 b2) wi wo (X i) (M i) (T i) j) * ((vec md g1 b1 g2 b2) 6 j)) * (rstd (r2 (vec md g1 b1 g2 b2) wi wo (X i) (M i))) := by
  unfold val_main_v148
  rw [r_v142 X M T md g1 b1 g2 b2 wi wo, r_v147 X M T md g1 b1 g2 b2 wi wo]
  exact mulf_up _ _

theorem r_v149 : val_main_v149 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 1 fun i _ => (∑ k13 ∈ range 1024, ((dev (r2 (vec md g1 b1 g2 b2) wi wo (X i) (M i)) k13) * ((dy (vec md g1 b1 g2 b2) wi wo (X i) (M i) (T i) k13) * ((vec md g1 b1 g2 b2) 6 k13)))) * ((-(1 / 2)) * ((rstd (r2 (vec md g1 b1 g2 b2) wi wo (X i) (M i))) / (var (r2 (vec md g1 b1 g2 b2) wi wo (X i) (M i))))) := by
  unfold val_main_v149
  rw [r_v146 X M T md g1 b1 g2 b2 wi wo, r_v110 X M T md g1 b1 g2 b2 wi wo]
  exact mulf_up _ _

theorem r_v150 : val_main_v150 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 1024 fun i j => -(((dy (vec md g1 b1 g2 b2) wi wo (X i) (M i) (T i) j) * ((vec md g1 b1 g2 b2) 6 j)) * (rstd (r2 (vec md g1 b1 g2 b2) wi wo (X i) (M i)))) := by
  unfold val_main_v150
  rw [r_v148 X M T md g1 b1 g2 b2 wi wo]
  exact negf_up _

theorem r_v151 : val_main_v151 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up1 8192 fun i => ∑ k14 ∈ range 1024, (-(((dy (vec md g1 b1 g2 b2) wi wo (X i) (M i) (T i) k14) * ((vec md g1 b1 g2 b2) 6 k14)) * (rstd (r2 (vec md g1 b1 g2 b2) wi wo (X i) (M i))))) := by
  unfold val_main_v151 val_main_cst_36
  rw [r_v150 X M T md g1 b1 g2 b2 wi wo]
  exact host_sum_rows_up _ _ _ (by decide)

theorem r_v152 : val_main_v152 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 1 fun i _ => ∑ k14 ∈ range 1024, (-(((dy (vec md g1 b1 g2 b2) wi wo (X i) (M i) (T i) k14) * ((vec md g1 b1 g2 b2) 6 k14)) * (rstd (r2 (vec md g1 b1 g2 b2) wi wo (X i) (M i))))) := by
  unfold val_main_v152
  rw [r_v151 X M T md g1 b1 g2 b2 wi wo]
  exact cast_col_up _ _

theorem r_v153 : val_main_v153 (F := Ideal)
    = up2 8192 1 fun _ _ => 1024 := by
  unfold val_main_v153 val_main_cst_37
  exact host_splat_up _ _ word_1024

theorem r_v154 : val_main_v154 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 1 fun i _ => ((∑ k13 ∈ range 1024, ((dev (r2 (vec md g1 b1 g2 b2) wi wo (X i) (M i)) k13) * ((dy (vec md g1 b1 g2 b2) wi wo (X i) (M i) (T i) k13) * ((vec md g1 b1 g2 b2) 6 k13)))) * ((-(1 / 2)) * ((rstd (r2 (vec md g1 b1 g2 b2) wi wo (X i) (M i))) / (var (r2 (vec md g1 b1 g2 b2) wi wo (X i) (M i)))))) / 1024 := by
  unfold val_main_v154
  rw [r_v149 X M T md g1 b1 g2 b2 wi wo, r_v153 X M T md g1 b1 g2 b2 wi wo]
  exact hostDivf_up _ _ fun i _ j _ => by norm_num

theorem r_v155 : val_main_v155 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up1 8192 fun i => ((∑ k13 ∈ range 1024, ((dev (r2 (vec md g1 b1 g2 b2) wi wo (X i) (M i)) k13) * ((dy (vec md g1 b1 g2 b2) wi wo (X i) (M i) (T i) k13) * ((vec md g1 b1 g2 b2) 6 k13)))) * ((-(1 / 2)) * ((rstd (r2 (vec md g1 b1 g2 b2) wi wo (X i) (M i))) / (var (r2 (vec md g1 b1 g2 b2) wi wo (X i) (M i)))))) / 1024 := by
  unfold val_main_v155 val_main_cst_38
  rw [r_v154 X M T md g1 b1 g2 b2 wi wo]
  exact (host_sum_rows_up _ _ _ (by decide)).trans (up1_congr fun i _ => sum_range_one _)

theorem r_v156 : val_main_v156 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 1024 fun i _ => ((∑ k13 ∈ range 1024, ((dev (r2 (vec md g1 b1 g2 b2) wi wo (X i) (M i)) k13) * ((dy (vec md g1 b1 g2 b2) wi wo (X i) (M i) (T i) k13) * ((vec md g1 b1 g2 b2) 6 k13)))) * ((-(1 / 2)) * ((rstd (r2 (vec md g1 b1 g2 b2) wi wo (X i) (M i))) / (var (r2 (vec md g1 b1 g2 b2) wi wo (X i) (M i)))))) / 1024 := by
  unfold val_main_v156
  rw [r_v155 X M T md g1 b1 g2 b2 wi wo]
  exact host_col_up _ _

theorem r_v157 : val_main_v157 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 1024 fun i j => (((∑ k13 ∈ range 1024, ((dev (r2 (vec md g1 b1 g2 b2) wi wo (X i) (M i)) k13) * ((dy (vec md g1 b1 g2 b2) wi wo (X i) (M i) (T i) k13) * ((vec md g1 b1 g2 b2) 6 k13)))) * ((-(1 / 2)) * ((rstd (r2 (vec md g1 b1 g2 b2) wi wo (X i) (M i))) / (var (r2 (vec md g1 b1 g2 b2) wi wo (X i) (M i)))))) / 1024) * (2 * (dev (r2 (vec md g1 b1 g2 b2) wi wo (X i) (M i)) j)) := by
  unfold val_main_v157
  rw [r_v156 X M T md g1 b1 g2 b2 wi wo, r_v98 X M T md g1 b1 g2 b2 wi wo]
  exact mulf_up _ _

theorem r_v158 : val_main_v158 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 1024 fun i j => -((((∑ k13 ∈ range 1024, ((dev (r2 (vec md g1 b1 g2 b2) wi wo (X i) (M i)) k13) * ((dy (vec md g1 b1 g2 b2) wi wo (X i) (M i) (T i) k13) * ((vec md g1 b1 g2 b2) 6 k13)))) * ((-(1 / 2)) * ((rstd (r2 (vec md g1 b1 g2 b2) wi wo (X i) (M i))) / (var (r2 (vec md g1 b1 g2 b2) wi wo (X i) (M i)))))) / 1024) * (2 * (dev (r2 (vec md g1 b1 g2 b2) wi wo (X i) (M i)) j))) := by
  unfold val_main_v158
  rw [r_v157 X M T md g1 b1 g2 b2 wi wo]
  exact negf_up _

theorem r_v159 : val_main_v159 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up1 8192 fun i => ∑ k16 ∈ range 1024, (-((((∑ k13 ∈ range 1024, ((dev (r2 (vec md g1 b1 g2 b2) wi wo (X i) (M i)) k13) * ((dy (vec md g1 b1 g2 b2) wi wo (X i) (M i) (T i) k13) * ((vec md g1 b1 g2 b2) 6 k13)))) * ((-(1 / 2)) * ((rstd (r2 (vec md g1 b1 g2 b2) wi wo (X i) (M i))) / (var (r2 (vec md g1 b1 g2 b2) wi wo (X i) (M i)))))) / 1024) * (2 * (dev (r2 (vec md g1 b1 g2 b2) wi wo (X i) (M i)) k16)))) := by
  unfold val_main_v159 val_main_cst_39
  rw [r_v158 X M T md g1 b1 g2 b2 wi wo]
  exact host_sum_rows_up _ _ _ (by decide)

theorem r_v160 : val_main_v160 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 1 fun i _ => ∑ k16 ∈ range 1024, (-((((∑ k13 ∈ range 1024, ((dev (r2 (vec md g1 b1 g2 b2) wi wo (X i) (M i)) k13) * ((dy (vec md g1 b1 g2 b2) wi wo (X i) (M i) (T i) k13) * ((vec md g1 b1 g2 b2) 6 k13)))) * ((-(1 / 2)) * ((rstd (r2 (vec md g1 b1 g2 b2) wi wo (X i) (M i))) / (var (r2 (vec md g1 b1 g2 b2) wi wo (X i) (M i)))))) / 1024) * (2 * (dev (r2 (vec md g1 b1 g2 b2) wi wo (X i) (M i)) k16)))) := by
  unfold val_main_v160
  rw [r_v159 X M T md g1 b1 g2 b2 wi wo]
  exact cast_col_up _ _

theorem r_v161 : val_main_v161 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 1024 fun i j => (((dy (vec md g1 b1 g2 b2) wi wo (X i) (M i) (T i) j) * ((vec md g1 b1 g2 b2) 6 j)) * (rstd (r2 (vec md g1 b1 g2 b2) wi wo (X i) (M i)))) + ((((∑ k13 ∈ range 1024, ((dev (r2 (vec md g1 b1 g2 b2) wi wo (X i) (M i)) k13) * ((dy (vec md g1 b1 g2 b2) wi wo (X i) (M i) (T i) k13) * ((vec md g1 b1 g2 b2) 6 k13)))) * ((-(1 / 2)) * ((rstd (r2 (vec md g1 b1 g2 b2) wi wo (X i) (M i))) / (var (r2 (vec md g1 b1 g2 b2) wi wo (X i) (M i)))))) / 1024) * (2 * (dev (r2 (vec md g1 b1 g2 b2) wi wo (X i) (M i)) j))) := by
  unfold val_main_v161
  rw [r_v148 X M T md g1 b1 g2 b2 wi wo, r_v157 X M T md g1 b1 g2 b2 wi wo]
  exact addf_up _ _

theorem r_v162 : val_main_v162 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 1 fun i _ => (∑ k14 ∈ range 1024, (-(((dy (vec md g1 b1 g2 b2) wi wo (X i) (M i) (T i) k14) * ((vec md g1 b1 g2 b2) 6 k14)) * (rstd (r2 (vec md g1 b1 g2 b2) wi wo (X i) (M i)))))) + (∑ k16 ∈ range 1024, (-((((∑ k13 ∈ range 1024, ((dev (r2 (vec md g1 b1 g2 b2) wi wo (X i) (M i)) k13) * ((dy (vec md g1 b1 g2 b2) wi wo (X i) (M i) (T i) k13) * ((vec md g1 b1 g2 b2) 6 k13)))) * ((-(1 / 2)) * ((rstd (r2 (vec md g1 b1 g2 b2) wi wo (X i) (M i))) / (var (r2 (vec md g1 b1 g2 b2) wi wo (X i) (M i)))))) / 1024) * (2 * (dev (r2 (vec md g1 b1 g2 b2) wi wo (X i) (M i)) k16))))) := by
  unfold val_main_v162
  rw [r_v152 X M T md g1 b1 g2 b2 wi wo, r_v160 X M T md g1 b1 g2 b2 wi wo]
  exact addf_up _ _

theorem r_v163 : val_main_v163 (F := Ideal)
    = up2 8192 1 fun _ _ => 1024 := by
  unfold val_main_v163 val_main_cst_40
  exact host_splat_up _ _ word_1024

theorem r_v164 : val_main_v164 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 1 fun i _ => ((∑ k14 ∈ range 1024, (-(((dy (vec md g1 b1 g2 b2) wi wo (X i) (M i) (T i) k14) * ((vec md g1 b1 g2 b2) 6 k14)) * (rstd (r2 (vec md g1 b1 g2 b2) wi wo (X i) (M i)))))) + (∑ k16 ∈ range 1024, (-((((∑ k13 ∈ range 1024, ((dev (r2 (vec md g1 b1 g2 b2) wi wo (X i) (M i)) k13) * ((dy (vec md g1 b1 g2 b2) wi wo (X i) (M i) (T i) k13) * ((vec md g1 b1 g2 b2) 6 k13)))) * ((-(1 / 2)) * ((rstd (r2 (vec md g1 b1 g2 b2) wi wo (X i) (M i))) / (var (r2 (vec md g1 b1 g2 b2) wi wo (X i) (M i)))))) / 1024) * (2 * (dev (r2 (vec md g1 b1 g2 b2) wi wo (X i) (M i)) k16)))))) / 1024 := by
  unfold val_main_v164
  rw [r_v162 X M T md g1 b1 g2 b2 wi wo, r_v163 X M T md g1 b1 g2 b2 wi wo]
  exact hostDivf_up _ _ fun i _ j _ => by norm_num

theorem r_v165 : val_main_v165 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up1 8192 fun i => ((∑ k14 ∈ range 1024, (-(((dy (vec md g1 b1 g2 b2) wi wo (X i) (M i) (T i) k14) * ((vec md g1 b1 g2 b2) 6 k14)) * (rstd (r2 (vec md g1 b1 g2 b2) wi wo (X i) (M i)))))) + (∑ k16 ∈ range 1024, (-((((∑ k13 ∈ range 1024, ((dev (r2 (vec md g1 b1 g2 b2) wi wo (X i) (M i)) k13) * ((dy (vec md g1 b1 g2 b2) wi wo (X i) (M i) (T i) k13) * ((vec md g1 b1 g2 b2) 6 k13)))) * ((-(1 / 2)) * ((rstd (r2 (vec md g1 b1 g2 b2) wi wo (X i) (M i))) / (var (r2 (vec md g1 b1 g2 b2) wi wo (X i) (M i)))))) / 1024) * (2 * (dev (r2 (vec md g1 b1 g2 b2) wi wo (X i) (M i)) k16)))))) / 1024 := by
  unfold val_main_v165 val_main_cst_41
  rw [r_v164 X M T md g1 b1 g2 b2 wi wo]
  exact (host_sum_rows_up _ _ _ (by decide)).trans (up1_congr fun i _ => sum_range_one _)

theorem r_v166 : val_main_v166 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 1024 fun i _ => ((∑ k14 ∈ range 1024, (-(((dy (vec md g1 b1 g2 b2) wi wo (X i) (M i) (T i) k14) * ((vec md g1 b1 g2 b2) 6 k14)) * (rstd (r2 (vec md g1 b1 g2 b2) wi wo (X i) (M i)))))) + (∑ k16 ∈ range 1024, (-((((∑ k13 ∈ range 1024, ((dev (r2 (vec md g1 b1 g2 b2) wi wo (X i) (M i)) k13) * ((dy (vec md g1 b1 g2 b2) wi wo (X i) (M i) (T i) k13) * ((vec md g1 b1 g2 b2) 6 k13)))) * ((-(1 / 2)) * ((rstd (r2 (vec md g1 b1 g2 b2) wi wo (X i) (M i))) / (var (r2 (vec md g1 b1 g2 b2) wi wo (X i) (M i)))))) / 1024) * (2 * (dev (r2 (vec md g1 b1 g2 b2) wi wo (X i) (M i)) k16)))))) / 1024 := by
  unfold val_main_v166
  rw [r_v165 X M T md g1 b1 g2 b2 wi wo]
  exact host_col_up _ _

theorem r_v167 : val_main_v167 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 1024 fun i j => dr2 (vec md g1 b1 g2 b2) wi wo (X i) (M i) (T i) j := by
  unfold val_main_v167
  rw [r_v161 X M T md g1 b1 g2 b2 wi wo, r_v166 X M T md g1 b1 g2 b2 wi wo]
  exact (addf_up _ _).trans (up2_congr fun i _ j _ => nrmBwd_eq (fun k => dy (vec md g1 b1 g2 b2) wi wo (X i) (M i) (T i) k * (vec md g1 b1 g2 b2) 6 k) (r2 (vec md g1 b1 g2 b2) wi wo (X i) (M i)) j)

theorem r_v168 : val_main_v168 (F := Ideal) (up2 6 1024 md)
    = up2 8192 1024 fun _ j => (vec md g1 b1 g2 b2) 5 j := by
  unfold val_main_v168
  rw [r_v86 X M T md g1 b1 g2 b2 wi wo]
  exact host_rows_up _ _

theorem r_v169 : val_main_v169 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 1024 fun i j => df (vec md g1 b1 g2 b2) wi wo (X i) (M i) (T i) j := by
  unfold val_main_v169
  rw [r_v168 X M T md g1 b1 g2 b2 wi wo, r_v167 X M T md g1 b1 g2 b2 wi wo]
  exact (mulf_up _ _).trans (up2_congr fun i _ j _ => mul_comm _ _)

theorem r_v170 : val_main_v170 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 1024 fun i j => (dr2 (vec md g1 b1 g2 b2) wi wo (X i) (M i) (T i) j) * (ff (vec md g1 b1 g2 b2) wi wo (X i) (M i) j) := by
  unfold val_main_v170
  rw [r_v167 X M T md g1 b1 g2 b2 wi wo, r_v79 X M T md g1 b1 g2 b2 wi wo]
  exact mulf_up _ _

theorem r_v171 : val_main_v171 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up1 1024 fun i => ∑ k18 ∈ range 8192, ((dr2 (vec md g1 b1 g2 b2) wi wo (X k18) (M k18) (T k18) i) * (ff (vec md g1 b1 g2 b2) wi wo (X k18) (M k18) i)) := by
  unfold val_main_v171 val_main_cst_42
  rw [r_v170 X M T md g1 b1 g2 b2 wi wo]
  exact host_sum_cols_up _ _ _ (by decide)

theorem r_v172 : val_main_v172 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 1 1024 fun _ j => ∑ k18 ∈ range 8192, ((dr2 (vec md g1 b1 g2 b2) wi wo (X k18) (M k18) (T k18) j) * (ff (vec md g1 b1 g2 b2) wi wo (X k18) (M k18) j)) := by
  unfold val_main_v172
  rw [r_v171 X M T md g1 b1 g2 b2 wi wo]
  exact cast_row_up _ _

theorem r_v173 : val_main_v173 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up1 1024 fun i => ∑ k18 ∈ range 8192, ((dr2 (vec md g1 b1 g2 b2) wi wo (X k18) (M k18) (T k18) i) * (ff (vec md g1 b1 g2 b2) wi wo (X k18) (M k18) i)) := by
  unfold val_main_v173 val_main_cst_43
  rw [r_v172 X M T md g1 b1 g2 b2 wi wo]
  exact (host_sum_cols_up _ _ _ (by decide)).trans (up1_congr fun i _ => sum_range_one _)

theorem r_v174 : val_main_v174 (F := Ideal)
    = up2 8192 1024 fun _ _ => alpha := by
  unfold val_main_v174 val_main_cst_44
  exact host_splat_up _ _ word_alpha

theorem r_v175 : val_main_v175 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 1024 fun i j => alpha * (dr2 (vec md g1 b1 g2 b2) wi wo (X i) (M i) (T i) j) := by
  unfold val_main_v175
  rw [r_v174 X M T md g1 b1 g2 b2 wi wo, r_v167 X M T md g1 b1 g2 b2 wi wo]
  exact mulf_up _ _

theorem r_v176 : val_main_v176 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 2816 fun i j => da (vec md g1 b1 g2 b2) wi wo (X i) (M i) (T i) j := by
  unfold val_main_v176
  rw [r_v169 X M T md g1 b1 g2 b2 wi wo]
  exact dotGeneral_nt_up _ _ _ _

theorem r_v177 : val_main_v177 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 2816 fun i j => du (vec md g1 b1 g2 b2) wi wo (X i) (M i) (T i) j := by
  unfold val_main_v177
  rw [r_v77_0 X M T md g1 b1 g2 b2 wi wo, r_v176 X M T md g1 b1 g2 b2 wi wo]
  exact (mulf_up _ _).trans (up2_congr fun i _ j _ => by unfold du; ring)

theorem r_v178 : val_main_v178 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 2816 fun i j => (da (vec md g1 b1 g2 b2) wi wo (X i) (M i) (T i) j) * (gu (vec md g1 b1 g2 b2) wi (X i) (M i) (2816 + j)) := by
  unfold val_main_v178
  rw [r_v176 X M T md g1 b1 g2 b2 wi wo, r_v76 X M T md g1 b1 g2 b2 wi wo]
  exact mulf_up _ _

theorem r_call1_v0 : val_main_call1_v0 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 2816 fun i j => (gu (vec md g1 b1 g2 b2) wi (X i) (M i) j) * ((da (vec md g1 b1 g2 b2) wi wo (X i) (M i) (T i) j) * (gu (vec md g1 b1 g2 b2) wi (X i) (M i) (2816 + j))) := by
  unfold val_main_call1_v0
  rw [r_v75 X M T md g1 b1 g2 b2 wi wo, r_v178 X M T md g1 b1 g2 b2 wi wo]
  exact mulf_up _ _

theorem r_call1_v1 : val_main_call1_v1 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 2816 fun i j => ((da (vec md g1 b1 g2 b2) wi wo (X i) (M i) (T i) j) * (gu (vec md g1 b1 g2 b2) wi (X i) (M i) (2816 + j))) * (sig (gu (vec md g1 b1 g2 b2) wi (X i) (M i) j)) := by
  unfold val_main_call1_v1
  rw [r_v178 X M T md g1 b1 g2 b2 wi wo, r_v77_2 X M T md g1 b1 g2 b2 wi wo]
  exact mulf_up _ _

theorem r_call1_v2 : val_main_call1_v2 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 2816 fun i j => ((gu (vec md g1 b1 g2 b2) wi (X i) (M i) j) * ((da (vec md g1 b1 g2 b2) wi wo (X i) (M i) (T i) j) * (gu (vec md g1 b1 g2 b2) wi (X i) (M i) (2816 + j)))) * ((sig (gu (vec md g1 b1 g2 b2) wi (X i) (M i) j)) * (1 - (sig (gu (vec md g1 b1 g2 b2) wi (X i) (M i) j)))) := by
  unfold val_main_call1_v2
  rw [r_call1_v0 X M T md g1 b1 g2 b2 wi wo, r_v77_1 X M T md g1 b1 g2 b2 wi wo]
  exact mulf_up _ _

theorem r_v179 : val_main_v179 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 2816 fun i j => dg (vec md g1 b1 g2 b2) wi wo (X i) (M i) (T i) j := by
  unfold val_main_v179
  rw [r_call1_v1 X M T md g1 b1 g2 b2 wi wo, r_call1_v2 X M T md g1 b1 g2 b2 wi wo]
  exact (addf_up _ _).trans (up2_congr fun i _ j _ => by unfold dg; ring)

theorem r_v180 : val_main_v180 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 5632 fun i j => dff (vec md g1 b1 g2 b2) wi wo (X i) (M i) (T i) j := by
  unfold val_main_v180
  rw [r_v179 X M T md g1 b1 g2 b2 wi wo, r_v177 X M T md g1 b1 g2 b2 wi wo]
  exact beside_up (fun i j => dg (vec md g1 b1 g2 b2) wi wo (X i) (M i) (T i) j) (fun i j => du (vec md g1 b1 g2 b2) wi wo (X i) (M i) (T i) j) (show 5632 = 2816 + 2816 from rfl) _

end Cert.Ref

end
-- ==== Proof.Ref3.lean ====
/-
  The reference, one operation at a time, as real numbers: the gradients from the modulated layer norm down, and the sums.
-/
module

public import proofs.«01_k».proof.Proof.Gen.ReferenceIdeal.Read
public import proofs.«01_k».proof.Proof.Ref2

@[expose] public section

set_option maxRecDepth 16384

noncomputable section

namespace Cert.Ref

open Idealize.ShloMosaic Cert.ReferenceIdeal Cert.ReferenceIdeal.Gen Cert.ReferenceIdeal.Read Cert.Lift Cert.Spec Finset
open Cert.Arrays (vec stack_rows)
open scoped BigOperators

variable (X M T md g1 b1 g2 b2 wi wo : ℕ → ℕ → ℝ)

include X M T md g1 b1 g2 b2 wi wo

theorem r_v181 : val_main_v181 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 1024 fun i j => dh2 (vec md g1 b1 g2 b2) wi wo (X i) (M i) (T i) j := by
  unfold val_main_v181
  rw [r_v180 X M T md g1 b1 g2 b2 wi wo]
  exact dotGeneral_nt_up _ _ _ _

theorem r_v182 : val_main_v182 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up1 1024 fun i => ∑ k22 ∈ range 8192, (dh2 (vec md g1 b1 g2 b2) wi wo (X k22) (M k22) (T k22) i) := by
  unfold val_main_v182 val_main_cst_45
  rw [r_v181 X M T md g1 b1 g2 b2 wi wo]
  exact host_sum_cols_up _ _ _ (by decide)

theorem r_v183 : val_main_v183 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 1 1024 fun _ j => ∑ k22 ∈ range 8192, (dh2 (vec md g1 b1 g2 b2) wi wo (X k22) (M k22) (T k22) j) := by
  unfold val_main_v183
  rw [r_v182 X M T md g1 b1 g2 b2 wi wo]
  exact cast_row_up _ _

theorem r_v184 : val_main_v184 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up1 1024 fun i => ∑ k22 ∈ range 8192, (dh2 (vec md g1 b1 g2 b2) wi wo (X k22) (M k22) (T k22) i) := by
  unfold val_main_v184 val_main_cst_46
  rw [r_v183 X M T md g1 b1 g2 b2 wi wo]
  exact (host_sum_cols_up _ _ _ (by decide)).trans (up1_congr fun i _ => sum_range_one _)

theorem r_v185 : val_main_v185 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 1024 fun i j => dh2 (vec md g1 b1 g2 b2) wi wo (X i) (M i) (T i) j * nrm (xmid (vec md g1 b1 g2 b2) (X i) (M i)) j := by
  unfold val_main_v185
  rw [r_v65 X M T md g1 b1 g2 b2 wi wo, r_v181 X M T md g1 b1 g2 b2 wi wo]
  exact (mulf_up _ _).trans (up2_congr fun i _ j _ => mul_comm _ _)

theorem r_v186 : val_main_v186 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up1 1024 fun i => ∑ k24 ∈ range 8192, (dh2 (vec md g1 b1 g2 b2) wi wo (X k24) (M k24) (T k24) i * nrm (xmid (vec md g1 b1 g2 b2) (X k24) (M k24)) i) := by
  unfold val_main_v186 val_main_cst_47
  rw [r_v185 X M T md g1 b1 g2 b2 wi wo]
  exact host_sum_cols_up _ _ _ (by decide)

theorem r_v187 : val_main_v187 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 1 1024 fun _ j => ∑ k24 ∈ range 8192, (dh2 (vec md g1 b1 g2 b2) wi wo (X k24) (M k24) (T k24) j * nrm (xmid (vec md g1 b1 g2 b2) (X k24) (M k24)) j) := by
  unfold val_main_v187
  rw [r_v186 X M T md g1 b1 g2 b2 wi wo]
  exact cast_row_up _ _

theorem r_v188 : val_main_v188 (F := Ideal) (up2 6 1024 md)
    = up2 8192 1024 fun _ j => 1 + ((vec md g1 b1 g2 b2) 4 j) := by
  unfold val_main_v188
  rw [r_v68 X M T md g1 b1 g2 b2 wi wo]
  exact host_rows_up _ _

theorem r_v189 : val_main_v189 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 1024 fun i j => (dh2 (vec md g1 b1 g2 b2) wi wo (X i) (M i) (T i) j) * (1 + ((vec md g1 b1 g2 b2) 4 j)) := by
  unfold val_main_v189
  rw [r_v181 X M T md g1 b1 g2 b2 wi wo, r_v188 X M T md g1 b1 g2 b2 wi wo]
  exact mulf_up _ _

theorem r_v190 : val_main_v190 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up1 1024 fun i => ∑ k24 ∈ range 8192, (dh2 (vec md g1 b1 g2 b2) wi wo (X k24) (M k24) (T k24) i * nrm (xmid (vec md g1 b1 g2 b2) (X k24) (M k24)) i) := by
  unfold val_main_v190 val_main_cst_48
  rw [r_v187 X M T md g1 b1 g2 b2 wi wo]
  exact (host_sum_cols_up _ _ _ (by decide)).trans (up1_congr fun i _ => sum_range_one _)

theorem r_v191 : val_main_v191 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 1024 fun i j => (dev (xmid (vec md g1 b1 g2 b2) (X i) (M i)) j) * ((dh2 (vec md g1 b1 g2 b2) wi wo (X i) (M i) (T i) j) * (1 + ((vec md g1 b1 g2 b2) 4 j))) := by
  unfold val_main_v191
  rw [r_v57 X M T md g1 b1 g2 b2 wi wo, r_v189 X M T md g1 b1 g2 b2 wi wo]
  exact mulf_up _ _

theorem r_v192 : val_main_v192 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up1 8192 fun i => ∑ k26 ∈ range 1024, ((dev (xmid (vec md g1 b1 g2 b2) (X i) (M i)) k26) * ((dh2 (vec md g1 b1 g2 b2) wi wo (X i) (M i) (T i) k26) * (1 + ((vec md g1 b1 g2 b2) 4 k26)))) := by
  unfold val_main_v192 val_main_cst_49
  rw [r_v191 X M T md g1 b1 g2 b2 wi wo]
  exact host_sum_rows_up _ _ _ (by decide)

theorem r_v193 : val_main_v193 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 1 fun i _ => ∑ k26 ∈ range 1024, ((dev (xmid (vec md g1 b1 g2 b2) (X i) (M i)) k26) * ((dh2 (vec md g1 b1 g2 b2) wi wo (X i) (M i) (T i) k26) * (1 + ((vec md g1 b1 g2 b2) 4 k26)))) := by
  unfold val_main_v193
  rw [r_v192 X M T md g1 b1 g2 b2 wi wo]
  exact cast_col_up _ _

theorem r_v194 : val_main_v194 (F := Ideal) (up2 8192 1024 X) (up2 8192 1024 M) (up2 6 1024 md) (up2 1 1024 g1) (up2 1 1024 b1)
    = up2 8192 1024 fun i _ => rstd (xmid (vec md g1 b1 g2 b2) (X i) (M i)) := by
  unfold val_main_v194
  rw [r_v60 X M T md g1 b1 g2 b2 wi wo]
  exact host_cols_up _ _

theorem r_v195 : val_main_v195 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 1024 fun i j => ((dh2 (vec md g1 b1 g2 b2) wi wo (X i) (M i) (T i) j) * (1 + ((vec md g1 b1 g2 b2) 4 j))) * (rstd (xmid (vec md g1 b1 g2 b2) (X i) (M i))) := by
  unfold val_main_v195
  rw [r_v189 X M T md g1 b1 g2 b2 wi wo, r_v194 X M T md g1 b1 g2 b2 wi wo]
  exact mulf_up _ _

theorem r_v196 : val_main_v196 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 1 fun i _ => (∑ k26 ∈ range 1024, ((dev (xmid (vec md g1 b1 g2 b2) (X i) (M i)) k26) * ((dh2 (vec md g1 b1 g2 b2) wi wo (X i) (M i) (T i) k26) * (1 + ((vec md g1 b1 g2 b2) 4 k26))))) * ((-(1 / 2)) * ((rstd (xmid (vec md g1 b1 g2 b2) (X i) (M i))) / (var (xmid (vec md g1 b1 g2 b2) (X i) (M i))))) := by
  unfold val_main_v196
  rw [r_v193 X M T md g1 b1 g2 b2 wi wo, r_v63 X M T md g1 b1 g2 b2 wi wo]
  exact mulf_up _ _

theorem r_v197 : val_main_v197 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 1024 fun i j => -(((dh2 (vec md g1 b1 g2 b2) wi wo (X i) (M i) (T i) j) * (1 + ((vec md g1 b1 g2 b2) 4 j))) * (rstd (xmid (vec md g1 b1 g2 b2) (X i) (M i)))) := by
  unfold val_main_v197
  rw [r_v195 X M T md g1 b1 g2 b2 wi wo]
  exact negf_up _

theorem r_v198 : val_main_v198 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up1 8192 fun i => ∑ k27 ∈ range 1024, (-(((dh2 (vec md g1 b1 g2 b2) wi wo (X i) (M i) (T i) k27) * (1 + ((vec md g1 b1 g2 b2) 4 k27))) * (rstd (xmid (vec md g1 b1 g2 b2) (X i) (M i))))) := by
  unfold val_main_v198 val_main_cst_50
  rw [r_v197 X M T md g1 b1 g2 b2 wi wo]
  exact host_sum_rows_up _ _ _ (by decide)

theorem r_v199 : val_main_v199 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 1 fun i _ => ∑ k27 ∈ range 1024, (-(((dh2 (vec md g1 b1 g2 b2) wi wo (X i) (M i) (T i) k27) * (1 + ((vec md g1 b1 g2 b2) 4 k27))) * (rstd (xmid (vec md g1 b1 g2 b2) (X i) (M i))))) := by
  unfold val_main_v199
  rw [r_v198 X M T md g1 b1 g2 b2 wi wo]
  exact cast_col_up _ _

theorem r_v200 : val_main_v200 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 1024 fun i j => (alpha * (dr2 (vec md g1 b1 g2 b2) wi wo (X i) (M i) (T i) j)) + (((dh2 (vec md g1 b1 g2 b2) wi wo (X i) (M i) (T i) j) * (1 + ((vec md g1 b1 g2 b2) 4 j))) * (rstd (xmid (vec md g1 b1 g2 b2) (X i) (M i)))) := by
  unfold val_main_v200
  rw [r_v175 X M T md g1 b1 g2 b2 wi wo, r_v195 X M T md g1 b1 g2 b2 wi wo]
  exact addf_up _ _

theorem r_v201 : val_main_v201 (F := Ideal)
    = up2 8192 1 fun _ _ => 1024 := by
  unfold val_main_v201 val_main_cst_51
  exact host_splat_up _ _ word_1024

theorem r_v202 : val_main_v202 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 1 fun i _ => ((∑ k26 ∈ range 1024, ((dev (xmid (vec md g1 b1 g2 b2) (X i) (M i)) k26) * ((dh2 (vec md g1 b1 g2 b2) wi wo (X i) (M i) (T i) k26) * (1 + ((vec md g1 b1 g2 b2) 4 k26))))) * ((-(1 / 2)) * ((rstd (xmid (vec md g1 b1 g2 b2) (X i) (M i))) / (var (xmid (vec md g1 b1 g2 b2) (X i) (M i)))))) / 1024 := by
  unfold val_main_v202
  rw [r_v196 X M T md g1 b1 g2 b2 wi wo, r_v201 X M T md g1 b1 g2 b2 wi wo]
  exact hostDivf_up _ _ fun i _ j _ => by norm_num

theorem r_v203 : val_main_v203 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up1 8192 fun i => ((∑ k26 ∈ range 1024, ((dev (xmid (vec md g1 b1 g2 b2) (X i) (M i)) k26) * ((dh2 (vec md g1 b1 g2 b2) wi wo (X i) (M i) (T i) k26) * (1 + ((vec md g1 b1 g2 b2) 4 k26))))) * ((-(1 / 2)) * ((rstd (xmid (vec md g1 b1 g2 b2) (X i) (M i))) / (var (xmid (vec md g1 b1 g2 b2) (X i) (M i)))))) / 1024 := by
  unfold val_main_v203 val_main_cst_52
  rw [r_v202 X M T md g1 b1 g2 b2 wi wo]
  exact (host_sum_rows_up _ _ _ (by decide)).trans (up1_congr fun i _ => sum_range_one _)

theorem r_v204 : val_main_v204 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 1024 fun i _ => ((∑ k26 ∈ range 1024, ((dev (xmid (vec md g1 b1 g2 b2) (X i) (M i)) k26) * ((dh2 (vec md g1 b1 g2 b2) wi wo (X i) (M i) (T i) k26) * (1 + ((vec md g1 b1 g2 b2) 4 k26))))) * ((-(1 / 2)) * ((rstd (xmid (vec md g1 b1 g2 b2) (X i) (M i))) / (var (xmid (vec md g1 b1 g2 b2) (X i) (M i)))))) / 1024 := by
  unfold val_main_v204
  rw [r_v203 X M T md g1 b1 g2 b2 wi wo]
  exact host_col_up _ _

theorem r_v205 : val_main_v205 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 1024 fun i j => (((∑ k26 ∈ range 1024, ((dev (xmid (vec md g1 b1 g2 b2) (X i) (M i)) k26) * ((dh2 (vec md g1 b1 g2 b2) wi wo (X i) (M i) (T i) k26) * (1 + ((vec md g1 b1 g2 b2) 4 k26))))) * ((-(1 / 2)) * ((rstd (xmid (vec md g1 b1 g2 b2) (X i) (M i))) / (var (xmid (vec md g1 b1 g2 b2) (X i) (M i)))))) / 1024) * (2 * (dev (xmid (vec md g1 b1 g2 b2) (X i) (M i)) j)) := by
  unfold val_main_v205
  rw [r_v204 X M T md g1 b1 g2 b2 wi wo, r_v51 X M T md g1 b1 g2 b2 wi wo]
  exact mulf_up _ _

theorem r_v206 : val_main_v206 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 1024 fun i j => -((((∑ k26 ∈ range 1024, ((dev (xmid (vec md g1 b1 g2 b2) (X i) (M i)) k26) * ((dh2 (vec md g1 b1 g2 b2) wi wo (X i) (M i) (T i) k26) * (1 + ((vec md g1 b1 g2 b2) 4 k26))))) * ((-(1 / 2)) * ((rstd (xmid (vec md g1 b1 g2 b2) (X i) (M i))) / (var (xmid (vec md g1 b1 g2 b2) (X i) (M i)))))) / 1024) * (2 * (dev (xmid (vec md g1 b1 g2 b2) (X i) (M i)) j))) := by
  unfold val_main_v206
  rw [r_v205 X M T md g1 b1 g2 b2 wi wo]
  exact negf_up _

theorem r_v207 : val_main_v207 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up1 8192 fun i => ∑ k29 ∈ range 1024, (-((((∑ k26 ∈ range 1024, ((dev (xmid (vec md g1 b1 g2 b2) (X i) (M i)) k26) * ((dh2 (vec md g1 b1 g2 b2) wi wo (X i) (M i) (T i) k26) * (1 + ((vec md g1 b1 g2 b2) 4 k26))))) * ((-(1 / 2)) * ((rstd (xmid (vec md g1 b1 g2 b2) (X i) (M i))) / (var (xmid (vec md g1 b1 g2 b2) (X i) (M i)))))) / 1024) * (2 * (dev (xmid (vec md g1 b1 g2 b2) (X i) (M i)) k29)))) := by
  unfold val_main_v207 val_main_cst_53
  rw [r_v206 X M T md g1 b1 g2 b2 wi wo]
  exact host_sum_rows_up _ _ _ (by decide)

theorem r_v208 : val_main_v208 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 1 fun i _ => ∑ k29 ∈ range 1024, (-((((∑ k26 ∈ range 1024, ((dev (xmid (vec md g1 b1 g2 b2) (X i) (M i)) k26) * ((dh2 (vec md g1 b1 g2 b2) wi wo (X i) (M i) (T i) k26) * (1 + ((vec md g1 b1 g2 b2) 4 k26))))) * ((-(1 / 2)) * ((rstd (xmid (vec md g1 b1 g2 b2) (X i) (M i))) / (var (xmid (vec md g1 b1 g2 b2) (X i) (M i)))))) / 1024) * (2 * (dev (xmid (vec md g1 b1 g2 b2) (X i) (M i)) k29)))) := by
  unfold val_main_v208
  rw [r_v207 X M T md g1 b1 g2 b2 wi wo]
  exact cast_col_up _ _

theorem r_v209 : val_main_v209 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 1024 fun i j => ((alpha * (dr2 (vec md g1 b1 g2 b2) wi wo (X i) (M i) (T i) j)) + (((dh2 (vec md g1 b1 g2 b2) wi wo (X i) (M i) (T i) j) * (1 + ((vec md g1 b1 g2 b2) 4 j))) * (rstd (xmid (vec md g1 b1 g2 b2) (X i) (M i))))) + ((((∑ k26 ∈ range 1024, ((dev (xmid (vec md g1 b1 g2 b2) (X i) (M i)) k26) * ((dh2 (vec md g1 b1 g2 b2) wi wo (X i) (M i) (T i) k26) * (1 + ((vec md g1 b1 g2 b2) 4 k26))))) * ((-(1 / 2)) * ((rstd (xmid (vec md g1 b1 g2 b2) (X i) (M i))) / (var (xmid (vec md g1 b1 g2 b2) (X i) (M i)))))) / 1024) * (2 * (dev (xmid (vec md g1 b1 g2 b2) (X i) (M i)) j))) := by
  unfold val_main_v209
  rw [r_v200 X M T md g1 b1 g2 b2 wi wo, r_v205 X M T md g1 b1 g2 b2 wi wo]
  exact addf_up _ _

theorem r_v210 : val_main_v210 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 1 fun i _ => (∑ k27 ∈ range 1024, (-(((dh2 (vec md g1 b1 g2 b2) wi wo (X i) (M i) (T i) k27) * (1 + ((vec md g1 b1 g2 b2) 4 k27))) * (rstd (xmid (vec md g1 b1 g2 b2) (X i) (M i)))))) + (∑ k29 ∈ range 1024, (-((((∑ k26 ∈ range 1024, ((dev (xmid (vec md g1 b1 g2 b2) (X i) (M i)) k26) * ((dh2 (vec md g1 b1 g2 b2) wi wo (X i) (M i) (T i) k26) * (1 + ((vec md g1 b1 g2 b2) 4 k26))))) * ((-(1 / 2)) * ((rstd (xmid (vec md g1 b1 g2 b2) (X i) (M i))) / (var (xmid (vec md g1 b1 g2 b2) (X i) (M i)))))) / 1024) * (2 * (dev (xmid (vec md g1 b1 g2 b2) (X i) (M i)) k29))))) := by
  unfold val_main_v210
  rw [r_v199 X M T md g1 b1 g2 b2 wi wo, r_v208 X M T md g1 b1 g2 b2 wi wo]
  exact addf_up _ _

theorem r_v211 : val_main_v211 (F := Ideal)
    = up2 8192 1 fun _ _ => 1024 := by
  unfold val_main_v211 val_main_cst_54
  exact host_splat_up _ _ word_1024

theorem r_v212 : val_main_v212 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 1 fun i _ => ((∑ k27 ∈ range 1024, (-(((dh2 (vec md g1 b1 g2 b2) wi wo (X i) (M i) (T i) k27) * (1 + ((vec md g1 b1 g2 b2) 4 k27))) * (rstd (xmid (vec md g1 b1 g2 b2) (X i) (M i)))))) + (∑ k29 ∈ range 1024, (-((((∑ k26 ∈ range 1024, ((dev (xmid (vec md g1 b1 g2 b2) (X i) (M i)) k26) * ((dh2 (vec md g1 b1 g2 b2) wi wo (X i) (M i) (T i) k26) * (1 + ((vec md g1 b1 g2 b2) 4 k26))))) * ((-(1 / 2)) * ((rstd (xmid (vec md g1 b1 g2 b2) (X i) (M i))) / (var (xmid (vec md g1 b1 g2 b2) (X i) (M i)))))) / 1024) * (2 * (dev (xmid (vec md g1 b1 g2 b2) (X i) (M i)) k29)))))) / 1024 := by
  unfold val_main_v212
  rw [r_v210 X M T md g1 b1 g2 b2 wi wo, r_v211 X M T md g1 b1 g2 b2 wi wo]
  exact hostDivf_up _ _ fun i _ j _ => by norm_num

theorem r_v213 : val_main_v213 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up1 8192 fun i => ((∑ k27 ∈ range 1024, (-(((dh2 (vec md g1 b1 g2 b2) wi wo (X i) (M i) (T i) k27) * (1 + ((vec md g1 b1 g2 b2) 4 k27))) * (rstd (xmid (vec md g1 b1 g2 b2) (X i) (M i)))))) + (∑ k29 ∈ range 1024, (-((((∑ k26 ∈ range 1024, ((dev (xmid (vec md g1 b1 g2 b2) (X i) (M i)) k26) * ((dh2 (vec md g1 b1 g2 b2) wi wo (X i) (M i) (T i) k26) * (1 + ((vec md g1 b1 g2 b2) 4 k26))))) * ((-(1 / 2)) * ((rstd (xmid (vec md g1 b1 g2 b2) (X i) (M i))) / (var (xmid (vec md g1 b1 g2 b2) (X i) (M i)))))) / 1024) * (2 * (dev (xmid (vec md g1 b1 g2 b2) (X i) (M i)) k29)))))) / 1024 := by
  unfold val_main_v213 val_main_cst_55
  rw [r_v212 X M T md g1 b1 g2 b2 wi wo]
  exact (host_sum_rows_up _ _ _ (by decide)).trans (up1_congr fun i _ => sum_range_one _)

theorem r_v214 : val_main_v214 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 1024 fun i _ => ((∑ k27 ∈ range 1024, (-(((dh2 (vec md g1 b1 g2 b2) wi wo (X i) (M i) (T i) k27) * (1 + ((vec md g1 b1 g2 b2) 4 k27))) * (rstd (xmid (vec md g1 b1 g2 b2) (X i) (M i)))))) + (∑ k29 ∈ range 1024, (-((((∑ k26 ∈ range 1024, ((dev (xmid (vec md g1 b1 g2 b2) (X i) (M i)) k26) * ((dh2 (vec md g1 b1 g2 b2) wi wo (X i) (M i) (T i) k26) * (1 + ((vec md g1 b1 g2 b2) 4 k26))))) * ((-(1 / 2)) * ((rstd (xmid (vec md g1 b1 g2 b2) (X i) (M i))) / (var (xmid (vec md g1 b1 g2 b2) (X i) (M i)))))) / 1024) * (2 * (dev (xmid (vec md g1 b1 g2 b2) (X i) (M i)) k29)))))) / 1024 := by
  unfold val_main_v214
  rw [r_v213 X M T md g1 b1 g2 b2 wi wo]
  exact host_col_up _ _

theorem r_v215 : val_main_v215 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 1024 fun i j => dxmid (vec md g1 b1 g2 b2) wi wo (X i) (M i) (T i) j := by
  unfold val_main_v215
  rw [r_v209 X M T md g1 b1 g2 b2 wi wo, r_v214 X M T md g1 b1 g2 b2 wi wo]
  exact (addf_up _ _).trans (up2_congr fun i _ j _ => (shuffle _ _ _ _).trans (congrArg (· + alpha * dr2 (vec md g1 b1 g2 b2) wi wo (X i) (M i) (T i) j) (nrmBwd_eq (fun k => dh2 (vec md g1 b1 g2 b2) wi wo (X i) (M i) (T i) k * (1 + (vec md g1 b1 g2 b2) 4 k)) (xmid (vec md g1 b1 g2 b2) (X i) (M i)) j)))

theorem r_v216 : val_main_v216 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up1 1024 fun i => ∑ k31 ∈ range 8192, (dxmid (vec md g1 b1 g2 b2) wi wo (X k31) (M k31) (T k31) i) := by
  unfold val_main_v216 val_main_cst_56
  rw [r_v215 X M T md g1 b1 g2 b2 wi wo]
  exact host_sum_cols_up _ _ _ (by decide)

theorem r_v217 : val_main_v217 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 1 1024 fun _ j => ∑ k31 ∈ range 8192, (dxmid (vec md g1 b1 g2 b2) wi wo (X k31) (M k31) (T k31) j) := by
  unfold val_main_v217
  rw [r_v216 X M T md g1 b1 g2 b2 wi wo]
  exact cast_row_up _ _

theorem r_v218 : val_main_v218 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up1 1024 fun i => ∑ k31 ∈ range 8192, (dxmid (vec md g1 b1 g2 b2) wi wo (X k31) (M k31) (T k31) i) := by
  unfold val_main_v218 val_main_cst_57
  rw [r_v217 X M T md g1 b1 g2 b2 wi wo]
  exact (host_sum_cols_up _ _ _ (by decide)).trans (up1_congr fun i _ => sum_range_one _)

theorem r_v219 : val_main_v219 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 1024 fun i j => dxmid (vec md g1 b1 g2 b2) wi wo (X i) (M i) (T i) j * nrm (r1 (vec md g1 b1 g2 b2) (X i) (M i)) j := by
  unfold val_main_v219
  rw [r_v36 X M T md g1 b1 g2 b2 wi wo, r_v215 X M T md g1 b1 g2 b2 wi wo]
  exact (mulf_up _ _).trans (up2_congr fun i _ j _ => mul_comm _ _)

theorem r_v220 : val_main_v220 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up1 1024 fun i => ∑ k33 ∈ range 8192, (dxmid (vec md g1 b1 g2 b2) wi wo (X k33) (M k33) (T k33) i * nrm (r1 (vec md g1 b1 g2 b2) (X k33) (M k33)) i) := by
  unfold val_main_v220 val_main_cst_58
  rw [r_v219 X M T md g1 b1 g2 b2 wi wo]
  exact host_sum_cols_up _ _ _ (by decide)

theorem r_v221 : val_main_v221 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 1 1024 fun _ j => ∑ k33 ∈ range 8192, (dxmid (vec md g1 b1 g2 b2) wi wo (X k33) (M k33) (T k33) j * nrm (r1 (vec md g1 b1 g2 b2) (X k33) (M k33)) j) := by
  unfold val_main_v221
  rw [r_v220 X M T md g1 b1 g2 b2 wi wo]
  exact cast_row_up _ _

theorem r_v222 : val_main_v222 (F := Ideal) (up2 1 1024 g1)
    = up2 8192 1024 fun _ j => (vec md g1 b1 g2 b2) 1 j := by
  unfold val_main_v222
  rw [r_v37 X M T md g1 b1 g2 b2 wi wo]
  exact host_rows_up _ _

theorem r_v223 : val_main_v223 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 1024 fun i j => (dxmid (vec md g1 b1 g2 b2) wi wo (X i) (M i) (T i) j) * ((vec md g1 b1 g2 b2) 1 j) := by
  unfold val_main_v223
  rw [r_v215 X M T md g1 b1 g2 b2 wi wo, r_v222 X M T md g1 b1 g2 b2 wi wo]
  exact mulf_up _ _

theorem r_v224 : val_main_v224 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up1 1024 fun i => ∑ k33 ∈ range 8192, (dxmid (vec md g1 b1 g2 b2) wi wo (X k33) (M k33) (T k33) i * nrm (r1 (vec md g1 b1 g2 b2) (X k33) (M k33)) i) := by
  unfold val_main_v224 val_main_cst_59
  rw [r_v221 X M T md g1 b1 g2 b2 wi wo]
  exact (host_sum_cols_up _ _ _ (by decide)).trans (up1_congr fun i _ => sum_range_one _)

theorem r_v225 : val_main_v225 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 1024 fun i j => (dev (r1 (vec md g1 b1 g2 b2) (X i) (M i)) j) * ((dxmid (vec md g1 b1 g2 b2) wi wo (X i) (M i) (T i) j) * ((vec md g1 b1 g2 b2) 1 j)) := by
  unfold val_main_v225
  rw [r_v28 X M T md g1 b1 g2 b2 wi wo, r_v223 X M T md g1 b1 g2 b2 wi wo]
  exact mulf_up _ _

theorem r_v226 : val_main_v226 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up1 8192 fun i => ∑ k35 ∈ range 1024, ((dev (r1 (vec md g1 b1 g2 b2) (X i) (M i)) k35) * ((dxmid (vec md g1 b1 g2 b2) wi wo (X i) (M i) (T i) k35) * ((vec md g1 b1 g2 b2) 1 k35))) := by
  unfold val_main_v226 val_main_cst_60
  rw [r_v225 X M T md g1 b1 g2 b2 wi wo]
  exact host_sum_rows_up _ _ _ (by decide)

theorem r_v227 : val_main_v227 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 1 fun i _ => ∑ k35 ∈ range 1024, ((dev (r1 (vec md g1 b1 g2 b2) (X i) (M i)) k35) * ((dxmid (vec md g1 b1 g2 b2) wi wo (X i) (M i) (T i) k35) * ((vec md g1 b1 g2 b2) 1 k35))) := by
  unfold val_main_v227
  rw [r_v226 X M T md g1 b1 g2 b2 wi wo]
  exact cast_col_up _ _

theorem r_v228 : val_main_v228 (F := Ideal) (up2 8192 1024 X) (up2 8192 1024 M) (up2 6 1024 md)
    = up2 8192 1024 fun i _ => rstd (r1 (vec md g1 b1 g2 b2) (X i) (M i)) := by
  unfold val_main_v228
  rw [r_v31 X M T md g1 b1 g2 b2 wi wo]
  exact host_cols_up _ _

theorem r_v229 : val_main_v229 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 1024 fun i j => ((dxmid (vec md g1 b1 g2 b2) wi wo (X i) (M i) (T i) j) * ((vec md g1 b1 g2 b2) 1 j)) * (rstd (r1 (vec md g1 b1 g2 b2) (X i) (M i))) := by
  unfold val_main_v229
  rw [r_v223 X M T md g1 b1 g2 b2 wi wo, r_v228 X M T md g1 b1 g2 b2 wi wo]
  exact mulf_up _ _

theorem r_v230 : val_main_v230 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 1 fun i _ => (∑ k35 ∈ range 1024, ((dev (r1 (vec md g1 b1 g2 b2) (X i) (M i)) k35) * ((dxmid (vec md g1 b1 g2 b2) wi wo (X i) (M i) (T i) k35) * ((vec md g1 b1 g2 b2) 1 k35)))) * ((-(1 / 2)) * ((rstd (r1 (vec md g1 b1 g2 b2) (X i) (M i))) / (var (r1 (vec md g1 b1 g2 b2) (X i) (M i))))) := by
  unfold val_main_v230
  rw [r_v227 X M T md g1 b1 g2 b2 wi wo, r_v34 X M T md g1 b1 g2 b2 wi wo]
  exact mulf_up _ _

theorem r_v231 : val_main_v231 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 1024 fun i j => -(((dxmid (vec md g1 b1 g2 b2) wi wo (X i) (M i) (T i) j) * ((vec md g1 b1 g2 b2) 1 j)) * (rstd (r1 (vec md g1 b1 g2 b2) (X i) (M i)))) := by
  unfold val_main_v231
  rw [r_v229 X M T md g1 b1 g2 b2 wi wo]
  exact negf_up _

theorem r_v232 : val_main_v232 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up1 8192 fun i => ∑ k36 ∈ range 1024, (-(((dxmid (vec md g1 b1 g2 b2) wi wo (X i) (M i) (T i) k36) * ((vec md g1 b1 g2 b2) 1 k36)) * (rstd (r1 (vec md g1 b1 g2 b2) (X i) (M i))))) := by
  unfold val_main_v232 val_main_cst_61
  rw [r_v231 X M T md g1 b1 g2 b2 wi wo]
  exact host_sum_rows_up _ _ _ (by decide)

theorem r_v233 : val_main_v233 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 1 fun i _ => ∑ k36 ∈ range 1024, (-(((dxmid (vec md g1 b1 g2 b2) wi wo (X i) (M i) (T i) k36) * ((vec md g1 b1 g2 b2) 1 k36)) * (rstd (r1 (vec md g1 b1 g2 b2) (X i) (M i))))) := by
  unfold val_main_v233
  rw [r_v232 X M T md g1 b1 g2 b2 wi wo]
  exact cast_col_up _ _

theorem r_v234 : val_main_v234 (F := Ideal)
    = up2 8192 1 fun _ _ => 1024 := by
  unfold val_main_v234 val_main_cst_62
  exact host_splat_up _ _ word_1024

theorem r_v235 : val_main_v235 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 1 fun i _ => ((∑ k35 ∈ range 1024, ((dev (r1 (vec md g1 b1 g2 b2) (X i) (M i)) k35) * ((dxmid (vec md g1 b1 g2 b2) wi wo (X i) (M i) (T i) k35) * ((vec md g1 b1 g2 b2) 1 k35)))) * ((-(1 / 2)) * ((rstd (r1 (vec md g1 b1 g2 b2) (X i) (M i))) / (var (r1 (vec md g1 b1 g2 b2) (X i) (M i)))))) / 1024 := by
  unfold val_main_v235
  rw [r_v230 X M T md g1 b1 g2 b2 wi wo, r_v234 X M T md g1 b1 g2 b2 wi wo]
  exact hostDivf_up _ _ fun i _ j _ => by norm_num

theorem r_v236 : val_main_v236 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up1 8192 fun i => ((∑ k35 ∈ range 1024, ((dev (r1 (vec md g1 b1 g2 b2) (X i) (M i)) k35) * ((dxmid (vec md g1 b1 g2 b2) wi wo (X i) (M i) (T i) k35) * ((vec md g1 b1 g2 b2) 1 k35)))) * ((-(1 / 2)) * ((rstd (r1 (vec md g1 b1 g2 b2) (X i) (M i))) / (var (r1 (vec md g1 b1 g2 b2) (X i) (M i)))))) / 1024 := by
  unfold val_main_v236 val_main_cst_63
  rw [r_v235 X M T md g1 b1 g2 b2 wi wo]
  exact (host_sum_rows_up _ _ _ (by decide)).trans (up1_congr fun i _ => sum_range_one _)

theorem r_v237 : val_main_v237 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 1024 fun i _ => ((∑ k35 ∈ range 1024, ((dev (r1 (vec md g1 b1 g2 b2) (X i) (M i)) k35) * ((dxmid (vec md g1 b1 g2 b2) wi wo (X i) (M i) (T i) k35) * ((vec md g1 b1 g2 b2) 1 k35)))) * ((-(1 / 2)) * ((rstd (r1 (vec md g1 b1 g2 b2) (X i) (M i))) / (var (r1 (vec md g1 b1 g2 b2) (X i) (M i)))))) / 1024 := by
  unfold val_main_v237
  rw [r_v236 X M T md g1 b1 g2 b2 wi wo]
  exact host_col_up _ _

theorem r_v238 : val_main_v238 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 1024 fun i j => (((∑ k35 ∈ range 1024, ((dev (r1 (vec md g1 b1 g2 b2) (X i) (M i)) k35) * ((dxmid (vec md g1 b1 g2 b2) wi wo (X i) (M i) (T i) k35) * ((vec md g1 b1 g2 b2) 1 k35)))) * ((-(1 / 2)) * ((rstd (r1 (vec md g1 b1 g2 b2) (X i) (M i))) / (var (r1 (vec md g1 b1 g2 b2) (X i) (M i)))))) / 1024) * (2 * (dev (r1 (vec md g1 b1 g2 b2) (X i) (M i)) j)) := by
  unfold val_main_v238
  rw [r_v237 X M T md g1 b1 g2 b2 wi wo, r_v22 X M T md g1 b1 g2 b2 wi wo]
  exact mulf_up _ _

theorem r_v239 : val_main_v239 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 1024 fun i j => -((((∑ k35 ∈ range 1024, ((dev (r1 (vec md g1 b1 g2 b2) (X i) (M i)) k35) * ((dxmid (vec md g1 b1 g2 b2) wi wo (X i) (M i) (T i) k35) * ((vec md g1 b1 g2 b2) 1 k35)))) * ((-(1 / 2)) * ((rstd (r1 (vec md g1 b1 g2 b2) (X i) (M i))) / (var (r1 (vec md g1 b1 g2 b2) (X i) (M i)))))) / 1024) * (2 * (dev (r1 (vec md g1 b1 g2 b2) (X i) (M i)) j))) := by
  unfold val_main_v239
  rw [r_v238 X M T md g1 b1 g2 b2 wi wo]
  exact negf_up _

theorem r_v240 : val_main_v240 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up1 8192 fun i => ∑ k38 ∈ range 1024, (-((((∑ k35 ∈ range 1024, ((dev (r1 (vec md g1 b1 g2 b2) (X i) (M i)) k35) * ((dxmid (vec md g1 b1 g2 b2) wi wo (X i) (M i) (T i) k35) * ((vec md g1 b1 g2 b2) 1 k35)))) * ((-(1 / 2)) * ((rstd (r1 (vec md g1 b1 g2 b2) (X i) (M i))) / (var (r1 (vec md g1 b1 g2 b2) (X i) (M i)))))) / 1024) * (2 * (dev (r1 (vec md g1 b1 g2 b2) (X i) (M i)) k38)))) := by
  unfold val_main_v240 val_main_cst_64
  rw [r_v239 X M T md g1 b1 g2 b2 wi wo]
  exact host_sum_rows_up _ _ _ (by decide)

theorem r_v241 : val_main_v241 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 1 fun i _ => ∑ k38 ∈ range 1024, (-((((∑ k35 ∈ range 1024, ((dev (r1 (vec md g1 b1 g2 b2) (X i) (M i)) k35) * ((dxmid (vec md g1 b1 g2 b2) wi wo (X i) (M i) (T i) k35) * ((vec md g1 b1 g2 b2) 1 k35)))) * ((-(1 / 2)) * ((rstd (r1 (vec md g1 b1 g2 b2) (X i) (M i))) / (var (r1 (vec md g1 b1 g2 b2) (X i) (M i)))))) / 1024) * (2 * (dev (r1 (vec md g1 b1 g2 b2) (X i) (M i)) k38)))) := by
  unfold val_main_v241
  rw [r_v240 X M T md g1 b1 g2 b2 wi wo]
  exact cast_col_up _ _

theorem r_v242 : val_main_v242 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 1024 fun i j => (((dxmid (vec md g1 b1 g2 b2) wi wo (X i) (M i) (T i) j) * ((vec md g1 b1 g2 b2) 1 j)) * (rstd (r1 (vec md g1 b1 g2 b2) (X i) (M i)))) + ((((∑ k35 ∈ range 1024, ((dev (r1 (vec md g1 b1 g2 b2) (X i) (M i)) k35) * ((dxmid (vec md g1 b1 g2 b2) wi wo (X i) (M i) (T i) k35) * ((vec md g1 b1 g2 b2) 1 k35)))) * ((-(1 / 2)) * ((rstd (r1 (vec md g1 b1 g2 b2) (X i) (M i))) / (var (r1 (vec md g1 b1 g2 b2) (X i) (M i)))))) / 1024) * (2 * (dev (r1 (vec md g1 b1 g2 b2) (X i) (M i)) j))) := by
  unfold val_main_v242
  rw [r_v229 X M T md g1 b1 g2 b2 wi wo, r_v238 X M T md g1 b1 g2 b2 wi wo]
  exact addf_up _ _

theorem r_v243 : val_main_v243 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 1 fun i _ => (∑ k36 ∈ range 1024, (-(((dxmid (vec md g1 b1 g2 b2) wi wo (X i) (M i) (T i) k36) * ((vec md g1 b1 g2 b2) 1 k36)) * (rstd (r1 (vec md g1 b1 g2 b2) (X i) (M i)))))) + (∑ k38 ∈ range 1024, (-((((∑ k35 ∈ range 1024, ((dev (r1 (vec md g1 b1 g2 b2) (X i) (M i)) k35) * ((dxmid (vec md g1 b1 g2 b2) wi wo (X i) (M i) (T i) k35) * ((vec md g1 b1 g2 b2) 1 k35)))) * ((-(1 / 2)) * ((rstd (r1 (vec md g1 b1 g2 b2) (X i) (M i))) / (var (r1 (vec md g1 b1 g2 b2) (X i) (M i)))))) / 1024) * (2 * (dev (r1 (vec md g1 b1 g2 b2) (X i) (M i)) k38))))) := by
  unfold val_main_v243
  rw [r_v233 X M T md g1 b1 g2 b2 wi wo, r_v241 X M T md g1 b1 g2 b2 wi wo]
  exact addf_up _ _

theorem r_v244 : val_main_v244 (F := Ideal)
    = up2 8192 1 fun _ _ => 1024 := by
  unfold val_main_v244 val_main_cst_65
  exact host_splat_up _ _ word_1024

theorem r_v245 : val_main_v245 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 1 fun i _ => ((∑ k36 ∈ range 1024, (-(((dxmid (vec md g1 b1 g2 b2) wi wo (X i) (M i) (T i) k36) * ((vec md g1 b1 g2 b2) 1 k36)) * (rstd (r1 (vec md g1 b1 g2 b2) (X i) (M i)))))) + (∑ k38 ∈ range 1024, (-((((∑ k35 ∈ range 1024, ((dev (r1 (vec md g1 b1 g2 b2) (X i) (M i)) k35) * ((dxmid (vec md g1 b1 g2 b2) wi wo (X i) (M i) (T i) k35) * ((vec md g1 b1 g2 b2) 1 k35)))) * ((-(1 / 2)) * ((rstd (r1 (vec md g1 b1 g2 b2) (X i) (M i))) / (var (r1 (vec md g1 b1 g2 b2) (X i) (M i)))))) / 1024) * (2 * (dev (r1 (vec md g1 b1 g2 b2) (X i) (M i)) k38)))))) / 1024 := by
  unfold val_main_v245
  rw [r_v243 X M T md g1 b1 g2 b2 wi wo, r_v244 X M T md g1 b1 g2 b2 wi wo]
  exact hostDivf_up _ _ fun i _ j _ => by norm_num

theorem r_v246 : val_main_v246 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up1 8192 fun i => ((∑ k36 ∈ range 1024, (-(((dxmid (vec md g1 b1 g2 b2) wi wo (X i) (M i) (T i) k36) * ((vec md g1 b1 g2 b2) 1 k36)) * (rstd (r1 (vec md g1 b1 g2 b2) (X i) (M i)))))) + (∑ k38 ∈ range 1024, (-((((∑ k35 ∈ range 1024, ((dev (r1 (vec md g1 b1 g2 b2) (X i) (M i)) k35) * ((dxmid (vec md g1 b1 g2 b2) wi wo (X i) (M i) (T i) k35) * ((vec md g1 b1 g2 b2) 1 k35)))) * ((-(1 / 2)) * ((rstd (r1 (vec md g1 b1 g2 b2) (X i) (M i))) / (var (r1 (vec md g1 b1 g2 b2) (X i) (M i)))))) / 1024) * (2 * (dev (r1 (vec md g1 b1 g2 b2) (X i) (M i)) k38)))))) / 1024 := by
  unfold val_main_v246 val_main_cst_66
  rw [r_v245 X M T md g1 b1 g2 b2 wi wo]
  exact (host_sum_rows_up _ _ _ (by decide)).trans (up1_congr fun i _ => sum_range_one _)

theorem r_v247 : val_main_v247 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 1024 fun i _ => ((∑ k36 ∈ range 1024, (-(((dxmid (vec md g1 b1 g2 b2) wi wo (X i) (M i) (T i) k36) * ((vec md g1 b1 g2 b2) 1 k36)) * (rstd (r1 (vec md g1 b1 g2 b2) (X i) (M i)))))) + (∑ k38 ∈ range 1024, (-((((∑ k35 ∈ range 1024, ((dev (r1 (vec md g1 b1 g2 b2) (X i) (M i)) k35) * ((dxmid (vec md g1 b1 g2 b2) wi wo (X i) (M i) (T i) k35) * ((vec md g1 b1 g2 b2) 1 k35)))) * ((-(1 / 2)) * ((rstd (r1 (vec md g1 b1 g2 b2) (X i) (M i))) / (var (r1 (vec md g1 b1 g2 b2) (X i) (M i)))))) / 1024) * (2 * (dev (r1 (vec md g1 b1 g2 b2) (X i) (M i)) k38)))))) / 1024 := by
  unfold val_main_v247
  rw [r_v246 X M T md g1 b1 g2 b2 wi wo]
  exact host_col_up _ _

theorem r_v248 : val_main_v248 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 1024 fun i j => dr1 (vec md g1 b1 g2 b2) wi wo (X i) (M i) (T i) j := by
  unfold val_main_v248
  rw [r_v242 X M T md g1 b1 g2 b2 wi wo, r_v247 X M T md g1 b1 g2 b2 wi wo]
  exact (addf_up _ _).trans (up2_congr fun i _ j _ => nrmBwd_eq (fun k => dxmid (vec md g1 b1 g2 b2) wi wo (X i) (M i) (T i) k * (vec md g1 b1 g2 b2) 1 k) (r1 (vec md g1 b1 g2 b2) (X i) (M i)) j)

theorem r_v249 : val_main_v249 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 1024 fun i j => (dr1 (vec md g1 b1 g2 b2) wi wo (X i) (M i) (T i) j) * (M i j) := by
  unfold val_main_v249
  rw [r_v248 X M T md g1 b1 g2 b2 wi wo]
  exact mulf_up _ _

theorem r_v250 : val_main_v250 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up1 1024 fun i => ∑ k40 ∈ range 8192, ((dr1 (vec md g1 b1 g2 b2) wi wo (X k40) (M k40) (T k40) i) * (M k40 i)) := by
  unfold val_main_v250 val_main_cst_67
  rw [r_v249 X M T md g1 b1 g2 b2 wi wo]
  exact host_sum_cols_up _ _ _ (by decide)

theorem r_v251 : val_main_v251 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 1 1024 fun _ j => ∑ k40 ∈ range 8192, ((dr1 (vec md g1 b1 g2 b2) wi wo (X k40) (M k40) (T k40) j) * (M k40 j)) := by
  unfold val_main_v251
  rw [r_v250 X M T md g1 b1 g2 b2 wi wo]
  exact cast_row_up _ _

theorem r_v252 : val_main_v252 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up1 1024 fun i => ∑ k40 ∈ range 8192, ((dr1 (vec md g1 b1 g2 b2) wi wo (X k40) (M k40) (T k40) i) * (M k40 i)) := by
  unfold val_main_v252 val_main_cst_68
  rw [r_v251 X M T md g1 b1 g2 b2 wi wo]
  exact (host_sum_cols_up _ _ _ (by decide)).trans (up1_congr fun i _ => sum_range_one _)

theorem r_v253 : val_main_v253 (F := Ideal)
    = up1 1024 fun _ => 0 := by
  unfold val_main_v253 val_main_cst_69
  exact host_splat1_up _ _ zero_word

theorem r_v254 : val_main_v254 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 1024 fun i j => (err (vec md g1 b1 g2 b2) wi wo (X i) (M i) (T i) j) * (err (vec md g1 b1 g2 b2) wi wo (X i) (M i) (T i) j) := by
  unfold val_main_v254
  rw [r_v128 X M T md g1 b1 g2 b2 wi wo]
  exact mulf_up _ _

theorem r_v255 : val_main_v255 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up1 1024 fun i => ∑ k42 ∈ range 8192, ((err (vec md g1 b1 g2 b2) wi wo (X k42) (M k42) (T k42) i) * (err (vec md g1 b1 g2 b2) wi wo (X k42) (M k42) (T k42) i)) := by
  unfold val_main_v255 val_main_cst_70
  rw [r_v254 X M T md g1 b1 g2 b2 wi wo]
  exact host_sum_cols_up _ _ _ (by decide)

theorem r_v256 : val_main_v256 (F := Ideal) (up2 8192 1024 X) (up2 8192 1024 M) (up2 6 1024 md) (up2 1 1024 g1) (up2 1 1024 b1) (up2 1024 5632 wi)
    = up2 8192 2816 fun i j => act (vec md g1 b1 g2 b2) wi (X i) (M i) j := by
  unfold val_main_v256
  rw [r_v78 X M T md g1 b1 g2 b2 wi wo]
  exact truncf_up _ _

theorem r_v257 : val_main_v257 (F := Ideal) (up2 8192 1024 X) (up2 8192 1024 M) (up2 6 1024 md) (up2 1 1024 g1) (up2 1 1024 b1)
    = up2 8192 1024 fun i j => h2 (vec md g1 b1 g2 b2) (X i) (M i) j := by
  unfold val_main_v257
  rw [r_v73 X M T md g1 b1 g2 b2 wi wo]
  exact truncf_up _ _

theorem r_v258 : val_main_v258 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 5632 fun i j => dff (vec md g1 b1 g2 b2) wi wo (X i) (M i) (T i) j := by
  unfold val_main_v258
  rw [r_v180 X M T md g1 b1 g2 b2 wi wo]
  exact truncf_up _ _

theorem r_v259 : val_main_v259 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 8192 1024 fun i j => df (vec md g1 b1 g2 b2) wi wo (X i) (M i) (T i) j := by
  unfold val_main_v259
  rw [r_v169 X M T md g1 b1 g2 b2 wi wo]
  exact truncf_up _ _

theorem r_v260 : val_main_v260 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 1 1024 fun _ j => ∑ k42 ∈ range 8192, ((err (vec md g1 b1 g2 b2) wi wo (X k42) (M k42) (T k42) j) * (err (vec md g1 b1 g2 b2) wi wo (X k42) (M k42) (T k42) j)) := by
  unfold val_main_v260
  rw [r_v255 X M T md g1 b1 g2 b2 wi wo]
  exact host_row_up _ _

theorem r_v261 : val_main_v261 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 1 1024 fun _ j => ∑ k11 ∈ range 8192, (dy (vec md g1 b1 g2 b2) wi wo (X k11) (M k11) (T k11) j * nrm (r2 (vec md g1 b1 g2 b2) wi wo (X k11) (M k11)) j) := by
  unfold val_main_v261
  rw [r_v143 X M T md g1 b1 g2 b2 wi wo]
  exact host_row_up _ _

theorem r_v262 : val_main_v262 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 1 1024 fun _ j => ∑ k9 ∈ range 8192, (dy (vec md g1 b1 g2 b2) wi wo (X k9) (M k9) (T k9) j) := by
  unfold val_main_v262
  rw [r_v137 X M T md g1 b1 g2 b2 wi wo]
  exact host_row_up _ _

theorem r_v263 : val_main_v263 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 1 1024 fun _ j => ∑ k18 ∈ range 8192, ((dr2 (vec md g1 b1 g2 b2) wi wo (X k18) (M k18) (T k18) j) * (ff (vec md g1 b1 g2 b2) wi wo (X k18) (M k18) j)) := by
  unfold val_main_v263
  rw [r_v173 X M T md g1 b1 g2 b2 wi wo]
  exact host_row_up _ _

theorem r_v264 : val_main_v264 (F := Ideal)
    = up2 1 1024 fun _ _ => 0 := by
  unfold val_main_v264
  rw [r_v253 X M T md g1 b1 g2 b2 wi wo]
  exact host_row_up _ _

theorem r_v265 : val_main_v265 (F := Ideal)
    = up2 1 1024 fun _ _ => 0 := by
  unfold val_main_v265
  rw [r_v253 X M T md g1 b1 g2 b2 wi wo]
  exact host_row_up _ _

theorem r_v266 : val_main_v266 (F := Ideal)
    = up2 1 1024 fun _ _ => 0 := by
  unfold val_main_v266
  rw [r_v253 X M T md g1 b1 g2 b2 wi wo]
  exact host_row_up _ _

theorem r_v267 : val_main_v267 (F := Ideal)
    = up2 1 1024 fun _ _ => 0 := by
  unfold val_main_v267
  rw [r_v253 X M T md g1 b1 g2 b2 wi wo]
  exact host_row_up _ _

theorem r_v268 : val_main_v268 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 1 1024 fun _ j => ∑ k24 ∈ range 8192, (dh2 (vec md g1 b1 g2 b2) wi wo (X k24) (M k24) (T k24) j * nrm (xmid (vec md g1 b1 g2 b2) (X k24) (M k24)) j) := by
  unfold val_main_v268
  rw [r_v190 X M T md g1 b1 g2 b2 wi wo]
  exact host_row_up _ _

theorem r_v269 : val_main_v269 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 1 1024 fun _ j => ∑ k22 ∈ range 8192, (dh2 (vec md g1 b1 g2 b2) wi wo (X k22) (M k22) (T k22) j) := by
  unfold val_main_v269
  rw [r_v184 X M T md g1 b1 g2 b2 wi wo]
  exact host_row_up _ _

theorem r_v270 : val_main_v270 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 1 1024 fun _ j => ∑ k33 ∈ range 8192, (dxmid (vec md g1 b1 g2 b2) wi wo (X k33) (M k33) (T k33) j * nrm (r1 (vec md g1 b1 g2 b2) (X k33) (M k33)) j) := by
  unfold val_main_v270
  rw [r_v224 X M T md g1 b1 g2 b2 wi wo]
  exact host_row_up _ _

theorem r_v271 : val_main_v271 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 1 1024 fun _ j => ∑ k31 ∈ range 8192, (dxmid (vec md g1 b1 g2 b2) wi wo (X k31) (M k31) (T k31) j) := by
  unfold val_main_v271
  rw [r_v218 X M T md g1 b1 g2 b2 wi wo]
  exact host_row_up _ _

theorem r_v272 : val_main_v272 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 1 1024 fun _ j => ∑ k40 ∈ range 8192, ((dr1 (vec md g1 b1 g2 b2) wi wo (X k40) (M k40) (T k40) j) * (M k40 j)) := by
  unfold val_main_v272
  rw [r_v252 X M T md g1 b1 g2 b2 wi wo]
  exact host_row_up _ _

theorem r_v273 : val_main_v273 (F := Ideal)
    = up2 1 1024 fun _ _ => 0 := by
  unfold val_main_v273
  rw [r_v253 X M T md g1 b1 g2 b2 wi wo]
  exact host_row_up _ _

theorem r_v274 : val_main_v274 (F := Ideal)
    = up2 1 1024 fun _ _ => 0 := by
  unfold val_main_v274
  rw [r_v253 X M T md g1 b1 g2 b2 wi wo]
  exact host_row_up _ _

theorem r_v275 : val_main_v275 (F := Ideal)
    = up2 1 1024 fun _ _ => 0 := by
  unfold val_main_v275
  rw [r_v253 X M T md g1 b1 g2 b2 wi wo]
  exact host_row_up _ _

omit X M T md g1 b1 g2 b2 wi wo in
/-- Sixteen rows stacked. -/
theorem stack16 (f0 f1 f2 f3 f4 f5 f6 f7 f8 f9 f10 f11 f12 f13 f14 f15 g : ℕ → ℕ → ℝ) (hc)
    (e0 : ∀ j, f0 0 j = g 0 j) (e1 : ∀ j, f1 0 j = g 1 j) (e2 : ∀ j, f2 0 j = g 2 j) (e3 : ∀ j, f3 0 j = g 3 j) (e4 : ∀ j, f4 0 j = g 4 j) (e5 : ∀ j, f5 0 j = g 5 j) (e6 : ∀ j, f6 0 j = g 6 j) (e7 : ∀ j, f7 0 j = g 7 j) (e8 : ∀ j, f8 0 j = g 8 j) (e9 : ∀ j, f9 0 j = g 9 j) (e10 : ∀ j, f10 0 j = g 10 j) (e11 : ∀ j, f11 0 j = g 11 j) (e12 : ∀ j, f12 0 j = g 12 j) (e13 : ∀ j, f13 0 j = g 13 j) (e14 : ∀ j, f14 0 j = g 14 j) (e15 : ∀ j, f15 0 j = g 15 j) :
    concatenate S16x1024 0 [⟨S1x1024, up2 1 1024 f0⟩, ⟨S1x1024, up2 1 1024 f1⟩, ⟨S1x1024, up2 1 1024 f2⟩, ⟨S1x1024, up2 1 1024 f3⟩, ⟨S1x1024, up2 1 1024 f4⟩, ⟨S1x1024, up2 1 1024 f5⟩, ⟨S1x1024, up2 1 1024 f6⟩, ⟨S1x1024, up2 1 1024 f7⟩, ⟨S1x1024, up2 1 1024 f8⟩, ⟨S1x1024, up2 1 1024 f9⟩, ⟨S1x1024, up2 1 1024 f10⟩, ⟨S1x1024, up2 1 1024 f11⟩, ⟨S1x1024, up2 1 1024 f12⟩, ⟨S1x1024, up2 1 1024 f13⟩, ⟨S1x1024, up2 1 1024 f14⟩, ⟨S1x1024, up2 1 1024 f15⟩] hc = up2 16 1024 g := by
  funext j
  concat_tiles i h
  · show ((f0 (i 0).val (i 1).val : ℝ) : EReal) = ((g (j 0).val (j 1).val : ℝ) : EReal)
    rw [h, h0, h1]
    exact congrArg _ (e0 _)
  · show ((f1 (i 0).val (i 1).val : ℝ) : EReal) = ((g (j 0).val (j 1).val : ℝ) : EReal)
    rw [h, h0, h1]
    exact congrArg _ (e1 _)
  · show ((f2 (i 0).val (i 1).val : ℝ) : EReal) = ((g (j 0).val (j 1).val : ℝ) : EReal)
    rw [h, h0, h1]
    exact congrArg _ (e2 _)
  · show ((f3 (i 0).val (i 1).val : ℝ) : EReal) = ((g (j 0).val (j 1).val : ℝ) : EReal)
    rw [h, h0, h1]
    exact congrArg _ (e3 _)
  · show ((f4 (i 0).val (i 1).val : ℝ) : EReal) = ((g (j 0).val (j 1).val : ℝ) : EReal)
    rw [h, h0, h1]
    exact congrArg _ (e4 _)
  · show ((f5 (i 0).val (i 1).val : ℝ) : EReal) = ((g (j 0).val (j 1).val : ℝ) : EReal)
    rw [h, h0, h1]
    exact congrArg _ (e5 _)
  · show ((f6 (i 0).val (i 1).val : ℝ) : EReal) = ((g (j 0).val (j 1).val : ℝ) : EReal)
    rw [h, h0, h1]
    exact congrArg _ (e6 _)
  · show ((f7 (i 0).val (i 1).val : ℝ) : EReal) = ((g (j 0).val (j 1).val : ℝ) : EReal)
    rw [h, h0, h1]
    exact congrArg _ (e7 _)
  · show ((f8 (i 0).val (i 1).val : ℝ) : EReal) = ((g (j 0).val (j 1).val : ℝ) : EReal)
    rw [h, h0, h1]
    exact congrArg _ (e8 _)
  · show ((f9 (i 0).val (i 1).val : ℝ) : EReal) = ((g (j 0).val (j 1).val : ℝ) : EReal)
    rw [h, h0, h1]
    exact congrArg _ (e9 _)
  · show ((f10 (i 0).val (i 1).val : ℝ) : EReal) = ((g (j 0).val (j 1).val : ℝ) : EReal)
    rw [h, h0, h1]
    exact congrArg _ (e10 _)
  · show ((f11 (i 0).val (i 1).val : ℝ) : EReal) = ((g (j 0).val (j 1).val : ℝ) : EReal)
    rw [h, h0, h1]
    exact congrArg _ (e11 _)
  · show ((f12 (i 0).val (i 1).val : ℝ) : EReal) = ((g (j 0).val (j 1).val : ℝ) : EReal)
    rw [h, h0, h1]
    exact congrArg _ (e12 _)
  · show ((f13 (i 0).val (i 1).val : ℝ) : EReal) = ((g (j 0).val (j 1).val : ℝ) : EReal)
    rw [h, h0, h1]
    exact congrArg _ (e13 _)
  · show ((f14 (i 0).val (i 1).val : ℝ) : EReal) = ((g (j 0).val (j 1).val : ℝ) : EReal)
    rw [h, h0, h1]
    exact congrArg _ (e14 _)
  · show ((f15 (i 0).val (i 1).val : ℝ) : EReal) = ((g (j 0).val (j 1).val : ℝ) : EReal)
    rw [h, h0, h1]
    exact congrArg _ (e15 _)

/-- The sixteen rows of sums over the tokens. -/
theorem r_v276 : val_main_v276 (F := Ideal) (up2 8192 1024 X) (up2 8192 1024 M) (up2 8192 1024 T) (up2 6 1024 md) (up2 1 1024 g1) (up2 1 1024 b1) (up2 1 1024 g2) (up2 1 1024 b2) (up2 1024 5632 wi) (up2 2816 1024 wo)
    = up2 16 1024 fun s j => ∑ i ∈ range 8192, stat (vec md g1 b1 g2 b2) wi wo (X i) (M i) (T i) s j := by
  unfold val_main_v276
  rw [r_v260 X M T md g1 b1 g2 b2 wi wo, r_v261 X M T md g1 b1 g2 b2 wi wo, r_v262 X M T md g1 b1 g2 b2 wi wo, r_v263 X M T md g1 b1 g2 b2 wi wo, r_v264 X M T md g1 b1 g2 b2 wi wo, r_v265 X M T md g1 b1 g2 b2 wi wo, r_v266 X M T md g1 b1 g2 b2 wi wo, r_v267 X M T md g1 b1 g2 b2 wi wo, r_v268 X M T md g1 b1 g2 b2 wi wo, r_v269 X M T md g1 b1 g2 b2 wi wo, r_v270 X M T md g1 b1 g2 b2 wi wo, r_v271 X M T md g1 b1 g2 b2 wi wo, r_v272 X M T md g1 b1 g2 b2 wi wo, r_v273 X M T md g1 b1 g2 b2 wi wo, r_v274 X M T md g1 b1 g2 b2 wi wo, r_v275 X M T md g1 b1 g2 b2 wi wo]
  refine stack16 _ _ _ _ _ _ _ _ _ _ _ _ _ _ _ _ _ _ ?_ ?_ ?_ ?_ ?_ ?_ ?_ ?_ ?_ ?_ ?_ ?_ ?_ ?_ ?_ ?_ <;> intro j
  · rfl
  · rfl
  · rfl
  · rfl
  · exact (sum_const_zero (s := range 8192)).symm
  · exact (sum_const_zero (s := range 8192)).symm
  · exact (sum_const_zero (s := range 8192)).symm
  · exact (sum_const_zero (s := range 8192)).symm
  · rfl
  · rfl
  · rfl
  · rfl
  · rfl
  · exact (sum_const_zero (s := range 8192)).symm
  · exact (sum_const_zero (s := range 8192)).symm
  · exact (sum_const_zero (s := range 8192)).symm

end Cert.Ref

end
-- ==== Proof.Close.lean ====
/-
  The value claim, from the two sides.

  On finite arguments the call leaves its six outputs at the arrays of `Spec`'s real functions (`Arrays`), and the
  reference leaves its six results at the same arrays (`Ref3`).
-/
module

public import proofs.«01_k».proof.Defs
public import proofs.«01_k».proof.Proof.Finite
public import proofs.«01_k».proof.Proof.Ref3
public import proofs.«01_k».proof.Proof.Gen.ReferenceIdeal.Run
public import proofs.«01_k».proof.Proof.Gen.ReferenceIdeal.Read

@[expose] public section

noncomputable section

namespace Cert.Close

open Idealize.ShloMosaic Idealize.ShloMosaic.TcCoe Idealize.SL.Sem Cert.Lift Cert.Arrays Cert.Spec

/-- The precondition on one device: the arguments are arrays of real functions. -/
theorem exists_args (m : (ℓ : Loc Cert.KernelIdeal.nD Cert.KernelIdeal.τ Cert.KernelIdeal.sig) → Buf (Elt Ideal) ℓ)
    [Cert.Pre_finite.Facts] (hp : Cert.Pre_KernelIdeal_finite m) (c : Dev Cert.KernelIdeal.nD) :
    ∃ X M T md g1 b1 g2 b2 wi wo, Args m c X M T md g1 b1 g2 b2 wi wo := by
  obtain ⟨⟨X, h0⟩, ⟨M, h1⟩, ⟨T, h2⟩, ⟨md, h3⟩, ⟨g1, h4⟩, ⟨b1, h5⟩, ⟨g2, h6⟩, ⟨b2, h7⟩, ⟨wi, h8⟩, ⟨wo, h9⟩⟩ := Cert.Finite.args_real _ _ _ _ _ _ _ _ _ _ (hp c)
  exact ⟨X, M, T, md, g1, b1, g2, b2, wi, wo, h0, h1, h2, h3, h4, h5, h6, h7, h8, h9⟩

open Cert.ReferenceIdeal in
/-- The reference's arguments on device `c` are these arrays of real numbers. -/
structure RefArgs (m' : (ℓ : Loc nD τ sig) → Buf (Elt Ideal) ℓ) (c : Dev nD) (X M T md g1 b1 g2 b2 wi wo : ℕ → ℕ → ℝ) : Prop where
  a0 : m' ((c.tc : Thread nD τ).loc main_arg0) = up2 8192 1024 X
  a1 : m' ((c.tc : Thread nD τ).loc main_arg1) = up2 8192 1024 M
  a2 : m' ((c.tc : Thread nD τ).loc main_arg2) = up2 8192 1024 T
  a3 : m' ((c.tc : Thread nD τ).loc main_arg3) = up2 6 1024 md
  a4 : m' ((c.tc : Thread nD τ).loc main_arg4) = up2 1 1024 g1
  a5 : m' ((c.tc : Thread nD τ).loc main_arg5) = up2 1 1024 b1
  a6 : m' ((c.tc : Thread nD τ).loc main_arg6) = up2 1 1024 g2
  a7 : m' ((c.tc : Thread nD τ).loc main_arg7) = up2 1 1024 b2
  a8 : m' ((c.tc : Thread nD τ).loc main_arg8) = up2 1024 5632 wi
  a9 : m' ((c.tc : Thread nD τ).loc main_arg9) = up2 2816 1024 wo

section Reference

open Cert.ReferenceIdeal Idealize.ShloMosaic.StableHlo

variable {m' : (ℓ : Loc nD τ sig) → Buf (Elt Ideal) ℓ} {c : Dev nD} {X M T md g1 b1 g2 b2 wi wo : ℕ → ℕ → ℝ}

theorem ref_256 (h : RefArgs m' c X M T md g1 b1 g2 b2 wi wo) : Read.val_main_v256 (F := Ideal) (launchContents m' c (Proc.devRef .tc main_arg0)) (launchContents m' c (Proc.devRef .tc main_arg1)) (launchContents m' c (Proc.devRef .tc main_arg3)) (launchContents m' c (Proc.devRef .tc main_arg4)) (launchContents m' c (Proc.devRef .tc main_arg5)) (launchContents m' c (Proc.devRef .tc main_arg8))
    = up2 8192 2816 fun i => act (vec md g1 b1 g2 b2) wi (X i) (M i) := by
  rw [launchContents_devRef m' c main_arg0, h.a0, launchContents_devRef m' c main_arg1, h.a1, launchContents_devRef m' c main_arg3, h.a3, launchContents_devRef m' c main_arg4, h.a4, launchContents_devRef m' c main_arg5, h.a5, launchContents_devRef m' c main_arg8, h.a8]
  exact Cert.Ref.r_v256 X M T md g1 b1 g2 b2 wi wo

theorem ref_257 (h : RefArgs m' c X M T md g1 b1 g2 b2 wi wo) : Read.val_main_v257 (F := Ideal) (launchContents m' c (Proc.devRef .tc main_arg0)) (launchContents m' c (Proc.devRef .tc main_arg1)) (launchContents m' c (Proc.devRef .tc main_arg3)) (launchContents m' c (Proc.devRef .tc main_arg4)) (launchContents m' c (Proc.devRef .tc main_arg5))
    = up2 8192 1024 fun i => h2 (vec md g1 b1 g2 b2) (X i) (M i) := by
  rw [launchContents_devRef m' c main_arg0, h.a0, launchContents_devRef m' c main_arg1, h.a1, launchContents_devRef m' c main_arg3, h.a3, launchContents_devRef m' c main_arg4, h.a4, launchContents_devRef m' c main_arg5, h.a5]
  exact Cert.Ref.r_v257 X M T md g1 b1 g2 b2 wi wo

theorem ref_258 (h : RefArgs m' c X M T md g1 b1 g2 b2 wi wo) : Read.val_main_v258 (F := Ideal) (launchContents m' c (Proc.devRef .tc main_arg0)) (launchContents m' c (Proc.devRef .tc main_arg1)) (launchContents m' c (Proc.devRef .tc main_arg2)) (launchContents m' c (Proc.devRef .tc main_arg3)) (launchContents m' c (Proc.devRef .tc main_arg4)) (launchContents m' c (Proc.devRef .tc main_arg5)) (launchContents m' c (Proc.devRef .tc main_arg6)) (launchContents m' c (Proc.devRef .tc main_arg7)) (launchContents m' c (Proc.devRef .tc main_arg8)) (launchContents m' c (Proc.devRef .tc main_arg9))
    = up2 8192 5632 fun i => dff (vec md g1 b1 g2 b2) wi wo (X i) (M i) (T i) := by
  rw [launchContents_devRef m' c main_arg0, h.a0, launchContents_devRef m' c main_arg1, h.a1, launchContents_devRef m' c main_arg2, h.a2, launchContents_devRef m' c main_arg3, h.a3, launchContents_devRef m' c main_arg4, h.a4, launchContents_devRef m' c main_arg5, h.a5, launchContents_devRef m' c main_arg6, h.a6, launchContents_devRef m' c main_arg7, h.a7, launchContents_devRef m' c main_arg8, h.a8, launchContents_devRef m' c main_arg9, h.a9]
  exact Cert.Ref.r_v258 X M T md g1 b1 g2 b2 wi wo

theorem ref_259 (h : RefArgs m' c X M T md g1 b1 g2 b2 wi wo) : Read.val_main_v259 (F := Ideal) (launchContents m' c (Proc.devRef .tc main_arg0)) (launchContents m' c (Proc.devRef .tc main_arg1)) (launchContents m' c (Proc.devRef .tc main_arg2)) (launchContents m' c (Proc.devRef .tc main_arg3)) (launchContents m' c (Proc.devRef .tc main_arg4)) (launchContents m' c (Proc.devRef .tc main_arg5)) (launchContents m' c (Proc.devRef .tc main_arg6)) (launchContents m' c (Proc.devRef .tc main_arg7)) (launchContents m' c (Proc.devRef .tc main_arg8)) (launchContents m' c (Proc.devRef .tc main_arg9))
    = up2 8192 1024 fun i => df (vec md g1 b1 g2 b2) wi wo (X i) (M i) (T i) := by
  rw [launchContents_devRef m' c main_arg0, h.a0, launchContents_devRef m' c main_arg1, h.a1, launchContents_devRef m' c main_arg2, h.a2, launchContents_devRef m' c main_arg3, h.a3, launchContents_devRef m' c main_arg4, h.a4, launchContents_devRef m' c main_arg5, h.a5, launchContents_devRef m' c main_arg6, h.a6, launchContents_devRef m' c main_arg7, h.a7, launchContents_devRef m' c main_arg8, h.a8, launchContents_devRef m' c main_arg9, h.a9]
  exact Cert.Ref.r_v259 X M T md g1 b1 g2 b2 wi wo

theorem ref_248 (h : RefArgs m' c X M T md g1 b1 g2 b2 wi wo) : Read.val_main_v248 (F := Ideal) (launchContents m' c (Proc.devRef .tc main_arg0)) (launchContents m' c (Proc.devRef .tc main_arg1)) (launchContents m' c (Proc.devRef .tc main_arg2)) (launchContents m' c (Proc.devRef .tc main_arg3)) (launchContents m' c (Proc.devRef .tc main_arg4)) (launchContents m' c (Proc.devRef .tc main_arg5)) (launchContents m' c (Proc.devRef .tc main_arg6)) (launchContents m' c (Proc.devRef .tc main_arg7)) (launchContents m' c (Proc.devRef .tc main_arg8)) (launchContents m' c (Proc.devRef .tc main_arg9))
    = up2 8192 1024 fun i => dr1 (vec md g1 b1 g2 b2) wi wo (X i) (M i) (T i) := by
  rw [launchContents_devRef m' c main_arg0, h.a0, launchContents_devRef m' c main_arg1, h.a1, launchContents_devRef m' c main_arg2, h.a2, launchContents_devRef m' c main_arg3, h.a3, launchContents_devRef m' c main_arg4, h.a4, launchContents_devRef m' c main_arg5, h.a5, launchContents_devRef m' c main_arg6, h.a6, launchContents_devRef m' c main_arg7, h.a7, launchContents_devRef m' c main_arg8, h.a8, launchContents_devRef m' c main_arg9, h.a9]
  exact Cert.Ref.r_v248 X M T md g1 b1 g2 b2 wi wo

theorem ref_276 (h : RefArgs m' c X M T md g1 b1 g2 b2 wi wo) : Read.val_main_v276 (F := Ideal) (launchContents m' c (Proc.devRef .tc main_arg0)) (launchContents m' c (Proc.devRef .tc main_arg1)) (launchContents m' c (Proc.devRef .tc main_arg2)) (launchContents m' c (Proc.devRef .tc main_arg3)) (launchContents m' c (Proc.devRef .tc main_arg4)) (launchContents m' c (Proc.devRef .tc main_arg5)) (launchContents m' c (Proc.devRef .tc main_arg6)) (launchContents m' c (Proc.devRef .tc main_arg7)) (launchContents m' c (Proc.devRef .tc main_arg8)) (launchContents m' c (Proc.devRef .tc main_arg9))
    = up2 16 1024 fun s j => ∑ i ∈ Finset.range 8192, stat (vec md g1 b1 g2 b2) wi wo (X i) (M i) (T i) s j := by
  rw [launchContents_devRef m' c main_arg0, h.a0, launchContents_devRef m' c main_arg1, h.a1, launchContents_devRef m' c main_arg2, h.a2, launchContents_devRef m' c main_arg3, h.a3, launchContents_devRef m' c main_arg4, h.a4, launchContents_devRef m' c main_arg5, h.a5, launchContents_devRef m' c main_arg6, h.a6, launchContents_devRef m' c main_arg7, h.a7, launchContents_devRef m' c main_arg8, h.a8, launchContents_devRef m' c main_arg9, h.a9]
  exact Cert.Ref.r_v276 X M T md g1 b1 g2 b2 wi wo

end Reference

/-- The value claim. -/
theorem value : Cert.algebraic_KernelIdeal_ReferenceIdeal_pre_finite := by
  intro m g m' g' hp hm
  choose X M T md g1 b1 g2 b2 wi wo ha using exists_args m hp
  have hr : ∀ c, RefArgs m' c (X c) (M c) (T c) (md c) (g1 c) (b1 c) (g2 c) (b2 c) (wi c) (wo c) := fun c => by
    obtain ⟨e0, e1, e2, e3, e4, e5, e6, e7, e8, e9⟩ := hm c
    have := ha c
    exact ⟨e0.trans this.x, e1.trans this.mix, e2.trans this.tgt, e3.trans this.md, e4.trans this.g1, e5.trans this.b1, e6.trans this.g2,
      e7.trans this.b2, e8.trans this.wi, e9.trans this.wo⟩
  refine ⟨fun c => (Cert.KernelIdeal.Gen.dats m 0 c).arrAt 6 _, fun c => (Cert.KernelIdeal.Gen.dats m 0 c).arrAt 7 _,
    fun c => (Cert.KernelIdeal.Gen.dats m 0 c).arrAt 8 _, fun c => (Cert.KernelIdeal.Gen.dats m 0 c).arrAt 9 _,
    fun c => (Cert.KernelIdeal.Gen.dats m 0 c).arrAt 10 _, fun c => (Cert.KernelIdeal.Gen.dats m 0 c).arrAt 11 _,
    Cert.KernelIdeal.Value.run_blocks m g, ?_⟩
  refine (θ_run Cert.ReferenceIdeal.defs _ _).mono (fun r h c => ?_) (Cert.ReferenceIdeal.Value.run m' g')
  obtain ⟨q0, q1, q2, q3, q4, q5, rest⟩ := h c
  have p0 := (Cert.ReferenceIdeal.Read.val_main_v256_eq (Idealize.ShloMosaic.StableHlo.launchContents m' c)).trans ((ref_256 (hr c)).trans (arr_act (ha c)).symm)
  have p1 := (Cert.ReferenceIdeal.Read.val_main_v257_eq (Idealize.ShloMosaic.StableHlo.launchContents m' c)).trans ((ref_257 (hr c)).trans (arr_h2 (ha c)).symm)
  have p2 := (Cert.ReferenceIdeal.Read.val_main_v258_eq (Idealize.ShloMosaic.StableHlo.launchContents m' c)).trans ((ref_258 (hr c)).trans (arr_dff (ha c)).symm)
  have p3 := (Cert.ReferenceIdeal.Read.val_main_v259_eq (Idealize.ShloMosaic.StableHlo.launchContents m' c)).trans ((ref_259 (hr c)).trans (arr_df (ha c)).symm)
  have p4 := (Cert.ReferenceIdeal.Read.val_main_v248_eq (Idealize.ShloMosaic.StableHlo.launchContents m' c)).trans ((ref_248 (hr c)).trans (arr_dr1 (ha c)).symm)
  have p5 := (Cert.ReferenceIdeal.Read.val_main_v276_eq (Idealize.ShloMosaic.StableHlo.launchContents m' c)).trans ((ref_276 (hr c)).trans (arr_stat (ha c)).symm)
  exact ⟨q0.trans p0, q1.trans p1, q2.trans p2, q3.trans p3, q4.trans p4, q5.trans p5, rest⟩

end Cert.Close

end
-- ==== Proof.Tn.lean ====
/-
  The product of a matrix's transpose with a matrix, `aᵀ b`, over the extended reals.

  A weight's gradient sums, over the tokens, products of one element of each of two arrays. Nothing here needs the elements
  to be finite: the sums are only regrouped. `ex2` and `ex3` name the arrays whose elements a function of natural numbers
  gives.
-/
module

public import Idealize.ShloMosaic.PureOps.Ideal.Laws
public import Idealize.ShloMosaic.Lib.ValueIdx
public import Idealize.ShloMosaic.Lib.MatmulPlain
public import Idealize.ShloMosaic.Lib.Pipeline.Value

@[expose] public section

noncomputable section

namespace Cert.Tn

open Idealize.ShloMosaic Idealize.ShloMosaic.ValueIdx
open scoped BigOperators

/-- The matrix with `f i j` at `(i, j)`. -/
def ex2 (n m : ℕ) (f : ℕ → ℕ → EReal) : (⟨2, ![n, m]⟩ : Shape).Idx → EReal := fun i => f (i 0).val (i 1).val
/-- The rank-three array with `f i j k` at `(i, j, k)`. -/
def ex3 (n m l : ℕ) (f : ℕ → ℕ → ℕ → EReal) : (⟨3, ![n, m, l]⟩ : Shape).Idx → EReal := fun i => f (i 0).val (i 1).val (i 2).val

/-- Two matrices agree when their functions agree inside the extents. -/
theorem ex2_congr {n m : ℕ} {f g : ℕ → ℕ → EReal} (h : ∀ i < n, ∀ j < m, f i j = g i j) : ex2 n m f = ex2 n m g :=
  funext fun i => h _ (i 0).isLt _ (i 1).isLt

/-- A matrix's elements as a function of natural numbers (zero outside the extents). -/
def els {n m : ℕ} (x : (⟨2, ![n, m]⟩ : Shape).Idx → EReal) (i j : ℕ) : EReal :=
  if h : i < n ∧ j < m then x (ix2 ⟨i, h.1⟩ ⟨j, h.2⟩) else 0

/-- Every matrix is given by its elements. -/
theorem eq_ex2 {n m : ℕ} (x : (⟨2, ![n, m]⟩ : Shape).Idx → EReal) : x = ex2 n m (els x) := by
  funext j
  unfold ex2 els
  rw [dif_pos ⟨(j 0).isLt, (j 1).isLt⟩]
  exact congrArg x (eq_ix2 j)

/-- The axes of `aᵀ b`: both operands are contracted along their rows. -/
def tn (K M N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp,
    (by decide : (([] ++ [1] ++ [0] : List (Fin 2))).Perm (List.finRange 2)),
    (by decide : (([] ++ [1] ++ [0] : List (Fin 2))).Perm (List.finRange 2)), rfl, Nat.two_pos, fun b => by fin_cases b <;> rfl⟩

/-- The kernel's product onto zeros: at `(i, j)` the sum over the rows of `f k i * g k j`. -/
theorem matmul_tn {K M N : ℕ} {φ₁ φ₂ : FTy} (prec : Option ContractPrecision) (f g : ℕ → ℕ → EReal) :
    FloatOps.matmul (F := Ideal) (φ₁ := φ₁) (φ₂ := φ₂) (tn K M N) prec (ex2 K M f) (ex2 K N g) (constant ⟨2, ![M, N]⟩ .f32 0x00000000#32)
      = ex2 M N fun i j => ∑ k ∈ Finset.range K, f k i * g k j := by
  funext j
  rw [Ideal.matmul_apply, ← Equiv.sum_comp (contrEquiv1 (tn K M N) K rfl rfl).symm]
  show Ideal.ofBits .f32 0x00000000#32 + _ = _
  rw [Ideal.ofBits_zero_f32, zero_add]
  show _ = ∑ k ∈ Finset.range K, f k (j 0).val * g k (j 1).val
  rw [Finset.sum_range]
  refine Finset.sum_congr rfl fun k _ => ?_
  have hk := contrEquiv1_symm_val (tn K M N) K rfl rfl k
  refine congrArg₂ (· * ·) ?_ ?_
  · show f _ _ = f _ _
    exact congrArg₂ f hk rfl
  · show g _ _ = g _ _
    exact congrArg₂ g hk rfl

/-- The sum over the first rows of `f k i * g k j`. -/
def part (f g : ℕ → ℕ → EReal) (n i j : ℕ) : EReal := ∑ k ∈ Finset.range n, f k i * g k j

/-- Adding the next block of rows to a partial sum. -/
theorem part_add (f g : ℕ → ℕ → EReal) (n p i j : ℕ) :
    part f g n i j + ∑ k ∈ Finset.range p, f (n + k) i * g (n + k) j = part f g (n + p) i j :=
  (Finset.sum_range_add (fun k => f k i * g k j) n p).symm

/-- Row block `n % 4` of 2048 rows of `f`, against column block `n / 4` (of `P` columns) of the same rows of `g`. -/
def block (f g : ℕ → ℕ → EReal) (P n i j : ℕ) : EReal :=
  ∑ k ∈ Finset.range 2048, f (2048 * (n % 4) + k) i * g (2048 * (n % 4) + k) (P * (n / 4) + j)

/-- An accumulator that every fourth point starts afresh with the point's block, and the other points add theirs to, holds
    after point `n` the sum over the rows read since its start. -/
theorem acc_runs {N M P : ℕ} (f g : ℕ → ℕ → EReal) (s : (n : ℕ) → n < N → (⟨2, ![M, P]⟩ : Shape).Idx → EReal)
    (first : ∀ n hn, n % 4 = 0 → s n hn = ex2 M P (block f g P n))
    (next : ∀ n (hn : n + 1 < N) a, ¬(n + 1) % 4 = 0 → s n (Nat.lt_of_succ_lt hn) = ex2 M P a →
      s (n + 1) hn = ex2 M P fun i j => a i j + block f g P (n + 1) i j) (n : ℕ) (hn : n < N) :
    s n hn = ex2 M P fun i j => part f g (2048 * (n % 4 + 1)) i (P * (n / 4) + j) := by
  induction n with
  | zero =>
    rw [first 0 hn rfl]
    exact ex2_congr fun i _ j _ => by simp only [block, part, Nat.zero_mod, Nat.mul_zero, Nat.zero_add, Nat.mul_one]
  | succ n ih =>
    by_cases h0 : (n + 1) % 4 = 0
    · rw [first (n + 1) hn h0]
      exact ex2_congr fun i _ j _ => by simp only [block, part, h0, Nat.mul_zero, Nat.zero_add, Nat.mul_one]
    · rw [next n hn _ h0 (ih (Nat.lt_of_succ_lt hn))]
      have hq : n / 4 = (n + 1) / 4 := by omega
      have hr : 2048 * (n % 4 + 1) = 2048 * ((n + 1) % 4) := by omega
      exact ex2_congr fun i _ j _ => by rw [hq, hr, block, part_add, Nat.mul_add 2048 ((n + 1) % 4) 1]

end Cert.Tn

end
-- ==== Proof.WOut.lean ====
/-
  The gradient of the feed-forward's output weight: what one grid point leaves in the accumulator and in the output block.
-/
module

public import proofs.«01_k».proof.Proof.Gen.KernelWOutIdeal.Value
public import proofs.«01_k».proof.Proof.Gen.ReferenceWOutIdeal.Run
public import proofs.«01_k».proof.Proof.Gen.ReferenceWOutIdeal.Read
public import proofs.«01_k».proof.Defs
public import proofs.«01_k».proof.Proof.Tn
public import Idealize.ShloMosaic.Lib.Pipeline.ValueKit
public import Idealize.ShloMosaic.Lib.Pipeline.ReadBack
public import Idealize.ShloMosaic.Lib.Pipeline.ValueKit.Tiles
public import Idealize.ShloMosaic.Lib.WritesUnit
public import Idealize.ShloMosaic.Lib.Claim

@[expose] public section

set_option maxRecDepth 16384

noncomputable section

namespace Cert.WOut

open Idealize.ShloMosaic Idealize.ShloMosaic.Tactic Idealize.ShloMosaic.TcCoe Cert.KernelWOutIdeal Cert.KernelWOutIdeal.Gen Cert.Tn Finset
open scoped BigOperators

variable (f g a : ℕ → ℕ → EReal)

theorem hz : (![0, 0] : Fin 2 → ℕ) = fun _ => 0 := by decide

theorem pay1_ex : k0_pay1 (F := Ideal) = ex2 2816 512 fun _ _ => 0 := by
  unfold k0_pay1
  dsimp only
  rw [shapeCast_self]
  funext j
  exact Ideal.ofBits_zero_f32

theorem pay2_ex : k0_pay2 (F := Ideal) (ex2 2816 512 a) (ex2 2048 2816 f) (ex2 2048 512 g)
    = ex2 2816 512 fun i j => a i j + ∑ k ∈ range 2048, f k i * g k j := by
  unfold k0_pay2
  dsimp only
  rw [shapeCast_self, show matmul (F := Ideal) dot_S2048x2816_S2048x512_S2816x512_0_0_1_1_n_n none (ex2 2048 2816 f) (ex2 2048 512 g)
    (constant S2816x512 .f32 0x00000000#32) = _ from matmul_tn (K := 2048) (M := 2816) (N := 512) none f g]
  rfl

theorem pay3_ex (x : S2816x512.Idx → EReal) : k0_pay3 (F := Ideal) x = x := rfl

variable (c : Dev nD) (i : grid0.Coords) (arg2 : Memref sig .tc .vmem S2048x2816 .bf16) (harg2 : arg2.IsWhole) (arg3 : Memref sig .tc .vmem S2048x512 .bf16) (harg3 : arg3.IsWhole) (arg4 : Memref sig .tc .vmem S2816x512 .bf16) (harg4 : arg4.IsWhole) (arg5 : Memref sig .tc .vmem S2816x512 .f32) (harg5 : arg5.IsWhole)

/-- The first point of a run leaves the block's product. -/
theorem acc_A (hc0 : cond0_0 i) (hc1 : ¬cond0_1 i) :
    sout0_A_0 (F := Ideal) c i arg2 harg2 arg3 harg3 arg4 harg4 arg5 harg5 hc0 hc1 (ex2 2048 2816 f) (ex2 2048 512 g)
      = ex2 2816 512 fun i j => ∑ k ∈ range 2048, f k i * g k j := by
  unfold sout0_A_0
  rw [View.read_writes_eq_canon _ _ _ (scover0_A_0 c i arg2 harg2 arg3 harg3 arg4 harg4 arg5 harg5 hc0 hc1 _ _)]
  unfold kernelRun0_A
  dsimp only
  sl_unfold_words
  simp (config := { decide := true }) only [↓View.readCov_skip, View.readAt_eq_ld, Memref.IsWhole.read_unread, View.ld_unit_lit, View.readCov_cons_toLoadRect, pay1_ex, pay2_ex, pay3_ex, zero_add]
  exact View.canon_cons_unit_zero (S := S2816x512) hz _ _ _

/-- A later point adds the block's product to what the accumulator held. -/
theorem acc_B (hc0 : ¬cond0_0 i) (hc1 : ¬cond0_1 i) :
    sout0_B_0 (F := Ideal) c i arg2 harg2 arg3 harg3 arg4 harg4 arg5 harg5 hc0 hc1 (ex2 2048 2816 f) (ex2 2048 512 g) (ex2 2816 512 a)
      = ex2 2816 512 fun i j => a i j + ∑ k ∈ range 2048, f k i * g k j := by
  unfold sout0_B_0
  rw [View.read_writes_eq_canon _ _ _ (scover0_B_0 c i arg2 harg2 arg3 harg3 arg4 harg4 arg5 harg5 hc0 hc1 _ _ _)]
  unfold kernelRun0_B
  dsimp only
  sl_unfold_words
  simp (config := { decide := true }) only [↓View.readCov_skip, View.readAt_eq_ld, Memref.IsWhole.read_unread, View.ld_unit_lit, View.readCov_cons_toLoadRect, pay1_ex, pay2_ex, pay3_ex]
  exact View.canon_unit_zero (S := S2816x512) hz _ _

/-- So does the last point of a run. -/
theorem acc_C (hc0 : ¬cond0_0 i) (hc1 : cond0_1 i) :
    sout0_C_0 (F := Ideal) c i arg2 harg2 arg3 harg3 arg4 harg4 arg5 harg5 hc0 hc1 (ex2 2048 2816 f) (ex2 2048 512 g) (ex2 2816 512 a)
      = ex2 2816 512 fun i j => a i j + ∑ k ∈ range 2048, f k i * g k j := by
  unfold sout0_C_0
  rw [View.read_writes_eq_canon _ _ _ (scover0_C_0 c i arg2 harg2 arg3 harg3 arg4 harg4 arg5 harg5 hc0 hc1 _ _ _)]
  unfold kernelRun0_C
  dsimp only
  sl_unfold_words
  simp (config := { decide := true }) only [↓View.readCov_skip, View.readAt_eq_ld, Memref.IsWhole.read_unread, View.ld_unit_lit, View.readCov_cons_toLoadRect, pay1_ex, pay2_ex, pay3_ex]
  exact View.canon_unit_zero (S := S2816x512) hz _ _

/-- The last point of a run writes the accumulator out. -/
theorem out_C (hc0 : ¬cond0_0 i) (hc1 : cond0_1 i) :
    out0_C_2 (F := Ideal) c i arg2 harg2 arg3 harg3 arg4 harg4 arg5 harg5 hc0 hc1 (ex2 2048 2816 f) (ex2 2048 512 g) (ex2 2816 512 a)
      = ex2 2816 512 fun i j => a i j + ∑ k ∈ range 2048, f k i * g k j := by
  unfold out0_C_2
  rw [View.read_writes_eq_canon _ _ _ (cover0_C_2 c i arg2 harg2 arg3 harg3 arg4 harg4 arg5 harg5 hc0 hc1 _ _ _)]
  unfold kernelRun0_C
  dsimp only
  sl_unfold_words
  simp (config := { decide := true }) only [↓View.readCov_skip, View.readAt_eq_ld, Memref.IsWhole.read_unread, View.ld_unit_lit, View.readCov_cons_toLoadRect, pay1_ex, pay2_ex, pay3_ex]
  exact View.canon_unit_zero (S := S2816x512) hz _ _

/-! ## The array the call leaves -/

variable (m : (ℓ : Loc nD τ sig) → Buf (Elt Ideal) ℓ) {c}

/-- The activation's elements and the incoming gradient's, on one device. -/
def xa (c : Dev nD) : ℕ → ℕ → EReal := els (n := 8192) (m := 2816) (m ((c : Thread nD τ).loc main_arg0))
def xb (c : Dev nD) : ℕ → ℕ → EReal := els (n := 8192) (m := 1024) (m ((c : Thread nD τ).loc main_arg1))

theorem arg0_ex (c : Dev nD) : m ((c : Thread nD τ).loc main_arg0) = ex2 8192 2816 (xa m c) := eq_ex2 _
theorem arg1_ex (c : Dev nD) : m ((c : Thread nD τ).loc main_arg1) = ex2 8192 1024 (xb m c) := eq_ex2 _

theorem idx_0 : ∀ t : Fin cfg0.N, win0_0.index t = ![t.val % 4, 0] := by decide +kernel
theorem idx_1 : ∀ t : Fin cfg0.N, win0_1.index t = ![t.val % 4, t.val / 4] := by decide +kernel
theorem idx_2 : ∀ t : Fin cfg0.N, win0_2.index t = ![0, t.val / 4] := by decide +kernel

theorem blk_0 (c : Dev nD) (t : Fin cfg0.N) : iblk m c 0 t = ex2 2048 2816 fun i j => xa m c (2048 * (t.val % 4) + i) j := by
  funext y
  have e := idx_0 t
  blk_simp [iblk, e]
  rw [V_main_arg0, arg0_ex m c]
  blk_simp [ex2, e, Nat.mul_comm 2048]

theorem blk_1 (c : Dev nD) (t : Fin cfg0.N) : iblk m c 1 t
    = ex2 2048 512 fun i j => xb m c (2048 * (t.val % 4) + i) (512 * (t.val / 4) + j) := by
  funext y
  have e := idx_1 t
  blk_simp [iblk, e]
  rw [V_main_arg1, arg1_ex m c]
  blk_simp [ex2, e, Nat.mul_comm 2048, Nat.mul_comm 512]

/-- After point `n` the accumulator holds the sum over the rows its run has read. -/
theorem acc_after (c : Dev nD) (n : ℕ) (hn : n < cfg0.N) : (outsAt0 m c n hn).2
    = ex2 2816 512 fun i j => part (xa m c) (xb m c) (2048 * (n % 4 + 1)) i (512 * (n / 4) + j) := by
  refine acc_runs (M := 2816) (P := 512) (xa m c) (xb m c) (fun n hn => (outsAt0 m c n hn).2) (fun n hn h0 => ?_) (fun n hn a h0 ha => ?_) n hn
  · rw [outsAt0_A m c ⟨n, hn⟩ h0 (by show ¬n % 4 = 3; omega)]
    dsimp only
    rw [blk_0, blk_1, acc_A]
    rfl
  · by_cases h1 : (n + 1) % 4 = 3
    · rw [outsAt0_C m c ⟨n + 1, hn⟩ h0 h1]
      dsimp only
      simp only [Nat.add_sub_cancel]
      rw [ha, blk_0, blk_1, acc_C]
      rfl
    · rw [outsAt0_B m c ⟨n + 1, hn⟩ h0 h1]
      dsimp only
      simp only [Nat.add_sub_cancel]
      rw [ha, blk_0, blk_1, acc_B]
      rfl

/-- A run's last point writes out what it leaves in the accumulator. -/
theorem out_last (c : Dev nD) (t : Fin cfg0.N) (h1 : t.val % 4 = 3) : (outsAt0 m c t.val t.isLt).1 = (outsAt0 m c t.val t.isLt).2 := by
  have h0 : ¬t.val % 4 = 0 := by omega
  have ih := acc_after m c (t.val - 1) (Nat.lt_of_le_of_lt (Nat.sub_le _ _) t.isLt)
  rw [outsAt0_C m c t h0 h1]
  dsimp only
  rw [ih, blk_0, blk_1, out_C, acc_C]

/-- The array the call leaves: at `(i, j)` the sum over all 8192 tokens. -/
theorem arr (c : Dev nD) : (dats m 0 c).arrAt 2 cfg0.N = ex2 2816 1024 fun i j => part (xa m c) (xb m c) 8192 i j := by
  refine (dats m 0 c).arrAt_eq_of_covers 2 _ (by decide +kernel) fun t hf y => ?_
  have h1 : t.val % 4 = 3 := (flush0_2 t).mp hf
  have e := idx_2 t
  blk_simp
  rw [after0_2, out_last m c t h1, acc_after, h1]
  blk_simp [ex2, e, Nat.mul_comm 512]

/-- The reference's result, on arrays given by their elements. -/
theorem ref_ex (f g : ℕ → ℕ → EReal) :
    Cert.ReferenceWOutIdeal.Read.val_main_v6 (F := Ideal) (ex2 8192 2816 f) (ex2 8192 1024 g) = ex2 2816 1024 fun i j => part f g 8192 i j := by
  funext j
  rw [Cert.ReferenceWOutIdeal.Read.val_main_v6_apply]
  show Cert.ReferenceWOutIdeal.Read.val_main_v5 (F := Ideal) (ex2 8192 2816 f) (ex2 8192 1024 g) j = _
  rw [Cert.ReferenceWOutIdeal.Read.val_main_v5_apply, Cert.ReferenceWOutIdeal.Read.val_main_v4_apply]
  show _ = ∑ k ∈ range 8192, f k (j 0).val * g k (j 1).val
  rw [sum_range]
  exact sum_congr rfl fun k _ => mul_comm (G := EReal) (g k.val (j 1).val) (f k.val (j 0).val)

/-- The value claim: the call's array is the gradient of the product in its right factor. -/
theorem value : Cert.algebraic_KernelWOutIdeal_ReferenceWOutIdeal := by
  intro m g m' g' _ hargs
  refine ⟨fun c => Cert.KernelWOutIdeal.Value.G2 m c, Cert.KernelWOutIdeal.Value.run m g, ?_⟩
  refine (θ_run Cert.ReferenceWOutIdeal.defs _ _).mono (fun r h c => ?_) (Cert.ReferenceWOutIdeal.Value.run m' g')
  obtain ⟨q, rest⟩ := h c
  obtain ⟨e0, e1⟩ := hargs c
  refine ⟨q.trans ((Cert.ReferenceWOutIdeal.Read.val_main_v6_eq _ _).trans ?_), rest⟩
  rw [e0, e1, arg0_ex m c, arg1_ex m c]
  exact (ref_ex _ _).trans ((arr m c).symm.trans (Cert.KernelWOutIdeal.Value.final2 m c))

end Cert.WOut

end
-- ==== Proof.WIn.lean ====
/-
  The gradient of the feed-forward's input weight: what one grid point leaves in the accumulator and in the output block.
-/
module

public import proofs.«01_k».proof.Proof.Gen.KernelWInIdeal.Value
public import proofs.«01_k».proof.Proof.Gen.ReferenceWInIdeal.Run
public import proofs.«01_k».proof.Proof.Gen.ReferenceWInIdeal.Read
public import proofs.«01_k».proof.Defs
public import proofs.«01_k».proof.Proof.Tn
public import Idealize.ShloMosaic.Lib.Pipeline.ValueKit
public import Idealize.ShloMosaic.Lib.Pipeline.ReadBack
public import Idealize.ShloMosaic.Lib.Pipeline.ValueKit.Tiles
public import Idealize.ShloMosaic.Lib.WritesUnit
public import Idealize.ShloMosaic.Lib.Claim

@[expose] public section

set_option maxRecDepth 16384

noncomputable section

namespace Cert.WIn

open Idealize.ShloMosaic Idealize.ShloMosaic.Tactic Idealize.ShloMosaic.TcCoe Cert.KernelWInIdeal Cert.KernelWInIdeal.Gen Cert.Tn Finset
open scoped BigOperators

variable (f g a : ℕ → ℕ → EReal)

theorem hz : (![0, 0] : Fin 2 → ℕ) = fun _ => 0 := by decide
theorem hz3 : (![0, 0, 0] : Fin 3 → ℕ) = fun _ => 0 := by decide

theorem pay1_ex : k0_pay1 (F := Ideal) = ex2 1024 1408 fun _ _ => 0 := by
  unfold k0_pay1
  dsimp only
  rw [shapeCast_self]
  funext j
  exact Ideal.ofBits_zero_f32

theorem pay2_ex : k0_pay2 (F := Ideal) (ex2 1024 1408 a) (ex2 2048 1024 f) (ex2 2048 1408 g)
    = ex2 1024 1408 fun i j => a i j + ∑ k ∈ range 2048, f k i * g k j := by
  unfold k0_pay2
  dsimp only
  rw [shapeCast_self, show matmul (F := Ideal) dot_S2048x1024_S2048x1408_S1024x1408_0_0_1_1_n_n none (ex2 2048 1024 f) (ex2 2048 1408 g)
    (constant S1024x1408 .f32 0x00000000#32) = _ from matmul_tn (K := 2048) (M := 1024) (N := 1408) none f g]
  rfl

/-- The block written out has one more axis in front, of extent one. -/
theorem pay3_ex : k0_pay3 (F := Ideal) (ex2 1024 1408 a) = ex3 1 1024 1408 fun _ => a := by
  unfold k0_pay3
  dsimp only
  funext j
  refine (shapeCast_apply _ _ j (ValueIdx.ix2 (j 1) (j 2)) ?_).trans rfl
  rw [Shape.rowMajor_val_two, Shape.rowMajor_val_three]
  have h0 : (j 0).val < 1 := (j 0).isLt
  show (j 1).val * 1408 + (j 2).val = ((j 0).val * 1024 + (j 1).val) * 1408 + (j 2).val
  rw [show (j 0).val = 0 by omega, Nat.zero_mul, Nat.zero_add]

variable (c : Dev nD) (i : grid0.Coords) (arg2 : Memref sig .tc .vmem S2048x1024 .bf16) (harg2 : arg2.IsWhole) (arg3 : Memref sig .tc .vmem S2048x1408 .bf16) (harg3 : arg3.IsWhole) (arg4 : Memref sig .tc .vmem S1x1024x1408 .bf16) (harg4 : arg4.IsWhole) (arg5 : Memref sig .tc .vmem S1024x1408 .f32) (harg5 : arg5.IsWhole)

/-- The first point of a run leaves the block's product. -/
theorem acc_A (hc0 : cond0_0 i) (hc1 : ¬cond0_1 i) :
    sout0_A_0 (F := Ideal) c i arg2 harg2 arg3 harg3 arg4 harg4 arg5 harg5 hc0 hc1 (ex2 2048 1024 f) (ex2 2048 1408 g)
      = ex2 1024 1408 fun i j => ∑ k ∈ range 2048, f k i * g k j := by
  unfold sout0_A_0
  rw [View.read_writes_eq_canon _ _ _ (scover0_A_0 c i arg2 harg2 arg3 harg3 arg4 harg4 arg5 harg5 hc0 hc1 _ _)]
  unfold kernelRun0_A
  dsimp only
  sl_unfold_words
  simp (config := { decide := true }) only [↓View.readCov_skip, View.readAt_eq_ld, Memref.IsWhole.read_unread, View.ld_unit_lit, View.readCov_cons_toLoadRect, pay1_ex, pay2_ex, pay3_ex, zero_add]
  exact View.canon_cons_unit_zero (S := S1024x1408) hz _ _ _

/-- A later point adds the block's product to what the accumulator held. -/
theorem acc_B (hc0 : ¬cond0_0 i) (hc1 : ¬cond0_1 i) :
    sout0_B_0 (F := Ideal) c i arg2 harg2 arg3 harg3 arg4 harg4 arg5 harg5 hc0 hc1 (ex2 2048 1024 f) (ex2 2048 1408 g) (ex2 1024 1408 a)
      = ex2 1024 1408 fun i j => a i j + ∑ k ∈ range 2048, f k i * g k j := by
  unfold sout0_B_0
  rw [View.read_writes_eq_canon _ _ _ (scover0_B_0 c i arg2 harg2 arg3 harg3 arg4 harg4 arg5 harg5 hc0 hc1 _ _ _)]
  unfold kernelRun0_B
  dsimp only
  sl_unfold_words
  simp (config := { decide := true }) only [↓View.readCov_skip, View.readAt_eq_ld, Memref.IsWhole.read_unread, View.ld_unit_lit, View.readCov_cons_toLoadRect, pay1_ex, pay2_ex, pay3_ex]
  exact View.canon_unit_zero (S := S1024x1408) hz _ _

/-- So does the last point of a run. -/
theorem acc_C (hc0 : ¬cond0_0 i) (hc1 : cond0_1 i) :
    sout0_C_0 (F := Ideal) c i arg2 harg2 arg3 harg3 arg4 harg4 arg5 harg5 hc0 hc1 (ex2 2048 1024 f) (ex2 2048 1408 g) (ex2 1024 1408 a)
      = ex2 1024 1408 fun i j => a i j + ∑ k ∈ range 2048, f k i * g k j := by
  unfold sout0_C_0
  rw [View.read_writes_eq_canon _ _ _ (scover0_C_0 c i arg2 harg2 arg3 harg3 arg4 harg4 arg5 harg5 hc0 hc1 _ _ _)]
  unfold kernelRun0_C
  dsimp only
  sl_unfold_words
  simp (config := { decide := true }) only [↓View.readCov_skip, View.readAt_eq_ld, Memref.IsWhole.read_unread, View.ld_unit_lit, View.readCov_cons_toLoadRect, pay1_ex, pay2_ex, pay3_ex]
  exact View.canon_unit_zero (S := S1024x1408) hz _ _

/-- The last point of a run writes the accumulator out. -/
theorem out_C (hc0 : ¬cond0_0 i) (hc1 : cond0_1 i) :
    out0_C_2 (F := Ideal) c i arg2 harg2 arg3 harg3 arg4 harg4 arg5 harg5 hc0 hc1 (ex2 2048 1024 f) (ex2 2048 1408 g) (ex2 1024 1408 a)
      = ex3 1 1024 1408 fun _ i j => a i j + ∑ k ∈ range 2048, f k i * g k j := by
  unfold out0_C_2
  rw [View.read_writes_eq_canon _ _ _ (cover0_C_2 c i arg2 harg2 arg3 harg3 arg4 harg4 arg5 harg5 hc0 hc1 _ _ _)]
  unfold kernelRun0_C
  dsimp only
  sl_unfold_words
  simp (config := { decide := true }) only [↓View.readCov_skip, View.readAt_eq_ld, Memref.IsWhole.read_unread, View.ld_unit_lit, View.readCov_cons_toLoadRect, pay1_ex, pay2_ex, pay3_ex]
  exact View.canon_unit_zero (S := S1x1024x1408) hz3 _ _

/-! ## The array the call leaves -/

variable (m : (ℓ : Loc nD τ sig) → Buf (Elt Ideal) ℓ) {c}

/-- The layer's input's elements and the incoming gradient's, on one device. -/
def xa (c : Dev nD) : ℕ → ℕ → EReal := els (n := 8192) (m := 1024) (m ((c : Thread nD τ).loc main_arg0))
def xb (c : Dev nD) : ℕ → ℕ → EReal := els (n := 8192) (m := 5632) (m ((c : Thread nD τ).loc main_arg1))

theorem arg0_ex (c : Dev nD) : m ((c : Thread nD τ).loc main_arg0) = ex2 8192 1024 (xa m c) := eq_ex2 _
theorem arg1_ex (c : Dev nD) : m ((c : Thread nD τ).loc main_arg1) = ex2 8192 5632 (xb m c) := eq_ex2 _

theorem idx_0 : ∀ t : Fin cfg0.N, win0_0.index t = ![t.val % 4, 0] := by decide +kernel
theorem idx_1 : ∀ t : Fin cfg0.N, win0_1.index t = ![t.val % 4, t.val / 4] := by decide +kernel
theorem idx_2 : ∀ t : Fin cfg0.N, win0_2.index t = ![t.val / 4, 0, 0] := by decide +kernel

theorem blk_0 (c : Dev nD) (t : Fin cfg0.N) : iblk m c 0 t = ex2 2048 1024 fun i j => xa m c (2048 * (t.val % 4) + i) j := by
  funext y
  have e := idx_0 t
  blk_simp [iblk, e]
  rw [V_main_arg0, arg0_ex m c]
  blk_simp [ex2, e, Nat.mul_comm 2048]

theorem blk_1 (c : Dev nD) (t : Fin cfg0.N) : iblk m c 1 t
    = ex2 2048 1408 fun i j => xb m c (2048 * (t.val % 4) + i) (1408 * (t.val / 4) + j) := by
  funext y
  have e := idx_1 t
  blk_simp [iblk, e]
  rw [V_main_arg1, arg1_ex m c]
  blk_simp [ex2, e, Nat.mul_comm 2048, Nat.mul_comm 1408]

/-- After point `n` the accumulator holds the sum over the rows its run has read. -/
theorem acc_after (c : Dev nD) (n : ℕ) (hn : n < cfg0.N) : (outsAt0 m c n hn).2
    = ex2 1024 1408 fun i j => part (xa m c) (xb m c) (2048 * (n % 4 + 1)) i (1408 * (n / 4) + j) := by
  refine acc_runs (M := 1024) (P := 1408) (xa m c) (xb m c) (fun n hn => (outsAt0 m c n hn).2) (fun n hn h0 => ?_) (fun n hn a h0 ha => ?_) n hn
  · rw [outsAt0_A m c ⟨n, hn⟩ h0 (by show ¬n % 4 = 3; omega)]
    dsimp only
    rw [blk_0, blk_1, acc_A]
    rfl
  · by_cases h1 : (n + 1) % 4 = 3
    · rw [outsAt0_C m c ⟨n + 1, hn⟩ h0 h1]
      dsimp only
      simp only [Nat.add_sub_cancel]
      rw [ha, blk_0, blk_1, acc_C]
      rfl
    · rw [outsAt0_B m c ⟨n + 1, hn⟩ h0 h1]
      dsimp only
      simp only [Nat.add_sub_cancel]
      rw [ha, blk_0, blk_1, acc_B]
      rfl

/-- A run's last point writes out the sum over all 8192 tokens. -/
theorem out_last (c : Dev nD) (t : Fin cfg0.N) (h1 : t.val % 4 = 3) : (outsAt0 m c t.val t.isLt).1
    = ex3 1 1024 1408 fun _ i j => part (xa m c) (xb m c) 8192 i (1408 * (t.val / 4) + j) := by
  have h0 : ¬t.val % 4 = 0 := by omega
  have ih := acc_after m c (t.val - 1) (Nat.lt_of_le_of_lt (Nat.sub_le _ _) t.isLt)
  have hq : (t.val - 1) / 4 = t.val / 4 := by omega
  have hr : (t.val - 1) % 4 = 2 := by omega
  rw [outsAt0_C m c t h0 h1]
  dsimp only
  rw [ih, blk_0, blk_1, out_C, hq, hr, h1]
  funext j
  exact part_add _ _ 6144 2048 _ _

/-- The array the call leaves: at `(d, i, j)` the sum over all 8192 tokens, in column `j` of the `d`-th of four column groups. -/
theorem arr (c : Dev nD) : (dats m 0 c).arrAt 2 cfg0.N
    = ex3 4 1024 1408 fun d i j => part (xa m c) (xb m c) 8192 i (1408 * d + j) := by
  refine (dats m 0 c).arrAt_eq_of_covers 2 _ (by decide +kernel) fun t hf y => ?_
  have h1 : t.val % 4 = 3 := (flush0_2 t).mp hf
  have e := idx_2 t
  blk_simp
  rw [after0_2, out_last m c t h1]
  blk_simp [ex3, e]

/-- The reference's result, on arrays given by their elements. -/
theorem ref_ex (f g : ℕ → ℕ → EReal) :
    Cert.ReferenceWInIdeal.Read.val_main_v8 (F := Ideal) (ex2 8192 1024 f) (ex2 8192 5632 g)
      = ex3 4 1024 1408 fun d i j => part f g 8192 i (1408 * d + j) := by
  funext j
  rw [Cert.ReferenceWInIdeal.Read.val_main_v8_apply]
  show Cert.ReferenceWInIdeal.Read.val_main_v7 (F := Ideal) (ex2 8192 1024 f) (ex2 8192 5632 g) j = _
  rw [Cert.ReferenceWInIdeal.Read.val_main_v7_apply, Cert.ReferenceWInIdeal.Read.val_main_v6_apply,
    Cert.ReferenceWInIdeal.Read.val_main_v5_apply, Cert.ReferenceWInIdeal.Read.val_main_v4_apply]
  have b0 : (j 0).val < 4 := (j 0).isLt
  have b1 : (j 1).val < 1024 := (j 1).isLt
  have b2 : (j 2).val < 1408 := (j 2).isLt
  have r : (((j 1).val * 4 + (j 0).val) * 1408 + (j 2).val) / 5632 = (j 1).val := by omega
  have q : (((j 1).val * 4 + (j 0).val) * 1408 + (j 2).val) % 5632 = 1408 * (j 0).val + (j 2).val := by omega
  show _ = ∑ k ∈ range 8192, f k (j 1).val * g k (1408 * (j 0).val + (j 2).val)
  rw [sum_range]
  refine sum_congr rfl fun k _ => ?_
  show g k.val ((((j 1).val * 4 + (j 0).val) * 1408 + (j 2).val) % 5632) * f k.val ((((j 1).val * 4 + (j 0).val) * 1408 + (j 2).val) / 5632) = _
  rw [r, q]
  exact mul_comm (G := EReal) _ _

/-- The value claim: the call's array is the gradient of the product in its right factor, its columns in four groups. -/
theorem value : Cert.algebraic_KernelWInIdeal_ReferenceWInIdeal := by
  intro m g m' g' _ hargs
  refine ⟨fun c => Cert.KernelWInIdeal.Value.G2 m c, Cert.KernelWInIdeal.Value.run m g, ?_⟩
  refine (θ_run Cert.ReferenceWInIdeal.defs _ _).mono (fun r h c => ?_) (Cert.ReferenceWInIdeal.Value.run m' g')
  obtain ⟨q, rest⟩ := h c
  obtain ⟨e0, e1⟩ := hargs c
  refine ⟨q.trans ((Cert.ReferenceWInIdeal.Read.val_main_v8_eq _ _).trans ?_), rest⟩
  rw [e0, e1, arg0_ex m c, arg1_ex m c]
  exact (ref_ex _ _).trans ((arr m c).symm.trans (Cert.KernelWInIdeal.Value.final2 m c))

end Cert.WIn

end
-- ==== Proof.ProjSpec.lean ====
/-
  The mathematics of the input projection's backward pass, on one token, in real numbers.

  A token has the row `x` of the block's input, the cotangents `q` of its rotated queries (512), `kv` of its rotated keys
  and of its values (128 each), `p` of the rest of the projection (3072) and `r` of the residual. `c` and `s` are the
  token's tables of cosines and of signed sines: one head's 64 lanes, twice. `v` holds the modulation's shift and scale in
  its first two rows, and `w` the projection's weights, transposed.
-/
module

public import proofs.«01_k».proof.Proof.Spec

@[expose] public section

noncomputable section

namespace Cert.ProjSpec

open Cert.Lift Cert.Spec Finset
open scoped BigOperators

/-- The rotation's transpose on a row of whole heads: a lane's own cosine, and its partner's sine. The partner of a lane
    is sixteen lanes away, inside the same 32. -/
def unrope (c s g : ℕ → ℝ) (j : ℕ) : ℝ :=
  g j * c (j % 128) + if j % 32 < 16 then g (j + 16) * s ((j + 16) % 128) else g (j - 16) * s ((j - 16) % 128)

/-- The rotation's transpose treats every 128 lanes alike. -/
theorem unrope_shift (c s g : ℕ → ℝ) (k j : ℕ) :
    unrope c s (fun l => g (128 * k + l)) j = unrope c s g (128 * k + j) := by
  unfold unrope
  have h0 : (128 * k + j) % 128 = j % 128 := by omega
  have h1 : (128 * k + j) % 32 = j % 32 := by omega
  have h2 : (128 * k + j + 16) % 128 = (j + 16) % 128 := by omega
  rw [h0, h1, h2]
  by_cases h : j % 32 < 16
  · rw [if_pos h, if_pos h, Nat.add_assoc]
  · have h3 : 128 * k + j - 16 = 128 * k + (j - 16) := by omega
    have h4 : (128 * k + (j - 16)) % 128 = (j - 16) % 128 := by omega
    rw [if_neg h, if_neg h, h3, h4]

variable (c s : ℕ → ℝ) (v w : ℕ → ℕ → ℝ) (q kv p x r : ℕ → ℝ)

/-- The gradient at the projected queries, keys and values. -/
def dqkv (j : ℕ) : ℝ :=
  if j < 512 then unrope c s q j else if j < 640 then unrope c s kv (j - 512) else kv (j - 512)
/-- The gradient at the modulated layer norm. -/
def dh (k : ℕ) : ℝ := ∑ j ∈ range 768, dqkv c s q kv j * w j k + ∑ j ∈ range 3072, p j * w (768 + j) k
/-- The gradient at the block's input. -/
def gx (k : ℕ) : ℝ := nrmBwd (fun l => dh c s w q kv p l * (1 + v 1 l)) x k + alpha * r k
/-- What one token adds to row `i` of the sums over the tokens: the gradients of the shift and of the scale. -/
def tokSum (i j : ℕ) : ℝ :=
  match i with
  | 0 => dh c s w q kv p j
  | 1 => dh c s w q kv p j * nrm x j
  | _ => 0

end Cert.ProjSpec

end
-- ==== Proof.ProjPay.lean ====
/-
  What each value of the body of the input projection's backward kernel is, on a block of 512 tokens of real numbers.
-/
module

public import proofs.«01_k».proof.Proof.Gen.KernelProjIdeal.Skeleton
public import proofs.«01_k».proof.Proof.ProjSpec
public import proofs.«01_k».proof.Proof.Pay
public import Idealize.ShloMosaic.Lib.KernelVsHost

@[expose] public section

noncomputable section

namespace Cert.ProjPay

open Idealize.ShloMosaic Cert.KernelProjIdeal Cert.KernelProjIdeal.Gen Cert.Lift Cert.Spec Cert.ProjSpec Finset
open Cert.Pay (row div_1024 rstd_up)
open scoped BigOperators

/-! ## The partner lane -/

/-- The test the body makes on a lane's number. -/
theorem lane : ∀ j < 256, IntOp.cmpi .slt (IntOp.andi (BitVec.ofNat 32 (0 * 256 + j)) 31#32) 16#32
    = if j % 32 < 16 then 1#1 else 0#1 := by decide +kernel

/-- A choice by a word that is one exactly when the condition holds. -/
theorem sel {α : Type} (p : Prop) [Decidable p] (a b : α) : Scalar.select (if p then 1#1 else 0#1) a b = if p then a else b := by
  by_cases h : p
  · simp only [if_pos h]; rfl
  · simp only [if_neg h]; rfl

/-- A rotation along the lanes. -/
theorem rot_up {n m : ℕ} (a : BitVec 32) (f : ℕ → ℕ → ℝ) (h) :
    dynamicRotate (s := ⟨2, ![n, m]⟩) 1 a none (up2 n m f) h = up2 n m fun i j => f i ((j + m - a.toNat % m) % m) := by
  funext y
  have h1 : (y 1).val < m := (y 1).isLt
  refine dynamicRotate_apply (s := ⟨2, ![n, m]⟩) 1 a _ h y
    (ValueIdx.ix2 (y 0) ⟨((y 1).val + m - a.toNat % m) % m, Nat.mod_lt _ (by omega)⟩) fun b => ?_
  match b with
  | ⟨0, _⟩ => rfl
  | ⟨1, _⟩ => rfl

/-- A lane's partner: sixteen lanes on in the lower half of its 32, sixteen back in the upper half. -/
theorem partner_up {n m : ℕ} (k : ℕ) (hm : m = 32 * k) (h8 : m ≤ 256) (a : BitVec 32) (ha : a.toNat = m - 16) (f : ℕ → ℕ → ℝ)
    (hi) (h1) (h2) :
    select (s := ⟨2, ![n, m]⟩)
      (cmpi .slt (andi (iota .tc ⟨2, ![n, m]⟩ 32 [1] hi) (broadcast _ 31#32)) (broadcast _ 16#32))
      (dynamicRotate (s := ⟨2, ![n, m]⟩) 1 a none (up2 n m f) h1) (dynamicRotate (s := ⟨2, ![n, m]⟩) 1 16#32 none (up2 n m f) h2)
      = up2 n m fun i j => if j % 32 < 16 then f i (j + 16) else f i (j - 16) := by
  rw [rot_up, rot_up]
  funext y
  have hj : (y 1).val < m := (y 1).isLt
  have hl := lane (y 1).val (by omega)
  rw [Nat.zero_mul] at hl
  show Scalar.select (IntOp.cmpi .slt (IntOp.andi (BitVec.ofNat 32 (0 * m + (y 1).val)) 31#32) 16#32) _ _ = _
  rw [Nat.zero_mul, hl, sel]
  show _ = (((if (y 1).val % 32 < 16 then _ else _) : ℝ) : EReal)
  by_cases h : (y 1).val % 32 < 16
  · rw [if_pos h, if_pos h]
    refine congrArg (fun z : ℝ => (z : EReal)) (congrArg (f _) ?_)
    rw [ha, Nat.mod_eq_of_lt (show m - 16 < m by omega), show (y 1).val + m - (m - 16) = (y 1).val + 16 by omega,
      Nat.mod_eq_of_lt (by omega)]
  · rw [if_neg h, if_neg h]
    refine congrArg (fun z : ℝ => (z : EReal)) (congrArg (f _) ?_)
    show ((y 1).val + m - 16 % m) % m = _
    rw [Nat.mod_eq_of_lt (show 16 < m by omega), show (y 1).val + m - 16 = (y 1).val - 16 + m by omega, Nat.add_mod_right,
      Nat.mod_eq_of_lt (by omega)]

/-! ## The operations at this kernel's shapes -/

theorem sum_r (f : ℕ → ℕ → ℝ) (hφ : FTy.f32 = FTy.f32 ∨ FTy.f32 = FTy.bf16)
    (hacc : (0x00000000#32 : BitVec FTy.f32.bits) = 0x00000000#32) :
    multiReduction (F := Ideal) (φ := .f32) (s := S512x1024) .add [1] S512 (up2 512 1024 f) 0x00000000#32
      reduces_S512x1024_S512 hφ hacc = up1 512 fun i => ∑ k ∈ range 1024, f i k := sum_rows_up f _ _ _
theorem sum_c (f : ℕ → ℕ → ℝ) (hφ : FTy.f32 = FTy.f32 ∨ FTy.f32 = FTy.bf16)
    (hacc : (0x00000000#32 : BitVec FTy.f32.bits) = 0x00000000#32) :
    multiReduction (F := Ideal) (φ := .f32) (s := S512x1024) .add [0] S1024 (up2 512 1024 f) 0x00000000#32
      reduces_S512x1024_S1024 hφ hacc = up1 1024 fun j => ∑ i ∈ range 512, f i j := sum_cols_up f _ _ _
theorem mm_qkv (f g : ℕ → ℕ → ℝ) :
    FloatOps.matmul (F := Ideal) (φ₁ := .bf16) (φ₂ := .bf16) dot_S512x768_S768x1024_S512x1024_1_0_0_1_n_n none (up2 512 768 f) (up2 768 1024 g)
      (constant S512x1024 .f32 0x00000000#32) = up2 512 1024 fun i j => ∑ k ∈ range 768, f i k * g k j := matmul_up f g none
theorem mm_rest (f g : ℕ → ℕ → ℝ) :
    FloatOps.matmul (F := Ideal) (φ₁ := .bf16) (φ₂ := .bf16) dot_S512x3072_S3072x1024_S512x1024_1_0_0_1_n_n none (up2 512 3072 f) (up2 3072 1024 g)
      (constant S512x1024 .f32 0x00000000#32) = up2 512 1024 fun i j => ∑ k ∈ range 3072, f i k * g k j := matmul_up f g none

variable (C S Q KV P X R v w : ℕ → ℕ → ℝ)

/-! ## The blocks -/

abbrev bDh : FVec Ideal S512x1024 .f32 := up2 512 1024 fun i => dh (C i) (S i) w (Q i) (KV i) (P i)
abbrev bXs : FVec Ideal S512x1 .f32 := up2 512 1 fun i _ => ∑ k ∈ range 1024, X i k
abbrev bR : FVec Ideal S512x1 .f32 := up2 512 1 fun i _ => rstd (X i)
abbrev bN : FVec Ideal S512x1024 .f32 := up2 512 1024 fun i => nrm (X i)
/-- The cotangent the layer norm is given. -/
def dn (i k : ℕ) : ℝ := dh (C i) (S i) w (Q i) (KV i) (P i) k * (1 + v 1 k)
abbrev bDn : FVec Ideal S512x1024 .f32 := up2 512 1024 (dn C S Q KV P v w)
abbrev bDc : FVec Ideal S512x1024 .f32 := up2 512 1024 fun i k => dn C S Q KV P v w i k - mean (dn C S Q KV P v w i)

/-! ## The values -/

theorem pay2_up : k0_pay2 (F := Ideal) = up2 8 1024 fun _ _ => 0 := by
  unfold k0_pay2
  exact splat_up zero_word

theorem pay3_up : k0_pay3 (F := Ideal) (up2 512 128 C) = up2 512 128 C := by
  unfold k0_pay3
  exact cast_self_up _ _
theorem pay4_up : k0_pay4 (F := Ideal) (up2 512 128 S) = up2 512 128 S := by
  unfold k0_pay4
  exact cast_self_up _ _

/-- A table of 128 lanes laid out over 256. -/
theorem twice_up (h) : concatenate S512x256 1 [⟨S512x128, (up2 512 128 C : FVec Ideal S512x128 .f32)⟩, ⟨S512x128, (up2 512 128 C : FVec Ideal S512x128 .f32)⟩] h
    = up2 512 256 fun i j => C i (j % 128) :=
  (beside_up C C rfl h).trans (up2_congr fun i _ j hj => by
    show (if j < 128 then C i j else C i (j - 128)) = C i (j % 128)
    by_cases h : j < 128
    · rw [if_pos h, Nat.mod_eq_of_lt h]
    · rw [if_neg h]; exact congrArg _ (by omega))

theorem pay5_up : k0_pay5 (F := Ideal) (up2 512 128 C) = up2 512 256 fun i j => C i (j % 128) := by
  unfold k0_pay5
  rw [pay3_up]
  exact twice_up C _
theorem pay6_up : k0_pay6 (F := Ideal) (up2 512 128 S) = up2 512 256 fun i j => S i (j % 128) := by
  unfold k0_pay6
  rw [pay4_up]
  exact twice_up S _

theorem pay7_up : k0_pay7 (F := Ideal) (up2 512 128 C) (up2 512 128 S) (up2 512 256 Q)
    = up2 512 256 fun i j => unrope (C i) (S i) (Q i) j := by
  unfold k0_pay7
  dsimp only
  rw [pay5_up, pay6_up, mulf_up, mulf_up, partner_up 8 rfl le_rfl 240#32 rfl, addf_up]
  rfl
theorem pay8_up : k0_pay8 (F := Ideal) (up2 512 128 C) (up2 512 128 S) (up2 512 256 Q)
    = up2 512 256 fun i j => unrope (C i) (S i) (Q i) j := pay7_up C S Q

theorem pay9_up : k0_pay9 (F := Ideal) (up2 512 128 C) (up2 512 128 S) (up2 512 128 Q)
    = up2 512 128 fun i j => unrope (C i) (S i) (Q i) j := by
  unfold k0_pay9
  dsimp only
  rw [mulf_up, mulf_up, partner_up 4 rfl (by decide) 112#32 rfl, addf_up, truncf_up]
  refine up2_congr fun i _ j hj => ?_
  unfold unrope
  by_cases h : j % 32 < 16
  · rw [if_pos h, if_pos h, Nat.mod_eq_of_lt hj, Nat.mod_eq_of_lt (by omega)]
  · rw [if_neg h, if_neg h, Nat.mod_eq_of_lt hj, Nat.mod_eq_of_lt (by omega)]

theorem pay10_up : k0_pay10 (F := Ideal) (up2 512 128 Q) = up2 512 128 Q := rfl

theorem pay11_up : k0_pay11 (F := Ideal) (up2 512 768 fun i => dqkv (C i) (S i) (Q i) (KV i)) (up2 768 1024 w) (up2 512 3072 P)
    (up2 3072 1024 fun i j => w (768 + i) j) = bDh C S Q KV P w := by
  unfold k0_pay11
  dsimp only
  rw [cast_self_up, cast_self_up, cast_self_up]
  exact (congrArg₂ (addf (F := Ideal) (s := S512x1024) (φ := .f32)) (mm_qkv _ _) (mm_rest _ _)).trans (addf_up _ _)

theorem pay12_up : k0_pay12 (F := Ideal) (up2 512 1024 X) = bXs X := by
  unfold k0_pay12
  dsimp only
  rw [sum_r]
  exact cast_col_up _ _

theorem pay13_up : k0_pay13 (F := Ideal) (up2 512 1024 X) (bXs X) = up2 512 1024 fun i => dev (X i) := by
  unfold k0_pay13
  dsimp only
  rw [div_1024, cols_up]
  exact subf_up _ _

theorem pay14_up : k0_pay14 (F := Ideal) (up2 512 1024 X) (bXs X) = bR X := by
  unfold k0_pay14
  dsimp only
  rw [pay13_up, mulf_up, sum_r, cast_col_up, div_1024, splat_up word_eps, addf_up]
  exact rstd_up X

theorem pay15_up : k0_pay15 (F := Ideal) (up2 512 1024 X) (bXs X) = bN X := by
  unfold k0_pay15
  dsimp only
  rw [pay14_up, pay13_up, cols_up]
  exact mulf_up _ _

theorem pay16_up (a : ℕ → ℝ) : k0_pay16 (F := Ideal) (bDh C S Q KV P w) (row a)
    = row fun j => a j + ∑ i ∈ range 512, tokSum (C i) (S i) w (Q i) (KV i) (P i) (X i) 0 j := by
  unfold k0_pay16
  dsimp only
  rw [cast_self_up, sum_c, cast_row_up]
  exact addf_up _ _

theorem pay17_up (a : ℕ → ℝ) : k0_pay17 (F := Ideal) (bDh C S Q KV P w) (up2 512 1024 X) (bXs X) (row a)
    = row fun j => a j + ∑ i ∈ range 512, tokSum (C i) (S i) w (Q i) (KV i) (P i) (X i) 1 j := by
  unfold k0_pay17
  dsimp only
  rw [pay15_up, cast_self_up, mulf_up, sum_c, cast_row_up]
  exact addf_up _ _

theorem pay18_up : k0_pay18 (F := Ideal) (bDh C S Q KV P w) (row (v 1)) = bDn C S Q KV P v w := by
  unfold k0_pay18
  dsimp only
  rw [cast_self_up, splat_up word_one, addf_up, rows_up]
  exact mulf_up _ _

theorem pay19_up : k0_pay19 (F := Ideal) (bDh C S Q KV P w) (row (v 1)) = bDc C S Q KV P v w := by
  unfold k0_pay19
  dsimp only
  rw [pay18_up, sum_r, cast_col_up, div_1024, cols_up]
  exact subf_up _ _

theorem pay1_up : k0_pay1 (F := Ideal) (bR X) (bN X) (bDn C S Q KV P v w) (bDc C S Q KV P v w) (up2 512 1024 R)
    = up2 512 1024 fun i => gx (C i) (S i) v w (Q i) (KV i) (P i) (X i) (R i) := by
  unfold k0_pay1
  dsimp only
  rw [mulf_up, sum_r, cast_col_up, div_1024, cols_up, mulf_up, subf_up, cols_up, mulf_up, splat_up word_alpha, mulf_up]
  exact addf_up _ _

end Cert.ProjPay

end
-- ==== Proof.ProjBlock.lean ====
/-
  What one grid point of the input projection's backward kernel leaves in its three outputs.

  A point holds 512 tokens. From blocks of real numbers it leaves the gradients the spec names, and in the running sums
  what they held before with the block's column sums added (from zeros at the first point).
-/
module

public import proofs.«01_k».proof.Proof.Gen.KernelProjIdeal.Frame
public import proofs.«01_k».proof.Proof.ProjPay
public import proofs.«01_k».proof.Proof.Loads

@[expose] public section

set_option maxRecDepth 16384

noncomputable section

namespace Cert.ProjBlock

open Idealize.ShloMosaic Idealize.ShloMosaic.Tactic Idealize.ShloMosaic.TcCoe Cert.KernelProjIdeal Cert.KernelProjIdeal.Gen Cert.Lift Cert.Spec
  Cert.ProjSpec Cert.ProjPay Finset
open Cert.Pay (row)
open Cert.Loads (ld_row col_piece canon_row read_row)
open scoped BigOperators

variable (C S Q KV P X R v w : ℕ → ℕ → ℝ)

theorem c_1024 : (FloatOps.ofBits FTy.f32 1149239296#32 : Ideal .f32) = (FloatOps.ofBits FTy.f32 0x44800000#32 : Ideal .f32) := rfl

theorem hz : (![0, 0] : Fin 2 → ℕ) = fun _ => 0 := by decide

/-! ## Loads -/

/-- A rectangle of a matrix. -/
theorem ld_rect {n m p q : ℕ} {e : EltTy} (hv : Elt Ideal e = EReal) (a b : ℕ) (f g : ℕ → ℕ → ℝ) (hg : ∀ i j, f (a + i) (b + j) = g i j)
    (inb : ∀ x, (![a, b] : Fin 2 → ℕ) x + (![p, q] : Fin 2 → ℕ) x ≤ (⟨2, ![n, m]⟩ : Shape).size x)
    (y : (Rect.unit (s := ⟨2, ![n, m]⟩) ![a, b] ![p, q] inb).shape.Idx) :
    up2 n m f ((Rect.unit (s := ⟨2, ![n, m]⟩) ![a, b] ![p, q] inb).emb y) = up2 p q g y :=
  congrArg (fun z : ℝ => (z : EReal)) ((congrArg₂ f
    (by show a + 1 * (y 0).val = a + (y 0).val; omega) (by show b + 1 * (y 1).val = b + (y 1).val; omega)).trans (hg _ _))

theorem ld_q0 (inb : ∀ a, (![0, 0] : Fin 2 → ℕ) a + (![512, 256] : Fin 2 → ℕ) a ≤ S512x512.size a) :
    View.ld (Val := Elt Ideal) (S := S512x512) (e' := .f32) (up2 512 512 Q) (Rect.unit ![0, 0] (no_index ![512, 256]) inb) = up2 512 256 Q :=
  funext fun y => ld_rect (e := .f32) rfl 0 0 Q _ (fun i j => by rw [Nat.zero_add, Nat.zero_add]) inb y
theorem ld_q1 (inb : ∀ a, (![0, 256] : Fin 2 → ℕ) a + (![512, 256] : Fin 2 → ℕ) a ≤ S512x512.size a) :
    View.ld (Val := Elt Ideal) (S := S512x512) (e' := .f32) (up2 512 512 Q) (Rect.unit ![0, 256] (no_index ![512, 256]) inb)
      = up2 512 256 fun i j => Q i (128 * 2 + j) :=
  funext fun y => ld_rect (e := .f32) rfl 0 256 Q _ (fun i j => by rw [Nat.zero_add]) inb y
theorem ld_k (inb : ∀ a, (![0, 0] : Fin 2 → ℕ) a + (![512, 128] : Fin 2 → ℕ) a ≤ S512x256.size a) :
    View.ld (Val := Elt Ideal) (S := S512x256) (e' := .f32) (up2 512 256 KV) (Rect.unit ![0, 0] (no_index ![512, 128]) inb) = up2 512 128 KV :=
  funext fun y => ld_rect (e := .f32) rfl 0 0 KV _ (fun i j => by rw [Nat.zero_add, Nat.zero_add]) inb y
theorem ld_v (inb : ∀ a, (![0, 128] : Fin 2 → ℕ) a + (![512, 128] : Fin 2 → ℕ) a ≤ S512x256.size a) :
    View.ld (Val := Elt Ideal) (S := S512x256) (e' := .f32) (up2 512 256 KV) (Rect.unit ![0, 128] (no_index ![512, 128]) inb)
      = up2 512 128 fun i j => KV i (128 + j) :=
  funext fun y => ld_rect (e := .f32) rfl 0 128 KV _ (fun i j => by rw [Nat.zero_add]) inb y
theorem ld_w0 (inb : ∀ a, (![0, 0] : Fin 2 → ℕ) a + (![768, 1024] : Fin 2 → ℕ) a ≤ S3840x1024.size a) :
    View.ld (Val := Elt Ideal) (S := S3840x1024) (e' := .bf16) (up2 3840 1024 w) (Rect.unit ![0, 0] (no_index ![768, 1024]) inb) = up2 768 1024 w :=
  funext fun y => ld_rect (e := .bf16) rfl 0 0 w _ (fun i j => by rw [Nat.zero_add, Nat.zero_add]) inb y
theorem ld_w1 (inb : ∀ a, (![768, 0] : Fin 2 → ℕ) a + (![3072, 1024] : Fin 2 → ℕ) a ≤ S3840x1024.size a) :
    View.ld (Val := Elt Ideal) (S := S3840x1024) (e' := .bf16) (up2 3840 1024 w) (Rect.unit ![768, 0] (no_index ![3072, 1024]) inb)
      = up2 3072 1024 fun i j => w (768 + i) j :=
  funext fun y => ld_rect (e := .bf16) rfl 768 0 w _ (fun i j => by rw [Nat.zero_add]) inb y
theorem ld_sum (T : ℕ → ℕ → ℝ) (r : ℕ) (inb : ∀ a, (![r, 0] : Fin 2 → ℕ) a + (![1, 1024] : Fin 2 → ℕ) a ≤ S8x1024.size a) :
    View.ld (Val := Elt Ideal) (S := S8x1024) (e' := .f32) (up2 8 1024 T) (Rect.unit ![r, 0] (no_index ![1, 1024]) inb) = row (T r) := ld_row T r inb

/-! ## The projected queries, keys and values -/

abbrev bQkv : FVec Ideal S512x768 .bf16 := up2 512 768 fun i => dqkv (C i) (S i) (Q i) (KV i)

/-- The four column blocks the body stores side by side. -/
theorem canon_dqkv
    (i0 : ∀ a, (![0, 0] : Fin 2 → ℕ) a + (![512, 256] : Fin 2 → ℕ) a ≤ S512x768.size a)
    (i1 : ∀ a, (![0, 256] : Fin 2 → ℕ) a + (![512, 256] : Fin 2 → ℕ) a ≤ S512x768.size a)
    (i2 : ∀ a, (![0, 512] : Fin 2 → ℕ) a + (![512, 128] : Fin 2 → ℕ) a ≤ S512x768.size a)
    (i3 : ∀ a, (![0, 640] : Fin 2 → ℕ) a + (![512, 128] : Fin 2 → ℕ) a ≤ S512x768.size a) :
    View.canon (Val := Elt Ideal) (s := S512x768) (e := .bf16)
      [⟨Rect.unit ![0, 640] (no_index ![512, 128]) i3, (up2 512 128 fun i j => KV i (128 + j) : FVec Ideal S512x128 .bf16)⟩,
       ⟨Rect.unit ![0, 512] (no_index ![512, 128]) i2, (up2 512 128 fun i j => unrope (C i) (S i) (KV i) j : FVec Ideal S512x128 .bf16)⟩,
       ⟨Rect.unit ![0, 256] (no_index ![512, 256]) i1,
         (up2 512 256 fun i j => unrope (C i) (S i) (fun l => Q i (128 * 2 + l)) j : FVec Ideal S512x256 .bf16)⟩,
       ⟨Rect.unit ![0, 0] (no_index ![512, 256]) i0, (up2 512 256 fun i j => unrope (C i) (S i) (Q i) j : FVec Ideal S512x256 .bf16)⟩]
      = bQkv C S Q KV := by
  funext y
  refine View.canon_apply_of_pieces (Val := Elt Ideal) (e := .bf16) (bQkv C S Q KV) _ ?_ y ?_
  · intro p hp
    simp only [List.mem_cons, List.not_mem_nil, or_false] at hp
    rcases hp with rfl | rfl | rfl | rfl
    · exact col_piece (e := .bf16) rfl 640 (fun i j => KV i (128 + j))
        (fun i => dqkv (C i) (S i) (Q i) (KV i)) (fun i c _ => by
        show _ = dqkv _ _ _ _ _
        unfold dqkv
        rw [if_neg (by omega), if_neg (by omega), show 640 + c - 512 = 128 + c by omega]) i3
    · exact col_piece (e := .bf16) rfl 512 (fun i j => unrope (C i) (S i) (KV i) j)
        (fun i => dqkv (C i) (S i) (Q i) (KV i)) (fun i c hc => by
        show _ = dqkv _ _ _ _ _
        unfold dqkv
        rw [if_neg (by omega), if_pos (by omega), Nat.add_sub_cancel_left]) i2
    · exact col_piece (e := .bf16) rfl 256 (fun i j => unrope (C i) (S i) (fun l => Q i (128 * 2 + l)) j)
        (fun i => dqkv (C i) (S i) (Q i) (KV i)) (fun i c hc => by
        show unrope _ _ _ _ = dqkv _ _ _ _ _
        unfold dqkv
        rw [if_pos (by omega)]
        exact unrope_shift (C i) (S i) (Q i) 2 c) i1
    · exact col_piece (e := .bf16) rfl 0 (fun i j => unrope (C i) (S i) (Q i) j)
        (fun i => dqkv (C i) (S i) (Q i) (KV i)) (fun i c hc => by
        show unrope _ _ _ _ = dqkv _ _ _ _ _
        unfold dqkv
        rw [if_pos (by omega), Nat.zero_add]) i0
  · have y0 : (y 0).val < 512 := (y 0).isLt
    have y1 : (y 1).val < 768 := (y 1).isLt
    by_cases c0 : (y 1).val < 256
    · refine ⟨_, List.mem_cons_of_mem _ (List.mem_cons_of_mem _ (List.mem_cons_of_mem _ List.mem_cons_self)), (Rect.mem_set_unit (inb := i0)).2 fun a => ?_⟩
      fin_cases a
      · exact ⟨Nat.zero_le _, by show (y 0).val < 0 + 512; omega⟩
      · exact ⟨Nat.zero_le _, by show (y 1).val < 0 + 256; omega⟩
    by_cases c1 : (y 1).val < 512
    · refine ⟨_, List.mem_cons_of_mem _ (List.mem_cons_of_mem _ List.mem_cons_self), (Rect.mem_set_unit (inb := i1)).2 fun a => ?_⟩
      fin_cases a
      · exact ⟨Nat.zero_le _, by show (y 0).val < 0 + 512; omega⟩
      · exact ⟨by show 256 ≤ (y 1).val; omega, by show (y 1).val < 256 + 256; omega⟩
    by_cases c2 : (y 1).val < 640
    · refine ⟨_, List.mem_cons_of_mem _ List.mem_cons_self, (Rect.mem_set_unit (inb := i2)).2 fun a => ?_⟩
      fin_cases a
      · exact ⟨Nat.zero_le _, by show (y 0).val < 0 + 512; omega⟩
      · exact ⟨by show 512 ≤ (y 1).val; omega, by show (y 1).val < 512 + 128; omega⟩
    · refine ⟨_, List.mem_cons_self, (Rect.mem_set_unit (inb := i3)).2 fun a => ?_⟩
      fin_cases a
      · exact ⟨Nat.zero_le _, by show (y 0).val < 0 + 512; omega⟩
      · exact ⟨by show 640 ≤ (y 1).val; omega, by show (y 1).val < 640 + 128; omega⟩

/-- The four column blocks, loaded whole. -/
theorem load_dqkv {sig : RefSig} {κ : Kind} {sp : Space} (V : View sig κ sp S512x768 .bf16)
    (i0 : ∀ a, (![0, 0] : Fin 2 → ℕ) a + (![512, 256] : Fin 2 → ℕ) a ≤ S512x768.size a)
    (i1 : ∀ a, (![0, 256] : Fin 2 → ℕ) a + (![512, 256] : Fin 2 → ℕ) a ≤ S512x768.size a)
    (i2 : ∀ a, (![0, 512] : Fin 2 → ℕ) a + (![512, 128] : Fin 2 → ℕ) a ≤ S512x768.size a)
    (i3 : ∀ a, (![0, 640] : Fin 2 → ℕ) a + (![512, 128] : Fin 2 → ℕ) a ≤ S512x768.size a)
    (i4 : ∀ a, (![0, 0] : Fin 2 → ℕ) a + (![512, 768] : Fin 2 → ℕ) a ≤ S512x768.size a) :
    V.readCov (Val := Elt Ideal)
      [⟨Rect.unit ![0, 640] (no_index ![512, 128]) i3, (up2 512 128 fun i j => KV i (128 + j) : FVec Ideal S512x128 .bf16)⟩,
       ⟨Rect.unit ![0, 512] (no_index ![512, 128]) i2, (up2 512 128 fun i j => unrope (C i) (S i) (KV i) j : FVec Ideal S512x128 .bf16)⟩,
       ⟨Rect.unit ![0, 256] (no_index ![512, 256]) i1,
         (up2 512 256 fun i j => unrope (C i) (S i) (fun l => Q i (128 * 2 + l)) j : FVec Ideal S512x256 .bf16)⟩,
       ⟨Rect.unit ![0, 0] (no_index ![512, 256]) i0, (up2 512 256 fun i j => unrope (C i) (S i) (Q i) j : FVec Ideal S512x256 .bf16)⟩]
      (Rect.unit ![0, 0] (no_index ![512, 768]) i4).toLoadRect
      = bQkv C S Q KV := by
  rw [View.readCov_eq_canon', canon_dqkv C S Q KV i0 i1 i2 i3]
  exact View.ld_unit_lit (S := S512x768) (Val := Elt Ideal) (e := .bf16) i4 _ (by decide)

/-- The sums' rows after one block. -/
theorem rows_stat (T : ℕ → ℕ → ℝ) :
    (up2 8 1024 fun s j =>
      if s = 1 then T 1 j + ∑ i ∈ range 512, tokSum (C i) (S i) w (Q i) (KV i) (P i) (X i) 1 j
      else if s = 0 then T 0 j + ∑ i ∈ range 512, tokSum (C i) (S i) w (Q i) (KV i) (P i) (X i) 0 j
      else T s j)
      = up2 8 1024 fun s j => T s j + ∑ i ∈ range 512, tokSum (C i) (S i) w (Q i) (KV i) (P i) (X i) s j :=
  up2_congr fun s hs j _ => by
    interval_cases s <;> simp [tokSum]

/-! ## The three outputs, at the first point and at a later one -/

theorem out_A_9 (c : Dev nD) (i : grid0.Coords) (arg1 : Memref sig .tc .vmem S512x512 .f32) (harg1 : arg1.IsWhole) (arg2 : Memref sig .tc .vmem S512x256 .f32) (harg2 : arg2.IsWhole) (arg3 : Memref sig .tc .vmem S512x3072 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S8x1024 .f32) (harg6 : arg6.IsWhole) (arg7 : Memref sig .tc .vmem S3840x1024 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x768 .bf16) (harg10 : arg10.IsWhole) (arg11 : Memref sig .tc .vmem S512x1024 .f32) (harg11 : arg11.IsWhole) (arg12 : Memref sig .tc .vmem S8x1024 .f32) (harg12 : arg12.IsWhole) (hc0 : cond0_0 i) :
    out0_A_9 (F := Ideal) c i arg1 harg1 arg2 harg2 arg3 harg3 arg4 harg4 arg5 harg5 arg6 harg6 arg7 harg7 arg8 harg8 arg9 harg9 arg10 harg10 arg11 harg11 arg12 harg12 hc0 (up2 512 512 Q) (up2 512 256 KV) (up2 512 3072 P) (up2 512 1024 X) (up2 512 1024 R) (up2 8 1024 v) (up2 3840 1024 w) (up2 512 128 C) (up2 512 128 S)
      = bQkv C S Q KV := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 hc0 _ _ _ _ _ _ _ _ _)]
  unfold kernelRun0_A
  dsimp only
  sl_unfold_words
  simp (config := { decide := true }) only [↓View.readCov_skip, View.readAt_eq_ld, Memref.IsWhole.read_unread, View.ld_unit_lit, ld_row, ld_q0, ld_q1, ld_k, ld_v, ld_w0, ld_w1, View.readCov_cons_toLoadRect, load_dqkv, c_1024, pay1_up, pay2_up, pay3_up, pay4_up, pay5_up, pay6_up, pay7_up, pay8_up, pay9_up, pay10_up, pay11_up, pay12_up, pay13_up, pay14_up, pay15_up, pay16_up C S Q KV P X w, pay17_up, pay18_up, pay19_up]
  exact canon_dqkv C S Q KV _ _ _ _

theorem out_A_10 (c : Dev nD) (i : grid0.Coords) (arg1 : Memref sig .tc .vmem S512x512 .f32) (harg1 : arg1.IsWhole) (arg2 : Memref sig .tc .vmem S512x256 .f32) (harg2 : arg2.IsWhole) (arg3 : Memref sig .tc .vmem S512x3072 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S8x1024 .f32) (harg6 : arg6.IsWhole) (arg7 : Memref sig .tc .vmem S3840x1024 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x768 .bf16) (harg10 : arg10.IsWhole) (arg11 : Memref sig .tc .vmem S512x1024 .f32) (harg11 : arg11.IsWhole) (arg12 : Memref sig .tc .vmem S8x1024 .f32) (harg12 : arg12.IsWhole) (hc0 : cond0_0 i) :
    out0_A_10 (F := Ideal) c i arg1 harg1 arg2 harg2 arg3 harg3 arg4 harg4 arg5 harg5 arg6 harg6 arg7 harg7 arg8 harg8 arg9 harg9 arg10 harg10 arg11 harg11 arg12 harg12 hc0 (up2 512 512 Q) (up2 512 256 KV) (up2 512 3072 P) (up2 512 1024 X) (up2 512 1024 R) (up2 8 1024 v) (up2 3840 1024 w) (up2 512 128 C) (up2 512 128 S)
      = up2 512 1024 fun i => gx (C i) (S i) v w (Q i) (KV i) (P i) (X i) (R i) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 hc0 _ _ _ _ _ _ _ _ _)]
  unfold kernelRun0_A
  dsimp only
  sl_unfold_words
  simp (config := { decide := true }) only [↓View.readCov_skip, View.readAt_eq_ld, Memref.IsWhole.read_unread, View.ld_unit_lit, ld_row, ld_q0, ld_q1, ld_k, ld_v, ld_w0, ld_w1, View.readCov_cons_toLoadRect, load_dqkv, c_1024, pay1_up, pay2_up, pay3_up, pay4_up, pay5_up, pay6_up, pay7_up, pay8_up, pay9_up, pay10_up, pay11_up, pay12_up, pay13_up, pay14_up, pay15_up, pay16_up C S Q KV P X w, pay17_up, pay18_up, pay19_up]
  exact View.canon_unit_zero (S := S512x1024) hz _ _

theorem out_A_11 (c : Dev nD) (i : grid0.Coords) (arg1 : Memref sig .tc .vmem S512x512 .f32) (harg1 : arg1.IsWhole) (arg2 : Memref sig .tc .vmem S512x256 .f32) (harg2 : arg2.IsWhole) (arg3 : Memref sig .tc .vmem S512x3072 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S8x1024 .f32) (harg6 : arg6.IsWhole) (arg7 : Memref sig .tc .vmem S3840x1024 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x768 .bf16) (harg10 : arg10.IsWhole) (arg11 : Memref sig .tc .vmem S512x1024 .f32) (harg11 : arg11.IsWhole) (arg12 : Memref sig .tc .vmem S8x1024 .f32) (harg12 : arg12.IsWhole) (hc0 : cond0_0 i) :
    out0_A_11 (F := Ideal) c i arg1 harg1 arg2 harg2 arg3 harg3 arg4 harg4 arg5 harg5 arg6 harg6 arg7 harg7 arg8 harg8 arg9 harg9 arg10 harg10 arg11 harg11 arg12 harg12 hc0 (up2 512 512 Q) (up2 512 256 KV) (up2 512 3072 P) (up2 512 1024 X) (up2 512 1024 R) (up2 8 1024 v) (up2 3840 1024 w) (up2 512 128 C) (up2 512 128 S)
      = up2 8 1024 fun s j => 0 + ∑ i ∈ range 512, tokSum (C i) (S i) w (Q i) (KV i) (P i) (X i) s j := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 hc0 _ _ _ _ _ _ _ _ _)]
  unfold kernelRun0_A
  dsimp only
  sl_unfold_words
  simp (config := { decide := true }) only [↓View.readCov_skip, View.readCov_fill, pay2_up, ld_sum, View.readAt_eq_ld, Memref.IsWhole.read_unread, View.ld_unit_lit, ld_row, ld_q0, ld_q1, ld_k, ld_v, ld_w0, ld_w1, View.readCov_cons_toLoadRect, load_dqkv, c_1024, pay1_up, pay2_up, pay3_up, pay4_up, pay5_up, pay6_up, pay7_up, pay8_up, pay9_up, pay10_up, pay11_up, pay12_up, pay13_up, pay14_up, pay15_up, pay16_up C S Q KV P X w, pay17_up, pay18_up, pay19_up]
  refine Eq.trans ?_ (rows_stat C S Q KV P X w fun _ _ => 0)
  exact canon_row (canon_row (View.canon_unit_zero (S := S8x1024) hz _ _) _ _ _) _ _ _

theorem out_B_9 (c : Dev nD) (i : grid0.Coords) (arg1 : Memref sig .tc .vmem S512x512 .f32) (harg1 : arg1.IsWhole) (arg2 : Memref sig .tc .vmem S512x256 .f32) (harg2 : arg2.IsWhole) (arg3 : Memref sig .tc .vmem S512x3072 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S8x1024 .f32) (harg6 : arg6.IsWhole) (arg7 : Memref sig .tc .vmem S3840x1024 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x768 .bf16) (harg10 : arg10.IsWhole) (arg11 : Memref sig .tc .vmem S512x1024 .f32) (harg11 : arg11.IsWhole) (arg12 : Memref sig .tc .vmem S8x1024 .f32) (harg12 : arg12.IsWhole) (hc0 : ¬cond0_0 i) (xo : FVec Ideal S8x1024 .f32) :
    out0_B_9 (F := Ideal) c i arg1 harg1 arg2 harg2 arg3 harg3 arg4 harg4 arg5 harg5 arg6 harg6 arg7 harg7 arg8 harg8 arg9 harg9 arg10 harg10 arg11 harg11 arg12 harg12 hc0 (up2 512 512 Q) (up2 512 256 KV) (up2 512 3072 P) (up2 512 1024 X) (up2 512 1024 R) (up2 8 1024 v) (up2 3840 1024 w) (up2 512 128 C) (up2 512 128 S) xo
      = bQkv C S Q KV := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 hc0 _ _ _ _ _ _ _ _ _ _)]
  unfold kernelRun0_B
  dsimp only
  sl_unfold_words
  simp (config := { decide := true }) only [↓View.readCov_skip, View.readAt_eq_ld, Memref.IsWhole.read_unread, View.ld_unit_lit, ld_row, ld_q0, ld_q1, ld_k, ld_v, ld_w0, ld_w1, View.readCov_cons_toLoadRect, load_dqkv, c_1024, pay1_up, pay2_up, pay3_up, pay4_up, pay5_up, pay6_up, pay7_up, pay8_up, pay9_up, pay10_up, pay11_up, pay12_up, pay13_up, pay14_up, pay15_up, pay16_up C S Q KV P X w, pay17_up, pay18_up, pay19_up]
  exact canon_dqkv C S Q KV _ _ _ _

theorem out_B_10 (c : Dev nD) (i : grid0.Coords) (arg1 : Memref sig .tc .vmem S512x512 .f32) (harg1 : arg1.IsWhole) (arg2 : Memref sig .tc .vmem S512x256 .f32) (harg2 : arg2.IsWhole) (arg3 : Memref sig .tc .vmem S512x3072 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S8x1024 .f32) (harg6 : arg6.IsWhole) (arg7 : Memref sig .tc .vmem S3840x1024 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x768 .bf16) (harg10 : arg10.IsWhole) (arg11 : Memref sig .tc .vmem S512x1024 .f32) (harg11 : arg11.IsWhole) (arg12 : Memref sig .tc .vmem S8x1024 .f32) (harg12 : arg12.IsWhole) (hc0 : ¬cond0_0 i) (xo : FVec Ideal S8x1024 .f32) :
    out0_B_10 (F := Ideal) c i arg1 harg1 arg2 harg2 arg3 harg3 arg4 harg4 arg5 harg5 arg6 harg6 arg7 harg7 arg8 harg8 arg9 harg9 arg10 harg10 arg11 harg11 arg12 harg12 hc0 (up2 512 512 Q) (up2 512 256 KV) (up2 512 3072 P) (up2 512 1024 X) (up2 512 1024 R) (up2 8 1024 v) (up2 3840 1024 w) (up2 512 128 C) (up2 512 128 S) xo
      = up2 512 1024 fun i => gx (C i) (S i) v w (Q i) (KV i) (P i) (X i) (R i) := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 hc0 _ _ _ _ _ _ _ _ _ _)]
  unfold kernelRun0_B
  dsimp only
  sl_unfold_words
  simp (config := { decide := true }) only [↓View.readCov_skip, View.readAt_eq_ld, Memref.IsWhole.read_unread, View.ld_unit_lit, ld_row, ld_q0, ld_q1, ld_k, ld_v, ld_w0, ld_w1, View.readCov_cons_toLoadRect, load_dqkv, c_1024, pay1_up, pay2_up, pay3_up, pay4_up, pay5_up, pay6_up, pay7_up, pay8_up, pay9_up, pay10_up, pay11_up, pay12_up, pay13_up, pay14_up, pay15_up, pay16_up C S Q KV P X w, pay17_up, pay18_up, pay19_up]
  exact View.canon_unit_zero (S := S512x1024) hz _ _

theorem out_B_11 (c : Dev nD) (i : grid0.Coords) (arg1 : Memref sig .tc .vmem S512x512 .f32) (harg1 : arg1.IsWhole) (arg2 : Memref sig .tc .vmem S512x256 .f32) (harg2 : arg2.IsWhole) (arg3 : Memref sig .tc .vmem S512x3072 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S8x1024 .f32) (harg6 : arg6.IsWhole) (arg7 : Memref sig .tc .vmem S3840x1024 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x768 .bf16) (harg10 : arg10.IsWhole) (arg11 : Memref sig .tc .vmem S512x1024 .f32) (harg11 : arg11.IsWhole) (arg12 : Memref sig .tc .vmem S8x1024 .f32) (harg12 : arg12.IsWhole) (hc0 : ¬cond0_0 i) (T : ℕ → ℕ → ℝ) :
    out0_B_11 (F := Ideal) c i arg1 harg1 arg2 harg2 arg3 harg3 arg4 harg4 arg5 harg5 arg6 harg6 arg7 harg7 arg8 harg8 arg9 harg9 arg10 harg10 arg11 harg11 arg12 harg12 hc0 (up2 512 512 Q) (up2 512 256 KV) (up2 512 3072 P) (up2 512 1024 X) (up2 512 1024 R) (up2 8 1024 v) (up2 3840 1024 w) (up2 512 128 C) (up2 512 128 S) (up2 8 1024 T)
      = up2 8 1024 fun s j => T s j + ∑ i ∈ range 512, tokSum (C i) (S i) w (Q i) (KV i) (P i) (X i) s j := by
  unfold out0_B_11
  unfold kernelRun0_B
  dsimp only
  sl_unfold_words
  simp (config := { decide := true }) only [↓View.readCov_skip, ld_sum, View.readAt_eq_ld, Memref.IsWhole.read_unread, View.ld_unit_lit, ld_row, ld_q0, ld_q1, ld_k, ld_v, ld_w0, ld_w1, View.readCov_cons_toLoadRect, load_dqkv, c_1024, pay1_up, pay2_up, pay3_up, pay4_up, pay5_up, pay6_up, pay7_up, pay8_up, pay9_up, pay10_up, pay11_up, pay12_up, pay13_up, pay14_up, pay15_up, pay16_up C S Q KV P X w, pay17_up, pay18_up, pay19_up]
  refine Eq.trans ?_ (rows_stat C S Q KV P X w T)
  exact read_row _ _ (read_row _ _ (harg12.read_unread _) _ _ _) _ _ _

end Cert.ProjBlock

end
-- ==== Proof.ProjTables.lean ====
/-
  The rotation's tables in real numbers.

  A token stands at a row and a column of the image. A head's 64 lanes are four groups of sixteen; the first two turn by
  the row's angle, the last two by the column's. An angle is the position times one of sixteen frequencies.
-/
module

public import proofs.«01_k».proof.Proof.Lift
public import Idealize.ShloMosaic.Lib.KernelVsHost
public import Idealize.ShloMosaic.Lib.IdealHost

@[expose] public section

noncomputable section

namespace Cert.ProjTables

open Idealize.ShloMosaic Idealize.ShloMosaic.TcCoe Idealize.ShloMosaic.ValueIdx Cert.Lift

/-- The sixteen frequencies. -/
def freq (j : ℕ) : ℝ := Real.rpow 10000 (-(j : ℝ) / 16)

/-- The positions, as real numbers. -/
def pos (r : IVec (⟨1, ![8192]⟩ : Shape) 32) (i : ℕ) : ℝ := if h : i < 8192 then ((r (ix1 ⟨i, h⟩)).toInt : ℝ) else 0

/-- The angle of a lane, from a token's two positions. -/
def ang (a b : ℕ → ℝ) (i j : ℕ) : ℝ := (if j % 64 < 32 then a i else b i) * freq (j % 16)
/-- The table of cosines. -/
def cosT (a b : ℕ → ℝ) (i j : ℕ) : ℝ := Real.cos (ang a b i j)
/-- The table of signed sines. -/
def sinT (a b : ℕ → ℝ) (i j : ℕ) : ℝ := if j % 32 < 16 then -Real.sin (ang a b i j) else Real.sin (ang a b i j)

section Lanes

variable (a b : ℕ → ℝ) (i j : ℕ)

/-! ### The tables on each group of lanes -/

theorem cosT_0 (hj : j < 16) : cosT a b i j = Real.cos (a i * freq j) := by
  unfold cosT ang
  rw [if_pos (by omega), show j % 16 = j by omega]
theorem cosT_16 (hj : j < 16) : cosT a b i (16 + j) = Real.cos (a i * freq j) := by
  unfold cosT ang
  rw [if_pos (by omega), show (16 + j) % 16 = j by omega]
theorem cosT_32 (hj : j < 16) : cosT a b i (32 + j) = Real.cos (b i * freq j) := by
  unfold cosT ang
  rw [if_neg (by omega), show (32 + j) % 16 = j by omega]
theorem cosT_48 (hj : j < 16) : cosT a b i (48 + j) = Real.cos (b i * freq j) := by
  unfold cosT ang
  rw [if_neg (by omega), show (48 + j) % 16 = j by omega]
theorem cosT_mod : cosT a b i (j % 64) = cosT a b i j := by
  unfold cosT ang
  rw [show j % 64 % 64 = j % 64 by omega, show j % 64 % 16 = j % 16 by omega]
theorem sinT_0 (hj : j < 16) : sinT a b i j = -Real.sin (a i * freq j) := by
  unfold sinT ang
  rw [if_pos (by omega : j % 32 < 16), if_pos (by omega), show j % 16 = j by omega]
theorem sinT_16 (hj : j < 16) : sinT a b i (16 + j) = Real.sin (a i * freq j) := by
  unfold sinT ang
  rw [if_neg (by omega : ¬(16 + j) % 32 < 16), if_pos (by omega), show (16 + j) % 16 = j by omega]
theorem sinT_32 (hj : j < 16) : sinT a b i (32 + j) = -Real.sin (b i * freq j) := by
  unfold sinT ang
  rw [if_pos (by omega : (32 + j) % 32 < 16), if_neg (by omega), show (32 + j) % 16 = j by omega]
theorem sinT_48 (hj : j < 16) : sinT a b i (48 + j) = Real.sin (b i * freq j) := by
  unfold sinT ang
  rw [if_neg (by omega : ¬(48 + j) % 32 < 16), if_neg (by omega), show (48 + j) % 16 = j by omega]
theorem sinT_mod : sinT a b i (j % 64) = sinT a b i j := by
  unfold sinT ang
  rw [show j % 64 % 64 = j % 64 by omega, show j % 64 % 16 = j % 16 by omega, show j % 64 % 32 = j % 32 by omega]

end Lanes

theorem pos_up (r : IVec (⟨1, ![8192]⟩ : Shape) 32) : (sitofp .f32 r : FVec Ideal (⟨1, ![8192]⟩ : Shape) .f32) = up1 8192 (pos r) := by
  funext i
  have h : (i 0).val < 8192 := (i 0).isLt
  have e : (ix1 (⟨(i 0).val, h⟩ : Fin 8192) : (⟨1, ![8192]⟩ : Shape).Idx) = i := by
    funext d
    fin_cases d
    rfl
  show (((r i).toInt : ℝ) : EReal) = ((pos r (i 0).val : ℝ) : EReal)
  unfold pos
  rw [dif_pos h, e]

theorem word_16 : Ideal.ofBits .f32 0x41800000#32 = ((16 : ℝ) : EReal) := by
  simp [Ideal.ofBits, Ideal.ieee, -EReal.coe_mul]; norm_num
theorem word_10000 : Ideal.ofBits .f32 0x461C4000#32 = ((10000 : ℝ) : EReal) := by
  simp [Ideal.ofBits, Ideal.ieee, -EReal.coe_mul]; norm_num

/-- The frequencies as the host computes them. -/
theorem freq_up (h16 h10) :
    Host.powf (broadcastInDim (s := ⟨0, ![]⟩) ⟨1, ![16]⟩ ![] h10 (constant (F := Ideal) ⟨0, ![]⟩ .f32 0x461C4000#32))
      (Host.divf (Host.negf (sitofp .f32 (iotaInDim ⟨1, ![16]⟩ 32 0) : FVec Ideal (⟨1, ![16]⟩ : Shape) .f32))
        (broadcastInDim (s := ⟨0, ![]⟩) ⟨1, ![16]⟩ ![] h16 (constant (F := Ideal) ⟨0, ![]⟩ .f32 0x41800000#32)))
      = up1 16 freq := by
  rw [host_splat1_up _ _ word_16, host_splat1_up _ _ word_10000]
  funext i
  have b : (i 0).val < 16 := (i 0).isLt
  have e : (((BitVec.ofNat 32 (i 0).val).toInt : ℝ)) = ((i 0).val : ℝ) := by
    rw [BitVec.toInt_eq_toNat_of_lt (by rw [BitVec.toNat_ofNat]; omega), BitVec.toNat_ofNat, Nat.mod_eq_of_lt (by omega)]
    push_cast
    rfl
  show Ideal.pow ((10000 : ℝ) : EReal) (Ideal.div (-(((BitVec.ofNat 32 (i 0).val).toInt : ℝ) : EReal)) ((16 : ℝ) : EReal)) = ((freq (i 0).val : ℝ) : EReal)
  rw [e, ← EReal.coe_neg, div_coe' _ _ (by norm_num)]
  rfl

variable {n m : ℕ} (f : ℕ → ℕ → ℝ)

theorem cos_up {φ : FTy} : Host.cos (F := Ideal) (s := ⟨2, ![n, m]⟩) (φ := φ) (up2 n m f) = up2 n m fun i j => Real.cos (f i j) := rfl
theorem sin_up {φ : FTy} : Host.sin (F := Ideal) (s := ⟨2, ![n, m]⟩) (φ := φ) (up2 n m f) = up2 n m fun i j => Real.sin (f i j) := rfl

/-- The angles of one group of lanes: positions down the rows, frequencies along the columns. -/
theorem angle_up (p q : ℕ → ℝ) (h1 h2 h3 h4) :
    mulf (F := Ideal) (φ := .f32)
      (broadcastInDim (s := ⟨2, ![8192, 1]⟩) ⟨2, ![8192, 16]⟩ ![0, 1] h3 (broadcastInDim (s := ⟨1, ![8192]⟩) ⟨2, ![8192, 1]⟩ ![0] h1 (up1 8192 p)))
      (broadcastInDim (s := ⟨2, ![1, 16]⟩) ⟨2, ![8192, 16]⟩ ![0, 1] h4 (broadcastInDim (s := ⟨1, ![16]⟩) ⟨2, ![1, 16]⟩ ![1] h2 (up1 16 q)))
      = up2 8192 16 fun i j => p i * q j := by
  rw [host_row_up, host_col_up, host_rows_up, host_cols_up, mulf_up]

/-- The same as the host computes them from the positions. -/
theorem angle_host (r : IVec (⟨1, ![8192]⟩ : Shape) 32) (h1 h2 h3 h4 h5 h6) :
    mulf (F := Ideal) (φ := .f32)
      (broadcastInDim (s := ⟨2, ![8192, 1]⟩) ⟨2, ![8192, 16]⟩ ![0, 1] h3
        (broadcastInDim (s := ⟨1, ![8192]⟩) ⟨2, ![8192, 1]⟩ ![0] h1 (sitofp .f32 r : FVec Ideal (⟨1, ![8192]⟩ : Shape) .f32)))
      (broadcastInDim (s := ⟨2, ![1, 16]⟩) ⟨2, ![8192, 16]⟩ ![0, 1] h4 (broadcastInDim (s := ⟨1, ![16]⟩) ⟨2, ![1, 16]⟩ ![1] h2
        (Host.powf (broadcastInDim (s := ⟨0, ![]⟩) ⟨1, ![16]⟩ ![] h6 (constant (F := Ideal) ⟨0, ![]⟩ .f32 0x461C4000#32))
          (Host.divf (Host.negf (sitofp .f32 (iotaInDim ⟨1, ![16]⟩ 32 0) : FVec Ideal (⟨1, ![16]⟩ : Shape) .f32))
            (broadcastInDim (s := ⟨0, ![]⟩) ⟨1, ![16]⟩ ![] h5 (constant (F := Ideal) ⟨0, ![]⟩ .f32 0x41800000#32))))))
      = up2 8192 16 fun i j => pos r i * freq j := by
  rw [pos_up, freq_up, angle_up]

/-- Four groups of sixteen lanes side by side. -/
theorem four_up (f0 f1 f2 f3 F : ℕ → ℕ → ℝ) (h)
    (h0 : ∀ i j, j < 16 → f0 i j = F i j) (h1 : ∀ i j, j < 16 → f1 i j = F i (16 + j))
    (h2 : ∀ i j, j < 16 → f2 i j = F i (32 + j)) (h3 : ∀ i j, j < 16 → f3 i j = F i (48 + j)) :
    concatenate (⟨2, ![8192, 64]⟩ : Shape) 1 [⟨⟨2, ![8192, 16]⟩, up2 8192 16 f0⟩, ⟨⟨2, ![8192, 16]⟩, up2 8192 16 f1⟩,
        ⟨⟨2, ![8192, 16]⟩, up2 8192 16 f2⟩, ⟨⟨2, ![8192, 16]⟩, up2 8192 16 f3⟩] h = up2 8192 64 F := by
  have piece : ∀ (j : (⟨2, ![8192, 64]⟩ : Shape).Idx) (k : ℕ) (hk : k < 4) (g : ℕ → ℕ → ℝ) (r : ℕ) (hr : r < 16)
      (hg : ([⟨⟨2, ![8192, 16]⟩, up2 8192 16 f0⟩, ⟨⟨2, ![8192, 16]⟩, up2 8192 16 f1⟩,
        ⟨⟨2, ![8192, 16]⟩, up2 8192 16 f2⟩, ⟨⟨2, ![8192, 16]⟩, up2 8192 16 f3⟩] : List ((s : Shape) × (s.Idx → EReal)))[k] = ⟨⟨2, ![8192, 16]⟩, up2 8192 16 g⟩)
      (_ : (j 1).val = 16 * k + r),
      concatenate (⟨2, ![8192, 64]⟩ : Shape) 1 [⟨⟨2, ![8192, 16]⟩, up2 8192 16 f0⟩, ⟨⟨2, ![8192, 16]⟩, up2 8192 16 f1⟩,
        ⟨⟨2, ![8192, 16]⟩, up2 8192 16 f2⟩, ⟨⟨2, ![8192, 16]⟩, up2 8192 16 f3⟩] h j = ((g (j 0).val r : ℝ) : EReal) := by
    intro j k hk g r hr hg hj
    refine (concatenate_apply_piece (t := ⟨2, ![8192, 64]⟩) 1 _ h j k hk _ _ hg rfl (16 * k) ?_ (ix2 (j 0) ⟨r, hr⟩) (fun b hb => ?_) ?_).trans rfl
    · interval_cases k <;> rfl
    · match b with
      | ⟨0, _⟩ => rfl
      | ⟨1, _⟩ => exact absurd rfl hb
    · exact hj.symm
  funext j
  have b1 : (j 1).val < 64 := (j 1).isLt
  show _ = ((F (j 0).val (j 1).val : ℝ) : EReal)
  rcases (by omega : (j 1).val < 16 ∨ (16 ≤ (j 1).val ∧ (j 1).val < 32) ∨ (32 ≤ (j 1).val ∧ (j 1).val < 48) ∨ 48 ≤ (j 1).val) with b | b | b | b
  · rw [piece j 0 (by norm_num) f0 (j 1).val b rfl (by omega), h0 _ _ b]
  · rw [piece j 1 (by norm_num) f1 ((j 1).val - 16) (by omega) rfl (by omega), h1 _ _ (by omega), show 16 + ((j 1).val - 16) = (j 1).val by omega]
  · rw [piece j 2 (by norm_num) f2 ((j 1).val - 32) (by omega) rfl (by omega), h2 _ _ (by omega), show 32 + ((j 1).val - 32) = (j 1).val by omega]
  · rw [piece j 3 (by norm_num) f3 ((j 1).val - 48) (by omega) rfl (by omega), h3 _ _ (by omega), show 48 + ((j 1).val - 48) = (j 1).val by omega]

/-- A matrix transposed. -/
theorem transpose_up (h) : transpose (s := ⟨2, ![n, m]⟩) (⟨2, ![m, n]⟩ : Shape) [1, 0] (up2 n m f) h = up2 m n fun i j => f j i := by
  funext j
  refine (transpose_apply _ _ h j (ix2 (j 1) (j 0)) fun a => ?_).trans rfl
  match a with
  | ⟨0, _⟩ => rfl
  | ⟨1, _⟩ => rfl

/-- One head's lanes, twice. -/
theorem twice_up (h1 h2 h3) :
    shapeCast (s := ⟨4, ![1, 8192, 2, 64]⟩) (⟨2, ![8192, 128]⟩ : Shape)
      (broadcastInDim (s := ⟨4, ![1, 8192, 1, 64]⟩) ⟨4, ![1, 8192, 2, 64]⟩ ![0, 1, 2, 3] h2
        (shapeCast (s := ⟨2, ![8192, 64]⟩) (⟨4, ![1, 8192, 1, 64]⟩ : Shape) (up2 8192 64 f) h1)) h3
      = up2 8192 128 fun i j => f i (j % 64) := by
  funext j
  have b0 : (j 0).val < 8192 := (j 0).isLt
  have b1 : (j 1).val < 128 := (j 1).isLt
  refine (shapeCast_apply _ h3 j (ix4 ⟨0, by norm_num⟩ ⟨(j 0).val, b0⟩ ⟨(j 1).val / 64, by omega⟩ ⟨(j 1).val % 64, by omega⟩) ?_).trans ?_
  · rw [Shape.rowMajor_val_two, Shape.rowMajor_val_four]
    show ((0 * 8192 + (j 0).val) * 2 + (j 1).val / 64) * 64 + (j 1).val % 64 = (j 0).val * 128 + (j 1).val
    omega
  refine (broadcastInDim_apply _ h2 _ _ (ix4 ⟨0, by norm_num⟩ ⟨(j 0).val, b0⟩ ⟨0, by norm_num⟩ ⟨(j 1).val % 64, by omega⟩) fun a => ?_).trans ?_
  · match a with
    | ⟨0, _⟩ => rfl
    | ⟨1, _⟩ => rfl
    | ⟨2, _⟩ => rfl
    | ⟨3, _⟩ => rfl
  refine (shapeCast_apply _ h1 _ (ix2 ⟨(j 0).val, b0⟩ ⟨(j 1).val % 64, by omega⟩) ?_).trans rfl
  rw [Shape.rowMajor_val_two, Shape.rowMajor_val_four]
  show (j 0).val * 64 + (j 1).val % 64 = ((0 * 8192 + (j 0).val) * 1 + 0) * 64 + (j 1).val % 64
  omega

/-- A table, from its four groups of lanes. -/
theorem table_up (f0 f1 f2 f3 F : ℕ → ℕ → ℝ) (h h1' h2' h3')
    (h0 : ∀ i j, j < 16 → f0 i j = F i j) (h1 : ∀ i j, j < 16 → f1 i j = F i (16 + j))
    (h2 : ∀ i j, j < 16 → f2 i j = F i (32 + j)) (h3 : ∀ i j, j < 16 → f3 i j = F i (48 + j)) (hF : ∀ i j, F i (j % 64) = F i j) :
    shapeCast (s := ⟨4, ![1, 8192, 2, 64]⟩) (⟨2, ![8192, 128]⟩ : Shape)
      (broadcastInDim (s := ⟨4, ![1, 8192, 1, 64]⟩) ⟨4, ![1, 8192, 2, 64]⟩ ![0, 1, 2, 3] h2'
        (shapeCast (s := ⟨2, ![8192, 64]⟩) (⟨4, ![1, 8192, 1, 64]⟩ : Shape)
          (concatenate (⟨2, ![8192, 64]⟩ : Shape) 1 [⟨⟨2, ![8192, 16]⟩, up2 8192 16 f0⟩, ⟨⟨2, ![8192, 16]⟩, up2 8192 16 f1⟩,
            ⟨⟨2, ![8192, 16]⟩, up2 8192 16 f2⟩, ⟨⟨2, ![8192, 16]⟩, up2 8192 16 f3⟩] h) h1')) h3' = up2 8192 128 F := by
  rw [four_up f0 f1 f2 f3 F h h0 h1 h2 h3, twice_up]
  exact up2_congr fun i _ j _ => hF i j

end Cert.ProjTables

end
-- ==== Proof.ProjArrays.lean ====
/-
  The arrays the input projection's backward call leaves, in real numbers: what the host prepares, the blocks every grid
  point reads, the two arrays over the whole grid, and the sums over the tokens by induction over the points.
-/
module

public import proofs.«01_k».proof.Proof.Gen.KernelProjIdeal.Value
public import proofs.«01_k».proof.Proof.ProjBlock
public import proofs.«01_k».proof.Proof.ProjTables
public import proofs.«01_k».proof.Proof.Arrays
public import Idealize.ShloMosaic.Lib.Pipeline.ValueKit
public import Idealize.ShloMosaic.Lib.Claim

@[expose] public section

set_option maxRecDepth 16384

noncomputable section

namespace Cert.ProjArrays

open Idealize.ShloMosaic Idealize.ShloMosaic.Tactic Idealize.ShloMosaic.TcCoe Cert.KernelProjIdeal
  Cert.KernelProjIdeal.Gen Cert.Lift Cert.Spec Cert.ProjSpec Cert.ProjTables Cert.ProjBlock Finset
open scoped BigOperators

/-- The modulation's shift and scale, over six empty rows. -/
def vec (md : ℕ → ℕ → ℝ) (r j : ℕ) : ℝ := if r < 2 then md r j else 0

/-- Four groups of lanes, twice: one rewriting of each group is enough. -/
theorem groups_eq {a b d e a' b' d' e' : S8192x16.Idx → EReal} {h1 h2 h3 h4}
    (ha : a = a') (hb : b = b') (hd : d = d') (he : e = e') :
    shapeCast S8192x128 (broadcastInDim S1x8192x2x64 ![0, 1, 2, 3] h2 (shapeCast S1x8192x1x64
      (concatenate S8192x64 1 [⟨S8192x16, a⟩, ⟨S8192x16, b⟩, ⟨S8192x16, d⟩, ⟨S8192x16, e⟩] h4) h1)) h3
      = shapeCast S8192x128 (broadcastInDim S1x8192x2x64 ![0, 1, 2, 3] h2 (shapeCast S1x8192x1x64
      (concatenate S8192x64 1 [⟨S8192x16, a'⟩, ⟨S8192x16, b'⟩, ⟨S8192x16, d'⟩, ⟨S8192x16, e'⟩] h4) h1)) h3 := by
  subst ha hb hd he
  rfl

variable (m : (ℓ : Loc nD τ sig) → Buf (Elt Ideal) ℓ) (c : Dev nD)
variable (X md wi Q KV P R : ℕ → ℕ → ℝ) (rows cols : IVec S8192 32)

/-- The arguments on device `c` are these arrays of real numbers, and these two vectors of positions. -/
structure Args : Prop where
  x : m ((c : Thread nD τ).loc main_arg0) = up2 8192 1024 X
  md : m ((c : Thread nD τ).loc main_arg1) = up2 6 1024 md
  wi : m ((c : Thread nD τ).loc main_arg2) = up2 1024 3840 wi
  rows : m ((c : Thread nD τ).loc main_arg3) = rows
  cols : m ((c : Thread nD τ).loc main_arg4) = cols
  q : m ((c : Thread nD τ).loc main_arg5) = up2 8192 512 Q
  kv : m ((c : Thread nD τ).loc main_arg6) = up2 8192 256 KV
  p : m ((c : Thread nD τ).loc main_arg7) = up2 8192 3072 P
  r : m ((c : Thread nD τ).loc main_arg8) = up2 8192 1024 R

variable {m c X md wi Q KV P R rows cols}
/-- The last point of the grid. -/
def t15 : Fin cfg0.N := ⟨15, by decide⟩

theorem idx_all : ∀ t : Fin cfg0.N, win0_5.index t = ![0, 0] ∧ win0_6.index t = ![0, 0] := by decide +kernel
theorem idx_0 : ∀ t : Fin cfg0.N, win0_0.index t = ![t.val, 0] := by decide +kernel
theorem idx_1 : ∀ t : Fin cfg0.N, win0_1.index t = ![t.val, 0] := by decide +kernel
theorem idx_2 : ∀ t : Fin cfg0.N, win0_2.index t = ![t.val, 0] := by decide +kernel
theorem idx_3 : ∀ t : Fin cfg0.N, win0_3.index t = ![t.val, 0] := by decide +kernel
theorem idx_4 : ∀ t : Fin cfg0.N, win0_4.index t = ![t.val, 0] := by decide +kernel
theorem idx_7 : ∀ t : Fin cfg0.N, win0_7.index t = ![t.val, 0] := by decide +kernel
theorem idx_8 : ∀ t : Fin cfg0.N, win0_8.index t = ![t.val, 0] := by decide +kernel
theorem idx_9 : ∀ t : Fin cfg0.N, win0_9.index t = ![t.val, 0] := by decide +kernel
theorem idx_10 : ∀ t : Fin cfg0.N, win0_10.index t = ![t.val, 0] := by decide +kernel

variable (h : Args m c X md wi Q KV P R rows cols)
include h

/-! ## What the region finds -/

theorem entry_w : V m c main_v40 = up2 3840 1024 fun j k => wi k j := by
  entry_read
  rw [h.wi]
  exact transpose_up wi _

theorem entry_v : V m c main_v2 = up2 8 1024 (vec md) := by
  entry_read
  rw [h.md]
  funext j
  have b0 : (j 0).val < 8 := (j 0).isLt
  show _ = ((vec md (j 0).val (j 1).val : ℝ) : EReal)
  unfold vec
  by_cases b : (j 0).val < 2
  · rw [if_pos b]
    refine (Cert.Arrays.stack_rows (p := 2) _ j 0 (by norm_num) (fun r k => md (0 + r) (0 + k)) rfl 0 (j 0).val rfl (by omega) b).trans ?_
    simp only [Nat.zero_add]
  · rw [if_neg b]
    exact Cert.Arrays.stack_rows (p := 6) _ j 1 (by norm_num) (fun _ _ => 0)
      (congrArg (Sigma.mk (⟨2, ![6, 1024]⟩ : Shape)) (host_splat_up _ _ zero_word)) 2 ((j 0).val - 2) rfl (by omega) (by omega)

theorem entry_cos : V m c main_v35 = up2 8192 128 (cosT (pos rows) (pos cols)) := by
  unfold_abbrev_sides
  after_results
  refine (groups_eq (a' := up2 8192 16 fun i j => Real.cos (pos rows i * freq j)) (b' := up2 8192 16 fun i j => Real.cos (pos rows i * freq j))
    (d' := up2 8192 16 fun i j => Real.cos (pos cols i * freq j)) (e' := up2 8192 16 fun i j => Real.cos (pos cols i * freq j)) ?_ ?_ ?_ ?_).trans ?_
  · show StableHlo.after (hostOps0.take 28) (fun b => m (c, b)) (Proc.devRef .tc main_v21) = _
    dsimp only [hostOps0, List.take]
    after_results
    rw [show m (c, Proc.tc.devRef main_arg3) = rows from h.rows]
    exact (congrArg (Host.cos (s := ⟨2, ![8192, 16]⟩) (F := Ideal) (φ := .f32)) (angle_host rows _ _ _ _ _ _)).trans (cos_up _)
  · show StableHlo.after (hostOps0.take 28) (fun b => m (c, b)) (Proc.devRef .tc main_v22) = _
    dsimp only [hostOps0, List.take]
    after_results
    rw [show m (c, Proc.tc.devRef main_arg3) = rows from h.rows]
    exact (congrArg (Host.cos (s := ⟨2, ![8192, 16]⟩) (F := Ideal) (φ := .f32)) (angle_host rows _ _ _ _ _ _)).trans (cos_up _)
  · show StableHlo.after (hostOps0.take 28) (fun b => m (c, b)) (Proc.devRef .tc main_v23) = _
    dsimp only [hostOps0, List.take]
    after_results
    rw [show m (c, Proc.tc.devRef main_arg4) = cols from h.cols]
    exact (congrArg (Host.cos (s := ⟨2, ![8192, 16]⟩) (F := Ideal) (φ := .f32)) (angle_host cols _ _ _ _ _ _)).trans (cos_up _)
  · show StableHlo.after (hostOps0.take 28) (fun b => m (c, b)) (Proc.devRef .tc main_v24) = _
    dsimp only [hostOps0, List.take]
    after_results
    rw [show m (c, Proc.tc.devRef main_arg4) = cols from h.cols]
    exact (congrArg (Host.cos (s := ⟨2, ![8192, 16]⟩) (F := Ideal) (φ := .f32)) (angle_host cols _ _ _ _ _ _)).trans (cos_up _)
  · exact table_up _ _ _ _ (cosT (pos rows) (pos cols)) _ _ _ _ (fun i j hj => (cosT_0 _ _ i j hj).symm) (fun i j hj => (cosT_16 _ _ i j hj).symm)
      (fun i j hj => (cosT_32 _ _ i j hj).symm) (fun i j hj => (cosT_48 _ _ i j hj).symm) fun i j => cosT_mod _ _ i j

theorem entry_sin : V m c main_v38 = up2 8192 128 (sinT (pos rows) (pos cols)) := by
  unfold_abbrev_sides
  after_results
  refine (groups_eq (a' := up2 8192 16 fun i j => -Real.sin (pos rows i * freq j)) (b' := up2 8192 16 fun i j => Real.sin (pos rows i * freq j))
    (d' := up2 8192 16 fun i j => -Real.sin (pos cols i * freq j)) (e' := up2 8192 16 fun i j => Real.sin (pos cols i * freq j)) ?_ ?_ ?_ ?_).trans ?_
  · show StableHlo.after (hostOps0.take 35) (fun b => m (c, b)) (Proc.devRef .tc main_v27) = _
    dsimp only [hostOps0, List.take]
    after_results
    rw [show m (c, Proc.tc.devRef main_arg3) = rows from h.rows]
    exact (congrArg (Host.negf (s := ⟨2, ![8192, 16]⟩) (F := Ideal) (φ := .f32)) ((congrArg (Host.sin (s := ⟨2, ![8192, 16]⟩) (F := Ideal) (φ := .f32)) (angle_host rows _ _ _ _ _ _)).trans (sin_up _))).trans (negf_up _)
  · show StableHlo.after (hostOps0.take 35) (fun b => m (c, b)) (Proc.devRef .tc main_v28) = _
    dsimp only [hostOps0, List.take]
    after_results
    rw [show m (c, Proc.tc.devRef main_arg3) = rows from h.rows]
    exact (congrArg (Host.sin (s := ⟨2, ![8192, 16]⟩) (F := Ideal) (φ := .f32)) (angle_host rows _ _ _ _ _ _)).trans (sin_up _)
  · show StableHlo.after (hostOps0.take 35) (fun b => m (c, b)) (Proc.devRef .tc main_v30) = _
    dsimp only [hostOps0, List.take]
    after_results
    rw [show m (c, Proc.tc.devRef main_arg4) = cols from h.cols]
    exact (congrArg (Host.negf (s := ⟨2, ![8192, 16]⟩) (F := Ideal) (φ := .f32)) ((congrArg (Host.sin (s := ⟨2, ![8192, 16]⟩) (F := Ideal) (φ := .f32)) (angle_host cols _ _ _ _ _ _)).trans (sin_up _))).trans (negf_up _)
  · show StableHlo.after (hostOps0.take 35) (fun b => m (c, b)) (Proc.devRef .tc main_v31) = _
    dsimp only [hostOps0, List.take]
    after_results
    rw [show m (c, Proc.tc.devRef main_arg4) = cols from h.cols]
    exact (congrArg (Host.sin (s := ⟨2, ![8192, 16]⟩) (F := Ideal) (φ := .f32)) (angle_host cols _ _ _ _ _ _)).trans (sin_up _)
  · exact table_up _ _ _ _ (sinT (pos rows) (pos cols)) _ _ _ _ (fun i j hj => (sinT_0 _ _ i j hj).symm) (fun i j hj => (sinT_16 _ _ i j hj).symm)
      (fun i j hj => (sinT_32 _ _ i j hj).symm) (fun i j hj => (sinT_48 _ _ i j hj).symm) fun i j => sinT_mod _ _ i j

/-! ## The blocks a point reads -/

theorem blk_q (t : Fin cfg0.N) : iblk m c 0 t = up2 512 512 fun i => Q (512 * t.val + i) := by
  funext y
  have e := idx_0 t
  blk_simp [iblk, e]
  rw [V_main_arg5, h.q]
  blk_simp [up2, e, Nat.mul_comm 512]

theorem blk_kv (t : Fin cfg0.N) : iblk m c 1 t = up2 512 256 fun i => KV (512 * t.val + i) := by
  funext y
  have e := idx_1 t
  blk_simp [iblk, e]
  rw [V_main_arg6, h.kv]
  blk_simp [up2, e, Nat.mul_comm 512]

theorem blk_p (t : Fin cfg0.N) : iblk m c 2 t = up2 512 3072 fun i => P (512 * t.val + i) := by
  funext y
  have e := idx_2 t
  blk_simp [iblk, e]
  rw [V_main_arg7, h.p]
  blk_simp [up2, e, Nat.mul_comm 512]

theorem blk_x (t : Fin cfg0.N) : iblk m c 3 t = up2 512 1024 fun i => X (512 * t.val + i) := by
  funext y
  have e := idx_3 t
  blk_simp [iblk, e]
  rw [V_main_arg0, h.x]
  blk_simp [up2, e, Nat.mul_comm 512]

theorem blk_r (t : Fin cfg0.N) : iblk m c 4 t = up2 512 1024 fun i => R (512 * t.val + i) := by
  funext y
  have e := idx_4 t
  blk_simp [iblk, e]
  rw [V_main_arg8, h.r]
  blk_simp [up2, e, Nat.mul_comm 512]

theorem blk_v (t : Fin cfg0.N) : iblk m c 5 t = up2 8 1024 (vec md) := by
  funext y
  have e := (idx_all t).1
  blk_simp [iblk, e]
  rw [entry_v h]
  blk_simp [up2, e]

theorem blk_w (t : Fin cfg0.N) : iblk m c 6 t = up2 3840 1024 fun j k => wi k j := by
  funext y
  have e := (idx_all t).2
  blk_simp [iblk, e]
  rw [entry_w h]
  blk_simp [up2, e]

theorem blk_cos (t : Fin cfg0.N) : iblk m c 7 t = up2 512 128 fun i => cosT (pos rows) (pos cols) (512 * t.val + i) := by
  funext y
  have e := idx_7 t
  blk_simp [iblk, e]
  rw [entry_cos h]
  blk_simp [up2, e, Nat.mul_comm 512]

theorem blk_sin (t : Fin cfg0.N) : iblk m c 8 t = up2 512 128 fun i => sinT (pos rows) (pos cols) (512 * t.val + i) := by
  funext y
  have e := idx_8 t
  blk_simp [iblk, e]
  rw [entry_sin h]
  blk_simp [up2, e, Nat.mul_comm 512]

/-! ## The arrays the call leaves -/

/-- What the call leaves in array 9. -/
theorem arr_dqkv : (dats m 0 c).arrAt 9 cfg0.N = up2 8192 768 fun i => dqkv (cosT (pos rows) (pos cols) i) (sinT (pos rows) (pos cols) i) (Q i) (KV i) := by
  refine (dats m 0 c).arrAt_eq_of_covers 9 _ (by decide +kernel) fun t hf y => ?_
  have e : ∀ t : Fin cfg0.N, win0_9.index t = ![t.val, 0] := idx_9
  blk_simp
  rw [after0_9]
  have o : (outsAt0 m c t.val t.isLt).1 = up2 512 768 fun i => dqkv (cosT (pos rows) (pos cols) (512 * t.val + i)) (sinT (pos rows) (pos cols) (512 * t.val + i)) (Q (512 * t.val + i)) (KV (512 * t.val + i)) := by
    by_cases h0 : t.val % 16 = 0
    · rw [outsAt0_A m c t h0]
      dsimp only
      rw [blk_q h, blk_kv h, blk_p h, blk_x h, blk_r h, blk_v h, blk_w h, blk_cos h, blk_sin h, out_A_9]
    · rw [outsAt0_B m c t h0]
      dsimp only
      rw [blk_q h, blk_kv h, blk_p h, blk_x h, blk_r h, blk_v h, blk_w h, blk_cos h, blk_sin h, out_B_9]
  rw [o]
  blk_simp [up2, e t, Nat.mul_comm 512]

/-- What the call leaves in array 10. -/
theorem arr_gx : (dats m 0 c).arrAt 10 cfg0.N = up2 8192 1024 fun i => gx (cosT (pos rows) (pos cols) i) (sinT (pos rows) (pos cols) i) (vec md) (fun j k => wi k j) (Q i) (KV i) (P i) (X i) (R i) := by
  refine (dats m 0 c).arrAt_eq_of_covers 10 _ (by decide +kernel) fun t hf y => ?_
  have e : ∀ t : Fin cfg0.N, win0_10.index t = ![t.val, 0] := idx_10
  blk_simp
  rw [after0_10]
  have o : (outsAt0 m c t.val t.isLt).2.1 = up2 512 1024 fun i => gx (cosT (pos rows) (pos cols) (512 * t.val + i)) (sinT (pos rows) (pos cols) (512 * t.val + i)) (vec md) (fun j k => wi k j) (Q (512 * t.val + i)) (KV (512 * t.val + i)) (P (512 * t.val + i)) (X (512 * t.val + i)) (R (512 * t.val + i)) := by
    by_cases h0 : t.val % 16 = 0
    · rw [outsAt0_A m c t h0]
      dsimp only
      rw [blk_q h, blk_kv h, blk_p h, blk_x h, blk_r h, blk_v h, blk_w h, blk_cos h, blk_sin h, out_A_10]
    · rw [outsAt0_B m c t h0]
      dsimp only
      rw [blk_q h, blk_kv h, blk_p h, blk_x h, blk_r h, blk_v h, blk_w h, blk_cos h, blk_sin h, out_B_10]
  rw [o]
  blk_simp [up2, e t, Nat.mul_comm 512]

/-- After point `n` the sums hold the first `512 * (n + 1)` tokens. -/
theorem sums_after (n : ℕ) (hn : n < cfg0.N) : (outsAt0 m c n hn).2.2
    = up2 8 1024 fun s j => ∑ i ∈ range (512 * (n + 1)), tokSum (cosT (pos rows) (pos cols) i) (sinT (pos rows) (pos cols) i) (fun j k => wi k j) (Q i) (KV i) (P i) (X i) s j := by
  induction n with
  | zero =>
    rw [outsAt0_A m c ⟨0, hn⟩ rfl]
    dsimp only
    rw [blk_q h, blk_kv h, blk_p h, blk_x h, blk_r h, blk_v h, blk_w h, blk_cos h, blk_sin h, out_A_11]
    refine up2_congr fun s _ j _ => ?_
    simp only [Nat.mul_zero, Nat.zero_add, zero_add, Nat.mul_one]
  | succ n ih =>
    have hN : n + 1 < 16 := hn
    rw [outsAt0_B m c ⟨n + 1, hn⟩ (by show ¬(n + 1) % 16 = 0; omega)]
    dsimp only
    have ih' := ih (by omega)
    simp only [Nat.add_sub_cancel]
    rw [ih', blk_q h, blk_kv h, blk_p h, blk_x h, blk_r h, blk_v h, blk_w h, blk_cos h, blk_sin h, out_B_11]
    refine up2_congr fun s _ j _ => ?_
    rw [Nat.mul_add 512 (n + 1) 1, sum_range_add]

/-- What the call leaves in the array of sums. -/
theorem arr_sums : (dats m 0 c).arrAt 11 cfg0.N
    = up2 8 1024 fun s j => ∑ i ∈ range 8192, tokSum (cosT (pos rows) (pos cols) i) (sinT (pos rows) (pos cols) i) (fun j k => wi k j) (Q i) (KV i) (P i) (X i) s j := by
  refine (dats m 0 c).arrAt_eq_of_after_last 11 t15 (by decide +kernel) _ fun j => ?_
  blk_simp
  rw [after0_11]
  exact congrFun (sums_after h 15 t15.isLt) j

end Cert.ProjArrays

end
-- ==== Proof.ProjHost.lean ====
/-
  The rotation's transpose as the reference computes it, in real numbers.

  The reference views a row of whole heads as heads times 64 lanes, treats each half of the lanes by itself — two groups
  of sixteen lanes, each a sum of two products — and puts the groups back at their places by padding with zeros.
-/
module

public import proofs.«01_k».proof.Proof.ProjSpec
public import proofs.«01_k».proof.Proof.ProjTables

@[expose] public section

noncomputable section

namespace Cert.ProjHost

open Idealize.ShloMosaic Idealize.ShloMosaic.TcCoe Idealize.ShloMosaic.ValueIdx Cert.Lift Cert.ProjSpec Cert.ProjTables

section Layout

variable {n H : ℕ}

/-! ## Arrays of rank three -/

section Pointwise

variable {l : ℕ} (f g : ℕ → ℕ → ℕ → ℝ) {φ : FTy}

theorem mulf3_up : mulf (F := Ideal) (s := ⟨3, ![n, H, l]⟩) (φ := φ) (up3 n H l f) (up3 n H l g) = up3 n H l fun i h k => f i h k * g i h k :=
  funext fun _ => (EReal.coe_mul _ _).symm
theorem addf3_up : addf (F := Ideal) (s := ⟨3, ![n, H, l]⟩) (φ := φ) (up3 n H l f) (up3 n H l g) = up3 n H l fun i h k => f i h k + g i h k :=
  funext fun _ => (EReal.coe_add _ _).symm
theorem negf3_up : Host.negf (F := Ideal) (s := ⟨3, ![n, H, l]⟩) (φ := φ) (up3 n H l f) = up3 n H l fun i h k => -f i h k :=
  funext fun _ => (EReal.coe_neg _).symm

variable {f g} in
theorem up3_congr (h : ∀ i < n, ∀ j < H, ∀ k < l, f i j k = g i j k) : up3 n H l f = up3 n H l g :=
  funext fun i => congrArg _ (h _ (i 0).isLt _ (i 1).isLt _ (i 2).isLt)

/-- Some of the lanes. -/
theorem slice3_up {k : ℕ} (o : ℕ) (h) :
    extractStridedSlice (s := ⟨3, ![n, H, l]⟩) ⟨3, ![n, H, k]⟩ ![0, 0, o] (up3 n H l f) h = up3 n H k fun i h c => f i h (o + c) := by
  refine Eq.trans (b := up3 n H k fun i h c => f (0 + i) (0 + h) (o + c)) rfl (up3_congr fun i _ j _ k _ => ?_)
  rw [Nat.zero_add, Nat.zero_add]

end Pointwise

/-- A table over the tokens, repeated for every head. -/
theorem heads_up (f : ℕ → ℕ → ℝ) (h1 h2) :
    broadcastInDim (s := ⟨3, ![n, 1, 16]⟩) ⟨3, ![n, H, 16]⟩ ![0, 1, 2] h2
      (broadcastInDim (s := ⟨2, ![n, 16]⟩) ⟨3, ![n, 1, 16]⟩ ![0, 2] h1 (up2 n 16 f)) = up3 n H 16 fun i _ k => f i k := by
  funext j
  refine (broadcastInDim_apply _ h2 _ j (ix3 (j 0) ⟨0, Nat.one_pos⟩ (j 2)) fun a => ?_).trans ?_
  · match a with
    | ⟨0, _⟩ =>
      show (j 0).val = if n = 1 then 0 else (j 0).val
      have h1 : (j 0).val < n := (j 0).isLt
      split <;> omega
    | ⟨1, _⟩ => rfl
    | ⟨2, _⟩ => rfl
  refine (broadcastInDim_apply _ h1 _ _ (ix2 (j 0) (j 2)) fun a => ?_).trans rfl
  match a with
  | ⟨0, _⟩ =>
    show (j 0).val = if n = 1 then 0 else (j 0).val
    have h1 : (j 0).val < n := (j 0).isLt
    split <;> omega
  | ⟨1, _⟩ => rfl

/-- Zeros below the lanes. -/
theorem pad_low_up {p q r : ℕ} (hr : r = p + q) (f : ℕ → ℕ → ℕ → ℝ) {u : Shape} (h) (hu : 0 < u.numel) :
    pad (s := ⟨3, ![n, H, q]⟩) ⟨3, ![n, H, r]⟩ ![0, 0, p] ![0, 0, 0] ![0, 0, 0] (up3 n H q f) (constant (F := Ideal) u .f32 0x00000000#32) h hu
      = up3 n H r fun i h k => if k < p then 0 else f i h (k - p) := by
  funext j
  have b2 : (j 2).val < r := (j 2).isLt
  show _ = ((if (j 2).val < p then 0 else f (j 0).val (j 1).val ((j 2).val - p) : ℝ) : EReal)
  by_cases b : (j 2).val < p
  · rw [if_pos b]
    refine (pad_apply_of_not_inside _ _ _ _ _ h hu j 2 fun c => ?_).trans zero_word
    have c1 : p ≤ (j 2).val := c.1
    omega
  · rw [if_neg b]
    refine (pad_apply_of_inside _ _ _ _ _ h hu j (ix3 (j 0) (j 1) ⟨(j 2).val - p, by omega⟩) fun a => ?_).trans rfl
    match a with
    | ⟨0, _⟩ => show (j 0).val = 0 + (j 0).val * (0 + 1); omega
    | ⟨1, _⟩ => show (j 1).val = 0 + (j 1).val * (0 + 1); omega
    | ⟨2, _⟩ => show (j 2).val = p + ((j 2).val - p) * (0 + 1); omega

/-- Zeros above the lanes. -/
theorem pad_high_up {p q r : ℕ} (hr : r = q + p) (f : ℕ → ℕ → ℕ → ℝ) {u : Shape} (h) (hu : 0 < u.numel) :
    pad (s := ⟨3, ![n, H, q]⟩) ⟨3, ![n, H, r]⟩ ![0, 0, 0] ![0, 0, p] ![0, 0, 0] (up3 n H q f) (constant (F := Ideal) u .f32 0x00000000#32) h hu
      = up3 n H r fun i h k => if k < q then f i h k else 0 := by
  funext j
  have b2 : (j 2).val < r := (j 2).isLt
  show _ = ((if (j 2).val < q then f (j 0).val (j 1).val (j 2).val else 0 : ℝ) : EReal)
  by_cases b : (j 2).val < q
  · rw [if_pos b]
    refine (pad_apply_of_inside _ _ _ _ _ h hu j (ix3 (j 0) (j 1) ⟨(j 2).val, b⟩) fun a => ?_).trans rfl
    match a with
    | ⟨0, _⟩ => show (j 0).val = 0 + (j 0).val * (0 + 1); omega
    | ⟨1, _⟩ => show (j 1).val = 0 + (j 1).val * (0 + 1); omega
    | ⟨2, _⟩ => show (j 2).val = 0 + (j 2).val * (0 + 1); omega
  · rw [if_neg b]
    refine (pad_apply_of_not_inside _ _ _ _ _ h hu j 2 fun c => ?_).trans zero_word
    have c1 : ((j 2).val - 0) / (0 + 1) < q := c.2.2
    rw [Nat.sub_zero, Nat.zero_add, Nat.div_one] at c1
    omega

/-- A row of whole heads as heads times lanes, and back. -/
theorem split_up {W : ℕ} (hW : W = 64 * H) (f : ℕ → ℕ → ℝ) (h) :
    shapeCast (s := ⟨2, ![n, W]⟩) (⟨3, ![n, H, 64]⟩ : Shape) (up2 n W f) h = up3 n H 64 fun i a k => f i (64 * a + k) := by
  funext j
  have b1 : (j 1).val < H := (j 1).isLt
  have b2 : (j 2).val < 64 := (j 2).isLt
  refine (shapeCast_apply _ h j (ix2 (j 0) ⟨64 * (j 1).val + (j 2).val, by omega⟩) ?_).trans rfl
  rw [Shape.rowMajor_val_two, Shape.rowMajor_val_three]
  show (j 0).val * W + (64 * (j 1).val + (j 2).val) = ((j 0).val * H + (j 1).val) * 64 + (j 2).val
  rw [hW]
  ring

theorem join_up {W : ℕ} (hW : W = 64 * H) (f : ℕ → ℕ → ℕ → ℝ) (h) :
    shapeCast (s := ⟨3, ![n, H, 64]⟩) (⟨2, ![n, W]⟩ : Shape) (up3 n H 64 f) h = up2 n W fun i k => f i (k / 64) (k % 64) := by
  funext j
  have b1 : (j 1).val < W := (j 1).isLt
  refine (shapeCast_apply _ h j (ix3 (j 0) ⟨(j 1).val / 64, by omega⟩ ⟨(j 1).val % 64, by omega⟩) ?_).trans rfl
  rw [Shape.rowMajor_val_two, Shape.rowMajor_val_three]
  show ((j 0).val * H + (j 1).val / 64) * 64 + (j 1).val % 64 = (j 0).val * W + (j 1).val
  have e := Nat.div_add_mod (j 1).val 64
  have w : (j 0).val * W = (j 0).val * (64 * H) := congrArg _ hW
  linarith [mul_assoc (j 0).val H 64, mul_comm H 64, mul_left_comm (j 0).val 64 H]

/-- One block of columns of several beside each other. -/
theorem piece {R C p : ℕ} (xs : List ((s : Shape) × (s.Idx → EReal)))
    (h : Shape.Concatenates (xs.map (·.1)) (⟨2, ![R, C]⟩ : Shape) 1) (j : (⟨2, ![R, C]⟩ : Shape).Idx) (k : ℕ) (hk : k < xs.length)
    (f : ℕ → ℕ → ℝ) (hxk : xs[k] = ⟨⟨2, ![R, p]⟩, up2 R p f⟩) (pre r : ℕ)
    (hpre : (((xs.take k).map (·.1)).map fun s => if h : s.rank = 2 then s.size ((1 : Fin 2).cast h.symm) else 0).sum = pre)
    (hj : (j 1).val = pre + r) (hr : r < p) :
    concatenate (⟨2, ![R, C]⟩ : Shape) 1 xs h j = ((f (j 0).val r : ℝ) : EReal) := by
  refine (concatenate_apply_piece _ xs h j k hk _ _ hxk rfl pre hpre (ix2 (j 0) ⟨r, hr⟩) (fun b hb => ?_) hj.symm).trans rfl
  match b, hb with
  | ⟨0, _⟩, _ => rfl
  | ⟨1, _⟩, hb => exact absurd rfl hb

/-- Four blocks of columns beside each other. -/
theorem beside4_up (f0 f1 f2 f3 : ℕ → ℕ → ℝ) (h) :
    concatenate (⟨2, ![8192, 3840]⟩ : Shape) 1 [⟨⟨2, ![8192, 512]⟩, up2 8192 512 f0⟩, ⟨⟨2, ![8192, 128]⟩, up2 8192 128 f1⟩,
        ⟨⟨2, ![8192, 128]⟩, up2 8192 128 f2⟩, ⟨⟨2, ![8192, 3072]⟩, up2 8192 3072 f3⟩] h
      = up2 8192 3840 fun i j => if j < 512 then f0 i j else if j < 640 then f1 i (j - 512) else if j < 768 then f2 i (j - 640) else f3 i (j - 768) := by
  funext j
  have b : (j 1).val < 3840 := (j 1).isLt
  show _ = ((if (j 1).val < 512 then f0 (j 0).val (j 1).val else if (j 1).val < 640 then f1 (j 0).val ((j 1).val - 512)
    else if (j 1).val < 768 then f2 (j 0).val ((j 1).val - 640) else f3 (j 0).val ((j 1).val - 768) : ℝ) : EReal)
  by_cases c0 : (j 1).val < 512
  · rw [if_pos c0]
    exact piece _ h j 0 (by norm_num) f0 rfl 0 _ rfl (by omega) c0
  by_cases c1 : (j 1).val < 640
  · rw [if_neg c0, if_pos c1]
    exact piece _ h j 1 (by norm_num) f1 rfl 512 _ rfl (by omega) (by omega)
  by_cases c2 : (j 1).val < 768
  · rw [if_neg c0, if_neg c1, if_pos c2]
    exact piece _ h j 2 (by norm_num) f2 rfl 640 _ rfl (by omega) (by omega)
  · rw [if_neg c0, if_neg c1, if_neg c2]
    exact piece _ h j 3 (by norm_num) f3 rfl 768 _ rfl (by omega) (by omega)

/-! ## The rotation's transpose -/

/-- One half of a head's lanes. -/
def half (g : ℕ → ℝ) (c s : ℕ → ℝ) (l : ℕ) : ℝ :=
  if l < 16 then g (16 + l) * s l + g l * c l else g l * c (l - 16) + -g (l - 16) * s (l - 16)

theorem half_up (g : ℕ → ℕ → ℕ → ℝ) (c s : ℕ → ℕ → ℝ) {u u' : Shape} (h1 h2 h3 h4 h5 h6 h7 h8) (hu : 0 < u.numel) (hu' : 0 < u'.numel) :
    addf (F := Ideal) (φ := .f32)
      (pad (s := ⟨3, ![n, H, 16]⟩) ⟨3, ![n, H, 32]⟩ ![0, 0, 16] ![0, 0, 0] ![0, 0, 0]
        (addf (F := Ideal) (φ := .f32)
          (mulf (F := Ideal) (φ := .f32) (extractStridedSlice (s := ⟨3, ![n, H, 32]⟩) ⟨3, ![n, H, 16]⟩ ![0, 0, 16] (up3 n H 32 g) h1)
            (broadcastInDim (s := ⟨3, ![n, 1, 16]⟩) ⟨3, ![n, H, 16]⟩ ![0, 1, 2] h4 (broadcastInDim (s := ⟨2, ![n, 16]⟩) ⟨3, ![n, 1, 16]⟩ ![0, 2] h3 (up2 n 16 c))))
          (mulf (F := Ideal) (φ := .f32) (Host.negf (F := Ideal) (φ := .f32) (extractStridedSlice (s := ⟨3, ![n, H, 32]⟩) ⟨3, ![n, H, 16]⟩ ![0, 0, 0] (up3 n H 32 g) h2))
            (broadcastInDim (s := ⟨3, ![n, 1, 16]⟩) ⟨3, ![n, H, 16]⟩ ![0, 1, 2] h6 (broadcastInDim (s := ⟨2, ![n, 16]⟩) ⟨3, ![n, 1, 16]⟩ ![0, 2] h5 (up2 n 16 s)))))
        (constant (F := Ideal) u .f32 0x00000000#32) h7 hu)
      (pad (s := ⟨3, ![n, H, 16]⟩) ⟨3, ![n, H, 32]⟩ ![0, 0, 0] ![0, 0, 16] ![0, 0, 0]
        (addf (F := Ideal) (φ := .f32)
          (mulf (F := Ideal) (φ := .f32) (extractStridedSlice (s := ⟨3, ![n, H, 32]⟩) ⟨3, ![n, H, 16]⟩ ![0, 0, 16] (up3 n H 32 g) h1)
            (broadcastInDim (s := ⟨3, ![n, 1, 16]⟩) ⟨3, ![n, H, 16]⟩ ![0, 1, 2] h6 (broadcastInDim (s := ⟨2, ![n, 16]⟩) ⟨3, ![n, 1, 16]⟩ ![0, 2] h5 (up2 n 16 s))))
          (mulf (F := Ideal) (φ := .f32) (extractStridedSlice (s := ⟨3, ![n, H, 32]⟩) ⟨3, ![n, H, 16]⟩ ![0, 0, 0] (up3 n H 32 g) h2)
            (broadcastInDim (s := ⟨3, ![n, 1, 16]⟩) ⟨3, ![n, H, 16]⟩ ![0, 1, 2] h4 (broadcastInDim (s := ⟨2, ![n, 16]⟩) ⟨3, ![n, 1, 16]⟩ ![0, 2] h3 (up2 n 16 c)))))
        (constant (F := Ideal) u' .f32 0x00000000#32) h8 hu')
      = up3 n H 32 fun i a => half (g i a) (c i) (s i) := by
  rw [heads_up, heads_up, slice3_up, slice3_up, negf3_up, mulf3_up, mulf3_up, mulf3_up, mulf3_up, addf3_up, addf3_up,
    pad_low_up (by norm_num), pad_high_up (by norm_num), addf3_up]
  refine up3_congr fun i _ a _ k hk => ?_
  unfold half
  by_cases b : k < 16
  · rw [if_pos b, if_pos b, if_pos b, zero_add, Nat.zero_add]
  · rw [if_neg b, if_neg b, if_neg b, add_zero, Nat.zero_add, show 16 + (k - 16) = k by omega]

/-- The two halves at their places are the whole head's transpose. -/
theorem halves_up {W : ℕ} (hW : W = 64 * H) (g : ℕ → ℕ → ℝ) (a b : ℕ → ℝ) {u u' : Shape} (h1 h2 h3) (hu : 0 < u.numel) (hu' : 0 < u'.numel) :
    shapeCast (s := ⟨3, ![n, H, 64]⟩) (⟨2, ![n, W]⟩ : Shape)
      (addf (F := Ideal) (φ := .f32)
        (pad (s := ⟨3, ![n, H, 32]⟩) ⟨3, ![n, H, 64]⟩ ![0, 0, 32] ![0, 0, 0] ![0, 0, 0]
          (up3 n H 32 fun i h => half (fun k => g i (64 * h + (32 + k))) (fun k => Real.cos (b i * freq k)) fun k => Real.sin (b i * freq k))
          (constant (F := Ideal) u .f32 0x00000000#32) h1 hu)
        (pad (s := ⟨3, ![n, H, 32]⟩) ⟨3, ![n, H, 64]⟩ ![0, 0, 0] ![0, 0, 32] ![0, 0, 0]
          (up3 n H 32 fun i h => half (fun k => g i (64 * h + (0 + k))) (fun k => Real.cos (a i * freq k)) fun k => Real.sin (a i * freq k))
          (constant (F := Ideal) u' .f32 0x00000000#32) h2 hu')) h3
      = up2 n W fun i => unrope (cosT a b i) (sinT a b i) (g i) := by
  rw [pad_low_up (by norm_num), pad_high_up (by norm_num), addf3_up, join_up hW]
  refine up2_congr fun i _ j _ => ?_
  unfold half unrope cosT sinT ang
  dsimp only
  have e := Nat.div_add_mod j 64
  rcases (by omega : j % 64 < 16 ∨ (16 ≤ j % 64 ∧ j % 64 < 32) ∨ (32 ≤ j % 64 ∧ j % 64 < 48) ∨ 48 ≤ j % 64) with c | c | c | c
  · rw [if_pos (show j % 64 < 32 by omega), if_pos (show j % 64 < 16 by omega), if_pos (show j % 32 < 16 by omega),
      if_pos (show j % 64 < 32 by omega), if_pos (show j % 128 % 64 < 32 by omega), if_neg (show ¬(j + 16) % 128 % 32 < 16 by omega), if_pos (show (j + 16) % 128 % 64 < 32 by omega),
      show 64 * (j / 64) + (0 + (16 + j % 64)) = j + 16 by omega,
      show 64 * (j / 64) + (0 + j % 64) = j by omega, show j % 128 % 16 = j % 64 by omega, show (j + 16) % 128 % 16 = j % 64 by omega]
    ring
  · rw [if_pos (show j % 64 < 32 by omega), if_neg (show ¬j % 64 < 16 by omega), if_neg (show ¬j % 32 < 16 by omega),
      if_pos (show j % 64 < 32 by omega), if_pos (show j % 128 % 64 < 32 by omega), if_pos (show (j - 16) % 128 % 32 < 16 by omega), if_pos (show (j - 16) % 128 % 64 < 32 by omega),
      show 64 * (j / 64) + (0 + (j % 64 - 16)) = j - 16 by omega,
      show 64 * (j / 64) + (0 + j % 64) = j by omega, show j % 128 % 16 = j % 64 - 16 by omega, show (j - 16) % 128 % 16 = j % 64 - 16 by omega]
    ring
  · rw [if_neg (show ¬j % 64 < 32 by omega), if_pos (show j % 64 - 32 < 16 by omega), if_pos (show j % 32 < 16 by omega),
      if_neg (show ¬j % 64 < 32 by omega), if_neg (show ¬j % 128 % 64 < 32 by omega), if_neg (show ¬(j + 16) % 128 % 32 < 16 by omega), if_neg (show ¬(j + 16) % 128 % 64 < 32 by omega),
      show 64 * (j / 64) + (32 + (16 + (j % 64 - 32))) = j + 16 by omega,
      show 64 * (j / 64) + (32 + (j % 64 - 32)) = j by omega, show j % 128 % 16 = j % 64 - 32 by omega, show (j + 16) % 128 % 16 = j % 64 - 32 by omega]
    ring
  · rw [if_neg (show ¬j % 64 < 32 by omega), if_neg (show ¬j % 64 - 32 < 16 by omega), if_neg (show ¬j % 32 < 16 by omega),
      if_neg (show ¬j % 64 < 32 by omega), if_neg (show ¬j % 128 % 64 < 32 by omega), if_pos (show (j - 16) % 128 % 32 < 16 by omega), if_neg (show ¬(j - 16) % 128 % 64 < 32 by omega),
      show 64 * (j / 64) + (32 + (j % 64 - 32 - 16)) = j - 16 by omega,
      show 64 * (j / 64) + (32 + (j % 64 - 32)) = j by omega, show j % 128 % 16 = j % 64 - 32 - 16 by omega, show (j - 16) % 128 % 16 = j % 64 - 32 - 16 by omega]
    ring

end Layout

end Cert.ProjHost

end
-- ==== Proof.ProjRef.lean ====
/-
  The reference for the input projection's backward call, in real numbers: the layer norm's statistics, the rotation's
  tables and its transpose, the product with the weights, the gradient at the block's input and the sums over the tokens.
-/
module

public import proofs.«01_k».proof.Proof.Gen.ReferenceProjIdeal.Read
public import proofs.«01_k».proof.Proof.ProjArrays
public import proofs.«01_k».proof.Proof.ProjHost
public import proofs.«01_k».proof.Proof.Ref1

@[expose] public section

set_option maxRecDepth 16384

noncomputable section

namespace Cert.ProjRef

open Idealize.ShloMosaic Cert.ReferenceProjIdeal Cert.ReferenceProjIdeal.Gen Cert.ReferenceProjIdeal.Read Cert.Lift Cert.Spec Cert.ProjSpec
  Cert.ProjTables Cert.ProjHost Finset
open Cert.ProjArrays (vec)
open Cert.Arrays (stack_rows)
open scoped BigOperators

variable (X md wi Q KV P R : ℕ → ℕ → ℝ) (rows cols : IVec (⟨1, ![8192]⟩ : Shape) 32)

/-! ## The layer norm -/

theorem r_v7 : val_main_v7 (F := Ideal) (up2 8192 1024 X) = up2 8192 1 fun i _ => mean (X i) := by
  unfold val_main_v7 val_main_v5 val_main_v4 val_main_cst val_main_v6 val_main_cst_0
  refine (congrArg₂ _ ((congrArg _ (host_sum_rows_up _ _ _ (by decide))).trans (host_col_up _ _)) (host_splat_up _ _ word_1024)).trans ?_
  exact hostDivf_up _ _ fun _ _ _ _ => by norm_num

theorem r_v9 : val_main_v9 (F := Ideal) (up2 8192 1024 X) = up2 8192 1024 fun i j => dev (X i) j := by
  unfold val_main_v9 val_main_v8
  rw [r_v7]
  exact (congrArg _ (host_cols_up _ _)).trans (subf_up _ _)

theorem r_v18 : val_main_v18 (F := Ideal) (up2 8192 1024 X) = up2 8192 1024 fun i j => dev (X i) j := r_v9 X

theorem r_v12 : val_main_v12 (F := Ideal) (up2 8192 1024 X) = up2 8192 1024 fun i j => 2 * dev (X i) j := by
  unfold val_main_v12 val_main_v11 val_main_cst_1
  rw [r_v9]
  exact (congrArg (mulf · _) (host_splat_up _ _ word_two)).trans (mulf_up _ _)

theorem r_v13 : val_main_v13 (F := Ideal) (up2 8192 1024 X) = up1 8192 fun i => ∑ k ∈ range 1024, dev (X i) k * dev (X i) k := by
  unfold val_main_v13 val_main_v10 val_main_cst_2
  rw [r_v9]
  exact (congrArg (Host.reduceAdd · _ _ _) (mulf_up _ _)).trans (host_sum_rows_up _ _ _ (by decide))

theorem r_v20 : val_main_v20 (F := Ideal) (up2 8192 1024 X) = up2 8192 1 fun i _ => var (X i) := by
  unfold val_main_v20 val_main_v16 val_main_v14 val_main_v15 val_main_v19 val_main_cst_3 val_main_cst_4
  rw [r_v13]
  refine (congrArg₂ addf (congrArg₂ Host.divf (host_col_up _ _) (host_splat_up _ _ word_1024)) (host_splat_up _ _ word_eps)).trans ?_
  exact (congrArg (addf · _) (hostDivf_up _ _ fun _ _ _ _ => by norm_num)).trans (addf_up _ _)

theorem r_v21 : val_main_v21 (F := Ideal) (up2 8192 1024 X) = up2 8192 1 fun i _ => rstd (X i) := by
  unfold val_main_v21
  rw [r_v20]
  exact hostRsqrt_up _ fun i _ _ _ => var_pos (X i)

theorem r_v24 : val_main_v24 (F := Ideal) (up2 8192 1024 X) = up2 8192 1 fun i _ => -(1 / 2) * (rstd (X i) / var (X i)) := by
  unfold val_main_v24 val_main_v22 val_main_v23 val_main_cst_5
  rw [r_v21, r_v20]
  exact (congrArg₂ mulf (host_splat_up _ _ word_neg_half) (hostDivf_up _ _ fun i _ _ _ => (var_pos (X i)).ne')).trans (mulf_up _ _)

theorem r_v249 : val_main_v249 (F := Ideal) (up2 8192 1024 X) = up2 8192 1024 fun i _ => rstd (X i) := by
  unfold val_main_v249
  rw [r_v21]
  exact host_cols_up _ _

theorem r_v26 : val_main_v26 (F := Ideal) (up2 8192 1024 X) = up2 8192 1024 fun i j => nrm (X i) j := by
  unfold val_main_v26
  rw [r_v18, show val_main_v25 (F := Ideal) (up2 8192 1024 X) = _ from r_v249 X]
  exact mulf_up _ _

theorem r_v29 : val_main_v29 (F := Ideal) (up2 6 1024 md) = up2 1 1024 fun _ j => 1 + vec md 1 j := by
  unfold val_main_v29 val_main_v28 val_main_v27 val_main_v3 val_main_v2 val_main_cst_6
  refine (congrArg₂ addf (host_splat_up _ _ word_one) ((congrArg _ ((congrArg (shapeCast _ · _) (slice_up md 1 0 _)).trans (cast_unrow_up _ _))).trans
    (host_row_up _ _))).trans ((addf_up _ _).trans (up2_congr fun i _ j _ => ?_))
  show 1 + md (1 + 0) (0 + j) = 1 + md 1 j
  rw [Nat.zero_add]

theorem r_v243 : val_main_v243 (F := Ideal) (up2 6 1024 md) = up2 8192 1024 fun _ j => 1 + vec md 1 j := by
  unfold val_main_v243
  rw [r_v29]
  exact host_rows_up _ _

/-! ## The rotation's tables -/

theorem r_v53 : val_main_v53 (F := Ideal) rows = up2 8192 16 fun i j => pos rows i * freq j := angle_host rows _ _ _ _ _ _

theorem r_v54 : val_main_v54 (F := Ideal) rows = up2 8192 16 fun i j => Real.cos (pos rows i * freq j) :=
  (congrArg Host.cos (r_v53 rows)).trans (cos_up _)
theorem r_v56 : val_main_v56 (F := Ideal) rows = up2 8192 16 fun i j => Real.sin (pos rows i * freq j) :=
  (congrArg Host.sin (r_v53 rows)).trans (sin_up _)

/-! ## The rotation's transpose -/

theorem r_v231 : val_main_v231 (F := Ideal) rows (up2 8192 512 Q)
    = up3 8192 8 32 fun i h => half (fun k => Q i (64 * h + (0 + k))) (fun k => Real.cos (pos rows i * freq k)) fun k => Real.sin (pos rows i * freq k) := by
  have e : val_main_v197 (F := Ideal) (up2 8192 512 Q) = up3 8192 8 32 fun i h k => Q i (64 * h + (0 + k)) := by
    unfold val_main_v197 val_main_v154
    exact (congrArg (extractStridedSlice _ _ · _) (split_up rfl Q _)).trans (slice3_up _ 0 _)
  unfold val_main_v231 val_main_v229 val_main_v230 val_main_v225 val_main_v228 val_main_v219 val_main_v221 val_main_v224 val_main_v227
    val_main_v222 val_main_v216 val_main_v217 val_main_v218 val_main_v220 val_main_v223 val_main_v226 val_main_v55 val_main_v57 val_main_cst_21 val_main_cst_22
  rw [e, r_v54, r_v56]
  exact half_up _ _ _ _ _ _ _ _ _ _ _ _ _

theorem r_v214 : val_main_v214 (F := Ideal) cols (up2 8192 512 Q)
    = up3 8192 8 32 fun i h => half (fun k => Q i (64 * h + (32 + k))) (fun k => Real.cos (pos cols i * freq k)) fun k => Real.sin (pos cols i * freq k) := by
  have e : val_main_v198 (F := Ideal) (up2 8192 512 Q) = up3 8192 8 32 fun i h k => Q i (64 * h + (32 + k)) := by
    unfold val_main_v198 val_main_v154
    exact (congrArg (extractStridedSlice _ _ · _) (split_up rfl Q _)).trans (slice3_up _ 32 _)
  unfold val_main_v214 val_main_v212 val_main_v213 val_main_v208 val_main_v211 val_main_v202 val_main_v204 val_main_v207 val_main_v210
    val_main_v205 val_main_v199 val_main_v200 val_main_v201 val_main_v203 val_main_v206 val_main_v209 val_main_v79 val_main_v81 val_main_cst_18 val_main_cst_19
  rw [e, show val_main_v78 (F := Ideal) cols = _ from r_v54 cols, show val_main_v80 (F := Ideal) cols = _ from r_v56 cols]
  exact half_up _ _ _ _ _ _ _ _ _ _ _ _ _

theorem r_v234 : val_main_v234 (F := Ideal) rows cols (up2 8192 512 Q)
    = up2 8192 512 fun i => unrope (cosT (pos rows) (pos cols) i) (sinT (pos rows) (pos cols) i) (Q i) := by
  unfold val_main_v234 val_main_v233 val_main_v215 val_main_v232 val_main_cst_20 val_main_cst_23
  rw [r_v214, r_v231]
  exact halves_up (n := 8192) (H := 8) (W := 512) rfl Q (pos rows) (pos cols) _ _ _ _ _

theorem r_v156 : val_main_v156 (F := Ideal) (up2 8192 256 KV) = up3 8192 2 64 fun i h k => KV i (64 * h + k) := by
  unfold val_main_v156 val_main_v155
  refine (congrArg (shapeCast _ · _) (slice_up KV 0 0 _)).trans ((split_up rfl _ _).trans (up3_congr fun i _ h _ k _ => ?_))
  rw [Nat.zero_add, Nat.zero_add]

theorem r_v193 : val_main_v193 (F := Ideal) rows (up2 8192 256 KV)
    = up3 8192 2 32 fun i h => half (fun k => KV i (64 * h + (0 + k))) (fun k => Real.cos (pos rows i * freq k)) fun k => Real.sin (pos rows i * freq k) := by
  have e : val_main_v159 (F := Ideal) (up2 8192 256 KV) = up3 8192 2 32 fun i h k => KV i (64 * h + (0 + k)) := by
    unfold val_main_v159
    rw [r_v156]
    exact slice3_up _ 0 _
  unfold val_main_v193 val_main_v191 val_main_v192 val_main_v187 val_main_v190 val_main_v181 val_main_v183 val_main_v186 val_main_v189
    val_main_v184 val_main_v178 val_main_v179 val_main_v180 val_main_v182 val_main_v185 val_main_v188 val_main_v111 val_main_v113 val_main_cst_15 val_main_cst_16
  rw [e, show val_main_v110 (F := Ideal) rows = _ from r_v54 rows, show val_main_v112 (F := Ideal) rows = _ from r_v56 rows]
  exact half_up _ _ _ _ _ _ _ _ _ _ _ _ _

theorem r_v176 : val_main_v176 (F := Ideal) cols (up2 8192 256 KV)
    = up3 8192 2 32 fun i h => half (fun k => KV i (64 * h + (32 + k))) (fun k => Real.cos (pos cols i * freq k)) fun k => Real.sin (pos cols i * freq k) := by
  have e : val_main_v160 (F := Ideal) (up2 8192 256 KV) = up3 8192 2 32 fun i h k => KV i (64 * h + (32 + k)) := by
    unfold val_main_v160
    rw [r_v156]
    exact slice3_up _ 32 _
  unfold val_main_v176 val_main_v174 val_main_v175 val_main_v170 val_main_v173 val_main_v164 val_main_v166 val_main_v169 val_main_v172
    val_main_v167 val_main_v161 val_main_v162 val_main_v163 val_main_v165 val_main_v168 val_main_v171 val_main_v135 val_main_v137 val_main_cst_12 val_main_cst_13
  rw [e, show val_main_v134 (F := Ideal) cols = _ from r_v54 cols, show val_main_v136 (F := Ideal) cols = _ from r_v56 cols]
  exact half_up _ _ _ _ _ _ _ _ _ _ _ _ _

theorem r_v196 : val_main_v196 (F := Ideal) rows cols (up2 8192 256 KV)
    = up2 8192 128 fun i => unrope (cosT (pos rows) (pos cols) i) (sinT (pos rows) (pos cols) i) (KV i) := by
  unfold val_main_v196 val_main_v195 val_main_v177 val_main_v194 val_main_cst_14 val_main_cst_17
  rw [r_v176, r_v193]
  exact halves_up (n := 8192) (H := 2) (W := 128) rfl KV (pos rows) (pos cols) _ _ _ _ _

/-! ## The product with the weights -/

/-- The gradients of the projection's columns: queries, keys, values and the others. -/
theorem r_v235 : val_main_v235 (F := Ideal) rows cols (up2 8192 512 Q) (up2 8192 256 KV) (up2 8192 3072 P)
    = up2 8192 3840 fun i j => if j < 768 then dqkv (cosT (pos rows) (pos cols) i) (sinT (pos rows) (pos cols) i) (Q i) (KV i) j else P i (j - 768) := by
  unfold val_main_v235
  rw [r_v234, r_v196, show val_main_v157 (F := Ideal) (up2 8192 256 KV) = up2 8192 128 fun i j => KV i (128 + j) from
    (slice_up KV 0 128 _).trans (up2_congr fun i _ j _ => by rw [Nat.zero_add]),
    show val_main_v158 (F := Ideal) (up2 8192 3072 P) = up2 8192 3072 P from rfl]
  refine (beside4_up _ _ _ _ _).trans (up2_congr fun i _ j _ => ?_)
  unfold dqkv
  by_cases c0 : j < 512
  · rw [if_pos c0, if_pos (by omega), if_pos c0]
  by_cases c1 : j < 640
  · rw [if_neg c0, if_pos c1, if_pos (by omega), if_neg c0, if_pos c1]
  by_cases c2 : j < 768
  · rw [if_neg c0, if_neg c1, if_pos c2, if_pos c2, if_neg c0, if_neg c1, show 128 + (j - 640) = j - 512 by omega]
  · rw [if_neg c0, if_neg c1, if_neg c2, if_neg c2]

theorem r_v274 : val_main_v274 (F := Ideal) rows cols (up2 8192 512 Q) (up2 8192 256 KV) (up2 8192 3072 P)
    = up2 8192 768 fun i => dqkv (cosT (pos rows) (pos cols) i) (sinT (pos rows) (pos cols) i) (Q i) (KV i) := by
  unfold val_main_v274 val_main_v273
  rw [r_v235]
  refine (congrArg (truncf _ · _) (slice_up _ 0 0 _)).trans ((truncf_up _ _).trans (up2_congr fun i _ j hj => ?_))
  rw [Nat.zero_add, Nat.zero_add, if_pos hj]

/-- The gradient at the modulated layer norm, on one token. -/
abbrev dht (i j : ℕ) : ℝ := dh (cosT (pos rows) (pos cols) i) (sinT (pos rows) (pos cols) i) (fun j k => wi k j) (Q i) (KV i) (P i) j

theorem r_v236 : val_main_v236 (F := Ideal) (up2 1024 3840 wi) rows cols (up2 8192 512 Q) (up2 8192 256 KV) (up2 8192 3072 P)
    = up2 8192 1024 fun i j => dht wi Q KV P rows cols i j := by
  unfold val_main_v236
  rw [r_v235]
  refine (dotGeneral_nt_up _ _ _ _).trans (up2_congr fun i _ j _ => ?_)
  refine (sum_range_add _ 768 3072).trans (congrArg₂ _ (sum_congr rfl fun k hk => ?_) (sum_congr rfl fun k _ => ?_))
  · rw [if_pos (mem_range.mp hk)]
  · rw [if_neg (by omega), Nat.add_sub_cancel_left]

theorem r_v244 : val_main_v244 (F := Ideal) (up2 6 1024 md) (up2 1024 3840 wi) rows cols (up2 8192 512 Q) (up2 8192 256 KV) (up2 8192 3072 P)
    = up2 8192 1024 fun i j => dht wi Q KV P rows cols i j * (1 + vec md 1 j) := by
  unfold val_main_v244
  rw [r_v236, r_v243]
  exact mulf_up _ _

/-! ## The sums over the tokens -/

theorem r_v239 : val_main_v239 (F := Ideal) (up2 1024 3840 wi) rows cols (up2 8192 512 Q) (up2 8192 256 KV) (up2 8192 3072 P)
    = up1 1024 fun j => ∑ i ∈ range 8192, dht wi Q KV P rows cols i j := by
  unfold val_main_v239 val_main_v238 val_main_v237 val_main_cst_24 val_main_cst_25
  rw [r_v236]
  refine (congrArg (Host.reduceAdd · _ _ _) ((congrArg (shapeCast _ · _) (host_sum_cols_up _ _ _ (by decide))).trans (cast_row_up _ _))).trans ?_
  exact (host_sum_cols_up _ _ _ (by decide)).trans (up1_congr fun i _ => sum_range_one _)

theorem r_v245 : val_main_v245 (F := Ideal) (up2 8192 1024 X) (up2 1024 3840 wi) rows cols (up2 8192 512 Q) (up2 8192 256 KV) (up2 8192 3072 P)
    = up1 1024 fun j => ∑ i ∈ range 8192, dht wi Q KV P rows cols i j * nrm (X i) j := by
  unfold val_main_v245 val_main_v242 val_main_v241 val_main_v240 val_main_cst_26 val_main_cst_27
  rw [r_v236, r_v26]
  refine (congrArg (Host.reduceAdd · _ _ _) ((congrArg (shapeCast _ · _) ((congrArg (Host.reduceAdd · _ _ _)
    ((mulf_up _ _).trans (up2_congr fun i _ j _ => mul_comm _ _))).trans (host_sum_cols_up _ _ _ (by decide)))).trans (cast_row_up _ _))).trans ?_
  exact (host_sum_cols_up _ _ _ (by decide)).trans (up1_congr fun i _ => sum_range_one _)

theorem r_v278 : val_main_v278 (F := Ideal) = up2 1 1024 fun _ _ => 0 := by
  unfold val_main_v278 val_main_v272 val_main_cst_36
  exact (congrArg _ (host_splat1_up _ _ zero_word)).trans (host_row_up _ _)

/-- A row of a stack of eight. -/
theorem stack8 (f0 f1 f2 : ℕ → ℕ → ℝ) (g : ℕ → ℕ → ℝ) (hc) (e0 : ∀ j, f0 0 j = g 0 j) (e1 : ∀ j, f1 0 j = g 1 j) (e2 : ∀ i j, 2 ≤ i → f2 0 j = g i j) :
    concatenate (⟨2, ![8, 1024]⟩ : Shape) 0 [⟨⟨2, ![1, 1024]⟩, up2 1 1024 f0⟩, ⟨⟨2, ![1, 1024]⟩, up2 1 1024 f1⟩, ⟨⟨2, ![1, 1024]⟩, up2 1 1024 f2⟩,
      ⟨⟨2, ![1, 1024]⟩, up2 1 1024 f2⟩, ⟨⟨2, ![1, 1024]⟩, up2 1 1024 f2⟩, ⟨⟨2, ![1, 1024]⟩, up2 1 1024 f2⟩, ⟨⟨2, ![1, 1024]⟩, up2 1 1024 f2⟩,
      ⟨⟨2, ![1, 1024]⟩, up2 1 1024 f2⟩] hc = up2 8 1024 g := by
  funext j
  have b : (j 0).val < 8 := (j 0).isLt
  show _ = ((g (j 0).val (j 1).val : ℝ) : EReal)
  obtain b0 | b0 | ⟨b2, b3⟩ : (j 0).val = 0 ∨ (j 0).val = 1 ∨ (2 ≤ (j 0).val ∧ (j 0).val < 8) := by omega
  · rw [b0, ← e0]
    exact stack_rows (p := 1) _ j 0 (by norm_num) f0 rfl 0 0 rfl b0 (by norm_num)
  · rw [b0, ← e1]
    exact stack_rows (p := 1) _ j 1 (by norm_num) f1 rfl 1 0 rfl b0 (by norm_num)
  · rw [← e2 _ _ b2]
    obtain b0 | b0 | b0 | b0 | b0 | b0 : (j 0).val = 2 ∨ (j 0).val = 3 ∨ (j 0).val = 4 ∨ (j 0).val = 5 ∨ (j 0).val = 6 ∨ (j 0).val = 7 := by omega
    · exact stack_rows (p := 1) _ j 2 (by norm_num) f2 rfl 2 0 rfl b0 (by norm_num)
    · exact stack_rows (p := 1) _ j 3 (by norm_num) f2 rfl 3 0 rfl b0 (by norm_num)
    · exact stack_rows (p := 1) _ j 4 (by norm_num) f2 rfl 4 0 rfl b0 (by norm_num)
    · exact stack_rows (p := 1) _ j 5 (by norm_num) f2 rfl 5 0 rfl b0 (by norm_num)
    · exact stack_rows (p := 1) _ j 6 (by norm_num) f2 rfl 6 0 rfl b0 (by norm_num)
    · exact stack_rows (p := 1) _ j 7 (by norm_num) f2 rfl 7 0 rfl b0 (by norm_num)

theorem r_v284 : val_main_v284 (F := Ideal) (up2 8192 1024 X) (up2 1024 3840 wi) rows cols (up2 8192 512 Q) (up2 8192 256 KV) (up2 8192 3072 P)
    = up2 8 1024 fun s j => ∑ i ∈ range 8192, tokSum (cosT (pos rows) (pos cols) i) (sinT (pos rows) (pos cols) i) (fun j k => wi k j) (Q i) (KV i) (P i) (X i) s j := by
  unfold val_main_v284 val_main_v276 val_main_v277
  rw [r_v239, r_v245, r_v278, show val_main_v279 (F := Ideal) = _ from r_v278, show val_main_v280 (F := Ideal) = _ from r_v278,
    show val_main_v281 (F := Ideal) = _ from r_v278, show val_main_v282 (F := Ideal) = _ from r_v278, show val_main_v283 (F := Ideal) = _ from r_v278]
  rw [host_row_up, host_row_up]
  refine stack8 _ _ _ _ _ (fun j => rfl) (fun j => rfl) fun s j hs => ?_
  refine (sum_eq_zero fun i _ => ?_).symm
  match s, hs with
  | s + 2, _ => rfl

/-! ## The gradient at the block's input -/

theorem r_v250 : val_main_v250 (F := Ideal) (up2 8192 1024 X) (up2 6 1024 md) (up2 1024 3840 wi) rows cols (up2 8192 512 Q) (up2 8192 256 KV) (up2 8192 3072 P)
    = up2 8192 1024 fun i j => dht wi Q KV P rows cols i j * (1 + vec md 1 j) * rstd (X i) := by
  unfold val_main_v250
  rw [r_v244, r_v249]
  exact mulf_up _ _

theorem r_v258 : val_main_v258 (F := Ideal) (up2 8192 1024 X) (up2 6 1024 md) (up2 1024 3840 wi) rows cols (up2 8192 512 Q) (up2 8192 256 KV) (up2 8192 3072 P)
    = up2 8192 1024 fun i _ => (∑ k ∈ range 1024, dev (X i) k * (dht wi Q KV P rows cols i k * (1 + vec md 1 k))) * (-(1 / 2) * (rstd (X i) / var (X i))) / 1024 := by
  unfold val_main_v258 val_main_v257 val_main_v256 val_main_v255 val_main_v251 val_main_v248 val_main_v247 val_main_v246 val_main_cst_28 val_main_cst_30 val_main_cst_31
  rw [r_v18, r_v244, r_v24]
  refine (congrArg (broadcastInDim _ _ _ ·) ((congrArg (Host.reduceAdd · _ _ _) ((congrArg₂ Host.divf ((congrArg (mulf · _) ((congrArg (shapeCast _ · _)
    ((congrArg (Host.reduceAdd · _ _ _) (mulf_up _ _)).trans (host_sum_rows_up _ _ _ (by decide)))).trans (cast_col_up _ _))).trans (mulf_up _ _))
    (host_splat_up _ _ word_1024)).trans (hostDivf_up _ _ fun _ _ _ _ => by norm_num))).trans ((host_sum_rows_up _ _ _ (by decide)).trans
    (up1_congr fun i _ => sum_range_one _)))).trans ?_
  exact host_col_up _ _

theorem r_v259 : val_main_v259 (F := Ideal) (up2 8192 1024 X) (up2 6 1024 md) (up2 1024 3840 wi) rows cols (up2 8192 512 Q) (up2 8192 256 KV) (up2 8192 3072 P)
    = up2 8192 1024 fun i j => (∑ k ∈ range 1024, dev (X i) k * (dht wi Q KV P rows cols i k * (1 + vec md 1 k))) * (-(1 / 2) * (rstd (X i) / var (X i))) / 1024 * (2 * dev (X i) j) := by
  unfold val_main_v259
  rw [r_v258, r_v12]
  exact mulf_up _ _

theorem r_v268 : val_main_v268 (F := Ideal) (up2 8192 1024 X) (up2 6 1024 md) (up2 1024 3840 wi) rows cols (up2 8192 512 Q) (up2 8192 256 KV) (up2 8192 3072 P)
    = up2 8192 1024 fun i _ => (∑ k ∈ range 1024, -(dht wi Q KV P rows cols i k * (1 + vec md 1 k) * rstd (X i))
        + ∑ k ∈ range 1024, -((∑ l ∈ range 1024, dev (X i) l * (dht wi Q KV P rows cols i l * (1 + vec md 1 l))) * (-(1 / 2) * (rstd (X i) / var (X i))) / 1024 * (2 * dev (X i) k))) / 1024 := by
  unfold val_main_v268 val_main_v267 val_main_v266 val_main_v265 val_main_v264 val_main_v254 val_main_v253 val_main_v252 val_main_v262 val_main_v261 val_main_v260
    val_main_cst_29 val_main_cst_32 val_main_cst_33 val_main_cst_34
  rw [r_v250, r_v259]
  refine (congrArg (broadcastInDim _ _ _ ·) ((congrArg (Host.reduceAdd · _ _ _) ((congrArg₂ Host.divf ((congrArg₂ addf
    ((congrArg (shapeCast _ · _) ((congrArg (Host.reduceAdd · _ _ _) (negf_up _)).trans (host_sum_rows_up _ _ _ (by decide)))).trans (cast_col_up _ _))
    ((congrArg (shapeCast _ · _) ((congrArg (Host.reduceAdd · _ _ _) (negf_up _)).trans (host_sum_rows_up _ _ _ (by decide)))).trans (cast_col_up _ _))).trans (addf_up _ _))
    (host_splat_up _ _ word_1024)).trans (hostDivf_up _ _ fun _ _ _ _ => by norm_num))).trans ((host_sum_rows_up _ _ _ (by decide)).trans
    (up1_congr fun i _ => sum_range_one _)))).trans ?_
  exact host_col_up _ _

theorem r_v275 : val_main_v275 (F := Ideal) (up2 8192 1024 X) (up2 6 1024 md) (up2 1024 3840 wi) rows cols (up2 8192 512 Q) (up2 8192 256 KV) (up2 8192 3072 P) (up2 8192 1024 R)
    = up2 8192 1024 fun i => gx (cosT (pos rows) (pos cols) i) (sinT (pos rows) (pos cols) i) (vec md) (fun j k => wi k j) (Q i) (KV i) (P i) (X i) (R i) := by
  unfold val_main_v275 val_main_v269 val_main_v263 val_main_v271 val_main_v270 val_main_cst_35
  rw [r_v250, r_v259, r_v268]
  refine (congrArg₂ addf ((congrArg (addf · _) (addf_up _ _)).trans (addf_up _ _)) ((congrArg (mulf · _) (host_splat_up _ _ word_alpha)).trans (mulf_up _ _))).trans ?_
  exact (addf_up _ _).trans (up2_congr fun i _ j _ => congrArg (· + alpha * R i j) (nrmBwd_eq (fun k => dht wi Q KV P rows cols i k * (1 + vec md 1 k)) (X i) j))

end Cert.ProjRef

end
-- ==== Proof.ProjClose.lean ====
/-
  The value claim of the input projection's backward call, from the two sides.

  On finite arguments the call leaves its three outputs at the arrays of `ProjSpec`'s real functions (`ProjArrays`), and the
  reference leaves its three results at the same arrays (`ProjRef`). The positions are integers, of which nothing is asked.
-/
module

public import proofs.«01_k».proof.Defs
public import proofs.«01_k».proof.Proof.Finite
public import proofs.«01_k».proof.Proof.ProjRef
public import proofs.«01_k».proof.Proof.Gen.Pre_finite_proj
public import proofs.«01_k».proof.Proof.Gen.ReferenceProjIdeal.Run

@[expose] public section

noncomputable section

namespace Cert.ProjClose

open Idealize.ShloMosaic Idealize.ShloMosaic.TcCoe Idealize.SL.Sem Cert.Lift Cert.ProjArrays Cert.ProjSpec Cert.ProjTables
open Cert.Finite (conjunct)

open Cert.Pre_finite_proj in
/-- Where the precondition holds the seven arrays of numbers are arrays of real functions. -/
theorem args_real (x0 : FVec Ideal S8192x1024 .f32) (x1 : FVec Ideal S6x1024 .f32) (x2 : FVec Ideal S1024x3840 .f32) (x3 x4 : IVec S8192 32)
    (x5 : FVec Ideal S8192x512 .f32) (x6 : FVec Ideal S8192x256 .f32) (x7 : FVec Ideal S8192x3072 .bf16) (x8 : FVec Ideal S8192x1024 .f32)
    (h : Cert.Pre_finite_proj.fn (F := Ideal) x0 x1 x2 x3 x4 x5 x6 x7 x8 = fun _ => 1#1) :
    (∃ f, x0 = up2 8192 1024 f) ∧ (∃ f, x1 = up2 6 1024 f) ∧ (∃ f, x2 = up2 1024 3840 f) ∧ (∃ f, x5 = up2 8192 512 f) ∧ (∃ f, x6 = up2 8192 256 f)
      ∧ (∃ f, x7 = up2 8192 3072 f) ∧ ∃ f, x8 = up2 8192 1024 f := by
  have hs : Subsingleton S_.Idx := ⟨fun a b => funext fun d => d.elim0⟩
  obtain ⟨j⟩ : Nonempty S_.Idx := ⟨fun d => d.elim0⟩
  have e := congrFun h j
  dsimp only [fn, fn_part1, fn_part2] at e
  have e8 := conjunct (n := 8192) (k := 1024) (S := S_) x8 j (IntOp.andi_eq_one.1 e).2
  replace e := (IntOp.andi_eq_one.1 e).1
  have e7 := conjunct (n := 8192) (k := 3072) (S := S_) x7 j (IntOp.andi_eq_one.1 e).2
  replace e := (IntOp.andi_eq_one.1 e).1
  have e6 := conjunct (n := 8192) (k := 256) (S := S_) x6 j (IntOp.andi_eq_one.1 e).2
  replace e := (IntOp.andi_eq_one.1 e).1
  have e5 := conjunct (n := 8192) (k := 512) (S := S_) x5 j (IntOp.andi_eq_one.1 e).2
  replace e := (IntOp.andi_eq_one.1 e).1
  have e2 := conjunct (n := 1024) (k := 3840) (S := S_) x2 j (IntOp.andi_eq_one.1 e).2
  replace e := (IntOp.andi_eq_one.1 e).1
  have e1 := conjunct (n := 6) (k := 1024) (S := S_) x1 j (IntOp.andi_eq_one.1 e).2
  replace e := (IntOp.andi_eq_one.1 e).1
  exact ⟨conjunct (n := 8192) (k := 1024) (S := S_) x0 j e, e1, e2, e5, e6, e7, e8⟩

/-- The precondition on one device: the arguments are arrays of real functions. -/
theorem exists_args (m : (ℓ : Loc Cert.KernelProjIdeal.nD Cert.KernelProjIdeal.τ Cert.KernelProjIdeal.sig) → Buf (Elt Ideal) ℓ)
    [Cert.Pre_finite_proj.Facts] (hp : Cert.Pre_KernelProjIdeal_finite_proj m) (c : Dev Cert.KernelProjIdeal.nD) :
    ∃ X md wi Q KV P R rows cols, Args m c X md wi Q KV P R rows cols := by
  obtain ⟨⟨X, h0⟩, ⟨md, h1⟩, ⟨wi, h2⟩, ⟨Q, h5⟩, ⟨KV, h6⟩, ⟨P, h7⟩, ⟨R, h8⟩⟩ := args_real _ _ _ _ _ _ _ _ _ (hp c)
  exact ⟨X, md, wi, Q, KV, P, R, _, _, h0, h1, h2, rfl, rfl, h5, h6, h7, h8⟩

open Cert.ReferenceProjIdeal in
/-- The reference's arguments on device `c` are these arrays of real numbers, and these positions. -/
structure RefArgs (m' : (ℓ : Loc nD τ sig) → Buf (Elt Ideal) ℓ) (c : Dev nD) (X md wi Q KV P R : ℕ → ℕ → ℝ) (rows cols : IVec (⟨1, ![8192]⟩ : Shape) 32) : Prop where
  a0 : m' ((c.tc : Thread nD τ).loc main_arg0) = up2 8192 1024 X
  a1 : m' ((c.tc : Thread nD τ).loc main_arg1) = up2 6 1024 md
  a2 : m' ((c.tc : Thread nD τ).loc main_arg2) = up2 1024 3840 wi
  a3 : m' ((c.tc : Thread nD τ).loc main_arg3) = rows
  a4 : m' ((c.tc : Thread nD τ).loc main_arg4) = cols
  a5 : m' ((c.tc : Thread nD τ).loc main_arg5) = up2 8192 512 Q
  a6 : m' ((c.tc : Thread nD τ).loc main_arg6) = up2 8192 256 KV
  a7 : m' ((c.tc : Thread nD τ).loc main_arg7) = up2 8192 3072 P
  a8 : m' ((c.tc : Thread nD τ).loc main_arg8) = up2 8192 1024 R

section Reference

open Cert.ReferenceProjIdeal Idealize.ShloMosaic.StableHlo

variable {m' : (ℓ : Loc nD τ sig) → Buf (Elt Ideal) ℓ} {c : Dev nD} {X md wi Q KV P R : ℕ → ℕ → ℝ} {rows cols : IVec (⟨1, ![8192]⟩ : Shape) 32}

theorem ref_274 (h : RefArgs m' c X md wi Q KV P R rows cols) : Read.val_main_v274 (F := Ideal) (launchContents m' c (Proc.devRef .tc main_arg3)) (launchContents m' c (Proc.devRef .tc main_arg4)) (launchContents m' c (Proc.devRef .tc main_arg5)) (launchContents m' c (Proc.devRef .tc main_arg6)) (launchContents m' c (Proc.devRef .tc main_arg7))
    = up2 8192 768 fun i => dqkv (cosT (pos rows) (pos cols) i) (sinT (pos rows) (pos cols) i) (Q i) (KV i) := by
  rw [launchContents_devRef m' c main_arg3, h.a3, launchContents_devRef m' c main_arg4, h.a4, launchContents_devRef m' c main_arg5, h.a5, launchContents_devRef m' c main_arg6, h.a6, launchContents_devRef m' c main_arg7, h.a7]
  exact Cert.ProjRef.r_v274 Q KV P rows cols

theorem ref_275 (h : RefArgs m' c X md wi Q KV P R rows cols) : Read.val_main_v275 (F := Ideal) (launchContents m' c (Proc.devRef .tc main_arg0)) (launchContents m' c (Proc.devRef .tc main_arg1)) (launchContents m' c (Proc.devRef .tc main_arg2)) (launchContents m' c (Proc.devRef .tc main_arg3)) (launchContents m' c (Proc.devRef .tc main_arg4)) (launchContents m' c (Proc.devRef .tc main_arg5)) (launchContents m' c (Proc.devRef .tc main_arg6)) (launchContents m' c (Proc.devRef .tc main_arg7)) (launchContents m' c (Proc.devRef .tc main_arg8))
    = up2 8192 1024 fun i => gx (cosT (pos rows) (pos cols) i) (sinT (pos rows) (pos cols) i) (vec md) (fun j k => wi k j) (Q i) (KV i) (P i) (X i) (R i) := by
  rw [launchContents_devRef m' c main_arg0, h.a0, launchContents_devRef m' c main_arg1, h.a1, launchContents_devRef m' c main_arg2, h.a2, launchContents_devRef m' c main_arg3, h.a3, launchContents_devRef m' c main_arg4, h.a4, launchContents_devRef m' c main_arg5, h.a5, launchContents_devRef m' c main_arg6, h.a6, launchContents_devRef m' c main_arg7, h.a7, launchContents_devRef m' c main_arg8, h.a8]
  exact Cert.ProjRef.r_v275 X md wi Q KV P R rows cols

theorem ref_284 (h : RefArgs m' c X md wi Q KV P R rows cols) : Read.val_main_v284 (F := Ideal) (launchContents m' c (Proc.devRef .tc main_arg0)) (launchContents m' c (Proc.devRef .tc main_arg2)) (launchContents m' c (Proc.devRef .tc main_arg3)) (launchContents m' c (Proc.devRef .tc main_arg4)) (launchContents m' c (Proc.devRef .tc main_arg5)) (launchContents m' c (Proc.devRef .tc main_arg6)) (launchContents m' c (Proc.devRef .tc main_arg7))
    = up2 8 1024 fun s j => ∑ i ∈ Finset.range 8192, tokSum (cosT (pos rows) (pos cols) i) (sinT (pos rows) (pos cols) i) (fun j k => wi k j) (Q i) (KV i) (P i) (X i) s j := by
  rw [launchContents_devRef m' c main_arg0, h.a0, launchContents_devRef m' c main_arg2, h.a2, launchContents_devRef m' c main_arg3, h.a3, launchContents_devRef m' c main_arg4, h.a4, launchContents_devRef m' c main_arg5, h.a5, launchContents_devRef m' c main_arg6, h.a6, launchContents_devRef m' c main_arg7, h.a7]
  exact Cert.ProjRef.r_v284 X wi Q KV P rows cols

end Reference

/-- The value claim. -/
theorem value : Cert.algebraic_KernelProjIdeal_ReferenceProjIdeal_pre_finite_proj := by
  intro m g m' g' hp hm
  choose X md wi Q KV P R rows cols ha using exists_args m hp
  have hr : ∀ c, RefArgs m' c (X c) (md c) (wi c) (Q c) (KV c) (P c) (R c) (rows c) (cols c) := fun c => by
    obtain ⟨e0, e1, e2, e3, e4, e5, e6, e7, e8⟩ := hm c
    have := ha c
    exact ⟨e0.trans this.x, e1.trans this.md, e2.trans this.wi, e3.trans this.rows, e4.trans this.cols, e5.trans this.q, e6.trans this.kv,
      e7.trans this.p, e8.trans this.r⟩
  refine ⟨fun c => (Cert.KernelProjIdeal.Gen.dats m 0 c).arrAt 9 _, fun c => (Cert.KernelProjIdeal.Gen.dats m 0 c).arrAt 10 _,
    fun c => (Cert.KernelProjIdeal.Gen.dats m 0 c).arrAt 11 _, Cert.KernelProjIdeal.Value.run_blocks m g, ?_⟩
  refine (θ_run Cert.ReferenceProjIdeal.defs _ _).mono (fun r h c => ?_) (Cert.ReferenceProjIdeal.Value.run m' g')
  obtain ⟨q0, q1, q2, rest⟩ := h c
  have p0 := (Cert.ReferenceProjIdeal.Read.val_main_v274_eq (Idealize.ShloMosaic.StableHlo.launchContents m' c)).trans ((ref_274 (hr c)).trans (arr_dqkv (ha c)).symm)
  have p1 := (Cert.ReferenceProjIdeal.Read.val_main_v275_eq (Idealize.ShloMosaic.StableHlo.launchContents m' c)).trans ((ref_275 (hr c)).trans (arr_gx (ha c)).symm)
  have p2 := (Cert.ReferenceProjIdeal.Read.val_main_v284_eq (Idealize.ShloMosaic.StableHlo.launchContents m' c)).trans ((ref_284 (hr c)).trans (arr_sums (ha c)).symm)
  exact ⟨q0.trans p0, q1.trans p1, q2.trans p2, rest⟩

end Cert.ProjClose

end
-- ==== Proof.FwdLift.lean ====
/-
  Arrays of extended reals, and the operations on them.

  The forward projection's two programs compute the same sums and products in the same order, so that nothing needs its
  elements to be finite. This module states each array operation the two use as an operation on functions of natural
  numbers, like `Lift`, but with values among the extended reals.
-/
module

public import proofs.«01_k».proof.Proof.Tn
public import proofs.«01_k».proof.Proof.ProjPay

@[expose] public section

noncomputable section

namespace Cert.FwdLift

open Idealize.ShloMosaic Idealize.ShloMosaic.TcCoe Idealize.ShloMosaic.ValueIdx Cert.Tn
open scoped BigOperators

/-- The vector with `f i` at `i`. -/
def ex1 (n : ℕ) (f : ℕ → EReal) : (⟨1, ![n]⟩ : Shape).Idx → EReal := fun i => f (i 0).val

/-- Real arrays among them. -/
theorem up2_ex {n m : ℕ} (f : ℕ → ℕ → ℝ) : Cert.Lift.up2 n m f = ex2 n m fun i j => ((f i j : ℝ) : EReal) := rfl

theorem ex3_congr {n m l : ℕ} {f g : ℕ → ℕ → ℕ → EReal} (h : ∀ i < n, ∀ j < m, ∀ k < l, f i j k = g i j k) : ex3 n m l f = ex3 n m l g :=
  funext fun i => h _ (i 0).isLt _ (i 1).isLt _ (i 2).isLt

section Pointwise

variable {φ : FTy} {n m : ℕ} (f g : ℕ → ℕ → EReal)

theorem mulf_ex : mulf (F := Ideal) (s := ⟨2, ![n, m]⟩) (φ := φ) (ex2 n m f) (ex2 n m g) = ex2 n m fun i j => f i j * g i j := rfl
theorem addf_ex : addf (F := Ideal) (s := ⟨2, ![n, m]⟩) (φ := φ) (ex2 n m f) (ex2 n m g) = ex2 n m fun i j => f i j + g i j := rfl
theorem subf_ex : subf (F := Ideal) (s := ⟨2, ![n, m]⟩) (φ := φ) (ex2 n m f) (ex2 n m g) = ex2 n m fun i j => f i j - g i j := rfl
theorem divf_ex : divf (F := Ideal) (s := ⟨2, ![n, m]⟩) (φ := φ) (ex2 n m f) (ex2 n m g) = ex2 n m fun i j => Ideal.div (f i j) (g i j) := rfl
theorem hostDivf_ex : Host.divf (F := Ideal) (s := ⟨2, ![n, m]⟩) (φ := φ) (ex2 n m f) (ex2 n m g) = ex2 n m fun i j => Ideal.div (f i j) (g i j) := rfl
theorem rsqrt_ex : rsqrt (F := Ideal) (s := ⟨2, ![n, m]⟩) (φ := φ) (ex2 n m f) = ex2 n m fun i j => Ideal.rsqrt (f i j) := rfl
theorem hostRsqrt_ex : Host.rsqrt (F := Ideal) (s := ⟨2, ![n, m]⟩) (φ := φ) (ex2 n m f) = ex2 n m fun i j => Ideal.rsqrt (f i j) := rfl
theorem truncf_ex {ψ : FTy} (h : ψ.bits < φ.bits) : truncf (F := Ideal) (s := ⟨2, ![n, m]⟩) (φ := φ) ψ (ex2 n m f) h = ex2 n m f := rfl

end Pointwise

/-! ## Sums and products -/

section Sums

variable {n m : ℕ} (f : ℕ → ℕ → EReal)

theorem sum_rows_ex (h : (⟨2, ![n, m]⟩ : Shape).Reduces [1] ⟨1, ![n]⟩) (hφ : FKind.Formats .f32)
    (hacc : 0x00000000#32 = FKind.add.neutral .f32 hφ) :
    multiReduction (F := Ideal) (s := ⟨2, ![n, m]⟩) (φ := .f32) .add [1] ⟨1, ![n]⟩ (ex2 n m f) 0x00000000#32 h hφ hacc
      = ex1 n fun i => ∑ k ∈ Finset.range m, f i k :=
  funext fun j => (Ideal.multiReduction_add_single _ _ h hφ hacc j).trans (Finset.sum_range fun k => f (j 0).val k).symm

theorem host_sum_rows_ex {u : Shape} (hu : 0 < u.numel) (h : (⟨2, ![n, m]⟩ : Shape).ReducesTo [1] ⟨1, ![n]⟩)
    (h' : (⟨2, ![n, m]⟩ : Shape).Reduces [1] ⟨1, ![n]⟩) :
    Host.reduceAdd (F := Ideal) (s := ⟨2, ![n, m]⟩) (φ := .f32) (u := u) (ex2 n m f) (constant u .f32 0x00000000#32) h hu
      = ex1 n fun i => ∑ k ∈ Finset.range m, f i k := by
  funext j
  refine (Ideal.hostReduceAdd_single h h' _ _ j).trans ?_
  show Ideal.ofBits .f32 0x00000000#32 + _ = _
  rw [Ideal.ofBits_zero_f32, zero_add]
  exact (Finset.sum_range fun k => f (j 0).val k).symm

end Sums

section Products

variable {φ₁ φ₂ : FTy} {M K N : ℕ} (f g : ℕ → ℕ → EReal)

theorem matmul_nt_ex (prec : Option ContractPrecision) :
    FloatOps.matmul (F := Ideal) (φ₁ := φ₁) (φ₂ := φ₂) (DotDims.transposedRhs M K N) prec (ex2 M K f) (ex2 N K g)
        (constant ⟨2, ![M, N]⟩ .f32 0x00000000#32)
      = ex2 M N fun i j => ∑ k ∈ Finset.range K, f i k * g j k := by
  funext j
  refine (congrArg _ (eq_ix2 j)).trans ((Ideal.matmul_transposedRhs_apply prec _ _ _ (j 0) (j 1)).trans ?_)
  show Ideal.ofBits .f32 0x00000000#32 + _ = _
  rw [Ideal.ofBits_zero_f32, zero_add]
  exact (Finset.sum_range fun k => f (j 0).val k * g (j 1).val k).symm

theorem dotGeneral_ex (prec : Option ContractPrecision) (sched : HostSchedule) :
    FloatOps.dotGeneral (F := Ideal) (φ₁ := φ₁) (φ₂ := φ₂) (DotDims.plain M K N) prec sched (ex2 M K f) (ex2 K N g)
      = ex2 M N fun i j => ∑ k ∈ Finset.range K, f i k * g k j := by
  trans FloatOps.matmul (F := Ideal) (φ₁ := φ₁) (φ₂ := φ₂) (DotDims.plain M K N) prec (ex2 M K f) (ex2 K N g)
        (constant ⟨2, ![M, N]⟩ .f32 0x00000000#32)
  · show Ideal.matmul _ _ _ _ = Ideal.matmul _ _ _ _
    exact congrArg _ (funext fun j => Ideal.ofBits_zero_f32.symm)
  · funext j
    refine (congrArg _ (eq_ix2 j)).trans ((Ideal.matmul_plain_apply prec _ _ _ (j 0) (j 1)).trans ?_)
    show Ideal.ofBits .f32 0x00000000#32 + _ = _
    rw [Ideal.ofBits_zero_f32, zero_add]
    exact (Finset.sum_range fun k => f (j 0).val k * g k (j 1).val).symm

end Products

/-! ## Layout -/

section Layout

variable {n m : ℕ} (f : ℕ → ℕ → EReal) (v : ℕ → EReal)

theorem cast_self_ex (h) : shapeCast ⟨2, ![n, m]⟩ (ex2 n m f) h = ex2 n m f := shapeCast_self _ h

/-- A vector as a column. -/
theorem cast_col_ex (h) : shapeCast (s := ⟨1, ![n]⟩) ⟨2, ![n, 1]⟩ (ex1 n v) h = ex2 n 1 fun i _ => v i := by
  funext j
  refine (shapeCast_apply _ h j (ix1 (j 0)) ?_).trans rfl
  rw [Shape.rowMajor_val_two, Shape.rowMajor_val_one]
  have h1 : (j 1).val < 1 := (j 1).isLt
  show (j 0).val = (j 0).val * 1 + (j 1).val
  omega

/-- A row as a vector. -/
theorem cast_unrow_ex (h) : shapeCast (s := ⟨2, ![1, m]⟩) ⟨1, ![m]⟩ (ex2 1 m f) h = ex1 m (f 0) := by
  funext j
  refine (shapeCast_apply _ h j (ix2 ⟨0, Nat.one_pos⟩ (j 0)) ?_).trans rfl
  rw [Shape.rowMajor_val_two, Shape.rowMajor_val_one]
  show 0 * m + (j 0).val = (j 0).val
  omega

/-- A row repeated down the rows, and a column along the columns. -/
theorem rows_ex (h) : broadcastTo (s := ⟨2, ![1, m]⟩) ⟨2, ![n, m]⟩ (ex2 1 m f) h = ex2 n m fun _ j => f 0 j := by
  funext j
  refine (broadcastTo_apply _ h j (ix2 ⟨0, Nat.one_pos⟩ (j 1)) fun a => ?_).trans rfl
  match a with
  | ⟨0, _⟩ => rfl
  | ⟨1, _⟩ =>
    show (j 1).val = if m = 1 then 0 else (j 1).val
    have h1 : (j 1).val < m := (j 1).isLt
    split <;> omega

theorem cols_ex (h) : broadcastTo (s := ⟨2, ![n, 1]⟩) ⟨2, ![n, m]⟩ (ex2 n 1 f) h = ex2 n m fun i _ => f i 0 := by
  funext j
  refine (broadcastTo_apply _ h j (ix2 (j 0) ⟨0, Nat.one_pos⟩) fun a => ?_).trans rfl
  match a with
  | ⟨0, _⟩ =>
    show (j 0).val = if n = 1 then 0 else (j 0).val
    have h1 : (j 0).val < n := (j 0).isLt
    split <;> omega
  | ⟨1, _⟩ => rfl

/-- A rectangle of a matrix. -/
theorem slice_ex {p q : ℕ} (a b : ℕ) (h) :
    extractStridedSlice (s := ⟨2, ![n, m]⟩) ⟨2, ![p, q]⟩ ![a, b] (ex2 n m f) h = ex2 p q fun i j => f (a + i) (b + j) := rfl

/-- The host's broadcasts: a vector as a row or a column, a row or a column repeated. -/
theorem host_row_ex (h) : broadcastInDim (s := ⟨1, ![m]⟩) ⟨2, ![1, m]⟩ ![1] h (ex1 m v) = ex2 1 m fun _ j => v j := by
  funext j
  refine (broadcastInDim_apply _ h _ j (ix1 (j 1)) fun a => ?_).trans rfl
  match a with
  | ⟨0, _⟩ =>
    show (j 1).val = if m = 1 then 0 else (j 1).val
    have h1 : (j 1).val < m := (j 1).isLt
    split <;> omega

theorem host_col_ex (h) : broadcastInDim (s := ⟨1, ![n]⟩) ⟨2, ![n, m]⟩ ![0] h (ex1 n v) = ex2 n m fun i _ => v i := by
  funext j
  refine (broadcastInDim_apply _ h _ j (ix1 (j 0)) fun a => ?_).trans rfl
  match a with
  | ⟨0, _⟩ =>
    show (j 0).val = if n = 1 then 0 else (j 0).val
    have h1 : (j 0).val < n := (j 0).isLt
    split <;> omega

theorem host_rows_ex (h) : broadcastInDim (s := ⟨2, ![1, m]⟩) ⟨2, ![n, m]⟩ ![0, 1] h (ex2 1 m f) = ex2 n m fun _ j => f 0 j := by
  funext j
  refine (broadcastInDim_apply _ h _ j (ix2 ⟨0, Nat.one_pos⟩ (j 1)) fun a => ?_).trans rfl
  match a with
  | ⟨0, _⟩ => rfl
  | ⟨1, _⟩ =>
    show (j 1).val = if m = 1 then 0 else (j 1).val
    have h1 : (j 1).val < m := (j 1).isLt
    split <;> omega

theorem host_cols_ex (h) : broadcastInDim (s := ⟨2, ![n, 1]⟩) ⟨2, ![n, m]⟩ ![0, 1] h (ex2 n 1 f) = ex2 n m fun i _ => f i 0 := by
  funext j
  refine (broadcastInDim_apply _ h _ j (ix2 (j 0) ⟨0, Nat.one_pos⟩) fun a => ?_).trans rfl
  match a with
  | ⟨0, _⟩ =>
    show (j 0).val = if n = 1 then 0 else (j 0).val
    have h1 : (j 0).val < n := (j 0).isLt
    split <;> omega
  | ⟨1, _⟩ => rfl

/-- One of several blocks of columns beside each other. -/
theorem piece_ex {R C p : ℕ} (xs : List ((s : Shape) × (s.Idx → EReal)))
    (h : Shape.Concatenates (xs.map (·.1)) (⟨2, ![R, C]⟩ : Shape) 1) (j : (⟨2, ![R, C]⟩ : Shape).Idx) (k : ℕ) (hk : k < xs.length)
    (f : ℕ → ℕ → EReal) (hxk : xs[k] = ⟨⟨2, ![R, p]⟩, ex2 R p f⟩) (pre r : ℕ)
    (hpre : (((xs.take k).map (·.1)).map fun s => if h : s.rank = 2 then s.size ((1 : Fin 2).cast h.symm) else 0).sum = pre)
    (hj : (j 1).val = pre + r) (hr : r < p) :
    concatenate (⟨2, ![R, C]⟩ : Shape) 1 xs h j = f (j 0).val r := by
  refine (concatenate_apply_piece _ xs h j k hk _ _ hxk rfl pre hpre (ix2 (j 0) ⟨r, hr⟩) (fun b hb => ?_) hj.symm).trans rfl
  match b, hb with
  | ⟨0, _⟩, _ => rfl
  | ⟨1, _⟩, hb => exact absurd rfl hb

/-! ## The partner lane -/

/-- A rotation along the lanes. -/
theorem rot_ex (a : BitVec 32) (h) :
    dynamicRotate (s := ⟨2, ![n, m]⟩) 1 a none (ex2 n m f) h = ex2 n m fun i j => f i ((j + m - a.toNat % m) % m) := by
  funext y
  have h1 : (y 1).val < m := (y 1).isLt
  refine dynamicRotate_apply (s := ⟨2, ![n, m]⟩) 1 a _ h y
    (ValueIdx.ix2 (y 0) ⟨((y 1).val + m - a.toNat % m) % m, Nat.mod_lt _ (by omega)⟩) fun b => ?_
  match b with
  | ⟨0, _⟩ => rfl
  | ⟨1, _⟩ => rfl

/-- A lane's partner: sixteen lanes on in the lower half of its 32, sixteen back in the upper half. -/
def partner (g : ℕ → EReal) (j : ℕ) : EReal := if j % 32 < 16 then g (j + 16) else g (j - 16)

theorem partner_ex (k : ℕ) (hm : m = 32 * k) (h8 : m ≤ 256) (a : BitVec 32) (ha : a.toNat = m - 16) (hi) (h1) (h2) :
    select (s := ⟨2, ![n, m]⟩)
      (cmpi .slt (andi (iota .tc ⟨2, ![n, m]⟩ 32 [1] hi) (broadcast _ 31#32)) (broadcast _ 16#32))
      (dynamicRotate (s := ⟨2, ![n, m]⟩) 1 a none (ex2 n m f) h1) (dynamicRotate (s := ⟨2, ![n, m]⟩) 1 16#32 none (ex2 n m f) h2)
      = ex2 n m fun i => partner (f i) := by
  rw [rot_ex, rot_ex]
  funext y
  have hj : (y 1).val < m := (y 1).isLt
  have hl := Cert.ProjPay.lane (y 1).val (by omega)
  rw [Nat.zero_mul] at hl
  show Scalar.select (IntOp.cmpi .slt (IntOp.andi (BitVec.ofNat 32 (0 * m + (y 1).val)) 31#32) 16#32) _ _ = _
  rw [Nat.zero_mul, hl, Cert.ProjPay.sel]
  show _ = if (y 1).val % 32 < 16 then _ else _
  by_cases h : (y 1).val % 32 < 16
  · rw [if_pos h, if_pos h]
    refine congrArg (f _) ?_
    rw [ha, Nat.mod_eq_of_lt (show m - 16 < m by omega), show (y 1).val + m - (m - 16) = (y 1).val + 16 by omega,
      Nat.mod_eq_of_lt (by omega)]
  · rw [if_neg h, if_neg h]
    refine congrArg (f _) ?_
    show ((y 1).val + m - 16 % m) % m = _
    rw [Nat.mod_eq_of_lt (show 16 < m by omega), show (y 1).val + m - 16 = (y 1).val - 16 + m by omega, Nat.add_mod_right,
      Nat.mod_eq_of_lt (by omega)]

/-! ## Stores of columns, and loads of rectangles -/

/-- A column block of a matrix is a piece of it. -/
theorem col_piece_ex {w : ℕ} {e : EltTy} (hv : Elt Ideal e = EReal) (o : ℕ) (f G : ℕ → ℕ → EReal)
    (h : ∀ i c, c < w → f i c = G i (o + c)) (inb : ∀ a, (![0, o] : Fin 2 → ℕ) a + (![n, w] : Fin 2 → ℕ) a ≤ (![n, m] : Fin 2 → ℕ) a)
    (x : (Rect.unit (s := ⟨2, ![n, m]⟩) ![0, o] ![n, w] inb).shape.Idx) :
    ex2 n w f x = ex2 n m G ((Rect.unit (s := ⟨2, ![n, m]⟩) ![0, o] ![n, w] inb).emb x) :=
  (h _ _ (x 1).isLt).trans (congrArg₂ G
    (by show (x 0).val = 0 + 1 * (x 0).val; omega) (by show o + (x 1).val = o + 1 * (x 1).val; omega))

/-- A rectangle read from a matrix. -/
theorem ld_ex {p q : ℕ} (a b : ℕ)
    (inb : ∀ x, (![a, b] : Fin 2 → ℕ) x + (![p, q] : Fin 2 → ℕ) x ≤ (⟨2, ![n, m]⟩ : Shape).size x)
    (y : (Rect.unit (s := ⟨2, ![n, m]⟩) ![a, b] ![p, q] inb).shape.Idx) :
    ex2 n m f ((Rect.unit (s := ⟨2, ![n, m]⟩) ![a, b] ![p, q] inb).emb y) = ex2 p q (fun i j => f (a + i) (b + j)) y :=
  congrArg₂ f (by show a + 1 * (y 0).val = a + (y 0).val; omega) (by show b + 1 * (y 1).val = b + (y 1).val; omega)

end Layout

end Cert.FwdLift

end
-- ==== Proof.FwdPay.lean ====
/-
  The input projection's forward call: what it computes row by row, and the values the body stores, over extended reals.

  A row is normalised and modulated, multiplied with the weights, and the products of the queries and keys are turned by
  the token's position. The queries are scaled by an eighth, and every head's values stand beside ones.
-/
module

public import proofs.«01_k».proof.Proof.Gen.KernelFwdIdeal.Skeleton
public import proofs.«01_k».proof.Proof.FwdLift

@[expose] public section

set_option maxRecDepth 16384

noncomputable section

namespace Cert.FwdPay

open Idealize.ShloMosaic Idealize.ShloMosaic.TcCoe Cert.KernelFwdIdeal Cert.KernelFwdIdeal.Gen Cert.Tn Cert.FwdLift Finset
open scoped BigOperators

/-! ## One row -/

/-- The constants of the programs: a row's length, the variance's floor, one and an eighth. -/
def wN : EReal := Ideal.ofBits .f32 0x44800000#32
def wEps : EReal := Ideal.ofBits .f32 0x3727C5AC#32
def wOne : EReal := Ideal.ofBits .f32 0x3F800000#32
def wEighth : EReal := Ideal.ofBits .f32 0x3E000000#32

theorem one_bf16 : Ideal.ofBits .bf16 0x3F80#16 = wOne := by
  simp only [wOne, Ideal.ofBits, Ideal.ieee]
  simp [-EReal.coe_mul]
  norm_num

section Row

variable (x : ℕ → EReal) (sc sh : ℕ → EReal) (w : ℕ → ℕ → EReal) (c s p : ℕ → EReal) (j : ℕ)

/-- The deviation from the row's mean, and one over the row's standard deviation. -/
def dev : EReal := x j - Ideal.div (∑ k ∈ range 1024, x k) wN
def rstd : EReal := Ideal.rsqrt (Ideal.div (∑ k ∈ range 1024, dev x k * dev x k) wN + wEps)
/-- The row normalised and modulated. -/
def hrow : EReal := dev x j * rstd x * (wOne + sc j) + sh j
/-- Its product with the weights. -/
def prod : EReal := ∑ k ∈ range 1024, x k * w j k
/-- Lanes turned by the token's position. -/
def rope : EReal := p j * c (j % 128) + partner p j * s (j % 128)
/-- The queries, the keys beside the values, and the values beside ones, from the products. -/
def qrow : EReal := rope c s p j * wEighth
def kvrow : EReal := if j < 128 then rope c s (fun j => p (512 + j)) j else p (512 + j)
def varow : EReal := if j < 64 then p (640 + j) else if j < 128 then wOne else if j < 192 then p (576 + j) else wOne

/-- Lanes counted from a whole number of groups on. -/
theorem partner_shift (o : ℕ) (ho : o % 32 = 0) : partner (fun j => p (o + j)) j = partner p (o + j) := by
  unfold partner
  by_cases b : j % 32 < 16
  · rw [if_pos b, if_pos (by omega), Nat.add_assoc]
  · rw [if_neg b, if_neg (by omega)]
    exact congrArg p (by omega)

theorem rope_shift (o : ℕ) (ho : o % 128 = 0) : rope c s (fun j => p (o + j)) j = rope c s p (o + j) := by
  unfold rope
  rw [partner_shift p j o (by omega), show (o + j) % 128 = j % 128 by omega]

theorem prod_shift (o : ℕ) : prod x (fun j k => w (o + j) (0 + k)) j = prod x w (o + j) := by
  unfold prod
  simp only [Nat.zero_add]

end Row

/-! ## The body's values -/

theorem splat_ex {n m : ℕ} (a : EReal) : (broadcast ⟨2, ![n, m]⟩ a : (⟨2, ![n, m]⟩ : Shape).Idx → EReal) = ex2 n m fun _ _ => a := rfl

variable (x v c s g h : ℕ → ℕ → EReal) (w : ℕ → ℕ → EReal)

theorem pay5_ex (a b : ℕ → ℕ → EReal) : k0_pay5 (F := Ideal) (ex2 1024 1024 x) (ex2 1 1024 a) (ex2 1 1024 b)
    = ex2 1024 1024 fun i => hrow (x i) (a 0) (b 0) := by
  unfold k0_pay5
  dsimp only
  have r : ∀ f : ℕ → ℕ → EReal, multiReduction (F := Ideal) (φ := .f32) .add [1] S1024 (ex2 1024 1024 f) 0x00000000#32 reduces_S1024x1024_S1024 (.inl rfl) rfl
      = ex1 1024 fun i => ∑ k ∈ range 1024, f i k := fun f => sum_rows_ex f _ _ _
  rw [r, cast_col_ex, cast_self_ex, cast_self_ex]
  have e : ∀ w, (broadcast S1024x1 w : S1024x1.Idx → EReal) = ex2 1024 1 fun _ _ => w := fun _ => rfl
  have e' : ∀ w, (broadcast S1x1024 w : S1x1024.Idx → EReal) = ex2 1 1024 fun _ _ => w := fun _ => rfl
  rw [e, e, e', divf_ex, cols_ex, subf_ex, mulf_ex, r, cast_col_ex, divf_ex, addf_ex, rsqrt_ex, cols_ex, mulf_ex,
    addf_ex, rows_ex, mulf_ex, rows_ex, addf_ex]
  rfl

theorem pay8_ex : k0_pay8 (F := Ideal) (ex2 1024 128 c) = ex2 1024 256 fun i j => c i (j % 128) := by
  unfold k0_pay8 k0_pay6
  dsimp only
  rw [cast_self_ex]
  funext y
  have b : (y 1).val < 256 := (y 1).isLt
  show _ = c (y 0).val ((y 1).val % 128)
  by_cases d : (y 1).val < 128
  · exact (piece_ex _ _ y 0 (by norm_num) c rfl 0 _ rfl (Nat.zero_add _).symm d).trans (congrArg _ (by omega))
  · exact (piece_ex _ _ y 1 (by norm_num) c rfl 128 ((y 1).val - 128) rfl (by omega) (by omega)).trans (congrArg _ (by omega))

theorem pay9_ex : k0_pay9 (F := Ideal) (ex2 1024 128 c) = ex2 1024 256 fun i j => c i (j % 128) := pay8_ex c

theorem prod_256 : matmul (F := Ideal) (φ₁ := .bf16) (φ₂ := .bf16) dot_S1024x1024_S256x1024_S1024x256_1_1_0_0_n_n none (ex2 1024 1024 h) (ex2 256 1024 w)
    (constant S1024x256 .f32 0x00000000#32) = ex2 1024 256 fun i => prod (h i) w := matmul_nt_ex h w none
theorem prod_512 : matmul (F := Ideal) (φ₁ := .bf16) (φ₂ := .bf16) dot_S1024x1024_S512x1024_S1024x512_1_1_0_0_n_n none (ex2 1024 1024 h) (ex2 512 1024 w)
    (constant S1024x512 .f32 0x00000000#32) = ex2 1024 512 fun i => prod (h i) w := matmul_nt_ex h w none

theorem pay11_ex : k0_pay11 (F := Ideal) (ex2 1024 1024 h) (ex2 1024 256 fun i j => c i (j % 128)) (ex2 1024 256 fun i j => s i (j % 128))
    (k0_pay10 (F := Ideal) (ex2 256 1024 w)) (constant S1024x256 .f32 0x00000000#32) = ex2 1024 256 fun i => qrow (c i) (s i) (prod (h i) w) := by
  unfold k0_pay11 k0_pay10
  dsimp only
  rw [cast_self_ex, prod_256]
  have e : ∀ w, (broadcast S1024x256 w : S1024x256.Idx → EReal) = ex2 1024 256 fun _ _ => w := fun _ => rfl
  rw [partner_ex (n := 1024) (m := 256) _ 8 rfl (by norm_num) 240#32 rfl, mulf_ex, mulf_ex, addf_ex, e, mulf_ex]
  rfl

theorem pay12_ex : k0_pay12 (F := Ideal) (ex2 1024 1024 h) (ex2 1024 256 fun i j => c i (j % 128)) (ex2 1024 256 fun i j => s i (j % 128))
    (ex2 256 1024 w) = ex2 1024 256 fun i => qrow (c i) (s i) (prod (h i) w) := pay11_ex c s h w

theorem pay13_ex : k0_pay13 (F := Ideal) (ex2 1024 1024 h) (ex2 256 1024 w) = ex2 1024 256 fun i => prod (h i) w := by
  unfold k0_pay13
  dsimp only
  rw [cast_self_ex, prod_256]

theorem pay15_ex : k0_pay15 (F := Ideal) (k0_pay6 (F := Ideal) (ex2 1024 128 c)) (k0_pay7 (F := Ideal) (ex2 1024 128 s)) (k0_pay14 (F := Ideal) (ex2 1024 1024 h) (ex2 256 1024 w))
    = ex2 1024 128 fun i => rope (c i) (s i) (prod (h i) w) := by
  unfold k0_pay15 k0_pay6 k0_pay7 k0_pay14
  dsimp only
  rw [cast_self_ex, cast_self_ex, pay13_ex, slice_ex]
  have z : (ex2 1024 128 fun i j => prod (h (0 + i)) w (0 + j)) = ex2 1024 128 fun i j => prod (h i) w j := by
    simp only [Nat.zero_add]
  rw [z, partner_ex (n := 1024) (m := 128) _ 4 rfl (by norm_num) 112#32 rfl, mulf_ex, mulf_ex, addf_ex, truncf_ex]
  refine ex2_congr fun i _ j hj => ?_
  unfold rope
  rw [Nat.mod_eq_of_lt hj]

theorem pay16_ex : k0_pay16 (F := Ideal) (ex2 1024 256 g) = ex2 1024 128 fun i j => g i (128 + j) := by
  unfold k0_pay16
  dsimp only
  rw [slice_ex, truncf_ex]
  simp only [Nat.zero_add]

theorem pay17_ex : k0_pay17 (F := Ideal) (ex2 1024 256 g)
    = ex2 1024 256 fun i j => if j < 64 then g i (128 + j) else if j < 128 then wOne else if j < 192 then g i (64 + j) else wOne := by
  unfold k0_pay17
  dsimp only
  rw [pay16_ex, slice_ex, slice_ex]
  have e : (broadcast S1024x64 (Scalar.ofBits (F := Ideal) .bf16 0x3F80#16) : S1024x64.Idx → EReal) = ex2 1024 64 fun _ _ => wOne :=
    funext fun _ => one_bf16
  rw [e]
  funext y
  have b : (y 1).val < 256 := (y 1).isLt
  show _ = (if (y 1).val < 64 then g (y 0).val (128 + (y 1).val) else if (y 1).val < 128 then wOne else if (y 1).val < 192 then g (y 0).val (64 + (y 1).val) else wOne)
  by_cases c0 : (y 1).val < 64
  · rw [if_pos c0]
    refine (piece_ex _ _ y 0 (by norm_num) _ rfl 0 _ rfl (Nat.zero_add _).symm c0).trans ?_
    dsimp only
    rw [Nat.zero_add, Nat.zero_add]
  by_cases c1 : (y 1).val < 128
  · rw [if_neg c0, if_pos c1]
    exact piece_ex _ _ y 1 (by norm_num) (fun _ _ => wOne) rfl 64 ((y 1).val - 64) rfl (by omega) (by omega)
  by_cases c2 : (y 1).val < 192
  · rw [if_neg c0, if_neg c1, if_pos c2]
    refine (piece_ex _ _ y 2 (by norm_num) _ rfl 128 ((y 1).val - 128) rfl (by omega) (by omega)).trans ?_
    dsimp only
    rw [Nat.zero_add]
    exact congrArg _ (by omega)
  · rw [if_neg c0, if_neg c1, if_neg c2]
    exact piece_ex _ _ y 3 (by norm_num) (fun _ _ => wOne) rfl 192 ((y 1).val - 192) rfl (by omega) (by omega)

theorem pay18_ex : k0_pay18 (F := Ideal) (ex2 1024 1024 h) (ex2 512 1024 w) = ex2 1024 512 fun i => prod (h i) w := by
  unfold k0_pay18
  dsimp only
  rw [cast_self_ex, prod_512, truncf_ex]

theorem pay19_ex : k0_pay19 (F := Ideal) (ex2 1024 1024 h) (ex2 512 1024 w) = ex2 1024 512 fun i => prod (h i) w := pay18_ex h w
theorem pay1_ex : k0_pay1 (F := Ideal) (ex2 1024 1024 h) (ex2 512 1024 w) = ex2 1024 512 fun i => prod (h i) w := pay18_ex h w
theorem pay2_ex : k0_pay2 (F := Ideal) (ex2 1024 1024 h) (ex2 512 1024 w) = ex2 1024 512 fun i => prod (h i) w := pay18_ex h w
theorem pay3_ex : k0_pay3 (F := Ideal) (ex2 1024 1024 h) (ex2 512 1024 w) = ex2 1024 512 fun i => prod (h i) w := pay18_ex h w
theorem pay4_ex : k0_pay4 (F := Ideal) (ex2 1024 1024 h) (ex2 512 1024 w) = ex2 1024 512 fun i => prod (h i) w := pay18_ex h w

end Cert.FwdPay

end
-- ==== Proof.FwdBlock.lean ====
/-
  The input projection's forward call: what the body leaves in each of its six blocks, over extended reals.
-/
module

public import proofs.«01_k».proof.Proof.Gen.KernelFwdIdeal.Frame
public import proofs.«01_k».proof.Proof.FwdPay

@[expose] public section

set_option maxRecDepth 16384

noncomputable section

namespace Cert.FwdBlock

open Idealize.ShloMosaic Idealize.ShloMosaic.TcCoe Cert.KernelFwdIdeal Cert.KernelFwdIdeal.Gen Cert.Tn Cert.FwdLift Cert.FwdPay Finset
open scoped BigOperators

variable (x v w c s : ℕ → ℕ → EReal)

theorem hz : (![0, 0] : Fin 2 → ℕ) = fun _ => 0 := by decide

/-! ## Loads -/

theorem ld_whole {n m : ℕ} {e : EltTy} (hv : Elt Ideal e = EReal) (f : ℕ → ℕ → EReal)
    (inb : ∀ a, (![0, 0] : Fin 2 → ℕ) a + (![n, m] : Fin 2 → ℕ) a ≤ (⟨2, ![n, m]⟩ : Shape).size a)
    (y : (Rect.unit (s := ⟨2, ![n, m]⟩) ![0, 0] ![n, m] inb).shape.Idx) :
    ex2 n m f ((Rect.unit (s := ⟨2, ![n, m]⟩) ![0, 0] ![n, m] inb).emb y) = ex2 n m f y :=
  (ld_ex f 0 0 inb y).trans (congrArg₂ f (Nat.zero_add _) (Nat.zero_add _))

theorem ld_x : View.ld (Val := Elt Ideal) (S := S1024x1024) (e' := .f32) (ex2 1024 1024 x) r0_0 = ex2 1024 1024 x :=
  funext fun y => ld_whole (e := .f32) rfl x _ y
theorem ld_t : View.ld (Val := Elt Ideal) (S := S1024x128) (e' := .f32) (ex2 1024 128 c) r0_3 = ex2 1024 128 c :=
  funext fun y => ld_whole (e := .f32) rfl c _ y
theorem ld_v1 : View.ld (Val := Elt Ideal) (S := S8x1024) (e' := .f32) (ex2 8 1024 v) r0_1 = ex2 1 1024 fun i j => v (1 + i) (0 + j) :=
  funext fun y => ld_ex v 1 0 _ y
theorem ld_v0 : View.ld (Val := Elt Ideal) (S := S8x1024) (e' := .f32) (ex2 8 1024 v) r0_2 = ex2 1 1024 fun i j => v (0 + i) (0 + j) :=
  funext fun y => ld_ex v 0 0 _ y
theorem ld_w4 : View.ld (Val := Elt Ideal) (S := S3840x1024) (e' := .bf16) (ex2 3840 1024 w) r0_4 = ex2 256 1024 fun i j => w (0 + i) (0 + j) :=
  funext fun y => ld_ex w 0 0 _ y
theorem ld_w6 : View.ld (Val := Elt Ideal) (S := S3840x1024) (e' := .bf16) (ex2 3840 1024 w) r0_6 = ex2 256 1024 fun i j => w (256 + i) (0 + j) :=
  funext fun y => ld_ex w 256 0 _ y
theorem ld_w8 : View.ld (Val := Elt Ideal) (S := S3840x1024) (e' := .bf16) (ex2 3840 1024 w) r0_8 = ex2 256 1024 fun i j => w (512 + i) (0 + j) :=
  funext fun y => ld_ex w 512 0 _ y
theorem ld_w12 : View.ld (Val := Elt Ideal) (S := S3840x1024) (e' := .bf16) (ex2 3840 1024 w) r0_12 = ex2 512 1024 fun i j => w (768 + i) (0 + j) :=
  funext fun y => ld_ex w 768 0 _ y
theorem ld_w14 : View.ld (Val := Elt Ideal) (S := S3840x1024) (e' := .bf16) (ex2 3840 1024 w) r0_14 = ex2 512 1024 fun i j => w (1280 + i) (0 + j) :=
  funext fun y => ld_ex w 1280 0 _ y
theorem ld_w16 : View.ld (Val := Elt Ideal) (S := S3840x1024) (e' := .bf16) (ex2 3840 1024 w) r0_16 = ex2 512 1024 fun i j => w (1792 + i) (0 + j) :=
  funext fun y => ld_ex w 1792 0 _ y
theorem ld_w18 : View.ld (Val := Elt Ideal) (S := S3840x1024) (e' := .bf16) (ex2 3840 1024 w) r0_18 = ex2 512 1024 fun i j => w (2304 + i) (0 + j) :=
  funext fun y => ld_ex w 2304 0 _ y
theorem ld_w20 : View.ld (Val := Elt Ideal) (S := S3840x1024) (e' := .bf16) (ex2 3840 1024 w) r0_20 = ex2 512 1024 fun i j => w (2816 + i) (0 + j) :=
  funext fun y => ld_ex w 2816 0 _ y
theorem ld_w22 : View.ld (Val := Elt Ideal) (S := S3840x1024) (e' := .bf16) (ex2 3840 1024 w) r0_22 = ex2 512 1024 fun i j => w (3328 + i) (0 + j) :=
  funext fun y => ld_ex w 3328 0 _ y

/-! ## The values several stores share -/

/-- A row normalised and modulated, and its products. -/
abbrev hr (i : ℕ) : ℕ → EReal := hrow (x i) (v 1) (v 0)
abbrev pr (i : ℕ) : ℕ → EReal := prod (hr x v i) w

theorem pay20_ex (a : Vec Ideal S3840x1024 .bf16) (b d : Vec Ideal S1024x128 .f32) :
    k0_pay20 (F := Ideal) (ex2 1024 1024 x) (ex2 8 1024 v) a b d = ex2 1024 1024 (hr x v) := by
  unfold k0_pay20
  rw [ld_x, ld_v1, ld_v0, pay5_ex]
  simp only [Nat.zero_add, Nat.add_zero]

theorem pay21_ex (a : Vec Ideal S1024x1024 .f32) (b : Vec Ideal S8x1024 .f32) (d : Vec Ideal S3840x1024 .bf16) (e : Vec Ideal S1024x128 .f32) :
    k0_pay21 (F := Ideal) a b d (ex2 1024 128 c) e = ex2 1024 256 fun i j => c i (j % 128) := by
  unfold k0_pay21
  rw [ld_t, pay8_ex]

theorem pay22_ex (a : Vec Ideal S1024x1024 .f32) (b : Vec Ideal S8x1024 .f32) (d : Vec Ideal S3840x1024 .bf16) (e : Vec Ideal S1024x128 .f32) :
    k0_pay22 (F := Ideal) a b d e (ex2 1024 128 s) = ex2 1024 256 fun i j => s i (j % 128) := by
  unfold k0_pay22
  rw [ld_t, pay9_ex]

theorem prod_from (i o : ℕ) : prod (hr x v i) (fun j k => w (o + j) (0 + k)) = fun j => pr x v w i (o + j) :=
  funext fun j => prod_shift _ w j o

theorem pay23_ex (b d : Vec Ideal S1024x128 .f32) :
    k0_pay23 (F := Ideal) (ex2 1024 1024 x) (ex2 8 1024 v) (ex2 3840 1024 w) b d = ex2 1024 256 fun i j => pr x v w i (512 + j) := by
  unfold k0_pay23
  rw [pay20_ex, ld_w8, pay13_ex]
  simp only [prod_from]

/-! ## The six blocks -/

theorem out_5 : out0_5 (F := Ideal) (ex2 1024 1024 x) (ex2 8 1024 v) (ex2 3840 1024 w) (ex2 1024 128 c) (ex2 1024 128 s) = ex2 1024 1024 (hr x v) := by
  unfold out0_5
  refine (View.canon_unit_zero (S := S1024x1024) hz _ _).trans ?_
  exact pay20_ex x v (ex2 3840 1024 w) (ex2 1024 128 c) (ex2 1024 128 s)

theorem out_6 : out0_6 (F := Ideal) (ex2 1024 1024 x) (ex2 8 1024 v) (ex2 3840 1024 w) (ex2 1024 128 c) (ex2 1024 128 s)
    = ex2 1024 512 fun i => qrow (c i) (s i) (pr x v w i) := by
  funext y
  unfold out0_6
  rw [pay20_ex, pay21_ex, pay22_ex, ld_w4, ld_w6, pay11_ex, pay12_ex]
  simp only [prod_from]
  have e : ∀ o, o % 128 = 0 → ∀ i j, qrow (c i) (s i) (fun j => pr x v w i (o + j)) j = qrow (c i) (s i) (pr x v w i) (o + j) := fun o ho i j =>
    congrArg (· * wEighth) (rope_shift (c i) (s i) (pr x v w i) j o ho)
  refine View.canon_apply_of_pieces (Val := Elt Ideal) (e := .bf16) (ex2 1024 512 fun i => qrow (c i) (s i) (pr x v w i)) _ ?_ y (cover0_6 _ _ y)
  intro p hp
  simp only [List.mem_cons, List.not_mem_nil, or_false] at hp
  rcases hp with rfl | rfl
  · exact col_piece_ex (e := .bf16) rfl 256 (fun i => qrow (c i) (s i) fun j => pr x v w i (256 + j)) (fun i => qrow (c i) (s i) (pr x v w i)) (fun i j _ => e 256 rfl i j) inb_S1024x512_S1024x256_0_256
  · exact col_piece_ex (e := .bf16) rfl 0 (fun i => qrow (c i) (s i) fun j => pr x v w i (0 + j)) (fun i => qrow (c i) (s i) (pr x v w i)) (fun i j _ => e 0 rfl i j) inb_S1024x512_S1024x256_0_0

theorem out_7 : out0_7 (F := Ideal) (ex2 1024 1024 x) (ex2 8 1024 v) (ex2 3840 1024 w) (ex2 1024 128 c) (ex2 1024 128 s)
    = ex2 1024 256 fun i => kvrow (c i) (s i) (pr x v w i) := by
  funext y
  unfold out0_7
  rw [pay20_ex, pay23_ex, ld_t, ld_t, ld_w8, pay15_ex, pay16_ex]
  simp only [prod_from]
  refine View.canon_apply_of_pieces (Val := Elt Ideal) (e := .bf16) (ex2 1024 256 fun i => kvrow (c i) (s i) (pr x v w i)) _ ?_ y (cover0_7 _ _ y)
  intro p hp
  simp only [List.mem_cons, List.not_mem_nil, or_false] at hp
  rcases hp with rfl | rfl
  · exact col_piece_ex (e := .bf16) rfl 128 (fun i j => pr x v w i (512 + (128 + j))) (fun i => kvrow (c i) (s i) (pr x v w i)) (fun i j _ => (if_neg (by omega)).symm) inb_S1024x256_S1024x128_0_128
  · exact col_piece_ex (e := .bf16) rfl 0 (fun i => rope (c i) (s i) fun j => pr x v w i (512 + j)) (fun i => kvrow (c i) (s i) (pr x v w i)) (fun i j hj => by
      rw [Nat.zero_add]
      exact (if_pos hj).symm) inb_S1024x256_S1024x128_0_0

theorem out_8 : out0_8 (F := Ideal) (ex2 1024 1024 x) (ex2 8 1024 v) (ex2 3840 1024 w) (ex2 1024 128 c) (ex2 1024 128 s)
    = ex2 1024 256 fun i => varow (pr x v w i) := by
  unfold out0_8
  refine (View.canon_unit_zero (S := S1024x256) hz _ _).trans ?_
  rw [pay23_ex, pay17_ex]
  refine ex2_congr fun i _ j _ => ?_
  unfold varow
  rw [← Nat.add_assoc, ← Nat.add_assoc]

/-- The products from a column on, stored in blocks of 512. -/
theorem out_9 : out0_9 (F := Ideal) (ex2 1024 1024 x) (ex2 8 1024 v) (ex2 3840 1024 w) (ex2 1024 128 c) (ex2 1024 128 s)
    = ex2 1024 1024 fun i j => pr x v w i (768 + j) := by
  funext y
  unfold out0_9
  rw [pay20_ex, ld_w12, ld_w14, pay18_ex, pay19_ex]
  simp only [prod_from]
  refine View.canon_apply_of_pieces (Val := Elt Ideal) (e := .bf16) (ex2 1024 1024 fun i j => pr x v w i (768 + j)) _ ?_ y (cover0_9 _ _ y)
  intro p hp
  simp only [List.mem_cons, List.not_mem_nil, or_false] at hp
  rcases hp with rfl | rfl
  · exact col_piece_ex (e := .bf16) rfl 512 (fun i j => pr x v w i (1280 + j)) (fun i j => pr x v w i (768 + j)) (fun i j _ => congrArg (pr x v w i) (by omega)) inb_S1024x1024_S1024x512_0_512
  · exact col_piece_ex (e := .bf16) rfl 0 (fun i j => pr x v w i (768 + j)) (fun i j => pr x v w i (768 + j)) (fun i j _ => congrArg (pr x v w i) (by omega)) inb_S1024x1024_S1024x512_0_0

theorem out_10 : out0_10 (F := Ideal) (ex2 1024 1024 x) (ex2 8 1024 v) (ex2 3840 1024 w) (ex2 1024 128 c) (ex2 1024 128 s)
    = ex2 1024 2048 fun i j => pr x v w i (1792 + j) := by
  funext y
  unfold out0_10
  rw [pay20_ex, ld_w16, ld_w18, ld_w20, ld_w22, pay1_ex, pay2_ex, pay3_ex, pay4_ex]
  simp only [prod_from]
  refine View.canon_apply_of_pieces (Val := Elt Ideal) (e := .bf16) (ex2 1024 2048 fun i j => pr x v w i (1792 + j)) _ ?_ y (cover0_10 _ _ _ _ y)
  intro p hp
  simp only [List.mem_cons, List.not_mem_nil, or_false] at hp
  rcases hp with rfl | rfl | rfl | rfl
  · exact col_piece_ex (e := .bf16) rfl 1536 (fun i j => pr x v w i (3328 + j)) (fun i j => pr x v w i (1792 + j)) (fun i j _ => congrArg (pr x v w i) (by omega)) inb_S1024x2048_S1024x512_0_1536
  · exact col_piece_ex (e := .bf16) rfl 1024 (fun i j => pr x v w i (2816 + j)) (fun i j => pr x v w i (1792 + j)) (fun i j _ => congrArg (pr x v w i) (by omega)) inb_S1024x2048_S1024x512_0_1024
  · exact col_piece_ex (e := .bf16) rfl 512 (fun i j => pr x v w i (2304 + j)) (fun i j => pr x v w i (1792 + j)) (fun i j _ => congrArg (pr x v w i) (by omega)) inb_S1024x2048_S1024x512_0_512
  · exact col_piece_ex (e := .bf16) rfl 0 (fun i j => pr x v w i (1792 + j)) (fun i j => pr x v w i (1792 + j)) (fun i j _ => congrArg (pr x v w i) (by omega)) inb_S1024x2048_S1024x512_0_0

end Cert.FwdBlock

end
-- ==== Proof.FwdArrays.lean ====
/-
  The arrays the input projection's forward call leaves, over extended reals: what the host prepares, the blocks every
  grid point reads, and the six arrays over the whole grid.
-/
module

public import proofs.«01_k».proof.Proof.Gen.KernelFwdIdeal.Value
public import proofs.«01_k».proof.Proof.FwdBlock
public import proofs.«01_k».proof.Proof.ProjArrays

@[expose] public section

set_option maxRecDepth 16384

noncomputable section

namespace Cert.FwdArrays

open Idealize.ShloMosaic Idealize.ShloMosaic.Tactic Idealize.ShloMosaic.TcCoe Cert.KernelFwdIdeal
  Cert.KernelFwdIdeal.Gen Cert.Tn Cert.FwdLift Cert.FwdPay Cert.FwdBlock Cert.ProjTables Finset
open Cert.Lift (up2 up2_congr negf_up)
open Cert.ProjArrays (groups_eq)
open scoped BigOperators

/-- The modulation's shift and scale, over six empty rows. -/
def vec (md : ℕ → ℕ → EReal) (r j : ℕ) : EReal := if r < 2 then md r j else Ideal.ofBits .f32 0x00000000#32

/-- One of several blocks of rows below each other. -/
theorem stack_ex {R C p : ℕ} (xs : List ((s : Shape) × (s.Idx → EReal)))
    (h : Shape.Concatenates (xs.map (·.1)) (⟨2, ![R, C]⟩ : Shape) 0) (j : (⟨2, ![R, C]⟩ : Shape).Idx) (k : ℕ) (hk : k < xs.length)
    (f : ℕ → ℕ → EReal) (hxk : xs[k] = ⟨⟨2, ![p, C]⟩, ex2 p C f⟩) (pre r : ℕ)
    (hpre : (((xs.take k).map (·.1)).map fun s => if h : s.rank = 2 then s.size ((0 : Fin 2).cast h.symm) else 0).sum = pre)
    (hj : (j 0).val = pre + r) (hr : r < p) :
    concatenate (⟨2, ![R, C]⟩ : Shape) 0 xs h j = f r (j 1).val := by
  refine (concatenate_apply_piece _ xs h j k hk _ _ hxk rfl pre hpre (ValueIdx.ix2 ⟨r, hr⟩ (j 1)) (fun b hb => ?_) hj.symm).trans rfl
  match b, hb with
  | ⟨0, _⟩, hb => exact absurd rfl hb
  | ⟨1, _⟩, _ => rfl

/-- A matrix transposed. -/
theorem transpose_ex {n m : ℕ} (f : ℕ → ℕ → EReal) (h) :
    transpose (s := ⟨2, ![n, m]⟩) (⟨2, ![m, n]⟩ : Shape) [1, 0] (ex2 n m f) h = ex2 m n fun i j => f j i := by
  funext j
  refine (transpose_apply _ _ h j (ValueIdx.ix2 (j 1) (j 0)) fun a => ?_).trans rfl
  match a with
  | ⟨0, _⟩ => rfl
  | ⟨1, _⟩ => rfl

variable (m : (ℓ : Loc nD τ sig) → Buf (Elt Ideal) ℓ) (c : Dev nD)

/-! ## The arguments' elements on one device -/

def xX : ℕ → ℕ → EReal := els (n := 8192) (m := 1024) (m ((c : Thread nD τ).loc main_arg0))
def xM : ℕ → ℕ → EReal := els (n := 6) (m := 1024) (m ((c : Thread nD τ).loc main_arg1))
def xW : ℕ → ℕ → EReal := els (n := 1024) (m := 3840) (m ((c : Thread nD τ).loc main_arg2))
def rows : IVec S8192 32 := m ((c : Thread nD τ).loc main_arg3)
def cols : IVec S8192 32 := m ((c : Thread nD τ).loc main_arg4)

theorem arg0_ex : m ((c : Thread nD τ).loc main_arg0) = ex2 8192 1024 (xX m c) := eq_ex2 _
theorem arg1_ex : m ((c : Thread nD τ).loc main_arg1) = ex2 6 1024 (xM m c) := eq_ex2 _
theorem arg2_ex : m ((c : Thread nD τ).loc main_arg2) = ex2 1024 3840 (xW m c) := eq_ex2 _

/-- The tables of cosines and signed sines. -/
def tc (i j : ℕ) : EReal := ((cosT (pos (rows m c)) (pos (cols m c)) i j : ℝ) : EReal)
def ts (i j : ℕ) : EReal := ((sinT (pos (rows m c)) (pos (cols m c)) i j : ℝ) : EReal)

theorem idx_all : ∀ t : Fin cfg0.N, win0_1.index t = ![0, 0] ∧ win0_2.index t = ![0, 0] := by decide +kernel
theorem idx_0 : ∀ t : Fin cfg0.N, win0_0.index t = ![t.val, 0] := by decide +kernel
theorem idx_3 : ∀ t : Fin cfg0.N, win0_3.index t = ![t.val, 0] := by decide +kernel
theorem idx_4 : ∀ t : Fin cfg0.N, win0_4.index t = ![t.val, 0] := by decide +kernel
theorem idx_5 : ∀ t : Fin cfg0.N, win0_5.index t = ![t.val, 0] := by decide +kernel
theorem idx_6 : ∀ t : Fin cfg0.N, win0_6.index t = ![t.val, 0] := by decide +kernel
theorem idx_7 : ∀ t : Fin cfg0.N, win0_7.index t = ![t.val, 0] := by decide +kernel
theorem idx_8 : ∀ t : Fin cfg0.N, win0_8.index t = ![t.val, 0] := by decide +kernel
theorem idx_9 : ∀ t : Fin cfg0.N, win0_9.index t = ![t.val, 0] := by decide +kernel
theorem idx_10 : ∀ t : Fin cfg0.N, win0_10.index t = ![t.val, 0] := by decide +kernel

/-! ## What the region finds -/

theorem entry_w : V m c main_v40 = ex2 3840 1024 fun j k => xW m c k j := by
  entry_read
  rw [arg2_ex m c]
  exact transpose_ex (xW m c) _

theorem entry_v : V m c main_v2 = ex2 8 1024 (vec (xM m c)) := by
  entry_read
  rw [arg1_ex m c]
  funext j
  have b0 : (j 0).val < 8 := (j 0).isLt
  show _ = vec (xM m c) (j 0).val (j 1).val
  unfold vec
  by_cases b : (j 0).val < 2
  · rw [if_pos b]
    refine (stack_ex (p := 2) _ _ j 0 (by norm_num) (fun r k => xM m c (0 + r) (0 + k)) rfl 0 (j 0).val rfl (by omega) b).trans ?_
    simp only [Nat.zero_add]
  · rw [if_neg b]
    exact stack_ex (p := 6) _ _ j 1 (by norm_num) (fun _ _ => Ideal.ofBits .f32 0x00000000#32) rfl 2 ((j 0).val - 2) rfl (by omega) (by omega)

theorem entry_cos : V m c main_v35 = up2 8192 128 (cosT (pos (rows m c)) (pos (cols m c))) := by
  unfold_abbrev_sides
  after_results
  refine (groups_eq (a' := up2 8192 16 fun i j => Real.cos (pos (rows m c) i * freq j)) (b' := up2 8192 16 fun i j => Real.cos (pos (rows m c) i * freq j))
    (d' := up2 8192 16 fun i j => Real.cos (pos (cols m c) i * freq j)) (e' := up2 8192 16 fun i j => Real.cos (pos (cols m c) i * freq j)) ?_ ?_ ?_ ?_).trans ?_
  · show StableHlo.after (hostOps0.take 28) (fun b => m (c, b)) (Proc.devRef .tc main_v21) = _
    dsimp only [hostOps0, List.take]
    after_results
    rw [show m (c, Proc.tc.devRef main_arg3) = rows m c from rfl]
    exact (congrArg (Host.cos (s := ⟨2, ![8192, 16]⟩) (F := Ideal) (φ := .f32)) (angle_host (rows m c) _ _ _ _ _ _)).trans (cos_up _)
  · show StableHlo.after (hostOps0.take 28) (fun b => m (c, b)) (Proc.devRef .tc main_v22) = _
    dsimp only [hostOps0, List.take]
    after_results
    rw [show m (c, Proc.tc.devRef main_arg3) = rows m c from rfl]
    exact (congrArg (Host.cos (s := ⟨2, ![8192, 16]⟩) (F := Ideal) (φ := .f32)) (angle_host (rows m c) _ _ _ _ _ _)).trans (cos_up _)
  · show StableHlo.after (hostOps0.take 28) (fun b => m (c, b)) (Proc.devRef .tc main_v23) = _
    dsimp only [hostOps0, List.take]
    after_results
    rw [show m (c, Proc.tc.devRef main_arg4) = cols m c from rfl]
    exact (congrArg (Host.cos (s := ⟨2, ![8192, 16]⟩) (F := Ideal) (φ := .f32)) (angle_host (cols m c) _ _ _ _ _ _)).trans (cos_up _)
  · show StableHlo.after (hostOps0.take 28) (fun b => m (c, b)) (Proc.devRef .tc main_v24) = _
    dsimp only [hostOps0, List.take]
    after_results
    rw [show m (c, Proc.tc.devRef main_arg4) = cols m c from rfl]
    exact (congrArg (Host.cos (s := ⟨2, ![8192, 16]⟩) (F := Ideal) (φ := .f32)) (angle_host (cols m c) _ _ _ _ _ _)).trans (cos_up _)
  · exact table_up _ _ _ _ (cosT (pos (rows m c)) (pos (cols m c))) _ _ _ _ (fun i j hj => (cosT_0 _ _ i j hj).symm) (fun i j hj => (cosT_16 _ _ i j hj).symm)
      (fun i j hj => (cosT_32 _ _ i j hj).symm) (fun i j hj => (cosT_48 _ _ i j hj).symm) fun i j => cosT_mod _ _ i j

theorem entry_sin : V m c main_v38 = up2 8192 128 (sinT (pos (rows m c)) (pos (cols m c))) := by
  unfold_abbrev_sides
  after_results
  refine (groups_eq (a' := up2 8192 16 fun i j => -Real.sin (pos (rows m c) i * freq j)) (b' := up2 8192 16 fun i j => Real.sin (pos (rows m c) i * freq j))
    (d' := up2 8192 16 fun i j => -Real.sin (pos (cols m c) i * freq j)) (e' := up2 8192 16 fun i j => Real.sin (pos (cols m c) i * freq j)) ?_ ?_ ?_ ?_).trans ?_
  · show StableHlo.after (hostOps0.take 35) (fun b => m (c, b)) (Proc.devRef .tc main_v27) = _
    dsimp only [hostOps0, List.take]
    after_results
    rw [show m (c, Proc.tc.devRef main_arg3) = rows m c from rfl]
    exact (congrArg (Host.negf (s := ⟨2, ![8192, 16]⟩) (F := Ideal) (φ := .f32)) ((congrArg (Host.sin (s := ⟨2, ![8192, 16]⟩) (F := Ideal) (φ := .f32)) (angle_host (rows m c) _ _ _ _ _ _)).trans (sin_up _))).trans (negf_up _)
  · show StableHlo.after (hostOps0.take 35) (fun b => m (c, b)) (Proc.devRef .tc main_v28) = _
    dsimp only [hostOps0, List.take]
    after_results
    rw [show m (c, Proc.tc.devRef main_arg3) = rows m c from rfl]
    exact (congrArg (Host.sin (s := ⟨2, ![8192, 16]⟩) (F := Ideal) (φ := .f32)) (angle_host (rows m c) _ _ _ _ _ _)).trans (sin_up _)
  · show StableHlo.after (hostOps0.take 35) (fun b => m (c, b)) (Proc.devRef .tc main_v30) = _
    dsimp only [hostOps0, List.take]
    after_results
    rw [show m (c, Proc.tc.devRef main_arg4) = cols m c from rfl]
    exact (congrArg (Host.negf (s := ⟨2, ![8192, 16]⟩) (F := Ideal) (φ := .f32)) ((congrArg (Host.sin (s := ⟨2, ![8192, 16]⟩) (F := Ideal) (φ := .f32)) (angle_host (cols m c) _ _ _ _ _ _)).trans (sin_up _))).trans (negf_up _)
  · show StableHlo.after (hostOps0.take 35) (fun b => m (c, b)) (Proc.devRef .tc main_v31) = _
    dsimp only [hostOps0, List.take]
    after_results
    rw [show m (c, Proc.tc.devRef main_arg4) = cols m c from rfl]
    exact (congrArg (Host.sin (s := ⟨2, ![8192, 16]⟩) (F := Ideal) (φ := .f32)) (angle_host (cols m c) _ _ _ _ _ _)).trans (sin_up _)
  · exact table_up _ _ _ _ (sinT (pos (rows m c)) (pos (cols m c))) _ _ _ _ (fun i j hj => (sinT_0 _ _ i j hj).symm) (fun i j hj => (sinT_16 _ _ i j hj).symm)
      (fun i j hj => (sinT_32 _ _ i j hj).symm) (fun i j hj => (sinT_48 _ _ i j hj).symm) fun i j => sinT_mod _ _ i j

/-! ## The blocks a point reads -/

theorem blk_x (t : Fin cfg0.N) : iblk m c 0 t = ex2 1024 1024 fun i => xX m c (1024 * t.val + i) := by
  funext y
  have e := idx_0 t
  blk_simp [iblk, e]
  rw [V_main_arg0, arg0_ex m c]
  blk_simp [ex2, e, Nat.mul_comm 1024]

theorem blk_v (t : Fin cfg0.N) : iblk m c 1 t = ex2 8 1024 (vec (xM m c)) := by
  funext y
  have e := (idx_all t).1
  blk_simp [iblk, e]
  rw [entry_v]
  blk_simp [ex2, e]

theorem blk_w (t : Fin cfg0.N) : iblk m c 2 t = ex2 3840 1024 fun j k => xW m c k j := by
  funext y
  have e := (idx_all t).2
  blk_simp [iblk, e]
  rw [entry_w]
  blk_simp [ex2, e]

theorem blk_cos (t : Fin cfg0.N) : iblk m c 3 t = ex2 1024 128 fun i => tc m c (1024 * t.val + i) := by
  funext y
  have e := idx_3 t
  blk_simp [iblk, e]
  rw [entry_cos, up2_ex]
  blk_simp [ex2, tc, e, Nat.mul_comm 1024]

theorem blk_sin (t : Fin cfg0.N) : iblk m c 4 t = ex2 1024 128 fun i => ts m c (1024 * t.val + i) := by
  funext y
  have e := idx_4 t
  blk_simp [iblk, e]
  rw [entry_sin, up2_ex]
  blk_simp [ex2, ts, e, Nat.mul_comm 1024]

/-! ## The arrays the call leaves -/

/-- A token's products with the weights. -/
abbrev pp (i : ℕ) : ℕ → EReal := pr (xX m c) (vec (xM m c)) (fun j k => xW m c k j) i

/-- The modulated input. -/
theorem arr_5 : (dats m 0 c).arrAt 5 cfg0.N = ex2 8192 1024 fun i => hr (xX m c) (vec (xM m c)) i := by
  refine (dats m 0 c).arrAt_eq_of_covers 5 _ (by decide +kernel) fun t hf y => ?_
  have e : ∀ t : Fin cfg0.N, win0_5.index t = ![t.val, 0] := idx_5
  blk_simp
  rw [after0_5, blk_x, blk_v, blk_w, blk_cos, blk_sin, out_5]
  blk_simp [ex2, e t, Nat.mul_comm 1024]

/-- The queries, turned and scaled. -/
theorem arr_6 : (dats m 0 c).arrAt 6 cfg0.N = ex2 8192 512 fun i => qrow (tc m c i) (ts m c i) (pp m c i) := by
  refine (dats m 0 c).arrAt_eq_of_covers 6 _ (by decide +kernel) fun t hf y => ?_
  have e : ∀ t : Fin cfg0.N, win0_6.index t = ![t.val, 0] := idx_6
  blk_simp
  rw [after0_6, blk_x, blk_v, blk_w, blk_cos, blk_sin, out_6]
  blk_simp [ex2, e t, Nat.mul_comm 1024]

/-- The keys, turned, beside the values. -/
theorem arr_7 : (dats m 0 c).arrAt 7 cfg0.N = ex2 8192 256 fun i => kvrow (tc m c i) (ts m c i) (pp m c i) := by
  refine (dats m 0 c).arrAt_eq_of_covers 7 _ (by decide +kernel) fun t hf y => ?_
  have e : ∀ t : Fin cfg0.N, win0_7.index t = ![t.val, 0] := idx_7
  blk_simp
  rw [after0_7, blk_x, blk_v, blk_w, blk_cos, blk_sin, out_7]
  blk_simp [ex2, e t, Nat.mul_comm 1024]

/-- The values beside ones. -/
theorem arr_8 : (dats m 0 c).arrAt 8 cfg0.N = ex2 8192 256 fun i => varow (pp m c i) := by
  refine (dats m 0 c).arrAt_eq_of_covers 8 _ (by decide +kernel) fun t hf y => ?_
  have e : ∀ t : Fin cfg0.N, win0_8.index t = ![t.val, 0] := idx_8
  blk_simp
  rw [after0_8, blk_x, blk_v, blk_w, blk_cos, blk_sin, out_8]
  blk_simp [ex2, e t, Nat.mul_comm 1024]

/-- The gated units' products. -/
theorem arr_9 : (dats m 0 c).arrAt 9 cfg0.N = ex2 8192 1024 fun i j => pp m c i (768 + j) := by
  refine (dats m 0 c).arrAt_eq_of_covers 9 _ (by decide +kernel) fun t hf y => ?_
  have e : ∀ t : Fin cfg0.N, win0_9.index t = ![t.val, 0] := idx_9
  blk_simp
  rw [after0_9, blk_x, blk_v, blk_w, blk_cos, blk_sin, out_9]
  blk_simp [ex2, e t, Nat.mul_comm 1024]

/-- The remaining products. -/
theorem arr_10 : (dats m 0 c).arrAt 10 cfg0.N = ex2 8192 2048 fun i j => pp m c i (1792 + j) := by
  refine (dats m 0 c).arrAt_eq_of_covers 10 _ (by decide +kernel) fun t hf y => ?_
  have e : ∀ t : Fin cfg0.N, win0_10.index t = ![t.val, 0] := idx_10
  blk_simp
  rw [after0_10, blk_x, blk_v, blk_w, blk_cos, blk_sin, out_10]
  blk_simp [ex2, e t, Nat.mul_comm 1024]

end Cert.FwdArrays

end
-- ==== Proof.FwdHost.lean ====
/-
  The rotation as the forward projection's reference computes it, over extended reals.

  The reference views a row of whole heads as heads times 64 lanes and treats each half of the lanes by itself: two groups
  of sixteen lanes, the first less and the second more a product with the sines, put beside each other again.
-/
module

public import proofs.«01_k».proof.Proof.ProjHost
public import proofs.«01_k».proof.Proof.FwdPay

@[expose] public section

noncomputable section

namespace Cert.FwdHost

open Idealize.ShloMosaic Idealize.ShloMosaic.TcCoe Idealize.ShloMosaic.ValueIdx Cert.Tn Cert.FwdLift Cert.FwdPay Cert.ProjTables
open Cert.Lift (up2 up3)

variable {n H : ℕ}

/-- A constant everywhere. -/
theorem host_splat_ex {m : ℕ} (w : BitVec 32) (h) :
    broadcastInDim (s := ⟨0, ![]⟩) (⟨2, ![n, m]⟩ : Shape) ![] h (constant (F := Ideal) (⟨0, ![]⟩ : Shape) .f32 w)
      = ex2 n m fun _ _ => Ideal.ofBits .f32 w := rfl

/-- Some of the columns of a matrix. -/
theorem cols_slice_ex {m q : ℕ} (f : ℕ → ℕ → EReal) (o : ℕ) (h) :
    extractStridedSlice (s := ⟨2, ![n, m]⟩) ⟨2, ![n, q]⟩ ![0, o] (ex2 n m f) h = ex2 n q fun i j => f i (o + j) := by
  refine (slice_ex f 0 o h).trans (ex2_congr fun i _ j _ => ?_)
  rw [Nat.zero_add]

/-! ## Arrays of rank three -/

theorem up3_ex {l : ℕ} (f : ℕ → ℕ → ℕ → ℝ) : up3 n H l f = ex3 n H l fun i j k => ((f i j k : ℝ) : EReal) := rfl

section Pointwise

variable {l : ℕ} (f g : ℕ → ℕ → ℕ → EReal) {φ : FTy}

theorem mulf3_ex : mulf (F := Ideal) (s := ⟨3, ![n, H, l]⟩) (φ := φ) (ex3 n H l f) (ex3 n H l g) = ex3 n H l fun i h k => f i h k * g i h k := rfl
theorem addf3_ex : addf (F := Ideal) (s := ⟨3, ![n, H, l]⟩) (φ := φ) (ex3 n H l f) (ex3 n H l g) = ex3 n H l fun i h k => f i h k + g i h k := rfl
theorem subf3_ex : subf (F := Ideal) (s := ⟨3, ![n, H, l]⟩) (φ := φ) (ex3 n H l f) (ex3 n H l g) = ex3 n H l fun i h k => f i h k - g i h k := rfl

/-- Some of the lanes. -/
theorem slice3_ex {k : ℕ} (o : ℕ) (h) :
    extractStridedSlice (s := ⟨3, ![n, H, l]⟩) ⟨3, ![n, H, k]⟩ ![0, 0, o] (ex3 n H l f) h = ex3 n H k fun i h c => f i h (o + c) := by
  refine Eq.trans (b := ex3 n H k fun i h c => f (0 + i) (0 + h) (o + c)) rfl (ex3_congr fun i _ j _ k _ => ?_)
  rw [Nat.zero_add, Nat.zero_add]

end Pointwise

/-- A table over the tokens, repeated for every head. -/
theorem heads_ex (f : ℕ → ℕ → ℝ) (h1 h2) :
    broadcastInDim (s := ⟨3, ![n, 1, 16]⟩) ⟨3, ![n, H, 16]⟩ ![0, 1, 2] h2
      (broadcastInDim (s := ⟨2, ![n, 16]⟩) ⟨3, ![n, 1, 16]⟩ ![0, 2] h1 (up2 n 16 f)) = ex3 n H 16 fun i _ k => ((f i k : ℝ) : EReal) :=
  Cert.ProjHost.heads_up f h1 h2

/-- A row of whole heads as heads times lanes, and back. -/
theorem split_ex {W : ℕ} (hW : W = 64 * H) (f : ℕ → ℕ → EReal) (h) :
    shapeCast (s := ⟨2, ![n, W]⟩) (⟨3, ![n, H, 64]⟩ : Shape) (ex2 n W f) h = ex3 n H 64 fun i a k => f i (64 * a + k) := by
  funext j
  have b1 : (j 1).val < H := (j 1).isLt
  have b2 : (j 2).val < 64 := (j 2).isLt
  refine (shapeCast_apply _ h j (ix2 (j 0) ⟨64 * (j 1).val + (j 2).val, by omega⟩) ?_).trans rfl
  rw [Shape.rowMajor_val_two, Shape.rowMajor_val_three]
  show (j 0).val * W + (64 * (j 1).val + (j 2).val) = ((j 0).val * H + (j 1).val) * 64 + (j 2).val
  rw [hW]
  ring

theorem join_ex {W : ℕ} (hW : W = 64 * H) (f : ℕ → ℕ → ℕ → EReal) (h) :
    shapeCast (s := ⟨3, ![n, H, 64]⟩) (⟨2, ![n, W]⟩ : Shape) (ex3 n H 64 f) h = ex2 n W fun i k => f i (k / 64) (k % 64) := by
  funext j
  have b1 : (j 1).val < W := (j 1).isLt
  refine (shapeCast_apply _ h j (ix3 (j 0) ⟨(j 1).val / 64, by omega⟩ ⟨(j 1).val % 64, by omega⟩) ?_).trans rfl
  rw [Shape.rowMajor_val_two, Shape.rowMajor_val_three]
  show ((j 0).val * H + (j 1).val / 64) * 64 + (j 1).val % 64 = (j 0).val * W + (j 1).val
  have e := Nat.div_add_mod (j 1).val 64
  have w : (j 0).val * W = (j 0).val * (64 * H) := congrArg _ hW
  linarith [mul_assoc (j 0).val H 64, mul_comm H 64, mul_left_comm (j 0).val 64 H]

/-- Two groups of lanes beside each other. -/
theorem lanes_ex {p q r : ℕ} (f g : ℕ → ℕ → ℕ → EReal) (hr : r = p + q)
    (h : Shape.Concatenates [(⟨3, ![n, H, p]⟩ : Shape), ⟨3, ![n, H, q]⟩] ⟨3, ![n, H, r]⟩ 2) :
    concatenate ⟨3, ![n, H, r]⟩ 2 [⟨⟨3, ![n, H, p]⟩, ex3 n H p f⟩, ⟨⟨3, ![n, H, q]⟩, ex3 n H q g⟩] h
      = ex3 n H r fun i a k => if k < p then f i a k else g i a (k - p) := by
  funext j
  have b : (j 2).val < r := (j 2).isLt
  show _ = if (j 2).val < p then f (j 0).val (j 1).val (j 2).val else g (j 0).val (j 1).val ((j 2).val - p)
  by_cases hj : (j 2).val < p
  · rw [if_pos hj]
    refine (concatenate_pair_apply_left _ _ _ h j rfl (ix3 (j 0) (j 1) ⟨(j 2).val, hj⟩) fun a => ?_).trans rfl
    match a with
    | ⟨0, _⟩ => rfl
    | ⟨1, _⟩ => rfl
    | ⟨2, _⟩ => rfl
  · rw [if_neg hj]
    refine (concatenate_pair_apply_right _ _ _ h j rfl rfl (ix3 (j 0) (j 1) ⟨(j 2).val - p, by omega⟩) (fun a ha => ?_) ?_).trans rfl
    · match a with
      | ⟨0, _⟩ => rfl
      | ⟨1, _⟩ => rfl
      | ⟨2, _⟩ => exact absurd rfl ha
    · show (j 2).val - p + p = (j 2).val
      omega

/-! ## The rotation -/

/-- One half of a head's lanes. -/
def half (g : ℕ → EReal) (c s : ℕ → ℝ) (l : ℕ) : EReal :=
  if l < 16 then g l * ((c l : ℝ) : EReal) - g (16 + l) * ((s l : ℝ) : EReal)
  else g (l - 16) * ((s (l - 16) : ℝ) : EReal) + g l * ((c (l - 16) : ℝ) : EReal)

theorem half_ex (g : ℕ → ℕ → ℕ → EReal) (c s : ℕ → ℕ → ℝ) (h1 h2 h3 h4 h5 h6) (h) :
    concatenate (⟨3, ![n, H, 32]⟩ : Shape) 2 [
      ⟨⟨3, ![n, H, 16]⟩, (subf (F := Ideal) (φ := .f32)
        (mulf (F := Ideal) (φ := .f32) (extractStridedSlice (s := ⟨3, ![n, H, 32]⟩) ⟨3, ![n, H, 16]⟩ ![0, 0, 0] (ex3 n H 32 g) h1)
          (broadcastInDim (s := ⟨3, ![n, 1, 16]⟩) ⟨3, ![n, H, 16]⟩ ![0, 1, 2] h4 (broadcastInDim (s := ⟨2, ![n, 16]⟩) ⟨3, ![n, 1, 16]⟩ ![0, 2] h3 (up2 n 16 c))))
        (mulf (F := Ideal) (φ := .f32) (extractStridedSlice (s := ⟨3, ![n, H, 32]⟩) ⟨3, ![n, H, 16]⟩ ![0, 0, 16] (ex3 n H 32 g) h2)
          (broadcastInDim (s := ⟨3, ![n, 1, 16]⟩) ⟨3, ![n, H, 16]⟩ ![0, 1, 2] h6 (broadcastInDim (s := ⟨2, ![n, 16]⟩) ⟨3, ![n, 1, 16]⟩ ![0, 2] h5 (up2 n 16 s))))
        : (⟨3, ![n, H, 16]⟩ : Shape).Idx → EReal)⟩,
      ⟨⟨3, ![n, H, 16]⟩, (addf (F := Ideal) (φ := .f32)
        (mulf (F := Ideal) (φ := .f32) (extractStridedSlice (s := ⟨3, ![n, H, 32]⟩) ⟨3, ![n, H, 16]⟩ ![0, 0, 0] (ex3 n H 32 g) h1)
          (broadcastInDim (s := ⟨3, ![n, 1, 16]⟩) ⟨3, ![n, H, 16]⟩ ![0, 1, 2] h6 (broadcastInDim (s := ⟨2, ![n, 16]⟩) ⟨3, ![n, 1, 16]⟩ ![0, 2] h5 (up2 n 16 s))))
        (mulf (F := Ideal) (φ := .f32) (extractStridedSlice (s := ⟨3, ![n, H, 32]⟩) ⟨3, ![n, H, 16]⟩ ![0, 0, 16] (ex3 n H 32 g) h2)
          (broadcastInDim (s := ⟨3, ![n, 1, 16]⟩) ⟨3, ![n, H, 16]⟩ ![0, 1, 2] h4 (broadcastInDim (s := ⟨2, ![n, 16]⟩) ⟨3, ![n, 1, 16]⟩ ![0, 2] h3 (up2 n 16 c))))
        : (⟨3, ![n, H, 16]⟩ : Shape).Idx → EReal)⟩] h
      = ex3 n H 32 fun i a => half (g i a) (c i) (s i) := by
  rw [heads_ex, heads_ex, slice3_ex, slice3_ex, mulf3_ex, mulf3_ex, mulf3_ex, mulf3_ex, addf3_ex, subf3_ex]
  refine (lanes_ex _ _ (by norm_num) h).trans (ex3_congr fun i _ a _ k hk => ?_)
  unfold half
  by_cases b : k < 16
  · rw [if_pos b, if_pos b, Nat.zero_add]
  · rw [if_neg b, if_neg b, Nat.zero_add, show 16 + (k - 16) = k by omega]

/-- The two halves beside each other are the whole head's rotation. -/
theorem halves_ex {W : ℕ} (hW : W = 64 * H) (g : ℕ → ℕ → EReal) (a b : ℕ → ℝ) (h h') :
    shapeCast (s := ⟨3, ![n, H, 64]⟩) (⟨2, ![n, W]⟩ : Shape)
      (concatenate (⟨3, ![n, H, 64]⟩ : Shape) 2 [
        ⟨⟨3, ![n, H, 32]⟩, ex3 n H 32 fun i h => half (fun k => g i (64 * h + (0 + k))) (fun k => Real.cos (a i * freq k)) fun k => Real.sin (a i * freq k)⟩,
        ⟨⟨3, ![n, H, 32]⟩, ex3 n H 32 fun i h => half (fun k => g i (64 * h + (32 + k))) (fun k => Real.cos (b i * freq k)) fun k => Real.sin (b i * freq k)⟩] h) h'
      = ex2 n W fun i => rope (fun j => ((cosT a b i j : ℝ) : EReal)) (fun j => ((sinT a b i j : ℝ) : EReal)) (g i) := by
  rw [lanes_ex _ _ (by norm_num), join_ex hW]
  refine ex2_congr fun i _ j _ => ?_
  unfold half rope partner cosT sinT ang
  dsimp only
  have e := Nat.div_add_mod j 64
  have neg : ∀ (y z : EReal) (x : ℝ), y - z * ((x : ℝ) : EReal) = y + z * (((-x : ℝ)) : EReal) := fun y z x => by
    rw [EReal.coe_neg, mul_neg, sub_eq_add_neg]
  rcases (by omega : j % 64 < 16 ∨ (16 ≤ j % 64 ∧ j % 64 < 32) ∨ (32 ≤ j % 64 ∧ j % 64 < 48) ∨ 48 ≤ j % 64) with c | c | c | c
  · rw [if_pos (show j % 64 < 32 by omega), if_pos (show j % 64 < 16 by omega), if_pos (show j % 32 < 16 by omega),
      if_pos (show j % 128 % 32 < 16 by omega), if_pos (show j % 128 % 64 < 32 by omega),
      show 64 * (j / 64) + (0 + (16 + j % 64)) = j + 16 by omega,
      show 64 * (j / 64) + (0 + j % 64) = j by omega, show j % 128 % 16 = j % 64 by omega]
    exact neg _ _ _
  · rw [if_pos (show j % 64 < 32 by omega), if_neg (show ¬j % 64 < 16 by omega), if_neg (show ¬j % 32 < 16 by omega),
      if_neg (show ¬j % 128 % 32 < 16 by omega), if_pos (show j % 128 % 64 < 32 by omega),
      show 64 * (j / 64) + (0 + (j % 64 - 16)) = j - 16 by omega,
      show 64 * (j / 64) + (0 + j % 64) = j by omega, show j % 128 % 16 = j % 64 - 16 by omega]
    exact add_comm _ _
  · rw [if_neg (show ¬j % 64 < 32 by omega), if_pos (show j % 64 - 32 < 16 by omega), if_pos (show j % 32 < 16 by omega),
      if_pos (show j % 128 % 32 < 16 by omega), if_neg (show ¬j % 128 % 64 < 32 by omega),
      show 64 * (j / 64) + (32 + (16 + (j % 64 - 32))) = j + 16 by omega,
      show 64 * (j / 64) + (32 + (j % 64 - 32)) = j by omega, show j % 128 % 16 = j % 64 - 32 by omega]
    exact neg _ _ _
  · rw [if_neg (show ¬j % 64 < 32 by omega), if_neg (show ¬j % 64 - 32 < 16 by omega), if_neg (show ¬j % 32 < 16 by omega),
      if_neg (show ¬j % 128 % 32 < 16 by omega), if_neg (show ¬j % 128 % 64 < 32 by omega),
      show 64 * (j / 64) + (32 + (j % 64 - 32 - 16)) = j - 16 by omega,
      show 64 * (j / 64) + (32 + (j % 64 - 32)) = j by omega, show j % 128 % 16 = j % 64 - 32 - 16 by omega]
    exact add_comm _ _

end Cert.FwdHost

end
-- ==== Proof.FwdRef.lean ====
/-
  The reference for the input projection's forward call, over extended reals: the modulated layer norm, the product with the
  weights, the rotated queries times the logits' scale, the rotated keys, and the values beside ones.
-/
module

public import proofs.«01_k».proof.Proof.Gen.ReferenceFwdIdeal.Read
public import proofs.«01_k».proof.Proof.FwdHost

@[expose] public section

set_option maxRecDepth 16384

noncomputable section

namespace Cert.FwdRef

open Idealize.ShloMosaic Cert.ReferenceFwdIdeal Cert.ReferenceFwdIdeal.Gen Cert.ReferenceFwdIdeal.Read Cert.Tn Cert.FwdLift Cert.FwdPay
  Cert.FwdHost Cert.ProjTables
open Cert.Lift (up2)
open scoped BigOperators

variable (X M W : ℕ → ℕ → EReal) (rows cols : IVec (⟨1, ![8192]⟩ : Shape) 32)

/-! ## The modulated layer norm -/

theorem r_v3 : val_main_v3 (F := Ideal) (ex2 8192 1024 X) = ex2 8192 1 fun i _ => Ideal.div (∑ k ∈ Finset.range 1024, X i k) wN := by
  unfold val_main_v3 val_main_v1 val_main_v0 val_main_cst val_main_v2 val_main_cst_0
  exact congrArg₂ Host.divf ((congrArg _ (host_sum_rows_ex _ _ _ (by decide))).trans (host_col_ex _ _)) (host_splat_ex _ _)

theorem r_v5 : val_main_v5 (F := Ideal) (ex2 8192 1024 X) = ex2 8192 1024 fun i j => dev (X i) j := by
  unfold val_main_v5 val_main_v4
  rw [r_v3]
  exact congrArg _ (host_cols_ex _ _)

theorem r_v10 : val_main_v10 (F := Ideal) (ex2 8192 1024 X)
    = ex2 8192 1 fun i _ => Ideal.div (∑ k ∈ Finset.range 1024, dev (X i) k * dev (X i) k) wN := by
  unfold val_main_v10 val_main_v8 val_main_v7 val_main_cst_1 val_main_v6 val_main_v9 val_main_cst_2
  rw [r_v5, mulf_ex]
  exact congrArg₂ Host.divf ((congrArg _ (host_sum_rows_ex _ _ _ (by decide))).trans (host_col_ex _ _)) (host_splat_ex _ _)

theorem r_v16 : val_main_v16 (F := Ideal) (ex2 8192 1024 X) = ex2 8192 1024 fun i _ => rstd (X i) := by
  unfold val_main_v16 val_main_v15 val_main_v14 val_main_v13 val_main_cst_3
  rw [r_v10]
  exact host_cols_ex (n := 8192) (m := 1024) (fun i _ => rstd (X i)) _

theorem r_v17 : val_main_v17 (F := Ideal) (ex2 8192 1024 X) = ex2 8192 1024 fun i j => dev (X i) j * rstd (X i) := by
  unfold val_main_v17
  rw [r_v16, show val_main_v12 (F := Ideal) (ex2 8192 1024 X) = _ from r_v5 X]
  rfl

theorem r_v25 : val_main_v25 (F := Ideal) (ex2 6 1024 M) = ex2 8192 1024 fun _ j => wOne + M 1 j := by
  unfold val_main_v25 val_main_v24 val_main_v23 val_main_cst_4 val_main_v22 val_main_v21 val_main_v20
  have e := (congrArg (shapeCast _ · shapeCasts_S1x1024_S1024) (slice_ex (n := 6) (m := 1024) (p := 1) (q := 1024) M 1 0
    slices_S6x1024_S1x1024_1_0)).trans (cast_unrow_ex _ _)
  refine (congrArg _ (congrArg (addf _) ((congrArg _ e).trans (host_row_ex _ _)))).trans
    ((host_rows_ex (n := 8192) (m := 1024) (fun _ j => wOne + M (1 + 0) (0 + j)) _).trans (ex2_congr fun i _ j _ => ?_))
  show wOne + M (1 + 0) (0 + j) = wOne + M 1 j
  rw [Nat.zero_add]

theorem r_v28 : val_main_v28 (F := Ideal) (ex2 6 1024 M) = ex2 8192 1024 fun _ j => M 0 j := by
  unfold val_main_v28 val_main_v27 val_main_v19 val_main_v18
  have e := (congrArg (shapeCast _ · shapeCasts_S1x1024_S1024) (slice_ex (n := 6) (m := 1024) (p := 1) (q := 1024) M 0 0
    slices_S6x1024_S1x1024_0_0)).trans (cast_unrow_ex _ _)
  refine (congrArg _ ((congrArg _ e).trans (host_row_ex _ _))).trans ((host_rows_ex _ _).trans (ex2_congr fun i _ j _ => ?_))
  show M (0 + 0) (0 + j) = M 0 j
  rw [Nat.zero_add j]

theorem r_v29 : val_main_v29 (F := Ideal) (ex2 8192 1024 X) (ex2 6 1024 M) = ex2 8192 1024 fun i => hrow (X i) (M 1) (M 0) := by
  unfold val_main_v29 val_main_v26
  rw [r_v17, r_v25, r_v28]
  rfl

/-! ## The product with the weights -/

/-- The projection's columns for a token. -/
def pm (i : ℕ) : ℕ → EReal := prod (hrow (X i) (M 1) (M 0)) fun j k => W k j

theorem r_v30 : val_main_v30 (F := Ideal) (ex2 8192 1024 X) (ex2 6 1024 M) (ex2 1024 3840 W) = ex2 8192 3840 (pm X M W) := by
  unfold val_main_v30
  rw [r_v29]
  exact dotGeneral_ex _ _ _ _

theorem r_v31 : val_main_v31 (F := Ideal) (ex2 8192 1024 X) (ex2 6 1024 M) (ex2 1024 3840 W) = ex2 8192 512 (pm X M W) := by
  unfold val_main_v31
  rw [r_v30]
  refine (cols_slice_ex _ 0 _).trans (ex2_congr fun i _ j _ => ?_)
  rw [Nat.zero_add]

theorem r_v32 : val_main_v32 (F := Ideal) (ex2 8192 1024 X) (ex2 6 1024 M) (ex2 1024 3840 W) = ex2 8192 128 fun i j => pm X M W i (512 + j) := by
  unfold val_main_v32
  rw [r_v30]
  exact cols_slice_ex _ 512 _

theorem r_v33 : val_main_v33 (F := Ideal) (ex2 8192 1024 X) (ex2 6 1024 M) (ex2 1024 3840 W) = ex2 8192 128 fun i j => pm X M W i (640 + j) := by
  unfold val_main_v33
  rw [r_v30]
  exact cols_slice_ex _ 640 _

theorem r_v34 : val_main_v34 (F := Ideal) (ex2 8192 1024 X) (ex2 6 1024 M) (ex2 1024 3840 W) = ex2 8192 1024 fun i j => pm X M W i (768 + j) := by
  unfold val_main_v34
  rw [r_v30]
  exact cols_slice_ex _ 768 _

theorem r_v35 : val_main_v35 (F := Ideal) (ex2 8192 1024 X) (ex2 6 1024 M) (ex2 1024 3840 W) = ex2 8192 2048 fun i j => pm X M W i (1792 + j) := by
  unfold val_main_v35
  rw [r_v30]
  exact cols_slice_ex _ 1792 _

/-! ## The rotation's tables -/

theorem r_v49 : val_main_v49 (F := Ideal) rows = up2 8192 16 fun i j => pos rows i * freq j := angle_host rows _ _ _ _ _ _

theorem r_v50 : val_main_v50 (F := Ideal) rows = up2 8192 16 fun i j => Real.cos (pos rows i * freq j) :=
  (congrArg Host.cos (r_v49 rows)).trans (cos_up _)
theorem r_v52 : val_main_v52 (F := Ideal) rows = up2 8192 16 fun i j => Real.sin (pos rows i * freq j) :=
  (congrArg Host.sin (r_v49 rows)).trans (sin_up _)

/-! ## The rotated queries -/

theorem r_v66 : val_main_v66 (F := Ideal) (ex2 8192 1024 X) (ex2 6 1024 M) (ex2 1024 3840 W) rows
    = ex3 8192 8 32 fun i h => half (fun k => pm X M W i (64 * h + (0 + k))) (fun k => Real.cos (pos rows i * freq k)) fun k => Real.sin (pos rows i * freq k) := by
  have e : val_main_v43 (F := Ideal) (ex2 8192 1024 X) (ex2 6 1024 M) (ex2 1024 3840 W) = ex3 8192 8 32 fun i h k => pm X M W i (64 * h + (0 + k)) := by
    unfold val_main_v43 val_main_v36
    rw [r_v31]
    exact (congrArg (extractStridedSlice _ _ · _) (split_ex rfl _ _)).trans (slice3_ex _ 0 _)
  unfold val_main_v66 val_main_v60 val_main_v65 val_main_v57 val_main_v59 val_main_v62 val_main_v64 val_main_v54 val_main_v55 val_main_v56
    val_main_v58 val_main_v61 val_main_v63 val_main_v51 val_main_v53
  rw [e, r_v50, r_v52]
  exact half_ex _ _ _ _ _ _ _ _ _ _

theorem r_v90 : val_main_v90 (F := Ideal) (ex2 8192 1024 X) (ex2 6 1024 M) (ex2 1024 3840 W) cols
    = ex3 8192 8 32 fun i h => half (fun k => pm X M W i (64 * h + (32 + k))) (fun k => Real.cos (pos cols i * freq k)) fun k => Real.sin (pos cols i * freq k) := by
  have e : val_main_v67 (F := Ideal) (ex2 8192 1024 X) (ex2 6 1024 M) (ex2 1024 3840 W) = ex3 8192 8 32 fun i h k => pm X M W i (64 * h + (32 + k)) := by
    unfold val_main_v67 val_main_v36
    rw [r_v31]
    exact (congrArg (extractStridedSlice _ _ · _) (split_ex rfl _ _)).trans (slice3_ex _ 32 _)
  unfold val_main_v90 val_main_v84 val_main_v89 val_main_v81 val_main_v83 val_main_v86 val_main_v88 val_main_v78 val_main_v79 val_main_v80
    val_main_v82 val_main_v85 val_main_v87 val_main_v75 val_main_v77
  rw [e, show val_main_v74 (F := Ideal) cols = _ from r_v50 cols, show val_main_v76 (F := Ideal) cols = _ from r_v52 cols]
  exact half_ex _ _ _ _ _ _ _ _ _ _

/-- The rotation's tables among the extended reals. -/
def tc (i j : ℕ) : EReal := ((cosT (pos rows) (pos cols) i j : ℝ) : EReal)
def ts (i j : ℕ) : EReal := ((sinT (pos rows) (pos cols) i j : ℝ) : EReal)

theorem r_v94 : val_main_v94 (F := Ideal) (ex2 8192 1024 X) (ex2 6 1024 M) (ex2 1024 3840 W) rows cols
    = ex2 8192 512 fun i => qrow (tc rows cols i) (ts rows cols i) (pm X M W i) := by
  unfold val_main_v94 val_main_v92 val_main_v91 val_main_v93 val_main_cst_7
  rw [r_v66, r_v90]
  exact congrArg (mulf · _) (halves_ex (n := 8192) (H := 8) (W := 512) rfl (pm X M W) (pos rows) (pos cols) _ _)

/-! ## The rotated keys -/

theorem r_v95 : val_main_v95 (F := Ideal) (ex2 8192 1024 X) (ex2 6 1024 M) (ex2 1024 3840 W)
    = ex3 8192 2 64 fun i h k => pm X M W i (512 + (64 * h + k)) := by
  unfold val_main_v95
  rw [r_v32]
  exact split_ex rfl _ _

theorem r_v125 : val_main_v125 (F := Ideal) (ex2 8192 1024 X) (ex2 6 1024 M) (ex2 1024 3840 W) rows
    = ex3 8192 2 32 fun i h => half (fun k => pm X M W i (512 + (64 * h + (0 + k)))) (fun k => Real.cos (pos rows i * freq k)) fun k => Real.sin (pos rows i * freq k) := by
  have e : val_main_v102 (F := Ideal) (ex2 8192 1024 X) (ex2 6 1024 M) (ex2 1024 3840 W) = ex3 8192 2 32 fun i h k => pm X M W i (512 + (64 * h + (0 + k))) := by
    unfold val_main_v102
    rw [r_v95]
    exact slice3_ex _ 0 _
  unfold val_main_v125 val_main_v119 val_main_v124 val_main_v116 val_main_v118 val_main_v121 val_main_v123 val_main_v113 val_main_v114 val_main_v115
    val_main_v117 val_main_v120 val_main_v122 val_main_v110 val_main_v112
  rw [e, show val_main_v109 (F := Ideal) rows = _ from r_v50 rows, show val_main_v111 (F := Ideal) rows = _ from r_v52 rows]
  exact half_ex _ _ _ _ _ _ _ _ _ _

theorem r_v149 : val_main_v149 (F := Ideal) (ex2 8192 1024 X) (ex2 6 1024 M) (ex2 1024 3840 W) cols
    = ex3 8192 2 32 fun i h => half (fun k => pm X M W i (512 + (64 * h + (32 + k)))) (fun k => Real.cos (pos cols i * freq k)) fun k => Real.sin (pos cols i * freq k) := by
  have e : val_main_v126 (F := Ideal) (ex2 8192 1024 X) (ex2 6 1024 M) (ex2 1024 3840 W) = ex3 8192 2 32 fun i h k => pm X M W i (512 + (64 * h + (32 + k))) := by
    unfold val_main_v126
    rw [r_v95]
    exact slice3_ex _ 32 _
  unfold val_main_v149 val_main_v143 val_main_v148 val_main_v140 val_main_v142 val_main_v145 val_main_v147 val_main_v137 val_main_v138 val_main_v139
    val_main_v141 val_main_v144 val_main_v146 val_main_v134 val_main_v136
  rw [e, show val_main_v133 (F := Ideal) cols = _ from r_v50 cols, show val_main_v135 (F := Ideal) cols = _ from r_v52 cols]
  exact half_ex _ _ _ _ _ _ _ _ _ _

theorem r_v151 : val_main_v151 (F := Ideal) (ex2 8192 1024 X) (ex2 6 1024 M) (ex2 1024 3840 W) rows cols
    = ex2 8192 128 fun i => rope (tc rows cols i) (ts rows cols i) fun j => pm X M W i (512 + j) := by
  unfold val_main_v151 val_main_v150
  rw [r_v125, r_v149]
  exact halves_ex (n := 8192) (H := 2) (W := 128) rfl (fun i j => pm X M W i (512 + j)) (pos rows) (pos cols) _ _

theorem r_v158 : val_main_v158 (F := Ideal) (ex2 8192 1024 X) (ex2 6 1024 M) (ex2 1024 3840 W) rows cols
    = ex2 8192 256 fun i => kvrow (tc rows cols i) (ts rows cols i) (pm X M W i) := by
  unfold val_main_v158
  rw [r_v151, r_v33]
  funext y
  have b : (y 1).val < 256 := (y 1).isLt
  show _ = kvrow _ _ _ (y 1).val
  unfold kvrow
  by_cases h : (y 1).val < 128
  · rw [if_pos h]
    exact piece_ex _ _ y 0 (by norm_num) (fun i => rope (tc rows cols i) (ts rows cols i) fun j => pm X M W i (512 + j)) rfl 0 (y 1).val rfl
      (Nat.zero_add _).symm h
  · rw [if_neg h]
    refine (piece_ex _ _ y 1 (by norm_num) (fun i j => pm X M W i (640 + j)) rfl 128 ((y 1).val - 128) rfl (by omega) (by omega)).trans ?_
    show pm X M W (y 0).val (640 + ((y 1).val - 128)) = pm X M W (y 0).val (512 + (y 1).val)
    exact congrArg _ (by omega)

/-! ## The values beside ones -/

theorem r_v155 : val_main_v155 (F := Ideal) (ex2 8192 1024 X) (ex2 6 1024 M) (ex2 1024 3840 W)
    = ex2 8192 256 fun i => varow (pm X M W i) := by
  have e1 : val_main_v153 (F := Ideal) (ex2 8192 1024 X) (ex2 6 1024 M) (ex2 1024 3840 W) = ex2 8192 64 fun i j => pm X M W i (640 + (0 + j)) := by
    unfold val_main_v153
    rw [r_v33]
    exact cols_slice_ex _ 0 _
  have e2 : val_main_v154 (F := Ideal) (ex2 8192 1024 X) (ex2 6 1024 M) (ex2 1024 3840 W) = ex2 8192 64 fun i j => pm X M W i (640 + (64 + j)) := by
    unfold val_main_v154
    rw [r_v33]
    exact cols_slice_ex _ 64 _
  have e3 : val_main_v152 (F := Ideal) = ex2 8192 64 fun _ _ => wOne := by
    unfold val_main_v152 val_main_cst_10
    exact host_splat_ex _ _
  unfold val_main_v155
  rw [e1, e2, e3]
  funext y
  have b : (y 1).val < 256 := (y 1).isLt
  show _ = varow _ (y 1).val
  unfold varow
  rcases (by omega : (y 1).val < 64 ∨ (64 ≤ (y 1).val ∧ (y 1).val < 128) ∨ (128 ≤ (y 1).val ∧ (y 1).val < 192) ∨ 192 ≤ (y 1).val) with h | h | h | h
  · rw [if_pos h]
    refine (piece_ex _ _ y 0 (by norm_num) (fun i j => pm X M W i (640 + (0 + j))) rfl 0 (y 1).val rfl (Nat.zero_add _).symm h).trans ?_
    show pm X M W (y 0).val (640 + (0 + (y 1).val)) = _
    exact congrArg _ (by omega)
  · rw [if_neg (by omega), if_pos h.2]
    exact piece_ex _ _ y 1 (by norm_num) (fun _ _ => wOne) rfl 64 ((y 1).val - 64) rfl (by omega) (by omega)
  · rw [if_neg (by omega), if_neg (by omega), if_pos h.2]
    refine (piece_ex _ _ y 2 (by norm_num) (fun i j => pm X M W i (640 + (64 + j))) rfl 128 ((y 1).val - 128) rfl (by omega) (by omega)).trans ?_
    show pm X M W (y 0).val (640 + (64 + ((y 1).val - 128))) = _
    exact congrArg _ (by omega)
  · rw [if_neg (by omega), if_neg (by omega), if_neg (by omega)]
    exact piece_ex _ _ y 3 (by norm_num) (fun _ _ => wOne) rfl 192 ((y 1).val - 192) rfl (by omega) (by omega)

end Cert.FwdRef

end
-- ==== Proof.FwdClose.lean ====
/-
  The value claim of the input projection's forward call, from the two sides.

  Both programs compute the same sums and products in the same order, so the claim holds of all arguments, infinite ones too:
  the call leaves its six outputs at the arrays `FwdArrays` names, and the reference its six results at the same arrays
  (`FwdRef`).
-/
module

public import proofs.«01_k».proof.Defs
public import proofs.«01_k».proof.Proof.FwdArrays
public import proofs.«01_k».proof.Proof.FwdRef
public import proofs.«01_k».proof.Proof.Gen.ReferenceFwdIdeal.Run

@[expose] public section

noncomputable section

namespace Cert.FwdClose

open Idealize.ShloMosaic Idealize.ShloMosaic.TcCoe Idealize.SL.Sem Cert.Tn Cert.FwdArrays Cert.FwdPay Cert.FwdBlock Cert.FwdRef

/-- The call's rows of shifts and scales are the first two rows of its argument. -/
theorem hr_vec (X M : ℕ → ℕ → EReal) (i : ℕ) : hr X (vec M) i = hrow (X i) (M 1) (M 0) :=
  congrArg₂ (hrow (X i)) (funext fun _ => if_pos (show 1 < 2 by norm_num)) (funext fun _ => if_pos (show 0 < 2 by norm_num))

theorem pr_vec (X M W : ℕ → ℕ → EReal) (i : ℕ) : pr X (vec M) (fun j k => W k j) i = pm X M W i :=
  congrArg (prod · fun j k => W k j) (hr_vec X M i)

open Cert.ReferenceFwdIdeal in
/-- The reference's arguments on device `c` are these arrays, and these positions. -/
structure RefArgs (m' : (ℓ : Loc nD τ sig) → Buf (Elt Ideal) ℓ) (c : Dev nD) (X M W : ℕ → ℕ → EReal) (rows cols : IVec (⟨1, ![8192]⟩ : Shape) 32) : Prop where
  a0 : m' ((c.tc : Thread nD τ).loc main_arg0) = ex2 8192 1024 X
  a1 : m' ((c.tc : Thread nD τ).loc main_arg1) = ex2 6 1024 M
  a2 : m' ((c.tc : Thread nD τ).loc main_arg2) = ex2 1024 3840 W
  a3 : m' ((c.tc : Thread nD τ).loc main_arg3) = rows
  a4 : m' ((c.tc : Thread nD τ).loc main_arg4) = cols

section Reference

open Cert.ReferenceFwdIdeal

variable {m' : (ℓ : Loc nD τ sig) → Buf (Elt Ideal) ℓ} {c : Dev nD} {X M W : ℕ → ℕ → EReal} {rows cols : IVec (⟨1, ![8192]⟩ : Shape) 32}

theorem ref_156 (h : RefArgs m' c X M W rows cols) :
    Read.val_main_v156 (F := Ideal) (m' ((c.tc : Thread nD τ).loc main_arg0)) (m' ((c.tc : Thread nD τ).loc main_arg1))
      = ex2 8192 1024 fun i => hrow (X i) (M 1) (M 0) := by
  rw [h.a0, h.a1]
  exact r_v29 X M

theorem ref_157 (h : RefArgs m' c X M W rows cols) : Value.res_main_v157 m' c
    = ex2 8192 512 fun i => qrow (Cert.FwdRef.tc rows cols i) (Cert.FwdRef.ts rows cols i) (pm X M W i) := by
  rw [Read.val_main_v157_eq, h.a0, h.a1, h.a2, h.a3, h.a4]
  exact r_v94 X M W rows cols

theorem ref_159 (h : RefArgs m' c X M W rows cols) : Value.res_main_v159 m' c
    = ex2 8192 256 fun i => kvrow (Cert.FwdRef.tc rows cols i) (Cert.FwdRef.ts rows cols i) (pm X M W i) := by
  rw [Read.val_main_v159_eq, h.a0, h.a1, h.a2, h.a3, h.a4]
  exact r_v158 X M W rows cols

theorem ref_160 (h : RefArgs m' c X M W rows cols) : Value.res_main_v160 m' c = ex2 8192 256 fun i => varow (pm X M W i) := by
  rw [Read.val_main_v160_eq, h.a0, h.a1, h.a2]
  exact r_v155 X M W

theorem ref_161 (h : RefArgs m' c X M W rows cols) :
    Read.val_main_v161 (F := Ideal) (m' ((c.tc : Thread nD τ).loc main_arg0)) (m' ((c.tc : Thread nD τ).loc main_arg1)) (m' ((c.tc : Thread nD τ).loc main_arg2))
      = ex2 8192 1024 fun i j => pm X M W i (768 + j) := by
  rw [h.a0, h.a1, h.a2]
  exact r_v34 X M W

theorem ref_162 (h : RefArgs m' c X M W rows cols) :
    Read.val_main_v162 (F := Ideal) (m' ((c.tc : Thread nD τ).loc main_arg0)) (m' ((c.tc : Thread nD τ).loc main_arg1)) (m' ((c.tc : Thread nD τ).loc main_arg2))
      = ex2 8192 2048 fun i j => pm X M W i (1792 + j) := by
  rw [h.a0, h.a1, h.a2]
  exact r_v35 X M W

end Reference

section Call

open Cert.KernelFwdIdeal Cert.KernelFwdIdeal.Gen

variable (m : (ℓ : Loc nD τ sig) → Buf (Elt Ideal) ℓ) (c : Dev nD)

/-- The columns the call's blocks compute, in the reference's terms. -/
theorem pp_eq (i : ℕ) : pp m c i = pm (xX m c) (xM m c) (xW m c) i := pr_vec _ _ _ i

theorem call_5 : (dats m 0 c).arrAt 5 cfg0.N = ex2 8192 1024 fun i => hrow (xX m c i) (xM m c 1) (xM m c 0) :=
  (arr_5 m c).trans (congrArg (ex2 8192 1024) (funext fun i => hr_vec _ _ i))

theorem call_6 : (dats m 0 c).arrAt 6 cfg0.N = ex2 8192 512 fun i =>
    qrow (Cert.FwdRef.tc (rows m c) (cols m c) i) (Cert.FwdRef.ts (rows m c) (cols m c) i) (pm (xX m c) (xM m c) (xW m c) i) :=
  (arr_6 m c).trans (congrArg (ex2 8192 512) (funext fun i => congrArg (qrow _ _) (pp_eq m c i)))

theorem call_7 : (dats m 0 c).arrAt 7 cfg0.N = ex2 8192 256 fun i =>
    kvrow (Cert.FwdRef.tc (rows m c) (cols m c) i) (Cert.FwdRef.ts (rows m c) (cols m c) i) (pm (xX m c) (xM m c) (xW m c) i) :=
  (arr_7 m c).trans (congrArg (ex2 8192 256) (funext fun i => congrArg (kvrow _ _) (pp_eq m c i)))

theorem call_8 : (dats m 0 c).arrAt 8 cfg0.N = ex2 8192 256 fun i => varow (pm (xX m c) (xM m c) (xW m c) i) :=
  (arr_8 m c).trans (congrArg (ex2 8192 256) (funext fun i => congrArg varow (pp_eq m c i)))

theorem call_9 : (dats m 0 c).arrAt 9 cfg0.N = ex2 8192 1024 fun i j => pm (xX m c) (xM m c) (xW m c) i (768 + j) :=
  (arr_9 m c).trans (congrArg (ex2 8192 1024) (funext fun i => funext fun j => congrFun (pp_eq m c i) _))

theorem call_10 : (dats m 0 c).arrAt 10 cfg0.N = ex2 8192 2048 fun i j => pm (xX m c) (xM m c) (xW m c) i (1792 + j) :=
  (arr_10 m c).trans (congrArg (ex2 8192 2048) (funext fun i => funext fun j => congrFun (pp_eq m c i) _))

end Call

/-- The value claim. -/
theorem value : Cert.algebraic_KernelFwdIdeal_ReferenceFwdIdeal := by
  intro m g m' g' _ hm
  have hr : ∀ c, RefArgs m' c (xX m c) (xM m c) (xW m c) (rows m c) (cols m c) := fun c => by
    obtain ⟨e0, e1, e2, e3, e4⟩ := hm c
    exact ⟨e0.trans (arg0_ex m c), e1.trans (arg1_ex m c), e2.trans (arg2_ex m c), e3, e4⟩
  refine ⟨fun c => (Cert.KernelFwdIdeal.Gen.dats m 0 c).arrAt 5 _, fun c => (Cert.KernelFwdIdeal.Gen.dats m 0 c).arrAt 6 _,
    fun c => (Cert.KernelFwdIdeal.Gen.dats m 0 c).arrAt 7 _, fun c => (Cert.KernelFwdIdeal.Gen.dats m 0 c).arrAt 8 _,
    fun c => (Cert.KernelFwdIdeal.Gen.dats m 0 c).arrAt 9 _, fun c => (Cert.KernelFwdIdeal.Gen.dats m 0 c).arrAt 10 _,
    Cert.KernelFwdIdeal.Value.run_blocks m g, ?_⟩
  refine (θ_run Cert.ReferenceFwdIdeal.defs _ _).mono (fun r h c => ?_) (Cert.ReferenceFwdIdeal.Value.run m' g')
  obtain ⟨q0, q1, q2, q3, q4, q5, rest⟩ := h c
  have p0 := (Cert.ReferenceFwdIdeal.Read.val_main_v156_eq _ _).trans ((ref_156 (hr c)).trans (call_5 m c).symm)
  have p1 := (ref_157 (hr c)).trans (call_6 m c).symm
  have p2 := (ref_159 (hr c)).trans (call_7 m c).symm
  have p3 := (ref_160 (hr c)).trans (call_8 m c).symm
  have p4 := (Cert.ReferenceFwdIdeal.Read.val_main_v161_eq _ _ _).trans ((ref_161 (hr c)).trans (call_9 m c).symm)
  have p5 := (Cert.ReferenceFwdIdeal.Read.val_main_v162_eq _ _ _).trans ((ref_162 (hr c)).trans (call_10 m c).symm)
  exact ⟨q0.trans p0, q1.trans p1, q2.trans p2, q3.trans p3, q4.trans p4, q5.trans p5, rest⟩

end Cert.FwdClose

end
-- ==== Proof.AdaBlock.lean ====
/-
  The modulation weight's step: the sums and the optimiser's update of one tile of 512 columns, and what one grid point
  leaves in each of its five outputs. Values are extended reals; nothing needs them to be finite.
-/
module

public import proofs.«01_k».proof.Proof.Gen.KernelAdaIdeal.Value
public import proofs.«01_k».proof.Defs
public import proofs.«01_k».proof.Proof.FwdLift
public import Idealize.ShloMosaic.Lib.Pipeline.ValueKit
public import Idealize.ShloMosaic.Lib.Pipeline.ReadBack
public import Idealize.ShloMosaic.Lib.Pipeline.ValueKit.Tiles
public import Idealize.ShloMosaic.Lib.WritesUnit

@[expose] public section

set_option maxRecDepth 16384

noncomputable section

namespace Cert.AdaBlock

open Idealize.ShloMosaic Idealize.ShloMosaic.Tactic Idealize.ShloMosaic.TcCoe Idealize.ShloMosaic.ValueIdx
  Cert.KernelAdaIdeal Cert.KernelAdaIdeal.Gen Cert.Tn Cert.FwdLift Finset
open scoped BigOperators

/-- The new first and second moments, and the weight's change, from the old ones and the gradient. -/
def newM (m g : EReal) : EReal := Ideal.ofBits .f32 0x3F666666#32 * m + Ideal.ofBits .f32 0x3DCCCCCD#32 * g
def newV (v g : EReal) : EReal := Ideal.ofBits .f32 0x3F7FBE77#32 * v + Ideal.ofBits .f32 0x3A83126F#32 * (g * g)
def delta (w m v g : EReal) : EReal :=
  Ideal.ofBits .f32 0xBA83126F#32
    * (Ideal.div (Ideal.div (newM m g) (Ideal.ofBits .f32 0x3F26BD02#32))
        (Ideal.sqrt (Ideal.div (newV v g) (Ideal.ofBits .f32 0x3C231ACC#32)) + Ideal.ofBits .f32 0x322BCC77#32)
      + Ideal.ofBits .f32 0x3C23D70A#32 * w)

/-- The gradient: the product of the transposed conditioning rows with the modulation's gradients. -/
def grad (s d : ℕ → ℕ → EReal) (i j : ℕ) : EReal := ∑ k ∈ range 16, s i k * d k j

/-- A product with one contraction, onto zeros. -/
theorem matmul_nn_ex {φ₁ φ₂ : FTy} {M K N : ℕ} (f g : ℕ → ℕ → EReal) (prec : Option ContractPrecision) :
    FloatOps.matmul (F := Ideal) (φ₁ := φ₁) (φ₂ := φ₂) (DotDims.plain M K N) prec (ex2 M K f) (ex2 K N g)
        (constant ⟨2, ![M, N]⟩ .f32 0x00000000#32)
      = ex2 M N fun i j => ∑ k ∈ range K, f i k * g k j := by
  funext j
  refine (congrArg _ (ValueIdx.eq_ix2 j)).trans ((Ideal.matmul_plain_apply prec _ _ _ (j 0) (j 1)).trans ?_)
  show Ideal.ofBits .f32 0x00000000#32 + _ = _
  rw [Ideal.ofBits_zero_f32, zero_add]
  exact (sum_range fun k => f (j 0).val k * g k (j 1).val).symm

variable (s d q w p v a : ℕ → ℕ → EReal)

theorem hz : (![0, 0] : Fin 2 → ℕ) = fun _ => 0 := by decide

theorem pay3_ex : k0_pay3 (F := Ideal) = ex2 8 1024 fun _ _ => 0 := by
  unfold k0_pay3
  dsimp only
  try rw [shapeCast_self]
  funext j
  exact Ideal.ofBits_zero_f32

theorem pay4_ex : k0_pay4 (F := Ideal) (ex2 1024 16 s) (ex2 16 512 d) = ex2 1024 512 (grad s d) := by
  unfold k0_pay4
  dsimp only
  simp only [shapeCast_self, truncf_ex]
  exact matmul_nn_ex (M := 1024) (K := 16) (N := 512) s d none

theorem pay5_ex : k0_pay5 (F := Ideal) (ex2 1024 16 s) (ex2 16 512 d) (ex2 1024 512 p)
    = ex2 1024 512 fun i j => newM (p i j) (grad s d i j) := by
  unfold k0_pay5
  dsimp only
  rw [pay4_ex]
  rfl

theorem pay6_ex : k0_pay6 (F := Ideal) (ex2 1024 16 s) (ex2 16 512 d) (ex2 1024 512 v)
    = ex2 1024 512 fun i j => newV (v i j) (grad s d i j) := by
  unfold k0_pay6
  dsimp only
  rw [pay4_ex]
  rfl

theorem pay1_ex : k0_pay1 (F := Ideal) (ex2 1024 512 w)
      (k0_pay7 (F := Ideal) (ex2 1024 16 s) (ex2 16 512 d) (ex2 1024 512 p) (ex2 1024 512 v)) (k0_pay8 (F := Ideal))
    = ex2 1024 512 fun i j => delta (w i j) (p i j) (v i j) (grad s d i j) := by
  unfold k0_pay1 k0_pay7 k0_pay8
  dsimp only
  rw [pay5_ex, pay6_ex]
  rfl

theorem pay2_ex : k0_pay2 (F := Ideal) (ex2 8 1024 a) (ex2 8 512 q) (ex2 1024 512 w)
    = ex2 8 1024 fun r i => a r i + ∑ k ∈ range 512, q r k * w i k := by
  unfold k0_pay2
  dsimp only
  simp only [shapeCast_self, truncf_ex]
  rw [show matmul (F := Ideal) dot_S8x512_S1024x512_S8x1024_1_1_0_0_n_n none (ex2 8 512 q) (ex2 1024 512 w)
    (constant S8x1024 .f32 0x00000000#32) = _ from matmul_nt_ex (M := 8) (K := 512) (N := 1024) q w none]
  rfl

/-! ## What one grid point leaves -/

theorem out_A_6 (c : Dev nD) (i : grid0.Coords) (arg1 : Memref sig .tc .vmem S1024x16 .f32) (harg1 : arg1.IsWhole) (arg2 : Memref sig .tc .vmem S16x512 .f32) (harg2 : arg2.IsWhole) (arg3 : Memref sig .tc .vmem S8x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S8x1024 .f32) (harg11 : arg11.IsWhole) (hc0 : cond0_0 i) :
    out0_A_6 (F := Ideal) c i arg1 harg1 arg2 harg2 arg3 harg3 arg4 harg4 arg5 harg5 arg6 harg6 arg7 harg7 arg8 harg8 arg9 harg9 arg10 harg10 arg11 harg11 hc0 (ex2 1024 16 s) (ex2 16 512 d) (ex2 8 512 q) (ex2 1024 512 w) (ex2 1024 512 p) (ex2 1024 512 v)
      = ex2 1024 512 (grad s d) := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 arg11 harg11 hc0 _ _ _ _ _ _)]
  unfold kernelRun0_A
  dsimp only
  sl_unfold_words
  simp (config := { decide := true }) only [↓View.readCov_skip, View.readAt_eq_ld, Memref.IsWhole.read_unread, View.ld_unit_lit, View.readCov_cons_toLoadRect, pay1_ex, pay2_ex, pay3_ex, pay4_ex, pay5_ex, pay6_ex]
  exact View.canon_unit_zero (S := S1024x512) hz _ _

theorem out_A_7 (c : Dev nD) (i : grid0.Coords) (arg1 : Memref sig .tc .vmem S1024x16 .f32) (harg1 : arg1.IsWhole) (arg2 : Memref sig .tc .vmem S16x512 .f32) (harg2 : arg2.IsWhole) (arg3 : Memref sig .tc .vmem S8x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S8x1024 .f32) (harg11 : arg11.IsWhole) (hc0 : cond0_0 i) :
    out0_A_7 (F := Ideal) c i arg1 harg1 arg2 harg2 arg3 harg3 arg4 harg4 arg5 harg5 arg6 harg6 arg7 harg7 arg8 harg8 arg9 harg9 arg10 harg10 arg11 harg11 hc0 (ex2 1024 16 s) (ex2 16 512 d) (ex2 8 512 q) (ex2 1024 512 w) (ex2 1024 512 p) (ex2 1024 512 v)
      = ex2 1024 512 fun i j => delta (w i j) (p i j) (v i j) (grad s d i j) := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 hc0 _ _ _ _ _ _)]
  unfold kernelRun0_A
  dsimp only
  sl_unfold_words
  simp (config := { decide := true }) only [↓View.readCov_skip, View.readAt_eq_ld, Memref.IsWhole.read_unread, View.ld_unit_lit, View.readCov_cons_toLoadRect, pay1_ex, pay2_ex, pay3_ex, pay4_ex, pay5_ex, pay6_ex]
  exact View.canon_unit_zero (S := S1024x512) hz _ _

theorem out_A_8 (c : Dev nD) (i : grid0.Coords) (arg1 : Memref sig .tc .vmem S1024x16 .f32) (harg1 : arg1.IsWhole) (arg2 : Memref sig .tc .vmem S16x512 .f32) (harg2 : arg2.IsWhole) (arg3 : Memref sig .tc .vmem S8x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S8x1024 .f32) (harg11 : arg11.IsWhole) (hc0 : cond0_0 i) :
    out0_A_8 (F := Ideal) c i arg1 harg1 arg2 harg2 arg3 harg3 arg4 harg4 arg5 harg5 arg6 harg6 arg7 harg7 arg8 harg8 arg9 harg9 arg10 harg10 arg11 harg11 hc0 (ex2 1024 16 s) (ex2 16 512 d) (ex2 8 512 q) (ex2 1024 512 w) (ex2 1024 512 p) (ex2 1024 512 v)
      = ex2 1024 512 fun i j => newM (p i j) (grad s d i j) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 hc0 _ _ _ _ _ _)]
  unfold kernelRun0_A
  dsimp only
  sl_unfold_words
  simp (config := { decide := true }) only [↓View.readCov_skip, View.readAt_eq_ld, Memref.IsWhole.read_unread, View.ld_unit_lit, View.readCov_cons_toLoadRect, pay1_ex, pay2_ex, pay3_ex, pay4_ex, pay5_ex, pay6_ex]
  exact View.canon_unit_zero (S := S1024x512) hz _ _

theorem out_A_9 (c : Dev nD) (i : grid0.Coords) (arg1 : Memref sig .tc .vmem S1024x16 .f32) (harg1 : arg1.IsWhole) (arg2 : Memref sig .tc .vmem S16x512 .f32) (harg2 : arg2.IsWhole) (arg3 : Memref sig .tc .vmem S8x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S8x1024 .f32) (harg11 : arg11.IsWhole) (hc0 : cond0_0 i) :
    out0_A_9 (F := Ideal) c i arg1 harg1 arg2 harg2 arg3 harg3 arg4 harg4 arg5 harg5 arg6 harg6 arg7 harg7 arg8 harg8 arg9 harg9 arg10 harg10 arg11 harg11 hc0 (ex2 1024 16 s) (ex2 16 512 d) (ex2 8 512 q) (ex2 1024 512 w) (ex2 1024 512 p) (ex2 1024 512 v)
      = ex2 1024 512 fun i j => newV (v i j) (grad s d i j) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 hc0 _ _ _ _ _ _)]
  unfold kernelRun0_A
  dsimp only
  sl_unfold_words
  simp (config := { decide := true }) only [↓View.readCov_skip, View.readAt_eq_ld, Memref.IsWhole.read_unread, View.ld_unit_lit, View.readCov_cons_toLoadRect, pay1_ex, pay2_ex, pay3_ex, pay4_ex, pay5_ex, pay6_ex]
  exact View.canon_unit_zero (S := S1024x512) hz _ _

theorem out_A_10 (c : Dev nD) (i : grid0.Coords) (arg1 : Memref sig .tc .vmem S1024x16 .f32) (harg1 : arg1.IsWhole) (arg2 : Memref sig .tc .vmem S16x512 .f32) (harg2 : arg2.IsWhole) (arg3 : Memref sig .tc .vmem S8x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S8x1024 .f32) (harg11 : arg11.IsWhole) (hc0 : cond0_0 i) :
    out0_A_10 (F := Ideal) c i arg1 harg1 arg2 harg2 arg3 harg3 arg4 harg4 arg5 harg5 arg6 harg6 arg7 harg7 arg8 harg8 arg9 harg9 arg10 harg10 arg11 harg11 hc0 (ex2 1024 16 s) (ex2 16 512 d) (ex2 8 512 q) (ex2 1024 512 w) (ex2 1024 512 p) (ex2 1024 512 v)
      = ex2 8 1024 fun r i => ∑ k ∈ range 512, q r k * w i k := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 hc0 _ _ _ _ _ _)]
  unfold kernelRun0_A
  dsimp only
  sl_unfold_words
  simp (config := { decide := true }) only [↓View.readCov_skip, View.readAt_eq_ld, Memref.IsWhole.read_unread, View.ld_unit_lit, View.readCov_cons_toLoadRect, pay1_ex, pay2_ex, pay3_ex, pay4_ex, pay5_ex, pay6_ex, zero_add]
  exact View.canon_cons_unit_zero (S := S8x1024) hz _ _ _

theorem out_B_6 (c : Dev nD) (i : grid0.Coords) (arg1 : Memref sig .tc .vmem S1024x16 .f32) (harg1 : arg1.IsWhole) (arg2 : Memref sig .tc .vmem S16x512 .f32) (harg2 : arg2.IsWhole) (arg3 : Memref sig .tc .vmem S8x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S8x1024 .f32) (harg11 : arg11.IsWhole) (hc0 : ¬cond0_0 i) (xo : FVec Ideal S8x1024 .f32) :
    out0_B_6 (F := Ideal) c i arg1 harg1 arg2 harg2 arg3 harg3 arg4 harg4 arg5 harg5 arg6 harg6 arg7 harg7 arg8 harg8 arg9 harg9 arg10 harg10 arg11 harg11 hc0 (ex2 1024 16 s) (ex2 16 512 d) (ex2 8 512 q) (ex2 1024 512 w) (ex2 1024 512 p) (ex2 1024 512 v) xo
      = ex2 1024 512 (grad s d) := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 arg11 harg11 hc0 _ _ _ _ _ _ _)]
  unfold kernelRun0_B
  dsimp only
  sl_unfold_words
  simp (config := { decide := true }) only [↓View.readCov_skip, View.readAt_eq_ld, Memref.IsWhole.read_unread, View.ld_unit_lit, View.readCov_cons_toLoadRect, pay1_ex, pay2_ex, pay3_ex, pay4_ex, pay5_ex, pay6_ex]
  exact View.canon_unit_zero (S := S1024x512) hz _ _

theorem out_B_7 (c : Dev nD) (i : grid0.Coords) (arg1 : Memref sig .tc .vmem S1024x16 .f32) (harg1 : arg1.IsWhole) (arg2 : Memref sig .tc .vmem S16x512 .f32) (harg2 : arg2.IsWhole) (arg3 : Memref sig .tc .vmem S8x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S8x1024 .f32) (harg11 : arg11.IsWhole) (hc0 : ¬cond0_0 i) (xo : FVec Ideal S8x1024 .f32) :
    out0_B_7 (F := Ideal) c i arg1 harg1 arg2 harg2 arg3 harg3 arg4 harg4 arg5 harg5 arg6 harg6 arg7 harg7 arg8 harg8 arg9 harg9 arg10 harg10 arg11 harg11 hc0 (ex2 1024 16 s) (ex2 16 512 d) (ex2 8 512 q) (ex2 1024 512 w) (ex2 1024 512 p) (ex2 1024 512 v) xo
      = ex2 1024 512 fun i j => delta (w i j) (p i j) (v i j) (grad s d i j) := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 hc0 _ _ _ _ _ _ _)]
  unfold kernelRun0_B
  dsimp only
  sl_unfold_words
  simp (config := { decide := true }) only [↓View.readCov_skip, View.readAt_eq_ld, Memref.IsWhole.read_unread, View.ld_unit_lit, View.readCov_cons_toLoadRect, pay1_ex, pay2_ex, pay3_ex, pay4_ex, pay5_ex, pay6_ex]
  exact View.canon_unit_zero (S := S1024x512) hz _ _

theorem out_B_8 (c : Dev nD) (i : grid0.Coords) (arg1 : Memref sig .tc .vmem S1024x16 .f32) (harg1 : arg1.IsWhole) (arg2 : Memref sig .tc .vmem S16x512 .f32) (harg2 : arg2.IsWhole) (arg3 : Memref sig .tc .vmem S8x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S8x1024 .f32) (harg11 : arg11.IsWhole) (hc0 : ¬cond0_0 i) (xo : FVec Ideal S8x1024 .f32) :
    out0_B_8 (F := Ideal) c i arg1 harg1 arg2 harg2 arg3 harg3 arg4 harg4 arg5 harg5 arg6 harg6 arg7 harg7 arg8 harg8 arg9 harg9 arg10 harg10 arg11 harg11 hc0 (ex2 1024 16 s) (ex2 16 512 d) (ex2 8 512 q) (ex2 1024 512 w) (ex2 1024 512 p) (ex2 1024 512 v) xo
      = ex2 1024 512 fun i j => newM (p i j) (grad s d i j) := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 hc0 _ _ _ _ _ _ _)]
  unfold kernelRun0_B
  dsimp only
  sl_unfold_words
  simp (config := { decide := true }) only [↓View.readCov_skip, View.readAt_eq_ld, Memref.IsWhole.read_unread, View.ld_unit_lit, View.readCov_cons_toLoadRect, pay1_ex, pay2_ex, pay3_ex, pay4_ex, pay5_ex, pay6_ex]
  exact View.canon_unit_zero (S := S1024x512) hz _ _

theorem out_B_9 (c : Dev nD) (i : grid0.Coords) (arg1 : Memref sig .tc .vmem S1024x16 .f32) (harg1 : arg1.IsWhole) (arg2 : Memref sig .tc .vmem S16x512 .f32) (harg2 : arg2.IsWhole) (arg3 : Memref sig .tc .vmem S8x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S8x1024 .f32) (harg11 : arg11.IsWhole) (hc0 : ¬cond0_0 i) (xo : FVec Ideal S8x1024 .f32) :
    out0_B_9 (F := Ideal) c i arg1 harg1 arg2 harg2 arg3 harg3 arg4 harg4 arg5 harg5 arg6 harg6 arg7 harg7 arg8 harg8 arg9 harg9 arg10 harg10 arg11 harg11 hc0 (ex2 1024 16 s) (ex2 16 512 d) (ex2 8 512 q) (ex2 1024 512 w) (ex2 1024 512 p) (ex2 1024 512 v) xo
      = ex2 1024 512 fun i j => newV (v i j) (grad s d i j) := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 hc0 _ _ _ _ _ _ _)]
  unfold kernelRun0_B
  dsimp only
  sl_unfold_words
  simp (config := { decide := true }) only [↓View.readCov_skip, View.readAt_eq_ld, Memref.IsWhole.read_unread, View.ld_unit_lit, View.readCov_cons_toLoadRect, pay1_ex, pay2_ex, pay3_ex, pay4_ex, pay5_ex, pay6_ex]
  exact View.canon_unit_zero (S := S1024x512) hz _ _

theorem out_B_10 (c : Dev nD) (i : grid0.Coords) (arg1 : Memref sig .tc .vmem S1024x16 .f32) (harg1 : arg1.IsWhole) (arg2 : Memref sig .tc .vmem S16x512 .f32) (harg2 : arg2.IsWhole) (arg3 : Memref sig .tc .vmem S8x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S8x1024 .f32) (harg11 : arg11.IsWhole) (hc0 : ¬cond0_0 i) :
    out0_B_10 (F := Ideal) c i arg1 harg1 arg2 harg2 arg3 harg3 arg4 harg4 arg5 harg5 arg6 harg6 arg7 harg7 arg8 harg8 arg9 harg9 arg10 harg10 arg11 harg11 hc0 (ex2 1024 16 s) (ex2 16 512 d) (ex2 8 512 q) (ex2 1024 512 w) (ex2 1024 512 p) (ex2 1024 512 v) (ex2 8 1024 a)
      = ex2 8 1024 fun r i => a r i + ∑ k ∈ range 512, q r k * w i k := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 hc0 _ _ _ _ _ _ _)]
  unfold kernelRun0_B
  dsimp only
  sl_unfold_words
  simp (config := { decide := true }) only [↓View.readCov_skip, View.readAt_eq_ld, Memref.IsWhole.read_unread, View.ld_unit_lit, View.readCov_cons_toLoadRect, pay1_ex, pay2_ex, pay3_ex, pay4_ex, pay5_ex, pay6_ex]
  exact View.canon_unit_zero (S := S8x1024) hz _ _

end Cert.AdaBlock

end
-- ==== Proof.AdaArrays.lean ====
/-
  The arrays the modulation weight's step leaves, over extended reals: what the host prepares, the tiles every grid point
  reads, and the five arrays over the whole grid.
-/
module

public import proofs.«01_k».proof.Proof.AdaBlock
public import proofs.«01_k».proof.Proof.FwdArrays

@[expose] public section

set_option maxRecDepth 16384

noncomputable section

namespace Cert.AdaArrays

open Idealize.ShloMosaic Idealize.ShloMosaic.Tactic Idealize.ShloMosaic.TcCoe Idealize.ShloMosaic.ValueIdx
  Cert.KernelAdaIdeal Cert.KernelAdaIdeal.Gen Cert.Tn Cert.FwdLift Cert.AdaBlock Finset
open Cert.FwdArrays (stack_ex transpose_ex)
open scoped BigOperators

/-- A vector's elements as a function of natural numbers (zero outside the extent). -/
def els1 {n : ℕ} (x : (⟨1, ![n]⟩ : Shape).Idx → EReal) (i : ℕ) : EReal := if h : i < n then x (ValueIdx.ix1 ⟨i, h⟩) else 0

theorem eq_ex1 {n : ℕ} (x : (⟨1, ![n]⟩ : Shape).Idx → EReal) : x = ex1 n (els1 x) := by
  funext j
  unfold ex1 els1
  have h : (j 0).val < n := (j 0).isLt
  rw [dif_pos h]
  exact congrArg x (ValueIdx.eq_ix1 j)

/-- The modulation's gradients: eight rows, the context's row, and seven empty rows. -/
def dm (D : ℕ → ℕ → EReal) (C : ℕ → EReal) (k j : ℕ) : EReal :=
  if k < 8 then D k j else if k < 9 then C j else Ideal.ofBits .f32 0x00000000#32

/-- The context's row over seven empty rows. -/
def dq (C : ℕ → EReal) (r j : ℕ) : EReal := if r < 1 then C j else Ideal.ofBits .f32 0x00000000#32

variable (m : (ℓ : Loc nD τ sig) → Buf (Elt Ideal) ℓ) (c : Dev nD)

/-! ## The arguments' elements on one device -/

def xS : ℕ → ℕ → EReal := els (n := 16) (m := 1024) (m ((c : Thread nD τ).loc main_arg0))
def xD : ℕ → ℕ → EReal := els (n := 8) (m := 1536) (m ((c : Thread nD τ).loc main_arg1))
def xC : ℕ → EReal := els1 (n := 1536) (m ((c : Thread nD τ).loc main_arg2))
def xW : ℕ → ℕ → EReal := els (n := 1024) (m := 1536) (m ((c : Thread nD τ).loc main_arg3))
def xP : ℕ → ℕ → EReal := els (n := 1024) (m := 1536) (m ((c : Thread nD τ).loc main_arg4))
def xV : ℕ → ℕ → EReal := els (n := 1024) (m := 1536) (m ((c : Thread nD τ).loc main_arg5))

theorem arg0_ex : m ((c : Thread nD τ).loc main_arg0) = ex2 16 1024 (xS m c) := eq_ex2 _
theorem arg1_ex : m ((c : Thread nD τ).loc main_arg1) = ex2 8 1536 (xD m c) := eq_ex2 _
theorem arg2_ex : m ((c : Thread nD τ).loc main_arg2) = ex1 1536 (xC m c) := eq_ex1 _
theorem arg3_ex : m ((c : Thread nD τ).loc main_arg3) = ex2 1024 1536 (xW m c) := eq_ex2 _
theorem arg4_ex : m ((c : Thread nD τ).loc main_arg4) = ex2 1024 1536 (xP m c) := eq_ex2 _
theorem arg5_ex : m ((c : Thread nD τ).loc main_arg5) = ex2 1024 1536 (xV m c) := eq_ex2 _

/-! ## What the region finds -/

/-- The three blocks of rows on top of each other. -/
theorem rows_dm (D : ℕ → ℕ → EReal) (C : ℕ → EReal) (x : S8x1536.Idx → EReal) (y : S1x1536.Idx → EReal) (z : S7x1536.Idx → EReal)
    (hx : x = ex2 8 1536 D) (hy : y = ex2 1 1536 fun _ j => C j) (hz : z = ex2 7 1536 fun _ _ => Ideal.ofBits .f32 0x00000000#32) (h) :
    concatenate S16x1536 0 [⟨S8x1536, x⟩, ⟨S1x1536, y⟩, ⟨S7x1536, z⟩] h = ex2 16 1536 (dm D C) := by
  subst hx hy hz
  funext j
  have b0 : (j 0).val < 16 := (j 0).isLt
  show _ = dm D C (j 0).val (j 1).val
  unfold dm
  by_cases b : (j 0).val < 8
  · rw [if_pos b]
    exact stack_ex (p := 8) _ _ j 0 (by norm_num) D rfl 0 (j 0).val rfl (by omega) b
  · rw [if_neg b]
    by_cases b' : (j 0).val < 9
    · rw [if_pos b']
      exact stack_ex (p := 1) _ _ j 1 (by norm_num) (fun _ k => C k) rfl 8 ((j 0).val - 8) rfl (by omega) (by omega)
    · rw [if_neg b']
      exact stack_ex (p := 7) _ _ j 2 (by norm_num) (fun _ _ => Ideal.ofBits .f32 0x00000000#32) rfl 9 ((j 0).val - 9) rfl (by omega) (by omega)

/-- The context's row over the empty rows. -/
theorem rows_dq (D : ℕ → ℕ → EReal) (C : ℕ → EReal) (x : S1x1536.Idx → EReal) (z : S7x1536.Idx → EReal)
    (hx : x = ex2 1 1536 fun i j => dm D C (8 + i) (0 + j)) (hz : z = ex2 7 1536 fun _ _ => Ideal.ofBits .f32 0x00000000#32) (h) :
    concatenate S8x1536 0 [⟨S1x1536, x⟩, ⟨S7x1536, z⟩] h = ex2 8 1536 (dq C) := by
  subst hx hz
  funext j
  have b0 : (j 0).val < 8 := (j 0).isLt
  show _ = dq C (j 0).val (j 1).val
  unfold dq
  by_cases b : (j 0).val < 1
  · rw [if_pos b]
    refine (stack_ex (p := 1) _ _ j 0 (by norm_num) (fun i j => dm D C (8 + i) (0 + j)) rfl 0 (j 0).val rfl (by omega) b).trans ?_
    unfold dm
    rw [if_neg (by omega), if_pos (by omega), Nat.zero_add]
  · rw [if_neg b]
    exact stack_ex (p := 7) _ _ j 1 (by norm_num) (fun _ _ => Ideal.ofBits .f32 0x00000000#32) rfl 1 ((j 0).val - 1) rfl (by omega) (by omega)

theorem entry_s : V m c main_v6 = ex2 1024 16 fun i k => xS m c k i := by
  entry_read
  rw [arg0_ex m c]
  exact transpose_ex (xS m c) _

theorem after_dm : StableHlo.after (hostOps0.take 4) (fun b => m (c, b)) (Proc.devRef .tc main_v2) = ex2 16 1536 (dm (xD m c) (xC m c)) := by
  dsimp only [hostOps0, List.take]
  after_results
  refine rows_dm _ _ _ _ _ ?_ ?_ ?_ _
  · show StableHlo.after (hostOps0.take 3) (fun b => m (c, b)) (Proc.devRef .tc main_arg1) = _
    dsimp only [hostOps0, List.take]
    after_results
    exact arg1_ex m c
  · show StableHlo.after (hostOps0.take 3) (fun b => m (c, b)) (Proc.devRef .tc main_v0) = _
    dsimp only [hostOps0, List.take]
    after_results
    show broadcastInDim S1x1536 ![1] bcast_S1536_S1x1536_1 (m ((c : Thread nD τ).loc main_arg2)) = _
    rw [arg2_ex m c]
    exact host_row_ex (m := 1536) (xC m c) _
  · show StableHlo.after (hostOps0.take 3) (fun b => m (c, b)) (Proc.devRef .tc main_v1) = _
    dsimp only [hostOps0, List.take]
    after_results
    rfl

theorem entry_dm : V m c main_v2 = ex2 16 1536 (dm (xD m c) (xC m c)) := by
  refine Eq.trans ?_ (after_dm m c)
  unfold_abbrev_sides
  dsimp only [hostOps0, List.take]
  after_results

theorem entry_dq : V m c main_v5 = ex2 8 1536 (dq (xC m c)) := by
  unfold_abbrev_sides
  after_results
  refine rows_dq (xD m c) _ _ _ ?_ ?_ _
  · exact congrArg (extractStridedSlice S1x1536 ![8, 0] · slices_S16x1536_S1x1536_8_0) (after_dm m c)
  · rfl

/-! ## The tiles every grid point reads -/

theorem idx_0 : ∀ t : Fin cfg0.N, win0_0.index t = ![0, 0] := by decide +kernel
theorem idx_1 : ∀ t : Fin cfg0.N, win0_1.index t = ![0, t.val] := by decide +kernel
theorem idx_2 : ∀ t : Fin cfg0.N, win0_2.index t = ![0, t.val] := by decide +kernel
theorem idx_3 : ∀ t : Fin cfg0.N, win0_3.index t = ![0, t.val] := by decide +kernel
theorem idx_4 : ∀ t : Fin cfg0.N, win0_4.index t = ![0, t.val] := by decide +kernel
theorem idx_5 : ∀ t : Fin cfg0.N, win0_5.index t = ![0, t.val] := by decide +kernel
theorem idx_6 : ∀ t : Fin cfg0.N, win0_6.index t = ![0, t.val] := by decide +kernel
theorem idx_7 : ∀ t : Fin cfg0.N, win0_7.index t = ![0, t.val] := by decide +kernel
theorem idx_8 : ∀ t : Fin cfg0.N, win0_8.index t = ![0, t.val] := by decide +kernel
theorem idx_9 : ∀ t : Fin cfg0.N, win0_9.index t = ![0, t.val] := by decide +kernel

theorem blk_0 (t : Fin cfg0.N) : iblk m c 0 t = ex2 1024 16 fun i k => xS m c k i := by
  funext y
  have e := idx_0 t
  blk_simp [iblk, e]
  rw [entry_s m c]
  blk_simp [ex2, e]

theorem blk_1 (t : Fin cfg0.N) : iblk m c 1 t = ex2 16 512 fun k j => dm (xD m c) (xC m c) k (512 * t.val + j) := by
  funext y
  have e := idx_1 t
  blk_simp [iblk, e]
  rw [entry_dm m c]
  blk_simp [ex2, e, Nat.mul_comm 512]

theorem blk_2 (t : Fin cfg0.N) : iblk m c 2 t = ex2 8 512 fun r j => dq (xC m c) r (512 * t.val + j) := by
  funext y
  have e := idx_2 t
  blk_simp [iblk, e]
  rw [entry_dq m c]
  blk_simp [ex2, e, Nat.mul_comm 512]

theorem blk_3 (t : Fin cfg0.N) : iblk m c 3 t = ex2 1024 512 fun i j => xW m c i (512 * t.val + j) := by
  funext y
  have e := idx_3 t
  blk_simp [iblk, e]
  rw [V_main_arg3, arg3_ex m c]
  blk_simp [ex2, e, Nat.mul_comm 512]

theorem blk_4 (t : Fin cfg0.N) : iblk m c 4 t = ex2 1024 512 fun i j => xP m c i (512 * t.val + j) := by
  funext y
  have e := idx_4 t
  blk_simp [iblk, e]
  rw [V_main_arg4, arg4_ex m c]
  blk_simp [ex2, e, Nat.mul_comm 512]

theorem blk_5 (t : Fin cfg0.N) : iblk m c 5 t = ex2 1024 512 fun i j => xV m c i (512 * t.val + j) := by
  funext y
  have e := idx_5 t
  blk_simp [iblk, e]
  rw [V_main_arg5, arg5_ex m c]
  blk_simp [ex2, e, Nat.mul_comm 512]

/-! ## The arrays over the whole grid -/

/-- The whole gradient. -/
def gr (i j : ℕ) : EReal := grad (fun i k => xS m c k i) (dm (xD m c) (xC m c)) i j

/-- The four tiles a point leaves. -/
theorem tiles (t : Fin cfg0.N) :
    (outsAt0 m c t.val t.isLt).1 = (ex2 1024 512 fun i j => gr m c i (512 * t.val + j))
    ∧ (outsAt0 m c t.val t.isLt).2.1 = (ex2 1024 512 fun i j =>
        delta (xW m c i (512 * t.val + j)) (xP m c i (512 * t.val + j)) (xV m c i (512 * t.val + j)) (gr m c i (512 * t.val + j)))
    ∧ (outsAt0 m c t.val t.isLt).2.2.1 = (ex2 1024 512 fun i j => newM (xP m c i (512 * t.val + j)) (gr m c i (512 * t.val + j)))
    ∧ (outsAt0 m c t.val t.isLt).2.2.2.1 = (ex2 1024 512 fun i j => newV (xV m c i (512 * t.val + j)) (gr m c i (512 * t.val + j))) := by
  by_cases h0 : t.val % 3 = 0
  · rw [outsAt0_A m c t h0]
    dsimp only
    rw [blk_0, blk_1, blk_2, blk_3, blk_4, blk_5, out_A_6, out_A_7, out_A_8, out_A_9]
    exact ⟨rfl, rfl, rfl, rfl⟩
  · rw [outsAt0_B m c t h0]
    dsimp only
    rw [blk_0, blk_1, blk_2, blk_3, blk_4, blk_5, out_B_6, out_B_7, out_B_8, out_B_9]
    exact ⟨rfl, rfl, rfl, rfl⟩

theorem arr_6 : (dats m 0 c).arrAt 6 cfg0.N = ex2 1024 1536 (gr m c) := by
  refine (dats m 0 c).arrAt_eq_of_covers 6 _ (by decide +kernel) fun t hf y => ?_
  have e : ∀ t : Fin cfg0.N, win0_6.index t = ![0, t.val] := idx_6
  blk_simp
  rw [after0_6, (tiles m c t).1]
  blk_simp [ex2, e t, Nat.mul_comm 512]

theorem arr_7 : (dats m 0 c).arrAt 7 cfg0.N
    = ex2 1024 1536 fun i j => delta (xW m c i j) (xP m c i j) (xV m c i j) (gr m c i j) := by
  refine (dats m 0 c).arrAt_eq_of_covers 7 _ (by decide +kernel) fun t hf y => ?_
  have e : ∀ t : Fin cfg0.N, win0_7.index t = ![0, t.val] := idx_7
  blk_simp
  rw [after0_7, (tiles m c t).2.1]
  blk_simp [ex2, e t, Nat.mul_comm 512]

theorem arr_8 : (dats m 0 c).arrAt 8 cfg0.N = ex2 1024 1536 fun i j => newM (xP m c i j) (gr m c i j) := by
  refine (dats m 0 c).arrAt_eq_of_covers 8 _ (by decide +kernel) fun t hf y => ?_
  have e : ∀ t : Fin cfg0.N, win0_8.index t = ![0, t.val] := idx_8
  blk_simp
  rw [after0_8, (tiles m c t).2.2.1]
  blk_simp [ex2, e t, Nat.mul_comm 512]

theorem arr_9 : (dats m 0 c).arrAt 9 cfg0.N = ex2 1024 1536 fun i j => newV (xV m c i j) (gr m c i j) := by
  refine (dats m 0 c).arrAt_eq_of_covers 9 _ (by decide +kernel) fun t hf y => ?_
  have e : ∀ t : Fin cfg0.N, win0_9.index t = ![0, t.val] := idx_9
  blk_simp
  rw [after0_9, (tiles m c t).2.2.2]
  blk_simp [ex2, e t, Nat.mul_comm 512]

def t2 : Fin cfg0.N := ⟨2, by decide⟩

/-- After point `n` the row's sums run over the columns read so far. -/
theorem sums_after (n : ℕ) (hn : n < cfg0.N) : (outsAt0 m c n hn).2.2.2.2
    = ex2 8 1024 fun r i => ∑ k ∈ range (512 * (n + 1)), dq (xC m c) r k * xW m c i k := by
  induction n with
  | zero =>
    rw [outsAt0_A m c ⟨0, hn⟩ rfl]
    dsimp only
    rw [blk_0, blk_1, blk_2, blk_3, blk_4, blk_5, out_A_10]
    refine ex2_congr fun r _ i _ => ?_
    simp only [Nat.mul_zero, Nat.zero_add, Nat.mul_one]
  | succ n ih =>
    have hN : n + 1 < 3 := hn
    rw [outsAt0_B m c ⟨n + 1, hn⟩ (by show ¬(n + 1) % 3 = 0; omega)]
    dsimp only
    have ih' := ih (by omega)
    simp only [Nat.add_sub_cancel]
    rw [ih', blk_0, blk_1, blk_2, blk_3, blk_4, blk_5, out_B_10]
    refine ex2_congr fun r _ i _ => ?_
    rw [Nat.mul_add 512 (n + 1) 1, Nat.mul_one]
    exact (sum_range_add (fun k => dq (xC m c) r k * xW m c i k) (512 * (n + 1)) 512).symm

theorem arr_10 : (dats m 0 c).arrAt 10 cfg0.N
    = ex2 8 1024 fun r i => ∑ k ∈ range 1536, dq (xC m c) r k * xW m c i k := by
  refine (dats m 0 c).arrAt_eq_of_after_last 10 t2 (by decide +kernel) _ fun j => ?_
  blk_simp
  rw [after0_10]
  exact congrFun (sums_after m c 2 t2.isLt) j

end Cert.AdaArrays

end
-- ==== Proof.AdaRef.lean ====
/-
  The modulation weight's step: the reference's five results, as the same functions the call's arrays are given by.

  The reference adds the context row's product to the product of the eight rows, and the call sums over all sixteen rows
  with the last seven empty: the same sum, an empty row's products being zero. The context's gradient is the reference's
  first row in the same way, and its other rows are zero.
-/
module

public import proofs.«01_k».proof.Proof.AdaArrays
public import proofs.«01_k».proof.Proof.FwdHost
public import proofs.«01_k».proof.Proof.Gen.ReferenceAdaIdeal.Run
public import proofs.«01_k».proof.Proof.Gen.ReferenceAdaIdeal.Read

@[expose] public section

set_option maxRecDepth 16384

noncomputable section

namespace Cert.AdaRef

open Idealize.ShloMosaic Idealize.ShloMosaic.TcCoe Idealize.ShloMosaic.ValueIdx Cert.ReferenceAdaIdeal Cert.ReferenceAdaIdeal.Gen
  Cert.ReferenceAdaIdeal.Read Cert.Tn Cert.FwdLift Cert.AdaBlock Cert.AdaArrays Finset
open Cert.FwdArrays (stack_ex)
open scoped BigOperators

variable (S D W P V : ℕ → ℕ → EReal) (C : ℕ → EReal)

theorem r_v4 : val_main_v4 (F := Ideal) (ex1 1536 C) = ex2 1 1536 fun _ j => C j := by
  unfold val_main_v4
  exact host_row_ex (m := 1536) C _

/-- The sum over sixteen rows, seven of them empty. -/
theorem grad_dm (i j : ℕ) :
    grad (fun i k => S k i) (dm D C) i j = C j * S 8 i + ∑ k ∈ range 8, D k j * S k i := by
  unfold grad
  rw [show (16 : ℕ) = 8 + 8 from rfl, sum_range_add]
  dsimp only
  have h1 : ∑ k ∈ range 8, S k i * dm D C k j = ∑ k ∈ range 8, D k j * S k i := by
    refine sum_congr rfl fun k hk => ?_
    unfold dm
    rw [if_pos (mem_range.mp hk), mul_comm]
  have h2 : ∑ k ∈ range 7, S (8 + (k + 1)) i * dm D C (8 + (k + 1)) j = 0 := by
    refine sum_eq_zero fun k _ => ?_
    unfold dm
    rw [if_neg (by omega), if_neg (by omega), Ideal.ofBits_zero_f32, mul_zero]
  have h3 : dm D C (8 + 0) j = C j := by
    unfold dm
    rw [if_neg (by omega), if_pos (by omega)]
  rw [sum_range_succ' (fun x => S (8 + x) i * dm D C (8 + x) j) 7, h1, h2, h3, zero_add, add_comm, mul_comm]

theorem r_v10 : val_main_v10 (F := Ideal) (ex2 16 1024 S) (ex2 8 1536 D) (ex1 1536 C)
    = ex2 1024 1536 fun i j => grad (fun i k => S k i) (dm D C) i j := by
  funext j
  show _ = grad (fun i k => S k i) (dm D C) (j 0).val (j 1).val
  rw [grad_dm, val_main_v10_apply]
  refine congrArg₂ (· + ·) ?_ ?_
  · rw [val_main_v6_apply, val_main_v5_apply, r_v4]
    refine (Fin.sum_univ_one _).trans ?_
    rw [val_main_v0_apply]
    rfl
  · rw [val_main_v9_apply, val_main_v8_apply, sum_range]
    refine sum_congr rfl fun k _ => ?_
    rw [val_main_v1_apply]
    rfl

theorem r_v15 : val_main_v15 (F := Ideal) (ex2 16 1024 S) (ex2 8 1536 D) (ex1 1536 C) (ex2 1024 1536 P)
    = ex2 1024 1536 fun i j => newM (P i j) (grad (fun i k => S k i) (dm D C) i j) := by
  unfold val_main_v15 val_main_v14 val_main_v13 val_main_v12 val_main_v11
  rw [r_v10]
  rfl

theorem r_v21 : val_main_v21 (F := Ideal) (ex2 16 1024 S) (ex2 8 1536 D) (ex1 1536 C) (ex2 1024 1536 V)
    = ex2 1024 1536 fun i j => newV (V i j) (grad (fun i k => S k i) (dm D C) i j) := by
  unfold val_main_v21 val_main_v20 val_main_v19 val_main_v18 val_main_v17 val_main_v16
  rw [r_v10]
  rfl

theorem r_v34 : val_main_v34 (F := Ideal) (ex2 16 1024 S) (ex2 8 1536 D) (ex1 1536 C) (ex2 1024 1536 W) (ex2 1024 1536 P) (ex2 1024 1536 V)
    = ex2 1024 1536 fun i j => delta (W i j) (P i j) (V i j) (grad (fun i k => S k i) (dm D C) i j) := by
  unfold val_main_v34 val_main_v33 val_main_v32 val_main_v31 val_main_v30 val_main_v29 val_main_v28 val_main_v27 val_main_v26
    val_main_v25 val_main_v24 val_main_v23 val_main_v22
  rw [r_v15, r_v21]
  rfl

/-! ## The context's gradient -/

theorem r_v7 : val_main_v7 (F := Ideal) (ex1 1536 C) (ex2 1024 1536 W) = ex2 1 1024 fun _ i => ∑ k ∈ range 1536, C k * W i k := by
  funext j
  rw [val_main_v7_apply, r_v4]
  exact (sum_range fun k => C k * W (j 1).val k).symm

theorem r_v36 : val_main_v36 (F := Ideal) (ex1 1536 C) (ex2 1024 1536 W)
    = ex2 8 1024 fun r i => ∑ k ∈ range 1536, dq C r k * W i k := by
  unfold val_main_v36
  rw [r_v7]
  funext j
  have b0 : (j 0).val < 8 := (j 0).isLt
  show _ = ∑ k ∈ range 1536, dq C (j 0).val k * W (j 1).val k
  by_cases b : (j 0).val < 1
  · refine (stack_ex (p := 1) _ _ j 0 (by norm_num) (fun _ i => ∑ k ∈ range 1536, C k * W i k) rfl 0 (j 0).val rfl (by omega) b).trans ?_
    refine sum_congr rfl fun k _ => ?_
    unfold dq
    rw [if_pos b]
  · refine (stack_ex (p := 7) _ _ j 1 (by norm_num) (fun _ _ => Ideal.ofBits .f32 0x00000000#32) rfl 1 ((j 0).val - 1) rfl (by omega) (by omega)).trans ?_
    rw [Ideal.ofBits_zero_f32]
    refine (sum_eq_zero fun k _ => ?_).symm
    unfold dq
    rw [if_neg b, Ideal.ofBits_zero_f32, zero_mul]

end Cert.AdaRef

end
-- ==== Proof.AdaClose.lean ====
/-
  The value claim of the modulation weight's step, from the two sides.

  It holds of all arguments, infinite ones too: sums of extended reals may be regrouped, and an empty row's products are
  zero whatever they multiply.
-/
module

public import proofs.«01_k».proof.Defs
public import proofs.«01_k».proof.Proof.AdaRef

@[expose] public section

noncomputable section

namespace Cert.AdaClose

open Idealize.ShloMosaic Idealize.ShloMosaic.TcCoe Idealize.SL.Sem Cert.Tn Cert.FwdLift Cert.AdaArrays Cert.AdaRef

/-- The value claim. -/
theorem value : Cert.algebraic_KernelAdaIdeal_ReferenceAdaIdeal := by
  intro m g m' g' _ hm
  refine ⟨fun c => (Cert.KernelAdaIdeal.Gen.dats m 0 c).arrAt 6 _, fun c => (Cert.KernelAdaIdeal.Gen.dats m 0 c).arrAt 7 _,
    fun c => (Cert.KernelAdaIdeal.Gen.dats m 0 c).arrAt 8 _, fun c => (Cert.KernelAdaIdeal.Gen.dats m 0 c).arrAt 9 _,
    fun c => (Cert.KernelAdaIdeal.Gen.dats m 0 c).arrAt 10 _, Cert.KernelAdaIdeal.Value.run_blocks m g, ?_⟩
  refine (θ_run Cert.ReferenceAdaIdeal.defs _ _).mono (fun r h c => ?_) (Cert.ReferenceAdaIdeal.Value.run m' g')
  obtain ⟨q0, q1, q2, q3, q4, rest⟩ := h c
  obtain ⟨e0, e1, e2, e3, e4, e5⟩ := hm c
  rw [e0.trans (arg0_ex m c), e1.trans (arg1_ex m c), e2.trans (arg2_ex m c)] at q0
  rw [e0.trans (arg0_ex m c), e1.trans (arg1_ex m c), e2.trans (arg2_ex m c), e3.trans (arg3_ex m c), e4.trans (arg4_ex m c),
    e5.trans (arg5_ex m c)] at q1
  rw [e0.trans (arg0_ex m c), e1.trans (arg1_ex m c), e2.trans (arg2_ex m c), e4.trans (arg4_ex m c)] at q2
  rw [e0.trans (arg0_ex m c), e1.trans (arg1_ex m c), e2.trans (arg2_ex m c), e5.trans (arg5_ex m c)] at q3
  rw [e2.trans (arg2_ex m c), e3.trans (arg3_ex m c)] at q4
  have p0 := (Cert.ReferenceAdaIdeal.Read.val_main_v10_eq _ _ _).trans ((r_v10 (xS m c) (xD m c) (xC m c)).trans (arr_6 m c).symm)
  have p1 := (Cert.ReferenceAdaIdeal.Read.val_main_v34_eq _ _ _ _ _ _).trans
    ((r_v34 (xS m c) (xD m c) (xW m c) (xP m c) (xV m c) (xC m c)).trans (arr_7 m c).symm)
  have p2 := (Cert.ReferenceAdaIdeal.Read.val_main_v15_eq _ _ _ _).trans ((r_v15 (xS m c) (xD m c) (xP m c) (xC m c)).trans (arr_8 m c).symm)
  have p3 := (Cert.ReferenceAdaIdeal.Read.val_main_v21_eq _ _ _ _).trans ((r_v21 (xS m c) (xD m c) (xV m c) (xC m c)).trans (arr_9 m c).symm)
  have p4 := (Cert.ReferenceAdaIdeal.Read.val_main_v36_eq _ _).trans ((r_v36 (xW m c) (xC m c)).trans (arr_10 m c).symm)
  exact ⟨q0.trans p0, q1.trans p1, q2.trans p2, q3.trans p3, q4.trans p4, rest⟩

end Cert.AdaClose

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.KernelWOut
public import proofs.«01_k».proof.Proof.Gen.KernelWOut.Skeleton
public import proofs.«01_k».proof.Proof.Gen.KernelWOut.Launch
public import proofs.«01_k».proof.Proof.Gen.KernelWOut.Points
public import proofs.«01_k».proof.Proof.Gen.KernelWOut.Frame
public import proofs.«01_k».proof.Proof.Gen.KernelWOutIdeal
public import proofs.«01_k».proof.Proof.Gen.KernelWOutIdeal.Skeleton
public import proofs.«01_k».proof.Proof.Gen.KernelWOutIdeal.Launch
public import proofs.«01_k».proof.Proof.Gen.KernelWOutIdeal.Points
public import proofs.«01_k».proof.Proof.Gen.KernelWOutIdeal.Frame
public import proofs.«01_k».proof.Proof.Gen.KernelWIn
public import proofs.«01_k».proof.Proof.Gen.KernelWIn.Skeleton
public import proofs.«01_k».proof.Proof.Gen.KernelWIn.Launch
public import proofs.«01_k».proof.Proof.Gen.KernelWIn.Points
public import proofs.«01_k».proof.Proof.Gen.KernelWIn.Frame
public import proofs.«01_k».proof.Proof.Gen.KernelWInIdeal
public import proofs.«01_k».proof.Proof.Gen.KernelWInIdeal.Skeleton
public import proofs.«01_k».proof.Proof.Gen.KernelWInIdeal.Launch
public import proofs.«01_k».proof.Proof.Gen.KernelWInIdeal.Points
public import proofs.«01_k».proof.Proof.Gen.KernelWInIdeal.Frame
public import proofs.«01_k».proof.Proof.Gen.KernelWOutIdeal.Value
public import proofs.«01_k».proof.Proof.Gen.KernelWInIdeal.Value
public import proofs.«01_k».proof.Proof.Gen.KernelProjIdeal.Value
public import proofs.«01_k».proof.Proof.Gen.ReferenceProjIdeal.Run
public import proofs.«01_k».proof.Proof.Gen.ReferenceWOutIdeal
public import proofs.«01_k».proof.Proof.Gen.ReferenceWOutIdeal.Run
public import proofs.«01_k».proof.Proof.Gen.ReferenceWOutIdeal.Read
public import proofs.«01_k».proof.Proof.Gen.ReferenceWInIdeal
public import proofs.«01_k».proof.Proof.Gen.ReferenceWInIdeal.Run
public import proofs.«01_k».proof.Proof.Gen.ReferenceWInIdeal.Read
public import proofs.«01_k».proof.Proof.Gen.KernelProj
public import proofs.«01_k».proof.Proof.Gen.KernelProj.Skeleton
public import proofs.«01_k».proof.Proof.Gen.KernelProj.Launch
public import proofs.«01_k».proof.Proof.Gen.KernelProj.Points
public import proofs.«01_k».proof.Proof.Gen.KernelProj.Frame
public import proofs.«01_k».proof.Proof.Gen.KernelProjIdeal
public import proofs.«01_k».proof.Proof.Gen.KernelProjIdeal.Skeleton
public import proofs.«01_k».proof.Proof.Gen.KernelProjIdeal.Launch
public import proofs.«01_k».proof.Proof.Gen.KernelProjIdeal.Points
public import proofs.«01_k».proof.Proof.Gen.KernelProjIdeal.Frame
public import proofs.«01_k».proof.Proof.Gen.ReferenceProjIdeal
public import proofs.«01_k».proof.Proof.Gen.ReferenceProjIdeal.Read
public import proofs.«01_k».proof.Proof.Gen.Pre_finite_proj
public import proofs.«01_k».proof.Proof.Gen.KernelFwd
public import proofs.«01_k».proof.Proof.Gen.KernelFwd.Skeleton
public import proofs.«01_k».proof.Proof.Gen.KernelFwd.Launch
public import proofs.«01_k».proof.Proof.Gen.KernelFwd.Points
public import proofs.«01_k».proof.Proof.Gen.KernelFwd.Frame
public import proofs.«01_k».proof.Proof.Gen.KernelFwdIdeal
public import proofs.«01_k».proof.Proof.Gen.KernelFwdIdeal.Skeleton
public import proofs.«01_k».proof.Proof.Gen.KernelFwdIdeal.Launch
public import proofs.«01_k».proof.Proof.Gen.KernelFwdIdeal.Points
public import proofs.«01_k».proof.Proof.Gen.KernelFwdIdeal.Frame
public import proofs.«01_k».proof.Proof.Gen.KernelFwdIdeal.Value
public import proofs.«01_k».proof.Proof.Gen.ReferenceFwdIdeal
public import proofs.«01_k».proof.Proof.Gen.ReferenceFwdIdeal.Run
public import proofs.«01_k».proof.Proof.Gen.ReferenceFwdIdeal.Read
public import proofs.«01_k».proof.Proof.Gen.KernelAda
public import proofs.«01_k».proof.Proof.Gen.KernelAda.Skeleton
public import proofs.«01_k».proof.Proof.Gen.KernelAda.Launch
public import proofs.«01_k».proof.Proof.Gen.KernelAda.Points
public import proofs.«01_k».proof.Proof.Gen.KernelAda.Frame.Runs
public import proofs.«01_k».proof.Proof.Gen.KernelAda.Frame.RunA
public import proofs.«01_k».proof.Proof.Gen.KernelAda.Frame.RunB
public import proofs.«01_k».proof.Proof.Gen.KernelAda.Frame
public import proofs.«01_k».proof.Proof.Gen.KernelAdaIdeal
public import proofs.«01_k».proof.Proof.Gen.KernelAdaIdeal.Skeleton
public import proofs.«01_k».proof.Proof.Gen.KernelAdaIdeal.Launch
public import proofs.«01_k».proof.Proof.Gen.KernelAdaIdeal.Points
public import proofs.«01_k».proof.Proof.Gen.KernelAdaIdeal.Frame.Runs
public import proofs.«01_k».proof.Proof.Gen.KernelAdaIdeal.Frame.RunA
public import proofs.«01_k».proof.Proof.Gen.KernelAdaIdeal.Frame.RunB
public import proofs.«01_k».proof.Proof.Gen.KernelAdaIdeal.Frame
public import proofs.«01_k».proof.Proof.Gen.KernelAdaIdeal.Value
public import proofs.«01_k».proof.Proof.Gen.ReferenceAdaIdeal
public import proofs.«01_k».proof.Proof.Gen.ReferenceAdaIdeal.Run
public import proofs.«01_k».proof.Proof.Gen.ReferenceAdaIdeal.Read
public import proofs.«01_k».proof.Proof.Close
public import proofs.«01_k».proof.Proof.WOut
public import proofs.«01_k».proof.Proof.WIn
public import proofs.«01_k».proof.Proof.ProjClose
public import proofs.«01_k».proof.Proof.FwdClose
public import proofs.«01_k».proof.Proof.AdaClose
public import Idealize.ShloMosaic.Adequacy
public import Idealize.ShloMosaic.Init

@[expose] public section

noncomputable section

namespace Cert.Proof

open Idealize.ShloMosaic Idealize.SL.Sem Cert.Kernel

/-- The reference leaves its arguments as they were and every semaphore at zero. -/
theorem reference_frame : Cert.quiescent_ReferenceIdeal := fun m g _ =>
  (θ_run Cert.ReferenceIdeal.defs _ _).mono (fun r h =>
    ⟨fun c => (h c).2.2.2.2.2.2, Idealize.ShloMosaic.sem_eq_zero_of_no_sems (by decide) r.2⟩) (Cert.ReferenceIdeal.Value.run m g)

/-- So do the two references of the weights' gradients. -/
theorem reference_w_out_frame : Cert.quiescent_ReferenceWOutIdeal := fun m g _ =>
  (θ_run Cert.ReferenceWOutIdeal.defs _ _).mono (fun r h =>
    ⟨fun c => (h c).2, Idealize.ShloMosaic.sem_eq_zero_of_no_sems (by decide) r.2⟩) (Cert.ReferenceWOutIdeal.Value.run m g)

theorem reference_w_in_frame : Cert.quiescent_ReferenceWInIdeal := fun m g _ =>
  (θ_run Cert.ReferenceWInIdeal.defs _ _).mono (fun r h =>
    ⟨fun c => (h c).2, Idealize.ShloMosaic.sem_eq_zero_of_no_sems (by decide) r.2⟩) (Cert.ReferenceWInIdeal.Value.run m g)

/-- So does the reference of the input projection's backward call. -/
theorem reference_proj_frame : Cert.quiescent_ReferenceProjIdeal := fun m g _ =>
  (θ_run Cert.ReferenceProjIdeal.defs _ _).mono (fun r h =>
    ⟨fun c => (h c).2.2.2, Idealize.ShloMosaic.sem_eq_zero_of_no_sems (by decide) r.2⟩) (Cert.ReferenceProjIdeal.Value.run m g)

/-- And the reference of its forward call. -/
theorem reference_fwd_frame : Cert.quiescent_ReferenceFwdIdeal := fun m g _ =>
  (θ_run Cert.ReferenceFwdIdeal.defs _ _).mono (fun r h =>
    ⟨fun c => (h c).2.2.2.2.2.2, Idealize.ShloMosaic.sem_eq_zero_of_no_sems (by decide) r.2⟩) (Cert.ReferenceFwdIdeal.Value.run m g)

theorem reference_ada_frame : Cert.quiescent_ReferenceAdaIdeal := fun m g _ =>
  (θ_run Cert.ReferenceAdaIdeal.defs _ _).mono (fun r h =>
    ⟨fun c => (h c).2.2.2.2.2, Idealize.ShloMosaic.sem_eq_zero_of_no_sems (by decide) r.2⟩) (Cert.ReferenceAdaIdeal.Value.run m g)

theorem claim : Cert.Claim := ⟨Cert.Kernel.Gen.facts, Cert.KernelIdeal.Gen.facts, Cert.ReferenceIdeal.Gen.facts,
  Cert.KernelWOut.Gen.facts, Cert.KernelWOutIdeal.Gen.facts, Cert.ReferenceWOutIdeal.Gen.facts,
  Cert.KernelWIn.Gen.facts, Cert.KernelWInIdeal.Gen.facts, Cert.ReferenceWInIdeal.Gen.facts,
  Cert.KernelProj.Gen.facts, Cert.KernelProjIdeal.Gen.facts, Cert.ReferenceProjIdeal.Gen.facts,
  Cert.KernelFwd.Gen.facts, Cert.KernelFwdIdeal.Gen.facts, Cert.ReferenceFwdIdeal.Gen.facts,
  Cert.KernelAda.Gen.facts, Cert.KernelAdaIdeal.Gen.facts, Cert.ReferenceAdaIdeal.Gen.facts, Cert.Pre_finite.Gen.facts, Cert.Pre_finite_proj.Gen.facts,
  fun m g _ => Cert.Kernel.Gen.frame m g, fun m g _ => Cert.KernelIdeal.Gen.frame m g, fun m g _ => Cert.KernelIdeal.Gen.frame m g,
  reference_frame, fun m g _ => reference_frame m g trivial,
  fun m g _ => Cert.KernelWOut.Gen.frame m g, fun m g _ => Cert.KernelWOutIdeal.Gen.frame m g, reference_w_out_frame,
  fun m g _ => Cert.KernelWIn.Gen.frame m g, fun m g _ => Cert.KernelWInIdeal.Gen.frame m g, reference_w_in_frame,
  fun m g _ => Cert.KernelProj.Gen.frame m g, fun m g _ => Cert.KernelProjIdeal.Gen.frame m g, fun m g _ => Cert.KernelProjIdeal.Gen.frame m g,
  reference_proj_frame, fun m g _ => reference_proj_frame m g trivial,
  fun m g _ => Cert.KernelFwd.Gen.frame m g, fun m g _ => Cert.KernelFwdIdeal.Gen.frame m g, reference_fwd_frame,
  fun m g _ => Cert.KernelAda.Gen.frame m g, fun m g _ => Cert.KernelAdaIdeal.Gen.frame m g, reference_ada_frame,
  trivial, Cert.Close.value, trivial, Cert.WOut.value, trivial, Cert.WIn.value, trivial, Cert.ProjClose.value, trivial, Cert.FwdClose.value,
  trivial, Cert.AdaClose.value⟩

end Cert.Proof

end
